-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)) (v2 : (c : Dev Cert.Kernel3Ideal.nD) → Buf (Elt Ideal) ((c.tc : Thread Cert.Kernel3Ideal.nD Cert.Kernel3Ideal.τ).loc Cert.Kernel3Ideal.main_v20_2)) (v3 : (c : Dev Cert.Kernel3Ideal.nD) → Buf (Elt Ideal) ((c.tc : Thread Cert.Kernel3Ideal.nD Cert.Kernel3Ideal.τ).loc Cert.Kernel3Ideal.main_v20_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_v20_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_v57) = v2 c
          ∧ r.2.mem ((c.tc : Thread Cert.Reference3Ideal.nD Cert.Reference3Ideal.τ).loc Cert.Reference3Ideal.main_v58) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v39) = v0 c
          ∧ r.2.mem ((c.tc : Thread Cert.Reference6Ideal.nD Cert.Reference6Ideal.τ).loc Cert.Reference6Ideal.main_v40) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_v42) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v5_0)) (v1 : (c : Dev Cert.Kernel13Ideal.nD) → Buf (Elt Ideal) ((c.tc : Thread Cert.Kernel13Ideal.nD Cert.Kernel13Ideal.τ).loc Cert.Kernel13Ideal.main_v5_1)) (v2 : (c : Dev Cert.Kernel13Ideal.nD) → Buf (Elt Ideal) ((c.tc : Thread Cert.Kernel13Ideal.nD Cert.Kernel13Ideal.τ).loc Cert.Kernel13Ideal.main_v5_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5_0) = v0 c
          ∧ r.2.mem ((c.tc : Thread Cert.Kernel13Ideal.nD Cert.Kernel13Ideal.τ).loc Cert.Kernel13Ideal.main_v5_1) = v1 c
          ∧ r.2.mem ((c.tc : Thread Cert.Kernel13Ideal.nD Cert.Kernel13Ideal.τ).loc Cert.Kernel13Ideal.main_v5_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v38) = v0 c
          ∧ r.2.mem ((c.tc : Thread Cert.Reference13Ideal.nD Cert.Reference13Ideal.τ).loc Cert.Reference13Ideal.main_v37) = v1 c
          ∧ r.2.mem ((c.tc : Thread Cert.Reference13Ideal.nD Cert.Reference13Ideal.τ).loc Cert.Reference13Ideal.main_v39) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v16) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v3_0)) (v1 : (c : Dev Cert.Kernel15Ideal.nD) → Buf (Elt Ideal) ((c.tc : Thread Cert.Kernel15Ideal.nD Cert.Kernel15Ideal.τ).loc Cert.Kernel15Ideal.main_v3_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3_0) = v0 c
          ∧ r.2.mem ((c.tc : Thread Cert.Kernel15Ideal.nD Cert.Kernel15Ideal.τ).loc Cert.Kernel15Ideal.main_v3_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v15) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)) (v3 : (c : Dev Cert.Kernel16Ideal.nD) → Buf (Elt Ideal) ((c.tc : Thread Cert.Kernel16Ideal.nD Cert.Kernel16Ideal.τ).loc Cert.Kernel16Ideal.main_v4_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_v4_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v31) = v0 c
          ∧ r.2.mem ((c.tc : Thread Cert.Reference16Ideal.nD Cert.Reference16Ideal.τ).loc Cert.Reference16Ideal.main_v33) = v1 c
          ∧ r.2.mem ((c.tc : Thread Cert.Reference16Ideal.nD Cert.Reference16Ideal.τ).loc Cert.Reference16Ideal.main_v35) = v2 c
          ∧ r.2.mem ((c.tc : Thread Cert.Reference16Ideal.nD Cert.Reference16Ideal.τ).loc Cert.Reference16Ideal.main_v36) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v26_0)) (v1 : (c : Dev Cert.Kernel17Ideal.nD) → Buf (Elt Ideal) ((c.tc : Thread Cert.Kernel17Ideal.nD Cert.Kernel17Ideal.τ).loc Cert.Kernel17Ideal.main_v26_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v26_0) = v0 c
          ∧ r.2.mem ((c.tc : Thread Cert.Kernel17Ideal.nD Cert.Kernel17Ideal.τ).loc Cert.Kernel17Ideal.main_v26_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v14) = v0 c
          ∧ r.2.mem ((c.tc : Thread Cert.Reference17Ideal.nD Cert.Reference17Ideal.τ).loc Cert.Reference17Ideal.main_v15) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v26_0)) (v1 : (c : Dev Cert.Kernel18Ideal.nD) → Buf (Elt Ideal) ((c.tc : Thread Cert.Kernel18Ideal.nD Cert.Kernel18Ideal.τ).loc Cert.Kernel18Ideal.main_v26_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v26_0) = v0 c
          ∧ r.2.mem ((c.tc : Thread Cert.Kernel18Ideal.nD Cert.Kernel18Ideal.τ).loc Cert.Kernel18Ideal.main_v26_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v48) = v0 c
          ∧ r.2.mem ((c.tc : Thread Cert.Reference18Ideal.nD Cert.Reference18Ideal.τ).loc Cert.Reference18Ideal.main_v49) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v26_0)) (v1 : (c : Dev Cert.Kernel19Ideal.nD) → Buf (Elt Ideal) ((c.tc : Thread Cert.Kernel19Ideal.nD Cert.Kernel19Ideal.τ).loc Cert.Kernel19Ideal.main_v26_1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v26_0) = v0 c
          ∧ r.2.mem ((c.tc : Thread Cert.Kernel19Ideal.nD Cert.Kernel19Ideal.τ).loc Cert.Kernel19Ideal.main_v26_1) = v1 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v52) = v0 c
          ∧ r.2.mem ((c.tc : Thread Cert.Reference19Ideal.nD Cert.Reference19Ideal.τ).loc Cert.Reference19Ideal.main_v53) = v1 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S4096x2816 : Shape := ⟨2, ![4096, 2816]⟩
abbrev S1024 : Shape := ⟨1, ![1024]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  bcast_S_S1024 : S_.BroadcastsInDim S1024 (![] : Fin 0 → Fin S1024.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x2816 .f32) (main_arg1 : FVec F S4096x2816 .f32) (main_arg2 : FVec F S1024 .f32) (main_arg3 : FVec F S2816x1024 .f32) (main_arg4 : FVec F S4096x1024 .f32) : IVec S4096x2816 1 × IVec S1024 1 × IVec S2816x1024 1 × IVec S4096x1024 1 :=
  let main_v0 : FVec F S4096x2816 .f32 := Host.absf main_arg1
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S1024 .f32 := Host.absf main_arg2
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S2816x1024 .f32 := Host.absf main_arg3
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg4
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Kernel.lean ====
abbrev S4096x3072 : Shape := ⟨2, ![4096, 3072]⟩
abbrev S3x1024 : Shape := ⟨2, ![3, 1024]⟩
abbrev S4096x1024 : Shape := ⟨2, ![4096, 1024]⟩
abbrev S_ : Shape := ⟨0, ![]⟩
abbrev S5x1024 : Shape := ⟨2, ![5, 1024]⟩
abbrev S8x1024 : Shape := ⟨2, ![8, 1024]⟩
abbrev S8x4x256 : Shape := ⟨3, ![8, 4, 256]⟩
abbrev S4x8x256 : Shape := ⟨3, ![4, 8, 256]⟩
abbrev S4096x128 : Shape := ⟨2, ![4096, 128]⟩
abbrev S1x8x128 : Shape := ⟨3, ![1, 8, 128]⟩
abbrev S8x128 : Shape := ⟨2, ![8, 128]⟩
abbrev S2x3x4096x128 : Shape := ⟨4, ![2, 3, 4096, 128]⟩
abbrev S2x3 : Shape := ⟨2, ![2, 3]⟩
abbrev S1x1 : Shape := ⟨2, ![1, 1]⟩
abbrev S1x1x4096x128 : Shape := ⟨4, ![1, 1, 4096, 128]⟩
abbrev S1x128 : Shape := ⟨2, ![1, 128]⟩
abbrev S128 : Shape := ⟨1, ![128]⟩

abbrev nBuf : Space → Nat
  | .hbm => 10
  | .vmem => 13
  | .smem => 0
  | _ => 0

abbrev bufTy : (tb : Table) → Fin (tcTables nBuf tb) → BufTy
  | .hbm, ⟨0, _⟩ => ⟨S4096x3072, .bf16⟩
  | .hbm, ⟨1, _⟩ => ⟨S3x1024, .f32⟩
  | .hbm, ⟨2, _⟩ => ⟨S4096x1024, .bf16⟩
  | .hbm, ⟨3, _⟩ => ⟨S_, .f32⟩
  | .hbm, ⟨4, _⟩ => ⟨S5x1024, .f32⟩
  | .hbm, ⟨5, _⟩ => ⟨S8x1024, .f32⟩
  | .hbm, ⟨6, _⟩ => ⟨S8x4x256, .f32⟩
  | .hbm, ⟨7, _⟩ => ⟨S4x8x256, .f32⟩
  | .hbm, ⟨8, _⟩ => ⟨S4096x3072, .bf16⟩
  | .hbm, ⟨9, _⟩ => ⟨S8x1024, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x8x128, .f32⟩
  | .local _ .vmem, ⟨7, _⟩ => ⟨S1x8x128, .f32⟩
  | .local _ .vmem, ⟨8, _⟩ => ⟨S4096x128, .bf16⟩
  | .local _ .vmem, ⟨9, _⟩ => ⟨S4096x128, .bf16⟩
  | .local _ .vmem, ⟨10, _⟩ => ⟨S8x128, .f32⟩
  | .local _ .vmem, ⟨11, _⟩ => ⟨S8x128, .f32⟩
  | .local _ .vmem, ⟨12, _⟩ => ⟨S2x3x4096x128, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c2_i32_3 : BitVec 32 := 2#32
  let v10 : BitVec 1 := Scalar.cmpi .sge arg0 c2_i32_3
  let v11 : BitVec 32 := Scalar.extui v10
  let c0_i32_4 : BitVec 32 := 0#32
  let v12 : BitVec 1 := Scalar.cmpi .ne v11 c0_i32_4
  v12

def k0_mult1 (i : grid0.Coords) : BitVec 32 :=
  let c0_i32_60 : BitVec 32 := 0#32
  let arg0 : BitVec 32 := BitVec.ofNat 32 (i 0).val
  let c2_i32_59 : BitVec 32 := 2#32
  let v143 : BitVec 32 := Scalar.subi arg0 c2_i32_59
  let v144 : BitVec 32 := Scalar.addi c0_i32_60 v143
  let c128_i32_61 : BitVec 32 := 128#32
  let v145 : BitVec 32 := Scalar.muli v144 c128_i32_61
  v145
def k0_off1 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_63 : BitVec 32 := 0#32
  ![v9.toNat, 0]
def k0_off2 (i : grid0.Coords) (c0_i32_60 : BitVec 32) : Fin 2 → Nat :=
  let c0_i32_64 : BitVec 32 := 0#32
  let arg0 : BitVec 32 := BitVec.ofNat 32 (i 0).val
  let c2_i32_59 : BitVec 32 := 2#32
  let v143 : BitVec 32 := Scalar.subi arg0 c2_i32_59
  let v144 : BitVec 32 := Scalar.addi c0_i32_60 v143
  let c128_i32_61 : BitVec 32 := 128#32
  let v145 : BitVec 32 := Scalar.muli v144 c128_i32_61
  let v146 : BitVec 32 := v145
  ![0, v146.toNat]
def k0_off3 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_62 : BitVec 32 := 0#32
  let c0_i32_65 : BitVec 32 := 0#32
  let c0_i32_66 : BitVec 32 := 0#32
  ![v9.toNat, 0, 0, 0]
def k0_mult2 (i : grid0.Coords) : BitVec 32 :=
  let c8_i32_68 : BitVec 32 := 8#32
  let arg0 : BitVec 32 := BitVec.ofNat 32 (i 0).val
  let c2_i32_67 : BitVec 32 := 2#32
  let v152 : BitVec 32 := Scalar.subi arg0 c2_i32_67
  let v153 : BitVec 32 := Scalar.addi c8_i32_68 v152
  let c128_i32_69 : BitVec 32 := 128#32
  let v154 : BitVec 32 := Scalar.muli v153 c128_i32_69
  v154
def k0_off4 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_71 : BitVec 32 := 1#32
  ![v9.toNat, 1]
def k0_off5 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_70 : BitVec 32 := 1#32
  let c0_i32_73 : BitVec 32 := 0#32
  let c0_i32_74 : BitVec 32 := 0#32
  ![v9.toNat, 1, 0, 0]
def k0_mult3 (i : grid0.Coords) : BitVec 32 :=
  let c16_i32_76 : BitVec 32 := 16#32
  let arg0 : BitVec 32 := BitVec.ofNat 32 (i 0).val
  let c2_i32_75 : BitVec 32 := 2#32
  let v161 : BitVec 32 := Scalar.subi arg0 c2_i32_75
  let v162 : BitVec 32 := Scalar.addi c16_i32_76 v161
  let c128_i32_77 : BitVec 32 := 128#32
  let v163 : BitVec 32 := Scalar.muli v162 c128_i32_77
  v163
def k0_off6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_79 : BitVec 32 := 2#32
  ![v9.toNat, 2]
def k0_off7 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_78 : BitVec 32 := 2#32
  let c0_i32_81 : BitVec 32 := 0#32
  let c0_i32_82 : BitVec 32 := 0#32
  ![v9.toNat, 2, 0, 0]
def k0_off8 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v100 : Index := Scalar.indexCast v9
  let c0_33 : Index := 0#32
  let c0_34 : Index := 0#32
  let c0_35 : Index := 0#32
  ![v100.toNat, 0, 0, 0]
def k0_off9 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v106 : Index := Scalar.indexCast v9
  let c1 : Index := 1#32
  let c0_36 : Index := 0#32
  let c0_37 : Index := 0#32
  ![v106.toNat, 1, 0, 0]
def k0_off10 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v112 : Index := Scalar.indexCast v9
  let c2 : Index := 2#32
  let c0_38 : Index := 0#32
  let c0_39 : Index := 0#32
  ![v112.toNat, 2, 0, 0]
def k0_mult4 (i : grid0.Coords) : BitVec 32 :=
  let c0_i32_40 : BitVec 32 := 0#32
  let arg0 : BitVec 32 := BitVec.ofNat 32 (i 0).val
  let v116 : BitVec 32 := Scalar.addi c0_i32_40 arg0
  let c128_i32 : BitVec 32 := 128#32
  let v117 : BitVec 32 := Scalar.muli v116 c128_i32
  v117
def k0_off11 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_42 : BitVec 32 := 0#32
  ![v9.toNat, 0]
def k0_off12 (i : grid0.Coords) (c0_i32_40 : BitVec 32) : Fin 2 → Nat :=
  let c0_i32_43 : BitVec 32 := 0#32
  let arg0 : BitVec 32 := BitVec.ofNat 32 (i 0).val
  let v116 : BitVec 32 := Scalar.addi c0_i32_40 arg0
  let c128_i32 : BitVec 32 := 128#32
  let v117 : BitVec 32 := Scalar.muli v116 c128_i32
  let v118 : BitVec 32 := v117
  ![0, v118.toNat]
def k0_off13 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_41 : BitVec 32 := 0#32
  let c0_i32_44 : BitVec 32 := 0#32
  let c0_i32_45 : BitVec 32 := 0#32
  ![v9.toNat, 0, 0, 0]
def k0_mult5 (i : grid0.Coords) : BitVec 32 :=
  let c8_i32 : BitVec 32 := 8#32
  let arg0 : BitVec 32 := BitVec.ofNat 32 (i 0).val
  let v124 : BitVec 32 := Scalar.addi c8_i32 arg0
  let c128_i32_46 : BitVec 32 := 128#32
  let v125 : BitVec 32 := Scalar.muli v124 c128_i32_46
  v125
def k0_off14 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_48 : BitVec 32 := 1#32
  ![v9.toNat, 1]
def k0_off15 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_47 : BitVec 32 := 1#32
  let c0_i32_50 : BitVec 32 := 0#32
  let c0_i32_51 : BitVec 32 := 0#32
  ![v9.toNat, 1, 0, 0]
def k0_mult6 (i : grid0.Coords) : BitVec 32 :=
  let c16_i32 : BitVec 32 := 16#32
  let arg0 : BitVec 32 := BitVec.ofNat 32 (i 0).val
  let v132 : BitVec 32 := Scalar.addi c16_i32 arg0
  let c128_i32_52 : BitVec 32 := 128#32
  let v133 : BitVec 32 := Scalar.muli v132 c128_i32_52
  v133
def k0_off16 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_54 : BitVec 32 := 2#32
  ![v9.toNat, 2]
def k0_off17 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_53 : BitVec 32 := 2#32
  let c0_i32_56 : BitVec 32 := 0#32
  let c0_i32_57 : BitVec 32 := 0#32
  ![v9.toNat, 2, 0, 0]
def k0_cond2 (i : grid0.Coords) : BitVec 1 :=
  let arg0 : BitVec 32 := BitVec.ofNat 32 (i 0).val
  let c7_i32 : BitVec 32 := 7#32
  let v140 : BitVec 1 := Scalar.cmpi .eq arg0 c7_i32
  let v141 : BitVec 32 := Scalar.extui v140
  let c0_i32_58 : BitVec 32 := 0#32
  let v142 : BitVec 1 := Scalar.cmpi .ne v141 c0_i32_58
  v142

def k0_mult7 (i : grid0.Coords) : BitVec 32 :=
  let c0_i32_59 : BitVec 32 := 0#32
  let arg0 : BitVec 32 := BitVec.ofNat 32 (i 0).val
  let v143 : BitVec 32 := Scalar.addi c0_i32_59 arg0
  let c128_i32_60 : BitVec 32 := 128#32
  let v144 : BitVec 32 := Scalar.muli v143 c128_i32_60
  v144
def k0_off18 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_62 : BitVec 32 := 0#32
  ![v9.toNat, 0]
def k0_off19 (i : grid0.Coords) (c0_i32_59 : BitVec 32) : Fin 2 → Nat :=
  let c0_i32_63 : BitVec 32 := 0#32
  let arg0 : BitVec 32 := BitVec.ofNat 32 (i 0).val
  let v143 : BitVec 32 := Scalar.addi c0_i32_59 arg0
  let c128_i32_60 : BitVec 32 := 128#32
  let v144 : BitVec 32 := Scalar.muli v143 c128_i32_60
  let v145 : BitVec 32 := v144
  ![0, v145.toNat]
def k0_off20 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_61 : BitVec 32 := 0#32
  let c0_i32_64 : BitVec 32 := 0#32
  let c0_i32_65 : BitVec 32 := 0#32
  ![v9.toNat, 0, 0, 0]
def k0_mult8 (i : grid0.Coords) : BitVec 32 :=
  let c8_i32_66 : BitVec 32 := 8#32
  let arg0 : BitVec 32 := BitVec.ofNat 32 (i 0).val
  let v151 : BitVec 32 := Scalar.addi c8_i32_66 arg0
  let c128_i32_67 : BitVec 32 := 128#32
  let v152 : BitVec 32 := Scalar.muli v151 c128_i32_67
  v152
def k0_off21 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_69 : BitVec 32 := 1#32
  ![v9.toNat, 1]
def k0_off22 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_68 : BitVec 32 := 1#32
  let c0_i32_71 : BitVec 32 := 0#32
  let c0_i32_72 : BitVec 32 := 0#32
  ![v9.toNat, 1, 0, 0]
def k0_mult9 (i : grid0.Coords) : BitVec 32 :=
  let c16_i32_73 : BitVec 32 := 16#32
  let arg0 : BitVec 32 := BitVec.ofNat 32 (i 0).val
  let v159 : BitVec 32 := Scalar.addi c16_i32_73 arg0
  let c128_i32_74 : BitVec 32 := 128#32
  let v160 : BitVec 32 := Scalar.muli v159 c128_i32_74
  v160
def k0_off23 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_76 : BitVec 32 := 2#32
  ![v9.toNat, 2]
def k0_off24 (i : grid0.Coords) : Fin 4 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_75 : BitVec 32 := 2#32
  let c0_i32_78 : BitVec 32 := 0#32
  let c0_i32_79 : BitVec 32 := 0#32
  ![v9.toNat, 2, 0, 0]
def k0_mult10 (i : grid0.Coords) : BitVec 32 :=
  let c0_i32_82 : BitVec 32 := 0#32
  let arg0 : BitVec 32 := BitVec.ofNat 32 (i 0).val
  let c1_i32_80 : BitVec 32 := 1#32
  let v167 : BitVec 32 := Scalar.subi arg0 c1_i32_80
  let v169 : BitVec 32 := Scalar.addi c0_i32_82 v167
  let c128_i32_83 : BitVec 32 := 128#32
  let v170 : BitVec 32 := Scalar.muli v169 c128_i32_83
  v170
def k0_off25 (i : grid0.Coords) : Fin 2 → Nat :=
  let c1_i32_81 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v168 : BitVec 32 := Scalar.subi c1_i32_81 v9
  let c0_i32_85 : BitVec 32 := 0#32
  ![v168.toNat, 0]
def k0_off26 (i : grid0.Coords) (c0_i32_82 : BitVec 32) : Fin 2 → Nat :=
  let c0_i32_86 : BitVec 32 := 0#32
  let arg0 : BitVec 32 := BitVec.ofNat 32 (i 0).val
  let c1_i32_80 : BitVec 32 := 1#32
  let v167 : BitVec 32 := Scalar.subi arg0 c1_i32_80
  let v169 : BitVec 32 := Scalar.addi c0_i32_82 v167
  let c128_i32_83 : BitVec 32 := 128#32
  let v170 : BitVec 32 := Scalar.muli v169 c128_i32_83
  let v171 : BitVec 32 := v170
  ![0, v171.toNat]
def k0_off27 (i : grid0.Coords) : Fin 4 → Nat :=
  let c1_i32_81 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v168 : BitVec 32 := Scalar.subi c1_i32_81 v9
  let c0_i32_84 : BitVec 32 := 0#32
  let c0_i32_87 : BitVec 32 := 0#32
  let c0_i32_88 : BitVec 32 := 0#32
  ![v168.toNat, 0, 0, 0]
def k0_mult11 (i : grid0.Coords) : BitVec 32 :=
  let c8_i32_91 : BitVec 32 := 8#32
  let arg0 : BitVec 32 := BitVec.ofNat 32 (i 0).val
  let c1_i32_89 : BitVec 32 := 1#32
  let v177 : BitVec 32 := Scalar.subi arg0 c1_i32_89
  let v179 : BitVec 32 := Scalar.addi c8_i32_91 v177
  let c128_i32_92 : BitVec 32 := 128#32
  let v180 : BitVec 32 := Scalar.muli v179 c128_i32_92
  v180
def k0_off28 (i : grid0.Coords) : Fin 2 → Nat :=
  let c1_i32_90 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v178 : BitVec 32 := Scalar.subi c1_i32_90 v9
  let c1_i32_94 : BitVec 32 := 1#32
  ![v178.toNat, 1]
def k0_off29 (i : grid0.Coords) : Fin 4 → Nat :=
  let c1_i32_90 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v178 : BitVec 32 := Scalar.subi c1_i32_90 v9
  let c1_i32_93 : BitVec 32 := 1#32
  let c0_i32_96 : BitVec 32 := 0#32
  let c0_i32_97 : BitVec 32 := 0#32
  ![v178.toNat, 1, 0, 0]
def k0_mult12 (i : grid0.Coords) : BitVec 32 :=
  let c16_i32_100 : BitVec 32 := 16#32
  let arg0 : BitVec 32 := BitVec.ofNat 32 (i 0).val
  let c1_i32_98 : BitVec 32 := 1#32
  let v187 : BitVec 32 := Scalar.subi arg0 c1_i32_98
  let v189 : BitVec 32 := Scalar.addi c16_i32_100 v187
  let c128_i32_101 : BitVec 32 := 128#32
  let v190 : BitVec 32 := Scalar.muli v189 c128_i32_101
  v190
def k0_off30 (i : grid0.Coords) : Fin 2 → Nat :=
  let c1_i32_99 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v188 : BitVec 32 := Scalar.subi c1_i32_99 v9
  let c2_i32_103 : BitVec 32 := 2#32
  ![v188.toNat, 2]
def k0_off31 (i : grid0.Coords) : Fin 4 → Nat :=
  let c1_i32_99 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v188 : BitVec 32 := Scalar.subi c1_i32_99 v9
  let c2_i32_102 : BitVec 32 := 2#32
  let c0_i32_105 : BitVec 32 := 0#32
  let c0_i32_106 : BitVec 32 := 0#32
  ![v188.toNat, 2, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4096x3072 : Shape := ⟨2, ![4096, 3072]⟩
abbrev S3x1024 : Shape := ⟨2, ![3, 1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S5x1024 : Shape := ⟨2, ![5, 1024]⟩
abbrev S8x1024 : Shape := ⟨2, ![8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3x1024, .f32⟩
  | .hbm, ⟨2, _⟩ => ⟨S4096x1024, .bf16⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S2x1024, .f32⟩
  | .hbm, ⟨10, _⟩ => ⟨S4098x1024, .f32⟩
  | .hbm, ⟨11, _⟩ => ⟨S_, .f32⟩
  | .hbm, ⟨12, _⟩ => ⟨S2x1024, .f32⟩
  | .hbm, ⟨13, _⟩ => ⟨S1x1024, .f32⟩
  | .hbm, ⟨14, _⟩ => ⟨S1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S_, .f32⟩
  | .hbm, ⟨47, _⟩ => ⟨S1024, .f32⟩
  | .hbm, ⟨48, _⟩ => ⟨S_, .f32⟩
  | .hbm, ⟨49, _⟩ => ⟨S4098x1024, .f32⟩
  | .hbm, ⟨50, _⟩ => ⟨S1x1024, .f32⟩
  | .hbm, ⟨51, _⟩ => ⟨S_, .f32⟩
  | .hbm, ⟨52, _⟩ => ⟨S3x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S_, .f32⟩
  | .hbm, ⟨62, _⟩ => ⟨S4098x1024, .f32⟩
  | .hbm, ⟨63, _⟩ => ⟨S4098x1024, .f32⟩
  | .hbm, ⟨64, _⟩ => ⟨S1x1024, .f32⟩
  | .hbm, ⟨65, _⟩ => ⟨S_, .f32⟩
  | .hbm, ⟨66, _⟩ => ⟨S3x1024, .f32⟩
  | .hbm, ⟨67, _⟩ => ⟨S3x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S_, .f32⟩
  | .hbm, ⟨75, _⟩ => ⟨S1024, .f32⟩
  | .hbm, ⟨76, _⟩ => ⟨S_, .f32⟩
  | .hbm, ⟨77, _⟩ => ⟨S4098x1024, .f32⟩
  | .hbm, ⟨78, _⟩ => ⟨S4098x1024, .f32⟩
  | .hbm, ⟨79, _⟩ => ⟨S1x1024, .f32⟩
  | .hbm, ⟨80, _⟩ => ⟨S_, .f32⟩
  | .hbm, ⟨81, _⟩ => ⟨S3x1024, .f32⟩
  | .hbm, ⟨82, _⟩ => ⟨S3x1024, .f32⟩
  | .hbm, ⟨83, _⟩ => ⟨S2x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x3072, .f32⟩
  | .hbm, ⟨88, _⟩ => ⟨S4096x3072, .bf16⟩
  | .hbm, ⟨89, _⟩ => ⟨S_, .f32⟩
  | .hbm, ⟨90, _⟩ => ⟨S5x1024, .f32⟩
  | .hbm, ⟨91, _⟩ => ⟨S8x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_13 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_14 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x5632 : Shape := ⟨2, ![1024, 5632]⟩
abbrev S4096x2816 : Shape := ⟨2, ![4096, 2816]⟩
abbrev S1024x4x1408 : Shape := ⟨3, ![1024, 4, 1408]⟩
abbrev S4x1024x1408 : Shape := ⟨3, ![4, 1024, 1408]⟩
abbrev S1x1024 : Shape := ⟨2, ![1, 1024]⟩
abbrev S512x2816 : Shape := ⟨2, ![512, 2816]⟩
abbrev S512x1024 : Shape := ⟨2, ![512, 1024]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x2816, .bf16⟩
  | .hbm, ⟨4, _⟩ => ⟨S4096x2816, .bf16⟩
  | .hbm, ⟨5, _⟩ => ⟨S4096x1024, .f32⟩
  | .hbm, ⟨6, _⟩ => ⟨S1024x5632, .bf16⟩
  | .hbm, ⟨7, _⟩ => ⟨S1024x4x1408, .bf16⟩
  | .hbm, ⟨8, _⟩ => ⟨S4x1024x1408, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S4x1024x1408, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S4096x1024 : Shape := ⟨2, ![4096, 1024]⟩
abbrev S1024 : Shape := ⟨1, ![1024]⟩
abbrev S1024x5632 : Shape := ⟨2, ![1024, 5632]⟩
abbrev S4096x2816 : Shape := ⟨2, ![4096, 2816]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x2816, .bf16⟩
  | .hbm, ⟨4, _⟩ => ⟨S4096x2816, .bf16⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x5632, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x5632, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel3.lean ====
abbrev S4096x2816 : Shape := ⟨2, ![4096, 2816]⟩
abbrev S1024 : Shape := ⟨1, ![1024]⟩
abbrev S2816x1024 : Shape := ⟨2, ![2816, 1024]⟩
abbrev S4096x1024 : Shape := ⟨2, ![4096, 1024]⟩
abbrev S_ : Shape := ⟨0, ![]⟩
abbrev S1x2816x1024 : Shape := ⟨3, ![1, 2816, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩

abbrev nBuf : Space → Nat
  | .hbm => 32
  | .vmem => 17
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S2816x1024, .bf16⟩
  | .hbm, ⟨23, _⟩ => ⟨S1x2816x1024, .bf16⟩
  | .hbm, ⟨24, _⟩ => ⟨S4096x1024, .bf16⟩
  | .hbm, ⟨25, _⟩ => ⟨S1x1024, .f32⟩
  | .hbm, ⟨26, _⟩ => ⟨S4096x2816, .bf16⟩
  | .hbm, ⟨27, _⟩ => ⟨S4096x2816, .bf16⟩
  | .hbm, ⟨28, _⟩ => ⟨S4096x1024, .bf16⟩
  | .hbm, ⟨29, _⟩ => ⟨S4096x2816, .bf16⟩
  | .hbm, ⟨30, _⟩ => ⟨S4096x2816, .bf16⟩
  | .hbm, ⟨31, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x2816x1024, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x1024, .bf16⟩
  | .local _ .vmem, ⟨11, _⟩ => ⟨S512x1024, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v20_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S4096x2816 : Shape := ⟨2, ![4096, 2816]⟩
abbrev S1024 : Shape := ⟨1, ![1024]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 76
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S4096x1024, .f32⟩
  | .hbm, ⟨53, _⟩ => ⟨S4096x1024, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x2816, .f32⟩
  | .hbm, ⟨66, _⟩ => ⟨S4096x2816, .f32⟩
  | .hbm, ⟨67, _⟩ => ⟨S4096x2816, .f32⟩
  | .hbm, ⟨68, _⟩ => ⟨S4096x2816, .f32⟩
  | .hbm, ⟨69, _⟩ => ⟨S4096x2816, .f32⟩
  | .hbm, ⟨70, _⟩ => ⟨S4096x2816, .f32⟩
  | .hbm, ⟨71, _⟩ => ⟨S4096x2816, .f32⟩
  | .hbm, ⟨72, _⟩ => ⟨S4096x1024, .bf16⟩
  | .hbm, ⟨73, _⟩ => ⟨S4096x2816, .bf16⟩
  | .hbm, ⟨74, _⟩ => ⟨S4096x2816, .bf16⟩
  | .hbm, ⟨75, _⟩ => ⟨S1x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_cst_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2x1408x1024 : Shape := ⟨3, ![2, 1408, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2x1408x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S2x1408x1024 : Shape := ⟨3, ![2, 1408, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S2x1408x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S4096x1024 : Shape := ⟨2, ![4096, 1024]⟩
abbrev S4096x2816 : Shape := ⟨2, ![4096, 2816]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4x1024x1408, .bf16⟩
  | .hbm, ⟨3, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference5Ideal.lean ====
abbrev S4096x1024 : Shape := ⟨2, ![4096, 1024]⟩
abbrev S4096x2816 : Shape := ⟨2, ![4096, 2816]⟩
abbrev S4x1024x1408 : Shape := ⟨3, ![4, 1024, 1408]⟩
abbrev S_ : Shape := ⟨0, ![]⟩
abbrev S1024x2816 : Shape := ⟨2, ![1024, 2816]⟩
abbrev S2816x1024 : Shape := ⟨2, ![2816, 1024]⟩
abbrev S2x1024x1408 : Shape := ⟨3, ![2, 1024, 1408]⟩
abbrev S1024x2x1408 : Shape := ⟨3, ![1024, 2, 1408]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4x1024x1408, .bf16⟩
  | .hbm, ⟨3, _⟩ => ⟨S_, .f32⟩
  | .hbm, ⟨4, _⟩ => ⟨S1024x2816, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S2x1024x1408, .bf16⟩
  | .hbm, ⟨11, _⟩ => ⟨S1024x2816, .bf16⟩
  | .hbm, ⟨12, _⟩ => ⟨S1024x2x1408, .bf16⟩
  | .hbm, ⟨13, _⟩ => ⟨S2x1024x1408, .bf16⟩
  | .hbm, ⟨14, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S1024x4x768 : Shape := ⟨3, ![1024, 4, 768]⟩
abbrev S4x1024x768 : Shape := ⟨3, ![4, 1024, 768]⟩
abbrev S1x1024 : Shape := ⟨2, ![1, 1024]⟩
abbrev S512x3072 : Shape := ⟨2, ![512, 3072]⟩
abbrev S512x1024 : Shape := ⟨2, ![512, 1024]⟩
abbrev S512x768 : Shape := ⟨2, ![512, 768]⟩
abbrev S1x1024x768 : Shape := ⟨3, ![1, 1024, 768]⟩
abbrev S1024x768 : Shape := ⟨2, ![1024, 768]⟩
abbrev S512 : Shape := ⟨1, ![512]⟩
abbrev S512x1 : Shape := ⟨2, ![512, 1]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x3072, .bf16⟩
  | .hbm, ⟨4, _⟩ => ⟨S4096x1024, .f32⟩
  | .hbm, ⟨5, _⟩ => ⟨S1024x3072, .bf16⟩
  | .hbm, ⟨6, _⟩ => ⟨S1024x4x768, .bf16⟩
  | .hbm, ⟨7, _⟩ => ⟨S4x1024x768, .bf16⟩
  | .hbm, ⟨8, _⟩ => ⟨S1x1024, .f32⟩
  | .hbm, ⟨9, _⟩ => ⟨S4096x1024, .f32⟩
  | .hbm, ⟨10, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S4x1024x768, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S4096x1024 : Shape := ⟨2, ![4096, 1024]⟩
abbrev S1024 : Shape := ⟨1, ![1024]⟩
abbrev S1024x3072 : Shape := ⟨2, ![1024, 3072]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096x3072, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3072, .f32⟩
  | .hbm, ⟨26, _⟩ => ⟨S4096x3072, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel7.lean ====
abbrev S4096x1024 : Shape := ⟨2, ![4096, 1024]⟩
abbrev S4096x3072 : Shape := ⟨2, ![4096, 3072]⟩
abbrev S4x1024x768 : Shape := ⟨3, ![4, 1024, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4x1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference7Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | .hbm, ⟨10, _⟩ => ⟨S1024x4x768, .bf16⟩
  | .hbm, ⟨11, _⟩ => ⟨S4x1024x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4096x1024 : Shape := ⟨2, ![4096, 1024]⟩
abbrev S1024 : Shape := ⟨1, ![1024]⟩
abbrev S1024x6144 : Shape := ⟨2, ![1024, 6144]⟩
abbrev S4096x3072 : Shape := ⟨2, ![4096, 3072]⟩
abbrev S1024x4x1536 : Shape := ⟨3, ![1024, 4, 1536]⟩
abbrev S4x1024x1536 : Shape := ⟨3, ![4, 1024, 1536]⟩
abbrev S1x1024 : Shape := ⟨2, ![1, 1024]⟩
abbrev S512x3072 : Shape := ⟨2, ![512, 3072]⟩
abbrev S512x1024 : Shape := ⟨2, ![512, 1024]⟩
abbrev S512x1536 : Shape := ⟨2, ![512, 1536]⟩
abbrev S1x1024x1536 : Shape := ⟨3, ![1, 1024, 1536]⟩
abbrev S1024x1536 : Shape := ⟨2, ![1024, 1536]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S4096x3072, .bf16⟩
  | .hbm, ⟨4, _⟩ => ⟨S4096x3072, .bf16⟩
  | .hbm, ⟨5, _⟩ => ⟨S4096x1024, .f32⟩
  | .hbm, ⟨6, _⟩ => ⟨S1024x6144, .bf16⟩
  | .hbm, ⟨7, _⟩ => ⟨S1024x4x1536, .bf16⟩
  | .hbm, ⟨8, _⟩ => ⟨S4x1024x1536, .bf16⟩
  | .hbm, ⟨9, _⟩ => ⟨S1x1024, .f32⟩
  | .hbm, ⟨10, _⟩ => ⟨S4096x1024, .f32⟩
  | .hbm, ⟨11, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S512x3072, .bf16⟩
  | .local _ .vmem, ⟨3, _⟩ => ⟨S512x3072, .bf16⟩
  | .local _ .vmem, ⟨4, _⟩ => ⟨S4x1024x1536, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference8Ideal.lean ====
abbrev S4096x1024 : Shape := ⟨2, ![4096, 1024]⟩
abbrev S1024 : Shape := ⟨1, ![1024]⟩
abbrev S1024x6144 : Shape := ⟨2, ![1024, 6144]⟩
abbrev S4096x3072 : Shape := ⟨2, ![4096, 3072]⟩
abbrev S4096x6144 : Shape := ⟨2, ![4096, 6144]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S4096x3072, .bf16⟩
  | .hbm, ⟨4, _⟩ => ⟨S4096x3072, .bf16⟩
  | .hbm, ⟨5, _⟩ => ⟨S4096x1024, .f32⟩
  | .hbm, ⟨6, _⟩ => ⟨S4096x3072, .f32⟩
  | .hbm, ⟨7, _⟩ => ⟨S4096x3072, .f32⟩
  | .hbm, ⟨8, _⟩ => ⟨S4096x6144, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x6144, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel9.lean ====
abbrev S4096x1024 : Shape := ⟨2, ![4096, 1024]⟩
abbrev S4096x2816 : Shape := ⟨2, ![4096, 2816]⟩
abbrev S4x1024x1408 : Shape := ⟨3, ![4, 1024, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩
abbrev S1024x2048 : Shape := ⟨2, ![1024, 2048]⟩
abbrev S2x1024x1408 : Shape := ⟨3, ![2, 1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4x1024x1408, .bf16⟩
  | .hbm, ⟨3, _⟩ => ⟨S2x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference9Ideal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S1024x2x1408 : Shape := ⟨3, ![1024, 2, 1408]⟩
abbrev S2x1024x1408 : Shape := ⟨3, ![2, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | .hbm, ⟨10, _⟩ => ⟨S1024x2x1408, .bf16⟩
  | .hbm, ⟨11, _⟩ => ⟨S2x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S4096x1024 : Shape := ⟨2, ![4096, 1024]⟩
abbrev S4096x3072 : Shape := ⟨2, ![4096, 3072]⟩
abbrev S4x1024x1536 : Shape := ⟨3, ![4, 1024, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩
abbrev S1024x2048 : Shape := ⟨2, ![1024, 2048]⟩
abbrev S2x1024x1536 : Shape := ⟨3, ![2, 1024, 1536]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4x1024x1536, .bf16⟩
  | .hbm, ⟨3, _⟩ => ⟨S2x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference10Ideal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S1024x2x1536 : Shape := ⟨3, ![1024, 2, 1536]⟩
abbrev S2x1024x1536 : Shape := ⟨3, ![2, 1024, 1536]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | .hbm, ⟨10, _⟩ => ⟨S1024x2x1536, .bf16⟩
  | .hbm, ⟨11, _⟩ => ⟨S2x1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S4096x1024 : Shape := ⟨2, ![4096, 1024]⟩
abbrev S4096x3072 : Shape := ⟨2, ![4096, 3072]⟩
abbrev S4x1024x1536 : Shape := ⟨3, ![4, 1024, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4x1024x1536, .bf16⟩
  | .hbm, ⟨3, _⟩ => ⟨S4x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference11Ideal.lean ====
abbrev S4096x1024 : Shape := ⟨2, ![4096, 1024]⟩
abbrev S4096x3072 : Shape := ⟨2, ![4096, 3072]⟩
abbrev S4x1024x1536 : Shape := ⟨3, ![4, 1024, 1536]⟩
abbrev S_ : Shape := ⟨0, ![]⟩
abbrev S1024x3072 : Shape := ⟨2, ![1024, 3072]⟩
abbrev S3072x1024 : Shape := ⟨2, ![3072, 1024]⟩
abbrev S2x1024x1536 : Shape := ⟨3, ![2, 1024, 1536]⟩
abbrev S1024x2x1536 : Shape := ⟨3, ![1024, 2, 1536]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4x1024x1536, .bf16⟩
  | .hbm, ⟨3, _⟩ => ⟨S_, .f32⟩
  | .hbm, ⟨4, _⟩ => ⟨S1024x3072, .f32⟩
  | .hbm, ⟨5, _⟩ => ⟨S4096x1024, .f32⟩
  | .hbm, ⟨6, _⟩ => ⟨S4096x3072, .f32⟩
  | .hbm, ⟨7, _⟩ => ⟨S4096x3072, .f32⟩
  | .hbm, ⟨8, _⟩ => ⟨S3072x1024, .f32⟩
  | .hbm, ⟨9, _⟩ => ⟨S1024x3072, .f32⟩
  | .hbm, ⟨10, _⟩ => ⟨S2x1024x1536, .bf16⟩
  | .hbm, ⟨11, _⟩ => ⟨S1024x3072, .bf16⟩
  | .hbm, ⟨12, _⟩ => ⟨S1024x2x1536, .bf16⟩
  | .hbm, ⟨13, _⟩ => ⟨S2x1024x1536, .bf16⟩
  | .hbm, ⟨14, _⟩ => ⟨S4x1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel12.lean ====
abbrev S4096x1024 : Shape := ⟨2, ![4096, 1024]⟩
abbrev S1x1024x1024 : Shape := ⟨3, ![1, 1024, 1024]⟩
abbrev S2048x1024 : Shape := ⟨2, ![2048, 1024]⟩
abbrev S1024x1024 : Shape := ⟨2, ![1024, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference12Ideal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x1024 : Shape := ⟨2, ![4096, 1024]⟩
abbrev S1024 : Shape := ⟨1, ![1024]⟩
abbrev S1024x1024 : Shape := ⟨2, ![1024, 1024]⟩
abbrev S1x1024x1024 : Shape := ⟨3, ![1, 1024, 1024]⟩
abbrev S1x1024 : Shape := ⟨2, ![1, 1024]⟩
abbrev S1024x1 : Shape := ⟨2, ![1024, 1]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S1024x1024, .bf16⟩
  | .hbm, ⟨6, _⟩ => ⟨S1x1024x1024, .bf16⟩
  | .hbm, ⟨7, _⟩ => ⟨S4096x1024, .bf16⟩
  | .hbm, ⟨8, _⟩ => ⟨S1x1024, .f32⟩
  | .hbm, ⟨9, _⟩ => ⟨S4096x1024, .bf16⟩
  | .hbm, ⟨10, _⟩ => ⟨S4096x1024, .f32⟩
  | .hbm, ⟨11, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | .hbm, ⟨52, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel14.lean ====
abbrev S4096x2816 : Shape := ⟨2, ![4096, 2816]⟩
abbrev S2816x1024 : Shape := ⟨2, ![2816, 1024]⟩
abbrev S1024 : Shape := ⟨1, ![1024]⟩
abbrev S4096x1024 : Shape := ⟨2, ![4096, 1024]⟩
abbrev S1x2816x1024 : Shape := ⟨3, ![1, 2816, 1024]⟩
abbrev S1x1024 : Shape := ⟨2, ![1, 1024]⟩
abbrev S1024x2816 : Shape := ⟨2, ![1024, 2816]⟩
abbrev S1024x1024 : Shape := ⟨2, ![1024, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S1024, .f32⟩
  | .hbm, ⟨3, _⟩ => ⟨S4096x1024, .f32⟩
  | .hbm, ⟨4, _⟩ => ⟨S2816x1024, .bf16⟩
  | .hbm, ⟨5, _⟩ => ⟨S1x2816x1024, .bf16⟩
  | .hbm, ⟨6, _⟩ => ⟨S1x1024, .f32⟩
  | .hbm, ⟨7, _⟩ => ⟨S4096x1024, .bf16⟩
  | .hbm, ⟨8, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference14Ideal.lean ====
abbrev S4096x2816 : Shape := ⟨2, ![4096, 2816]⟩
abbrev S2816x1024 : Shape := ⟨2, ![2816, 1024]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S1024, .f32⟩
  | .hbm, ⟨3, _⟩ => ⟨S4096x1024, .f32⟩
  | .hbm, ⟨4, _⟩ => ⟨S4096x2816, .f32⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S1024 : Shape := ⟨1, ![1024]⟩
abbrev S1x1024x1024 : Shape := ⟨3, ![1, 1024, 1024]⟩
abbrev S1x1024 : Shape := ⟨2, ![1, 1024]⟩
abbrev S1024x1 : Shape := ⟨2, ![1024, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S4096x1024, .f32⟩
  | .hbm, ⟨4, _⟩ => ⟨S1024x1024, .bf16⟩
  | .hbm, ⟨5, _⟩ => ⟨S1x1024x1024, .bf16⟩
  | .hbm, ⟨6, _⟩ => ⟨S1x1024, .f32⟩
  | .hbm, ⟨7, _⟩ => ⟨S4096x1024, .bf16⟩
  | .hbm, ⟨8, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference15Ideal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S4096x1024, .f32⟩
  | .hbm, ⟨4, _⟩ => ⟨S4096x1024, .f32⟩
  | .hbm, ⟨5, _⟩ => ⟨S4096x1024, .bf16⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel16.lean ====
abbrev S4096x1024 : Shape := ⟨2, ![4096, 1024]⟩
abbrev S1024 : Shape := ⟨1, ![1024]⟩
abbrev S1024x5632 : Shape := ⟨2, ![1024, 5632]⟩
abbrev S1x1024 : Shape := ⟨2, ![1, 1024]⟩
abbrev S1024x4x1408 : Shape := ⟨3, ![1024, 4, 1408]⟩
abbrev S4x1024x1408 : Shape := ⟨3, ![4, 1024, 1408]⟩
abbrev S4096x2816 : Shape := ⟨2, ![4096, 2816]⟩
abbrev S512x1024 : Shape := ⟨2, ![512, 1024]⟩
abbrev S1x1024x1408 : Shape := ⟨3, ![1, 1024, 1408]⟩
abbrev S512x1408 : Shape := ⟨2, ![512, 1408]⟩
abbrev S512 : Shape := ⟨1, ![512]⟩
abbrev S512x1 : Shape := ⟨2, ![512, 1]⟩
abbrev S1024x1408 : Shape := ⟨2, ![1024, 1408]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S1024x5632, .bf16⟩
  | .hbm, ⟨5, _⟩ => ⟨S1024x4x1408, .bf16⟩
  | .hbm, ⟨6, _⟩ => ⟨S4x1024x1408, .bf16⟩
  | .hbm, ⟨7, _⟩ => ⟨S4096x2816, .bf16⟩
  | .hbm, ⟨8, _⟩ => ⟨S4096x2816, .bf16⟩
  | .hbm, ⟨9, _⟩ => ⟨S4096x2816, .bf16⟩
  | .hbm, ⟨10, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1024x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1024, .bf16⟩
  | .local _ .vmem, ⟨14, _⟩ => ⟨S512x1024, .bf16⟩
  | .local _ .vmem, ⟨15, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v53 : Index := Scalar.indexCast v1
  let c0_27 : Index := 0#32
  ![v53.toNat, 0]
def k0_off2 (i : grid0.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v8 : Index := Scalar.indexCast v1
  let c0 : Index := 0#32
  ![v8.toNat, 0]
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference16Ideal.lean ====
abbrev S4096x1024 : Shape := ⟨2, ![4096, 1024]⟩
abbrev S1024 : Shape := ⟨1, ![1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x5632, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .bf16⟩
  | .hbm, ⟨42, _⟩ => ⟨S4096x2816, .f32⟩
  | .hbm, ⟨43, _⟩ => ⟨S4096x2816, .bf16⟩
  | .hbm, ⟨44, _⟩ => ⟨S4096x2816, .f32⟩
  | .hbm, ⟨45, _⟩ => ⟨S4096x2816, .bf16⟩
  | .hbm, ⟨46, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Kernel17.lean ====
abbrev S4096x1024 : Shape := ⟨2, ![4096, 1024]⟩
abbrev S1024 : Shape := ⟨1, ![1024]⟩
abbrev S1024x3072 : Shape := ⟨2, ![1024, 3072]⟩
abbrev S4096 : Shape := ⟨1, ![4096]⟩
abbrev S1x1024 : Shape := ⟨2, ![1, 1024]⟩
abbrev S1024x4x768 : Shape := ⟨3, ![1024, 4, 768]⟩
abbrev S4x1024x768 : Shape := ⟨3, ![4, 1024, 768]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x3072 : Shape := ⟨2, ![4096, 3072]⟩
abbrev S1024x1024 : Shape := ⟨2, ![1024, 1024]⟩
abbrev S1x1024x768 : Shape := ⟨3, ![1, 1024, 768]⟩
abbrev S1024x128 : Shape := ⟨2, ![1024, 128]⟩
abbrev S1024x768 : Shape := ⟨2, ![1024, 768]⟩
abbrev S1024x1 : Shape := ⟨2, ![1024, 1]⟩

abbrev nBuf : Space → Nat
  | .hbm => 34
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096, .i32⟩
  | .hbm, ⟨4, _⟩ => ⟨S1x1024, .f32⟩
  | .hbm, ⟨5, _⟩ => ⟨S1024x3072, .bf16⟩
  | .hbm, ⟨6, _⟩ => ⟨S1024x4x768, .bf16⟩
  | .hbm, ⟨7, _⟩ => ⟨S4x1024x768, .bf16⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4096, .f32⟩
  | .hbm, ⟨17, _⟩ => ⟨S4096x1, .f32⟩
  | .hbm, ⟨18, _⟩ => ⟨S1x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S1x4096x1x32, .f32⟩
  | .hbm, ⟨25, _⟩ => ⟨S1x4096x4x32, .f32⟩
  | .hbm, ⟨26, _⟩ => ⟨S4096x128, .f32⟩
  | .hbm, ⟨27, _⟩ => ⟨S4096x32, .f32⟩
  | .hbm, ⟨28, _⟩ => ⟨S4096x64, .f32⟩
  | .hbm, ⟨29, _⟩ => ⟨S1x4096x1x64, .f32⟩
  | .hbm, ⟨30, _⟩ => ⟨S1x4096x2x64, .f32⟩
  | .hbm, ⟨31, _⟩ => ⟨S4096x128, .f32⟩
  | .hbm, ⟨32, _⟩ => ⟨S4096x3072, .bf16⟩
  | .hbm, ⟨33, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x768, .bf16⟩
  | .local _ .vmem, ⟨4, _⟩ => ⟨S1x1024x768, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x768, .bf16⟩
  | .local _ .vmem, ⟨10, _⟩ => ⟨S1024x768, .bf16⟩
  | .local _ .vmem, ⟨11, _⟩ => ⟨S1024x1024, .bf16⟩
  | .local _ .vmem, ⟨12, _⟩ => ⟨S1024x1024, .bf16⟩
  | .local _ .vmem, ⟨13, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26_0 : Ref sig .tc := ⟨.hbm, 32, rfl⟩
abbrev main_v26_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v31 : Index := Scalar.indexCast v1
  let c0_15 : Index := 0#32
  ![v31.toNat, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v8 : Index := Scalar.indexCast v1
  let c0 : Index := 0#32
  ![v8.toNat, 0]
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference17Ideal.lean ====
abbrev S4096x1024 : Shape := ⟨2, ![4096, 1024]⟩
abbrev S1024 : Shape := ⟨1, ![1024]⟩
abbrev S1024x3072 : Shape := ⟨2, ![1024, 3072]⟩
abbrev S4096 : Shape := ⟨1, ![4096]⟩
abbrev S_ : Shape := ⟨0, ![]⟩
abbrev S4096x1 : Shape := ⟨2, ![4096, 1]⟩
abbrev S1x1024 : Shape := ⟨2, ![1, 1024]⟩
abbrev S4096x3072 : Shape := ⟨2, ![4096, 3072]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096, .i32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x3072, .f32⟩
  | .hbm, ⟨21, _⟩ => ⟨S4096x3072, .bf16⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel18.lean ====
abbrev S4096x1024 : Shape := ⟨2, ![4096, 1024]⟩
abbrev S1024 : Shape := ⟨1, ![1024]⟩
abbrev S1024x3072 : Shape := ⟨2, ![1024, 3072]⟩
abbrev S4096 : Shape := ⟨1, ![4096]⟩
abbrev S1x1024 : Shape := ⟨2, ![1, 1024]⟩
abbrev S1024x4x768 : Shape := ⟨3, ![1024, 4, 768]⟩
abbrev S4x1024x768 : Shape := ⟨3, ![4, 1024, 768]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x3072 : Shape := ⟨2, ![4096, 3072]⟩
abbrev S1024x1024 : Shape := ⟨2, ![1024, 1024]⟩
abbrev S1x1024x768 : Shape := ⟨3, ![1, 1024, 768]⟩
abbrev S1024x128 : Shape := ⟨2, ![1024, 128]⟩
abbrev S1024x768 : Shape := ⟨2, ![1024, 768]⟩
abbrev S1024x1 : Shape := ⟨2, ![1024, 1]⟩

abbrev nBuf : Space → Nat
  | .hbm => 34
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096, .i32⟩
  | .hbm, ⟨4, _⟩ => ⟨S1x1024, .f32⟩
  | .hbm, ⟨5, _⟩ => ⟨S1024x3072, .bf16⟩
  | .hbm, ⟨6, _⟩ => ⟨S1024x4x768, .bf16⟩
  | .hbm, ⟨7, _⟩ => ⟨S4x1024x768, .bf16⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4096, .f32⟩
  | .hbm, ⟨17, _⟩ => ⟨S4096x1, .f32⟩
  | .hbm, ⟨18, _⟩ => ⟨S1x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S1x4096x1x32, .f32⟩
  | .hbm, ⟨25, _⟩ => ⟨S1x4096x4x32, .f32⟩
  | .hbm, ⟨26, _⟩ => ⟨S4096x128, .f32⟩
  | .hbm, ⟨27, _⟩ => ⟨S4096x32, .f32⟩
  | .hbm, ⟨28, _⟩ => ⟨S4096x64, .f32⟩
  | .hbm, ⟨29, _⟩ => ⟨S1x4096x1x64, .f32⟩
  | .hbm, ⟨30, _⟩ => ⟨S1x4096x2x64, .f32⟩
  | .hbm, ⟨31, _⟩ => ⟨S4096x128, .f32⟩
  | .hbm, ⟨32, _⟩ => ⟨S4096x3072, .bf16⟩
  | .hbm, ⟨33, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x768, .bf16⟩
  | .local _ .vmem, ⟨4, _⟩ => ⟨S1x1024x768, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x768, .bf16⟩
  | .local _ .vmem, ⟨10, _⟩ => ⟨S1024x768, .bf16⟩
  | .local _ .vmem, ⟨11, _⟩ => ⟨S1024x1024, .bf16⟩
  | .local _ .vmem, ⟨12, _⟩ => ⟨S1024x1024, .bf16⟩
  | .local _ .vmem, ⟨13, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26_0 : Ref sig .tc := ⟨.hbm, 32, rfl⟩
abbrev main_v26_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v118 : Index := Scalar.indexCast v1
  let c0_45 : Index := 0#32
  ![v118.toNat, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v8 : Index := Scalar.indexCast v1
  let c0 : Index := 0#32
  ![v8.toNat, 0]
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference18Ideal.lean ====
abbrev S4096x1024 : Shape := ⟨2, ![4096, 1024]⟩
abbrev S1024 : Shape := ⟨1, ![1024]⟩
abbrev S1024x3072 : Shape := ⟨2, ![1024, 3072]⟩
abbrev S4096 : Shape := ⟨1, ![4096]⟩
abbrev S_ : Shape := ⟨0, ![]⟩
abbrev S4096x1 : Shape := ⟨2, ![4096, 1]⟩
abbrev S1x1024 : Shape := ⟨2, ![1, 1024]⟩
abbrev S4096x3072 : Shape := ⟨2, ![4096, 3072]⟩
abbrev S1x4096x48x64 : Shape := ⟨4, ![1, 4096, 48, 64]⟩
abbrev S1x4096 : Shape := ⟨2, ![1, 4096]⟩
abbrev S32 : Shape := ⟨1, ![32]⟩
abbrev S1x4096x1 : Shape := ⟨3, ![1, 4096, 1]⟩
abbrev S1x1x32 : Shape := ⟨3, ![1, 1, 32]⟩
abbrev S1x4096x32 : Shape := ⟨3, ![1, 4096, 32]⟩
abbrev S1x4096x1x32 : Shape := ⟨4, ![1, 4096, 1, 32]⟩
abbrev S1x4096x48x32 : Shape := ⟨4, ![1, 4096, 48, 32]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3072, .f32⟩
  | .hbm, ⟨3, _⟩ => ⟨S4096, .i32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x3072, .f32⟩
  | .hbm, ⟨21, _⟩ => ⟨S1x4096x48x64, .f32⟩
  | .hbm, ⟨22, _⟩ => ⟨S1x4096, .i32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S1x4096, .f32⟩
  | .hbm, ⟨32, _⟩ => ⟨S1x4096x1, .f32⟩
  | .hbm, ⟨33, _⟩ => ⟨S1x1x32, .f32⟩
  | .hbm, ⟨34, _⟩ => ⟨S1x4096x32, .f32⟩
  | .hbm, ⟨35, _⟩ => ⟨S1x4096x32, .f32⟩
  | .hbm, ⟨36, _⟩ => ⟨S1x4096x32, .f32⟩
  | .hbm, ⟨37, _⟩ => ⟨S1x4096x32, .f32⟩
  | .hbm, ⟨38, _⟩ => ⟨S1x4096x1x32, .f32⟩
  | .hbm, ⟨39, _⟩ => ⟨S1x4096x32, .f32⟩
  | .hbm, ⟨40, _⟩ => ⟨S1x4096x1x32, .f32⟩
  | .hbm, ⟨41, _⟩ => ⟨S1x4096x48x32, .f32⟩
  | .hbm, ⟨42, _⟩ => ⟨S1x4096x48x32, .f32⟩
  | .hbm, ⟨43, _⟩ => ⟨S1x4096x48x32, .f32⟩
  | .hbm, ⟨44, _⟩ => ⟨S1x4096x48x32, .f32⟩
  | .hbm, ⟨45, _⟩ => ⟨S1x4096x48x32, .f32⟩
  | .hbm, ⟨46, _⟩ => ⟨S1x4096x48x32, .f32⟩
  | .hbm, ⟨47, _⟩ => ⟨S1x4096x48x32, .f32⟩
  | .hbm, ⟨48, _⟩ => ⟨S1x4096x48x32, .f32⟩
  | .hbm, ⟨49, _⟩ => ⟨S1x4096x48x32, .f32⟩
  | .hbm, ⟨50, _⟩ => ⟨S1x4096x48x32, .f32⟩
  | .hbm, ⟨51, _⟩ => ⟨S1x4096x48x32, .f32⟩
  | .hbm, ⟨52, _⟩ => ⟨S1x4096x48x32, .f32⟩
  | .hbm, ⟨53, _⟩ => ⟨S1x4096x48x64, .f32⟩
  | .hbm, ⟨54, _⟩ => ⟨S_, .f32⟩
  | .hbm, ⟨55, _⟩ => ⟨S1x4096x48x64, .f32⟩
  | .hbm, ⟨56, _⟩ => ⟨S1x4096x48x64, .f32⟩
  | .hbm, ⟨57, _⟩ => ⟨S4096x3072, .f32⟩
  | .hbm, ⟨58, _⟩ => ⟨S4096x3072, .bf16⟩
  | .hbm, ⟨59, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩

abbrev nD : Nat := 1
abbrev τ : Topo := Topo.v7x

variable {F : FTy → Type} [FloatOps F]
-- ==== Kernel19.lean ====
abbrev S4096x1024 : Shape := ⟨2, ![4096, 1024]⟩
abbrev S1024 : Shape := ⟨1, ![1024]⟩
abbrev S1024x6144 : Shape := ⟨2, ![1024, 6144]⟩
abbrev S4096 : Shape := ⟨1, ![4096]⟩
abbrev S1x1024 : Shape := ⟨2, ![1, 1024]⟩
abbrev S1024x4x1536 : Shape := ⟨3, ![1024, 4, 1536]⟩
abbrev S4x1024x1536 : Shape := ⟨3, ![4, 1024, 1536]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x6144 : Shape := ⟨2, ![4096, 6144]⟩
abbrev S1024x1024 : Shape := ⟨2, ![1024, 1024]⟩
abbrev S1x1024x1536 : Shape := ⟨3, ![1, 1024, 1536]⟩
abbrev S1024x128 : Shape := ⟨2, ![1024, 128]⟩
abbrev S1024x1536 : Shape := ⟨2, ![1024, 1536]⟩
abbrev S1024x1 : Shape := ⟨2, ![1024, 1]⟩

abbrev nBuf : Space → Nat
  | .hbm => 34
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S4096, .i32⟩
  | .hbm, ⟨4, _⟩ => ⟨S1x1024, .f32⟩
  | .hbm, ⟨5, _⟩ => ⟨S1024x6144, .bf16⟩
  | .hbm, ⟨6, _⟩ => ⟨S1024x4x1536, .bf16⟩
  | .hbm, ⟨7, _⟩ => ⟨S4x1024x1536, .bf16⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4096, .f32⟩
  | .hbm, ⟨17, _⟩ => ⟨S4096x1, .f32⟩
  | .hbm, ⟨18, _⟩ => ⟨S1x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S1x4096x1x32, .f32⟩
  | .hbm, ⟨25, _⟩ => ⟨S1x4096x4x32, .f32⟩
  | .hbm, ⟨26, _⟩ => ⟨S4096x128, .f32⟩
  | .hbm, ⟨27, _⟩ => ⟨S4096x32, .f32⟩
  | .hbm, ⟨28, _⟩ => ⟨S4096x64, .f32⟩
  | .hbm, ⟨29, _⟩ => ⟨S1x4096x1x64, .f32⟩
  | .hbm, ⟨30, _⟩ => ⟨S1x4096x2x64, .f32⟩
  | .hbm, ⟨31, _⟩ => ⟨S4096x128, .f32⟩
  | .hbm, ⟨32, _⟩ => ⟨S4096x6144, .bf16⟩
  | .hbm, ⟨33, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1536, .bf16⟩
  | .local _ .vmem, ⟨4, _⟩ => ⟨S1x1024x1536, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x1536, .bf16⟩
  | .local _ .vmem, ⟨10, _⟩ => ⟨S1024x1536, .bf16⟩
  | .local _ .vmem, ⟨11, _⟩ => ⟨S1024x1024, .bf16⟩
  | .local _ .vmem, ⟨12, _⟩ => ⟨S1024x1024, .bf16⟩
  | .local _ .vmem, ⟨13, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26_0 : Ref sig .tc := ⟨.hbm, 32, rfl⟩
abbrev main_v26_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v35 : Index := Scalar.indexCast v1
  let c0_16 : Index := 0#32
  ![v35.toNat, 0]
def k0_off2 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v8 : Index := Scalar.indexCast v1
  let c0 : Index := 0#32
  ![v8.toNat, 0]
def k0_cond3 (i : grid0.Coords) : BitVec 1 :=
  let arg0 : BitVec 32 := BitVec.ofNat 32 (i 0).val
  let c2_i32 : BitVec 32 := 2#32
  let v13 : BitVec 1 := Scalar.cmpi .slt arg0 c2_i32
  let v14 : BitVec 32 := Scalar.extui v13
  let c0_i32_6 : BitVec 32 := 0#32
  let v15 : BitVec 1 := Scalar.cmpi .ne v14 c0_i32_6
  v15

def k0_cond4 (i : grid0.Coords) : BitVec 1 :=
  let arg0 : BitVec 32 := BitVec.ofNat 32 (i 0).val
  let c2_i32_7 : BitVec 32 := 2#32
  let v16 : BitVec 1 := Scalar.cmpi .sge arg0 c2_i32_7
  let v17 : BitVec 32 := Scalar.extui v16
  let c0_i32_8 : BitVec 32 := 0#32
  let v18 : BitVec 1 := Scalar.cmpi .ne v17 c0_i32_8
  v18

def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference19Ideal.lean ====
abbrev S4096x1024 : Shape := ⟨2, ![4096, 1024]⟩
abbrev S1024 : Shape := ⟨1, ![1024]⟩
abbrev S1024x6144 : Shape := ⟨2, ![1024, 6144]⟩
abbrev S4096 : Shape := ⟨1, ![4096]⟩
abbrev S_ : Shape := ⟨0, ![]⟩
abbrev S4096x1 : Shape := ⟨2, ![4096, 1]⟩
abbrev S1x1024 : Shape := ⟨2, ![1, 1024]⟩
abbrev S4096x6144 : Shape := ⟨2, ![4096, 6144]⟩
abbrev S1x4096x2x48x64 : Shape := ⟨5, ![1, 4096, 2, 48, 64]⟩
abbrev S1x4096x1x48x64 : Shape := ⟨5, ![1, 4096, 1, 48, 64]⟩
abbrev S1x4096x48x64 : Shape := ⟨4, ![1, 4096, 48, 64]⟩
abbrev S1x4096 : Shape := ⟨2, ![1, 4096]⟩
abbrev S32 : Shape := ⟨1, ![32]⟩
abbrev S1x4096x1 : Shape := ⟨3, ![1, 4096, 1]⟩
abbrev S1x1x32 : Shape := ⟨3, ![1, 1, 32]⟩
abbrev S1x4096x32 : Shape := ⟨3, ![1, 4096, 32]⟩
abbrev S1x4096x1x32 : Shape := ⟨4, ![1, 4096, 1, 32]⟩
abbrev S1x4096x48x32 : Shape := ⟨4, ![1, 4096, 48, 32]⟩
abbrev S4096x3072 : Shape := ⟨2, ![4096, 3072]⟩

abbrev nBuf : Space → Nat
  | .hbm => 63
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S4096, .i32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x6144, .f32⟩
  | .hbm, ⟨21, _⟩ => ⟨S1x4096x2x48x64, .f32⟩
  | .hbm, ⟨22, _⟩ => ⟨S1x4096x1x48x64, .f32⟩
  | .hbm, ⟨23, _⟩ => ⟨S1x4096x48x64, .f32⟩
  | .hbm, ⟨24, _⟩ => ⟨S1x4096, .i32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S1x4096, .f32⟩
  | .hbm, ⟨34, _⟩ => ⟨S1x4096x1, .f32⟩
  | .hbm, ⟨35, _⟩ => ⟨S1x1x32, .f32⟩
  | .hbm, ⟨36, _⟩ => ⟨S1x4096x32, .f32⟩
  | .hbm, ⟨37, _⟩ => ⟨S1x4096x32, .f32⟩
  | .hbm, ⟨38, _⟩ => ⟨S1x4096x32, .f32⟩
  | .hbm, ⟨39, _⟩ => ⟨S1x4096x32, .f32⟩
  | .hbm, ⟨40, _⟩ => ⟨S1x4096x1x32, .f32⟩
  | .hbm, ⟨41, _⟩ => ⟨S1x4096x32, .f32⟩
  | .hbm, ⟨42, _⟩ => ⟨S1x4096x1x32, .f32⟩
  | .hbm, ⟨43, _⟩ => ⟨S1x4096x48x32, .f32⟩
  | .hbm, ⟨44, _⟩ => ⟨S1x4096x48x32, .f32⟩
  | .hbm, ⟨45, _⟩ => ⟨S1x4096x48x32, .f32⟩
  | .hbm, ⟨46, _⟩ => ⟨S1x4096x48x32, .f32⟩
  | .hbm, ⟨47, _⟩ => ⟨S1x4096x48x32, .f32⟩
  | .hbm, ⟨48, _⟩ => ⟨S1x4096x48x32, .f32⟩
  | .hbm, ⟨49, _⟩ => ⟨S1x4096x48x32, .f32⟩
  | .hbm, ⟨50, _⟩ => ⟨S1x4096x48x32, .f32⟩
  | .hbm, ⟨51, _⟩ => ⟨S1x4096x48x32, .f32⟩
  | .hbm, ⟨52, _⟩ => ⟨S1x4096x48x32, .f32⟩
  | .hbm, ⟨53, _⟩ => ⟨S1x4096x48x32, .f32⟩
  | .hbm, ⟨54, _⟩ => ⟨S1x4096x48x32, .f32⟩
  | .hbm, ⟨55, _⟩ => ⟨S1x4096x48x64, .f32⟩
  | .hbm, ⟨56, _⟩ => ⟨S4096x3072, .f32⟩
  | .hbm, ⟨57, _⟩ => ⟨S1x4096x1x48x64, .f32⟩
  | .hbm, ⟨58, _⟩ => ⟨S1x4096x48x64, .f32⟩
  | .hbm, ⟨59, _⟩ => ⟨S4096x3072, .f32⟩
  | .hbm, ⟨60, _⟩ => ⟨S4096x6144, .f32⟩
  | .hbm, ⟨61, _⟩ => ⟨S4096x6144, .bf16⟩
  | .hbm, ⟨62, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩

abbrev nD : Nat := 1
abbrev τ : Topo := Topo.v7x

variable {F : FTy → Type} [FloatOps F]
-- ==== Proof.Conv.Ring.lean ====
/- The write ring of the gated convolution's gradient: the result `main_v4_0` is written behind, three column slabs a grid
   step, through the two groups of three tiles of the scratch `cc0_scratch0`; a group's copies are waited two steps later,
   and the last step waits for its own and for the step before's.  This module names the tiles, the column slabs ("pieces")
   and the semaphore cells, says that they are disjoint and cover what they should, and gives the body's own spelling of each
   of them at grid point `t`.  What the slabs are to hold at the end is the parameter `G`. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cnd_0 (i : grid0.Coords) : Prop := k0_cond1 i = 1#1
/-- It holds at the points from point 2 on — decided over the grid. -/
theorem hc_0 : ∀ t : Fin cfg0.N, cnd_0 (grid0.coords t) ↔ 2 ≤ t.val :=
  (by decide +kernel : ∀ t : Fin grid0.N, cnd_0 (grid0.coords t) ↔ 2 ≤ t.val)

/-- The condition of the body's `scf.if` 1 (`k0_h2`), from the grid coordinates (the skeleton's scalar
    chain substituted). -/
abbrev cnd_1 (i : grid0.Coords) : Prop := k0_cond2 i = 1#1
/-- It holds at the last point only — by arithmetic of the point. -/
theorem hc_1 : ∀ t : Fin cfg0.N, cnd_1 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cnd_1, k0_cond2, e0]
    word_cmp
   : ∀ t : Fin grid0.N, cnd_1 (grid0.coords t) ↔ t.val % 8 = 7)

/-! ## The kernel body on any staging memrefs: a subtype the run finds -/

/-- One staging buffer of output window 5, through which its contents are stated (`View.read_writes_of_cover`: the
    choice does not matter). -/
abbrev stgW : View sig .tc .vmem S8x128 .f32 := (Memref.whole cc0_stg5_0 : Memref sig .tc .vmem S8x128 .f32).view
/-- Each window's current staging memref at point `t`, spelled as the pipeline passes it (`bodyAt0`), and its wholeness. -/
abbrev mst_0 (t : Fin cfg0.N) : Memref sig .tc .vmem S4096x128 .bf16 := win0_0.stage (cfg0.slots t 0)
abbrev hst_0 (t : Fin cfg0.N) : (mst_0 t).IsWhole := hstage0_0 ((cfg0.slots t 0).cast nbuf0_0)
abbrev mst_1 (t : Fin cfg0.N) : Memref sig .tc .vmem S4096x128 .bf16 := win0_1.stage (cfg0.slots t 1)
abbrev hst_1 (t : Fin cfg0.N) : (mst_1 t).IsWhole := hstage0_1 ((cfg0.slots t 1).cast nbuf0_1)
abbrev mst_2 (t : Fin cfg0.N) : Memref sig .tc .vmem S4096x128 .bf16 := win0_2.stage (cfg0.slots t 2)
abbrev hst_2 (t : Fin cfg0.N) : (mst_2 t).IsWhole := hstage0_2 ((cfg0.slots t 2).cast nbuf0_2)
abbrev mst_3 (t : Fin cfg0.N) : Memref sig .tc .vmem S1x8x128 .f32 := win0_3.stage (cfg0.slots t 3)
abbrev hst_3 (t : Fin cfg0.N) : (mst_3 t).IsWhole := hstage0_3 ((cfg0.slots t 3).cast nbuf0_3)
abbrev mst_4 (t : Fin cfg0.N) : Memref sig .tc .vmem S4096x128 .bf16 := win0_4.stage (cfg0.slots t 4)
abbrev hst_4 (t : Fin cfg0.N) : (mst_4 t).IsWhole := hstage0_4 ((cfg0.slots t 4).cast nbuf0_4)
abbrev mst_5 (t : Fin cfg0.N) : Memref sig .tc .vmem S8x128 .f32 := win0_5.stage (cfg0.slots t 5)
abbrev hst_5 (t : Fin cfg0.N) : (mst_5 t).IsWhole := hstage0_5 ((cfg0.slots t 5).cast nbuf0_5)
/-- The scratch operands: whole scoped buffers of the kernel's own, passed beside the windows. -/
abbrev scM : Memref sig .tc .vmem S2x3x4096x128 .bf16 := Memref.whole cc0_scratch0
/-- The results left in HBM that the body's own copies out of scratch write, whole. -/
abbrev dzM : Memref sig .tc .hbm S4096x3072 .bf16 := Memref.whole main_v4_0
/-- Memref `M`'s buffer on core `c`: its contents type, and it held whole at `f` — behind this abbreviation, so that the
    run's rewriting of the goal leaves `Memref.view` intact (the form the executor reads a held buffer in). -/
abbrev HBuf (c : Dev nD) {sp : Space} {S : Shape} {e : EltTy} (M : Memref sig .tc sp S e) : Type := Buf (Elt F) (M.view.loc (c : Thread nD τ))
abbrev hPt (c : Dev nD) {sp : Space} {S : Shape} {e : EltTy} (M : Memref sig .tc sp S e) (f : HBuf (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev oSem : Fin 6 → SemLoc sig := fun j => (![SemLoc.dma 12, SemLoc.dma 13, SemLoc.dma 14, SemLoc.dma 15, SemLoc.dma 16, SemLoc.dma 17] : Fin 6 → SemLoc sig) j
theorem oSemFacts : Pipeline.OwnSemFacts spec0 oSem := by decide
/-- The cells at zero, listed. -/
theorem oSems_eq (c : Dev nD) :
    (Pipeline.ownSems0 (Ix := Unit) (Name := ℕ) (U := Pipeline.UD sig nD τ) (Lvl := ℕ) (Val := Elt F) (τ := τ) oSem c : sProp 𝕄)
      = iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) := by
  rw [Pipeline.ownSems0_eq_of_list c oSem [0, 1, 2, 3, 4, 5] (by decide) (by decide)]; rfl
/-- The operands left in HBM that the body only reads: none. -/
def hRead : Finset (Ref sig .tc) := {}
theorem hRead_sub : hRead ⊆ Pipeline.restRefs sig spec0 := by decide
/-- The one it writes: the gradient `dz`. -/
def hWrit : Finset (Ref sig .tc) := {main_v4_0}
theorem hWrit_sub : hWrit ⊆ Pipeline.restRefs sig spec0 \ hRead := by decide
/-- The read operands' points-tos at the launch contents, listed (none: `emp`). -/
theorem hReadPts_eq (c : Dev nD) :
    (bigSep hRead (fun b => (c.tc.loc b) ↦{fullShare} V m c b) : sProp 𝕄) = iprop(emp) := by
  rw [BI.bigSep_eq_bigSepL_of_eq [] (by decide) (by decide)]; rfl
/-- What the launch hands the invariant, and takes back, with the result at the contents `W` names: the scratch at some
    contents, the generator register at some state, the cells at zero, the result. -/
theorem PhiDRG_eq (W : (c : Dev nD) → (b : Ref sig .tc) → Buf (Elt F) (c.tc.loc b)) (c : Dev nD) :
    (Pipeline.ΦDRG oSem spec0 hRead hWrit (V m) W c : sProp 𝕄)
      = iprop(iprop((∃ d, owns c.tc scM fullShare d)) ∗ (∃ r, prngReg c r) ∗ iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ iprop(emp) ∗ hPt c dzM (W c main_v4_0)) := by
  rw [Pipeline.ΦDRG_eq, scopedRest0_eq, oSems_eq, hReadPts_eq, show hWrit = {main_v4_0} from rfl, Pipeline.routed_singleton]
  simp only [scM, owns_whole]; try rfl

/-! ## The ring's tiles, slabs and cells -/

instance : NeZero grid0.N := ⟨by rw [N_0]; decide⟩
theorem inb_tile (g : Fin 2) (m : Fin 3) : ∀ a, (![g.val, m.val, 0, 0] : Fin 4 → Nat) a + S1x1x4096x128.size a ≤ S2x3x4096x128.size a := by
  have := g.isLt; have := m.isLt; intro a; fin_cases a <;> simp <;> omega
theorem inb_piece (u : Fin 8) (m : Fin 3) : ∀ a, (![0, 128 * u.val + 1024 * m.val] : Fin 2 → Nat) a + S4096x128.size a ≤ S4096x3072.size a := by
  have := u.isLt; have := m.isLt; intro a; fin_cases a <;> simp <;> omega
theorem inb_cell (g : Fin 2) (m : Fin 3) : ∀ a, (![g.val, m.val] : Fin 2 → Nat) a + S1x1.size a ≤ S2x3.size a := by
  have := g.isLt; have := m.isLt; intro a; fin_cases a <;> simp <;> omega
/-- Tile (g, m) of the ring — member m of group g —, spelt as the body's copies out spell their SOURCE, at offsets in g and m. -/
def tile (g : Fin 2) (m : Fin 3) : Memref sig .tc .vmem S4096x128 .bf16 :=
  (scM.slice (Rect.unit (s := S2x3x4096x128) ![g.val, m.val, 0, 0] S1x1x4096x128.size (inb_tile g m)) (fun _ => rfl)).squeeze S4096x128 squeezes_S1x1x4096x128_S4096x128
/-- Piece (u, m) of the result: what step u's copy of member m writes, spelt as the copies spell their DESTINATION. -/
def piece (u : Fin 8) (m : Fin 3) : Memref sig .tc .hbm S4096x128 .bf16 :=
  dzM.slice (Rect.unit (s := S4096x3072) ![0, 128 * u.val + 1024 * m.val] S4096x128.size (inb_piece u m)) (fun _ => rfl)
/-- Cell (g, m) of `cc0_scratch1`, the one tile (g, m)'s copy is counted on, spelt as the body spells a cell; its number in the pool. -/
def cellA (g : Fin 2) (m : Fin 3) : DmaSems sig S_ := (cc0_scratch1.slice (Rect.unit (s := S2x3) ![g.val, m.val] S1x1.size (inb_cell g m))).squeeze S_ squeezes_S1x1_S_
abbrev cellR (g : Fin 2) (m : Fin 3) : SemLoc sig := SemLoc.dma (cellA g m).sem
theorem cellR_0_0 : cellR 0 0 = SemLoc.dma 12 := by decide
theorem cellR_0_1 : cellR 0 1 = SemLoc.dma 13 := by decide
theorem cellR_0_2 : cellR 0 2 = SemLoc.dma 14 := by decide
theorem cellR_1_0 : cellR 1 0 = SemLoc.dma 15 := by decide
theorem cellR_1_1 : cellR 1 1 = SemLoc.dma 16 := by decide
theorem cellR_1_2 : cellR 1 2 = SemLoc.dma 17 := by decide

section Families
variable (c : Dev nD) (G : HBuf (F := F) c dzM)
/-- Tile (g, m) held at `e`; cell (g, m) at zero; slab (u, m) held at `f`; and the FLIGHT of tile (g, m)'s copy to slab
    (u, m): on arrival it delivers the tile back and the slab at the final contents `G`. -/
abbrev tileP (g : Fin 2) (m : Fin 3) (e : HBuf (F := F) c (tile g m)) : sProp 𝕄 := (tile g m).view.loc (c : Thread nD τ) ↦[(tile g m).view.set]{fullShare} e
abbrev cellP (g : Fin 2) (m : Fin 3) : sProp 𝕄 := semVal ((c : Thread nD τ), cellR g m) 0
abbrev pieceP (u : Fin 8) (m : Fin 3) (f : HBuf (F := F) c (piece u m)) : sProp 𝕄 := (piece u m).view.loc (c : Thread nD τ) ↦[(piece u m).view.set]{fullShare} f
abbrev flightP (g : Fin 2) (m : Fin 3) (u : Fin 8) : sProp 𝕄 :=
  iprop(∃ e, Transfers.Flight countersEmb (c : Thread nD τ) (cellR g m) default ((piece u m).view.amount (cellR g m)) iprop(pieceP c u m G ∗ tileP c g m e))
/-- The roles, each over the three members: group `g` free, group `g` in flight with step `u`'s copies, step `u`'s slabs not yet
    written, step `u`'s slabs written. -/
abbrev free (g : Fin 2) : sProp 𝕄 := iprop((cellP c g 0 ∗ ∃ e, tileP c g 0 e) ∗ (cellP c g 1 ∗ ∃ e, tileP c g 1 e) ∗ (cellP c g 2 ∗ ∃ e, tileP c g 2 e))
abbrev infl (g : Fin 2) (u : Fin 8) : sProp 𝕄 := iprop(flightP c G g 0 u ∗ flightP c G g 1 u ∗ flightP c G g 2 u)
abbrev ahead (u : Fin 8) : sProp 𝕄 := iprop((∃ f, pieceP c u 0 f) ∗ (∃ f, pieceP c u 1 f) ∗ ∃ f, pieceP c u 2 f)
abbrev behind (u : Fin 8) : sProp 𝕄 := iprop(pieceP c u 0 G ∗ pieceP c u 1 G ∗ pieceP c u 2 G)
/-- The ring before its step `k`. -/
def ringAt (k : ℕ) : sProp 𝕄 := Ring.AtBΦ 2 (free c) (infl c G) (ahead c) (behind c G) k
theorem free_eq (g : Fin 2) : (bigSep Finset.univ (fun m : Fin 3 => iprop(cellP (F := F) c g m ∗ ∃ e, tileP c g m e)) : sProp 𝕄) = free c g := by
  rw [BI.bigSep_eq_bigSepL_of_eq [0, 1, 2] (by decide) (by decide)]; rfl
theorem ahead_eq (u : Fin 8) : (bigSep Finset.univ (fun m : Fin 3 => iprop(∃ f, pieceP (F := F) c u m f)) : sProp 𝕄) = ahead c u := by
  rw [BI.bigSep_eq_bigSepL_of_eq [0, 1, 2] (by decide) (by decide)]; rfl
theorem behind_eq (u : Fin 8) : (bigSep Finset.univ (fun m : Fin 3 => pieceP (F := F) c u m G) : sProp 𝕄) = behind c G u := by
  rw [BI.bigSep_eq_bigSepL_of_eq [0, 1, 2] (by decide) (by decide)]; rfl
omit [FloatOps F] in
theorem cellP_0_0 : cellP (F := F) c 0 0 = semVal ((c : Thread nD τ), SemLoc.dma 12) 0 := congrArg (fun x => (semVal ((c : Thread nD τ), x) 0 : sProp 𝕄)) cellR_0_0
omit [FloatOps F] in
theorem cellP_0_1 : cellP (F := F) c 0 1 = semVal ((c : Thread nD τ), SemLoc.dma 13) 0 := congrArg (fun x => (semVal ((c : Thread nD τ), x) 0 : sProp 𝕄)) cellR_0_1
omit [FloatOps F] in
theorem cellP_0_2 : cellP (F := F) c 0 2 = semVal ((c : Thread nD τ), SemLoc.dma 14) 0 := congrArg (fun x => (semVal ((c : Thread nD τ), x) 0 : sProp 𝕄)) cellR_0_2
omit [FloatOps F] in
theorem cellP_1_0 : cellP (F := F) c 1 0 = semVal ((c : Thread nD τ), SemLoc.dma 15) 0 := congrArg (fun x => (semVal ((c : Thread nD τ), x) 0 : sProp 𝕄)) cellR_1_0
omit [FloatOps F] in
theorem cellP_1_1 : cellP (F := F) c 1 1 = semVal ((c : Thread nD τ), SemLoc.dma 16) 0 := congrArg (fun x => (semVal ((c : Thread nD τ), x) 0 : sProp 𝕄)) cellR_1_1
omit [FloatOps F] in
theorem cellP_1_2 : cellP (F := F) c 1 2 = semVal ((c : Thread nD τ), SemLoc.dma 17) 0 := congrArg (fun x => (semVal ((c : Thread nD τ), x) 0 : sProp 𝕄)) cellR_1_2
end Families

/-! ### The tiles: disjoint boxes -/

abbrev tileOff (i : Fin 2 × Fin 3) : Fin 4 → Nat := ![i.1.val, i.2.val, 0, 0]
theorem inb_tile' (i : Fin 2 × Fin 3) : ∀ a, tileOff i a + S1x1x4096x128.size a ≤ S2x3x4096x128.size a := inb_tile i.1 i.2
abbrev tileSet (i : Fin 2 × Fin 3) : Finset S2x3x4096x128.Idx := (Rect.unit (s := S2x3x4096x128) (tileOff i) S1x1x4096x128.size (inb_tile' i)).set
theorem tileSet_eq (g : Fin 2) (m : Fin 3) : (tile g m).view.set = tileSet (g, m) := by
  simp only [tile, Memref.view_squeeze, View.set_reshape]; exact View.set_slice_whole _ _
/-- tile i's box index per axis (offset / extent), and the tile at a box index (its left inverse). -/
def tileIx (i : Fin 2 × Fin 3) : Fin 4 → ℕ := ![i.1.val, i.2.val, 0, 0]
def tileUn (v : Fin 4 → ℕ) : Fin 2 × Fin 3 := (Fin.ofNat 2 (v 0), Fin.ofNat 3 (v 1))
theorem tileUn_left : ∀ i : Fin 2 × Fin 3, tileUn (tileIx i) = i := by decide +kernel
theorem tiles_disjoint (i i' : Fin 2 × Fin 3) (h : i ≠ i') : Disjoint (tileSet i) (tileSet i') :=
  Ring.boxes_disjoint (s := S2x3x4096x128) S1x1x4096x128.size tileOff inb_tile' tileIx
    (fun i a => by fin_cases a <;> simp [tileOff, tileIx] <;> omega) tileUn tileUn_left i i' h

/-! ### The pieces: disjoint boxes -/

abbrev pieceOff (i : Fin 8 × Fin 3) : Fin 2 → Nat := ![0, 128 * i.1.val + 1024 * i.2.val]
theorem inb_piece' (i : Fin 8 × Fin 3) : ∀ a, pieceOff i a + S4096x128.size a ≤ S4096x3072.size a := inb_piece i.1 i.2
abbrev pieceSet (i : Fin 8 × Fin 3) : Finset S4096x3072.Idx := (Rect.unit (s := S4096x3072) (pieceOff i) S4096x128.size (inb_piece' i)).set
theorem pieceSet_eq (u : Fin 8) (m : Fin 3) : (piece u m).view.set = pieceSet (u, m) := by
  simp only [piece, Memref.view_squeeze, View.set_reshape]; exact View.set_slice_whole _ _
/-- piece i's box index per axis (offset / extent), and the piece at a box index (its left inverse). -/
def pieceIx (i : Fin 8 × Fin 3) : Fin 2 → ℕ := ![0, i.1.val + 8 * i.2.val]
def pieceUn (v : Fin 2 → ℕ) : Fin 8 × Fin 3 := (Fin.ofNat 8 (v 1 % 8), Fin.ofNat 3 (v 1 / 8))
theorem pieceUn_left : ∀ i : Fin 8 × Fin 3, pieceUn (pieceIx i) = i := by decide +kernel
theorem pieces_disjoint (i i' : Fin 8 × Fin 3) (h : i ≠ i') : Disjoint (pieceSet i) (pieceSet i') :=
  Ring.boxes_disjoint (s := S4096x3072) S4096x128.size pieceOff inb_piece' pieceIx
    (fun i a => by fin_cases a <;> simp [pieceOff, pieceIx] <;> omega) pieceUn pieceUn_left i i' h

section InOut
variable (c : Dev nD) (G : HBuf (F := F) c dzM)
theorem tileP_eq (g : Fin 2) (m : Fin 3) (e) : tileP (F := F) c g m e = ((c.tc.loc cc0_scratch0) ↦[tileSet (g, m)]{fullShare} e : sProp 𝕄) := by
  unfold tileP; rw [tileSet_eq]; rfl
theorem pieceP_eq (u : Fin 8) (m : Fin 3) (f) : pieceP (F := F) c u m f = ((c.tc.loc main_v4_0) ↦[pieceSet (u, m)]{fullShare} f : sProp 𝕄) := by
  unfold pieceP; rw [pieceSet_eq]; rfl
/-- The scratch's elements outside every tile, and the result's outside every piece: carried beside the ring at some contents, handed
    to no run (no statement of the body names them). -/
abbrev tileSpare : sProp 𝕄 := iprop(∃ f : Buf (Elt F) (c.tc.loc cc0_scratch0), (c.tc.loc cc0_scratch0) ↦[Finset.univ \ Finset.univ.biUnion tileSet]{fullShare} f)
/-- the scratch whole at anything is its tiles at something each and the spare elements; the result likewise its pieces; and back. -/
theorem tiles_in : iprop(∃ d, owns c.tc scM fullShare d) ⊢ (iprop(bigSep Finset.univ (fun i : Fin 2 × Fin 3 => iprop(∃ e, tileP (F := F) c i.1 i.2 e)) ∗ tileSpare c) : sProp 𝕄) := by
  simp only [scM, owns_whole]
  exact Ring.pieces_split_spare (U := Pipeline.UD sig nD τ) (ℓ := (c : Thread nD τ).loc cc0_scratch0) (q := fullShare) tileSet tiles_disjoint
    (fun i e => tileP c i.1 i.2 e) (fun i e => tileP_eq c i.1 i.2 e)
theorem tiles_out : (iprop(bigSep Finset.univ (fun i : Fin 2 × Fin 3 => iprop(∃ e, tileP (F := F) c i.1 i.2 e)) ∗ tileSpare c) : sProp 𝕄) ⊢ iprop(∃ d, owns c.tc scM fullShare d) := by
  simp only [scM, owns_whole]
  exact Ring.pieces_join_spare (U := Pipeline.UD sig nD τ) (ℓ := (c : Thread nD τ).loc cc0_scratch0) (q := fullShare) tileSet tiles_disjoint
    (fun i e => tileP c i.1 i.2 e) (fun i e => tileP_eq c i.1 i.2 e)
/-- Every index of the result lies in a slab: column `n` in slab `(n / 128 % 8, n / 1024)`. -/
theorem pieces_cover : Finset.univ.biUnion pieceSet = (Finset.univ : Finset S4096x3072.Idx) := by
  refine Finset.eq_univ_iff_forall.mpr fun y => Finset.mem_biUnion.mpr ?_
  have h0 : (y 0).val < 4096 := (y 0).isLt
  have h1 : (y 1).val < 3072 := (y 1).isLt
  refine ⟨(⟨(y 1).val / 128 % 8, by omega⟩, ⟨(y 1).val / 1024, by omega⟩), Finset.mem_univ _, ?_⟩
  rw [Rect.mem_set_unit]
  intro a; fin_cases a
  · exact ⟨Nat.zero_le _, by show (y 0).val < 0 + 4096; omega⟩
  · exact ⟨by show 128 * ((y 1).val / 128 % 8) + 1024 * ((y 1).val / 1024) ≤ (y 1).val; omega,
      by show (y 1).val < 128 * ((y 1).val / 128 % 8) + 1024 * ((y 1).val / 1024) + 128; omega⟩
theorem pieces_in (f : HBuf (F := F) c dzM) : hPt c dzM f ⊢ (bigSep Finset.univ (fun i : Fin 8 × Fin 3 => iprop(∃ f, pieceP (F := F) c i.1 i.2 f)) : sProp 𝕄) := by
  unfold hPt
  refine (show _ ⊢ iprop(∃ f : Buf (Elt F) (c.tc.loc main_v4_0), (c.tc.loc main_v4_0) ↦{fullShare} f) from by iintro H; iexists f; iexact H).trans ?_
  exact Ring.pieces_split (U := Pipeline.UD sig nD τ) (ℓ := (c : Thread nD τ).loc main_v4_0) (q := fullShare) pieceSet pieces_disjoint pieces_cover
    (fun i f => pieceP c i.1 i.2 f) (fun i f => pieceP_eq c i.1 i.2 f)
theorem pieces_out : (bigSep Finset.univ (fun i : Fin 8 × Fin 3 => pieceP (F := F) c i.1 i.2 G) : sProp 𝕄) ⊢ hPt c dzM G := by
  unfold hPt
  rw [BI.bigSep_congr (Ψ := fun i : Fin 8 × Fin 3 => ((c.tc.loc main_v4_0) ↦[pieceSet i]{fullShare} G : sProp 𝕄)) fun i _ => pieceP_eq c i.1 i.2 G]
  exact Entails.of_eq (Ring.pointsTo_blocks (Ix := Unit) (Name := ℕ) (U := Pipeline.UD sig nD τ) (Lvl := ℕ) (ℓ := (c : Thread nD τ).loc main_v4_0) (q := fullShare) pieceSet
    pieces_disjoint pieces_cover G).symm
/-- The ring's cells at zero, listed as the launch lists them, are the family over (group, member). -/
theorem cells_eq : (bigSep Finset.univ (fun i : Fin 2 × Fin 3 => cellP (F := F) c i.1 i.2) : sProp 𝕄) = iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) := by
  rw [BI.bigSep_eq_bigSepL_of_eq [(0, 0), (0, 1), (0, 2), (1, 0), (1, 1), (1, 2)] (by decide) (by decide)]; simp only [BI.bigSepL_cons_cons, BI.bigSepL_singleton, cellP_0_0, cellP_0_1, cellP_0_2, cellP_1_0, cellP_1_1, cellP_1_2]; rfl
/-- the two families over (group, member) regrouped by group are the groups free; the pieces over (step, member), the steps home -/
theorem frees_eq : iprop(bigSep Finset.univ (fun i : Fin 2 × Fin 3 => cellP (F := F) c i.1 i.2) ∗ bigSep Finset.univ (fun i : Fin 2 × Fin 3 => iprop(∃ e, tileP (F := F) c i.1 i.2 e))) = (bigSep Finset.univ (free c) : sProp 𝕄) := by
  exact (Ring.groups_of_parts (fun g m => cellP (F := F) c g m) (fun g m => iprop(∃ e, tileP (F := F) c g m e))).trans (BI.bigSep_congr fun g _ => free_eq c g)
theorem aheads_eq : (bigSep Finset.univ (fun i : Fin 8 × Fin 3 => iprop(∃ f, pieceP (F := F) c i.1 i.2 f)) : sProp 𝕄) = bigSep Finset.univ (ahead c) := by
  rw [BI.bigSep_univ_prod]; exact BI.bigSep_congr fun u _ => ahead_eq c u
theorem behinds_eq : (bigSep Finset.univ (fun i : Fin 8 × Fin 3 => pieceP (F := F) c i.1 i.2 G) : sProp 𝕄) = bigSep Finset.univ (behind c G) := by
  rw [BI.bigSep_univ_prod]; exact BI.bigSep_congr fun u _ => behind_eq c G u
end InOut

/-- INTO THE RING: the scratch whole, the cells at zero and the result whole are the ring before step 0, with the scratch's
    elements outside every tile beside it. -/
theorem ring_in (c : Dev nD) (G f : HBuf (F := F) c dzM) :
    iprop((∃ d, owns c.tc scM fullShare d) ∗ (semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ hPt (F := F) c dzM f)
      ⊢ iprop(ringAt (F := F) c G 0 ∗ tileSpare c) := by
  unfold ringAt; rw [Ring.AtBΦ_lt _ _ _ _ _ 0 (by decide), Ring.AtB_zero]; unfold Ring.AtB₀
  rw [← aheads_eq, ← frees_eq, cells_eq]
  iintro ⟨HS, HQ, HD⟩
  ihave HS' := (tiles_in (F := F) c) $$ HS
  icases HS' with ⟨HT, HTsp⟩
  ihave HP := (pieces_in (F := F) c f) $$ HD
  isplitl [HP HQ HT]
  · isplitl [HP]
    · iexact HP
    isplitl [HQ]
    · iexact HQ
    iexact HT
  iexact HTsp
/-- OUT OF THE RING: after the last step those pieces again, the result at `G`. -/
theorem ring_out (c : Dev nD) (G : HBuf (F := F) c dzM) :
    iprop(ringAt (F := F) c G 8 ∗ tileSpare c)
      ⊢ iprop((∃ d, owns c.tc scM fullShare d) ∗ (semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) ∗ hPt (F := F) c dzM G) := by
  unfold ringAt; rw [Ring.AtBΦ_ge _ _ _ _ _ 8 (by decide)]; unfold Ring.AtBEnd
  rw [← behinds_eq, ← frees_eq, cells_eq]
  iintro ⟨⟨HP, HQ, HT⟩, HTsp⟩
  isplitl [HT HTsp]
  · iapply (tiles_out (F := F) c)
    isplitl [HT]
    · iexact HT
    iexact HTsp
  isplitl [HQ]
  · iexact HQ
  iapply (pieces_out (F := F) c G)
  iexact HP

/-! ## The body's own spelling of the ring's names at grid point `t` -/

section Names
omit [FloatOps F]
/-- At the points of case A the write ring BOOTS (a step that waits nothing). -/
theorem step_A : ∀ t : Fin grid0.N, ¬cnd_0 (grid0.coords t) → ¬cnd_1 (grid0.coords t) → t.val < 2 ∧ (t.val + 1) = t.val + 1 := by decide +kernel
/-- At the points of case B the write ring takes a STEADY step. -/
theorem step_B : ∀ t : Fin grid0.N, cnd_0 (grid0.coords t) → ¬cnd_1 (grid0.coords t) → 2 ≤ t.val ∧ t.val + 1 < 8 ∧ (t.val + 1) = t.val + 1 := by decide +kernel
/-- At the points of case C the write ring takes its LAST step (and drains). -/
theorem step_C : ∀ t : Fin grid0.N, cnd_0 (grid0.coords t) → cnd_1 (grid0.coords t) → 2 ≤ t.val ∧ t.val + 1 = 8 ∧ (t.val + 1) = t.val + 1 := by decide +kernel
set_option synthInstance.maxSize 4096 in
theorem coff_1 : ∀ t : Fin grid0.N, k0_off11 (grid0.coords t) = ![(Ring.sl 2 t.val).val, 0] := by decide +kernel
@[sl_canon] theorem canon_1 (t : Fin grid0.N) :
    (cc0_scratch1.slice (Rect.unit (s := S2x3) (k0_off11 (grid0.coords t)) S1x1.size (k0_off11_inb (grid0.coords t)))).squeeze S_ squeezes_S1x1_S_ = cellA (Ring.sl 2 t.val) 0 :=
  congrArg (fun A : DmaSems sig S1x1 => A.squeeze S_ squeezes_S1x1_S_) (SemArray.slice_unit_congr _ (coff_1 t) _ _)
@[sl_canon] theorem canon_1' (t : Fin grid0.N) :
    (cc0_scratch1.slice (Rect.unit (s := S2x3) (k0_off11 (grid0.coords t)) ![1, 1] (k0_off11_inb (grid0.coords t)))).squeeze S_ squeezes_S1x1_S_ = cellA (Ring.sl 2 t.val) 0 :=
  canon_1 t
set_option synthInstance.maxSize 4096 in
theorem coff_2 : ∀ t : Fin grid0.N, k0_off13 (grid0.coords t) = ![(Ring.sl 2 t.val).val, 0, 0, 0] := by decide +kernel
@[sl_canon] theorem canon_2 (t : Fin grid0.N) :
    (scM.slice (Rect.unit (s := S2x3x4096x128) (k0_off13 (grid0.coords t)) S1x1x4096x128.size (k0_off13_inb (grid0.coords t))) (fun _ => rfl)).squeeze S4096x128 squeezes_S1x1x4096x128_S4096x128 = tile (Ring.sl 2 t.val) 0 :=
  congrArg (fun M : Memref sig .tc .vmem S1x1x4096x128 .bf16 => M.squeeze S4096x128 squeezes_S1x1x4096x128_S4096x128) (Memref.slice_unit_congr _ (coff_2 t) _ _ (fun _ => rfl) (fun _ => rfl))
@[sl_canon] theorem canon_2' (t : Fin grid0.N) :
    (scM.slice (Rect.unit (s := S2x3x4096x128) (k0_off13 (grid0.coords t)) ![1, 1, 4096, 128] (k0_off13_inb (grid0.coords t))) (fun _ => rfl)).squeeze S4096x128 squeezes_S1x1x4096x128_S4096x128 = tile (Ring.sl 2 t.val) 0 :=
  canon_2 t
set_option synthInstance.maxSize 4096 in
theorem coff_3 : ∀ t : Fin grid0.N, k0_off12 (grid0.coords t) 0#32 = ![0, 128 * (Ring.bk 8 t.val).val + 1024 * 0] := by decide +kernel
@[sl_canon] theorem canon_3 (t : Fin grid0.N) :
    dzM.slice (Rect.unit (s := S4096x3072) (k0_off12 (grid0.coords t) 0#32) S4096x128.size (k0_off12_inb (grid0.coords t) 0)) (fun _ => rfl) = piece (Ring.bk 8 t.val) 0 :=
  congrArg (fun M : Memref sig .tc .hbm S4096x128 .bf16 => M) (Memref.slice_unit_congr _ (coff_3 t) _ _ (fun _ => rfl) (fun _ => rfl))
@[sl_canon] theorem canon_3' (t : Fin grid0.N) :
    dzM.slice (Rect.unit (s := S4096x3072) (k0_off12 (grid0.coords t) 0#32) ![4096, 128] (k0_off12_inb (grid0.coords t) 0)) (fun _ => rfl) = piece (Ring.bk 8 t.val) 0 :=
  canon_3 t
set_option synthInstance.maxSize 4096 in
theorem coff_4 : ∀ t : Fin grid0.N, k0_off14 (grid0.coords t) = ![(Ring.sl 2 t.val).val, 1] := by decide +kernel
@[sl_canon] theorem canon_4 (t : Fin grid0.N) :
    (cc0_scratch1.slice (Rect.unit (s := S2x3) (k0_off14 (grid0.coords t)) S1x1.size (k0_off14_inb (grid0.coords t)))).squeeze S_ squeezes_S1x1_S_ = cellA (Ring.sl 2 t.val) 1 :=
  congrArg (fun A : DmaSems sig S1x1 => A.squeeze S_ squeezes_S1x1_S_) (SemArray.slice_unit_congr _ (coff_4 t) _ _)
@[sl_canon] theorem canon_4' (t : Fin grid0.N) :
    (cc0_scratch1.slice (Rect.unit (s := S2x3) (k0_off14 (grid0.coords t)) ![1, 1] (k0_off14_inb (grid0.coords t)))).squeeze S_ squeezes_S1x1_S_ = cellA (Ring.sl 2 t.val) 1 :=
  canon_4 t
set_option synthInstance.maxSize 4096 in
theorem coff_5 : ∀ t : Fin grid0.N, k0_off15 (grid0.coords t) = ![(Ring.sl 2 t.val).val, 1, 0, 0] := by decide +kernel
@[sl_canon] theorem canon_5 (t : Fin grid0.N) :
    (scM.slice (Rect.unit (s := S2x3x4096x128) (k0_off15 (grid0.coords t)) S1x1x4096x128.size (k0_off15_inb (grid0.coords t))) (fun _ => rfl)).squeeze S4096x128 squeezes_S1x1x4096x128_S4096x128 = tile (Ring.sl 2 t.val) 1 :=
  congrArg (fun M : Memref sig .tc .vmem S1x1x4096x128 .bf16 => M.squeeze S4096x128 squeezes_S1x1x4096x128_S4096x128) (Memref.slice_unit_congr _ (coff_5 t) _ _ (fun _ => rfl) (fun _ => rfl))
@[sl_canon] theorem canon_5' (t : Fin grid0.N) :
    (scM.slice (Rect.unit (s := S2x3x4096x128) (k0_off15 (grid0.coords t)) ![1, 1, 4096, 128] (k0_off15_inb (grid0.coords t))) (fun _ => rfl)).squeeze S4096x128 squeezes_S1x1x4096x128_S4096x128 = tile (Ring.sl 2 t.val) 1 :=
  canon_5 t
set_option synthInstance.maxSize 4096 in
theorem coff_6 : ∀ t : Fin grid0.N, k0_off12 (grid0.coords t) 8#32 = ![0, 128 * (Ring.bk 8 t.val).val + 1024 * 1] := by decide +kernel
@[sl_canon] theorem canon_6 (t : Fin grid0.N) :
    dzM.slice (Rect.unit (s := S4096x3072) (k0_off12 (grid0.coords t) 8#32) S4096x128.size (k0_off12_inb (grid0.coords t) 1)) (fun _ => rfl) = piece (Ring.bk 8 t.val) 1 :=
  congrArg (fun M : Memref sig .tc .hbm S4096x128 .bf16 => M) (Memref.slice_unit_congr _ (coff_6 t) _ _ (fun _ => rfl) (fun _ => rfl))
@[sl_canon] theorem canon_6' (t : Fin grid0.N) :
    dzM.slice (Rect.unit (s := S4096x3072) (k0_off12 (grid0.coords t) 8#32) ![4096, 128] (k0_off12_inb (grid0.coords t) 1)) (fun _ => rfl) = piece (Ring.bk 8 t.val) 1 :=
  canon_6 t
set_option synthInstance.maxSize 4096 in
theorem coff_7 : ∀ t : Fin grid0.N, k0_off16 (grid0.coords t) = ![(Ring.sl 2 t.val).val, 2] := by decide +kernel
@[sl_canon] theorem canon_7 (t : Fin grid0.N) :
    (cc0_scratch1.slice (Rect.unit (s := S2x3) (k0_off16 (grid0.coords t)) S1x1.size (k0_off16_inb (grid0.coords t)))).squeeze S_ squeezes_S1x1_S_ = cellA (Ring.sl 2 t.val) 2 :=
  congrArg (fun A : DmaSems sig S1x1 => A.squeeze S_ squeezes_S1x1_S_) (SemArray.slice_unit_congr _ (coff_7 t) _ _)
@[sl_canon] theorem canon_7' (t : Fin grid0.N) :
    (cc0_scratch1.slice (Rect.unit (s := S2x3) (k0_off16 (grid0.coords t)) ![1, 1] (k0_off16_inb (grid0.coords t)))).squeeze S_ squeezes_S1x1_S_ = cellA (Ring.sl 2 t.val) 2 :=
  canon_7 t
set_option synthInstance.maxSize 4096 in
theorem coff_8 : ∀ t : Fin grid0.N, k0_off17 (grid0.coords t) = ![(Ring.sl 2 t.val).val, 2, 0, 0] := by decide +kernel
@[sl_canon] theorem canon_8 (t : Fin grid0.N) :
    (scM.slice (Rect.unit (s := S2x3x4096x128) (k0_off17 (grid0.coords t)) S1x1x4096x128.size (k0_off17_inb (grid0.coords t))) (fun _ => rfl)).squeeze S4096x128 squeezes_S1x1x4096x128_S4096x128 = tile (Ring.sl 2 t.val) 2 :=
  congrArg (fun M : Memref sig .tc .vmem S1x1x4096x128 .bf16 => M.squeeze S4096x128 squeezes_S1x1x4096x128_S4096x128) (Memref.slice_unit_congr _ (coff_8 t) _ _ (fun _ => rfl) (fun _ => rfl))
@[sl_canon] theorem canon_8' (t : Fin grid0.N) :
    (scM.slice (Rect.unit (s := S2x3x4096x128) (k0_off17 (grid0.coords t)) ![1, 1, 4096, 128] (k0_off17_inb (grid0.coords t))) (fun _ => rfl)).squeeze S4096x128 squeezes_S1x1x4096x128_S4096x128 = tile (Ring.sl 2 t.val) 2 :=
  canon_8 t
set_option synthInstance.maxSize 4096 in
theorem coff_9 : ∀ t : Fin grid0.N, k0_off12 (grid0.coords t) 16#32 = ![0, 128 * (Ring.bk 8 t.val).val + 1024 * 2] := by decide +kernel
@[sl_canon] theorem canon_9 (t : Fin grid0.N) :
    dzM.slice (Rect.unit (s := S4096x3072) (k0_off12 (grid0.coords t) 16#32) S4096x128.size (k0_off12_inb (grid0.coords t) 2)) (fun _ => rfl) = piece (Ring.bk 8 t.val) 2 :=
  congrArg (fun M : Memref sig .tc .hbm S4096x128 .bf16 => M) (Memref.slice_unit_congr _ (coff_9 t) _ _ (fun _ => rfl) (fun _ => rfl))
@[sl_canon] theorem canon_9' (t : Fin grid0.N) :
    dzM.slice (Rect.unit (s := S4096x3072) (k0_off12 (grid0.coords t) 16#32) ![4096, 128] (k0_off12_inb (grid0.coords t) 2)) (fun _ => rfl) = piece (Ring.bk 8 t.val) 2 :=
  canon_9 t
set_option synthInstance.maxSize 4096 in
theorem coff_10 : ∀ t : Fin grid0.N, k0_off1 (grid0.coords t) = ![(Ring.sl 2 t.val).val, 0] := by decide +kernel
@[sl_canon] theorem canon_10 (t : Fin grid0.N) (h0 : cnd_0 (grid0.coords t)) :
    (cc0_scratch1.slice (Rect.unit (s := S2x3) (k0_off1 (grid0.coords t)) S1x1.size (k0_off1_inb (grid0.coords t) h0))).squeeze S_ squeezes_S1x1_S_ = cellA (Ring.sl 2 t.val) 0 :=
  congrArg (fun A : DmaSems sig S1x1 => A.squeeze S_ squeezes_S1x1_S_) (SemArray.slice_unit_congr _ (coff_10 t) _ _)
@[sl_canon] theorem canon_10' (t : Fin grid0.N) (h0 : cnd_0 (grid0.coords t)) :
    (cc0_scratch1.slice (Rect.unit (s := S2x3) (k0_off1 (grid0.coords t)) ![1, 1] (k0_off1_inb (grid0.coords t) h0))).squeeze S_ squeezes_S1x1_S_ = cellA (Ring.sl 2 t.val) 0 :=
  canon_10 t h0
set_option synthInstance.maxSize 4096 in
theorem coff_11 : ∀ t : Fin grid0.N, k0_off3 (grid0.coords t) = ![(Ring.sl 2 t.val).val, 0, 0, 0] := by decide +kernel
@[sl_canon] theorem canon_11 (t : Fin grid0.N) (h0 : cnd_0 (grid0.coords t)) :
    (scM.slice (Rect.unit (s := S2x3x4096x128) (k0_off3 (grid0.coords t)) S1x1x4096x128.size (k0_off3_inb (grid0.coords t) h0)) (fun _ => rfl)).squeeze S4096x128 squeezes_S1x1x4096x128_S4096x128 = tile (Ring.sl 2 t.val) 0 :=
  congrArg (fun M : Memref sig .tc .vmem S1x1x4096x128 .bf16 => M.squeeze S4096x128 squeezes_S1x1x4096x128_S4096x128) (Memref.slice_unit_congr _ (coff_11 t) _ _ (fun _ => rfl) (fun _ => rfl))
@[sl_canon] theorem canon_11' (t : Fin grid0.N) (h0 : cnd_0 (grid0.coords t)) :
    (scM.slice (Rect.unit (s := S2x3x4096x128) (k0_off3 (grid0.coords t)) ![1, 1, 4096, 128] (k0_off3_inb (grid0.coords t) h0)) (fun _ => rfl)).squeeze S4096x128 squeezes_S1x1x4096x128_S4096x128 = tile (Ring.sl 2 t.val) 0 :=
  canon_11 t h0
set_option synthInstance.maxSize 4096 in
theorem coff_12 : ∀ t : Fin grid0.N, k0_off4 (grid0.coords t) = ![(Ring.sl 2 t.val).val, 1] := by decide +kernel
@[sl_canon] theorem canon_12 (t : Fin grid0.N) (h0 : cnd_0 (grid0.coords t)) :
    (cc0_scratch1.slice (Rect.unit (s := S2x3) (k0_off4 (grid0.coords t)) S1x1.size (k0_off4_inb (grid0.coords t) h0))).squeeze S_ squeezes_S1x1_S_ = cellA (Ring.sl 2 t.val) 1 :=
  congrArg (fun A : DmaSems sig S1x1 => A.squeeze S_ squeezes_S1x1_S_) (SemArray.slice_unit_congr _ (coff_12 t) _ _)
@[sl_canon] theorem canon_12' (t : Fin grid0.N) (h0 : cnd_0 (grid0.coords t)) :
    (cc0_scratch1.slice (Rect.unit (s := S2x3) (k0_off4 (grid0.coords t)) ![1, 1] (k0_off4_inb (grid0.coords t) h0))).squeeze S_ squeezes_S1x1_S_ = cellA (Ring.sl 2 t.val) 1 :=
  canon_12 t h0
set_option synthInstance.maxSize 4096 in
theorem coff_13 : ∀ t : Fin grid0.N, k0_off5 (grid0.coords t) = ![(Ring.sl 2 t.val).val, 1, 0, 0] := by decide +kernel
@[sl_canon] theorem canon_13 (t : Fin grid0.N) (h0 : cnd_0 (grid0.coords t)) :
    (scM.slice (Rect.unit (s := S2x3x4096x128) (k0_off5 (grid0.coords t)) S1x1x4096x128.size (k0_off5_inb (grid0.coords t) h0)) (fun _ => rfl)).squeeze S4096x128 squeezes_S1x1x4096x128_S4096x128 = tile (Ring.sl 2 t.val) 1 :=
  congrArg (fun M : Memref sig .tc .vmem S1x1x4096x128 .bf16 => M.squeeze S4096x128 squeezes_S1x1x4096x128_S4096x128) (Memref.slice_unit_congr _ (coff_13 t) _ _ (fun _ => rfl) (fun _ => rfl))
@[sl_canon] theorem canon_13' (t : Fin grid0.N) (h0 : cnd_0 (grid0.coords t)) :
    (scM.slice (Rect.unit (s := S2x3x4096x128) (k0_off5 (grid0.coords t)) ![1, 1, 4096, 128] (k0_off5_inb (grid0.coords t) h0)) (fun _ => rfl)).squeeze S4096x128 squeezes_S1x1x4096x128_S4096x128 = tile (Ring.sl 2 t.val) 1 :=
  canon_13 t h0
set_option synthInstance.maxSize 4096 in
theorem coff_14 : ∀ t : Fin grid0.N, k0_off6 (grid0.coords t) = ![(Ring.sl 2 t.val).val, 2] := by decide +kernel
@[sl_canon] theorem canon_14 (t : Fin grid0.N) (h0 : cnd_0 (grid0.coords t)) :
    (cc0_scratch1.slice (Rect.unit (s := S2x3) (k0_off6 (grid0.coords t)) S1x1.size (k0_off6_inb (grid0.coords t) h0))).squeeze S_ squeezes_S1x1_S_ = cellA (Ring.sl 2 t.val) 2 :=
  congrArg (fun A : DmaSems sig S1x1 => A.squeeze S_ squeezes_S1x1_S_) (SemArray.slice_unit_congr _ (coff_14 t) _ _)
@[sl_canon] theorem canon_14' (t : Fin grid0.N) (h0 : cnd_0 (grid0.coords t)) :
    (cc0_scratch1.slice (Rect.unit (s := S2x3) (k0_off6 (grid0.coords t)) ![1, 1] (k0_off6_inb (grid0.coords t) h0))).squeeze S_ squeezes_S1x1_S_ = cellA (Ring.sl 2 t.val) 2 :=
  canon_14 t h0
set_option synthInstance.maxSize 4096 in
theorem coff_15 : ∀ t : Fin grid0.N, k0_off7 (grid0.coords t) = ![(Ring.sl 2 t.val).val, 2, 0, 0] := by decide +kernel
@[sl_canon] theorem canon_15 (t : Fin grid0.N) (h0 : cnd_0 (grid0.coords t)) :
    (scM.slice (Rect.unit (s := S2x3x4096x128) (k0_off7 (grid0.coords t)) S1x1x4096x128.size (k0_off7_inb (grid0.coords t) h0)) (fun _ => rfl)).squeeze S4096x128 squeezes_S1x1x4096x128_S4096x128 = tile (Ring.sl 2 t.val) 2 :=
  congrArg (fun M : Memref sig .tc .vmem S1x1x4096x128 .bf16 => M.squeeze S4096x128 squeezes_S1x1x4096x128_S4096x128) (Memref.slice_unit_congr _ (coff_15 t) _ _ (fun _ => rfl) (fun _ => rfl))
@[sl_canon] theorem canon_15' (t : Fin grid0.N) (h0 : cnd_0 (grid0.coords t)) :
    (scM.slice (Rect.unit (s := S2x3x4096x128) (k0_off7 (grid0.coords t)) ![1, 1, 4096, 128] (k0_off7_inb (grid0.coords t) h0)) (fun _ => rfl)).squeeze S4096x128 squeezes_S1x1x4096x128_S4096x128 = tile (Ring.sl 2 t.val) 2 :=
  canon_15 t h0
set_option synthInstance.maxSize 4096 in
theorem coff_16 : ∀ t : Fin grid0.N, k0_off18 (grid0.coords t) = ![(Ring.sl 2 t.val).val, 0] := by decide +kernel
@[sl_canon] theorem canon_16 (t : Fin grid0.N) (h1 : cnd_1 (grid0.coords t)) :
    (cc0_scratch1.slice (Rect.unit (s := S2x3) (k0_off18 (grid0.coords t)) S1x1.size (k0_off18_inb (grid0.coords t) h1))).squeeze S_ squeezes_S1x1_S_ = cellA (Ring.sl 2 t.val) 0 :=
  congrArg (fun A : DmaSems sig S1x1 => A.squeeze S_ squeezes_S1x1_S_) (SemArray.slice_unit_congr _ (coff_16 t) _ _)
@[sl_canon] theorem canon_16' (t : Fin grid0.N) (h1 : cnd_1 (grid0.coords t)) :
    (cc0_scratch1.slice (Rect.unit (s := S2x3) (k0_off18 (grid0.coords t)) ![1, 1] (k0_off18_inb (grid0.coords t) h1))).squeeze S_ squeezes_S1x1_S_ = cellA (Ring.sl 2 t.val) 0 :=
  canon_16 t h1
set_option synthInstance.maxSize 4096 in
theorem coff_17 : ∀ t : Fin grid0.N, k0_off20 (grid0.coords t) = ![(Ring.sl 2 t.val).val, 0, 0, 0] := by decide +kernel
@[sl_canon] theorem canon_17 (t : Fin grid0.N) (h1 : cnd_1 (grid0.coords t)) :
    (scM.slice (Rect.unit (s := S2x3x4096x128) (k0_off20 (grid0.coords t)) S1x1x4096x128.size (k0_off20_inb (grid0.coords t) h1)) (fun _ => rfl)).squeeze S4096x128 squeezes_S1x1x4096x128_S4096x128 = tile (Ring.sl 2 t.val) 0 :=
  congrArg (fun M : Memref sig .tc .vmem S1x1x4096x128 .bf16 => M.squeeze S4096x128 squeezes_S1x1x4096x128_S4096x128) (Memref.slice_unit_congr _ (coff_17 t) _ _ (fun _ => rfl) (fun _ => rfl))
@[sl_canon] theorem canon_17' (t : Fin grid0.N) (h1 : cnd_1 (grid0.coords t)) :
    (scM.slice (Rect.unit (s := S2x3x4096x128) (k0_off20 (grid0.coords t)) ![1, 1, 4096, 128] (k0_off20_inb (grid0.coords t) h1)) (fun _ => rfl)).squeeze S4096x128 squeezes_S1x1x4096x128_S4096x128 = tile (Ring.sl 2 t.val) 0 :=
  canon_17 t h1
set_option synthInstance.maxSize 4096 in
theorem coff_18 : ∀ t : Fin grid0.N, k0_off21 (grid0.coords t) = ![(Ring.sl 2 t.val).val, 1] := by decide +kernel
@[sl_canon] theorem canon_18 (t : Fin grid0.N) (h1 : cnd_1 (grid0.coords t)) :
    (cc0_scratch1.slice (Rect.unit (s := S2x3) (k0_off21 (grid0.coords t)) S1x1.size (k0_off21_inb (grid0.coords t) h1))).squeeze S_ squeezes_S1x1_S_ = cellA (Ring.sl 2 t.val) 1 :=
  congrArg (fun A : DmaSems sig S1x1 => A.squeeze S_ squeezes_S1x1_S_) (SemArray.slice_unit_congr _ (coff_18 t) _ _)
@[sl_canon] theorem canon_18' (t : Fin grid0.N) (h1 : cnd_1 (grid0.coords t)) :
    (cc0_scratch1.slice (Rect.unit (s := S2x3) (k0_off21 (grid0.coords t)) ![1, 1] (k0_off21_inb (grid0.coords t) h1))).squeeze S_ squeezes_S1x1_S_ = cellA (Ring.sl 2 t.val) 1 :=
  canon_18 t h1
set_option synthInstance.maxSize 4096 in
theorem coff_19 : ∀ t : Fin grid0.N, k0_off22 (grid0.coords t) = ![(Ring.sl 2 t.val).val, 1, 0, 0] := by decide +kernel
@[sl_canon] theorem canon_19 (t : Fin grid0.N) (h1 : cnd_1 (grid0.coords t)) :
    (scM.slice (Rect.unit (s := S2x3x4096x128) (k0_off22 (grid0.coords t)) S1x1x4096x128.size (k0_off22_inb (grid0.coords t) h1)) (fun _ => rfl)).squeeze S4096x128 squeezes_S1x1x4096x128_S4096x128 = tile (Ring.sl 2 t.val) 1 :=
  congrArg (fun M : Memref sig .tc .vmem S1x1x4096x128 .bf16 => M.squeeze S4096x128 squeezes_S1x1x4096x128_S4096x128) (Memref.slice_unit_congr _ (coff_19 t) _ _ (fun _ => rfl) (fun _ => rfl))
@[sl_canon] theorem canon_19' (t : Fin grid0.N) (h1 : cnd_1 (grid0.coords t)) :
    (scM.slice (Rect.unit (s := S2x3x4096x128) (k0_off22 (grid0.coords t)) ![1, 1, 4096, 128] (k0_off22_inb (grid0.coords t) h1)) (fun _ => rfl)).squeeze S4096x128 squeezes_S1x1x4096x128_S4096x128 = tile (Ring.sl 2 t.val) 1 :=
  canon_19 t h1
set_option synthInstance.maxSize 4096 in
theorem coff_20 : ∀ t : Fin grid0.N, k0_off23 (grid0.coords t) = ![(Ring.sl 2 t.val).val, 2] := by decide +kernel
@[sl_canon] theorem canon_20 (t : Fin grid0.N) (h1 : cnd_1 (grid0.coords t)) :
    (cc0_scratch1.slice (Rect.unit (s := S2x3) (k0_off23 (grid0.coords t)) S1x1.size (k0_off23_inb (grid0.coords t) h1))).squeeze S_ squeezes_S1x1_S_ = cellA (Ring.sl 2 t.val) 2 :=
  congrArg (fun A : DmaSems sig S1x1 => A.squeeze S_ squeezes_S1x1_S_) (SemArray.slice_unit_congr _ (coff_20 t) _ _)
@[sl_canon] theorem canon_20' (t : Fin grid0.N) (h1 : cnd_1 (grid0.coords t)) :
    (cc0_scratch1.slice (Rect.unit (s := S2x3) (k0_off23 (grid0.coords t)) ![1, 1] (k0_off23_inb (grid0.coords t) h1))).squeeze S_ squeezes_S1x1_S_ = cellA (Ring.sl 2 t.val) 2 :=
  canon_20 t h1
set_option synthInstance.maxSize 4096 in
theorem coff_21 : ∀ t : Fin grid0.N, k0_off24 (grid0.coords t) = ![(Ring.sl 2 t.val).val, 2, 0, 0] := by decide +kernel
@[sl_canon] theorem canon_21 (t : Fin grid0.N) (h1 : cnd_1 (grid0.coords t)) :
    (scM.slice (Rect.unit (s := S2x3x4096x128) (k0_off24 (grid0.coords t)) S1x1x4096x128.size (k0_off24_inb (grid0.coords t) h1)) (fun _ => rfl)).squeeze S4096x128 squeezes_S1x1x4096x128_S4096x128 = tile (Ring.sl 2 t.val) 2 :=
  congrArg (fun M : Memref sig .tc .vmem S1x1x4096x128 .bf16 => M.squeeze S4096x128 squeezes_S1x1x4096x128_S4096x128) (Memref.slice_unit_congr _ (coff_21 t) _ _ (fun _ => rfl) (fun _ => rfl))
@[sl_canon] theorem canon_21' (t : Fin grid0.N) (h1 : cnd_1 (grid0.coords t)) :
    (scM.slice (Rect.unit (s := S2x3x4096x128) (k0_off24 (grid0.coords t)) ![1, 1, 4096, 128] (k0_off24_inb (grid0.coords t) h1)) (fun _ => rfl)).squeeze S4096x128 squeezes_S1x1x4096x128_S4096x128 = tile (Ring.sl 2 t.val) 2 :=
  canon_21 t h1
set_option synthInstance.maxSize 4096 in
theorem coff_22 : ∀ t : Fin grid0.N, k0_off25 (grid0.coords t) = ![(Ring.sl 2 (t.val + 1)).val, 0] := by decide +kernel
@[sl_canon] theorem canon_22 (t : Fin grid0.N) (h1 : cnd_1 (grid0.coords t)) :
    (cc0_scratch1.slice (Rect.unit (s := S2x3) (k0_off25 (grid0.coords t)) S1x1.size (k0_off25_inb (grid0.coords t) h1))).squeeze S_ squeezes_S1x1_S_ = cellA (Ring.sl 2 (t.val + 1)) 0 :=
  congrArg (fun A : DmaSems sig S1x1 => A.squeeze S_ squeezes_S1x1_S_) (SemArray.slice_unit_congr _ (coff_22 t) _ _)
@[sl_canon] theorem canon_22' (t : Fin grid0.N) (h1 : cnd_1 (grid0.coords t)) :
    (cc0_scratch1.slice (Rect.unit (s := S2x3) (k0_off25 (grid0.coords t)) ![1, 1] (k0_off25_inb (grid0.coords t) h1))).squeeze S_ squeezes_S1x1_S_ = cellA (Ring.sl 2 (t.val + 1)) 0 :=
  canon_22 t h1
set_option synthInstance.maxSize 4096 in
theorem coff_23 : ∀ t : Fin grid0.N, k0_off27 (grid0.coords t) = ![(Ring.sl 2 (t.val + 1)).val, 0, 0, 0] := by decide +kernel
@[sl_canon] theorem canon_23 (t : Fin grid0.N) (h1 : cnd_1 (grid0.coords t)) :
    (scM.slice (Rect.unit (s := S2x3x4096x128) (k0_off27 (grid0.coords t)) S1x1x4096x128.size (k0_off27_inb (grid0.coords t) h1)) (fun _ => rfl)).squeeze S4096x128 squeezes_S1x1x4096x128_S4096x128 = tile (Ring.sl 2 (t.val + 1)) 0 :=
  congrArg (fun M : Memref sig .tc .vmem S1x1x4096x128 .bf16 => M.squeeze S4096x128 squeezes_S1x1x4096x128_S4096x128) (Memref.slice_unit_congr _ (coff_23 t) _ _ (fun _ => rfl) (fun _ => rfl))
@[sl_canon] theorem canon_23' (t : Fin grid0.N) (h1 : cnd_1 (grid0.coords t)) :
    (scM.slice (Rect.unit (s := S2x3x4096x128) (k0_off27 (grid0.coords t)) ![1, 1, 4096, 128] (k0_off27_inb (grid0.coords t) h1)) (fun _ => rfl)).squeeze S4096x128 squeezes_S1x1x4096x128_S4096x128 = tile (Ring.sl 2 (t.val + 1)) 0 :=
  canon_23 t h1
set_option synthInstance.maxSize 4096 in
theorem coff_24 : ∀ t : Fin grid0.N, k0_off28 (grid0.coords t) = ![(Ring.sl 2 (t.val + 1)).val, 1] := by decide +kernel
@[sl_canon] theorem canon_24 (t : Fin grid0.N) (h1 : cnd_1 (grid0.coords t)) :
    (cc0_scratch1.slice (Rect.unit (s := S2x3) (k0_off28 (grid0.coords t)) S1x1.size (k0_off28_inb (grid0.coords t) h1))).squeeze S_ squeezes_S1x1_S_ = cellA (Ring.sl 2 (t.val + 1)) 1 :=
  congrArg (fun A : DmaSems sig S1x1 => A.squeeze S_ squeezes_S1x1_S_) (SemArray.slice_unit_congr _ (coff_24 t) _ _)
@[sl_canon] theorem canon_24' (t : Fin grid0.N) (h1 : cnd_1 (grid0.coords t)) :
    (cc0_scratch1.slice (Rect.unit (s := S2x3) (k0_off28 (grid0.coords t)) ![1, 1] (k0_off28_inb (grid0.coords t) h1))).squeeze S_ squeezes_S1x1_S_ = cellA (Ring.sl 2 (t.val + 1)) 1 :=
  canon_24 t h1
set_option synthInstance.maxSize 4096 in
theorem coff_25 : ∀ t : Fin grid0.N, k0_off29 (grid0.coords t) = ![(Ring.sl 2 (t.val + 1)).val, 1, 0, 0] := by decide +kernel
@[sl_canon] theorem canon_25 (t : Fin grid0.N) (h1 : cnd_1 (grid0.coords t)) :
    (scM.slice (Rect.unit (s := S2x3x4096x128) (k0_off29 (grid0.coords t)) S1x1x4096x128.size (k0_off29_inb (grid0.coords t) h1)) (fun _ => rfl)).squeeze S4096x128 squeezes_S1x1x4096x128_S4096x128 = tile (Ring.sl 2 (t.val + 1)) 1 :=
  congrArg (fun M : Memref sig .tc .vmem S1x1x4096x128 .bf16 => M.squeeze S4096x128 squeezes_S1x1x4096x128_S4096x128) (Memref.slice_unit_congr _ (coff_25 t) _ _ (fun _ => rfl) (fun _ => rfl))
@[sl_canon] theorem canon_25' (t : Fin grid0.N) (h1 : cnd_1 (grid0.coords t)) :
    (scM.slice (Rect.unit (s := S2x3x4096x128) (k0_off29 (grid0.coords t)) ![1, 1, 4096, 128] (k0_off29_inb (grid0.coords t) h1)) (fun _ => rfl)).squeeze S4096x128 squeezes_S1x1x4096x128_S4096x128 = tile (Ring.sl 2 (t.val + 1)) 1 :=
  canon_25 t h1
set_option synthInstance.maxSize 4096 in
theorem coff_26 : ∀ t : Fin grid0.N, k0_off30 (grid0.coords t) = ![(Ring.sl 2 (t.val + 1)).val, 2] := by decide +kernel
@[sl_canon] theorem canon_26 (t : Fin grid0.N) (h1 : cnd_1 (grid0.coords t)) :
    (cc0_scratch1.slice (Rect.unit (s := S2x3) (k0_off30 (grid0.coords t)) S1x1.size (k0_off30_inb (grid0.coords t) h1))).squeeze S_ squeezes_S1x1_S_ = cellA (Ring.sl 2 (t.val + 1)) 2 :=
  congrArg (fun A : DmaSems sig S1x1 => A.squeeze S_ squeezes_S1x1_S_) (SemArray.slice_unit_congr _ (coff_26 t) _ _)
@[sl_canon] theorem canon_26' (t : Fin grid0.N) (h1 : cnd_1 (grid0.coords t)) :
    (cc0_scratch1.slice (Rect.unit (s := S2x3) (k0_off30 (grid0.coords t)) ![1, 1] (k0_off30_inb (grid0.coords t) h1))).squeeze S_ squeezes_S1x1_S_ = cellA (Ring.sl 2 (t.val + 1)) 2 :=
  canon_26 t h1
set_option synthInstance.maxSize 4096 in
theorem coff_27 : ∀ t : Fin grid0.N, k0_off31 (grid0.coords t) = ![(Ring.sl 2 (t.val + 1)).val, 2, 0, 0] := by decide +kernel
@[sl_canon] theorem canon_27 (t : Fin grid0.N) (h1 : cnd_1 (grid0.coords t)) :
    (scM.slice (Rect.unit (s := S2x3x4096x128) (k0_off31 (grid0.coords t)) S1x1x4096x128.size (k0_off31_inb (grid0.coords t) h1)) (fun _ => rfl)).squeeze S4096x128 squeezes_S1x1x4096x128_S4096x128 = tile (Ring.sl 2 (t.val + 1)) 2 :=
  congrArg (fun M : Memref sig .tc .vmem S1x1x4096x128 .bf16 => M.squeeze S4096x128 squeezes_S1x1x4096x128_S4096x128) (Memref.slice_unit_congr _ (coff_27 t) _ _ (fun _ => rfl) (fun _ => rfl))
@[sl_canon] theorem canon_27' (t : Fin grid0.N) (h1 : cnd_1 (grid0.coords t)) :
    (scM.slice (Rect.unit (s := S2x3x4096x128) (k0_off31 (grid0.coords t)) ![1, 1, 4096, 128] (k0_off31_inb (grid0.coords t) h1)) (fun _ => rfl)).squeeze S4096x128 squeezes_S1x1x4096x128_S4096x128 = tile (Ring.sl 2 (t.val + 1)) 2 :=
  canon_27 t h1
set_option synthInstance.maxSize 4096 in
theorem coff_28 : ∀ t : Fin grid0.N, k0_off8 (grid0.coords t) = ![(Ring.sl 2 t.val).val, 0, 0, 0] := by decide +kernel
instance (priority := high) closedOff_28 (t : Fin grid0.N) : ClosedOff (k0_off8 (grid0.coords t)) := ⟨![(Ring.sl 2 t.val).val, 0, 0, 0], coff_28 t⟩
set_option synthInstance.maxSize 4096 in
theorem coff_29 : ∀ t : Fin grid0.N, k0_off9 (grid0.coords t) = ![(Ring.sl 2 t.val).val, 1, 0, 0] := by decide +kernel
instance (priority := high) closedOff_29 (t : Fin grid0.N) : ClosedOff (k0_off9 (grid0.coords t)) := ⟨![(Ring.sl 2 t.val).val, 1, 0, 0], coff_29 t⟩
set_option synthInstance.maxSize 4096 in
theorem coff_30 : ∀ t : Fin grid0.N, k0_off10 (grid0.coords t) = ![(Ring.sl 2 t.val).val, 2, 0, 0] := by decide +kernel
instance (priority := high) closedOff_30 (t : Fin grid0.N) : ClosedOff (k0_off10 (grid0.coords t)) := ⟨![(Ring.sl 2 t.val).val, 2, 0, 0], coff_30 t⟩

end Names

end Cert.KernelIdeal.Conv

end
-- ==== Proof.Conv.Reads.lean ====
/- What the gated convolution's gradient reads back of its own stores and copies: a load of a whole block, a store of a whole
   block, a slab stored in the scratch and copied to its place in the result. -/
module

public import proofs.«01_k».proof.Proof.Conv.Ring
public import Idealize.ShloMosaic.Lib.Pipeline.Value

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A slab as the two-axis block it is. -/
def slabV (d : FVec F S1x1x4096x128 .bf16) : FVec F S4096x128 .bf16 := shapeCast S4096x128 d (by decide)

/-! ## What the body's loads, stores and copies read back -/

theorem zero2 : (![0, 0] : Fin 2 → Nat) = fun _ => 0 := by funext a; fin_cases a <;> rfl
theorem zero3 : (![0, 0, 0] : Fin 3 → Nat) = fun _ => 0 := by funext a; fin_cases a <;> rfl

omit [FloatOps F] in
/-- A load of a whole block reads the block. -/
theorem load_blk (v : View sig .tc .vmem S4096x128 .bf16) (f : v.ty.Contents (Elt F)) (x : Vec F S4096x128 .bf16)
    (h : v.read (Elt F) f = x) (inb : ∀ a, (![0, 0] : Fin 2 → Nat) a + S4096x128.size a ≤ S4096x128.size a) :
    v.readAt (Elt F) (Rect.unit ![0, 0] S4096x128.size inb).toLoadRect f = x := by
  rw [← h]; exact View.ld_unit_zero (e := .bf16) zero2 inb (v.read (Elt F) f)

omit [FloatOps F] in
theorem load_taps (v : View sig .tc .vmem S1x8x128 .f32) (f : v.ty.Contents (Elt F)) (x : Vec F S1x8x128 .f32)
    (h : v.read (Elt F) f = x) (inb : ∀ a, (![0, 0, 0] : Fin 3 → Nat) a + S1x8x128.size a ≤ S1x8x128.size a) :
    v.readAt (Elt F) (Rect.unit ![0, 0, 0] S1x8x128.size inb).toLoadRect f = x := by
  rw [← h]; exact View.ld_unit_zero (e := .f32) zero3 inb (v.read (Elt F) f)

/-- A store of a whole block leaves its payload. -/
theorem store_dw (v : View sig .tc .vmem S8x128 .f32) (f : v.ty.Contents (Elt F)) (w : Vec F S8x128 .f32)
    (inb : ∀ a, (![0, 0] : Fin 2 → Nat) a + S8x128.size a ≤ S8x128.size a) :
    v.read (Elt F) (v.writes (Elt F) f [⟨Rect.unit ![0, 0] S8x128.size inb, w⟩]) = w := by
  funext y
  have h := View.read_writes_cons_emb v f (Rect.unit ![0, 0] S8x128.size inb) w [] y
  rwa [show (Rect.unit ![0, 0] S8x128.size inb).emb y = y from
    (congrFun (View.ld_unit_zero (Val := fun _ => S8x128.Idx) (e := .f32) zero2 inb (fun i => i)) y)] at h

/-- A squeezed slice, read after a store through its slice, is the payload at the squeezed index. -/
theorem squeeze_read {sig : RefSig} {κ : Kind} {sp : Space} {s s' : Shape} {e : EltTy} {Val : EltTy → Type} (v : Memref sig κ sp s e)
    (r : Rect s) (hr : ∀ a, r.stride a = 1) (hq : r.shape.Squeezes s') (f : v.view.ty.Contents Val) (w : r.shape.Idx → Val e) :
    ((v.slice r hr).squeeze s' hq).view.read Val ((v.access r).write Val f w Finset.univ) = shapeCast s' w hq.numel_eq :=
  funext fun x => congrFun (View.read_write_univ (v := v.access r) f w) (Shape.reshapeEquiv hq.numel_eq x)

/-- A view's contents after a write of all of it agree, on the view, with any contents that read what was written. -/
theorem whole_agree {sig : RefSig} {κ : Kind} {sp : Space} {s : Shape} {e : EltTy} {Val : EltTy → Type} (v : View sig κ sp s e)
    (f G : v.ty.Contents Val) (w : s.Idx → Val e) (hG : v.read Val G = w) :
    ∀ i ∈ v.set, v.writes Val f [⟨Rect.whole s, w⟩] i = G i := by
  intro i hi
  obtain ⟨y, -, rfl⟩ := Finset.mem_map.1 hi
  have h := congrFun ((View.read_writes_whole v f w).trans hG.symm) y
  rw [View.read_apply, View.read_apply] at h
  exact cast_inj _ |>.1 h

omit [FloatOps F] in
/-- Tile (g, m), read after a store of a slab at its place in the scratch, is the slab. -/
theorem tile_read (g : Fin 2) (m : Fin 3) (off : Fin 4 → Nat) (hoff : off = ![g.val, m.val, 0, 0])
    (inb : ∀ a, off a + S1x1x4096x128.size a ≤ S2x3x4096x128.size a) (f : scM.view.ty.Contents (Elt F)) (w : FVec F S1x1x4096x128 .bf16) :
    (tile g m).view.read (Elt F) ((scM.access (Rect.unit off S1x1x4096x128.size inb)).write (Elt F) f w Finset.univ) = slabV w := by
  subst hoff
  exact squeeze_read scM (Rect.unit ![g.val, m.val, 0, 0] S1x1x4096x128.size inb) (fun _ => rfl) squeezes_S1x1x4096x128_S4096x128 f w

/-- Slab (u, m) of the result at the final contents `G`. -/
abbrev pieceG (c : Dev nD) (G : HBuf (F := F) c dzM) (u : Fin 8) (m : Fin 3) : sProp 𝕄 := pieceP c u m G

/-- A slab of the result just copied there, when the final contents `G` hold what was copied, is that slab of `G`. -/
theorem piece_eq (c : Dev nD) (u : Fin 8) (m : Fin 3) (G fp : HBuf (F := F) c dzM) (x w : FVec F S4096x128 .bf16)
    (hG : (piece u m).view.read (Elt F) G = x) (hw : w = x) :
    ((piece u m).view.loc (c : Thread nD τ) ↦[(piece u m).view.set]{fullShare} (piece u m).view.writes (Elt F) fp [⟨Rect.whole S4096x128, w⟩] : sProp 𝕄)
      = pieceP c u m G := by
  subst hw
  exact pointsTo_congr (whole_agree (piece u m).view fp G w hG)

theorem piece_done (c : Dev nD) (m : Fin 3) (u : Fin 8) (G : HBuf (F := F) c dzM) (x : FVec F S4096x128 .bf16)
    (hG : (piece u m).view.read (Elt F) G = x) :
    iprop(∃ (w : FVec F S4096x128 .bf16) (fp : HBuf (F := F) c dzM), ⌜w = x⌝ ∗
      ((piece u m).view.loc (c : Thread nD τ) ↦[(piece u m).view.set]{fullShare} (piece u m).view.writes (Elt F) fp [⟨Rect.whole S4096x128, w⟩]))
    ⊢ (pieceG c G u m : sProp 𝕄) := by
  iintro ⟨%w, %fp, %hw, H⟩
  rw [show pieceG c G u m = _ from (piece_eq c u m G fp x w hG hw).symm]
  iexact H

/-- A copy in flight to such a slab delivers the slab of `G`. -/
theorem flight_done (c : Dev nD) (g : Fin 2) (m : Fin 3) (u : Fin 8) (G : HBuf (F := F) c dzM) (x : FVec F S4096x128 .bf16)
    (hG : (piece u m).view.read (Elt F) G = x) :
    iprop(∃ (w : FVec F S4096x128 .bf16) (fp : HBuf (F := F) c dzM) (e : HBuf (F := F) c (tile g m)), ⌜w = x⌝ ∗
      Transfers.Flight countersEmb (c : Thread nD τ) (cellR g m) default ((piece u m).view.amount (cellR g m))
        iprop(((piece u m).view.loc (c : Thread nD τ) ↦[(piece u m).view.set]{fullShare} (piece u m).view.writes (Elt F) fp [⟨Rect.whole S4096x128, w⟩]) ∗ tileP c g m e))
    ⊢ (flightP c G g m u : sProp 𝕄) := by
  iintro ⟨%w, %fp, %e, %hw, H⟩
  iexists e
  rw [piece_eq c u m G fp x w hG hw]
  iexact H

end Cert.KernelIdeal.Conv

end
-- ==== Proof.Conv.Body.lean ====
/- One grid step of the gated convolution's gradient, run once for any values: which blocks it leaves in the three staged
   column slabs and in the taps' gradient, in each of the three cases of its conditionals (the first two steps, the middle
   ones, the last).  The values are stated as functions of the five blocks the step reads. -/
module

public import proofs.«01_k».proof.Proof.Conv.Reads

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What a step computes, from its blocks `x0` (gate), `x1`, `x2` (the product's factors), `x3` (taps), `x4` (cotangent) -/

section Values
variable (x0 x1 x2 : Vec F S4096x128 .bf16) (x3 : Vec F S1x8x128 .f32) (x4 : Vec F S4096x128 .bf16)
/-- The gradient of the convolution's input. -/
def duB : FVec F S4096x128 .f32 := k0_pay9 (k0_pay6 x3) (k0_pay7 x4) x0
/-- The three slabs, as the body stores them in its scratch. -/
def slab0 : FVec F S1x1x4096x128 .bf16 := k0_pay16 (k0_pay3 x1 x2) (k0_pay4 x1 x2) (k0_pay5 x1 x2) (k0_pay6 x3) (k0_pay7 x4)
def slab1 : FVec F S1x1x4096x128 .bf16 := k0_pay17 (k0_pay2 x2) (duB x0 x3 x4)
def slab2 : FVec F S1x1x4096x128 .bf16 := k0_pay18 (k0_pay1 x1) (duB x0 x3 x4)
/-- The taps' gradient, eight rows of which the last five are zero. -/
def dwB : FVec F S8x128 .f32 :=
  k0_pay15 k0_pay10 (k0_pay11 (k0_pay5 x1 x2) (k0_pay7 x4) x0) k0_pay12 (k0_pay13 (k0_pay4 x1 x2) (k0_pay7 x4) x0)
    (k0_pay14 (k0_pay3 x1 x2) (k0_pay7 x4) x0)
end Values

theorem run_A (c : Dev nD) (t : Fin cfg0.N) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S1x8x128 .f32) (harg4 : arg4.IsWhole) (arg5 : Memref sig .tc .vmem S4096x128 .bf16) (harg5 : arg5.IsWhole) (arg7 : Memref sig .tc .vmem S8x128 .f32) (harg7 : arg7.IsWhole) (hc0 : ¬cnd_0 (grid0.coords t)) (hc1 : ¬cnd_1 (grid0.coords t))
    (x0 : Vec F S4096x128 .bf16) (x1 : Vec F S4096x128 .bf16) (x2 : Vec F S4096x128 .bf16) (x3 : Vec F S1x8x128 .f32) (x4 : Vec F S4096x128 .bf16) (G : HBuf (F := F) c dzM)
    (hG0 : (piece (Ring.bk 8 t.val) 0).view.read (Elt F) G = slabV (slab0 x1 x2 x3 x4))
    (hG1 : (piece (Ring.bk 8 t.val) 1).view.read (Elt F) G = slabV (slab1 x0 x2 x3 x4))
    (hG2 : (piece (Ring.bk 8 t.val) 2).view.read (Elt F) G = slabV (slab2 x0 x1 x3 x4))
    (W : Waits sig Unit) (K : PUnit → sProp 𝕄) :
        iprop(owns c.tc arg1 fullShare x0 ∗ owns c.tc arg2 fullShare x1 ∗ owns c.tc arg3 fullShare x2 ∗ owns c.tc arg4 fullShare x3 ∗ owns c.tc arg5 fullShare x4 ∗ (∃ d, owns c.tc arg7 fullShare d) ∗ (∃ f, pieceP c (Ring.bk 8 t.val) 0 f) ∗ (∃ f, pieceP c (Ring.bk 8 t.val) 1 f) ∗ (∃ f, pieceP c (Ring.bk 8 t.val) 2 f) ∗ cellP c (Ring.sl 2 t.val) 0 ∗ (∃ e, tileP c (Ring.sl 2 t.val) 0 e) ∗ cellP c (Ring.sl 2 t.val) 1 ∗ (∃ e, tileP c (Ring.sl 2 t.val) 1 e) ∗ cellP c (Ring.sl 2 t.val) 2 ∗ (∃ e, tileP c (Ring.sl 2 t.val) 2 e) ∗ owes (c : Thread nD τ) 0 W
            ∗ (iprop(owns c.tc arg1 fullShare x0 ∗ owns c.tc arg2 fullShare x1 ∗ owns c.tc arg3 fullShare x2 ∗ owns c.tc arg4 fullShare x3 ∗ owns c.tc arg5 fullShare x4 ∗ owns c.tc arg7 fullShare (dwB x0 x1 x2 x4) ∗ flightP c G (Ring.sl 2 t.val) 0 (Ring.bk 8 t.val) ∗ flightP c G (Ring.sl 2 t.val) 1 (Ring.bk 8 t.val) ∗ flightP c G (Ring.sl 2 t.val) 2 (Ring.bk 8 t.val) ∗ (∃ W', owes (c : Thread nD τ) 0 W')) -∗ K ⟨⟩))
          ⊢ wp frame (wpE (defs₀ (F := F)) Variants.none c none) Set.univ (cc0_b0_conv (grid0.coords t) arg1 harg1 arg2 harg2 arg3 harg3 arg4 harg4 arg5 harg5 (Memref.whole main_v4_0) (Memref.isWhole_whole _) arg7 harg7 scM (Memref.isWhole_whole _) cc0_scratch1) K := by
  haveI : Fact (¬cnd_0 (grid0.coords t)) := ⟨hc0⟩
  haveI : Fact (¬cnd_1 (grid0.coords t)) := ⟨hc1⟩
  simp only [cc0_b0_conv_eq_skeleton]; unfold cc0_b0_conv_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fp0_0_0, Hp0_0_0⟩, ⟨%fp0_0_1, Hp0_0_1⟩, ⟨%fp0_0_2, Hp0_0_2⟩, Hq0_0_0, ⟨%et0_0_0, Ht0_0_0⟩, Hq0_0_1, ⟨%et0_0_1, Ht0_0_1⟩, Hq0_0_2, ⟨%et0_0_2, Ht0_0_2⟩, HW, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_run_names
    simp only [load_blk _ _ _ hf0, load_blk _ _ _ hf1, load_blk _ _ _ hf2, load_taps _ _ _ hf3, load_blk _ _ _ hf4]
    exact store_dw _ _ _ _
  isplitl [Hq0_0_0]
  · iapply (flight_done c _ 0 _ G _ hG0)
    iexists _, _, _; isplitr
    swap; · iexact Hq0_0_0
    ipureintro
    sl_unfold_run_names
    simp only [load_blk _ _ _ hf0, load_blk _ _ _ hf1, load_blk _ _ _ hf2, load_taps _ _ _ hf3, load_blk _ _ _ hf4]
    exact tile_read _ _ _ (coff_28 t) _ _ _
  isplitl [Hq0_0_1]
  · iapply (flight_done c _ 1 _ G _ hG1)
    iexists _, _, _; isplitr
    swap; · iexact Hq0_0_1
    ipureintro
    sl_unfold_run_names
    simp only [load_blk _ _ _ hf0, load_blk _ _ _ hf1, load_blk _ _ _ hf2, load_taps _ _ _ hf3, load_blk _ _ _ hf4]
    exact tile_read _ _ _ (coff_29 t) _ _ _
  isplitl [Hq0_0_2]
  · iapply (flight_done c _ 2 _ G _ hG2)
    iexists _, _, _; isplitr
    swap; · iexact Hq0_0_2
    ipureintro
    sl_unfold_run_names
    simp only [load_blk _ _ _ hf0, load_blk _ _ _ hf1, load_blk _ _ _ hf2, load_taps _ _ _ hf3, load_blk _ _ _ hf4]
    exact tile_read _ _ _ (coff_30 t) _ _ _
  iexists _; iexact HW

theorem run_B (c : Dev nD) (t : Fin cfg0.N) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S1x8x128 .f32) (harg4 : arg4.IsWhole) (arg5 : Memref sig .tc .vmem S4096x128 .bf16) (harg5 : arg5.IsWhole) (arg7 : Memref sig .tc .vmem S8x128 .f32) (harg7 : arg7.IsWhole) (hc0 : cnd_0 (grid0.coords t)) (hc1 : ¬cnd_1 (grid0.coords t))
    (x0 : Vec F S4096x128 .bf16) (x1 : Vec F S4096x128 .bf16) (x2 : Vec F S4096x128 .bf16) (x3 : Vec F S1x8x128 .f32) (x4 : Vec F S4096x128 .bf16) (G : HBuf (F := F) c dzM)
    (hG0 : (piece (Ring.bk 8 t.val) 0).view.read (Elt F) G = slabV (slab0 x1 x2 x3 x4))
    (hG1 : (piece (Ring.bk 8 t.val) 1).view.read (Elt F) G = slabV (slab1 x0 x2 x3 x4))
    (hG2 : (piece (Ring.bk 8 t.val) 2).view.read (Elt F) G = slabV (slab2 x0 x1 x3 x4))
    (W : Waits sig Unit) (K : PUnit → sProp 𝕄) :
        iprop(owns c.tc arg1 fullShare x0 ∗ owns c.tc arg2 fullShare x1 ∗ owns c.tc arg3 fullShare x2 ∗ owns c.tc arg4 fullShare x3 ∗ owns c.tc arg5 fullShare x4 ∗ (∃ d, owns c.tc arg7 fullShare d) ∗ (∃ f, pieceP c (Ring.bk 8 t.val) 0 f) ∗ (∃ f, pieceP c (Ring.bk 8 t.val) 1 f) ∗ (∃ f, pieceP c (Ring.bk 8 t.val) 2 f) ∗ flightP c G (Ring.sl 2 t.val) 0 (Ring.bk 8 (t.val - 2)) ∗ flightP c G (Ring.sl 2 t.val) 1 (Ring.bk 8 (t.val - 2)) ∗ flightP c G (Ring.sl 2 t.val) 2 (Ring.bk 8 (t.val - 2)) ∗ owes (c : Thread nD τ) 0 W
            ∗ (iprop(owns c.tc arg1 fullShare x0 ∗ owns c.tc arg2 fullShare x1 ∗ owns c.tc arg3 fullShare x2 ∗ owns c.tc arg4 fullShare x3 ∗ owns c.tc arg5 fullShare x4 ∗ owns c.tc arg7 fullShare (dwB x0 x1 x2 x4) ∗ pieceG c G (Ring.bk 8 (t.val - 2)) 0 ∗ pieceG c G (Ring.bk 8 (t.val - 2)) 1 ∗ pieceG c G (Ring.bk 8 (t.val - 2)) 2 ∗ flightP c G (Ring.sl 2 t.val) 0 (Ring.bk 8 t.val) ∗ flightP c G (Ring.sl 2 t.val) 1 (Ring.bk 8 t.val) ∗ flightP c G (Ring.sl 2 t.val) 2 (Ring.bk 8 t.val) ∗ (∃ W', owes (c : Thread nD τ) 0 W')) -∗ K ⟨⟩))
          ⊢ wp frame (wpE (defs₀ (F := F)) Variants.none c none) Set.univ (cc0_b0_conv (grid0.coords t) arg1 harg1 arg2 harg2 arg3 harg3 arg4 harg4 arg5 harg5 (Memref.whole main_v4_0) (Memref.isWhole_whole _) arg7 harg7 scM (Memref.isWhole_whole _) cc0_scratch1) K := by
  haveI : Fact (cnd_0 (grid0.coords t)) := ⟨hc0⟩
  haveI : Fact (¬cnd_1 (grid0.coords t)) := ⟨hc1⟩
  simp only [cc0_b0_conv_eq_skeleton]; unfold cc0_b0_conv_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fp0_0_0, Hp0_0_0⟩, ⟨%fp0_0_1, Hp0_0_1⟩, ⟨%fp0_0_2, Hp0_0_2⟩, ⟨%fe0_0_0, HF0_0_0⟩, ⟨%fe0_0_1, HF0_0_1⟩, ⟨%fe0_0_2, HF0_0_2⟩, HW, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_run_names
    simp only [load_blk _ _ _ hf0, load_blk _ _ _ hf1, load_blk _ _ _ hf2, load_taps _ _ _ hf3, load_blk _ _ _ hf4]
    exact store_dw _ _ _ _
  isplitl [HF0_0_0_dst]; · iexact HF0_0_0_dst
  isplitl [HF0_0_1_dst]; · iexact HF0_0_1_dst
  isplitl [HF0_0_2_dst]; · iexact HF0_0_2_dst
  isplitl [HF0_0_0]
  · iapply (flight_done c _ 0 _ G _ hG0)
    iexists _, _, _; isplitr
    swap; · iexact HF0_0_0
    ipureintro
    sl_unfold_run_names
    simp only [load_blk _ _ _ hf0, load_blk _ _ _ hf1, load_blk _ _ _ hf2, load_taps _ _ _ hf3, load_blk _ _ _ hf4]
    exact tile_read _ _ _ (coff_28 t) _ _ _
  isplitl [HF0_0_1]
  · iapply (flight_done c _ 1 _ G _ hG1)
    iexists _, _, _; isplitr
    swap; · iexact HF0_0_1
    ipureintro
    sl_unfold_run_names
    simp only [load_blk _ _ _ hf0, load_blk _ _ _ hf1, load_blk _ _ _ hf2, load_taps _ _ _ hf3, load_blk _ _ _ hf4]
    exact tile_read _ _ _ (coff_29 t) _ _ _
  isplitl [HF0_0_2]
  · iapply (flight_done c _ 2 _ G _ hG2)
    iexists _, _, _; isplitr
    swap; · iexact HF0_0_2
    ipureintro
    sl_unfold_run_names
    simp only [load_blk _ _ _ hf0, load_blk _ _ _ hf1, load_blk _ _ _ hf2, load_taps _ _ _ hf3, load_blk _ _ _ hf4]
    exact tile_read _ _ _ (coff_30 t) _ _ _
  iexists _; iexact HW

theorem run_C (c : Dev nD) (t : Fin cfg0.N) (arg1 : Memref sig .tc .vmem S4096x128 .bf16) (harg1 : arg1.IsWhole) (arg2 : Memref sig .tc .vmem S4096x128 .bf16) (harg2 : arg2.IsWhole) (arg3 : Memref sig .tc .vmem S4096x128 .bf16) (harg3 : arg3.IsWhole) (arg4 : Memref sig .tc .vmem S1x8x128 .f32) (harg4 : arg4.IsWhole) (arg5 : Memref sig .tc .vmem S4096x128 .bf16) (harg5 : arg5.IsWhole) (arg7 : Memref sig .tc .vmem S8x128 .f32) (harg7 : arg7.IsWhole) (hc0 : cnd_0 (grid0.coords t)) (hc1 : cnd_1 (grid0.coords t))
    (x0 : Vec F S4096x128 .bf16) (x1 : Vec F S4096x128 .bf16) (x2 : Vec F S4096x128 .bf16) (x3 : Vec F S1x8x128 .f32) (x4 : Vec F S4096x128 .bf16) (G : HBuf (F := F) c dzM)
    (hG0 : (piece (Ring.bk 8 t.val) 0).view.read (Elt F) G = slabV (slab0 x1 x2 x3 x4))
    (hG1 : (piece (Ring.bk 8 t.val) 1).view.read (Elt F) G = slabV (slab1 x0 x2 x3 x4))
    (hG2 : (piece (Ring.bk 8 t.val) 2).view.read (Elt F) G = slabV (slab2 x0 x1 x3 x4))
    (W : Waits sig Unit) (K : PUnit → sProp 𝕄) :
        iprop(owns c.tc arg1 fullShare x0 ∗ owns c.tc arg2 fullShare x1 ∗ owns c.tc arg3 fullShare x2 ∗ owns c.tc arg4 fullShare x3 ∗ owns c.tc arg5 fullShare x4 ∗ (∃ d, owns c.tc arg7 fullShare d) ∗ (∃ f, pieceP c (Ring.bk 8 t.val) 0 f) ∗ (∃ f, pieceP c (Ring.bk 8 t.val) 1 f) ∗ (∃ f, pieceP c (Ring.bk 8 t.val) 2 f) ∗ flightP c G (Ring.sl 2 t.val) 0 (Ring.bk 8 (t.val - 2)) ∗ flightP c G (Ring.sl 2 t.val) 1 (Ring.bk 8 (t.val - 2)) ∗ flightP c G (Ring.sl 2 t.val) 2 (Ring.bk 8 (t.val - 2)) ∗ flightP c G (Ring.sl 2 (t.val + 1)) 0 (Ring.bk 8 (t.val - 1)) ∗ flightP c G (Ring.sl 2 (t.val + 1)) 1 (Ring.bk 8 (t.val - 1)) ∗ flightP c G (Ring.sl 2 (t.val + 1)) 2 (Ring.bk 8 (t.val - 1)) ∗ owes (c : Thread nD τ) 0 W
            ∗ (iprop(owns c.tc arg1 fullShare x0 ∗ owns c.tc arg2 fullShare x1 ∗ owns c.tc arg3 fullShare x2 ∗ owns c.tc arg4 fullShare x3 ∗ owns c.tc arg5 fullShare x4 ∗ owns c.tc arg7 fullShare (dwB x0 x1 x2 x4) ∗ pieceG c G (Ring.bk 8 t.val) 0 ∗ pieceG c G (Ring.bk 8 t.val) 1 ∗ pieceG c G (Ring.bk 8 t.val) 2 ∗ pieceG c G (Ring.bk 8 (t.val - 2)) 0 ∗ pieceG c G (Ring.bk 8 (t.val - 2)) 1 ∗ pieceG c G (Ring.bk 8 (t.val - 2)) 2 ∗ pieceG c G (Ring.bk 8 (t.val - 1)) 0 ∗ pieceG c G (Ring.bk 8 (t.val - 1)) 1 ∗ pieceG c G (Ring.bk 8 (t.val - 1)) 2 ∗ cellP c (Ring.sl 2 t.val) 0 ∗ (∃ e, tileP c (Ring.sl 2 t.val) 0 e) ∗ cellP c (Ring.sl 2 t.val) 1 ∗ (∃ e, tileP c (Ring.sl 2 t.val) 1 e) ∗ cellP c (Ring.sl 2 t.val) 2 ∗ (∃ e, tileP c (Ring.sl 2 t.val) 2 e) ∗ cellP c (Ring.sl 2 (t.val + 1)) 0 ∗ (∃ e, tileP c (Ring.sl 2 (t.val + 1)) 0 e) ∗ cellP c (Ring.sl 2 (t.val + 1)) 1 ∗ (∃ e, tileP c (Ring.sl 2 (t.val + 1)) 1 e) ∗ cellP c (Ring.sl 2 (t.val + 1)) 2 ∗ (∃ e, tileP c (Ring.sl 2 (t.val + 1)) 2 e) ∗ (∃ W', owes (c : Thread nD τ) 0 W')) -∗ K ⟨⟩))
          ⊢ wp frame (wpE (defs₀ (F := F)) Variants.none c none) Set.univ (cc0_b0_conv (grid0.coords t) arg1 harg1 arg2 harg2 arg3 harg3 arg4 harg4 arg5 harg5 (Memref.whole main_v4_0) (Memref.isWhole_whole _) arg7 harg7 scM (Memref.isWhole_whole _) cc0_scratch1) K := by
  haveI : Fact (cnd_0 (grid0.coords t)) := ⟨hc0⟩
  haveI : Fact (cnd_1 (grid0.coords t)) := ⟨hc1⟩
  simp only [cc0_b0_conv_eq_skeleton]; unfold cc0_b0_conv_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fp0_0_0, Hp0_0_0⟩, ⟨%fp0_0_1, Hp0_0_1⟩, ⟨%fp0_0_2, Hp0_0_2⟩, ⟨%fe0_0_0, HF0_0_0⟩, ⟨%fe0_0_1, HF0_0_1⟩, ⟨%fe0_0_2, HF0_0_2⟩, ⟨%ie0_0_0, HI0_0_0⟩, ⟨%ie0_0_1, HI0_0_1⟩, ⟨%ie0_0_2, HI0_0_2⟩, HW, Hk⟩
  obtain rfl := harg1.eq_unread hf0; obtain rfl := harg2.eq_unread hf1; obtain rfl := harg3.eq_unread hf2; obtain rfl := harg4.eq_unread hf3; obtain rfl := harg5.eq_unread hf4
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    sl_unfold_run_names
    simp only [load_blk _ _ _ hf0, load_blk _ _ _ hf1, load_blk _ _ _ hf2, load_taps _ _ _ hf3, load_blk _ _ _ hf4]
    exact store_dw _ _ _ _
  isplitl [Hp0_0_0]
  · iapply (piece_done c 0 _ G _ hG0)
    iexists _, _; isplitr
    swap; · iexact Hp0_0_0
    ipureintro
    sl_unfold_run_names
    simp only [load_blk _ _ _ hf0, load_blk _ _ _ hf1, load_blk _ _ _ hf2, load_taps _ _ _ hf3, load_blk _ _ _ hf4]
    exact tile_read _ _ _ (coff_28 t) _ _ _
  isplitl [Hp0_0_1]
  · iapply (piece_done c 1 _ G _ hG1)
    iexists _, _; isplitr
    swap; · iexact Hp0_0_1
    ipureintro
    sl_unfold_run_names
    simp only [load_blk _ _ _ hf0, load_blk _ _ _ hf1, load_blk _ _ _ hf2, load_taps _ _ _ hf3, load_blk _ _ _ hf4]
    exact tile_read _ _ _ (coff_29 t) _ _ _
  isplitl [Hp0_0_2]
  · iapply (piece_done c 2 _ G _ hG2)
    iexists _, _; isplitr
    swap; · iexact Hp0_0_2
    ipureintro
    sl_unfold_run_names
    simp only [load_blk _ _ _ hf0, load_blk _ _ _ hf1, load_blk _ _ _ hf2, load_taps _ _ _ hf3, load_blk _ _ _ hf4]
    exact tile_read _ _ _ (coff_30 t) _ _ _
  isplitl [HF0_0_0_dst]; · iexact HF0_0_0_dst
  isplitl [HF0_0_1_dst]; · iexact HF0_0_1_dst
  isplitl [HF0_0_2_dst]; · iexact HF0_0_2_dst
  isplitl [HI0_0_0_dst]; · iexact HI0_0_0_dst
  isplitl [HI0_0_1_dst]; · iexact HI0_0_1_dst
  isplitl [HI0_0_2_dst]; · iexact HI0_0_2_dst
  isplitl [HF0_0_0]; · iexact HF0_0_0
  isplitl [HF0_0_0_src]; · iexists _; iexact HF0_0_0_src
  isplitl [HF0_0_1]; · iexact HF0_0_1
  isplitl [HF0_0_1_src]; · iexists _; iexact HF0_0_1_src
  isplitl [HF0_0_2]; · iexact HF0_0_2
  isplitl [HF0_0_2_src]; · iexists _; iexact HF0_0_2_src
  isplitl [HI0_0_0]; · iexact HI0_0_0
  isplitl [HI0_0_0_src]; · iexists _; iexact HI0_0_0_src
  isplitl [HI0_0_1]; · iexact HI0_0_1
  isplitl [HI0_0_1_src]; · iexists _; iexact HI0_0_1_src
  isplitl [HI0_0_2]; · iexact HI0_0_2
  isplitl [HI0_0_2_src]; · iexists _; iexact HI0_0_2_src
  iexists _; iexact HW

end Cert.KernelIdeal.Conv

end
-- ==== Proof.Conv.Launch.lean ====
/- The gated convolution's gradient, launched: the proof data of its one pipeline, each step's obligation from the runs of
   Body.lean, and the run of the whole program, which ends with the result's three column bands at the slabs the eight steps
   computed (`dzG`) and the taps' gradient at its eight blocks. -/
module

public import proofs.«01_k».proof.Proof.Conv.Body
public import Idealize.ShloMosaic.Lib.Pipeline.FrameValue
public import Idealize.ShloMosaic.Lib.Pipeline.ValueKit

@[expose] public section

set_option maxRecDepth 16384

noncomputable section

namespace Cert.KernelIdeal.Conv

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The final contents of the result -/

/-- Step `t`'s slab `p`: of the gate's band (0), of the product's two bands (1, 2). -/
def dzAt (c : Dev nD) (t : Fin cfg0.N) (p : Fin 3) : FVec F S4096x128 .bf16 :=
  match p with
  | ⟨0, _⟩ => slabV (slab0 (iblk m c 1 t) (iblk m c 2 t) (iblk m c 3 t) (iblk m c 4 t))
  | ⟨1, _⟩ => slabV (slab1 (iblk m c 0 t) (iblk m c 2 t) (iblk m c 3 t) (iblk m c 4 t))
  | ⟨2, _⟩ => slabV (slab2 (iblk m c 0 t) (iblk m c 1 t) (iblk m c 3 t) (iblk m c 4 t))

/-- The result: column n of row r lies in band n / 1024, slab (n / 128) % 8 of it. -/
def dzG (c : Dev nD) : HBuf (F := F) c dzM := fun i =>
  dzAt m c ⟨(i 1).val / 128 % 8, lt_of_lt_of_eq (Nat.mod_lt _ (by decide)) (show 8 = cfg0.N from N_0.symm)⟩
    (Fin.ofNat 3 ((i 1).val / 1024))
    (Idealize.ShloMosaic.ValueIdx.ix2 (i 0) (⟨(i 1).val % 128, Nat.mod_lt _ (by decide)⟩ : Fin 128))

/-- Every slab of the result is the slab its step computed. -/
theorem dzG_piece (c : Dev nD) (t : Fin cfg0.N) (p : Fin 3) :
    (piece (Ring.bk 8 t.val) p).view.read (Elt F) (dzG m c) = dzAt m c t p := by
  have hN : t.val < 8 := lt_of_lt_of_eq t.isLt (show cfg0.N = 8 from N_0)
  have hu : (Ring.bk 8 t.val).val = t.val := Nat.mod_eq_of_lt hN
  have hp := p.isLt
  funext x
  have hx1 : (x 1).val < 128 := (x 1).isLt
  let y : S4096x3072.Idx := (Rect.unit (s := S4096x3072) ![0, 128 * (Ring.bk 8 t.val).val + 1024 * p.val] S4096x128.size (inb_piece _ _)).emb x
  have e0 : (y 0).val = (x 0).val := by
    rw [show (y 0).val = 0 + (x 0).val from ValueKit.rect_emb_unit_val (s := S4096x3072) ![0, 128 * (Ring.bk 8 t.val).val + 1024 * p.val] S4096x128.size (inb_piece _ _) x 0, Nat.zero_add]
  have e1 : (y 1).val = 128 * t.val + 1024 * p.val + (x 1).val := by
    rw [← hu]; exact ValueKit.rect_emb_unit_val (s := S4096x3072) ![0, 128 * (Ring.bk 8 t.val).val + 1024 * p.val] S4096x128.size (inb_piece _ _) x 1
  show dzG m c y = dzAt m c t p x
  unfold dzG
  have h1 : (⟨(y 1).val / 128 % 8, lt_of_lt_of_eq (Nat.mod_lt _ (by decide)) (show 8 = cfg0.N from N_0.symm)⟩ : Fin cfg0.N) = t :=
    Fin.ext (by show (y 1).val / 128 % 8 = t.val; omega)
  have h2 : Fin.ofNat 3 ((y 1).val / 1024) = p := Fin.ext (by show (y 1).val / 1024 % 3 = p.val; omega)
  have h3 : Idealize.ShloMosaic.ValueIdx.ix2 (y 0) (⟨(y 1).val % 128, Nat.mod_lt _ (by decide)⟩ : Fin 128) = x := by
    funext a
    fin_cases a
    · exact Fin.ext e0
    · exact Fin.ext (by show (y 1).val % 128 = (x 1).val; omega)
  rw [h1, h2]
  exact congrArg (dzAt m c t p) h3

/-! ## The pipeline's proof data -/

/-- The host operations before the launch, at this program's resource algebra. -/
theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! Each input's staging buffer holds its block at every step. -/
theorem before_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Before step `k`: the generator's register, the ring, the scratch's spare elements. -/
def inv (c : Dev nD) (k : ℕ) : sProp 𝕄 := iprop((∃ r, prngReg c r) ∗ (ringAt c (dzG m c) k ∗ tileSpare c))

/-- The proof data of the one pipeline on core `c`: after step `t` each input's buffer holds its block, the output's the taps'
    gradient of the step's blocks. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dwB (iblk m c 0 t) (iblk m c 1 t) (iblk m c 2 t) (iblk m c 4 t)
  Φ t := inv m c t.val
  q w := Pipeline.shareOf spec0 w
  owed _ := 0

theorem A_eq (c : Dev nD) (w : Fin cfg0.W) : (dats m 0 c).A w = V m c (Pipeline.arrRef spec0 w) := by
  dsimp only [dats]
theorem inv_castSucc (c : Dev nD) (t : Fin cfg0.N) : (dats m 0 c).Φ t.castSucc = inv m c t.val := by
  dsimp only [dats]; simp only [Fin.coe_castSucc]
theorem inv_succ (c : Dev nD) (t : Fin cfg0.N) : (dats m 0 c).Φ t.succ = inv m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = dwB (iblk m c 0 t) (iblk m c 1 t) (iblk m c 2 t) (iblk m c 4 t) := by dsimp only [dats]
theorem before_0 (c : Dev nD) (t : Fin cfg0.N) (d) : (dats m 0 c).before 0 t d = iblk m c 0 t := before_0_of m (dats m 0 c) (A_eq m c 0) (after_0 m c) t d
theorem before_1 (c : Dev nD) (t : Fin cfg0.N) (d) : (dats m 0 c).before 1 t d = iblk m c 1 t := before_1_of m (dats m 0 c) (A_eq m c 1) (after_1 m c) t d
theorem before_2 (c : Dev nD) (t : Fin cfg0.N) (d) : (dats m 0 c).before 2 t d = iblk m c 2 t := before_2_of m (dats m 0 c) (A_eq m c 2) (after_2 m c) t d
theorem before_3 (c : Dev nD) (t : Fin cfg0.N) (d) : (dats m 0 c).before 3 t d = iblk m c 3 t := before_3_of m (dats m 0 c) (A_eq m c 3) (after_3 m c) t d
theorem before_4 (c : Dev nD) (t : Fin cfg0.N) (d) : (dats m 0 c).before 4 t d = iblk m c 4 t := before_4_of m (dats m 0 c) (A_eq m c 4) (after_4 m c) t d
/-- What the result holds at the end, and the scratch buffers as launched. -/
def fin (c : Dev nD) (b : Ref sig .tc) : Buf (Elt F) ((c : Thread nD τ).loc b) := Function.update (V m c) main_v4_0 (dzG m c) b
theorem fin_dz (c : Dev nD) : fin m c main_v4_0 = dzG m c := Function.update_self _ _ _

/-- What a step is called with, -/
def stepPre (c : Dev nD) (t : Fin cfg0.N) : sProp 𝕄 :=
  iprop((dats m 0 c).Φ t.castSucc ∗ (dats m 0 c).owesAt () t.castSucc
    ∗ (∃ d, owns c.tc (mst_0 t) fullShare ((dats m 0 c).before 0 t d))
    ∗ (∃ d, owns c.tc (mst_1 t) fullShare ((dats m 0 c).before 1 t d))
    ∗ (∃ d, owns c.tc (mst_2 t) fullShare ((dats m 0 c).before 2 t d))
    ∗ (∃ d, owns c.tc (mst_3 t) fullShare ((dats m 0 c).before 3 t d))
    ∗ (∃ d, owns c.tc (mst_4 t) fullShare ((dats m 0 c).before 4 t d))
    ∗ (∃ d, owns c.tc (mst_5 t) fullShare ((dats m 0 c).before 5 t d)))

/-- and what it returns. -/
def stepPost (c : Dev nD) (t : Fin cfg0.N) : sProp 𝕄 :=
  iprop((dats m 0 c).Φ t.succ ∗ (dats m 0 c).owesAt () t.succ
    ∗ owns c.tc (mst_0 t) fullShare ((dats m 0 c).after 0 t)
    ∗ owns c.tc (mst_1 t) fullShare ((dats m 0 c).after 1 t)
    ∗ owns c.tc (mst_2 t) fullShare ((dats m 0 c).after 2 t)
    ∗ owns c.tc (mst_3 t) fullShare ((dats m 0 c).after 3 t)
    ∗ owns c.tc (mst_4 t) fullShare ((dats m 0 c).after 4 t)
    ∗ owns c.tc (mst_5 t) fullShare ((dats m 0 c).after 5 t))

set_option maxHeartbeats 1200000 in
/-- The step, at any point: the case its number selects. -/
theorem step_sound (c : Dev nD) (t : Fin cfg0.N) :
    stepPre m c t ⊢ wp frame (wpE (defs₀ (F := F)) Variants.none c none) Set.univ (bodyAt0 t) (fun _ => stepPost m c t) := by
  unfold stepPre stepPost bodyAt0
  simp only [before_0, before_1, before_2, before_3, before_4]
  rw [after_0, after_1, after_2, after_3, after_4, after_5]
  rw [inv_castSucc m c t, inv_succ m c t]
  unfold Dat.owesAt Pipeline.owesWithin
  rw [show (dats m 0 c).owed t.castSucc = 0 from rfl, show (dats m 0 c).owed t.succ = 0 from rfl]
  unfold inv ringAt
  have hgN : grid0.N = 8 := N_0
  have hN : t.val < 8 := lt_of_lt_of_eq t.isLt (show cfg0.N = 8 from N_0)
  by_cases h0 : 2 ≤ t.val
  · by_cases h1 : t.val % 8 = 7
    · have hw0 := step_C t ((hc_0 t).mpr h0) ((hc_1 t).mpr h1)
      obtain ⟨hW20, hWend0, hWs0⟩ := hw0
      rw [Ring.AtBΦ_lt _ _ _ _ _ t.val (by omega), Ring.AtB22_here_last _ _ _ _ t.val hW20 hWend0, Ring.AtBΦ_end _ _ _ _ _ (t.val + 1) hWend0, Ring.AtB22_drained _ _ t.val hW20 hWend0]
      iintro ⟨⟨Hg, ⟨⟨⟨Hp_0, Hp_1, Hp_2⟩, HB, ⟨HF_0, HF_1, HF_2⟩, ⟨HI_0, HI_1, HI_2⟩⟩, HTsp⟩⟩, ⟨%W, -, HW⟩, ⟨%d0, H0⟩, ⟨%d1, H1⟩, ⟨%d2, H2⟩, ⟨%d3, H3⟩, ⟨%d4, H4⟩, ⟨%d5, H5⟩⟩
      iapply (run_C c t _ _ _ _ _ _ _ _ _ _ _ _ ((hc_0 t).mpr h0) ((hc_1 t).mpr h1) (iblk m c 0 t) (iblk m c 1 t) (iblk m c 2 t) (iblk m c 3 t) (iblk m c 4 t) (dzG m c) (dzG_piece m c t 0) (dzG_piece m c t 1) (dzG_piece m c t 2) W _)
      isplitl [H0]; · iexact H0
      isplitl [H1]; · iexact H1
      isplitl [H2]; · iexact H2
      isplitl [H3]; · iexact H3
      isplitl [H4]; · iexact H4
      isplitl [H5]; · iexists _; iexact H5
      isplitl [Hp_0]; · iexact Hp_0
      isplitl [Hp_1]; · iexact Hp_1
      isplitl [Hp_2]; · iexact Hp_2
      isplitl [HF_0]; · iexact HF_0
      isplitl [HF_1]; · iexact HF_1
      isplitl [HF_2]; · iexact HF_2
      isplitl [HI_0]; · iexact HI_0
      isplitl [HI_1]; · iexact HI_1
      isplitl [HI_2]; · iexact HI_2
      isplitl [HW]; · iexact HW
      iintro ⟨H0, H1, H2, H3, H4, H5, Ho_0, Ho_1, Ho_2, Hl_0, Hl_1, Hl_2, Hm_0, Hm_1, Hm_2, Hqo_0, Hto_0, Hqo_1, Hto_1, Hqo_2, Hto_2, Hqp_0, Htp_0, Hqp_1, Htp_1, Hqp_2, Htp_2, ⟨%W', HW'⟩⟩
      isplitl [Hg HB HTsp Ho_0 Ho_1 Ho_2 Hl_0 Hl_1 Hl_2 Hm_0 Hm_1 Hm_2 Hqo_0 Hto_0 Hqo_1 Hto_1 Hqo_2 Hto_2 Hqp_0 Htp_0 Hqp_1 Htp_1 Hqp_2 Htp_2]
      · isplitl [Hg]; · iexact Hg
        isplitl [Ho_0 Ho_1 Ho_2 Hl_0 Hl_1 Hl_2 Hm_0 Hm_1 Hm_2 HB Hqo_0 Hto_0 Hqo_1 Hto_1 Hqo_2 Hto_2 Hqp_0 Htp_0 Hqp_1 Htp_1 Hqp_2 Htp_2]
        · isplitl [Ho_0 Ho_1 Ho_2 Hl_0 Hl_1 Hl_2 Hm_0 Hm_1 Hm_2 HB]
          · isplitl [Ho_0 Ho_1 Ho_2]
            · isplitl [Ho_0]
              · iexact Ho_0
              isplitl [Ho_1]
              · iexact Ho_1
              iexact Ho_2
            isplitl [Hl_0 Hl_1 Hl_2]
            · isplitl [Hl_0]
              · iexact Hl_0
              isplitl [Hl_1]
              · iexact Hl_1
              iexact Hl_2
            isplitl [Hm_0 Hm_1 Hm_2]
            · isplitl [Hm_0]
              · iexact Hm_0
              isplitl [Hm_1]
              · iexact Hm_1
              iexact Hm_2
            iexact HB
          isplitl [Hqo_0 Hto_0 Hqo_1 Hto_1 Hqo_2 Hto_2]
          · isplitl [Hqo_0 Hto_0]
            · isplitl [Hqo_0]
              · iexact Hqo_0
              iexact Hto_0
            isplitl [Hqo_1 Hto_1]
            · isplitl [Hqo_1]
              · iexact Hqo_1
              iexact Hto_1
            isplitl [Hqo_2]
            · iexact Hqo_2
            iexact Hto_2
          isplitl [Hqp_0 Htp_0]
          · isplitl [Hqp_0]
            · iexact Hqp_0
            iexact Htp_0
          isplitl [Hqp_1 Htp_1]
          · isplitl [Hqp_1]
            · iexact Hqp_1
            iexact Htp_1
          isplitl [Hqp_2]
          · iexact Hqp_2
          iexact Htp_2
        iexact HTsp
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      iexact H5
    · have hw0 := step_B t ((hc_0 t).mpr h0) (fun h => h1 ((hc_1 t).mp h))
      obtain ⟨hW20, hWlt0, hWs0⟩ := hw0
      rw [Ring.AtBΦ_lt _ _ _ _ _ t.val (by omega), Ring.AtB22_here _ _ _ _ t.val hW20 (by omega), Ring.AtBΦ_lt _ _ _ _ _ (t.val + 1) hWlt0, Ring.AtB22_next _ _ _ _ t.val hW20 (by omega)]
      iintro ⟨⟨Hg, ⟨⟨⟨⟨Hp_0, Hp_1, Hp_2⟩, HA⟩, HB, ⟨HF_0, HF_1, HF_2⟩, Hcar⟩, HTsp⟩⟩, ⟨%W, -, HW⟩, ⟨%d0, H0⟩, ⟨%d1, H1⟩, ⟨%d2, H2⟩, ⟨%d3, H3⟩, ⟨%d4, H4⟩, ⟨%d5, H5⟩⟩
      iapply (run_B c t _ _ _ _ _ _ _ _ _ _ _ _ ((hc_0 t).mpr h0) (fun h => h1 ((hc_1 t).mp h)) (iblk m c 0 t) (iblk m c 1 t) (iblk m c 2 t) (iblk m c 3 t) (iblk m c 4 t) (dzG m c) (dzG_piece m c t 0) (dzG_piece m c t 1) (dzG_piece m c t 2) W _)
      isplitl [H0]; · iexact H0
      isplitl [H1]; · iexact H1
      isplitl [H2]; · iexact H2
      isplitl [H3]; · iexact H3
      isplitl [H4]; · iexact H4
      isplitl [H5]; · iexists _; iexact H5
      isplitl [Hp_0]; · iexact Hp_0
      isplitl [Hp_1]; · iexact Hp_1
      isplitl [Hp_2]; · iexact Hp_2
      isplitl [HF_0]; · iexact HF_0
      isplitl [HF_1]; · iexact HF_1
      isplitl [HF_2]; · iexact HF_2
      isplitl [HW]; · iexact HW
      iintro ⟨H0, H1, H2, H3, H4, H5, Hl_0, Hl_1, Hl_2, Hn_0, Hn_1, Hn_2, ⟨%W', HW'⟩⟩
      isplitl [Hg HA HB Hcar HTsp Hl_0 Hl_1 Hl_2 Hn_0 Hn_1 Hn_2]
      · isplitl [Hg]; · iexact Hg
        isplitl [HA Hl_0 Hl_1 Hl_2 HB Hcar Hn_0 Hn_1 Hn_2]
        · isplitl [HA]
          · iexact HA
          isplitl [Hl_0 Hl_1 Hl_2 HB]
          · isplitl [Hl_0 Hl_1 Hl_2]
            · isplitl [Hl_0]
              · iexact Hl_0
              isplitl [Hl_1]
              · iexact Hl_1
              iexact Hl_2
            iexact HB
          isplitl [Hcar]
          · iexact Hcar
          isplitl [Hn_0]
          · iexact Hn_0
          isplitl [Hn_1]
          · iexact Hn_1
          iexact Hn_2
        iexact HTsp
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      iexact H5
  · by_cases h1 : t.val % 8 = 7
    · exfalso; omega
    · have hw0 := step_A t (fun h => h0 ((hc_0 t).mp h)) (fun h => h1 ((hc_1 t).mp h))
      obtain ⟨hWlt0, hWs0⟩ := hw0
      rcases (show t.val = 0 ∨ t.val = 1 by omega) with hW0 | hW0
      · rw [Ring.AtBΦ_lt _ _ _ _ _ t.val (by omega), Ring.AtB2_zero' 2 _ _ _ _ t.val hW0, Ring.AtBΦ_lt _ _ _ _ _ (t.val + 1) (by omega), Ring.AtB22_next_zero' _ _ _ _ t.val hW0]
        iintro ⟨⟨Hg, ⟨⟨⟨⟨Hp_0, Hp_1, Hp_2⟩, HA⟩, ⟨⟨Hq_0, Ht_0⟩, ⟨Hq_1, Ht_1⟩, ⟨Hq_2, Ht_2⟩⟩, Hfx⟩, HTsp⟩⟩, ⟨%W, -, HW⟩, ⟨%d0, H0⟩, ⟨%d1, H1⟩, ⟨%d2, H2⟩, ⟨%d3, H3⟩, ⟨%d4, H4⟩, ⟨%d5, H5⟩⟩
        iapply (run_A c t _ _ _ _ _ _ _ _ _ _ _ _ (fun h => h0 ((hc_0 t).mp h)) (fun h => h1 ((hc_1 t).mp h)) (iblk m c 0 t) (iblk m c 1 t) (iblk m c 2 t) (iblk m c 3 t) (iblk m c 4 t) (dzG m c) (dzG_piece m c t 0) (dzG_piece m c t 1) (dzG_piece m c t 2) W _)
        isplitl [H0]; · iexact H0
        isplitl [H1]; · iexact H1
        isplitl [H2]; · iexact H2
        isplitl [H3]; · iexact H3
        isplitl [H4]; · iexact H4
        isplitl [H5]; · iexists _; iexact H5
        isplitl [Hp_0]; · iexact Hp_0
        isplitl [Hp_1]; · iexact Hp_1
        isplitl [Hp_2]; · iexact Hp_2
        isplitl [Hq_0]; · iexact Hq_0
        isplitl [Ht_0]; · iexact Ht_0
        isplitl [Hq_1]; · iexact Hq_1
        isplitl [Ht_1]; · iexact Ht_1
        isplitl [Hq_2]; · iexact Hq_2
        isplitl [Ht_2]; · iexact Ht_2
        isplitl [HW]; · iexact HW
        iintro ⟨H0, H1, H2, H3, H4, H5, Hn_0, Hn_1, Hn_2, ⟨%W', HW'⟩⟩
        isplitl [Hg HA Hfx HTsp Hn_0 Hn_1 Hn_2]
        · isplitl [Hg]; · iexact Hg
          isplitl [HA Hfx Hn_0 Hn_1 Hn_2]
          · isplitl [HA]
            · iexact HA
            isplitl [Hfx]
            · iexact Hfx
            isplitl [Hn_0]
            · iexact Hn_0
            isplitl [Hn_1]
            · iexact Hn_1
            iexact Hn_2
          iexact HTsp
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        iexact H5
      · rw [Ring.AtBΦ_lt _ _ _ _ _ t.val (by omega), Ring.AtB22_one' _ _ _ _ t.val hW0 (by decide), Ring.AtBΦ_lt _ _ _ _ _ (t.val + 1) (by omega), Ring.AtB22_next_one' _ _ _ _ t.val hW0]
        iintro ⟨⟨Hg, ⟨⟨⟨⟨Hp_0, Hp_1, Hp_2⟩, HA⟩, ⟨⟨Hq_0, Ht_0⟩, ⟨Hq_1, Ht_1⟩, ⟨Hq_2, Ht_2⟩⟩, Hcar⟩, HTsp⟩⟩, ⟨%W, -, HW⟩, ⟨%d0, H0⟩, ⟨%d1, H1⟩, ⟨%d2, H2⟩, ⟨%d3, H3⟩, ⟨%d4, H4⟩, ⟨%d5, H5⟩⟩
        iapply (run_A c t _ _ _ _ _ _ _ _ _ _ _ _ (fun h => h0 ((hc_0 t).mp h)) (fun h => h1 ((hc_1 t).mp h)) (iblk m c 0 t) (iblk m c 1 t) (iblk m c 2 t) (iblk m c 3 t) (iblk m c 4 t) (dzG m c) (dzG_piece m c t 0) (dzG_piece m c t 1) (dzG_piece m c t 2) W _)
        isplitl [H0]; · iexact H0
        isplitl [H1]; · iexact H1
        isplitl [H2]; · iexact H2
        isplitl [H3]; · iexact H3
        isplitl [H4]; · iexact H4
        isplitl [H5]; · iexists _; iexact H5
        isplitl [Hp_0]; · iexact Hp_0
        isplitl [Hp_1]; · iexact Hp_1
        isplitl [Hp_2]; · iexact Hp_2
        isplitl [Hq_0]; · iexact Hq_0
        isplitl [Ht_0]; · iexact Ht_0
        isplitl [Hq_1]; · iexact Hq_1
        isplitl [Ht_1]; · iexact Ht_1
        isplitl [Hq_2]; · iexact Hq_2
        isplitl [Ht_2]; · iexact Ht_2
        isplitl [HW]; · iexact HW
        iintro ⟨H0, H1, H2, H3, H4, H5, Hn_0, Hn_1, Hn_2, ⟨%W', HW'⟩⟩
        isplitl [Hg HA Hcar HTsp Hn_0 Hn_1 Hn_2]
        · isplitl [Hg]; · iexact Hg
          isplitl [HA Hcar Hn_0 Hn_1 Hn_2]
          · isplitl [HA]
            · iexact HA
            isplitl [Hcar]
            · iexact Hcar
            isplitl [Hn_0]
            · iexact Hn_0
            isplitl [Hn_1]
            · iexact Hn_1
            iexact Hn_2
          iexact HTsp
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        iexact H5

theorem step_row (t : Fin cfg0.N) :
    defs₀ (F := F) .tc cfg0.body (cfg0.bodyArgs t (cfg0.slots t)) = bodyAt0 t := by
  unfold defs₀; rw [Defs.onTc_tc]

theorem step_obligation (c : Dev nD) : BodyObligation (dats (F := F) m 0 c) (defs₀ (F := F)) Variants.none () Set.univ := fun t => by
  rw [bigSep_W0, bigSep_W0, step_row]
  exact triple_restated (step_sound m c t) rfl .rfl fun _ => .rfl

/-- The launch hands the invariant what it needs, -/
theorem inv_in (c : Dev nD) : Pipeline.ΦDRG oSem spec0 hRead hWrit (V m) (V m) c ⊢ (dats m 0 c).Φ 0 := by
  rw [PhiDRG_eq, show (dats m 0 c).Φ 0 = inv m c 0 from rfl]
  unfold inv
  iintro ⟨HS, Hg, ⟨Hq0, Hq1, Hq2, Hq3, Hq4, Hq5⟩, -, Ho0⟩
  isplitl [Hg]; · iexact Hg
  iapply (ring_in (F := F) c (dzG m c) _)
  isplitl [HS]; · iexact HS
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  iexact Ho0
/-- and takes back the result at its final contents. -/
theorem inv_out (c : Dev nD) : (dats m 0 c).Φ (Fin.last cfg0.N) ⊢ Pipeline.ΦDRG oSem spec0 hRead hWrit (V m) (fin m) c := by
  rw [PhiDRG_eq, show (dats m 0 c).Φ (Fin.last cfg0.N) = inv m c grid0.N from rfl]
  unfold inv
  rw [show grid0.N = 8 by rw [N_0]]
  iintro ⟨Hg, HRing⟩
  ihave HX := (ring_out (F := F) c (dzG m c)) $$ HRing
  icases HX with ⟨HS, ⟨Hq0, Hq1, Hq2, Hq3, Hq4, Hq5⟩, Ho0⟩
  isplitl [HS]
  · iexact HS
  isplitl [Hg]
  · iexact Hg
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitr; · iempintro
  rw [fin_dz]
  iexact Ho0

/-! ## The run -/

set_option backward.isDefEq.respectTransparency.types false in
/-- Every execution ends with every counter at zero, the taps' gradient at its blocks, the result at `dzG`, every other array
    as the launch found it. -/
theorem run_quiescent : θ_run defs (onTc (τ := τ) (main (F := F))) (s₀ m ρ) (fun r => (Pipeline.FramePostRG cfgs (dats m) 0 hWrit (V m) (fin m)) r ∧ r.2.sem = fun _ => 0) :=
  Pipeline.θ_run_frame_dmaRG_shared (Q' := _) cfgs (dats m) (0 : Fin 1) launch₀0 oSem defs₀ Variants.none oSemFacts hRead hWrit hRead_sub hWrit_sub m ρ main
    (hbody := fun c => (step_obligation m c).loose) (hq := fun _ _ _ => rfl)
    (howed := fun _ _ => rfl) (V := V m) (hmain := main_prefix m Variants.none) (hA := A_eq m) (G := fin m)
    (hin := inv_in m) (hout := inv_out m)

/-- The run, for a value claim. -/
theorem run_main : θ_run defs (onTc (τ := τ) (main (F := F))) (s₀ m ρ) (Pipeline.FramePostRG cfgs (dats m) 0 hWrit (V m) (fin m)) :=
  (θ_run defs _ _).mono (fun _ h => h.1) (run_quiescent m ρ)

/-- The arguments end as launched. -/
theorem args_kept (r : PUnit × MemSt nD τ sig (Elt F)) (h : Pipeline.FramePostRG cfgs (dats m) 0 hWrit (V m) (fin m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h.toR c).1 2).trans (((dats m 0 c).arrAt_in 2 rfl _).trans ((A_eq m c 2).trans (V_main_arg0 m c))),
    ((h.toR c).2 main_arg1 (Finset.mem_sdiff.mpr ⟨Pipeline.mem_restRefs_of main_arg1 (by decide) (by decide), by decide⟩)).trans (V_main_arg1 m c),
    ((h.toR c).1 4).trans (((dats m 0 c).arrAt_in 4 rfl _).trans ((A_eq m c 4).trans (V_main_arg2 m c)))⟩

/-- The frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨args_kept m r h.1, h.2⟩) (run_quiescent m ρ)

end Cert.KernelIdeal.Conv

end
-- ==== Proof.Conv.Block.lean ====
/- One step's arithmetic, read element by element at the extended reals: the products with the taps shifted along the rows,
   and the three column sums. -/
module

public import proofs.«01_k».proof.Proof.Conv.Body
public import Idealize.ShloMosaic.Lib.Pointwise.Tactic
public import Idealize.ShloMosaic.Lib.KernelVsHost
public import Idealize.ShloMosaic.PureOps.Ideal.Laws
public import Idealize.ShloMosaic.Lib.WordCmp
public import Idealize.ShloMosaic.Lib.Pointwise.Reshape
public import Idealize.ShloMosaic.Lib.Pointwise.Reduce

@[expose] public section

set_option maxRecDepth 16384

noncomputable section

namespace Cert.KernelIdeal.Conv

open Cert.KernelIdeal Cert.KernelIdeal.Gen
open Idealize.ShloMosaic Idealize.ShloMosaic.TcCoe

/-- A column moved down by k rows, zeros coming in at the top. -/
def dn (u : Fin 4096 → EReal) (k : ℕ) (r : Fin 4096) : EReal := if h : k ≤ r.val then u ⟨r.val - k, by omega⟩ else 0
/-- A column moved up by k rows, zeros coming in at the bottom. -/
def up (u : Fin 4096 → EReal) (k : ℕ) (r : Fin 4096) : EReal := if h : r.val + k < 4096 then u ⟨r.val + k, h⟩ else 0

/-- The three-tap causal convolution of a column. -/
def conv (w : Fin 3 → EReal) (u : Fin 4096 → EReal) (r : Fin 4096) : EReal := w 2 * u r + w 1 * dn u 1 r + w 0 * dn u 2 r
/-- Its transpose. -/
def convT (w : Fin 3 → EReal) (e : Fin 4096 → EReal) (r : Fin 4096) : EReal := w 2 * e r + w 1 * up e 1 r + w 0 * up e 2 r

theorem shift_dn (k : ℕ) (hk : 0 < k) (hk' : k < 4096) (x : FVec Ideal S4096x128 .f32) (r : Fin 4096) (l : Fin 128) :
    select (cmpi .sge (iota .tc S4096x128 32 [0] iota_S4096x128_d0_w32) (broadcast S4096x128 (BitVec.ofNat 32 k)))
      (dynamicRotate 0 (BitVec.ofNat 32 k) none x rotates_S4096x128_d0)
      (broadcast S4096x128 (Scalar.ofBits (F := Ideal) .f32 0x00000000#32)) (ix2 r l) = dn (fun r => x (ix2 r l)) k r := by
  have hr := r.isLt
  have hkt : (BitVec.ofNat 32 k).toNat = k := by simp; omega
  pointwise
  rw [WordCmp.cmpi_sge_ofNat (by norm_num; omega) (by norm_num; omega)]
  unfold dn
  by_cases h : k ≤ r.val
  · rw [dif_pos h]
    simp only [h, decide_true, BitVec.ofBool_true, Scalar.select]
    have e : (r.val + 4096 - k % 4096) % 4096 = r.val - k := by omega
    simp [e]
  · rw [dif_neg h]
    simp [h, Scalar.select]

theorem shift_up (k : ℕ) (hk : 0 < k) (hk' : k < 4096) (x : FVec Ideal S4096x128 .f32) (r : Fin 4096) (l : Fin 128) :
    select (cmpi .slt (iota .tc S4096x128 32 [0] iota_S4096x128_d0_w32) (broadcast S4096x128 (BitVec.ofNat 32 (4096 - k))))
      (dynamicRotate 0 (BitVec.ofNat 32 (4096 - k)) none x rotates_S4096x128_d0)
      (broadcast S4096x128 (Scalar.ofBits (F := Ideal) .f32 0x00000000#32)) (ix2 r l) = up (fun r => x (ix2 r l)) k r := by
  have hr := r.isLt
  have hkt : (BitVec.ofNat 32 (4096 - k)).toNat = 4096 - k := by simp; omega
  pointwise
  rw [WordCmp.cmpi_slt_ofNat (by norm_num; omega) (by norm_num; omega)]
  unfold up
  by_cases h : r.val + k < 4096
  · have h' : r.val < 4096 - k := by omega
    rw [dif_pos h]
    simp only [h', decide_true, BitVec.ofBool_true, Scalar.select]
    have e : (r.val + 4096 - (4096 - k) % 4096) % 4096 = r.val + k := by omega
    simp [e]
  · have h' : ¬ r.val < 4096 - k := by omega
    rw [dif_neg h]
    simp [h', Scalar.select]

variable (x0 x1 x2 x4 : FVec Ideal S4096x128 .bf16) (x3 : FVec Ideal S1x8x128 .f32)

/-- Column l of the product the convolution reads. -/
def uCol (l : Fin 128) (r : Fin 4096) : EReal := x1 (ix2 r l) * x2 (ix2 r l)
/-- Column l of the convolution's output gradient. -/
def eCol (l : Fin 128) (r : Fin 4096) : EReal := x4 (ix2 r l) * x0 (ix2 r l)
/-- The three taps of column l. -/
def taps (l : Fin 128) (k : Fin 3) : EReal := x3 (ix3 0 (⟨k.val, by omega⟩ : Fin 8) l)

theorem pay3_at (r : Fin 4096) (l : Fin 128) : k0_pay3 (F := Ideal) x1 x2 (ix2 r l) = uCol x1 x2 l r := by
  unfold k0_pay3 k0_pay1 k0_pay2 uCol; pointwise
theorem pay4_at (r : Fin 4096) (l : Fin 128) : k0_pay4 (F := Ideal) x1 x2 (ix2 r l) = dn (uCol x1 x2 l) 1 r := by
  unfold k0_pay4
  refine (shift_dn 1 (by norm_num) (by norm_num) (k0_pay3 (F := Ideal) x1 x2) r l).trans ?_
  simp only [pay3_at]
theorem pay5_at (r : Fin 4096) (l : Fin 128) : k0_pay5 (F := Ideal) x1 x2 (ix2 r l) = dn (uCol x1 x2 l) 2 r := by
  unfold k0_pay5
  refine (shift_dn 2 (by norm_num) (by norm_num) (k0_pay3 (F := Ideal) x1 x2) r l).trans ?_
  simp only [pay3_at]
theorem pay6_at (k : Fin 8) (l : Fin 128) : k0_pay6 (F := Ideal) x3 (ix2 k l) = x3 (ix3 0 k l) := by
  unfold k0_pay6; pointwise
theorem pay8_at (r : Fin 4096) (l : Fin 128) : k0_pay8 (F := Ideal) (k0_pay7 x4) x0 (ix2 r l) = eCol x0 x4 l r := by
  unfold k0_pay8 k0_pay7 eCol; pointwise

theorem duB_at (r : Fin 4096) (l : Fin 128) : duB (F := Ideal) x0 x3 x4 (ix2 r l) = convT (taps x3 l) (eCol x0 x4 l) r := by
  have h1 := shift_up 1 (by norm_num) (by norm_num) (k0_pay8 (F := Ideal) (k0_pay7 x4) x0) r l
  have h2 := shift_up 2 (by norm_num) (by norm_num) (k0_pay8 (F := Ideal) (k0_pay7 x4) x0) r l
  simp only [pay8_at] at h1 h2
  unfold duB k0_pay9 convT
  simp only [addf_apply, mulf_apply]
  refine congrArg₂ (· + ·) (congrArg₂ (· + ·) (congrArg₂ (· * ·) ?_ (pay8_at x0 x4 r l)) (congrArg₂ (· * ·) ?_ h1)) (congrArg₂ (· * ·) ?_ h2)
  all_goals pointwise; simp only [pay6_at]; rfl

theorem slab0_at (r : Fin 4096) (l : Fin 128) :
    slab0 (F := Ideal) x1 x2 x3 x4 (ix4 0 0 r l) = x4 (ix2 r l) * conv (taps x3 l) (uCol x1 x2 l) r := by
  unfold slab0 k0_pay16 k0_pay7 conv
  pointwise
  simp only [pay3_at, pay4_at, pay5_at, pay6_at]
  rfl
theorem slab1_at (r : Fin 4096) (l : Fin 128) :
    slab1 (F := Ideal) x0 x2 x3 x4 (ix4 0 0 r l) = convT (taps x3 l) (eCol x0 x4 l) r * x2 (ix2 r l) := by
  unfold slab1 k0_pay17 k0_pay2
  pointwise
  rw [duB_at]
theorem slab2_at (r : Fin 4096) (l : Fin 128) :
    slab2 (F := Ideal) x0 x1 x3 x4 (ix4 0 0 r l) = convT (taps x3 l) (eCol x0 x4 l) r * x1 (ix2 r l) := by
  unfold slab2 k0_pay18 k0_pay1
  pointwise
  rw [duB_at]

/-- Column l of the taps' gradient: the output gradient against the product moved down by 2, 1 and 0 rows. -/
def dTap (e u : Fin 4096 → EReal) (k : Fin 8) : EReal :=
  if k.val = 0 then ∑ r, e r * dn u 2 r else if k.val = 1 then ∑ r, e r * dn u 1 r else if k.val = 2 then ∑ r, e r * u r else 0

theorem dwB_at (k : Fin 8) (l : Fin 128) :
    dwB (F := Ideal) x0 x1 x2 x4 (ix2 k l) = dTap (eCol x0 x4 l) (uCol x1 x2 l) k := by
  unfold dwB k0_pay15 k0_pay14 k0_pay13 k0_pay12 k0_pay11 k0_pay10 dTap
  pointwise
  simp only [pay3_at, pay4_at, pay5_at, pay8_at]
  fin_cases k <;> simp [IntOp.cmpi, Scalar.select]

end Cert.KernelIdeal.Conv
-- ==== Proof.Conv.Array.lean ====
/- The two results of the gated convolution's gradient, element by element, as functions of the three argument arrays. -/
module

public import proofs.«01_k».proof.Proof.Conv.Launch
public import proofs.«01_k».proof.Proof.Conv.Block

@[expose] public section

set_option maxRecDepth 16384

noncomputable section

namespace Cert.KernelIdeal.Conv

open Cert.KernelIdeal Cert.KernelIdeal.Gen
open Idealize.ShloMosaic Idealize.ShloMosaic.TcCoe
open Idealize.SL.Sem
open Idealize.ShloMosaic.Pipeline (Dat Cfg Window)

/-! ## The results over plain arrays -/

section Spec
variable (z : FVec Ideal S4096x3072 .bf16) (w : FVec Ideal S3x1024 .f32) (dv : FVec Ideal S4096x1024 .bf16)

/-- Column n of the three gates of z. -/
def gate (p : Fin 3) (n : Fin 1024) (r : Fin 4096) : EReal := z (ix2 r (⟨1024 * p.val + n.val, by omega⟩ : Fin 3072))
/-- Column n of the product the convolution reads. -/
def uOf (n : Fin 1024) (r : Fin 4096) : EReal := gate z 1 n r * gate z 2 n r
/-- Column n of the convolution's output gradient. -/
def eOf (n : Fin 1024) (r : Fin 4096) : EReal := dv (ix2 r n) * gate z 0 n r
/-- Column n of the taps. -/
def wOf (n : Fin 1024) (k : Fin 3) : EReal := w (ix2 k n)

/-- The gradient of z: of the output gate, and of the product's two factors. -/
def dzOf (p : Fin 3) (n : Fin 1024) (r : Fin 4096) : EReal :=
  match p with
  | 0 => dv (ix2 r n) * conv (wOf w n) (uOf z n) r
  | 1 => convT (wOf w n) (eOf z dv n) r * gate z 2 n r
  | 2 => convT (wOf w n) (eOf z dv n) r * gate z 1 n r

/-- The whole gradient of z. -/
def dzArr : FVec Ideal S4096x3072 .bf16 := fun i =>
  dzOf z w dv (⟨(i 1).val / 1024, by have h : (i 1).val < 3072 := (i 1).isLt; omega⟩ : Fin 3) (⟨(i 1).val % 1024, by omega⟩ : Fin 1024)
    ⟨(i 0).val, (i 0).isLt⟩
/-- The whole gradient of the taps, five rows of zeros below it. -/
def dwArr : FVec Ideal S8x1024 .f32 := fun i =>
  dTap (eOf z dv ⟨(i 1).val, (i 1).isLt⟩) (uOf z ⟨(i 1).val, (i 1).isLt⟩) ⟨(i 0).val, (i 0).isLt⟩
end Spec

/-! ## The blocks read at coordinates -/

section Blocks
variable (m : (ℓ : Loc nD τ sig) → Buf (Elt Ideal) ℓ)

abbrev zA (c : Dev nD) : FVec Ideal S4096x3072 .bf16 := m (c.tc.loc main_arg0)
abbrev wA (c : Dev nD) : FVec Ideal S3x1024 .f32 := m (c.tc.loc main_arg1)
abbrev dvA (c : Dev nD) : FVec Ideal S4096x1024 .bf16 := m (c.tc.loc main_arg2)

theorem tlt (t : Fin cfg0.N) : t.val < 8 := lt_of_lt_of_eq t.isLt (show cfg0.N = 8 from N_0)
/-- Column l of step t's block. -/
def col (t : Fin cfg0.N) (l : Fin 128) : Fin 1024 := ⟨128 * t.val + l.val, by have := tlt t; omega⟩

theorem ix_0 : ∀ t : Fin cfg0.N, win0_0.index t = ![0, t.val] := (by decide +kernel : ∀ t : Fin grid0.N, _)
theorem ix_1 : ∀ t : Fin cfg0.N, win0_1.index t = ![0, 8 + t.val] := (by decide +kernel : ∀ t : Fin grid0.N, _)
theorem ix_2 : ∀ t : Fin cfg0.N, win0_2.index t = ![0, 16 + t.val] := (by decide +kernel : ∀ t : Fin grid0.N, _)
theorem ix_3 : ∀ t : Fin cfg0.N, win0_3.index t = ![t.val / 2, 0, t.val % 2] := (by decide +kernel : ∀ t : Fin grid0.N, _)
theorem ix_4 : ∀ t : Fin cfg0.N, win0_4.index t = ![0, t.val] := (by decide +kernel : ∀ t : Fin grid0.N, _)
theorem ix_5 : ∀ t : Fin cfg0.N, win0_5.index t = ![0, t.val] := (by decide +kernel : ∀ t : Fin grid0.N, _)

theorem blk_0 (c : Dev nD) (t : Fin cfg0.N) (r : Fin 4096) (l : Fin 128) : iblk m c 0 t (ix2 r l) = gate (zA m c) 0 (col t l) r := by
  blk_simp [iblk, ix_0]
  rw [V_main_arg0]
  unfold gate col
  refine congrArg (zA m c) ?_
  blk_ext [ix_0]
theorem blk_1 (c : Dev nD) (t : Fin cfg0.N) (r : Fin 4096) (l : Fin 128) : iblk m c 1 t (ix2 r l) = gate (zA m c) 1 (col t l) r := by
  blk_simp [iblk, ix_1]
  rw [V_main_arg0]
  unfold gate col
  refine congrArg (zA m c) ?_
  blk_ext [ix_1]
theorem blk_2 (c : Dev nD) (t : Fin cfg0.N) (r : Fin 4096) (l : Fin 128) : iblk m c 2 t (ix2 r l) = gate (zA m c) 2 (col t l) r := by
  blk_simp [iblk, ix_2]
  rw [V_main_arg0]
  unfold gate col
  refine congrArg (zA m c) ?_
  blk_ext [ix_2]
theorem blk_4 (c : Dev nD) (t : Fin cfg0.N) (r : Fin 4096) (l : Fin 128) : iblk m c 4 t (ix2 r l) = dvA m c (ix2 r (col t l)) := by
  blk_simp [iblk, ix_4]
  rw [V_main_arg2]
  unfold col
  refine congrArg (dvA m c) ?_
  blk_ext [ix_4]

/-- The taps as the launch stages them: row k < 3 of chip a's 256 columns. -/
theorem V_taps (c : Dev nD) (a : Fin 4) (k : Fin 8) (hk : k.val < 3) (x : Fin 256) :
    (V m c main_v3 : FVec Ideal S4x8x256 .f32) (ix3 a k x) = wA m c (ix2 (⟨k.val, hk⟩ : Fin 3) (⟨256 * a.val + x.val, by omega⟩ : Fin 1024)) := by
  have e : (V m c main_v3 : FVec Ideal S4x8x256 .f32) = transpose S4x8x256 [1, 0, 2] (shapeCast S8x4x256
      (concatenate S8x1024 0 [⟨S3x1024, wA m c⟩, ⟨S5x1024, broadcastInDim S5x1024 ![] bcast_S_S5x1024 (constant (F := Ideal) S_ .f32 0x00000000#32)⟩]
        concatenates_S3x1024_S5x1024_S8x1024_d0) shapeCasts_S8x1024_S8x4x256) transposes_S8x4x256_S4x8x256_1_0_2 := by
    unfold V
    after_results
    rfl
  rw [e]
  pointwise
  rw [dif_pos hk]
  refine congrArg (wA m c) ?_
  congr 1
  exact Fin.ext (by show a.val * 256 + x.val = 256 * a.val + x.val; omega)
theorem blk_3 (c : Dev nD) (t : Fin cfg0.N) (k : Fin 3) (l : Fin 128) : taps (iblk m c 3 t) l k = wOf (wA m c) (col t l) k := by
  have ht := tlt t
  unfold taps wOf col
  blk_simp [iblk, ix_3]
  refine (congrArg (V m c main_v3 : FVec Ideal S4x8x256 .f32) (?_ : _ = ix3 (⟨t.val / 2, by omega⟩ : Fin 4) (⟨k.val, by omega⟩ : Fin 8) (⟨t.val % 2 * 128 + l.val, by omega⟩ : Fin 256))).trans ?_
  · blk_ext [ix_3]
  · rw [V_taps m c _ _ k.isLt]
    refine congrArg (wA m c) ?_
    congr 1
    exact Fin.ext (by show 256 * (t.val / 2) + (t.val % 2 * 128 + l.val) = 128 * t.val + l.val; omega)

/-! ## The arrays at the end -/

theorem uCol_blk (c : Dev nD) (t : Fin cfg0.N) (l : Fin 128) : uCol (iblk m c 1 t) (iblk m c 2 t) l = uOf (zA m c) (col t l) := by
  funext r; unfold uCol uOf; rw [blk_1, blk_2]
theorem eCol_blk (c : Dev nD) (t : Fin cfg0.N) (l : Fin 128) : eCol (iblk m c 0 t) (iblk m c 4 t) l = eOf (zA m c) (dvA m c) (col t l) := by
  funext r; unfold eCol eOf; rw [blk_0, blk_4]
theorem taps_blk (c : Dev nD) (t : Fin cfg0.N) (l : Fin 128) : taps (iblk m c 3 t) l = wOf (wA m c) (col t l) := funext fun k => blk_3 m c t k l

theorem slabV_at (d : FVec Ideal S1x1x4096x128 .bf16) (r : Fin 4096) (l : Fin 128) : slabV d (ix2 r l) = d (ix4 0 0 r l) := by
  unfold slabV; pointwise

/-- Slab p of step t holds columns 128 t … of part p of the gradient of z. -/
theorem dzAt_at (c : Dev nD) (t : Fin cfg0.N) (p : Fin 3) (r : Fin 4096) (l : Fin 128) :
    dzAt m c t p (ix2 r l) = dzOf (zA m c) (wA m c) (dvA m c) p (col t l) r := by
  match p with
  | 0 => exact (slabV_at _ r l).trans ((slab0_at _ _ _ _ r l).trans (by rw [taps_blk, uCol_blk, blk_4]; rfl))
  | 1 => exact (slabV_at _ r l).trans ((slab1_at _ _ _ _ r l).trans (by rw [taps_blk, eCol_blk, blk_2]; rfl))
  | 2 => exact (slabV_at _ r l).trans ((slab2_at _ _ _ _ r l).trans (by rw [taps_blk, eCol_blk, blk_1]; rfl))

/-- What the copies leave in the gradient of z. -/
theorem dzG_eq (c : Dev nD) : dzG m c = dzArr (zA m c) (wA m c) (dvA m c) := by
  funext i
  have h1 : (i 1).val < 3072 := (i 1).isLt
  refine (dzAt_at m c _ _ ⟨(i 0).val, (i 0).isLt⟩ _).trans ?_
  unfold dzArr
  congr 1
  · exact Fin.ext (by show (i 1).val / 1024 % 3 = (i 1).val / 1024; omega)
  · exact Fin.ext (by show 128 * ((i 1).val / 128 % 8) + (i 1).val % 128 = (i 1).val % 1024; omega)

/-- What the write-backs leave in the taps' gradient. -/
theorem dw_eq (c : Dev nD) : (dats m 0 c).arrAt 5 cfg0.N = dwArr (zA m c) (dvA m c) := by
  refine (dats m 0 c).arrAt_eq_of_covers 5 _ (by decide +kernel) fun t hf y => ?_
  blk_simp
  rw [after_5]
  have hy0 : (y 0).val < 8 := (y 0).isLt
  have hy1 : (y 1).val < 128 := (y 1).isLt
  have ey : y = ix2 (⟨(y 0).val, hy0⟩ : Fin 8) (⟨(y 1).val, hy1⟩ : Fin 128) := by funext a; fin_cases a <;> rfl
  rw [ey]
  refine (dwB_at _ _ _ _ _ _).trans ?_
  rw [uCol_blk, eCol_blk]
  refine Eq.trans (b := dwArr (zA m c) (dvA m c) (ix2 (⟨(y 0).val, hy0⟩ : Fin 8) (col t ⟨(y 1).val, hy1⟩))) rfl (congrArg (dwArr (zA m c) (dvA m c)) ?_)
  unfold col
  blk_ext [ix_5]
end Blocks

section End
variable (m : (ℓ : Loc nD τ sig) → Buf (Elt Ideal) ℓ) (ρ : Dev nD → PrngReg)

/-- The program ends with its two results at these functions of its arguments, and the arguments as launched. -/
theorem run_values : θ_run defs (onTc (τ := τ) (main (F := Ideal))) ⟨m, fun _ => 0, ρ⟩ (fun r => ∀ c : Dev nD,
      r.2.mem ((c.tc : Thread nD τ).loc main_v4_0) = dzArr (zA m c) (wA m c) (dvA m c)
      ∧ r.2.mem ((c.tc : Thread nD τ).loc main_v4_1) = dwArr (zA m c) (dvA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h.written c (b := main_v4_0) (by decide)).trans ((fin_dz m c).trans (dzG_eq m c)), ((h.toR c).1 5).trans (dw_eq m c), args_kept m r h c⟩)
    (run_main m ρ)
end End

end Cert.KernelIdeal.Conv
-- ==== Proof.Conv.Ref.lean ====
/- The reference's two results, element by element: the same functions of the argument arrays as the kernel's. -/
module

public import proofs.«01_k».proof.Proof.Conv.Array
public import proofs.«01_k».proof.Proof.Gen.ReferenceIdeal.Read

@[expose] public section

set_option maxRecDepth 16384

noncomputable section

namespace Cert.ReferenceIdeal.Conv

open Cert.ReferenceIdeal Cert.ReferenceIdeal.Gen Cert.ReferenceIdeal.Read
open Idealize.ShloMosaic Idealize.ShloMosaic.TcCoe
open Cert.KernelIdeal.Conv (gate uOf eOf wOf dzOf dzArr dwArr dn up conv convT dTap)

variable (z : FVec Ideal S4096x3072 .bf16) (w : FVec Ideal S3x1024 .f32) (dv : FVec Ideal S4096x1024 .bf16)

theorem v1_at (r : Fin 4096) (n : Fin 1024) : val_main_v1 (F := Ideal) z (ix2 r n) = gate z 0 n r := by
  unfold val_main_v1 val_main_v0 gate; pointwise
theorem v2_at (r : Fin 4096) (n : Fin 1024) : val_main_v2 (F := Ideal) z (ix2 r n) = gate z 1 n r := by
  unfold val_main_v2 val_main_v0 gate; pointwise
theorem v3_at (r : Fin 4096) (n : Fin 1024) : val_main_v3 (F := Ideal) z (ix2 r n) = gate z 2 n r := by
  unfold val_main_v3 val_main_v0 gate; pointwise
theorem v4_at (r : Fin 4096) (n : Fin 1024) : val_main_v4 (F := Ideal) z (ix2 r n) = uOf z n r := by
  rw [val_main_v4_apply, v2_at, v3_at]; rfl
/-- The product below two rows of zeros. -/
theorem v6_at (r : Fin 4098) (n : Fin 1024) :
    val_main_v6 (F := Ideal) z (ix2 r n) = if h : 2 ≤ r.val then uOf z n ⟨r.val - 2, by omega⟩ else 0 := by
  unfold val_main_v6 val_main_v5 val_main_cst
  pointwise
  by_cases h : r.val < 2
  · rw [dif_pos h, dif_neg (by omega)]
  · rw [dif_neg h, dif_pos (by omega), v4_at]
theorem v10_at (r : Fin 4096) (n : Fin 1024) : val_main_v10 (F := Ideal) z (ix2 r n) = dn (uOf z n) 2 r := by
  unfold val_main_v10
  pointwise
  rw [v6_at]; unfold dn
  simp
theorem v18_at (r : Fin 4096) (n : Fin 1024) : val_main_v18 (F := Ideal) z (ix2 r n) = dn (uOf z n) 1 r := by
  unfold val_main_v18
  pointwise
  rw [v6_at]; unfold dn
  by_cases h : 1 ≤ r.val
  · rw [dif_pos h, dif_pos (by dsimp; omega)]
    congr 1; exact Fin.ext (by dsimp; omega)
  · rw [dif_neg h, dif_neg (by dsimp; omega)]
theorem v25_at (r : Fin 4096) (n : Fin 1024) : val_main_v25 (F := Ideal) z (ix2 r n) = uOf z n r := by
  unfold val_main_v25
  pointwise
  rw [v6_at, dif_pos (by dsimp; omega)]
  congr 1; exact Fin.ext (by dsimp; omega)

/-! The taps spread over the rows. -/

theorem w0_at (r : Fin 4096) (n : Fin 1024) : val_main_v12 (F := Ideal) w (ix2 r n) = wOf w n 0 := by
  unfold val_main_v12 val_main_v11 val_main_v9 val_main_v8 wOf; pointwise
theorem w1_at (r : Fin 4096) (n : Fin 1024) : val_main_v20 (F := Ideal) w (ix2 r n) = wOf w n 1 := by
  unfold val_main_v20 val_main_v19 val_main_v17 val_main_v16 wOf; pointwise
theorem w2_at (r : Fin 4096) (n : Fin 1024) : val_main_v27 (F := Ideal) w (ix2 r n) = wOf w n 2 := by
  unfold val_main_v27 val_main_v26 val_main_v24 val_main_v23 wOf; pointwise

/-- The convolution. -/
theorem v29_at (r : Fin 4096) (n : Fin 1024) : val_main_v29 (F := Ideal) z w (ix2 r n) = conv (wOf w n) (uOf z n) r := by
  rw [val_main_v29_apply, val_main_v22_apply, val_main_v15_apply, val_main_v13_apply, val_main_v21_apply, val_main_v28_apply,
    w0_at, w1_at, w2_at, v10_at, v18_at, v25_at]
  unfold conv val_main_v14 val_main_cst_1
  pointwise
  rw [add_comm, add_comm (wOf w n 0 * _), add_assoc]

theorem v31_at (r : Fin 4096) (n : Fin 1024) : val_main_v31 (F := Ideal) dv (ix2 r n) = dv (ix2 r n) := by
  unfold val_main_v31; pointwise
theorem v32_at (r : Fin 4096) (n : Fin 1024) : val_main_v32 (F := Ideal) z dv (ix2 r n) = eOf z dv n r := by
  rw [val_main_v32_apply, v1_at, v31_at]; exact mul_comm _ _

theorem v35_at (r : Fin 4096) (n : Fin 1024) : val_main_v35 (F := Ideal) z w dv (ix2 r n) = wOf w n 2 * eOf z dv n r := by
  rw [val_main_v35_apply, v32_at]; exact congrArg (· * _) (w2_at w r n)
theorem v44_at (r : Fin 4096) (n : Fin 1024) : val_main_v44 (F := Ideal) z w dv (ix2 r n) = wOf w n 1 * eOf z dv n r := by
  rw [val_main_v44_apply, v32_at]; exact congrArg (· * _) (w1_at w r n)
theorem v55_at (r : Fin 4096) (n : Fin 1024) : val_main_v55 (F := Ideal) z w dv (ix2 r n) = wOf w n 0 * eOf z dv n r := by
  rw [val_main_v55_apply, v32_at]; exact congrArg (· * _) (w0_at w r n)

/-! The three summands of the gradient, each at row r + 2 of its padded array. -/

theorem v40_at (r : Fin 4096) (n : Fin 1024) :
    val_main_v40 (F := Ideal) z w dv (ix2 (⟨r.val + 2, by omega⟩ : Fin 4098) n) = wOf w n 2 * eOf z dv n r := by
  unfold val_main_v40 val_main_cst_4
  pointwise
  rw [dif_pos (by omega)]
  refine (congrArg _ ?_).trans (v35_at z w dv r n)
  congr 1
theorem v49_at (r : Fin 4096) (n : Fin 1024) :
    val_main_v49 (F := Ideal) z w dv (ix2 (⟨r.val + 2, by omega⟩ : Fin 4098) n) = wOf w n 1 * up (eOf z dv n) 1 r := by
  unfold val_main_v49 val_main_cst_8 up
  pointwise
  by_cases h : r.val + 1 < 4096
  · rw [dif_pos (by omega), dif_pos h]
    exact v44_at z w dv ⟨r.val + 1, h⟩ n
  · rw [dif_neg (by omega), dif_neg h, mul_zero]
theorem v60_at (r : Fin 4096) (n : Fin 1024) :
    val_main_v60 (F := Ideal) z w dv (ix2 (⟨r.val + 2, by omega⟩ : Fin 4098) n) = wOf w n 0 * up (eOf z dv n) 2 r := by
  unfold val_main_v60 val_main_cst_12 up
  pointwise
  by_cases h : r.val + 2 < 4096
  · rw [dif_pos (by omega), dif_pos h]
    exact v55_at z w dv ⟨r.val + 2, h⟩ n
  · rw [dif_neg (by omega), dif_neg h, mul_zero]
theorem v66_at (r : Fin 4096) (n : Fin 1024) : val_main_v66 (F := Ideal) z w dv (ix2 r n) = convT (wOf w n) (eOf z dv n) r := by
  have e : idx_main_v66 (ix2 r n) = ix2 (⟨r.val + 2, by omega⟩ : Fin 4098) n := by
    funext a; fin_cases a
    · exact Fin.ext (Nat.add_comm _ _)
    · rfl
  rw [val_main_v66_apply, e, val_main_v61_apply, val_main_v50_apply, v40_at, v49_at, v60_at]
  rfl

/-- The reference's gradient of z. -/
theorem dz_eq : val_main_v70 (F := Ideal) z w dv = dzArr z w dv := by
  funext i
  idx_vars i
  have h1 := i1.isLt
  rw [val_main_v70_apply]
  unfold val_main_v69 dzArr
  pointwise
  by_cases ha : i1.val < 1024
  · rw [dif_pos ha, val_main_v33_apply, v31_at, v29_at]
    have ep : (⟨i1.val / 1024, by omega⟩ : Fin 3) = 0 := Fin.ext (by show i1.val / 1024 = 0; omega)
    have en : (⟨i1.val % 1024, by omega⟩ : Fin 1024) = ⟨i1.val, ha⟩ := Fin.ext (by show i1.val % 1024 = i1.val; omega)
    rw [ep, en]; rfl
  · rw [dif_neg ha]
    by_cases hb : i1.val - 1024 < 1024
    · rw [dif_pos hb, val_main_v68_apply, v66_at, v3_at]
      have ep : (⟨i1.val / 1024, by omega⟩ : Fin 3) = 1 := Fin.ext (by show i1.val / 1024 = 1; omega)
      have en : (⟨i1.val % 1024, by omega⟩ : Fin 1024) = ⟨i1.val - 1024, hb⟩ := Fin.ext (by show i1.val % 1024 = i1.val - 1024; omega)
      rw [ep, en]; rfl
    · rw [dif_neg hb, val_main_v67_apply, v66_at, v2_at]
      have ep : (⟨i1.val / 1024, by omega⟩ : Fin 3) = 2 := Fin.ext (by show i1.val / 1024 = 2; omega)
      have en : (⟨i1.val % 1024, by omega⟩ : Fin 1024) = ⟨i1.val - 1024 - 1024, by omega⟩ := Fin.ext (by show i1.val % 1024 = i1.val - 1024 - 1024; omega)
      rw [ep, en]
      exact mul_comm _ _

/-! The column sums. -/

theorem v39_at (n : Fin 1024) : val_main_v39 (F := Ideal) z dv (ix1 n) = ∑ r, eOf z dv n r * uOf z n r := by
  unfold val_main_v39 val_main_v38 val_main_v37 val_main_cst_2 val_main_cst_3
  pointwise
  rw [Finset.univ_unique, Finset.sum_singleton]
  exact Finset.sum_congr rfl fun r _ => by rw [val_main_v36_apply, v32_at, v25_at]; rfl
theorem v48_at (n : Fin 1024) : val_main_v48 (F := Ideal) z dv (ix1 n) = ∑ r, eOf z dv n r * dn (uOf z n) 1 r := by
  unfold val_main_v48 val_main_v47 val_main_v46 val_main_cst_6 val_main_cst_7
  pointwise
  rw [Finset.univ_unique, Finset.sum_singleton]
  exact Finset.sum_congr rfl fun r _ => by rw [val_main_v45_apply, v32_at, v18_at]; rfl
theorem v59_at (n : Fin 1024) : val_main_v59 (F := Ideal) z dv (ix1 n) = ∑ r, eOf z dv n r * dn (uOf z n) 2 r := by
  unfold val_main_v59 val_main_v58 val_main_v57 val_main_cst_10 val_main_cst_11
  pointwise
  rw [Finset.univ_unique, Finset.sum_singleton]
  exact Finset.sum_congr rfl fun r _ => by rw [val_main_v56_apply, v32_at, v10_at]; rfl

/-- The reference's gradient of the taps, above five rows of zeros. -/
theorem dw_eq : val_main_v72 (F := Ideal) z dv = dwArr z dv := by
  funext i
  idx_vars i
  unfold val_main_v72 val_main_v71 val_main_cst_14 val_main_v64 val_main_v63 val_main_v62 val_main_v53 val_main_v52 val_main_v51 val_main_v42 val_main_v41
    val_main_cst_5 val_main_cst_9 val_main_cst_13 dwArr dTap
  pointwise
  simp only [v39_at, v48_at, v59_at]
  fin_cases i0 <;> simp

end Cert.ReferenceIdeal.Conv
-- ==== Proof.Norm.Row.lean ====
/- One row of the gradient of a root-mean-square normalisation at the extended reals: the short form
   r * (t - y * mean(t * y)), with y = x * r, is the form differentiation gives, in which the gradient through the mean of
   squares is added once for each of the square's two factors. -/
module

public import Idealize.ShloMosaic.PureOps.Ideal.Laws
public import Idealize.ShloMosaic.Lib.IdealHost

@[expose] public section

noncomputable section

namespace Cert.Norm

open Idealize.ShloMosaic

/-! ## The constants -/

/-- The row's length. -/
abbrev len : EReal := Ideal.ofBits .f32 0x44800000#32
/-- The number added to the mean of squares. -/
abbrev eps : EReal := Ideal.ofBits .f32 0x358637BD#32
/-- Minus a half. -/
abbrev mhalf : EReal := Ideal.ofBits .f32 0xBF000000#32

theorem len_eq : len = ((1024 : ℝ) : EReal) := by
  simp [len, Ideal.ofBits, Ideal.ieee, -EReal.coe_mul]; norm_num
theorem eps_pos : 0 < eps := by
  simp [eps, Ideal.ofBits, Ideal.ieee, -EReal.coe_mul]
theorem mhalf_eq : mhalf = ((-(1 / 2) : ℝ) : EReal) := by
  simp [mhalf, Ideal.ofBits, Ideal.ieee, -EReal.coe_mul, -EReal.coe_neg]; norm_num

/-- The bound a finite number's magnitude is below. -/
theorem inf_eq : Ideal.ofBits .f32 0x7F800000#32 = ⊤ := by
  simp [Ideal.ofBits, Ideal.ieee]

/-! ## Sums with a real factor -/

theorem mul_add_real {r : ℝ} (hr : 0 ≤ r) (a b : EReal) : (r : EReal) * (a + b) = r * a + r * b :=
  EReal.left_distrib_of_nonneg_of_ne_top (by exact_mod_cast hr) (EReal.coe_ne_top r) a b

theorem mul_sum_real {ι : Type} (s : Finset ι) {r : ℝ} (hr : 0 ≤ r) (f : ι → EReal) : (r : EReal) * ∑ e ∈ s, f e = ∑ e ∈ s, (r : EReal) * f e := by
  classical
  induction s using Finset.induction_on with
  | empty => simp
  | insert a s ha ih => rw [Finset.sum_insert ha, Finset.sum_insert ha, mul_add_real hr, ih]

theorem mul_self_nonneg' (a : EReal) : 0 ≤ a * a := by
  rcases le_total 0 a with h | h
  · exact mul_nonneg h h
  · have h' : 0 ≤ -a := by rw [← neg_zero]; exact EReal.neg_le_neg_iff.2 h
    have := mul_nonneg h' h'
    rwa [EReal.neg_mul, mul_neg, neg_neg] at this

/-! ## The reciprocal root -/

section Row
variable {n : Nat} (x t : Fin n → EReal)

/-- The mean of squares and the number added to it. -/
def ms : EReal := Ideal.div (∑ e, x e * x e) len + eps
/-- Its reciprocal root. -/
def rinv : EReal := Ideal.rsqrt (ms x)
/-- The gradient of a row, from the row x and the gradient t of what the gain multiplies. -/
def grad (d : Fin n) : EReal := rinv x * (t d - x d * rinv x * Ideal.div (∑ e, t e * (x e * rinv x)) len)

theorem ms_pos : 0 < ms x := by
  unfold ms
  rw [len_eq, Ideal.div_coe (by norm_num)]
  have h : 0 ≤ ∑ e, x e * x e := Finset.sum_nonneg fun e _ => mul_self_nonneg' (x e)
  have h2 : 0 ≤ (∑ e, x e * x e) * ((1 / 1024 : ℝ) : EReal) := mul_nonneg h (by exact_mod_cast (by norm_num : (0 : ℝ) ≤ 1 / 1024))
  exact lt_of_lt_of_le eps_pos (le_add_of_nonneg_left h2)

/-- The reciprocal root of a positive number is a nonnegative real, and over the number itself it is its cube. -/
theorem rsqrt_real {v : EReal} (hv : 0 < v) : ∃ r : ℝ, 0 ≤ r ∧ Ideal.rsqrt v = (r : EReal) ∧ Ideal.div (Ideal.rsqrt v) v = ((r * r * r : ℝ) : EReal) := by
  induction v using EReal.rec with
  | bot => exact absurd hv (by simp)
  | top => exact ⟨0, le_rfl, by simp, by simp [Ideal.div]⟩
  | coe v =>
    have hv' : 0 < v := by exact_mod_cast hv
    have hs : 0 < Real.sqrt v := Real.sqrt_pos.2 hv'
    have e : Ideal.rsqrt (v : EReal) = (((Real.sqrt v)⁻¹ : ℝ) : EReal) := by
      rw [Ideal.rsqrt_coe, if_neg (not_lt.2 hv'.le), if_neg hv'.ne']
    refine ⟨(Real.sqrt v)⁻¹, (inv_pos.2 hs).le, e, ?_⟩
    rw [e, Ideal.div_coe hv'.ne', ← EReal.coe_mul]
    congr 1
    have h2 : v = Real.sqrt v * Real.sqrt v := (Real.mul_self_sqrt hv'.le).symm
    rw [mul_assoc, ← mul_inv, ← h2, one_div]

/-- What differentiation leaves: the gradient through the factor, and twice the gradient through the mean of squares. -/
theorem grad_eq (d : Fin n) (q : EReal)
    (hq : q = Ideal.div ((∑ e, x e * t e) * (mhalf * Ideal.div (rinv x) (ms x))) len) :
    t d * rinv x + x d * q + q * x d = grad x t d := by
  obtain ⟨r, hr, e1, e2⟩ := rsqrt_real (ms_pos x)
  have hr3 : 0 ≤ r * r * r := mul_nonneg (mul_nonneg hr hr) hr
  unfold grad
  have e3 : rinv x = (r : EReal) := e1
  have e4 : Ideal.div (rinv x) (ms x) = ((r * r * r : ℝ) : EReal) := e2
  rw [e4] at hq
  rw [e3]
  have eT : (∑ e, t e * (x e * (r : EReal))) = r * ∑ e, x e * t e := by
    rw [mul_sum_real _ hr]
    exact Finset.sum_congr rfl fun e _ => by ac_rfl
  rw [eT]
  generalize (∑ e, x e * t e) = T at hq ⊢
  rw [len_eq, Ideal.div_coe (by norm_num)] at hq ⊢
  have hk : (0 : ℝ) ≤ r * r * r * (1 / 1024) * (1 / 2) := by positivity
  have eq1 : x d * q = -(x d * T) * ((r * r * r * (1 / 1024) * (1 / 2) : ℝ) : EReal) := by
    have e5 : ((-(1 / 2) : ℝ) : EReal) * ((r * r * r : ℝ) : EReal) * ((1 / 1024 : ℝ) : EReal) = -((r * r * r * (1 / 1024) * (1 / 2) : ℝ) : EReal) := by
      rw [← EReal.coe_mul, ← EReal.coe_mul, ← EReal.coe_neg]
      exact congrArg _ (by ring)
    rw [hq, mhalf_eq, mul_assoc T, e5, mul_neg, mul_neg, EReal.neg_mul, mul_assoc (x d)]
  have eq2 : r * (x d * r * (r * T * ((1 / 1024 : ℝ) : EReal))) = x d * T * ((r * r * r * (1 / 1024) : ℝ) : EReal) := by
    simp only [EReal.coe_mul]
    ac_rfl
  have eh : r * r * r * (1 / 1024) * (1 / 2) + r * r * r * (1 / 1024) * (1 / 2) = r * r * r * (1 / 1024) := by ring
  rw [mul_comm q, add_assoc, eq1, ← EReal.left_distrib_of_nonneg (by exact_mod_cast hk) (by exact_mod_cast hk), ← EReal.coe_add, eh,
    sub_eq_add_neg, mul_add_real hr, mul_neg, eq2, mul_comm (t d), EReal.neg_mul]
end Row

end Cert.Norm
-- ==== Proof.Norm.Whole.lean ====
/- The arrays a gradient through a product and its normalisation gives, from the gradient D of the normalised input: the
   gradient of the input and the gradient of the gain. Stated for 4096 tokens of length 1024, whatever the product was. -/
module

public import proofs.«01_k».proof.Proof.Norm.Row
public import proofs.«01_k».proof.Proof.Gen.Reference6Ideal.Read
public import Idealize.ShloMosaic.Lib.Pipeline.ValueKit

@[expose] public section

noncomputable section

namespace Cert.Norm

open Cert.Reference6Ideal Idealize.ShloMosaic

section Arrays
variable (h : FVec Ideal S4096x1024 .f32) (g : FVec Ideal S1024 .f32) (D e : FVec Ideal S4096x1024 .f32)

/-- The gradient of the input: what arrives directly (e), and what arrives through the normalisation. -/
def dhFrom : FVec Ideal S4096x1024 .f32 := fun i =>
  e i + grad (fun d : Fin 1024 => h (ix2 (⟨(i 0).val, (i 0).isLt⟩ : Fin 4096) d)) (fun d => D (ix2 (⟨(i 0).val, (i 0).isLt⟩ : Fin 4096) d) * g (ix1 d)) ⟨(i 1).val, (i 1).isLt⟩
/-- A token's part of the gain's gradient. -/
def gainFrom (d : Fin 1024) (r : Fin 4096) : EReal := D (ix2 r d) * (h (ix2 r d) * rinv (fun d' : Fin 1024 => h (ix2 r d')))
/-- The gain's gradient. -/
def dgFrom : FVec Ideal S1x1024 .f32 := fun i => ∑ r : Fin 4096, gainFrom h D ⟨(i 1).val, (i 1).isLt⟩ r
end Arrays

/-- Token r of block k. -/
def tok (k : Nat) (hk : k < 8) (r : Fin 512) : Fin 4096 := ⟨k * 512 + r.val, by omega⟩

/-! ## Two rows side by side -/

section Both
variable {n N : Nat} (hN : N = n + n) (a b : Fin n → EReal) (j : Fin N) (k : Fin n)

def both : EReal := if hj : j.val < n then a ⟨j.val, hj⟩ else b ⟨j.val - n, by omega⟩
theorem both_lo (hk : j.val = k.val) : both hN a b j = a k := by
  have hj : j.val < n := by omega
  unfold both
  rw [dif_pos hj]
  exact congrArg a (Fin.ext hk)
theorem both_hi (hk : j.val = n + k.val) : both hN a b j = b k := by
  have hj : ¬ j.val < n := by omega
  unfold both
  rw [dif_neg hj]
  exact congrArg b (Fin.ext (by dsimp only; omega))
end Both

/-! ## Sums in pieces -/

theorem four_chunks (n : Nat) (f : Fin (4 * n) → EReal) :
    (((∑ k : Fin n, f ⟨0 * n + k.val, by omega⟩) + ∑ k : Fin n, f ⟨1 * n + k.val, by omega⟩) + ∑ k : Fin n, f ⟨2 * n + k.val, by omega⟩) + ∑ k : Fin n, f ⟨3 * n + k.val, by omega⟩ = ∑ j, f j := by
  rw [← Fin.sum_mul_add_fin 4 n f, Fin.sum_univ_four]
  rfl

/-- A value set at the first of N steps and added to at the others is the sum of what the steps up to it give. -/
theorem accum {N : Nat} (f s : (n : Nat) → n < N → EReal) (h0 : ∀ hn, f 0 hn = s 0 hn)
    (h1 : ∀ (n : Nat) (hn : n + 1 < N), f (n + 1) hn = f n (by omega) + s (n + 1) hn) :
    ∀ (n : Nat) (hn : n < N), f n hn = ∑ k : Fin (n + 1), s k.val (by omega)
  | 0, hn => by rw [h0]; simp
  | n + 1, hn => by
    rw [h1]
    refine Eq.trans ?_ (Fin.sum_univ_castSucc _).symm
    exact congrArg₂ (· + ·) (accum f s h0 h1 n (by omega)) rfl

end Cert.Norm
-- ==== Proof.GateUp.Step.lean ====
/- One grid step of the gradient through the gate and up projections and their normalisation, for any values: the block of the
   input's gradient it leaves, and what it adds to the gain's gradient. -/
module

public import proofs.«01_k».proof.Proof.Gen.Kernel2Ideal.Value
public import Idealize.ShloMosaic.Lib.Pipeline.ValueKit
public import Idealize.ShloMosaic.Lib.Pointwise.Tactic
public import Idealize.ShloMosaic.Lib.Pointwise.Contract
public import Idealize.ShloMosaic.Lib.Pointwise.Reshape
public import Idealize.ShloMosaic.Lib.Pointwise.Reduce
public import proofs.«01_k».proof.Proof.Norm.Whole

@[expose] public section

set_option maxRecDepth 16384

noncomputable section

namespace Cert.Kernel2Ideal.GateUp

open Cert.Kernel2Ideal Cert.Kernel2Ideal.Gen
open Idealize.ShloMosaic Idealize.ShloMosaic.TcCoe Idealize.ShloMosaic.Tactic
open Idealize.SL.Sem
open Idealize.ShloMosaic.Pipeline (Dat)

theorem zero2 : (![0, 0] : Fin 2 → Nat) = fun _ => 0 := funext fun a => by fin_cases a <;> rfl

/-- The gradient of the normalised input: the four chunks of the gate's and the up projection's gradients, each against its
    chunk of the weight. -/
def dhn {F : FTy → Type} [FloatOps F] (x0 x1 : Vec F S512x2816 .bf16) (x2 : Vec F S4x1024x1408 .bf16) : Vec F S512x1024 .f32 :=
  k0_pay6 (View.ld x0 (Rect.unit (s := S512x2816) ![0, 0] S512x1408.size inb_S512x2816_S512x1408_0_0)) (View.ld x2 (Rect.unit (s := S4x1024x1408) ![0, 0, 0] S1x1024x1408.size inb_S4x1024x1408_S1x1024x1408_0_0_0))
    (View.ld x0 (Rect.unit (s := S512x2816) ![0, 1408] S512x1408.size inb_S512x2816_S512x1408_0_1408)) (View.ld x2 (Rect.unit (s := S4x1024x1408) ![1, 0, 0] S1x1024x1408.size inb_S4x1024x1408_S1x1024x1408_1_0_0))
    (View.ld x1 (Rect.unit (s := S512x2816) ![0, 0] S512x1408.size inb_S512x2816_S512x1408_0_0)) (View.ld x2 (Rect.unit (s := S4x1024x1408) ![2, 0, 0] S1x1024x1408.size inb_S4x1024x1408_S1x1024x1408_2_0_0))
    (View.ld x1 (Rect.unit (s := S512x2816) ![0, 1408] S512x1408.size inb_S512x2816_S512x1408_0_1408)) (View.ld x2 (Rect.unit (s := S4x1024x1408) ![3, 0, 0] S1x1024x1408.size inb_S4x1024x1408_S1x1024x1408_3_0_0))

section Step
variable {F : FTy → Type} [FloatOps F]
variable (c : Dev nD) (i : grid0.Coords) (a1 : Memref sig .tc .vmem S512x2816 .bf16) (h1 : a1.IsWhole) (a2 : Memref sig .tc .vmem S512x2816 .bf16) (h2 : a2.IsWhole)
  (a3 : Memref sig .tc .vmem S4x1024x1408 .bf16) (h3 : a3.IsWhole) (a4 : Memref sig .tc .vmem S512x1024 .f32) (h4 : a4.IsWhole)
  (a5 : Memref sig .tc .vmem S1x1024 .f32) (h5 : a5.IsWhole) (a6 : Memref sig .tc .vmem S512x1024 .f32) (h6 : a6.IsWhole)
  (a7 : Memref sig .tc .vmem S512x1024 .f32) (h7 : a7.IsWhole) (a8 : Memref sig .tc .vmem S1x1024 .f32) (h8 : a8.IsWhole)
  (x0 x1 : Vec F S512x2816 .bf16) (x2 : Vec F S4x1024x1408 .bf16) (x3 : Vec F S512x1024 .f32) (x4 : Vec F S1x1024 .f32) (x5 : Vec F S512x1024 .f32) (acc : Vec F S1x1024 .f32)

/-- The block of the input's gradient, in either case. -/
theorem out_A6 (p0 : cond0_0 i) :
    out0_A_6 c i a1 h1 a2 h2 a3 h3 a4 h4 a5 h5 a6 h6 a7 h7 a8 h8 p0 x0 x1 x2 x3 x4 x5 = k0_pay4 (dhn x0 x1 x2) x3 (k0_pay7 x3) x4 x5 := by
  unfold out0_A_6
  rw [View.read_writes_eq_canon _ _ _ (cover0_A_6 c i a1 h1 a2 h2 a3 h3 a4 h4 a5 h5 a6 h6 a7 h7 a8 h8 p0 x0 x1 x2 x3 x4 x5)]
  unfold kernelRun0_A
  dsimp only
  sl_unfold_words
  rw [View.canon_unit_zero zero2]
  simp only [View.readAt_eq_ld, h1.read_unread, h2.read_unread, h3.read_unread, h4.read_unread, h5.read_unread, h6.read_unread, h8.read_unread,
    View.ld_unit_zero (S := S512x1024) zero2, View.ld_unit_zero (S := S1x1024) zero2, shapeCast_self]
  unfold dhn; rfl
theorem out_B6 (p0 : ¬cond0_0 i) :
    out0_B_6 c i a1 h1 a2 h2 a3 h3 a4 h4 a5 h5 a6 h6 a7 h7 a8 h8 p0 x0 x1 x2 x3 x4 x5 acc = k0_pay4 (dhn x0 x1 x2) x3 (k0_pay7 x3) x4 x5 := by
  unfold out0_B_6
  rw [View.read_writes_eq_canon _ _ _ (cover0_B_6 c i a1 h1 a2 h2 a3 h3 a4 h4 a5 h5 a6 h6 a7 h7 a8 h8 p0 x0 x1 x2 x3 x4 x5 acc)]
  unfold kernelRun0_B
  dsimp only
  sl_unfold_words
  rw [View.canon_unit_zero zero2]
  simp only [View.readAt_eq_ld, h1.read_unread, h2.read_unread, h3.read_unread, h4.read_unread, h5.read_unread, h6.read_unread, h8.read_unread,
    View.ld_unit_zero (S := S512x1024) zero2, View.ld_unit_zero (S := S1x1024) zero2, shapeCast_self]
  unfold dhn; rfl
/-- The gain's gradient: set at the first point, added to afterwards. -/
theorem out_A7 (p0 : cond0_0 i) :
    out0_A_7 c i a1 h1 a2 h2 a3 h3 a4 h4 a5 h5 a6 h6 a7 h7 a8 h8 p0 x0 x1 x2 x3 x4 x5 = k0_pay3 (dhn x0 x1 x2) x3 (k0_pay7 x3) k0_pay5 := by
  unfold out0_A_7
  rw [View.read_writes_eq_canon _ _ _ (cover0_A_7 c i a1 h1 a2 h2 a3 h3 a4 h4 a5 h5 a6 h6 a7 h7 a8 h8 p0 x0 x1 x2 x3 x4 x5)]
  unfold kernelRun0_A
  dsimp only
  sl_unfold_words
  rw [View.canon_cons_unit_zero (S := S1x1024) zero2, View.readCov_unit_zero (S := S1x1024) _ zero2]
  simp only [View.readAt_eq_ld, h1.read_unread, h2.read_unread, h3.read_unread, h4.read_unread, h5.read_unread, h6.read_unread, h8.read_unread,
    View.ld_unit_zero (S := S512x1024) zero2, View.ld_unit_zero (S := S1x1024) zero2, shapeCast_self]
  unfold dhn; rfl
theorem out_B7 (p0 : ¬cond0_0 i) :
    out0_B_7 c i a1 h1 a2 h2 a3 h3 a4 h4 a5 h5 a6 h6 a7 h7 a8 h8 p0 x0 x1 x2 x3 x4 x5 acc = k0_pay3 (dhn x0 x1 x2) x3 (k0_pay7 x3) acc := by
  unfold out0_B_7
  rw [View.read_writes_eq_canon _ _ _ (cover0_B_7 c i a1 h1 a2 h2 a3 h3 a4 h4 a5 h5 a6 h6 a7 h7 a8 h8 p0 x0 x1 x2 x3 x4 x5 acc)]
  unfold kernelRun0_B
  dsimp only
  sl_unfold_words
  rw [View.canon_unit_zero zero2]
  simp only [View.readAt_eq_ld, h1.read_unread, h2.read_unread, h3.read_unread, h4.read_unread, h5.read_unread, h6.read_unread, h8.read_unread,
    View.ld_unit_zero (S := S512x1024) zero2, View.ld_unit_zero (S := S1x1024) zero2, shapeCast_self]
  unfold dhn; rfl
end Step

/-! ## The step's values element by element -/

section At
variable (x0 x1 : Vec Ideal S512x2816 .bf16) (x2 : Vec Ideal S4x1024x1408 .bf16) (x3 : Vec Ideal S512x1024 .f32) (x4 : Vec Ideal S1x1024 .f32) (x5 : Vec Ideal S512x1024 .f32)
  (D : Vec Ideal S512x1024 .f32) (acc : Vec Ideal S1x1024 .f32)

/-- A chunk of a gradient against a chunk of the weight. -/
def chunk (x : Vec Ideal S512x2816 .bf16) (k : Nat) (hk : k < 2) (q : Fin 4) (r : Fin 512) (d : Fin 1024) : EReal :=
  ∑ f : Fin 1408, x (ix2 r (⟨1408 * k + f.val, by omega⟩ : Fin 2816)) * x2 (ix3 q d f)

theorem dhn_at (r : Fin 512) (d : Fin 1024) : dhn (F := Ideal) x0 x1 x2 (ix2 r d)
    = ((chunk x2 x0 0 (by omega) 0 r d + chunk x2 x0 1 (by omega) 1 r d) + chunk x2 x1 0 (by omega) 2 r d) + chunk x2 x1 1 (by omega) 3 r d := by
  unfold dhn k0_pay6
  pointwise
  simp only [chunk, Nat.mul_zero, Nat.mul_one, Nat.zero_add]

theorem mean_at (r : Fin 512) : k0_pay7 (F := Ideal) x3 (ix2 r 0) = Ideal.div (∑ e : Fin 1024, x3 (ix2 r e) * x3 (ix2 r e)) Cert.Norm.len := by
  unfold k0_pay7
  pointwise

theorem dh_at (r : Fin 512) (d : Fin 1024) : k0_pay4 (F := Ideal) D x3 (k0_pay7 x3) x4 x5 (ix2 r d)
    = x5 (ix2 r d) + Cert.Norm.grad (fun e : Fin 1024 => x3 (ix2 r e)) (fun e => D (ix2 r e) * x4 (ix2 0 e)) d := by
  unfold k0_pay4 k0_pay2 k0_pay1
  pointwise
  rw [mean_at]
  rfl

theorem dg_at (d : Fin 1024) : k0_pay3 (F := Ideal) D x3 (k0_pay7 x3) acc (ix2 0 d)
    = acc (ix2 0 d) + ∑ r : Fin 512, D (ix2 r d) * (x3 (ix2 r d) * Cert.Norm.rinv (fun e : Fin 1024 => x3 (ix2 r e))) := by
  unfold k0_pay3 k0_pay2 k0_pay1
  pointwise
  simp only [mean_at]
  rfl
end At
end Cert.Kernel2Ideal.GateUp
-- ==== Proof.GateUp.Array.lean ====
/- The gradient through the gate and up projections and their normalisation: the two result arrays at the end, as sums over
   all 5632 features and over all 4096 tokens. -/
module

public import proofs.«01_k».proof.Proof.GateUp.Step

@[expose] public section

set_option maxRecDepth 16384

noncomputable section

namespace Cert.Kernel2Ideal.GateUp

open Cert.Kernel2Ideal Cert.Kernel2Ideal.Gen
open Idealize.ShloMosaic Idealize.ShloMosaic.TcCoe Idealize.ShloMosaic.Tactic
open Idealize.SL.Sem
open Idealize.ShloMosaic.Pipeline (Dat)
open Cert.Norm (tok both both_lo both_hi four_chunks accum dhFrom dgFrom gainFrom)

section Blocks
variable (m : (ℓ : Loc nD τ sig) → Buf (Elt Ideal) ℓ)

abbrev hA (c : Dev nD) : FVec Ideal S4096x1024 .f32 := m ((c : Thread nD τ).loc main_arg0)
abbrev gA (c : Dev nD) : FVec Ideal S1024 .f32 := m ((c : Thread nD τ).loc main_arg1)
abbrev wA (c : Dev nD) : FVec Ideal S1024x5632 .f32 := m ((c : Thread nD τ).loc main_arg2)
abbrev dgA (c : Dev nD) : FVec Ideal S4096x2816 .bf16 := m ((c : Thread nD τ).loc main_arg3)
abbrev duA (c : Dev nD) : FVec Ideal S4096x2816 .bf16 := m ((c : Thread nD τ).loc main_arg4)
abbrev eA (c : Dev nD) : FVec Ideal S4096x1024 .f32 := m ((c : Thread nD τ).loc main_arg5)

theorem tlt (t : Fin cfg0.N) : t.val < 8 := lt_of_lt_of_eq t.isLt (show cfg0.N = 8 from N_0)

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![0, 0, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![t.val, 0] := (by decide +kernel : ∀ t : Fin grid0.N, _)
theorem ix_6 : ∀ t : Fin cfg0.N, win0_6.index t = ![t.val, 0] := (by decide +kernel : ∀ t : Fin grid0.N, _)
theorem ix_7 : ∀ t : Fin cfg0.N, win0_7.index t = ![0, 0] := (by decide +kernel : ∀ t : Fin grid0.N, _)

theorem blk_0 (c : Dev nD) (t : Fin cfg0.N) (r : Fin 512) (f : Fin 2816) : iblk m c 0 t (ix2 r f) = dgA m c (ix2 (tok t.val (tlt t) r) f) := by
  blk_simp [iblk, ix_0]
  rw [V_main_arg3]
  refine congrArg (dgA m c) ?_
  unfold tok
  blk_ext [ix_0]
theorem blk_1 (c : Dev nD) (t : Fin cfg0.N) (r : Fin 512) (f : Fin 2816) : iblk m c 1 t (ix2 r f) = duA m c (ix2 (tok t.val (tlt t) r) f) := by
  blk_simp [iblk, ix_1]
  rw [V_main_arg4]
  refine congrArg (duA m c) ?_
  unfold tok
  blk_ext [ix_1]
theorem blk_3 (c : Dev nD) (t : Fin cfg0.N) (r : Fin 512) (d : Fin 1024) : iblk m c 3 t (ix2 r d) = hA m c (ix2 (tok t.val (tlt t) r) d) := by
  blk_simp [iblk, ix_3]
  rw [V_main_arg0]
  refine congrArg (hA m c) ?_
  unfold tok
  blk_ext [ix_3]
theorem blk_5 (c : Dev nD) (t : Fin cfg0.N) (r : Fin 512) (d : Fin 1024) : iblk m c 5 t (ix2 r d) = eA m c (ix2 (tok t.val (tlt t) r) d) := by
  blk_simp [iblk, ix_5]
  rw [V_main_arg5]
  refine congrArg (eA m c) ?_
  unfold tok
  blk_ext [ix_5]

/-- The weight as the kernel takes it: its columns in four chunks, rounded. -/
def wArr (w : FVec Ideal S1024x5632 .f32) : FVec Ideal S4x1024x1408 .bf16 :=
  transpose S4x1024x1408 [1, 0, 2] (shapeCast S1024x4x1408 (truncf .bf16 w bitsLt_bf16_f32) shapeCasts_S1024x5632_S1024x4x1408) transposes_S1024x4x1408_S4x1024x1408_1_0_2
theorem V_w (c : Dev nD) : (V m c main_v2 : FVec Ideal S4x1024x1408 .bf16) = wArr (wA m c) := by
  unfold V
  after_results
  rfl
theorem V_gain (c : Dev nD) : (V m c main_v3 : FVec Ideal S1x1024 .f32) = shapeCast S1x1024 (gA m c) shapeCasts_S1024_S1x1024 := by
  unfold V
  after_results
  rfl
theorem wArr_at (w : FVec Ideal S1024x5632 .f32) (q : Fin 4) (d : Fin 1024) (f : Fin 1408) :
    wArr w (ix3 q d f) = w (ix2 d (⟨q.val * 1408 + f.val, by omega⟩ : Fin 5632)) := by
  unfold wArr
  pointwise

theorem blk_2 (c : Dev nD) (t : Fin cfg0.N) (q : Fin 4) (d : Fin 1024) (f : Fin 1408) :
    iblk m c 2 t (ix3 q d f) = wA m c (ix2 d (⟨q.val * 1408 + f.val, by omega⟩ : Fin 5632)) := by
  rw [← wArr_at (wA m c)]
  blk_simp [iblk, ix_2]
  rw [V_w]
  refine congrArg (wArr (wA m c)) ?_
  blk_ext [ix_2]
theorem blk_4 (c : Dev nD) (t : Fin cfg0.N) (d : Fin 1024) : iblk m c 4 t (ix2 0 d) = gA m c (ix1 d) := by
  have e : shapeCast S1x1024 (gA m c) shapeCasts_S1024_S1x1024 (ix2 0 d) = gA m c (ix1 d) := by pointwise
  rw [← e]
  blk_simp [iblk, ix_4]
  rw [V_gain]
  refine congrArg (shapeCast S1x1024 (gA m c) shapeCasts_S1024_S1x1024) ?_
  blk_ext [ix_4]

/-! ## The arrays of the whole call -/

section Whole
variable (h : FVec Ideal S4096x1024 .f32) (g : FVec Ideal S1024 .f32) (w : FVec Ideal S1024x5632 .f32) (a b : FVec Ideal S4096x2816 .bf16) (e : FVec Ideal S4096x1024 .f32)

/-- The gradient of the normalised input. -/
def dhnOf (r : Fin 4096) (d : Fin 1024) : EReal := ∑ j : Fin 5632, both rfl (fun k : Fin 2816 => a (ix2 r k)) (fun k => b (ix2 r k)) j * w (ix2 d j)
def dhnArr : FVec Ideal S4096x1024 .f32 := fun i => dhnOf w a b ⟨(i 0).val, (i 0).isLt⟩ ⟨(i 1).val, (i 1).isLt⟩
end Whole

theorem dhn_blk (c : Dev nD) (t : Fin cfg0.N) (r : Fin 512) (d : Fin 1024) :
    dhn (F := Ideal) (iblk m c 0 t) (iblk m c 1 t) (iblk m c 2 t) (ix2 r d) = dhnArr (wA m c) (dgA m c) (duA m c) (ix2 (tok t.val (tlt t) r) d) := by
  have eL : ∀ (j : Fin 5632) (k : Fin 2816), j.val = k.val → iblk m c 0 t (ix2 r k) = both rfl (fun k : Fin 2816 => dgA m c (ix2 (tok t.val (tlt t) r) k)) (fun k => duA m c (ix2 (tok t.val (tlt t) r) k)) j :=
    fun j k hk => (blk_0 m c t r k).trans (both_lo rfl (fun k : Fin 2816 => dgA m c (ix2 (tok t.val (tlt t) r) k)) _ j k hk).symm
  have eH : ∀ (j : Fin 5632) (k : Fin 2816), j.val = 2816 + k.val → iblk m c 1 t (ix2 r k) = both rfl (fun k : Fin 2816 => dgA m c (ix2 (tok t.val (tlt t) r) k)) (fun k => duA m c (ix2 (tok t.val (tlt t) r) k)) j :=
    fun j k hk => (blk_1 m c t r k).trans (both_hi rfl _ (fun k : Fin 2816 => duA m c (ix2 (tok t.val (tlt t) r) k)) j k hk).symm
  rw [dhn_at]
  refine Eq.trans ?_ (four_chunks 1408 fun j : Fin 5632 => both rfl (fun k : Fin 2816 => dgA m c (ix2 (tok t.val (tlt t) r) k)) (fun k => duA m c (ix2 (tok t.val (tlt t) r) k)) j * wA m c (ix2 d j))
  refine congrArg₂ (· + ·) (congrArg₂ (· + ·) (congrArg₂ (· + ·) ?_ ?_) ?_) ?_
  · exact Finset.sum_congr rfl fun f _ => congrArg₂ (· * ·) (eL _ _ (by dsimp only <;> omega)) (blk_2 m c t 0 d f)
  · exact Finset.sum_congr rfl fun f _ => congrArg₂ (· * ·) (eL _ _ (by dsimp only <;> omega)) (blk_2 m c t 1 d f)
  · exact Finset.sum_congr rfl fun f _ => congrArg₂ (· * ·) (eH _ _ (by dsimp only <;> omega)) (blk_2 m c t 2 d f)
  · exact Finset.sum_congr rfl fun f _ => congrArg₂ (· * ·) (eH _ _ (by dsimp only <;> omega)) (blk_2 m c t 3 d f)

theorem out6 (c : Dev nD) (t : Fin cfg0.N) : (outsAt0 m c t.val t.isLt).1
    = k0_pay4 (dhn (iblk m c 0 t) (iblk m c 1 t) (iblk m c 2 t)) (iblk m c 3 t) (k0_pay7 (iblk m c 3 t)) (iblk m c 4 t) (iblk m c 5 t) := by
  by_cases h0 : t.val % 8 = 0
  · rw [outsAt0_A m c t h0]
    dsimp only
    rw [out_A6]
  · rw [outsAt0_B m c t h0]
    dsimp only
    rw [out_B6]

/-- What a step leaves in the block of the input's gradient. -/
theorem dh_block (c : Dev nD) (t : Fin cfg0.N) (r : Fin 512) (d : Fin 1024) : (outsAt0 m c t.val t.isLt).1 (ix2 r d)
    = dhFrom (hA m c) (gA m c) (dhnArr (wA m c) (dgA m c) (duA m c)) (eA m c) (ix2 (tok t.val (tlt t) r) d) := by
  rw [out6, dh_at, blk_5]
  simp only [blk_3, dhn_blk, blk_4]
  rfl

theorem dh_eq (c : Dev nD) : (dats m 0 c).arrAt 6 cfg0.N = dhFrom (hA m c) (gA m c) (dhnArr (wA m c) (dgA m c) (duA m c)) (eA m c) := by
  refine (dats m 0 c).arrAt_eq_of_covers 6 _ (by decide +kernel) fun t hf y => ?_
  blk_simp
  rw [after0_6]
  have hy0 : (y 0).val < 512 := (y 0).isLt
  have hy1 : (y 1).val < 1024 := (y 1).isLt
  have ey : y = ix2 (⟨(y 0).val, hy0⟩ : Fin 512) (⟨(y 1).val, hy1⟩ : Fin 1024) := by
    funext a
    match a with
    | ⟨0, _⟩ => rfl
    | ⟨1, _⟩ => rfl
  rw [ey]
  refine (dh_block m c t _ _).trans (congrArg (dhFrom (hA m c) (gA m c) (dhnArr (wA m c) (dgA m c) (duA m c)) (eA m c)) ?_)
  unfold tok
  blk_ext [ix_6]

/-- What one step adds to the gain's gradient. -/
theorem dg_step (c : Dev nD) (t : Fin cfg0.N) (acc : Vec Ideal S1x1024 .f32) (d : Fin 1024) :
    k0_pay3 (F := Ideal) (dhn (iblk m c 0 t) (iblk m c 1 t) (iblk m c 2 t)) (iblk m c 3 t) (k0_pay7 (iblk m c 3 t)) acc (ix2 0 d)
      = acc (ix2 0 d) + ∑ r : Fin 512, gainFrom (hA m c) (dhnArr (wA m c) (dgA m c) (duA m c)) d (tok t.val (tlt t) r) := by
  rw [dg_at]
  simp only [blk_3, dhn_blk]
  rfl

theorem zero_at (d : Fin 1024) : k0_pay5 (F := Ideal) (ix2 0 d) = 0 := by
  unfold k0_pay5
  pointwise

/-- What a point leaves in the gain's block: the steps up to it. -/
theorem dg_upto (c : Dev nD) (d : Fin 1024) : ∀ (n : Nat) (hn : n < cfg0.N), (outsAt0 m c n hn).2 (ix2 0 d)
    = ∑ k : Fin (n + 1), ∑ r : Fin 512, gainFrom (hA m c) (dhnArr (wA m c) (dgA m c) (duA m c)) d (tok k.val (by have := tlt ⟨n, hn⟩; have := k.isLt; dsimp only at *; omega) r) := by
  refine accum (fun n hn => (outsAt0 m c n hn).2 (ix2 0 d)) (fun n hn => ∑ r : Fin 512, gainFrom (hA m c) (dhnArr (wA m c) (dgA m c) (duA m c)) d (tok n (tlt ⟨n, hn⟩) r)) (fun hn => ?_) (fun n hn => ?_)
  · have e := outsAt0_A m c ⟨0, hn⟩ (Nat.zero_mod 8)
    dsimp only at e ⊢
    rw [e]
    dsimp only
    rw [out_A7, dg_step, zero_at, zero_add]
  · have hl := tlt ⟨n + 1, hn⟩
    dsimp only at hl
    have e := outsAt0_B m c ⟨n + 1, hn⟩ (by dsimp only; omega)
    dsimp only at e ⊢
    rw [e]
    dsimp only
    rw [out_B7, dg_step]
    rfl

theorem dg_block (c : Dev nD) (d : Fin 1024) (t : Fin cfg0.N) (ht : t.val % 8 = 7) : (outsAt0 m c t.val t.isLt).2 (ix2 0 d)
    = ∑ r : Fin 4096, gainFrom (hA m c) (dhnArr (wA m c) (dgA m c) (duA m c)) d r := by
  have hl := tlt t
  obtain ⟨n, hn⟩ := t
  obtain rfl : n = 7 := by dsimp only at ht hl; omega
  exact (dg_upto m c d 7 hn).trans (Fin.sum_mul_add_fin 8 512 (gainFrom (hA m c) (dhnArr (wA m c) (dgA m c) (duA m c)) d))

theorem dg_eq (c : Dev nD) : (dats m 0 c).arrAt 7 cfg0.N = dgFrom (hA m c) (dhnArr (wA m c) (dgA m c) (duA m c)) := by
  refine (dats m 0 c).arrAt_eq_of_covers 7 _ (by decide +kernel) fun t hf y => ?_
  have ht : t.val % 8 = 7 := (flush0_7 t).mp hf
  blk_simp
  rw [after0_7]
  have hy1 : (y 1).val < 1024 := (y 1).isLt
  have ey : y = ix2 (0 : Fin 1) (⟨(y 1).val, hy1⟩ : Fin 1024) := by
    funext a
    match a with
    | ⟨0, _⟩ => exact Fin.ext (by have : (y 0).val < 1 := (y 0).isLt; show (y 0).val = 0; omega)
    | ⟨1, _⟩ => rfl
  rw [ey]
  refine (dg_block m c _ t ht).trans ?_
  refine Eq.trans (b := dgFrom (hA m c) (dhnArr (wA m c) (dgA m c) (duA m c)) (ix2 (0 : Fin 1) (⟨(y 1).val, hy1⟩ : Fin 1024))) rfl (congrArg (dgFrom (hA m c) (dhnArr (wA m c) (dgA m c) (duA m c))) ?_)
  blk_ext [ix_7]
end Blocks

end Cert.Kernel2Ideal.GateUp
-- ==== Proof.Norm.Back.lean ====
/- Differentiation's own form of the gradients through a normalisation, as the host's operations on the gradient D of the
   normalised input, and their values: the input's gradient is the short form (Norm/Row), the gain's is the sum over the
   tokens. Each reference of a gradient through a product and its normalisation ends in these operations. -/
module

public import proofs.«01_k».proof.Proof.Norm.Whole
public import Idealize.ShloMosaic.Lib.Pointwise.Tactic
public import Idealize.ShloMosaic.Lib.Pointwise.Reshape
public import Idealize.ShloMosaic.Lib.Pointwise.Reduce

@[expose] public section

set_option maxRecDepth 16384

noncomputable section

namespace Cert.Norm

open Cert.Reference6Ideal Cert.Reference6Ideal.Gen Cert.Reference6Ideal.Read
open Idealize.ShloMosaic Idealize.ShloMosaic.TcCoe

variable (h : FVec Ideal S4096x1024 .f32) (g : FVec Ideal S1024 .f32) (D e : FVec Ideal S4096x1024 .f32)

/-- Row r of the input. -/
abbrev row (r : Fin 4096) : Fin 1024 → EReal := fun d => h (ix2 r d)

/-! ## The normalisation -/

theorem squares_at (r : Fin 4096) : val_main_v1 (F := Ideal) h (ix1 r) = ∑ d : Fin 1024, row h r d * row h r d := by
  rw [val_main_v1_apply]
  have e0 : ∀ d, idx_main_v1 (ix1 r) d = ix2 r d := fun d => by funext b; fin_cases b <;> rfl
  simp only [e0]
  unfold val_main_cst val_main_v0
  pointwise
theorem ms_at (r : Fin 4096) : val_main_v6 (F := Ideal) h (ix2 r (0 : Fin 1)) = ms (row h r) := by
  have e0 : idx_main_v2 (ix2 r (0 : Fin 1)) = ix1 r := by funext b; fin_cases b; rfl
  unfold ms
  rw [← squares_at, ← e0, ← val_main_v2_apply]
  unfold val_main_v6 val_main_v4 val_main_v5 val_main_v3 val_main_cst_0 val_main_cst_1
  pointwise
theorem rinv_at (r : Fin 4096) : val_main_v7 (F := Ideal) h (ix2 r (0 : Fin 1)) = rinv (row h r) := by
  unfold rinv
  rw [← ms_at]
  unfold val_main_v7
  pointwise
theorem slope_at (r : Fin 4096) : val_main_v10 (F := Ideal) h (ix2 r (0 : Fin 1)) = mhalf * Ideal.div (rinv (row h r)) (ms (row h r)) := by
  rw [← rinv_at, ← ms_at]
  unfold val_main_v10 val_main_v9 val_main_v8 val_main_cst_2
  pointwise

/-! ## The gradients, as the host computes them -/

/-- The gradient of what the gain multiplies. -/
def scaled : FVec Ideal S4096x1024 .f32 := mulf D (val_main_v22 (F := Ideal) g)
/-- Each row's sum of the input times it. -/
def dots : FVec Ideal S4096 .f32 :=
  Host.reduceAdd (mulf h (scaled g D)) (val_main_cst_5 (F := Ideal)) reducesTo_S4096x1024_S4096_d1 h_S_
/-- The gradient through the mean of squares, before the sum over its one column. -/
def meanGrad1 : FVec Ideal S4096x1 .f32 :=
  Host.divf (mulf (shapeCast _ (dots h g D) shapeCasts_S4096_S4096x1) (val_main_v10 (F := Ideal) h)) (val_main_v32 (F := Ideal))
def meanGrad0 : FVec Ideal S4096 .f32 := Host.reduceAdd (meanGrad1 h g D) (val_main_cst_7 (F := Ideal)) reducesTo_S4096x1_S4096_d1 h_S_
/-- The gradient through the mean of squares, for each factor. -/
def meanGrad : FVec Ideal S4096x1024 .f32 := broadcastInDim S4096x1024 ![0] bcast_S4096_S4096x1024_0 (meanGrad0 h g D)
/-- The input's gradient. -/
def backH : FVec Ideal S4096x1024 .f32 :=
  addf (addf (addf e (mulf (scaled g D) (val_main_v28 (F := Ideal) h))) (mulf h (meanGrad h g D))) (mulf (meanGrad h g D) h)
/-- The gain's gradient. -/
def gainParts : FVec Ideal S4096x1024 .f32 := mulf (val_main_v12 (F := Ideal) h) D
def gainSum : FVec Ideal S1024 .f32 := Host.reduceAdd (gainParts h D) (val_main_cst_3 (F := Ideal)) reducesTo_S4096x1024_S1024_d0 h_S_
def gainRow : FVec Ideal S1x1024 .f32 := shapeCast _ (gainSum h D) shapeCasts_S1024_S1x1024
def gainRow0 : FVec Ideal S1024 .f32 := Host.reduceAdd (gainRow h D) (val_main_cst_4 (F := Ideal)) reducesTo_S1x1024_S1024_d0 h_S_
def backG : FVec Ideal S1x1024 .f32 := shapeCast _ (gainRow0 h D) shapeCasts_S1024_S1x1024

/-! ## Their values -/

theorem scaled_at (r : Fin 4096) (d : Fin 1024) : scaled g D (ix2 r d) = D (ix2 r d) * g (ix1 d) := by
  unfold scaled val_main_v22 val_main_v13
  pointwise
theorem dots_at (r : Fin 4096) : dots h g D (ix1 r) = ∑ d : Fin 1024, row h r d * (D (ix2 r d) * g (ix1 d)) := by
  unfold dots
  simp only [Host.reduceAdd, Ideal.hostReduceAdd_def]
  rw [Ideal.hostReduceAdd_single reducesTo_S4096x1024_S4096_d1 (by decide)]
  refine Eq.trans (congrArg₂ (· + ·) (y' := ∑ d : Fin 1024, mulf h (scaled g D) (ix2 r d)) (x' := 0) ?_ (Finset.sum_congr rfl fun k _ => ?_)) ((zero_add _).trans ?_)
  · unfold val_main_cst_5
    pointwise
  · exact congrArg _ (funext fun a => Fin.ext (by match a with | ⟨0, _⟩ => rfl | ⟨1, _⟩ => rfl))
  · refine Finset.sum_congr rfl fun d _ => ?_
    rw [← scaled_at]
    rfl
theorem meanGrad1_at (r : Fin 4096) : meanGrad1 h g D (ix2 r (0 : Fin 1))
    = Ideal.div ((∑ d : Fin 1024, row h r d * (D (ix2 r d) * g (ix1 d))) * (mhalf * Ideal.div (rinv (row h r)) (ms (row h r)))) len := by
  rw [← slope_at, ← dots_at]
  unfold meanGrad1 val_main_v32 val_main_cst_6
  pointwise
theorem meanGrad_at (r : Fin 4096) (d : Fin 1024) : meanGrad h g D (ix2 r d) = meanGrad1 h g D (ix2 r (0 : Fin 1)) := by
  have e0 : meanGrad h g D (ix2 r d) = meanGrad0 h g D (ix1 r) := by
    unfold meanGrad
    pointwise
  rw [e0]
  unfold meanGrad0
  simp only [Host.reduceAdd, Ideal.hostReduceAdd_def]
  rw [Ideal.hostReduceAdd_single reducesTo_S4096x1_S4096_d1 (by decide)]
  refine Eq.trans (congrArg₂ (· + ·) (y' := ∑ d : Fin 1, meanGrad1 h g D (ix2 r d)) (x' := 0) ?_ (Finset.sum_congr rfl fun k _ => ?_)) ((zero_add _).trans (Fin.sum_univ_one _))
  · unfold val_main_cst_7
    pointwise
  · exact congrArg _ (funext fun a => Fin.ext (by match a with | ⟨0, _⟩ => rfl | ⟨1, _⟩ => rfl))

theorem backH_eq : backH h g D e = dhFrom h g D e := by
  funext i
  idx_vars i
  have e1 : backH h g D e (ix2 i0 i1)
      = ((e (ix2 i0 i1) + scaled g D (ix2 i0 i1) * val_main_v7 (F := Ideal) h (ix2 i0 (0 : Fin 1))) + h (ix2 i0 i1) * meanGrad h g D (ix2 i0 i1))
        + meanGrad h g D (ix2 i0 i1) * h (ix2 i0 i1) := by
    unfold backH val_main_v28
    pointwise
  rw [e1, scaled_at, rinv_at, add_assoc (e _), add_assoc (e _)]
  exact congrArg (e (ix2 i0 i1) + ·) (grad_eq (row h i0) (fun d => D (ix2 i0 d) * g (ix1 d)) i1 _ ((meanGrad_at h g D i0 i1).trans (meanGrad1_at h g D i0)))

theorem gainParts_at (r : Fin 4096) (d : Fin 1024) : gainParts h D (ix2 r d) = gainFrom h D d r := by
  unfold gainFrom
  rw [mul_comm, ← rinv_at]
  unfold gainParts val_main_v12 val_main_v11
  pointwise
theorem gainSum_at (d : Fin 1024) : gainSum h D (ix1 d) = ∑ r : Fin 4096, gainFrom h D d r := by
  unfold gainSum
  simp only [Host.reduceAdd, Ideal.hostReduceAdd_def]
  rw [Ideal.hostReduceAdd_single reducesTo_S4096x1024_S1024_d0 (by decide)]
  refine Eq.trans (congrArg₂ (· + ·) (y' := ∑ r : Fin 4096, gainParts h D (ix2 r d)) (x' := 0) ?_ (Finset.sum_congr rfl fun k _ => ?_)) ((zero_add _).trans (Finset.sum_congr rfl fun r _ => gainParts_at h D r d))
  · unfold val_main_cst_3
    pointwise
  · exact congrArg _ (funext fun a => Fin.ext (by match a with | ⟨0, _⟩ => rfl | ⟨1, _⟩ => rfl))
theorem gainRow0_at (d : Fin 1024) : gainRow0 h D (ix1 d) = gainSum h D (ix1 d) := by
  have e0 : gainRow h D (ix2 (0 : Fin 1) d) = gainSum h D (ix1 d) := by
    unfold gainRow
    pointwise
  rw [← e0]
  unfold gainRow0
  simp only [Host.reduceAdd, Ideal.hostReduceAdd_def]
  rw [Ideal.hostReduceAdd_single reducesTo_S1x1024_S1024_d0 (by decide)]
  refine Eq.trans (congrArg₂ (· + ·) (y' := ∑ r : Fin 1, gainRow h D (ix2 r d)) (x' := 0) ?_ (Finset.sum_congr rfl fun k _ => ?_)) ((zero_add _).trans (Fin.sum_univ_one _))
  · unfold val_main_cst_4
    pointwise
  · exact congrArg _ (funext fun a => Fin.ext (by match a with | ⟨0, _⟩ => rfl | ⟨1, _⟩ => rfl))
theorem backG_eq : backG h D = dgFrom h D := by
  funext i
  idx_vars i
  obtain rfl : i0 = 0 := Fin.ext (by have := i0.isLt; show i0.val = 0; omega)
  refine Eq.trans (b := gainRow0 h D (ix1 i1)) ?_ ((gainRow0_at h D i1).trans (gainSum_at h D i1))
  unfold backG
  pointwise

end Cert.Norm
-- ==== Proof.GateUp.Ref.lean ====
/- The reference's gradients through the gate and up projections and their normalisation: its gradient of the normalised input is the same
   sum, and the rest is differentiation's form of the normalisation's gradient (Norm/Back). -/
module

public import proofs.«01_k».proof.Proof.GateUp.Array
public import proofs.«01_k».proof.Proof.Norm.Back
public import proofs.«01_k».proof.Proof.Gen.Reference2Ideal.Read

@[expose] public section

set_option maxRecDepth 16384

noncomputable section

namespace Cert.Reference2Ideal.GateUp

open Cert.Reference2Ideal Cert.Reference2Ideal.Gen Cert.Reference2Ideal.Read
open Idealize.ShloMosaic Idealize.ShloMosaic.TcCoe
open Cert.Norm (both dhFrom dgFrom backH backG backH_eq backG_eq)
open Cert.Kernel2Ideal.GateUp (dhnArr)

variable (h : FVec Ideal S4096x1024 .f32) (g : FVec Ideal S1024 .f32) (w : FVec Ideal S1024x5632 .f32) (a b : FVec Ideal S4096x2816 .bf16) (e : FVec Ideal S4096x1024 .f32)

theorem v2_at (r : Fin 4096) (j : Fin 5632) : val_main_v2 (F := Ideal) a b (ix2 r j) = both rfl (fun k : Fin 2816 => a (ix2 r k)) (fun k => b (ix2 r k)) j := by
  unfold val_main_v2 val_main_v0 val_main_v1 both
  pointwise
theorem dhn_eq : val_main_v20 (F := Ideal) w a b = dhnArr w a b := by
  funext i
  idx_vars i
  rw [val_main_v20_apply]
  have eL : ∀ j, lidx_main_v20 (ix2 i0 i1) j = ix2 i0 j := fun j => by funext b; fin_cases b <;> rfl
  have eR : ∀ j, ridx_main_v20 (ix2 i0 i1) j = ix2 i1 j := fun j => by funext b; fin_cases b <;> rfl
  simp only [eL, eR, v2_at]
  rfl

theorem dh_eq : val_main_v41 (F := Ideal) h g w a b e = dhFrom h g (dhnArr w a b) e :=
  (show val_main_v41 (F := Ideal) h g w a b e = backH h g (val_main_v20 (F := Ideal) w a b) e from rfl).trans ((backH_eq h g _ e).trans (by rw [dhn_eq]))
theorem dg_eq : val_main_v42 (F := Ideal) h w a b = dgFrom h (dhnArr w a b) :=
  (show val_main_v42 (F := Ideal) h w a b = backG h (val_main_v20 (F := Ideal) w a b) from rfl).trans ((backG_eq h _).trans (by rw [dhn_eq]))

end Cert.Reference2Ideal.GateUp
-- ==== Proof.Swiglu.Step.lean ====
/- One grid step of the gradient through the normalisation after the down projection, the projection itself and the gated
   activation: the four blocks it leaves, for any values and element by element. -/
module

public import proofs.«01_k».proof.Proof.Gen.Kernel3Ideal.Value
public import Idealize.ShloMosaic.Lib.Pipeline.ValueKit
public import Idealize.ShloMosaic.Lib.Pointwise.Tactic
public import Idealize.ShloMosaic.Lib.Pointwise.Contract
public import Idealize.ShloMosaic.Lib.Pointwise.Reshape
public import Idealize.ShloMosaic.Lib.Pointwise.Reduce
public import proofs.«01_k».proof.Proof.Norm.Row

@[expose] public section

set_option maxRecDepth 16384

noncomputable section

namespace Cert.Kernel3Ideal.Swiglu

open Cert.Kernel3Ideal Cert.Kernel3Ideal.Gen
open Idealize.ShloMosaic Idealize.ShloMosaic.TcCoe Idealize.ShloMosaic.Tactic
open Idealize.SL.Sem
open Idealize.ShloMosaic.Pipeline (Dat)

theorem zero2 : (![0, 0] : Fin 2 → Nat) = fun _ => 0 := funext fun a => by fin_cases a <;> rfl
theorem zero3 : (![0, 0, 0] : Fin 3 → Nat) = fun _ => 0 := funext fun a => by fin_cases a <;> rfl

section Step
variable {F : FTy → Type} [FloatOps F]
variable (c : Dev nD) (i : grid0.Coords) (a1 : Memref sig .tc .vmem S512x1024 .f32) (h1 : a1.IsWhole) (a2 : Memref sig .tc .vmem S512x1024 .bf16) (h2 : a2.IsWhole)
  (a3 : Memref sig .tc .vmem S1x1024 .f32) (h3 : a3.IsWhole) (a4 : Memref sig .tc .vmem S1x2816x1024 .bf16) (h4 : a4.IsWhole)
  (a5 : Memref sig .tc .vmem S512x2816 .bf16) (h5 : a5.IsWhole) (a6 : Memref sig .tc .vmem S512x2816 .bf16) (h6 : a6.IsWhole)
  (a7 : Memref sig .tc .vmem S512x1024 .bf16) (h7 : a7.IsWhole) (a8 : Memref sig .tc .vmem S512x2816 .bf16) (h8 : a8.IsWhole)
  (a9 : Memref sig .tc .vmem S512x2816 .bf16) (h9 : a9.IsWhole) (a10 : Memref sig .tc .vmem S1x1024 .f32) (h10 : a10.IsWhole)
  (x0 : Vec F S512x1024 .f32) (x1 : Vec F S512x1024 .bf16) (x2 : Vec F S1x1024 .f32) (x3 : Vec F S1x2816x1024 .bf16) (x4 x5 : Vec F S512x2816 .bf16) (acc : Vec F S1x1024 .f32)

/-- The gradient of the projection's output, in either case. -/
theorem out_A6 (p0 : cond0_0 i) :
    out0_A_6 c i a1 h1 a2 h2 a3 h3 a4 h4 a5 h5 a6 h6 a7 h7 a8 h8 a9 h9 a10 h10 p0 x0 x1 x2 x3 x4 x5 = k0_pay9 x0 x1 x2 := by
  unfold out0_A_6
  rw [View.read_writes_eq_canon _ _ _ (cover0_A_6 c i a1 h1 a2 h2 a3 h3 a4 h4 a5 h5 a6 h6 a7 h7 a8 h8 a9 h9 a10 h10 p0 x0 x1 x2 x3 x4 x5)]
  unfold kernelRun0_A
  dsimp only
  sl_unfold_words
  rw [View.canon_unit_zero zero2]
  simp only [View.readAt_eq_ld, h1.read_unread, h2.read_unread, h3.read_unread, h4.read_unread, h5.read_unread, h6.read_unread, h10.read_unread,
    View.ld_unit_zero (S := S512x1024) zero2, View.ld_unit_zero (S := S1x1024) zero2, View.ld_unit_zero (S := S512x2816) zero2,
    View.ld_unit_zero (S := S1x2816x1024) zero3, shapeCast_self]
theorem out_B6 (p0 : ¬cond0_0 i) :
    out0_B_6 c i a1 h1 a2 h2 a3 h3 a4 h4 a5 h5 a6 h6 a7 h7 a8 h8 a9 h9 a10 h10 p0 x0 x1 x2 x3 x4 x5 acc = k0_pay9 x0 x1 x2 := by
  unfold out0_B_6
  rw [View.read_writes_eq_canon _ _ _ (cover0_B_6 c i a1 h1 a2 h2 a3 h3 a4 h4 a5 h5 a6 h6 a7 h7 a8 h8 a9 h9 a10 h10 p0 x0 x1 x2 x3 x4 x5 acc)]
  unfold kernelRun0_B
  dsimp only
  sl_unfold_words
  rw [View.canon_unit_zero zero2]
  simp only [View.readAt_eq_ld, h1.read_unread, h2.read_unread, h3.read_unread, h4.read_unread, h5.read_unread, h6.read_unread, h10.read_unread,
    View.ld_unit_zero (S := S512x1024) zero2, View.ld_unit_zero (S := S1x1024) zero2, View.ld_unit_zero (S := S512x2816) zero2,
    View.ld_unit_zero (S := S1x2816x1024) zero3, shapeCast_self]
/-- The gate's gradient. -/
theorem out_A7 (p0 : cond0_0 i) :
    out0_A_7 c i a1 h1 a2 h2 a3 h3 a4 h4 a5 h5 a6 h6 a7 h7 a8 h8 a9 h9 a10 h10 p0 x0 x1 x2 x3 x4 x5 = k0_pay2 (k0_pay9 x0 x1 x2) x3 x5 := by
  unfold out0_A_7
  rw [View.read_writes_eq_canon _ _ _ (cover0_A_7 c i a1 h1 a2 h2 a3 h3 a4 h4 a5 h5 a6 h6 a7 h7 a8 h8 a9 h9 a10 h10 p0 x0 x1 x2 x3 x4 x5)]
  unfold kernelRun0_A
  dsimp only
  sl_unfold_words
  rw [View.canon_unit_zero zero2]
  simp only [View.readAt_eq_ld, h1.read_unread, h2.read_unread, h3.read_unread, h4.read_unread, h5.read_unread, h6.read_unread, h10.read_unread,
    View.ld_unit_zero (S := S512x1024) zero2, View.ld_unit_zero (S := S1x1024) zero2, View.ld_unit_zero (S := S512x2816) zero2,
    View.ld_unit_zero (S := S1x2816x1024) zero3, shapeCast_self]
theorem out_B7 (p0 : ¬cond0_0 i) :
    out0_B_7 c i a1 h1 a2 h2 a3 h3 a4 h4 a5 h5 a6 h6 a7 h7 a8 h8 a9 h9 a10 h10 p0 x0 x1 x2 x3 x4 x5 acc = k0_pay2 (k0_pay9 x0 x1 x2) x3 x5 := by
  unfold out0_B_7
  rw [View.read_writes_eq_canon _ _ _ (cover0_B_7 c i a1 h1 a2 h2 a3 h3 a4 h4 a5 h5 a6 h6 a7 h7 a8 h8 a9 h9 a10 h10 p0 x0 x1 x2 x3 x4 x5 acc)]
  unfold kernelRun0_B
  dsimp only
  sl_unfold_words
  rw [View.canon_unit_zero zero2]
  simp only [View.readAt_eq_ld, h1.read_unread, h2.read_unread, h3.read_unread, h4.read_unread, h5.read_unread, h6.read_unread, h10.read_unread,
    View.ld_unit_zero (S := S512x1024) zero2, View.ld_unit_zero (S := S1x1024) zero2, View.ld_unit_zero (S := S512x2816) zero2,
    View.ld_unit_zero (S := S1x2816x1024) zero3, shapeCast_self]
/-- The up projection's gradient. -/
theorem out_A8 (p0 : cond0_0 i) :
    out0_A_8 c i a1 h1 a2 h2 a3 h3 a4 h4 a5 h5 a6 h6 a7 h7 a8 h8 a9 h9 a10 h10 p0 x0 x1 x2 x3 x4 x5 = k0_pay3 (k0_pay9 x0 x1 x2) x3 x4 := by
  unfold out0_A_8
  rw [View.read_writes_eq_canon _ _ _ (cover0_A_8 c i a1 h1 a2 h2 a3 h3 a4 h4 a5 h5 a6 h6 a7 h7 a8 h8 a9 h9 a10 h10 p0 x0 x1 x2 x3 x4 x5)]
  unfold kernelRun0_A
  dsimp only
  sl_unfold_words
  rw [View.canon_unit_zero zero2]
  simp only [View.readAt_eq_ld, h1.read_unread, h2.read_unread, h3.read_unread, h4.read_unread, h5.read_unread, h6.read_unread, h10.read_unread,
    View.ld_unit_zero (S := S512x1024) zero2, View.ld_unit_zero (S := S1x1024) zero2, View.ld_unit_zero (S := S512x2816) zero2,
    View.ld_unit_zero (S := S1x2816x1024) zero3, shapeCast_self]
theorem out_B8 (p0 : ¬cond0_0 i) :
    out0_B_8 c i a1 h1 a2 h2 a3 h3 a4 h4 a5 h5 a6 h6 a7 h7 a8 h8 a9 h9 a10 h10 p0 x0 x1 x2 x3 x4 x5 acc = k0_pay3 (k0_pay9 x0 x1 x2) x3 x4 := by
  unfold out0_B_8
  rw [View.read_writes_eq_canon _ _ _ (cover0_B_8 c i a1 h1 a2 h2 a3 h3 a4 h4 a5 h5 a6 h6 a7 h7 a8 h8 a9 h9 a10 h10 p0 x0 x1 x2 x3 x4 x5 acc)]
  unfold kernelRun0_B
  dsimp only
  sl_unfold_words
  rw [View.canon_unit_zero zero2]
  simp only [View.readAt_eq_ld, h1.read_unread, h2.read_unread, h3.read_unread, h4.read_unread, h5.read_unread, h6.read_unread, h10.read_unread,
    View.ld_unit_zero (S := S512x1024) zero2, View.ld_unit_zero (S := S1x1024) zero2, View.ld_unit_zero (S := S512x2816) zero2,
    View.ld_unit_zero (S := S1x2816x1024) zero3, shapeCast_self]
/-- The gain's gradient: set at the first point, added to afterwards. -/
theorem out_A9 (p0 : cond0_0 i) :
    out0_A_9 c i a1 h1 a2 h2 a3 h3 a4 h4 a5 h5 a6 h6 a7 h7 a8 h8 a9 h9 a10 h10 p0 x0 x1 x2 x3 x4 x5 = k0_pay8 x0 x1 k0_pay4 := by
  unfold out0_A_9
  rw [View.read_writes_eq_canon _ _ _ (cover0_A_9 c i a1 h1 a2 h2 a3 h3 a4 h4 a5 h5 a6 h6 a7 h7 a8 h8 a9 h9 a10 h10 p0 x0 x1 x2 x3 x4 x5)]
  unfold kernelRun0_A
  dsimp only
  sl_unfold_words
  rw [View.canon_cons_unit_zero (S := S1x1024) zero2, View.readCov_unit_zero (S := S1x1024) _ zero2]
  simp only [View.readAt_eq_ld, h1.read_unread, h2.read_unread, h3.read_unread, h4.read_unread, h5.read_unread, h6.read_unread, h10.read_unread,
    View.ld_unit_zero (S := S512x1024) zero2, View.ld_unit_zero (S := S1x1024) zero2, View.ld_unit_zero (S := S512x2816) zero2,
    View.ld_unit_zero (S := S1x2816x1024) zero3, shapeCast_self]
theorem out_B9 (p0 : ¬cond0_0 i) :
    out0_B_9 c i a1 h1 a2 h2 a3 h3 a4 h4 a5 h5 a6 h6 a7 h7 a8 h8 a9 h9 a10 h10 p0 x0 x1 x2 x3 x4 x5 acc = k0_pay8 x0 x1 acc := by
  unfold out0_B_9
  rw [View.read_writes_eq_canon _ _ _ (cover0_B_9 c i a1 h1 a2 h2 a3 h3 a4 h4 a5 h5 a6 h6 a7 h7 a8 h8 a9 h9 a10 h10 p0 x0 x1 x2 x3 x4 x5 acc)]
  unfold kernelRun0_B
  dsimp only
  sl_unfold_words
  rw [View.canon_unit_zero zero2]
  simp only [View.readAt_eq_ld, h1.read_unread, h2.read_unread, h3.read_unread, h4.read_unread, h5.read_unread, h6.read_unread, h10.read_unread,
    View.ld_unit_zero (S := S512x1024) zero2, View.ld_unit_zero (S := S1x1024) zero2, View.ld_unit_zero (S := S512x2816) zero2,
    View.ld_unit_zero (S := S1x2816x1024) zero3, shapeCast_self]
end Step

/-! ## The step's values element by element -/

section At
variable (x0 : Vec Ideal S512x1024 .f32) (x1 : Vec Ideal S512x1024 .bf16) (x2 : Vec Ideal S1x1024 .f32) (x3 : Vec Ideal S1x2816x1024 .bf16) (x4 x5 : Vec Ideal S512x2816 .bf16)
  (D : Vec Ideal S512x1024 .bf16) (acc : Vec Ideal S1x1024 .f32)

theorem rinv_at (r : Fin 512) : k0_pay6 (F := Ideal) x1 (ix2 r 0) = Cert.Norm.rinv (fun e : Fin 1024 => x1 (ix2 r e)) := by
  unfold k0_pay6 k0_pay5
  pointwise
  rfl
theorem norm_at (r : Fin 512) (d : Fin 1024) : k0_pay7 (F := Ideal) x1 (ix2 r d) = x1 (ix2 r d) * Cert.Norm.rinv (fun e : Fin 1024 => x1 (ix2 r e)) := by
  rw [← rinv_at]
  unfold k0_pay7 k0_pay5
  pointwise
theorem dy_at (r : Fin 512) (d : Fin 1024) : k0_pay9 (F := Ideal) x0 x1 x2 (ix2 r d)
    = Cert.Norm.grad (fun e : Fin 1024 => x1 (ix2 r e)) (fun e => x0 (ix2 r e) * x2 (ix2 0 e)) d := by
  unfold k0_pay9
  pointwise
  simp only [norm_at, rinv_at]
  rfl
theorem dg_at (d : Fin 1024) : k0_pay8 (F := Ideal) x0 x1 acc (ix2 0 d)
    = acc (ix2 0 d) + ∑ r : Fin 512, x0 (ix2 r d) * (x1 (ix2 r d) * Cert.Norm.rinv (fun e : Fin 1024 => x1 (ix2 r e))) := by
  unfold k0_pay8
  pointwise
  simp only [norm_at]
theorem zero_at (d : Fin 1024) : k0_pay4 (F := Ideal) (ix2 0 d) = 0 := by
  unfold k0_pay4
  pointwise
theorem dgo_at (r : Fin 512) (f : Fin 2816) : k0_pay2 (F := Ideal) D x3 x5 (ix2 r f) = (∑ d : Fin 1024, D (ix2 r d) * x3 (ix3 0 f d)) * x5 (ix2 r f) := by
  unfold k0_pay2 k0_pay1
  pointwise
theorem duo_at (r : Fin 512) (f : Fin 2816) : k0_pay3 (F := Ideal) D x3 x4 (ix2 r f) = (∑ d : Fin 1024, D (ix2 r d) * x3 (ix3 0 f d)) * x4 (ix2 r f) := by
  unfold k0_pay3 k0_pay1
  pointwise
end At
end Cert.Kernel3Ideal.Swiglu
-- ==== Proof.Swiglu.Array.lean ====
/- The gradient through the normalisation after the down projection, the projection and the gated activation: the four
   result arrays at the end. -/
module

public import proofs.«01_k».proof.Proof.Swiglu.Step

@[expose] public section

set_option maxRecDepth 16384

noncomputable section

namespace Cert.Kernel3Ideal.Swiglu

open Cert.Kernel3Ideal Cert.Kernel3Ideal.Gen
open Idealize.ShloMosaic Idealize.ShloMosaic.TcCoe Idealize.ShloMosaic.Tactic
open Idealize.SL.Sem
open Idealize.ShloMosaic.Pipeline (Dat)

/-! ## The arrays of the whole call -/

section Whole
variable (f : FVec Ideal S4096x1024 .f32) (g : FVec Ideal S1024 .f32) (w : FVec Ideal S2816x1024 .f32) (dh : FVec Ideal S4096x1024 .f32)

/-- A token's gradient of the down projection's output. -/
def dyOf (r : Fin 4096) (d : Fin 1024) : EReal := Cert.Norm.grad (fun e : Fin 1024 => f (ix2 r e)) (fun e => dh (ix2 r e) * g (ix1 e)) d
/-- Its gradient of the activation. -/
def daOf (r : Fin 4096) (j : Fin 2816) : EReal := ∑ d : Fin 1024, dyOf f g dh r d * w (ix2 j d)
/-- Its part of the gain's gradient. -/
def gainOf (d : Fin 1024) (r : Fin 4096) : EReal := dh (ix2 r d) * (f (ix2 r d) * Cert.Norm.rinv (fun e : Fin 1024 => f (ix2 r e)))
def dyArr : FVec Ideal S4096x1024 .bf16 := fun i => dyOf f g dh ⟨(i 0).val, (i 0).isLt⟩ ⟨(i 1).val, (i 1).isLt⟩
/-- The activation's gradient times another array: the gate's and the up projection's gradients. -/
def daArr (x : FVec Ideal S4096x2816 .bf16) : FVec Ideal S4096x2816 .bf16 := fun i => daOf f g w dh ⟨(i 0).val, (i 0).isLt⟩ ⟨(i 1).val, (i 1).isLt⟩ * x i
def dgainArr : FVec Ideal S1x1024 .f32 := fun i => ∑ r : Fin 4096, gainOf f dh ⟨(i 1).val, (i 1).isLt⟩ r
end Whole

section Blocks
variable (m : (ℓ : Loc nD τ sig) → Buf (Elt Ideal) ℓ)

abbrev gateA (c : Dev nD) : FVec Ideal S4096x2816 .f32 := m ((c : Thread nD τ).loc main_arg0)
abbrev upA (c : Dev nD) : FVec Ideal S4096x2816 .f32 := m ((c : Thread nD τ).loc main_arg1)
abbrev gA (c : Dev nD) : FVec Ideal S1024 .f32 := m ((c : Thread nD τ).loc main_arg2)
abbrev wA (c : Dev nD) : FVec Ideal S2816x1024 .f32 := m ((c : Thread nD τ).loc main_arg3)
abbrev dhA (c : Dev nD) : FVec Ideal S4096x1024 .f32 := m ((c : Thread nD τ).loc main_arg4)
/-- The saved values of the forward pass: the projection's output, and what multiplies the activation's gradient. -/
abbrev fA (c : Dev nD) : FVec Ideal S4096x1024 .f32 := (V m c main_v16 : FVec Ideal S4096x1024 .bf16)
abbrev sA (c : Dev nD) : FVec Ideal S4096x2816 .bf16 := V m c main_v18
abbrev utA (c : Dev nD) : FVec Ideal S4096x2816 .bf16 := V m c main_v19

theorem tlt (t : Fin cfg0.N) : t.val < 8 := lt_of_lt_of_eq t.isLt (show cfg0.N = 8 from N_0)

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0] := (by decide +kernel : ∀ t : Fin grid0.N, _)
theorem ix_6 : ∀ t : Fin cfg0.N, win0_6.index t = ![t.val, 0] := (by decide +kernel : ∀ t : Fin grid0.N, _)
theorem ix_7 : ∀ t : Fin cfg0.N, win0_7.index t = ![t.val, 0] := (by decide +kernel : ∀ t : Fin grid0.N, _)
theorem ix_8 : ∀ t : Fin cfg0.N, win0_8.index t = ![t.val, 0] := (by decide +kernel : ∀ t : Fin grid0.N, _)
theorem ix_9 : ∀ t : Fin cfg0.N, win0_9.index t = ![0, 0] := (by decide +kernel : ∀ t : Fin grid0.N, _)

/-- Token r of block k. -/
def tok (k : Nat) (hk : k < 8) (r : Fin 512) : Fin 4096 := ⟨k * 512 + r.val, by omega⟩

theorem blk_0 (c : Dev nD) (t : Fin cfg0.N) (r : Fin 512) (d : Fin 1024) : iblk m c 0 t (ix2 r d) = dhA m c (ix2 (tok t.val (tlt t) r) d) := by
  blk_simp [iblk, ix_0]
  rw [V_main_arg4]
  refine congrArg (dhA m c) ?_
  unfold tok
  blk_ext [ix_0]
theorem blk_1 (c : Dev nD) (t : Fin cfg0.N) (r : Fin 512) (d : Fin 1024) : iblk m c 1 t (ix2 r d) = fA m c (ix2 (tok t.val (tlt t) r) d) := by
  blk_simp [iblk, ix_1]
  refine congrArg (fA m c) ?_
  unfold tok
  blk_ext [ix_1]
theorem blk_4 (c : Dev nD) (t : Fin cfg0.N) (r : Fin 512) (j : Fin 2816) : iblk m c 4 t (ix2 r j) = sA m c (ix2 (tok t.val (tlt t) r) j) := by
  blk_simp [iblk, ix_4]
  refine congrArg (sA m c) ?_
  unfold tok
  blk_ext [ix_4]
theorem blk_5 (c : Dev nD) (t : Fin cfg0.N) (r : Fin 512) (j : Fin 2816) : iblk m c 5 t (ix2 r j) = utA m c (ix2 (tok t.val (tlt t) r) j) := by
  blk_simp [iblk, ix_5]
  refine congrArg (utA m c) ?_
  unfold tok
  blk_ext [ix_5]

/-- The weight as the kernel takes it: rounded, with a leading axis of one. -/
def wArr (w : FVec Ideal S2816x1024 .f32) : FVec Ideal S1x2816x1024 .bf16 := shapeCast S1x2816x1024 (truncf .bf16 w bitsLt_bf16_f32) shapeCasts_S2816x1024_S1x2816x1024
theorem V_w (c : Dev nD) : (V m c main_v15 : FVec Ideal S1x2816x1024 .bf16) = wArr (wA m c) := by
  unfold V
  after_results
  rfl
theorem V_gain (c : Dev nD) : (V m c main_v17 : FVec Ideal S1x1024 .f32) = shapeCast S1x1024 (gA m c) shapeCasts_S1024_S1x1024 := by
  unfold V
  after_results
  rfl
theorem wArr_at (w : FVec Ideal S2816x1024 .f32) (j : Fin 2816) (d : Fin 1024) : wArr w (ix3 0 j d) = w (ix2 j d) := by
  unfold wArr
  pointwise
theorem blk_3 (c : Dev nD) (t : Fin cfg0.N) (j : Fin 2816) (d : Fin 1024) : iblk m c 3 t (ix3 0 j d) = wA m c (ix2 j d) := by
  rw [← wArr_at (wA m c)]
  blk_simp [iblk, ix_3]
  rw [V_w]
  refine congrArg (wArr (wA m c)) ?_
  blk_ext [ix_3]
theorem blk_2 (c : Dev nD) (t : Fin cfg0.N) (d : Fin 1024) : iblk m c 2 t (ix2 0 d) = gA m c (ix1 d) := by
  have e : shapeCast S1x1024 (gA m c) shapeCasts_S1024_S1x1024 (ix2 0 d) = gA m c (ix1 d) := by pointwise
  rw [← e]
  blk_simp [iblk, ix_2]
  rw [V_gain]
  refine congrArg (shapeCast S1x1024 (gA m c) shapeCasts_S1024_S1x1024) ?_
  blk_ext [ix_2]

/-! ## What a step leaves -/

/-- A step's first three blocks, the same in either case. -/
theorem outs (c : Dev nD) (t : Fin cfg0.N) : (outsAt0 m c t.val t.isLt).1 = k0_pay9 (iblk m c 0 t) (iblk m c 1 t) (iblk m c 2 t)
    ∧ (outsAt0 m c t.val t.isLt).2.1 = k0_pay2 (k0_pay9 (iblk m c 0 t) (iblk m c 1 t) (iblk m c 2 t)) (iblk m c 3 t) (iblk m c 5 t)
    ∧ (outsAt0 m c t.val t.isLt).2.2.1 = k0_pay3 (k0_pay9 (iblk m c 0 t) (iblk m c 1 t) (iblk m c 2 t)) (iblk m c 3 t) (iblk m c 4 t) := by
  by_cases h0 : t.val % 8 = 0
  · rw [outsAt0_A m c t h0]
    dsimp only
    rw [out_A6, out_A7, out_A8]
    exact ⟨rfl, rfl, rfl⟩
  · rw [outsAt0_B m c t h0]
    dsimp only
    rw [out_B6, out_B7, out_B8]
    exact ⟨rfl, rfl, rfl⟩

theorem dy_block (c : Dev nD) (t : Fin cfg0.N) (r : Fin 512) (d : Fin 1024) :
    k0_pay9 (F := Ideal) (iblk m c 0 t) (iblk m c 1 t) (iblk m c 2 t) (ix2 r d) = dyOf (fA m c) (gA m c) (dhA m c) (tok t.val (tlt t) r) d := by
  rw [dy_at]
  simp only [blk_0, blk_1, blk_2]
  rfl
theorem dgo_block (c : Dev nD) (t : Fin cfg0.N) (r : Fin 512) (j : Fin 2816) :
    k0_pay2 (F := Ideal) (k0_pay9 (iblk m c 0 t) (iblk m c 1 t) (iblk m c 2 t)) (iblk m c 3 t) (iblk m c 5 t) (ix2 r j)
      = daArr (fA m c) (gA m c) (wA m c) (dhA m c) (utA m c) (ix2 (tok t.val (tlt t) r) j) := by
  rw [dgo_at]
  simp only [dy_block, blk_3, blk_5]
  rfl
theorem duo_block (c : Dev nD) (t : Fin cfg0.N) (r : Fin 512) (j : Fin 2816) :
    k0_pay3 (F := Ideal) (k0_pay9 (iblk m c 0 t) (iblk m c 1 t) (iblk m c 2 t)) (iblk m c 3 t) (iblk m c 4 t) (ix2 r j)
      = daArr (fA m c) (gA m c) (wA m c) (dhA m c) (sA m c) (ix2 (tok t.val (tlt t) r) j) := by
  rw [duo_at]
  simp only [dy_block, blk_3, blk_4]
  rfl

theorem dy_eq (c : Dev nD) : (dats m 0 c).arrAt 6 cfg0.N = dyArr (fA m c) (gA m c) (dhA m c) := by
  refine (dats m 0 c).arrAt_eq_of_covers 6 _ (by decide +kernel) fun t hf y => ?_
  blk_simp
  rw [after0_6, (outs m c t).1]
  have hy0 : (y 0).val < 512 := (y 0).isLt
  have hy1 : (y 1).val < 1024 := (y 1).isLt
  have ey : y = ix2 (⟨(y 0).val, hy0⟩ : Fin 512) (⟨(y 1).val, hy1⟩ : Fin 1024) := by
    funext a
    match a with
    | ⟨0, _⟩ => rfl
    | ⟨1, _⟩ => rfl
  rw [ey]
  refine (dy_block m c t _ _).trans ?_
  refine Eq.trans (b := (dyArr (fA m c) (gA m c) (dhA m c)) (ix2 (tok t.val (tlt t) ⟨(y 0).val, hy0⟩) (⟨(y 1).val, hy1⟩ : Fin 1024))) rfl (congrArg (dyArr (fA m c) (gA m c) (dhA m c)) ?_)
  unfold tok
  blk_ext [ix_6]
theorem dgo_eq (c : Dev nD) : (dats m 0 c).arrAt 7 cfg0.N = daArr (fA m c) (gA m c) (wA m c) (dhA m c) (utA m c) := by
  refine (dats m 0 c).arrAt_eq_of_covers 7 _ (by decide +kernel) fun t hf y => ?_
  blk_simp
  rw [after0_7, (outs m c t).2.1]
  have hy0 : (y 0).val < 512 := (y 0).isLt
  have hy1 : (y 1).val < 2816 := (y 1).isLt
  have ey : y = ix2 (⟨(y 0).val, hy0⟩ : Fin 512) (⟨(y 1).val, hy1⟩ : Fin 2816) := by
    funext a
    match a with
    | ⟨0, _⟩ => rfl
    | ⟨1, _⟩ => rfl
  rw [ey]
  refine (dgo_block m c t _ _).trans ?_
  refine Eq.trans (b := (daArr (fA m c) (gA m c) (wA m c) (dhA m c) (utA m c)) (ix2 (tok t.val (tlt t) ⟨(y 0).val, hy0⟩) (⟨(y 1).val, hy1⟩ : Fin 2816))) rfl (congrArg (daArr (fA m c) (gA m c) (wA m c) (dhA m c) (utA m c)) ?_)
  unfold tok
  blk_ext [ix_7]
theorem duo_eq (c : Dev nD) : (dats m 0 c).arrAt 8 cfg0.N = daArr (fA m c) (gA m c) (wA m c) (dhA m c) (sA m c) := by
  refine (dats m 0 c).arrAt_eq_of_covers 8 _ (by decide +kernel) fun t hf y => ?_
  blk_simp
  rw [after0_8, (outs m c t).2.2]
  have hy0 : (y 0).val < 512 := (y 0).isLt
  have hy1 : (y 1).val < 2816 := (y 1).isLt
  have ey : y = ix2 (⟨(y 0).val, hy0⟩ : Fin 512) (⟨(y 1).val, hy1⟩ : Fin 2816) := by
    funext a
    match a with
    | ⟨0, _⟩ => rfl
    | ⟨1, _⟩ => rfl
  rw [ey]
  refine (duo_block m c t _ _).trans ?_
  refine Eq.trans (b := (daArr (fA m c) (gA m c) (wA m c) (dhA m c) (sA m c)) (ix2 (tok t.val (tlt t) ⟨(y 0).val, hy0⟩) (⟨(y 1).val, hy1⟩ : Fin 2816))) rfl (congrArg (daArr (fA m c) (gA m c) (wA m c) (dhA m c) (sA m c)) ?_)
  unfold tok
  blk_ext [ix_8]

/-! ## The gain's gradient -/

/-- What one step adds. -/
theorem dg_step (c : Dev nD) (t : Fin cfg0.N) (acc : Vec Ideal S1x1024 .f32) (d : Fin 1024) :
    k0_pay8 (F := Ideal) (iblk m c 0 t) (iblk m c 1 t) acc (ix2 0 d) = acc (ix2 0 d) + ∑ r : Fin 512, gainOf (fA m c) (dhA m c) d (tok t.val (tlt t) r) := by
  rw [dg_at]
  simp only [blk_0, blk_1]
  rfl

/-- What a point leaves in the gain's block: the steps up to it. -/
theorem dg_upto (c : Dev nD) (d : Fin 1024) : ∀ (n : Nat) (hn : n < cfg0.N), (outsAt0 m c n hn).2.2.2 (ix2 0 d)
    = ∑ k : Fin (n + 1), ∑ r : Fin 512, gainOf (fA m c) (dhA m c) d (tok k.val (by have := tlt ⟨n, hn⟩; have := k.isLt; dsimp only at *; omega) r)
  | 0, hn => by
    have e := outsAt0_A m c ⟨0, hn⟩ (Nat.zero_mod 8)
    dsimp only at e
    rw [e]
    dsimp only
    rw [out_A9, dg_step, zero_at, zero_add]
    simp
  | n + 1, hn => by
    have hl := tlt ⟨n + 1, hn⟩
    dsimp only at hl
    have e := outsAt0_B m c ⟨n + 1, hn⟩ (by dsimp only; omega)
    dsimp only at e
    rw [e]
    dsimp only
    rw [out_B9, dg_step]
    refine Eq.trans ?_ (Fin.sum_univ_castSucc _).symm
    exact congrArg₂ (· + ·) (dg_upto c d n (by omega)) rfl

theorem dg_block (c : Dev nD) (d : Fin 1024) (t : Fin cfg0.N) (ht : t.val % 8 = 7) : (outsAt0 m c t.val t.isLt).2.2.2 (ix2 0 d)
    = ∑ r : Fin 4096, gainOf (fA m c) (dhA m c) d r := by
  have hl := tlt t
  obtain ⟨n, hn⟩ := t
  obtain rfl : n = 7 := by dsimp only at ht hl; omega
  exact (dg_upto m c d 7 hn).trans (Fin.sum_mul_add_fin 8 512 (gainOf (fA m c) (dhA m c) d))

theorem dgain_eq (c : Dev nD) : (dats m 0 c).arrAt 9 cfg0.N = dgainArr (fA m c) (dhA m c) := by
  refine (dats m 0 c).arrAt_eq_of_covers 9 _ (by decide +kernel) fun t hf y => ?_
  have ht : t.val % 8 = 7 := (flush0_9 t).mp hf
  blk_simp
  rw [after0_9]
  have hy1 : (y 1).val < 1024 := (y 1).isLt
  have ey : y = ix2 (0 : Fin 1) (⟨(y 1).val, hy1⟩ : Fin 1024) := by
    funext a
    match a with
    | ⟨0, _⟩ => exact Fin.ext (by have : (y 0).val < 1 := (y 0).isLt; show (y 0).val = 0; omega)
    | ⟨1, _⟩ => rfl
  rw [ey]
  refine (dg_block m c _ t ht).trans ?_
  refine Eq.trans (b := dgainArr (fA m c) (dhA m c) (ix2 (0 : Fin 1) (⟨(y 1).val, hy1⟩ : Fin 1024))) rfl (congrArg (dgainArr (fA m c) (dhA m c)) ?_)
  blk_ext [ix_9]
end Blocks

end Cert.Kernel3Ideal.Swiglu
-- ==== Proof.Norm.Real.lean ====
/- Which of the values are real numbers, at the extended reals: a row of the gradient of a root-mean-square normalisation
   is, when what it starts from is, and so are the two numbers the gated activation's derivative is made of. -/
module

public import proofs.«01_k».proof.Proof.Norm.Row

@[expose] public section

noncomputable section

namespace Cert.Norm

open Idealize.ShloMosaic

/-- x is a real number. -/
def IsReal (x : EReal) : Prop := ∃ r : ℝ, x = r

namespace IsReal
variable {x y : EReal}

theorem zero : IsReal 0 := ⟨0, rfl⟩
theorem one : IsReal 1 := ⟨1, rfl⟩
theorem mul : IsReal x → IsReal y → IsReal (x * y)
  | ⟨a, ha⟩, ⟨b, hb⟩ => ⟨a * b, by rw [ha, hb, EReal.coe_mul]⟩
theorem add : IsReal x → IsReal y → IsReal (x + y)
  | ⟨a, ha⟩, ⟨b, hb⟩ => ⟨a + b, by rw [ha, hb, EReal.coe_add]⟩
theorem sub : IsReal x → IsReal y → IsReal (x - y)
  | ⟨a, ha⟩, ⟨b, hb⟩ => ⟨a - b, by rw [ha, hb, EReal.coe_sub]⟩
theorem sum {ι : Type} (s : Finset ι) (f : ι → EReal) (h : ∀ i ∈ s, IsReal (f i)) : IsReal (∑ i ∈ s, f i) :=
  Finset.sum_induction f IsReal (fun _ _ => add) zero h
theorem mean : IsReal x → IsReal (Ideal.div x len) := fun h => by
  rw [len_eq, Ideal.div_coe (by norm_num)]
  exact h.mul ⟨_, rfl⟩
theorem of_ne (h1 : x ≠ ⊤) (h2 : x ≠ ⊥) : IsReal x := ⟨x.toReal, (EReal.coe_toReal h1 h2).symm⟩
/-- A number whose magnitude is below infinity is real. -/
theorem of_abs_lt (h : max x (-x) < ⊤) : IsReal x := by
  refine of_ne (fun e => ?_) (fun e => ?_)
  · rw [e] at h
    exact absurd (le_max_left _ _) (not_le.2 h)
  · rw [e, EReal.neg_bot] at h
    exact absurd (le_max_right _ _) (not_le.2 h)
/-- A number whose square is below infinity is real. -/
theorem of_mul_self (h : x * x ≠ ⊤) : IsReal x := by
  refine of_ne (fun e => h ?_) (fun e => h ?_)
  · rw [e, EReal.top_mul_top]
  · rw [e, EReal.bot_mul_bot]
/-- Real numbers distribute. -/
theorem mul_add {z : EReal} : IsReal x → IsReal y → IsReal z → x * (y + z) = x * y + x * z
  | ⟨a, ha⟩, ⟨b, hb⟩, ⟨c, hc⟩ => by
    rw [ha, hb, hc, ← EReal.coe_add, ← EReal.coe_mul, ← EReal.coe_mul, ← EReal.coe_mul, ← EReal.coe_add, _root_.mul_add]
end IsReal

/-- A row whose mean of squares is infinite has no gradient; any other row is real, and so is its gradient. -/
theorem grad_real {n : Nat} (x t : Fin n → EReal) (ht : ∀ d, IsReal (t d)) (d : Fin n) : IsReal (grad x t d) := by
  obtain ⟨r, hr, e1, -⟩ := rsqrt_real (ms_pos x)
  have hrinv : IsReal (rinv x) := ⟨r, e1⟩
  by_cases hs : ∑ e, x e * x e = ⊤
  · have e0 : ms x = ⊤ := by
      unfold ms
      rw [hs, len_eq, Ideal.div_coe (by norm_num), EReal.top_mul_coe_of_pos (by norm_num)]
      exact EReal.top_add_of_ne_bot (ne_bot_of_gt eps_pos)
    unfold grad rinv
    rw [e0]
    have e2 : Ideal.rsqrt ⊤ = 0 := by simp
    rw [e2, zero_mul]
    exact IsReal.zero
  · have hx : ∀ e, IsReal (x e) := fun e => IsReal.of_mul_self fun he => hs (top_le_iff.1 (he ▸
      Finset.single_le_sum (f := fun e => x e * x e) (fun e _ => mul_self_nonneg' (x e)) (Finset.mem_univ e)))
    exact hrinv.mul ((ht d).sub (((hx d).mul hrinv).mul (IsReal.mean (IsReal.sum _ _ fun e _ => (ht e).mul ((hx e).mul hrinv)))))

/-- The logistic function's value is real, whatever its argument. -/
theorem logistic_real (g : EReal) : IsReal (Ideal.logistic g) := by
  induction g using EReal.rec with
  | bot => exact ⟨0, by simp⟩
  | top => exact ⟨1, by simp⟩
  | coe g => exact ⟨_, Ideal.logistic_coe g⟩

/-- The second number of the gated activation's derivative is real too: at either infinity it is zero. -/
theorem slope_real (g : EReal) : IsReal (g * Ideal.logistic g * (1 - Ideal.logistic g)) := by
  induction g using EReal.rec with
  | bot => exact ⟨0, by simp⟩
  | top =>
    refine ⟨0, ?_⟩
    have e : (1 : EReal) - 1 = 0 := by
      rw [← EReal.coe_one, ← EReal.coe_sub, sub_self, EReal.coe_zero]
    simp [e]
  | coe g => exact (IsReal.mul ⟨g, rfl⟩ (logistic_real _)).mul (IsReal.one.sub (logistic_real _))

/-- The gradient of the gate: differentiation's two terms are the product with their sum. -/
theorem slope_mul (g p : EReal) (hp : IsReal p) :
    p * Ideal.logistic g + g * p * (Ideal.logistic g * (1 - Ideal.logistic g)) = p * (Ideal.logistic g + g * Ideal.logistic g * (1 - Ideal.logistic g)) := by
  rw [IsReal.mul_add hp (logistic_real g) (slope_real g)]
  refine congrArg₂ (· + ·) rfl ?_
  ac_rfl

end Cert.Norm
-- ==== Proof.Swiglu.Ref.lean ====
/- The reference's gradients through the normalisation after the down projection, the projection and the gated activation,
   element by element: the kernel's four results, for finite arguments. -/
module

public import proofs.«01_k».proof.Proof.Swiglu.Array
public import proofs.«01_k».proof.Proof.Norm.Real
public import proofs.«01_k».proof.Proof.Gen.Reference3Ideal.Read
public import proofs.«01_k».proof.Pre_finite

@[expose] public section

set_option maxRecDepth 16384

noncomputable section

namespace Cert.Reference3Ideal.Swiglu

open Cert.Reference3Ideal Cert.Reference3Ideal.Gen Cert.Reference3Ideal.Read
open Idealize.ShloMosaic Idealize.ShloMosaic.TcCoe
open Cert.Norm
open Cert.Kernel3Ideal.Swiglu (dyOf daOf gainOf dyArr daArr dgainArr)

variable (g u : FVec Ideal S4096x2816 .f32) (k : FVec Ideal S1024 .f32) (w : FVec Ideal S2816x1024 .f32) (dh : FVec Ideal S4096x1024 .f32)

/-- The down projection's output. -/
abbrev fArr : FVec Ideal S4096x1024 .f32 := val_main_v11 (F := Ideal) g u w
/-- Its row r. -/
abbrev row (r : Fin 4096) : Fin 1024 → EReal := fun d => fArr g u w (ix2 r d)

/-! ## The activation -/

theorem v5_at (i : S4096x2816.Idx) : val_main_v5 (F := Ideal) g i = Ideal.logistic (g i) := by
  rw [val_main_v5_apply, val_main_v3_apply, val_main_v1_apply, val_main_v0_apply, val_main_v4_apply, val_main_v2_apply]
  unfold val_main_cst val_main_cst_0 Ideal.logistic
  pointwise
theorem v8_at (i : S4096x2816.Idx) : val_main_v8 (F := Ideal) g i = Ideal.logistic (g i) * (1 - Ideal.logistic (g i)) := by
  rw [val_main_v8_apply, val_main_v7_apply, v5_at, val_main_v6_apply]
  unfold val_main_cst_1
  pointwise

/-! ## The normalisation -/

theorem v13_at (r : Fin 4096) : val_main_v13 (F := Ideal) g u w (ix1 r) = ∑ d : Fin 1024, row g u w r d * row g u w r d := by
  rw [val_main_v13_apply]
  have e0 : ∀ d, idx_main_v13 (ix1 r) d = ix2 r d := fun d => by funext b; fin_cases b <;> rfl
  simp only [e0, val_main_v12_apply]
  unfold val_main_cst_2
  pointwise
theorem v18_at (r : Fin 4096) : val_main_v18 (F := Ideal) g u w (ix2 r (0 : Fin 1)) = ms (row g u w r) := by
  have e0 : idx_main_v14 (ix2 r (0 : Fin 1)) = ix1 r := by funext b; fin_cases b; rfl
  unfold ms
  rw [← v13_at, ← e0, ← val_main_v14_apply]
  unfold val_main_v18 val_main_v16 val_main_v17 val_main_v15 val_main_cst_3 val_main_cst_4
  pointwise
theorem v19_at (r : Fin 4096) : val_main_v19 (F := Ideal) g u w (ix2 r (0 : Fin 1)) = rinv (row g u w r) := by
  unfold rinv
  rw [← v18_at]
  unfold val_main_v19
  pointwise
theorem v22_at (r : Fin 4096) : val_main_v22 (F := Ideal) g u w (ix2 r (0 : Fin 1)) = mhalf * Ideal.div (rinv (row g u w r)) (ms (row g u w r)) := by
  rw [← v19_at, ← v18_at]
  unfold val_main_v22 val_main_v21 val_main_v20 val_main_cst_5
  pointwise
theorem v32_at (r : Fin 4096) (d : Fin 1024) : val_main_v32 (F := Ideal) k dh (ix2 r d) = dh (ix2 r d) * k (ix1 d) := by
  unfold val_main_v32 val_main_v31 val_main_v25
  pointwise
theorem v35_at (r : Fin 4096) : val_main_v35 (F := Ideal) g u k w dh (ix1 r) = ∑ d : Fin 1024, row g u w r d * (dh (ix2 r d) * k (ix1 d)) := by
  rw [val_main_v35_apply]
  have e0 : ∀ d, idx_main_v35 (ix1 r) d = ix2 r d := fun d => by funext b; fin_cases b <;> rfl
  simp only [e0, val_main_v34_apply, v32_at]
  unfold val_main_cst_8
  pointwise
/-- The gradient through the mean of squares, for each factor. -/
theorem v43_at (r : Fin 4096) (d : Fin 1024) : val_main_v43 (F := Ideal) g u k w dh (ix2 r d)
    = Ideal.div ((∑ d : Fin 1024, row g u w r d * (dh (ix2 r d) * k (ix1 d))) * (mhalf * Ideal.div (rinv (row g u w r)) (ms (row g u w r)))) len := by
  have e36 : val_main_v36 (F := Ideal) g u k w dh (ix2 r (0 : Fin 1)) = val_main_v35 (F := Ideal) g u k w dh (ix1 r) := by
    rw [val_main_v36_apply]
    refine congrArg _ ?_
    funext b
    fin_cases b
    exact Fin.ext (by show r.val * 1 + 0 = r.val; omega)
  rw [← v22_at, ← v35_at, ← e36, val_main_v43_apply, val_main_v42_apply]
  have e0 : idx_main_v42 (idx_main_v43 (ix2 r d)) 0 = ix2 r (0 : Fin 1) := by funext b; fin_cases b <;> rfl
  rw [Fin.sum_univ_one, e0]
  unfold val_main_cst_10 val_main_v41 val_main_v40 val_main_v39 val_main_cst_9
  pointwise

theorem v47_at (r : Fin 4096) (d : Fin 1024) : val_main_v47 (F := Ideal) g u k w dh (ix2 r d) = dyOf (fArr g u w) k dh r d := by
  have e1 : val_main_v47 (F := Ideal) g u k w dh (ix2 r d)
      = (val_main_v32 (F := Ideal) k dh (ix2 r d) * val_main_v19 (F := Ideal) g u w (ix2 r (0 : Fin 1)) + fArr g u w (ix2 r d) * val_main_v43 (F := Ideal) g u k w dh (ix2 r d))
        + val_main_v43 (F := Ideal) g u k w dh (ix2 r d) * fArr g u w (ix2 r d) := by
    unfold val_main_v47 val_main_v45 val_main_v46 val_main_v44 val_main_v38 val_main_v37
    pointwise
  rw [e1, v32_at, v19_at, v43_at]
  exact grad_eq (row g u w r) (fun d => dh (ix2 r d) * k (ix1 d)) d _ rfl
theorem v48_at (r : Fin 4096) (j : Fin 2816) : val_main_v48 (F := Ideal) g u k w dh (ix2 r j) = daOf (fArr g u w) k w dh r j := by
  rw [val_main_v48_apply]
  have eL : ∀ d, lidx_main_v48 (ix2 r j) d = ix2 r d := fun d => by funext b; fin_cases b <;> rfl
  have eR : ∀ d, ridx_main_v48 (ix2 r j) d = ix2 j d := fun d => by funext b; fin_cases b <;> rfl
  simp only [eL, eR, v47_at]
  rfl

/-! ## The results -/

/-- What the kernel multiplies the activation's gradient by, for the up projection's gradient: the activation of the gate. -/
def sOf : FVec Ideal S4096x2816 .bf16 := fun i => g i * Ideal.logistic (g i)
/-- And for the gate's. -/
def utOf : FVec Ideal S4096x2816 .bf16 := fun i => u i * (Ideal.logistic (g i) + g i * Ideal.logistic (g i) * (1 - Ideal.logistic (g i)))

theorem dy_eq : val_main_v55 (F := Ideal) g u k w dh = dyArr (fArr g u w) k dh := by
  funext i
  idx_vars i
  refine Eq.trans (b := val_main_v47 (F := Ideal) g u k w dh (ix2 i0 i1)) rfl ?_
  rw [v47_at]
  rfl

theorem dup_eq : val_main_v57 (F := Ideal) g u k w dh = daArr (fArr g u w) k w dh (sOf g) := by
  funext i
  idx_vars i
  refine Eq.trans (b := val_main_v9 (F := Ideal) g (ix2 i0 i1) * val_main_v48 (F := Ideal) g u k w dh (ix2 i0 i1)) rfl ?_
  rw [v48_at, mul_comm]
  refine congrArg (daOf (fArr g u w) k w dh i0 i1 * ·) ?_
  refine Eq.trans (b := g (ix2 i0 i1) * val_main_v5 (F := Ideal) g (ix2 i0 i1)) rfl ?_
  rw [v5_at]
  rfl

/-- The activation's gradient is real, for real arguments. -/
theorem da_real (hk : ∀ i, IsReal (k i)) (hw : ∀ i, IsReal (w i)) (hd : ∀ i, IsReal (dh i)) (r : Fin 4096) (j : Fin 2816) : IsReal (daOf (fArr g u w) k w dh r j) :=
  IsReal.sum _ _ fun d _ => (grad_real _ _ (fun e => (hd _).mul (hk _)) d).mul (hw _)

theorem dgate_eq (hu : ∀ i, IsReal (u i)) (hk : ∀ i, IsReal (k i)) (hw : ∀ i, IsReal (w i)) (hd : ∀ i, IsReal (dh i)) :
    val_main_v56 (F := Ideal) g u k w dh = daArr (fArr g u w) k w dh (utOf g u) := by
  funext i
  idx_vars i
  refine Eq.trans (b := val_main_v48 (F := Ideal) g u k w dh (ix2 i0 i1) * u (ix2 i0 i1) * val_main_v5 (F := Ideal) g (ix2 i0 i1)
    + g (ix2 i0 i1) * (val_main_v48 (F := Ideal) g u k w dh (ix2 i0 i1) * u (ix2 i0 i1)) * val_main_v8 (F := Ideal) g (ix2 i0 i1)) rfl ?_
  rw [v48_at, v5_at, v8_at, slope_mul _ _ ((da_real g u k w dh hk hw hd i0 i1).mul (hu _)), mul_assoc]
  rfl

theorem dgain_eq : val_main_v58 (F := Ideal) g u w dh = dgainArr (fArr g u w) dh := by
  funext i
  idx_vars i
  obtain rfl : i0 = 0 := Fin.ext (by have := i0.isLt; show i0.val = 0; omega)
  have e58 : idx_main_v58 (ix2 0 i1) = ix1 i1 := by funext b; fin_cases b; exact Fin.ext (by show 0 * 1024 + i1.val = i1.val; omega)
  have e33 : idx_main_v33 (ix1 i1) 0 = ix2 (0 : Fin 1) i1 := by funext b; fin_cases b <;> rfl
  have e30 : idx_main_v30 (ix2 0 i1) = ix1 i1 := by funext b; fin_cases b; exact Fin.ext (by show 0 * 1024 + i1.val = i1.val; omega)
  have e29 : ∀ r, idx_main_v29 (ix1 i1) r = ix2 r i1 := fun r => by funext b; fin_cases b <;> rfl
  have e28 : ∀ r : Fin 4096, val_main_v28 (F := Ideal) g u w dh (ix2 r i1) = gainOf (fArr g u w) dh i1 r := fun r => by
    unfold gainOf
    rw [mul_comm]
    refine congrArg₂ (· * ·) ?_ rfl
    refine Eq.trans (b := fArr g u w (ix2 r i1) * val_main_v19 (F := Ideal) g u w (ix2 r (0 : Fin 1))) ?_ (by rw [v19_at])
    unfold val_main_v24 val_main_v23
    pointwise
  rw [val_main_v58_apply, e58, val_main_v33_apply, Fin.sum_univ_one, e33, val_main_v30_apply, e30, val_main_v29_apply]
  simp only [e29, e28]
  unfold val_main_cst_6 val_main_cst_7 dgainArr
  pointwise

/-! ## What the kernel is given -/

section Given
open Cert.Kernel3Ideal.Swiglu (gateA upA gA wA dhA fA sA utA)
variable (m : (ℓ : Loc Cert.Kernel3Ideal.nD Cert.Kernel3Ideal.τ Cert.Kernel3Ideal.sig) → Buf (Elt Ideal) ℓ) (c : Dev Cert.Kernel3Ideal.nD)

theorem f_given : fA m c = fArr (gateA m c) (upA m c) (wA m c) := by
  unfold fA Cert.Kernel3Ideal.Gen.V
  after_results
  rfl
theorem s_given : sA m c = sOf (gateA m c) := by
  have e : sA m c = val_main_v9 (F := Ideal) (gateA m c) := by
    unfold sA Cert.Kernel3Ideal.Gen.V
    after_results
    rfl
  rw [e]
  funext i
  refine Eq.trans (b := gateA m c i * val_main_v5 (F := Ideal) (gateA m c) i) rfl ?_
  rw [v5_at]
  rfl
theorem ut_given : utA m c = utOf (gateA m c) (upA m c) := by
  have e : utA m c = fun i => upA m c i * (val_main_v5 (F := Ideal) (gateA m c) i + val_main_v9 (F := Ideal) (gateA m c) i * val_main_v7 (F := Ideal) (gateA m c) i) := by
    unfold utA Cert.Kernel3Ideal.Gen.V
    after_results
    rfl
  rw [e]
  funext i
  refine Eq.trans (b := upA m c i * (val_main_v5 (F := Ideal) (gateA m c) i + gateA m c i * val_main_v5 (F := Ideal) (gateA m c) i * (val_main_v6 (F := Ideal) i - val_main_v5 (F := Ideal) (gateA m c) i))) rfl ?_
  rw [v5_at, val_main_v6_apply]
  unfold val_main_cst_1 utOf
  pointwise
end Given

end Cert.Reference3Ideal.Swiglu
-- ==== Proof.Swiglu.Finite.lean ====
/- The precondition of the claim on the down projection's gradients: four of the arguments are finite, so their elements
   are real numbers at the extended reals. -/
module

public import proofs.«01_k».proof.Pre_finite
public import proofs.«01_k».proof.Proof.Norm.Real

@[expose] public section

noncomputable section

namespace Cert.Pre_finite

open Idealize.ShloMosaic
open Cert.Norm (IsReal)

theorem facts : Cert.Pre_finite.Facts := ⟨by decide, by decide, by decide, by decide⟩

/-- Where an array's magnitudes compare below infinity, its elements are real. -/
theorem real_of_bits {S : Shape} (x : FVec Ideal S .f32) (hb : S_.BroadcastsInDim S (![] : Fin 0 → Fin S.rank))
    (h : cmpf .olt (Host.absf x) (broadcastInDim S ![] hb (constant (F := Ideal) S_ .f32 0x7F800000#32)) = fun _ => 1#1) (i : S.Idx) : IsReal (x i) := by
  refine IsReal.of_abs_lt ?_
  have e : Ideal.cmp .olt (max (x i) (-(x i))) (Ideal.ofBits .f32 0x7F800000#32) = 1#1 := congrFun h i
  rw [Cert.Norm.inf_eq] at e
  by_contra hn
  simp [Ideal.cmp, hn] at e

end Cert.Pre_finite
-- ==== Proof.Down.Array.lean ====
/- The gradient of the down projection's weight: what each grid step leaves in the accumulator and in the result's block, and
   the result array at the end as one sum over the 4096 tokens. -/
module

public import proofs.«01_k».proof.Proof.Gen.Kernel4Ideal.Value
public import Idealize.ShloMosaic.Lib.Pipeline.ValueKit
public import Idealize.ShloMosaic.Lib.Pointwise.Tactic
public import Idealize.ShloMosaic.Lib.Pointwise.Contract
public import Idealize.ShloMosaic.Lib.Pointwise.Reshape
public import Idealize.ShloMosaic.Lib.Pointwise.Reduce

@[expose] public section

set_option maxRecDepth 16384

noncomputable section

namespace Cert.Kernel4Ideal.Down

open Cert.Kernel4Ideal Cert.Kernel4Ideal.Gen
open Idealize.ShloMosaic Idealize.ShloMosaic.TcCoe Idealize.ShloMosaic.Tactic
open Idealize.SL.Sem
open Idealize.ShloMosaic.Pipeline (Dat)

theorem zero2 : (![0, 0] : Fin 2 → Nat) = fun _ => 0 := funext fun a => by fin_cases a <;> rfl
theorem zero3 : (![0, 0, 0] : Fin 3 → Nat) = fun _ => 0 := funext fun a => by fin_cases a <;> rfl

/-! ## One step -/

section Step
variable {F : FTy → Type} [FloatOps F]
variable (c : Dev nD) (i : grid0.Coords) (a0 : Memref sig .tc .vmem S2048x1408 .bf16) (h0 : a0.IsWhole) (a1 : Memref sig .tc .vmem S2048x1024 .bf16) (h1 : a1.IsWhole)
  (a2 : Memref sig .tc .vmem S1x1408x1024 .bf16) (h2 : a2.IsWhole) (s : Memref sig .tc .vmem S1408x1024 .f32) (hs : s.IsWhole)
  (x : Vec F S2048x1408 .bf16) (y : Vec F S2048x1024 .bf16) (acc : Vec F S1408x1024 .f32)

/-- The first half of the tokens sets the accumulator. -/
theorem acc_A (p0 : cond0_0 i) (p1 : ¬cond0_1 i) (p2 : ¬cond0_2 i) :
    sout0_A_0 c i a0 h0 a1 h1 a2 h2 s hs p0 p1 p2 x y = k0_pay1 x y := by
  unfold sout0_A_0
  rw [View.read_writes_eq_canon _ _ _ (scover0_A_0 c i a0 h0 a1 h1 a2 h2 s hs p0 p1 p2 x y)]
  unfold kernelRun0_A
  dsimp only
  sl_unfold_words
  rw [View.canon_unit_zero zero2]
  unfold k0_pay2
  simp only [View.readAt_eq_ld, h0.read_unread, h1.read_unread, View.ld_unit_zero (S := S2048x1408) zero2, View.ld_unit_zero (S := S2048x1024) zero2, shapeCast_self]

/-- The second half is added to it, and the sum rounded into the result's block. -/
theorem out_B (p0 : ¬cond0_0 i) (p1 : cond0_1 i) (p2 : cond0_2 i) :
    out0_B_2 c i a0 h0 a1 h1 a2 h2 s hs p0 p1 p2 x y acc = k0_pay4 (addf acc (k0_pay1 x y)) := by
  unfold out0_B_2
  rw [View.read_writes_eq_canon _ _ _ (cover0_B_2 c i a0 h0 a1 h1 a2 h2 s hs p0 p1 p2 x y acc)]
  unfold kernelRun0_B
  dsimp only
  sl_unfold_words
  rw [View.canon_unit_zero zero3]
  rw [View.readCov_unit_zero (S := S1408x1024) _ zero2]
  unfold k0_pay3
  simp only [View.readAt_eq_ld, h0.read_unread, h1.read_unread, hs.read_unread, View.ld_unit_zero (S := S2048x1408) zero2, View.ld_unit_zero (S := S2048x1024) zero2,
    View.ld_unit_zero (S := S1408x1024) zero2, shapeCast_self]
end Step

/-! ## The blocks at coordinates -/

section Blocks
variable (m : (ℓ : Loc nD τ sig) → Buf (Elt Ideal) ℓ)

abbrev aA (c : Dev nD) : FVec Ideal S4096x2816 .bf16 := m ((c : Thread nD τ).loc main_arg0)
abbrev dA (c : Dev nD) : FVec Ideal S4096x1024 .bf16 := m ((c : Thread nD τ).loc main_arg1)

theorem tlt (t : Fin cfg0.N) : t.val < 4 := lt_of_lt_of_eq t.isLt (show cfg0.N = 4 from N_0)

theorem ix_0 : ∀ t : Fin cfg0.N, win0_0.index t = ![t.val % 2, t.val / 2] := (by decide +kernel : ∀ t : Fin grid0.N, _)
theorem ix_1 : ∀ t : Fin cfg0.N, win0_1.index t = ![t.val % 2, 0] := (by decide +kernel : ∀ t : Fin grid0.N, _)
theorem ix_2 : ∀ t : Fin cfg0.N, win0_2.index t = ![t.val / 2, 0, 0] := (by decide +kernel : ∀ t : Fin grid0.N, _)

/-- Token r of half k. -/
def tok (k : Nat) (hk : k < 2) (r : Fin 2048) : Fin 4096 := ⟨2048 * k + r.val, by omega⟩
/-- Feature f of block b. -/
def feat (b : Nat) (hb : b < 2) (f : Fin 1408) : Fin 2816 := ⟨1408 * b + f.val, by omega⟩

theorem blk_0 (c : Dev nD) (t : Fin cfg0.N) (r : Fin 2048) (f : Fin 1408) :
    iblk m c 0 t (ix2 r f) = aA m c (ix2 (tok (t.val % 2) (by omega) r) (feat (t.val / 2) (by have := tlt t; omega) f)) := by
  blk_simp [iblk, ix_0]
  rw [V_main_arg0]
  refine congrArg (aA m c) ?_
  unfold tok feat
  blk_ext [ix_0]
theorem blk_1 (c : Dev nD) (t : Fin cfg0.N) (r : Fin 2048) (d : Fin 1024) :
    iblk m c 1 t (ix2 r d) = dA m c (ix2 (tok (t.val % 2) (by omega) r) d) := by
  blk_simp [iblk, ix_1]
  rw [V_main_arg1]
  refine congrArg (dA m c) ?_
  unfold tok
  blk_ext [ix_1]

theorem part_at (x : Vec Ideal S2048x1408 .bf16) (y : Vec Ideal S2048x1024 .bf16) (f : Fin 1408) (d : Fin 1024) :
    k0_pay1 (F := Ideal) x y (ix2 f d) = ∑ r : Fin 2048, x (ix2 r f) * y (ix2 r d) := by
  unfold k0_pay1
  pointwise
theorem round_at (v : Vec Ideal S1408x1024 .f32) (f : Fin 1408) (d : Fin 1024) : k0_pay4 (F := Ideal) v (ix3 0 f d) = v (ix2 f d) := by
  unfold k0_pay4
  pointwise

/-- The whole gradient: row f of block b against column d, over all tokens. -/
def dwOf (a : FVec Ideal S4096x2816 .bf16) (y : FVec Ideal S4096x1024 .bf16) (f : Fin 2816) (d : Fin 1024) : EReal := ∑ r : Fin 4096, a (ix2 r f) * y (ix2 r d)
def dwArr (a : FVec Ideal S4096x2816 .bf16) (y : FVec Ideal S4096x1024 .bf16) : FVec Ideal S2x1408x1024 .bf16 := fun i =>
  dwOf a y (feat (i 0).val (i 0).isLt ⟨(i 1).val, (i 1).isLt⟩) ⟨(i 2).val, (i 2).isLt⟩

/-- A sum over the tokens is the sum over their first half and over their second. -/
theorem halves (g : Fin 4096 → EReal) : (∑ r : Fin 2048, g (tok 0 (by omega) r)) + (∑ r : Fin 2048, g (tok 1 (by omega) r)) = ∑ r, g r := by
  rw [Fin.sum_univ_add (a := 2048) (b := 2048) (f := g)]
  congr 1

/-- What an odd step leaves in the result's block. -/
theorem block_at (c : Dev nD) (t : Fin cfg0.N) (ht : t.val % 2 = 1) (f : Fin 1408) (d : Fin 1024) :
    (outsAt0 m c t.val t.isLt).1 (ix3 0 f d) = dwOf (aA m c) (dA m c) (feat (t.val / 2) (by have := tlt t; omega) f) d := by
  have hl := tlt t
  rw [outsAt0_B m c t (by omega) ht ht]
  dsimp only
  rw [out_B, round_at]
  have hp : t.val - 1 < cfg0.N := by have := t.isLt; omega
  have e := outsAt0_A m c ⟨t.val - 1, hp⟩ (by dsimp only; omega) (by dsimp only; omega) (by dsimp only; omega)
  dsimp only at e
  rw [e]
  dsimp only
  rw [acc_A]
  show k0_pay1 (F := Ideal) _ _ (ix2 f d) + k0_pay1 (F := Ideal) _ _ (ix2 f d) = _
  rw [part_at, part_at]
  unfold dwOf
  rw [← halves]
  congr 1
  · refine Finset.sum_congr rfl fun r _ => ?_
    rw [blk_0, blk_1]
    simp only [show (t.val - 1) % 2 = 0 by omega, show (t.val - 1) / 2 = t.val / 2 by omega]
  · refine Finset.sum_congr rfl fun r _ => ?_
    rw [blk_0, blk_1]
    simp only [ht]

/-- The array at the end. -/
theorem dw_eq (c : Dev nD) : (dats m 0 c).arrAt 2 cfg0.N = dwArr (aA m c) (dA m c) := by
  refine (dats m 0 c).arrAt_eq_of_covers 2 _ (by decide +kernel) fun t hf y => ?_
  have ht : t.val % 2 = 1 := (flush0_2 t).mp hf
  blk_simp
  rw [after0_2]
  have hy1 : (y 1).val < 1408 := (y 1).isLt
  have hy2 : (y 2).val < 1024 := (y 2).isLt
  have ey : y = ix3 (0 : Fin 1) (⟨(y 1).val, hy1⟩ : Fin 1408) (⟨(y 2).val, hy2⟩ : Fin 1024) := by
    funext a
    match a with
    | ⟨0, _⟩ => exact Fin.ext (by have : (y 0).val < 1 := (y 0).isLt; show (y 0).val = 0; omega)
    | ⟨1, _⟩ => rfl
    | ⟨2, _⟩ => rfl
  rw [ey]
  refine (block_at m c t ht _ _).trans ?_
  refine Eq.trans (b := dwArr (aA m c) (dA m c) (ix3 (⟨t.val / 2, by have := tlt t; omega⟩ : Fin 2) (⟨(y 1).val, hy1⟩ : Fin 1408) (⟨(y 2).val, hy2⟩ : Fin 1024))) rfl
    (congrArg (dwArr (aA m c) (dA m c)) ?_)
  blk_ext [ix_2]
end Blocks

end Cert.Kernel4Ideal.Down
-- ==== Proof.Down.Ref.lean ====
/- The reference's gradient of the down projection's weight, element by element: the same sum over the tokens. -/
module

public import proofs.«01_k».proof.Proof.Down.Array
public import proofs.«01_k».proof.Proof.Gen.Reference4Ideal.Read

@[expose] public section

set_option maxRecDepth 16384

noncomputable section

namespace Cert.Reference4Ideal.Down

open Cert.Reference4Ideal Cert.Reference4Ideal.Gen Cert.Reference4Ideal.Read
open Idealize.ShloMosaic Idealize.ShloMosaic.TcCoe
open Cert.Kernel4Ideal.Down (dwOf dwArr feat)

variable (a : FVec Ideal S4096x2816 .bf16) (y : FVec Ideal S4096x1024 .bf16)

theorem v4_at (d : Fin 1024) (f : Fin 2816) : val_main_v4 (F := Ideal) a y (ix2 d f) = dwOf a y f d := by
  rw [val_main_v4_apply]
  unfold val_main_v3 val_main_v1 dwOf
  refine Finset.sum_congr rfl fun r _ => ?_
  have eL : lidx_main_v4 (ix2 d f) r = ix2 r d := by funext b; fin_cases b <;> rfl
  have eR : ridx_main_v4 (ix2 d f) r = ix2 r f := by funext b; fin_cases b <;> rfl
  rw [mul_comm, eL, eR]
  rfl

theorem dw_eq : val_main_v7 (F := Ideal) a y = dwArr a y := by
  funext i
  idx_vars i
  unfold val_main_v7 val_main_v6 val_main_v5 dwArr
  pointwise
  rw [v4_at]
  unfold feat
  congr 1
  exact Fin.ext (by show i0.val * 1408 + i1.val = 1408 * i0.val + i1.val; omega)

end Cert.Reference4Ideal.Down
-- ==== Proof.Up.Array.lean ====
/- The gradient of the up projection's weight, written into the last two of four blocks: what each grid step leaves in the
   accumulator and in the result's block, and the result array at the end. -/
module

public import proofs.«01_k».proof.Proof.Gen.Kernel5Ideal.Value
public import Idealize.ShloMosaic.Lib.Pipeline.ValueKit
public import Idealize.ShloMosaic.Lib.Pointwise.Tactic
public import Idealize.ShloMosaic.Lib.Pointwise.Contract
public import Idealize.ShloMosaic.Lib.Pointwise.Reshape

@[expose] public section

set_option maxRecDepth 16384

noncomputable section

namespace Cert.Kernel5Ideal.Up

open Cert.Kernel5Ideal Cert.Kernel5Ideal.Gen
open Idealize.ShloMosaic Idealize.ShloMosaic.TcCoe Idealize.ShloMosaic.Tactic
open Idealize.SL.Sem
open Idealize.ShloMosaic.Pipeline (Dat)

theorem zero2 : (![0, 0] : Fin 2 → Nat) = fun _ => 0 := funext fun a => by fin_cases a <;> rfl
theorem zero3 : (![0, 0, 0] : Fin 3 → Nat) = fun _ => 0 := funext fun a => by fin_cases a <;> rfl

/-! ## One step -/

section Step
variable {F : FTy → Type} [FloatOps F]
variable (c : Dev nD) (i : grid0.Coords) (a0 : Memref sig .tc .vmem S2048x1024 .bf16) (h0 : a0.IsWhole) (a1 : Memref sig .tc .vmem S2048x1408 .bf16) (h1 : a1.IsWhole)
  (a2 : Memref sig .tc .vmem S1x1024x1408 .bf16) (h2 : a2.IsWhole) (s : Memref sig .tc .vmem S1024x1408 .f32) (hs : s.IsWhole)
  (x : Vec F S2048x1024 .bf16) (y : Vec F S2048x1408 .bf16) (acc : Vec F S1024x1408 .f32)

/-- The first half of the tokens sets the accumulator. -/
theorem acc_A (p0 : cond0_0 i) (p1 : ¬cond0_1 i) (p2 : ¬cond0_2 i) :
    sout0_A_0 c i a0 h0 a1 h1 a2 h2 s hs p0 p1 p2 x y = k0_pay1 x y := by
  unfold sout0_A_0
  rw [View.read_writes_eq_canon _ _ _ (scover0_A_0 c i a0 h0 a1 h1 a2 h2 s hs p0 p1 p2 x y)]
  unfold kernelRun0_A
  dsimp only
  sl_unfold_words
  rw [View.canon_unit_zero zero2]
  unfold k0_pay2
  simp only [View.readAt_eq_ld, h0.read_unread, h1.read_unread, View.ld_unit_zero (S := S2048x1024) zero2, View.ld_unit_zero (S := S2048x1408) zero2, shapeCast_self]

/-- The second half is added to it, and the sum rounded into the result's block. -/
theorem out_B (p0 : ¬cond0_0 i) (p1 : cond0_1 i) (p2 : cond0_2 i) :
    out0_B_2 c i a0 h0 a1 h1 a2 h2 s hs p0 p1 p2 x y acc = k0_pay4 (addf acc (k0_pay1 x y)) := by
  unfold out0_B_2
  rw [View.read_writes_eq_canon _ _ _ (cover0_B_2 c i a0 h0 a1 h1 a2 h2 s hs p0 p1 p2 x y acc)]
  unfold kernelRun0_B
  dsimp only
  sl_unfold_words
  rw [View.canon_unit_zero zero3]
  rw [View.readCov_unit_zero (S := S1024x1408) _ zero2]
  unfold k0_pay3
  simp only [View.readAt_eq_ld, h0.read_unread, h1.read_unread, hs.read_unread, View.ld_unit_zero (S := S2048x1024) zero2, View.ld_unit_zero (S := S2048x1408) zero2,
    View.ld_unit_zero (S := S1024x1408) zero2, shapeCast_self]
end Step

/-! ## The blocks at coordinates -/

section Blocks
variable (m : (ℓ : Loc nD τ sig) → Buf (Elt Ideal) ℓ)

abbrev hA (c : Dev nD) : FVec Ideal S4096x1024 .bf16 := m ((c : Thread nD τ).loc main_arg0)
abbrev uA (c : Dev nD) : FVec Ideal S4096x2816 .bf16 := m ((c : Thread nD τ).loc main_arg1)
abbrev pA (c : Dev nD) : FVec Ideal S4x1024x1408 .bf16 := m ((c : Thread nD τ).loc main_arg2)

theorem tlt (t : Fin cfg0.N) : t.val < 4 := lt_of_lt_of_eq t.isLt (show cfg0.N = 4 from N_0)

theorem ix_0 : ∀ t : Fin cfg0.N, win0_0.index t = ![t.val % 2, 0] := (by decide +kernel : ∀ t : Fin grid0.N, _)
theorem ix_1 : ∀ t : Fin cfg0.N, win0_1.index t = ![t.val % 2, t.val / 2] := (by decide +kernel : ∀ t : Fin grid0.N, _)
theorem ix_2 : ∀ t : Fin cfg0.N, win0_2.index t = ![2 + t.val / 2, 0, 0] := (by decide +kernel : ∀ t : Fin grid0.N, _)

/-- Token r of half k. -/
def tok (k : Nat) (hk : k < 2) (r : Fin 2048) : Fin 4096 := ⟨2048 * k + r.val, by omega⟩
/-- Feature f of block b. -/
def feat (b : Nat) (hb : b < 2) (f : Fin 1408) : Fin 2816 := ⟨1408 * b + f.val, by omega⟩

theorem blk_0 (c : Dev nD) (t : Fin cfg0.N) (r : Fin 2048) (d : Fin 1024) :
    iblk m c 0 t (ix2 r d) = hA m c (ix2 (tok (t.val % 2) (by omega) r) d) := by
  blk_simp [iblk, ix_0]
  rw [V_main_arg0]
  refine congrArg (hA m c) ?_
  unfold tok
  blk_ext [ix_0]
theorem blk_1 (c : Dev nD) (t : Fin cfg0.N) (r : Fin 2048) (f : Fin 1408) :
    iblk m c 1 t (ix2 r f) = uA m c (ix2 (tok (t.val % 2) (by omega) r) (feat (t.val / 2) (by have := tlt t; omega) f)) := by
  blk_simp [iblk, ix_1]
  rw [V_main_arg1]
  refine congrArg (uA m c) ?_
  unfold tok feat
  blk_ext [ix_1]
/-- The result starts as the array of the two earlier blocks. -/
theorem V_prev (c : Dev nD) : (V m c main_v0 : FVec Ideal S4x1024x1408 .bf16) = pA m c := by
  unfold V
  after_results
  rfl

theorem part_at (x : Vec Ideal S2048x1024 .bf16) (y : Vec Ideal S2048x1408 .bf16) (d : Fin 1024) (f : Fin 1408) :
    k0_pay1 (F := Ideal) x y (ix2 d f) = ∑ r : Fin 2048, x (ix2 r d) * y (ix2 r f) := by
  unfold k0_pay1
  pointwise
theorem round_at (v : Vec Ideal S1024x1408 .f32) (d : Fin 1024) (f : Fin 1408) : k0_pay4 (F := Ideal) v (ix3 0 d f) = v (ix2 d f) := by
  unfold k0_pay4
  pointwise

/-- The whole gradient: row d against feature f, over all tokens. -/
def dwOf (h : FVec Ideal S4096x1024 .bf16) (u : FVec Ideal S4096x2816 .bf16) (d : Fin 1024) (f : Fin 2816) : EReal := ∑ r : Fin 4096, h (ix2 r d) * u (ix2 r f)
/-- The four blocks: the two earlier ones, then the gradient's two. -/
def dwArr (h : FVec Ideal S4096x1024 .bf16) (u : FVec Ideal S4096x2816 .bf16) (p : FVec Ideal S4x1024x1408 .bf16) : FVec Ideal S4x1024x1408 .bf16 := fun i =>
  if 2 ≤ (i 0).val then dwOf h u ⟨(i 1).val, (i 1).isLt⟩ (feat ((i 0).val - 2) (by have : (i 0).val < 4 := (i 0).isLt; omega) ⟨(i 2).val, (i 2).isLt⟩) else p i

theorem dwArr_new (h : FVec Ideal S4096x1024 .bf16) (u : FVec Ideal S4096x2816 .bf16) (p : FVec Ideal S4x1024x1408 .bf16) (b : Nat) (hb : b < 2) (d : Fin 1024) (f : Fin 1408) :
    dwArr h u p (ix3 (⟨2 + b, by omega⟩ : Fin 4) d f) = dwOf h u d (feat b hb f) :=
  (if_pos (show 2 ≤ 2 + b by omega)).trans (congrArg (dwOf h u d) (Fin.ext (by show 1408 * (2 + b - 2) + f.val = 1408 * b + f.val; omega)))
theorem dwArr_old (h : FVec Ideal S4096x1024 .bf16) (u : FVec Ideal S4096x2816 .bf16) (p : FVec Ideal S4x1024x1408 .bf16) (b : Nat) (hb : b < 2) (d : Fin 1024) (f : Fin 1408) :
    dwArr h u p (ix3 (⟨b, by omega⟩ : Fin 4) d f) = p (ix3 (⟨b, by omega⟩ : Fin 4) d f) :=
  if_neg (show ¬2 ≤ b by omega)

/-- A sum over the tokens is the sum over their first half and over their second. -/
theorem halves (g : Fin 4096 → EReal) : (∑ r : Fin 2048, g (tok 0 (by omega) r)) + (∑ r : Fin 2048, g (tok 1 (by omega) r)) = ∑ r, g r := by
  rw [Fin.sum_univ_add (a := 2048) (b := 2048) (f := g)]
  congr 1

/-- What an odd step leaves in the result's block. -/
theorem block_at (c : Dev nD) (t : Fin cfg0.N) (ht : t.val % 2 = 1) (d : Fin 1024) (f : Fin 1408) :
    (outsAt0 m c t.val t.isLt).1 (ix3 0 d f) = dwOf (hA m c) (uA m c) d (feat (t.val / 2) (by have := tlt t; omega) f) := by
  have hl := tlt t
  rw [outsAt0_B m c t (by omega) ht ht]
  dsimp only
  rw [out_B, round_at]
  have hp : t.val - 1 < cfg0.N := by have := t.isLt; omega
  have e := outsAt0_A m c ⟨t.val - 1, hp⟩ (by dsimp only; omega) (by dsimp only; omega) (by dsimp only; omega)
  dsimp only at e
  rw [e]
  dsimp only
  rw [acc_A]
  show k0_pay1 (F := Ideal) _ _ (ix2 d f) + k0_pay1 (F := Ideal) _ _ (ix2 d f) = _
  rw [part_at, part_at]
  unfold dwOf
  rw [← halves]
  congr 1
  · refine Finset.sum_congr rfl fun r _ => ?_
    rw [blk_0, blk_1]
    simp only [show (t.val - 1) % 2 = 0 by omega, show (t.val - 1) / 2 = t.val / 2 by omega]
  · refine Finset.sum_congr rfl fun r _ => ?_
    rw [blk_0, blk_1]
    simp only [ht]

/-- The array at the end. -/
theorem dw_eq (c : Dev nD) : (dats m 0 c).arrAt 2 cfg0.N = dwArr (hA m c) (uA m c) (pA m c) := by
  refine ((dats m 0 c).arrAt_eq_of_coversWhere 2 (dwArr (hA m c) (uA m c) (pA m c)) (P := fun i : S4x1024x1408.Idx => 2 ≤ (i 0).val / 1)
    (fun β => 2 ≤ β (0 : Fin _)) (by decide +kernel) (fun t hf y => ?_) (fun j => Iff.rfl)).trans ?_
  · have ht : t.val % 2 = 1 := (flush0_2 t).mp hf
    blk_simp
    rw [after0_2]
    have hy1 : (y 1).val < 1024 := (y 1).isLt
    have hy2 : (y 2).val < 1408 := (y 2).isLt
    have ey : y = ix3 (0 : Fin 1) (⟨(y 1).val, hy1⟩ : Fin 1024) (⟨(y 2).val, hy2⟩ : Fin 1408) := by
      funext a
      match a with
      | ⟨0, _⟩ => exact Fin.ext (by have : (y 0).val < 1 := (y 0).isLt; show (y 0).val = 0; omega)
      | ⟨1, _⟩ => rfl
      | ⟨2, _⟩ => rfl
    rw [ey]
    refine (block_at m c t ht _ _).trans ?_
    refine Eq.trans (b := dwArr (hA m c) (uA m c) (pA m c) (ix3 (⟨2 + t.val / 2, by have := tlt t; omega⟩ : Fin 4) (⟨(y 1).val, hy1⟩ : Fin 1024) (⟨(y 2).val, hy2⟩ : Fin 1408))) ?_
      (congrArg (dwArr (hA m c) (uA m c) (pA m c)) ?_)
    · exact (dwArr_new _ _ _ (t.val / 2) (by have := tlt t; omega) _ _).symm
    · blk_ext [ix_2]
  · funext i
    by_cases h : 2 ≤ (i 0).val
    · exact if_pos (by rw [Nat.div_one]; exact h)
    · refine (if_neg (by rw [Nat.div_one]; exact h)).trans ?_
      unfold dwArr
      rw [if_neg h, A_eq]
      exact congrFun (V_prev m c) i
end Blocks

end Cert.Kernel5Ideal.Up
-- ==== Proof.Up.Ref.lean ====
/- The reference's gradient of the up projection's weight, below the two earlier blocks: the same array, element by element. -/
module

public import proofs.«01_k».proof.Proof.Up.Array
public import proofs.«01_k».proof.Proof.Gen.Reference5Ideal.Read

@[expose] public section

set_option maxRecDepth 16384

noncomputable section

namespace Cert.Reference5Ideal.Up

open Cert.Reference5Ideal Cert.Reference5Ideal.Gen Cert.Reference5Ideal.Read
open Idealize.ShloMosaic Idealize.ShloMosaic.TcCoe
open Cert.Kernel5Ideal.Up (dwOf dwArr feat dwArr_new dwArr_old)

variable (h : FVec Ideal S4096x1024 .bf16) (u : FVec Ideal S4096x2816 .bf16) (p : FVec Ideal S4x1024x1408 .bf16)

theorem v4_at (f : Fin 2816) (d : Fin 1024) : val_main_v4 (F := Ideal) h u (ix2 f d) = dwOf h u d f := by
  rw [val_main_v4_apply]
  unfold val_main_v3 val_main_v1 dwOf
  refine Finset.sum_congr rfl fun r _ => ?_
  have eL : lidx_main_v4 (ix2 f d) r = ix2 r f := by funext b; fin_cases b <;> rfl
  have eR : ridx_main_v4 (ix2 f d) r = ix2 r d := by funext b; fin_cases b <;> rfl
  rw [mul_comm, eL, eR]
  rfl

theorem dw_eq : val_main_v10 (F := Ideal) h u p = dwArr h u p := by
  funext i
  idx_vars i
  unfold val_main_v10 val_main_v9 val_main_v8 val_main_v7 val_main_v6 val_main_v5
  pointwise
  by_cases hi : i0.val < 2
  · rw [dif_pos hi]
    exact (dwArr_old h u p i0.val hi i1 i2).symm
  · rw [dif_neg hi, v4_at]
    have h0 := i0.isLt
    have e : i0 = ⟨2 + (i0.val - 2), by omega⟩ := Fin.ext (by show i0.val = 2 + (i0.val - 2); omega)
    refine Eq.trans ?_ ((dwArr_new h u p (i0.val - 2) (by omega) i1 i2).symm.trans (by rw [← e]))
    unfold feat
    congr 1
    exact Fin.ext (by show (i0.val - 2) * 1408 + i2.val = 1408 * (i0.val - 2) + i2.val; omega)

end Cert.Reference5Ideal.Up
-- ==== Proof.Query.Step.lean ====
/- One grid step of the gradient through the queries' product and its normalisation, for any values: the block of the input's
   gradient it leaves, and what it adds to the gain's gradient. The element formulas are those of the gate and up projections'
   call (GateUp/Step), which treats its rows alike. -/
module

public import proofs.«01_k».proof.Proof.Gen.Kernel6Ideal.Value
public import proofs.«01_k».proof.Proof.GateUp.Step

@[expose] public section

set_option maxRecDepth 16384

noncomputable section

namespace Cert.Kernel6Ideal.Query

open Cert.Kernel6Ideal Cert.Kernel6Ideal.Gen
open Idealize.ShloMosaic Idealize.ShloMosaic.TcCoe Idealize.ShloMosaic.Tactic
open Idealize.SL.Sem
open Idealize.ShloMosaic.Pipeline (Dat)

theorem zero2 : (![0, 0] : Fin 2 → Nat) = fun _ => 0 := funext fun a => by fin_cases a <;> rfl

/-- The gradient of the normalised input: the four chunks of the queries' gradient, each against its chunk of the weight. -/
def dhn {F : FTy → Type} [FloatOps F] (x0 : Vec F S512x3072 .bf16) (x1 : Vec F S4x1024x768 .bf16) : Vec F S512x1024 .f32 :=
  k0_pay6 (View.ld x0 (Rect.unit (s := S512x3072) ![0, 0] S512x768.size inb_S512x3072_S512x768_0_0)) (View.ld x1 (Rect.unit (s := S4x1024x768) ![0, 0, 0] S1x1024x768.size inb_S4x1024x768_S1x1024x768_0_0_0))
    (View.ld x0 (Rect.unit (s := S512x3072) ![0, 768] S512x768.size inb_S512x3072_S512x768_0_768)) (View.ld x1 (Rect.unit (s := S4x1024x768) ![1, 0, 0] S1x1024x768.size inb_S4x1024x768_S1x1024x768_1_0_0))
    (View.ld x0 (Rect.unit (s := S512x3072) ![0, 1536] S512x768.size inb_S512x3072_S512x768_0_1536)) (View.ld x1 (Rect.unit (s := S4x1024x768) ![2, 0, 0] S1x1024x768.size inb_S4x1024x768_S1x1024x768_2_0_0))
    (View.ld x0 (Rect.unit (s := S512x3072) ![0, 2304] S512x768.size inb_S512x3072_S512x768_0_2304)) (View.ld x1 (Rect.unit (s := S4x1024x768) ![3, 0, 0] S1x1024x768.size inb_S4x1024x768_S1x1024x768_3_0_0))

section Step
variable {F : FTy → Type} [FloatOps F]
variable (c : Dev nD) (i : grid0.Coords) (a1 : Memref sig .tc .vmem S512x3072 .bf16) (h1 : a1.IsWhole)
  (a2 : Memref sig .tc .vmem S4x1024x768 .bf16) (h2 : a2.IsWhole) (a3 : Memref sig .tc .vmem S512x1024 .f32) (h3 : a3.IsWhole)
  (a4 : Memref sig .tc .vmem S1x1024 .f32) (h4 : a4.IsWhole) (a5 : Memref sig .tc .vmem S512x1024 .f32) (h5 : a5.IsWhole)
  (a6 : Memref sig .tc .vmem S512x1024 .f32) (h6 : a6.IsWhole) (a7 : Memref sig .tc .vmem S1x1024 .f32) (h7 : a7.IsWhole)
  (x0 : Vec F S512x3072 .bf16) (x1 : Vec F S4x1024x768 .bf16) (x2 : Vec F S512x1024 .f32) (x3 : Vec F S1x1024 .f32) (x4 : Vec F S512x1024 .f32) (acc : Vec F S1x1024 .f32)

/-- The block of the input's gradient, in either case. -/
theorem out_A5 (p0 : cond0_0 i) :
    out0_A_5 c i a1 h1 a2 h2 a3 h3 a4 h4 a5 h5 a6 h6 a7 h7 p0 x0 x1 x2 x3 x4 = k0_pay4 (dhn x0 x1) x2 (k0_pay7 x2) x3 x4 := by
  unfold out0_A_5
  rw [View.read_writes_eq_canon _ _ _ (cover0_A_5 c i a1 h1 a2 h2 a3 h3 a4 h4 a5 h5 a6 h6 a7 h7 p0 x0 x1 x2 x3 x4)]
  unfold kernelRun0_A
  dsimp only
  sl_unfold_words
  rw [View.canon_unit_zero zero2]
  simp only [View.readAt_eq_ld, h1.read_unread, h2.read_unread, h3.read_unread, h4.read_unread, h5.read_unread, h7.read_unread,
    View.ld_unit_zero (S := S512x1024) zero2, View.ld_unit_zero (S := S1x1024) zero2, shapeCast_self]
  unfold dhn; rfl
theorem out_B5 (p0 : ¬cond0_0 i) :
    out0_B_5 c i a1 h1 a2 h2 a3 h3 a4 h4 a5 h5 a6 h6 a7 h7 p0 x0 x1 x2 x3 x4 acc = k0_pay4 (dhn x0 x1) x2 (k0_pay7 x2) x3 x4 := by
  unfold out0_B_5
  rw [View.read_writes_eq_canon _ _ _ (cover0_B_5 c i a1 h1 a2 h2 a3 h3 a4 h4 a5 h5 a6 h6 a7 h7 p0 x0 x1 x2 x3 x4 acc)]
  unfold kernelRun0_B
  dsimp only
  sl_unfold_words
  rw [View.canon_unit_zero zero2]
  simp only [View.readAt_eq_ld, h1.read_unread, h2.read_unread, h3.read_unread, h4.read_unread, h5.read_unread, h7.read_unread,
    View.ld_unit_zero (S := S512x1024) zero2, View.ld_unit_zero (S := S1x1024) zero2, shapeCast_self]
  unfold dhn; rfl
/-- The gain's gradient: set at the first point, added to afterwards. -/
theorem out_A6 (p0 : cond0_0 i) :
    out0_A_6 c i a1 h1 a2 h2 a3 h3 a4 h4 a5 h5 a6 h6 a7 h7 p0 x0 x1 x2 x3 x4 = k0_pay3 (dhn x0 x1) x2 (k0_pay7 x2) k0_pay5 := by
  unfold out0_A_6
  rw [View.read_writes_eq_canon _ _ _ (cover0_A_6 c i a1 h1 a2 h2 a3 h3 a4 h4 a5 h5 a6 h6 a7 h7 p0 x0 x1 x2 x3 x4)]
  unfold kernelRun0_A
  dsimp only
  sl_unfold_words
  rw [View.canon_cons_unit_zero (S := S1x1024) zero2, View.readCov_unit_zero (S := S1x1024) _ zero2]
  simp only [View.readAt_eq_ld, h1.read_unread, h2.read_unread, h3.read_unread, h4.read_unread, h5.read_unread, h7.read_unread,
    View.ld_unit_zero (S := S512x1024) zero2, View.ld_unit_zero (S := S1x1024) zero2, shapeCast_self]
  unfold dhn; rfl
theorem out_B6 (p0 : ¬cond0_0 i) :
    out0_B_6 c i a1 h1 a2 h2 a3 h3 a4 h4 a5 h5 a6 h6 a7 h7 p0 x0 x1 x2 x3 x4 acc = k0_pay3 (dhn x0 x1) x2 (k0_pay7 x2) acc := by
  unfold out0_B_6
  rw [View.read_writes_eq_canon _ _ _ (cover0_B_6 c i a1 h1 a2 h2 a3 h3 a4 h4 a5 h5 a6 h6 a7 h7 p0 x0 x1 x2 x3 x4 acc)]
  unfold kernelRun0_B
  dsimp only
  sl_unfold_words
  rw [View.canon_unit_zero zero2]
  simp only [View.readAt_eq_ld, h1.read_unread, h2.read_unread, h3.read_unread, h4.read_unread, h5.read_unread, h7.read_unread,
    View.ld_unit_zero (S := S512x1024) zero2, View.ld_unit_zero (S := S1x1024) zero2, shapeCast_self]
  unfold dhn; rfl
end Step

/-! ## The step's values element by element -/

section At
variable (x0 : Vec Ideal S512x3072 .bf16) (x1 : Vec Ideal S4x1024x768 .bf16) (x2 : Vec Ideal S512x1024 .f32) (x3 : Vec Ideal S1x1024 .f32) (x4 : Vec Ideal S512x1024 .f32)
  (D : Vec Ideal S512x1024 .f32) (acc : Vec Ideal S1x1024 .f32)

/-- A chunk of the gradient against a chunk of the weight. -/
def chunk (q : Fin 4) (r : Fin 512) (d : Fin 1024) : EReal :=
  ∑ f : Fin 768, x0 (ix2 r (⟨768 * q.val + f.val, by omega⟩ : Fin 3072)) * x1 (ix3 q d f)

theorem dhn_at (r : Fin 512) (d : Fin 1024) : dhn (F := Ideal) x0 x1 (ix2 r d) = ((chunk x0 x1 0 r d + chunk x0 x1 1 r d) + chunk x0 x1 2 r d) + chunk x0 x1 3 r d := by
  unfold dhn k0_pay6
  pointwise
  simp only [chunk]
  rfl

theorem dh_at (r : Fin 512) (d : Fin 1024) : k0_pay4 (F := Ideal) D x2 (k0_pay7 x2) x3 x4 (ix2 r d)
    = x4 (ix2 r d) + Cert.Norm.grad (fun e : Fin 1024 => x2 (ix2 r e)) (fun e => D (ix2 r e) * x3 (ix2 0 e)) d :=
  Cert.Kernel2Ideal.GateUp.dh_at x2 x3 x4 D r d

theorem dg_at (d : Fin 1024) : k0_pay3 (F := Ideal) D x2 (k0_pay7 x2) acc (ix2 0 d)
    = acc (ix2 0 d) + ∑ r : Fin 512, D (ix2 r d) * (x2 (ix2 r d) * Cert.Norm.rinv (fun e : Fin 1024 => x2 (ix2 r e))) :=
  Cert.Kernel2Ideal.GateUp.dg_at x2 D acc d

theorem zero_at (d : Fin 1024) : k0_pay5 (F := Ideal) (ix2 0 d) = 0 := by
  unfold k0_pay5
  pointwise
end At
end Cert.Kernel6Ideal.Query
-- ==== Proof.Query.Array.lean ====
/- The gradient through the queries' product and its normalisation: the two result arrays at the end, as sums over all 3072
   features and over all 4096 tokens. -/
module

public import proofs.«01_k».proof.Proof.Query.Step

@[expose] public section

set_option maxRecDepth 16384

noncomputable section

namespace Cert.Kernel6Ideal.Query

open Cert.Kernel6Ideal Cert.Kernel6Ideal.Gen
open Idealize.ShloMosaic Idealize.ShloMosaic.TcCoe Idealize.ShloMosaic.Tactic
open Idealize.SL.Sem
open Idealize.ShloMosaic.Pipeline (Dat)
open Cert.Norm (tok four_chunks accum dhFrom dgFrom gainFrom)

section Blocks
variable (m : (ℓ : Loc nD τ sig) → Buf (Elt Ideal) ℓ)

abbrev hA (c : Dev nD) : FVec Ideal S4096x1024 .f32 := m ((c : Thread nD τ).loc main_arg0)
abbrev gA (c : Dev nD) : FVec Ideal S1024 .f32 := m ((c : Thread nD τ).loc main_arg1)
abbrev wA (c : Dev nD) : FVec Ideal S1024x3072 .f32 := m ((c : Thread nD τ).loc main_arg2)
abbrev dqA (c : Dev nD) : FVec Ideal S4096x3072 .bf16 := m ((c : Thread nD τ).loc main_arg3)
abbrev eA (c : Dev nD) : FVec Ideal S4096x1024 .f32 := m ((c : Thread nD τ).loc main_arg4)

theorem tlt (t : Fin cfg0.N) : t.val < 8 := lt_of_lt_of_eq t.isLt (show cfg0.N = 8 from N_0)

theorem ix_0 : ∀ t : Fin cfg0.N, win0_0.index t = ![t.val, 0] := (by decide +kernel : ∀ t : Fin grid0.N, _)
theorem ix_1 : ∀ t : Fin cfg0.N, win0_1.index t = ![0, 0, 0] := (by decide +kernel : ∀ t : Fin grid0.N, _)
theorem ix_2 : ∀ t : Fin cfg0.N, win0_2.index t = ![t.val, 0] := (by decide +kernel : ∀ t : Fin grid0.N, _)
theorem ix_3 : ∀ t : Fin cfg0.N, win0_3.index t = ![0, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0] := (by decide +kernel : ∀ t : Fin grid0.N, _)
theorem ix_6 : ∀ t : Fin cfg0.N, win0_6.index t = ![0, 0] := (by decide +kernel : ∀ t : Fin grid0.N, _)

theorem blk_0 (c : Dev nD) (t : Fin cfg0.N) (r : Fin 512) (f : Fin 3072) : iblk m c 0 t (ix2 r f) = dqA m c (ix2 (tok t.val (tlt t) r) f) := by
  blk_simp [iblk, ix_0]
  rw [V_main_arg3]
  refine congrArg (dqA m c) ?_
  unfold tok
  blk_ext [ix_0]
theorem blk_2 (c : Dev nD) (t : Fin cfg0.N) (r : Fin 512) (d : Fin 1024) : iblk m c 2 t (ix2 r d) = hA m c (ix2 (tok t.val (tlt t) r) d) := by
  blk_simp [iblk, ix_2]
  rw [V_main_arg0]
  refine congrArg (hA m c) ?_
  unfold tok
  blk_ext [ix_2]
theorem blk_4 (c : Dev nD) (t : Fin cfg0.N) (r : Fin 512) (d : Fin 1024) : iblk m c 4 t (ix2 r d) = eA m c (ix2 (tok t.val (tlt t) r) d) := by
  blk_simp [iblk, ix_4]
  rw [V_main_arg4]
  refine congrArg (eA m c) ?_
  unfold tok
  blk_ext [ix_4]

/-- The weight as the kernel takes it: its columns in four chunks, rounded. -/
def wArr (w : FVec Ideal S1024x3072 .f32) : FVec Ideal S4x1024x768 .bf16 :=
  transpose S4x1024x768 [1, 0, 2] (shapeCast S1024x4x768 (truncf .bf16 w bitsLt_bf16_f32) shapeCasts_S1024x3072_S1024x4x768) transposes_S1024x4x768_S4x1024x768_1_0_2
theorem V_w (c : Dev nD) : (V m c main_v2 : FVec Ideal S4x1024x768 .bf16) = wArr (wA m c) := by
  unfold V
  after_results
  rfl
theorem V_gain (c : Dev nD) : (V m c main_v3 : FVec Ideal S1x1024 .f32) = shapeCast S1x1024 (gA m c) shapeCasts_S1024_S1x1024 := by
  unfold V
  after_results
  rfl
theorem wArr_at (w : FVec Ideal S1024x3072 .f32) (q : Fin 4) (d : Fin 1024) (f : Fin 768) :
    wArr w (ix3 q d f) = w (ix2 d (⟨q.val * 768 + f.val, by omega⟩ : Fin 3072)) := by
  unfold wArr
  pointwise

theorem blk_1 (c : Dev nD) (t : Fin cfg0.N) (q : Fin 4) (d : Fin 1024) (f : Fin 768) :
    iblk m c 1 t (ix3 q d f) = wA m c (ix2 d (⟨q.val * 768 + f.val, by omega⟩ : Fin 3072)) := by
  rw [← wArr_at (wA m c)]
  blk_simp [iblk, ix_1]
  rw [V_w]
  refine congrArg (wArr (wA m c)) ?_
  blk_ext [ix_1]
theorem blk_3 (c : Dev nD) (t : Fin cfg0.N) (d : Fin 1024) : iblk m c 3 t (ix2 0 d) = gA m c (ix1 d) := by
  have e : shapeCast S1x1024 (gA m c) shapeCasts_S1024_S1x1024 (ix2 0 d) = gA m c (ix1 d) := by pointwise
  rw [← e]
  blk_simp [iblk, ix_3]
  rw [V_gain]
  refine congrArg (shapeCast S1x1024 (gA m c) shapeCasts_S1024_S1x1024) ?_
  blk_ext [ix_3]

/-! ## The arrays of the whole call -/

section Whole
variable (h : FVec Ideal S4096x1024 .f32) (g : FVec Ideal S1024 .f32) (w : FVec Ideal S1024x3072 .f32) (a : FVec Ideal S4096x3072 .bf16) (e : FVec Ideal S4096x1024 .f32)

/-- The gradient of the normalised input. -/
def dhnOf (r : Fin 4096) (d : Fin 1024) : EReal := ∑ j : Fin 3072, a (ix2 r j) * w (ix2 d j)
def dhnArr : FVec Ideal S4096x1024 .f32 := fun i => dhnOf w a ⟨(i 0).val, (i 0).isLt⟩ ⟨(i 1).val, (i 1).isLt⟩
end Whole

theorem chunk_blk (c : Dev nD) (t : Fin cfg0.N) (q : Fin 4) (r : Fin 512) (d : Fin 1024) : chunk (iblk m c 0 t) (iblk m c 1 t) q r d
    = ∑ f : Fin 768, (fun j : Fin 3072 => dqA m c (ix2 (tok t.val (tlt t) r) j) * wA m c (ix2 d j)) ⟨q.val * 768 + f.val, by omega⟩ := by
  refine Finset.sum_congr rfl fun f _ => congrArg₂ (· * ·) ((blk_0 m c t r _).trans (congrArg (fun j => dqA m c (ix2 (tok t.val (tlt t) r) j)) (Fin.ext ?_))) (blk_1 m c t q d f)
  show 768 * q.val + f.val = q.val * 768 + f.val
  omega

theorem dhn_blk (c : Dev nD) (t : Fin cfg0.N) (r : Fin 512) (d : Fin 1024) :
    dhn (F := Ideal) (iblk m c 0 t) (iblk m c 1 t) (ix2 r d) = dhnArr (wA m c) (dqA m c) (ix2 (tok t.val (tlt t) r) d) := by
  rw [dhn_at, chunk_blk, chunk_blk, chunk_blk, chunk_blk]
  exact four_chunks 768 fun j : Fin 3072 => dqA m c (ix2 (tok t.val (tlt t) r) j) * wA m c (ix2 d j)

theorem out5 (c : Dev nD) (t : Fin cfg0.N) : (outsAt0 m c t.val t.isLt).1
    = k0_pay4 (dhn (iblk m c 0 t) (iblk m c 1 t)) (iblk m c 2 t) (k0_pay7 (iblk m c 2 t)) (iblk m c 3 t) (iblk m c 4 t) := by
  by_cases h0 : t.val % 8 = 0
  · rw [outsAt0_A m c t h0]
    dsimp only
    rw [out_A5]
  · rw [outsAt0_B m c t h0]
    dsimp only
    rw [out_B5]

/-- What a step leaves in the block of the input's gradient. -/
theorem dh_block (c : Dev nD) (t : Fin cfg0.N) (r : Fin 512) (d : Fin 1024) : (outsAt0 m c t.val t.isLt).1 (ix2 r d)
    = dhFrom (hA m c) (gA m c) (dhnArr (wA m c) (dqA m c)) (eA m c) (ix2 (tok t.val (tlt t) r) d) := by
  rw [out5, dh_at, blk_4]
  simp only [blk_2, dhn_blk, blk_3]
  rfl

theorem dh_eq (c : Dev nD) : (dats m 0 c).arrAt 5 cfg0.N = dhFrom (hA m c) (gA m c) (dhnArr (wA m c) (dqA m c)) (eA m c) := by
  refine (dats m 0 c).arrAt_eq_of_covers 5 _ (by decide +kernel) fun t hf y => ?_
  blk_simp
  rw [after0_5]
  have hy0 : (y 0).val < 512 := (y 0).isLt
  have hy1 : (y 1).val < 1024 := (y 1).isLt
  have ey : y = ix2 (⟨(y 0).val, hy0⟩ : Fin 512) (⟨(y 1).val, hy1⟩ : Fin 1024) := by
    funext a
    match a with
    | ⟨0, _⟩ => rfl
    | ⟨1, _⟩ => rfl
  rw [ey]
  refine (dh_block m c t _ _).trans (congrArg (dhFrom (hA m c) (gA m c) (dhnArr (wA m c) (dqA m c)) (eA m c)) ?_)
  unfold tok
  blk_ext [ix_5]

/-- What one step adds to the gain's gradient. -/
theorem dg_step (c : Dev nD) (t : Fin cfg0.N) (acc : Vec Ideal S1x1024 .f32) (d : Fin 1024) :
    k0_pay3 (F := Ideal) (dhn (iblk m c 0 t) (iblk m c 1 t)) (iblk m c 2 t) (k0_pay7 (iblk m c 2 t)) acc (ix2 0 d)
      = acc (ix2 0 d) + ∑ r : Fin 512, gainFrom (hA m c) (dhnArr (wA m c) (dqA m c)) d (tok t.val (tlt t) r) := by
  rw [dg_at]
  simp only [blk_2, dhn_blk]
  rfl

/-- What a point leaves in the gain's block: the steps up to it. -/
theorem dg_upto (c : Dev nD) (d : Fin 1024) : ∀ (n : Nat) (hn : n < cfg0.N), (outsAt0 m c n hn).2 (ix2 0 d)
    = ∑ k : Fin (n + 1), ∑ r : Fin 512, gainFrom (hA m c) (dhnArr (wA m c) (dqA m c)) d (tok k.val (by have := tlt ⟨n, hn⟩; have := k.isLt; dsimp only at *; omega) r) := by
  refine accum (fun n hn => (outsAt0 m c n hn).2 (ix2 0 d)) (fun n hn => ∑ r : Fin 512, gainFrom (hA m c) (dhnArr (wA m c) (dqA m c)) d (tok n (tlt ⟨n, hn⟩) r)) (fun hn => ?_) (fun n hn => ?_)
  · have e := outsAt0_A m c ⟨0, hn⟩ (Nat.zero_mod 8)
    dsimp only at e ⊢
    rw [e]
    dsimp only
    rw [out_A6, dg_step, zero_at, zero_add]
  · have hl := tlt ⟨n + 1, hn⟩
    dsimp only at hl
    have e := outsAt0_B m c ⟨n + 1, hn⟩ (by dsimp only; omega)
    dsimp only at e ⊢
    rw [e]
    dsimp only
    rw [out_B6, dg_step]
    rfl

theorem dg_block (c : Dev nD) (d : Fin 1024) (t : Fin cfg0.N) (ht : t.val % 8 = 7) : (outsAt0 m c t.val t.isLt).2 (ix2 0 d)
    = ∑ r : Fin 4096, gainFrom (hA m c) (dhnArr (wA m c) (dqA m c)) d r := by
  have hl := tlt t
  obtain ⟨n, hn⟩ := t
  obtain rfl : n = 7 := by dsimp only at ht hl; omega
  exact (dg_upto m c d 7 hn).trans (Fin.sum_mul_add_fin 8 512 (gainFrom (hA m c) (dhnArr (wA m c) (dqA m c)) d))

theorem dg_eq (c : Dev nD) : (dats m 0 c).arrAt 6 cfg0.N = dgFrom (hA m c) (dhnArr (wA m c) (dqA m c)) := by
  refine (dats m 0 c).arrAt_eq_of_covers 6 _ (by decide +kernel) fun t hf y => ?_
  have ht : t.val % 8 = 7 := (flush0_6 t).mp hf
  blk_simp
  rw [after0_6]
  have hy1 : (y 1).val < 1024 := (y 1).isLt
  have ey : y = ix2 (0 : Fin 1) (⟨(y 1).val, hy1⟩ : Fin 1024) := by
    funext a
    match a with
    | ⟨0, _⟩ => exact Fin.ext (by have : (y 0).val < 1 := (y 0).isLt; show (y 0).val = 0; omega)
    | ⟨1, _⟩ => rfl
  rw [ey]
  refine (dg_block m c _ t ht).trans ?_
  refine Eq.trans (b := dgFrom (hA m c) (dhnArr (wA m c) (dqA m c)) (ix2 (0 : Fin 1) (⟨(y 1).val, hy1⟩ : Fin 1024))) rfl (congrArg (dgFrom (hA m c) (dhnArr (wA m c) (dqA m c))) ?_)
  blk_ext [ix_6]
end Blocks

end Cert.Kernel6Ideal.Query
-- ==== Proof.Query.Ref.lean ====
/- The reference's gradients through the queries' product and its normalisation: its gradient of the normalised input is the same
   sum, and the rest is differentiation's form of the normalisation's gradient (Norm/Back). -/
module

public import proofs.«01_k».proof.Proof.Query.Array
public import proofs.«01_k».proof.Proof.Norm.Back
public import proofs.«01_k».proof.Proof.Gen.Reference6Ideal.Read

@[expose] public section

set_option maxRecDepth 16384

noncomputable section

namespace Cert.Reference6Ideal.Query

open Cert.Reference6Ideal Cert.Reference6Ideal.Gen Cert.Reference6Ideal.Read
open Idealize.ShloMosaic Idealize.ShloMosaic.TcCoe
open Cert.Norm (dhFrom dgFrom backH backG backH_eq backG_eq)
open Cert.Kernel6Ideal.Query (dhnArr)

variable (h : FVec Ideal S4096x1024 .f32) (g : FVec Ideal S1024 .f32) (w : FVec Ideal S1024x3072 .f32) (a : FVec Ideal S4096x3072 .bf16) (e : FVec Ideal S4096x1024 .f32)

theorem dhn_eq : val_main_v18 (F := Ideal) w a = dhnArr w a := by
  funext i
  idx_vars i
  rw [val_main_v18_apply]
  have eL : ∀ j, lidx_main_v18 (ix2 i0 i1) j = ix2 i0 j := fun j => by funext b; fin_cases b <;> rfl
  have eR : ∀ j, ridx_main_v18 (ix2 i0 i1) j = ix2 i1 j := fun j => by funext b; fin_cases b <;> rfl
  simp only [eL, eR]
  rfl

theorem dh_eq : val_main_v39 (F := Ideal) h g w a e = dhFrom h g (dhnArr w a) e :=
  (show val_main_v39 (F := Ideal) h g w a e = backH h g (val_main_v18 (F := Ideal) w a) e from rfl).trans ((backH_eq h g _ e).trans (by rw [dhn_eq]))
theorem dg_eq : val_main_v40 (F := Ideal) h w a = dgFrom h (dhnArr w a) :=
  (show val_main_v40 (F := Ideal) h w a = backG h (val_main_v18 (F := Ideal) w a) from rfl).trans ((backG_eq h _).trans (by rw [dhn_eq]))

end Cert.Reference6Ideal.Query
-- ==== Proof.QueryW.Array.lean ====
/- The gradient of the queries' weight, its columns in four chunks: what each grid step leaves in the accumulator and in the result's block, and
   the result array at the end as one sum over the 4096 tokens. -/
module

public import proofs.«01_k».proof.Proof.Gen.Kernel7Ideal.Value
public import proofs.«01_k».proof.Proof.Down.Array

@[expose] public section

set_option maxRecDepth 16384

noncomputable section

namespace Cert.Kernel7Ideal.QueryW

open Cert.Kernel7Ideal Cert.Kernel7Ideal.Gen
open Idealize.ShloMosaic Idealize.ShloMosaic.TcCoe Idealize.ShloMosaic.Tactic
open Idealize.SL.Sem
open Idealize.ShloMosaic.Pipeline (Dat)
open Cert.Kernel4Ideal.Down (zero2 zero3 tok halves)

/-! ## One step -/

section Step
variable {F : FTy → Type} [FloatOps F]
variable (c : Dev nD) (i : grid0.Coords) (a0 : Memref sig .tc .vmem S2048x1024 .bf16) (h0 : a0.IsWhole) (a1 : Memref sig .tc .vmem S2048x768 .bf16) (h1 : a1.IsWhole)
  (a2 : Memref sig .tc .vmem S1x1024x768 .bf16) (h2 : a2.IsWhole) (s : Memref sig .tc .vmem S1024x768 .f32) (hs : s.IsWhole)
  (x : Vec F S2048x1024 .bf16) (y : Vec F S2048x768 .bf16) (acc : Vec F S1024x768 .f32)

/-- The first half of the tokens sets the accumulator. -/
theorem acc_A (p0 : cond0_0 i) (p1 : ¬cond0_1 i) (p2 : ¬cond0_2 i) :
    sout0_A_0 c i a0 h0 a1 h1 a2 h2 s hs p0 p1 p2 x y = k0_pay1 x y := by
  unfold sout0_A_0
  rw [View.read_writes_eq_canon _ _ _ (scover0_A_0 c i a0 h0 a1 h1 a2 h2 s hs p0 p1 p2 x y)]
  unfold kernelRun0_A
  dsimp only
  sl_unfold_words
  rw [View.canon_unit_zero zero2]
  unfold k0_pay2
  simp only [View.readAt_eq_ld, h0.read_unread, h1.read_unread, View.ld_unit_zero (S := S2048x1024) zero2, View.ld_unit_zero (S := S2048x768) zero2, shapeCast_self]

/-- The second half is added to it, and the sum rounded into the result's block. -/
theorem out_B (p0 : ¬cond0_0 i) (p1 : cond0_1 i) (p2 : cond0_2 i) :
    out0_B_2 c i a0 h0 a1 h1 a2 h2 s hs p0 p1 p2 x y acc = k0_pay4 (addf acc (k0_pay1 x y)) := by
  unfold out0_B_2
  rw [View.read_writes_eq_canon _ _ _ (cover0_B_2 c i a0 h0 a1 h1 a2 h2 s hs p0 p1 p2 x y acc)]
  unfold kernelRun0_B
  dsimp only
  sl_unfold_words
  rw [View.canon_unit_zero zero3]
  rw [View.readCov_unit_zero (S := S1024x768) _ zero2]
  unfold k0_pay3
  simp only [View.readAt_eq_ld, h0.read_unread, h1.read_unread, hs.read_unread, View.ld_unit_zero (S := S2048x1024) zero2, View.ld_unit_zero (S := S2048x768) zero2,
    View.ld_unit_zero (S := S1024x768) zero2, shapeCast_self]
end Step

/-! ## The blocks at coordinates -/

section Blocks
variable (m : (ℓ : Loc nD τ sig) → Buf (Elt Ideal) ℓ)

abbrev aA (c : Dev nD) : FVec Ideal S4096x1024 .bf16 := m ((c : Thread nD τ).loc main_arg0)
abbrev dA (c : Dev nD) : FVec Ideal S4096x3072 .bf16 := m ((c : Thread nD τ).loc main_arg1)

theorem tlt (t : Fin cfg0.N) : t.val < 8 := lt_of_lt_of_eq t.isLt (show cfg0.N = 8 from N_0)

theorem ix_0 : ∀ t : Fin cfg0.N, win0_0.index t = ![t.val % 2, 0] := (by decide +kernel : ∀ t : Fin grid0.N, _)
theorem ix_1 : ∀ t : Fin cfg0.N, win0_1.index t = ![t.val % 2, t.val / 2] := (by decide +kernel : ∀ t : Fin grid0.N, _)
theorem ix_2 : ∀ t : Fin cfg0.N, win0_2.index t = ![t.val / 2, 0, 0] := (by decide +kernel : ∀ t : Fin grid0.N, _)

/-- Column f of chunk b. -/
def col (b : Nat) (hb : b < 4) (f : Fin 768) : Fin 3072 := ⟨768 * b + f.val, by omega⟩

theorem blk_0 (c : Dev nD) (t : Fin cfg0.N) (r : Fin 2048) (d : Fin 1024) :
    iblk m c 0 t (ix2 r d) = aA m c (ix2 (tok (t.val % 2) (by omega) r) d) := by
  blk_simp [iblk, ix_0]
  rw [V_main_arg0]
  refine congrArg (aA m c) ?_
  unfold tok
  blk_ext [ix_0]
theorem blk_1 (c : Dev nD) (t : Fin cfg0.N) (r : Fin 2048) (f : Fin 768) :
    iblk m c 1 t (ix2 r f) = dA m c (ix2 (tok (t.val % 2) (by omega) r) (col (t.val / 2) (by have := tlt t; omega) f)) := by
  blk_simp [iblk, ix_1]
  rw [V_main_arg1]
  refine congrArg (dA m c) ?_
  unfold tok col
  blk_ext [ix_1]

theorem part_at (x : Vec Ideal S2048x1024 .bf16) (y : Vec Ideal S2048x768 .bf16) (d : Fin 1024) (f : Fin 768) :
    k0_pay1 (F := Ideal) x y (ix2 d f) = ∑ r : Fin 2048, x (ix2 r d) * y (ix2 r f) := by
  unfold k0_pay1
  pointwise
theorem round_at (v : Vec Ideal S1024x768 .f32) (d : Fin 1024) (f : Fin 768) : k0_pay4 (F := Ideal) v (ix3 0 d f) = v (ix2 d f) := by
  unfold k0_pay4
  pointwise

/-- The whole gradient: row d against column j, over all tokens. -/
def dwOf (x : FVec Ideal S4096x1024 .bf16) (y : FVec Ideal S4096x3072 .bf16) (d : Fin 1024) (j : Fin 3072) : EReal := ∑ r : Fin 4096, x (ix2 r d) * y (ix2 r j)
def dwArr (x : FVec Ideal S4096x1024 .bf16) (y : FVec Ideal S4096x3072 .bf16) : FVec Ideal S4x1024x768 .bf16 := fun i =>
  dwOf x y ⟨(i 1).val, (i 1).isLt⟩ (col (i 0).val (i 0).isLt ⟨(i 2).val, (i 2).isLt⟩)

/-- What an odd step leaves in the result's block. -/
theorem block_at (c : Dev nD) (t : Fin cfg0.N) (ht : t.val % 2 = 1) (d : Fin 1024) (f : Fin 768) :
    (outsAt0 m c t.val t.isLt).1 (ix3 0 d f) = dwOf (aA m c) (dA m c) d (col (t.val / 2) (by have := tlt t; omega) f) := by
  have hl := tlt t
  rw [outsAt0_B m c t (by omega) ht ht]
  dsimp only
  rw [out_B, round_at]
  have hp : t.val - 1 < cfg0.N := by have := t.isLt; omega
  have e := outsAt0_A m c ⟨t.val - 1, hp⟩ (by dsimp only; omega) (by dsimp only; omega) (by dsimp only; omega)
  dsimp only at e
  rw [e]
  dsimp only
  rw [acc_A]
  show k0_pay1 (F := Ideal) _ _ (ix2 d f) + k0_pay1 (F := Ideal) _ _ (ix2 d f) = _
  rw [part_at, part_at]
  unfold dwOf
  rw [← halves]
  congr 1
  · refine Finset.sum_congr rfl fun r _ => ?_
    rw [blk_0, blk_1]
    simp only [show (t.val - 1) % 2 = 0 by omega, show (t.val - 1) / 2 = t.val / 2 by omega]
  · refine Finset.sum_congr rfl fun r _ => ?_
    rw [blk_0, blk_1]
    simp only [ht]

/-- The array at the end. -/
theorem dw_eq (c : Dev nD) : (dats m 0 c).arrAt 2 cfg0.N = dwArr (aA m c) (dA m c) := by
  refine (dats m 0 c).arrAt_eq_of_covers 2 _ (by decide +kernel) fun t hf y => ?_
  have ht : t.val % 2 = 1 := (flush0_2 t).mp hf
  blk_simp
  rw [after0_2]
  have hy1 : (y 1).val < 1024 := (y 1).isLt
  have hy2 : (y 2).val < 768 := (y 2).isLt
  have ey : y = ix3 (0 : Fin 1) (⟨(y 1).val, hy1⟩ : Fin 1024) (⟨(y 2).val, hy2⟩ : Fin 768) := by
    funext a
    match a with
    | ⟨0, _⟩ => exact Fin.ext (by have : (y 0).val < 1 := (y 0).isLt; show (y 0).val = 0; omega)
    | ⟨1, _⟩ => rfl
    | ⟨2, _⟩ => rfl
  rw [ey]
  refine (block_at m c t ht _ _).trans ?_
  refine Eq.trans (b := dwArr (aA m c) (dA m c) (ix3 (⟨t.val / 2, by have := tlt t; omega⟩ : Fin 4) (⟨(y 1).val, hy1⟩ : Fin 1024) (⟨(y 2).val, hy2⟩ : Fin 768))) rfl
    (congrArg (dwArr (aA m c) (dA m c)) ?_)
  blk_ext [ix_2]
end Blocks

end Cert.Kernel7Ideal.QueryW
-- ==== Proof.QueryW.Ref.lean ====
/- The reference's gradient of the queries' weight, element by element: the same sum over the tokens. -/
module

public import proofs.«01_k».proof.Proof.QueryW.Array
public import proofs.«01_k».proof.Proof.Gen.Reference7Ideal.Read

@[expose] public section

set_option maxRecDepth 16384

noncomputable section

namespace Cert.Reference7Ideal.QueryW

open Cert.Reference7Ideal Cert.Reference7Ideal.Gen Cert.Reference7Ideal.Read
open Idealize.ShloMosaic Idealize.ShloMosaic.TcCoe
open Cert.Kernel7Ideal.QueryW (dwOf dwArr col)

variable (x : FVec Ideal S4096x1024 .bf16) (y : FVec Ideal S4096x3072 .bf16)

theorem v4_at (j : Fin 3072) (d : Fin 1024) : val_main_v4 (F := Ideal) x y (ix2 j d) = dwOf x y d j := by
  rw [val_main_v4_apply]
  unfold val_main_v3 val_main_v1 dwOf
  refine Finset.sum_congr rfl fun r _ => ?_
  have eL : lidx_main_v4 (ix2 j d) r = ix2 r j := by funext b; fin_cases b <;> rfl
  have eR : ridx_main_v4 (ix2 j d) r = ix2 r d := by funext b; fin_cases b <;> rfl
  rw [mul_comm, eL, eR]
  rfl

theorem dw_eq : val_main_v8 (F := Ideal) x y = dwArr x y := by
  funext i
  idx_vars i
  unfold val_main_v8 val_main_v7 val_main_v6 val_main_v5 dwArr
  pointwise
  rw [v4_at]
  unfold col
  congr 1
  exact Fin.ext (by show i0.val * 768 + i2.val = 768 * i0.val + i2.val; omega)

end Cert.Reference7Ideal.QueryW
-- ==== Proof.KeyValue.Step.lean ====
/- One grid step of the gradient through the keys' and values' product and its normalisation, for any values: the block of the
   input's gradient it leaves, and what it adds to the gain's gradient. The element formulas are those of the gate and up
   projections' call (GateUp/Step), which treats its rows alike. -/
module

public import proofs.«01_k».proof.Proof.Gen.Kernel8Ideal.Value
public import proofs.«01_k».proof.Proof.GateUp.Step

@[expose] public section

set_option maxRecDepth 16384

noncomputable section

namespace Cert.Kernel8Ideal.KeyValue

open Cert.Kernel8Ideal Cert.Kernel8Ideal.Gen
open Idealize.ShloMosaic Idealize.ShloMosaic.TcCoe Idealize.ShloMosaic.Tactic
open Idealize.SL.Sem
open Idealize.ShloMosaic.Pipeline (Dat)

theorem zero2 : (![0, 0] : Fin 2 → Nat) = fun _ => 0 := funext fun a => by fin_cases a <;> rfl

/-- The gradient of the normalised input: the four chunks of the keys' and the values' gradients, each against its
    chunk of the weight. -/
def dhn {F : FTy → Type} [FloatOps F] (x0 x1 : Vec F S512x3072 .bf16) (x2 : Vec F S4x1024x1536 .bf16) : Vec F S512x1024 .f32 :=
  k0_pay6 (View.ld x0 (Rect.unit (s := S512x3072) ![0, 0] S512x1536.size inb_S512x3072_S512x1536_0_0)) (View.ld x2 (Rect.unit (s := S4x1024x1536) ![0, 0, 0] S1x1024x1536.size inb_S4x1024x1536_S1x1024x1536_0_0_0))
    (View.ld x0 (Rect.unit (s := S512x3072) ![0, 1536] S512x1536.size inb_S512x3072_S512x1536_0_1536)) (View.ld x2 (Rect.unit (s := S4x1024x1536) ![1, 0, 0] S1x1024x1536.size inb_S4x1024x1536_S1x1024x1536_1_0_0))
    (View.ld x1 (Rect.unit (s := S512x3072) ![0, 0] S512x1536.size inb_S512x3072_S512x1536_0_0)) (View.ld x2 (Rect.unit (s := S4x1024x1536) ![2, 0, 0] S1x1024x1536.size inb_S4x1024x1536_S1x1024x1536_2_0_0))
    (View.ld x1 (Rect.unit (s := S512x3072) ![0, 1536] S512x1536.size inb_S512x3072_S512x1536_0_1536)) (View.ld x2 (Rect.unit (s := S4x1024x1536) ![3, 0, 0] S1x1024x1536.size inb_S4x1024x1536_S1x1024x1536_3_0_0))

section Step
variable {F : FTy → Type} [FloatOps F]
variable (c : Dev nD) (i : grid0.Coords) (a1 : Memref sig .tc .vmem S512x3072 .bf16) (h1 : a1.IsWhole) (a2 : Memref sig .tc .vmem S512x3072 .bf16) (h2 : a2.IsWhole)
  (a3 : Memref sig .tc .vmem S4x1024x1536 .bf16) (h3 : a3.IsWhole) (a4 : Memref sig .tc .vmem S512x1024 .f32) (h4 : a4.IsWhole)
  (a5 : Memref sig .tc .vmem S1x1024 .f32) (h5 : a5.IsWhole) (a6 : Memref sig .tc .vmem S512x1024 .f32) (h6 : a6.IsWhole)
  (a7 : Memref sig .tc .vmem S512x1024 .f32) (h7 : a7.IsWhole) (a8 : Memref sig .tc .vmem S1x1024 .f32) (h8 : a8.IsWhole)
  (x0 x1 : Vec F S512x3072 .bf16) (x2 : Vec F S4x1024x1536 .bf16) (x3 : Vec F S512x1024 .f32) (x4 : Vec F S1x1024 .f32) (x5 : Vec F S512x1024 .f32) (acc : Vec F S1x1024 .f32)

/-- The block of the input's gradient, in either case. -/
theorem out_A6 (p0 : cond0_0 i) :
    out0_A_6 c i a1 h1 a2 h2 a3 h3 a4 h4 a5 h5 a6 h6 a7 h7 a8 h8 p0 x0 x1 x2 x3 x4 x5 = k0_pay4 (dhn x0 x1 x2) x3 (k0_pay7 x3) x4 x5 := by
  unfold out0_A_6
  rw [View.read_writes_eq_canon _ _ _ (cover0_A_6 c i a1 h1 a2 h2 a3 h3 a4 h4 a5 h5 a6 h6 a7 h7 a8 h8 p0 x0 x1 x2 x3 x4 x5)]
  unfold kernelRun0_A
  dsimp only
  sl_unfold_words
  rw [View.canon_unit_zero zero2]
  simp only [View.readAt_eq_ld, h1.read_unread, h2.read_unread, h3.read_unread, h4.read_unread, h5.read_unread, h6.read_unread, h8.read_unread,
    View.ld_unit_zero (S := S512x1024) zero2, View.ld_unit_zero (S := S1x1024) zero2, shapeCast_self]
  unfold dhn; rfl
theorem out_B6 (p0 : ¬cond0_0 i) :
    out0_B_6 c i a1 h1 a2 h2 a3 h3 a4 h4 a5 h5 a6 h6 a7 h7 a8 h8 p0 x0 x1 x2 x3 x4 x5 acc = k0_pay4 (dhn x0 x1 x2) x3 (k0_pay7 x3) x4 x5 := by
  unfold out0_B_6
  rw [View.read_writes_eq_canon _ _ _ (cover0_B_6 c i a1 h1 a2 h2 a3 h3 a4 h4 a5 h5 a6 h6 a7 h7 a8 h8 p0 x0 x1 x2 x3 x4 x5 acc)]
  unfold kernelRun0_B
  dsimp only
  sl_unfold_words
  rw [View.canon_unit_zero zero2]
  simp only [View.readAt_eq_ld, h1.read_unread, h2.read_unread, h3.read_unread, h4.read_unread, h5.read_unread, h6.read_unread, h8.read_unread,
    View.ld_unit_zero (S := S512x1024) zero2, View.ld_unit_zero (S := S1x1024) zero2, shapeCast_self]
  unfold dhn; rfl
/-- The gain's gradient: set at the first point, added to afterwards. -/
theorem out_A7 (p0 : cond0_0 i) :
    out0_A_7 c i a1 h1 a2 h2 a3 h3 a4 h4 a5 h5 a6 h6 a7 h7 a8 h8 p0 x0 x1 x2 x3 x4 x5 = k0_pay3 (dhn x0 x1 x2) x3 (k0_pay7 x3) k0_pay5 := by
  unfold out0_A_7
  rw [View.read_writes_eq_canon _ _ _ (cover0_A_7 c i a1 h1 a2 h2 a3 h3 a4 h4 a5 h5 a6 h6 a7 h7 a8 h8 p0 x0 x1 x2 x3 x4 x5)]
  unfold kernelRun0_A
  dsimp only
  sl_unfold_words
  rw [View.canon_cons_unit_zero (S := S1x1024) zero2, View.readCov_unit_zero (S := S1x1024) _ zero2]
  simp only [View.readAt_eq_ld, h1.read_unread, h2.read_unread, h3.read_unread, h4.read_unread, h5.read_unread, h6.read_unread, h8.read_unread,
    View.ld_unit_zero (S := S512x1024) zero2, View.ld_unit_zero (S := S1x1024) zero2, shapeCast_self]
  unfold dhn; rfl
theorem out_B7 (p0 : ¬cond0_0 i) :
    out0_B_7 c i a1 h1 a2 h2 a3 h3 a4 h4 a5 h5 a6 h6 a7 h7 a8 h8 p0 x0 x1 x2 x3 x4 x5 acc = k0_pay3 (dhn x0 x1 x2) x3 (k0_pay7 x3) acc := by
  unfold out0_B_7
  rw [View.read_writes_eq_canon _ _ _ (cover0_B_7 c i a1 h1 a2 h2 a3 h3 a4 h4 a5 h5 a6 h6 a7 h7 a8 h8 p0 x0 x1 x2 x3 x4 x5 acc)]
  unfold kernelRun0_B
  dsimp only
  sl_unfold_words
  rw [View.canon_unit_zero zero2]
  simp only [View.readAt_eq_ld, h1.read_unread, h2.read_unread, h3.read_unread, h4.read_unread, h5.read_unread, h6.read_unread, h8.read_unread,
    View.ld_unit_zero (S := S512x1024) zero2, View.ld_unit_zero (S := S1x1024) zero2, shapeCast_self]
  unfold dhn; rfl
end Step

/-! ## The step's values element by element -/

section At
variable (x0 x1 : Vec Ideal S512x3072 .bf16) (x2 : Vec Ideal S4x1024x1536 .bf16) (x3 : Vec Ideal S512x1024 .f32) (x4 : Vec Ideal S1x1024 .f32) (x5 : Vec Ideal S512x1024 .f32)
  (D : Vec Ideal S512x1024 .f32) (acc : Vec Ideal S1x1024 .f32)

/-- A chunk of a gradient against a chunk of the weight. -/
def chunk (x : Vec Ideal S512x3072 .bf16) (k : Nat) (hk : k < 2) (q : Fin 4) (r : Fin 512) (d : Fin 1024) : EReal :=
  ∑ f : Fin 1536, x (ix2 r (⟨1536 * k + f.val, by omega⟩ : Fin 3072)) * x2 (ix3 q d f)

theorem dhn_at (r : Fin 512) (d : Fin 1024) : dhn (F := Ideal) x0 x1 x2 (ix2 r d)
    = ((chunk x2 x0 0 (by omega) 0 r d + chunk x2 x0 1 (by omega) 1 r d) + chunk x2 x1 0 (by omega) 2 r d) + chunk x2 x1 1 (by omega) 3 r d := by
  unfold dhn k0_pay6
  pointwise
  simp only [chunk, Nat.mul_zero, Nat.mul_one, Nat.zero_add]

theorem dh_at (r : Fin 512) (d : Fin 1024) : k0_pay4 (F := Ideal) D x3 (k0_pay7 x3) x4 x5 (ix2 r d)
    = x5 (ix2 r d) + Cert.Norm.grad (fun e : Fin 1024 => x3 (ix2 r e)) (fun e => D (ix2 r e) * x4 (ix2 0 e)) d :=
  Cert.Kernel2Ideal.GateUp.dh_at x3 x4 x5 D r d

theorem dg_at (d : Fin 1024) : k0_pay3 (F := Ideal) D x3 (k0_pay7 x3) acc (ix2 0 d)
    = acc (ix2 0 d) + ∑ r : Fin 512, D (ix2 r d) * (x3 (ix2 r d) * Cert.Norm.rinv (fun e : Fin 1024 => x3 (ix2 r e))) :=
  Cert.Kernel2Ideal.GateUp.dg_at x3 D acc d

theorem zero_at (d : Fin 1024) : k0_pay5 (F := Ideal) (ix2 0 d) = 0 := by
  unfold k0_pay5
  pointwise
end At
end Cert.Kernel8Ideal.KeyValue
-- ==== Proof.KeyValue.Array.lean ====
/- The gradient through the keys' and values' product and its normalisation: the two result arrays at the end, as sums over
   all 6144 features and over all 4096 tokens. -/
module

public import proofs.«01_k».proof.Proof.KeyValue.Step

@[expose] public section

set_option maxRecDepth 16384

noncomputable section

namespace Cert.Kernel8Ideal.KeyValue

open Cert.Kernel8Ideal Cert.Kernel8Ideal.Gen
open Idealize.ShloMosaic Idealize.ShloMosaic.TcCoe Idealize.ShloMosaic.Tactic
open Idealize.SL.Sem
open Idealize.ShloMosaic.Pipeline (Dat)
open Cert.Norm (tok both both_lo both_hi four_chunks accum dhFrom dgFrom gainFrom)

section Blocks
variable (m : (ℓ : Loc nD τ sig) → Buf (Elt Ideal) ℓ)

abbrev hA (c : Dev nD) : FVec Ideal S4096x1024 .f32 := m ((c : Thread nD τ).loc main_arg0)
abbrev gA (c : Dev nD) : FVec Ideal S1024 .f32 := m ((c : Thread nD τ).loc main_arg1)
abbrev wA (c : Dev nD) : FVec Ideal S1024x6144 .f32 := m ((c : Thread nD τ).loc main_arg2)
abbrev dkA (c : Dev nD) : FVec Ideal S4096x3072 .bf16 := m ((c : Thread nD τ).loc main_arg3)
abbrev dvA (c : Dev nD) : FVec Ideal S4096x3072 .bf16 := m ((c : Thread nD τ).loc main_arg4)
abbrev eA (c : Dev nD) : FVec Ideal S4096x1024 .f32 := m ((c : Thread nD τ).loc main_arg5)

theorem tlt (t : Fin cfg0.N) : t.val < 8 := lt_of_lt_of_eq t.isLt (show cfg0.N = 8 from N_0)

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![0, 0, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![0, 0] := (by decide +kernel : ∀ t : Fin grid0.N, _)
theorem ix_5 : ∀ t : Fin cfg0.N, win0_5.index t = ![t.val, 0] := (by decide +kernel : ∀ t : Fin grid0.N, _)
theorem ix_6 : ∀ t : Fin cfg0.N, win0_6.index t = ![t.val, 0] := (by decide +kernel : ∀ t : Fin grid0.N, _)
theorem ix_7 : ∀ t : Fin cfg0.N, win0_7.index t = ![0, 0] := (by decide +kernel : ∀ t : Fin grid0.N, _)

theorem blk_0 (c : Dev nD) (t : Fin cfg0.N) (r : Fin 512) (f : Fin 3072) : iblk m c 0 t (ix2 r f) = dkA m c (ix2 (tok t.val (tlt t) r) f) := by
  blk_simp [iblk, ix_0]
  rw [V_main_arg3]
  refine congrArg (dkA m c) ?_
  unfold tok
  blk_ext [ix_0]
theorem blk_1 (c : Dev nD) (t : Fin cfg0.N) (r : Fin 512) (f : Fin 3072) : iblk m c 1 t (ix2 r f) = dvA m c (ix2 (tok t.val (tlt t) r) f) := by
  blk_simp [iblk, ix_1]
  rw [V_main_arg4]
  refine congrArg (dvA m c) ?_
  unfold tok
  blk_ext [ix_1]
theorem blk_3 (c : Dev nD) (t : Fin cfg0.N) (r : Fin 512) (d : Fin 1024) : iblk m c 3 t (ix2 r d) = hA m c (ix2 (tok t.val (tlt t) r) d) := by
  blk_simp [iblk, ix_3]
  rw [V_main_arg0]
  refine congrArg (hA m c) ?_
  unfold tok
  blk_ext [ix_3]
theorem blk_5 (c : Dev nD) (t : Fin cfg0.N) (r : Fin 512) (d : Fin 1024) : iblk m c 5 t (ix2 r d) = eA m c (ix2 (tok t.val (tlt t) r) d) := by
  blk_simp [iblk, ix_5]
  rw [V_main_arg5]
  refine congrArg (eA m c) ?_
  unfold tok
  blk_ext [ix_5]

/-- The weight as the kernel takes it: its columns in four chunks, rounded. -/
def wArr (w : FVec Ideal S1024x6144 .f32) : FVec Ideal S4x1024x1536 .bf16 :=
  transpose S4x1024x1536 [1, 0, 2] (shapeCast S1024x4x1536 (truncf .bf16 w bitsLt_bf16_f32) shapeCasts_S1024x6144_S1024x4x1536) transposes_S1024x4x1536_S4x1024x1536_1_0_2
theorem V_w (c : Dev nD) : (V m c main_v2 : FVec Ideal S4x1024x1536 .bf16) = wArr (wA m c) := by
  unfold V
  after_results
  rfl
theorem V_gain (c : Dev nD) : (V m c main_v3 : FVec Ideal S1x1024 .f32) = shapeCast S1x1024 (gA m c) shapeCasts_S1024_S1x1024 := by
  unfold V
  after_results
  rfl
theorem wArr_at (w : FVec Ideal S1024x6144 .f32) (q : Fin 4) (d : Fin 1024) (f : Fin 1536) :
    wArr w (ix3 q d f) = w (ix2 d (⟨q.val * 1536 + f.val, by omega⟩ : Fin 6144)) := by
  unfold wArr
  pointwise

theorem blk_2 (c : Dev nD) (t : Fin cfg0.N) (q : Fin 4) (d : Fin 1024) (f : Fin 1536) :
    iblk m c 2 t (ix3 q d f) = wA m c (ix2 d (⟨q.val * 1536 + f.val, by omega⟩ : Fin 6144)) := by
  rw [← wArr_at (wA m c)]
  blk_simp [iblk, ix_2]
  rw [V_w]
  refine congrArg (wArr (wA m c)) ?_
  blk_ext [ix_2]
theorem blk_4 (c : Dev nD) (t : Fin cfg0.N) (d : Fin 1024) : iblk m c 4 t (ix2 0 d) = gA m c (ix1 d) := by
  have e : shapeCast S1x1024 (gA m c) shapeCasts_S1024_S1x1024 (ix2 0 d) = gA m c (ix1 d) := by pointwise
  rw [← e]
  blk_simp [iblk, ix_4]
  rw [V_gain]
  refine congrArg (shapeCast S1x1024 (gA m c) shapeCasts_S1024_S1x1024) ?_
  blk_ext [ix_4]

/-! ## The arrays of the whole call -/

section Whole
variable (h : FVec Ideal S4096x1024 .f32) (g : FVec Ideal S1024 .f32) (w : FVec Ideal S1024x6144 .f32) (a b : FVec Ideal S4096x3072 .bf16) (e : FVec Ideal S4096x1024 .f32)

/-- The gradient of the normalised input. -/
def dhnOf (r : Fin 4096) (d : Fin 1024) : EReal := ∑ j : Fin 6144, both rfl (fun k : Fin 3072 => a (ix2 r k)) (fun k => b (ix2 r k)) j * w (ix2 d j)
def dhnArr : FVec Ideal S4096x1024 .f32 := fun i => dhnOf w a b ⟨(i 0).val, (i 0).isLt⟩ ⟨(i 1).val, (i 1).isLt⟩
end Whole

theorem dhn_blk (c : Dev nD) (t : Fin cfg0.N) (r : Fin 512) (d : Fin 1024) :
    dhn (F := Ideal) (iblk m c 0 t) (iblk m c 1 t) (iblk m c 2 t) (ix2 r d) = dhnArr (wA m c) (dkA m c) (dvA m c) (ix2 (tok t.val (tlt t) r) d) := by
  have eL : ∀ (j : Fin 6144) (k : Fin 3072), j.val = k.val → iblk m c 0 t (ix2 r k) = both rfl (fun k : Fin 3072 => dkA m c (ix2 (tok t.val (tlt t) r) k)) (fun k => dvA m c (ix2 (tok t.val (tlt t) r) k)) j :=
    fun j k hk => (blk_0 m c t r k).trans (both_lo rfl (fun k : Fin 3072 => dkA m c (ix2 (tok t.val (tlt t) r) k)) _ j k hk).symm
  have eH : ∀ (j : Fin 6144) (k : Fin 3072), j.val = 3072 + k.val → iblk m c 1 t (ix2 r k) = both rfl (fun k : Fin 3072 => dkA m c (ix2 (tok t.val (tlt t) r) k)) (fun k => dvA m c (ix2 (tok t.val (tlt t) r) k)) j :=
    fun j k hk => (blk_1 m c t r k).trans (both_hi rfl _ (fun k : Fin 3072 => dvA m c (ix2 (tok t.val (tlt t) r) k)) j k hk).symm
  rw [dhn_at]
  refine Eq.trans ?_ (four_chunks 1536 fun j : Fin 6144 => both rfl (fun k : Fin 3072 => dkA m c (ix2 (tok t.val (tlt t) r) k)) (fun k => dvA m c (ix2 (tok t.val (tlt t) r) k)) j * wA m c (ix2 d j))
  refine congrArg₂ (· + ·) (congrArg₂ (· + ·) (congrArg₂ (· + ·) ?_ ?_) ?_) ?_
  · exact Finset.sum_congr rfl fun f _ => congrArg₂ (· * ·) (eL _ _ (by dsimp only <;> omega)) (blk_2 m c t 0 d f)
  · exact Finset.sum_congr rfl fun f _ => congrArg₂ (· * ·) (eL _ _ (by dsimp only <;> omega)) (blk_2 m c t 1 d f)
  · exact Finset.sum_congr rfl fun f _ => congrArg₂ (· * ·) (eH _ _ (by dsimp only <;> omega)) (blk_2 m c t 2 d f)
  · exact Finset.sum_congr rfl fun f _ => congrArg₂ (· * ·) (eH _ _ (by dsimp only <;> omega)) (blk_2 m c t 3 d f)

theorem out6 (c : Dev nD) (t : Fin cfg0.N) : (outsAt0 m c t.val t.isLt).1
    = k0_pay4 (dhn (iblk m c 0 t) (iblk m c 1 t) (iblk m c 2 t)) (iblk m c 3 t) (k0_pay7 (iblk m c 3 t)) (iblk m c 4 t) (iblk m c 5 t) := by
  by_cases h0 : t.val % 8 = 0
  · rw [outsAt0_A m c t h0]
    dsimp only
    rw [out_A6]
  · rw [outsAt0_B m c t h0]
    dsimp only
    rw [out_B6]

/-- What a step leaves in the block of the input's gradient. -/
theorem dh_block (c : Dev nD) (t : Fin cfg0.N) (r : Fin 512) (d : Fin 1024) : (outsAt0 m c t.val t.isLt).1 (ix2 r d)
    = dhFrom (hA m c) (gA m c) (dhnArr (wA m c) (dkA m c) (dvA m c)) (eA m c) (ix2 (tok t.val (tlt t) r) d) := by
  rw [out6, dh_at, blk_5]
  simp only [blk_3, dhn_blk, blk_4]
  rfl

theorem dh_eq (c : Dev nD) : (dats m 0 c).arrAt 6 cfg0.N = dhFrom (hA m c) (gA m c) (dhnArr (wA m c) (dkA m c) (dvA m c)) (eA m c) := by
  refine (dats m 0 c).arrAt_eq_of_covers 6 _ (by decide +kernel) fun t hf y => ?_
  blk_simp
  rw [after0_6]
  have hy0 : (y 0).val < 512 := (y 0).isLt
  have hy1 : (y 1).val < 1024 := (y 1).isLt
  have ey : y = ix2 (⟨(y 0).val, hy0⟩ : Fin 512) (⟨(y 1).val, hy1⟩ : Fin 1024) := by
    funext a
    match a with
    | ⟨0, _⟩ => rfl
    | ⟨1, _⟩ => rfl
  rw [ey]
  refine (dh_block m c t _ _).trans (congrArg (dhFrom (hA m c) (gA m c) (dhnArr (wA m c) (dkA m c) (dvA m c)) (eA m c)) ?_)
  unfold tok
  blk_ext [ix_6]

/-- What one step adds to the gain's gradient. -/
theorem dg_step (c : Dev nD) (t : Fin cfg0.N) (acc : Vec Ideal S1x1024 .f32) (d : Fin 1024) :
    k0_pay3 (F := Ideal) (dhn (iblk m c 0 t) (iblk m c 1 t) (iblk m c 2 t)) (iblk m c 3 t) (k0_pay7 (iblk m c 3 t)) acc (ix2 0 d)
      = acc (ix2 0 d) + ∑ r : Fin 512, gainFrom (hA m c) (dhnArr (wA m c) (dkA m c) (dvA m c)) d (tok t.val (tlt t) r) := by
  rw [dg_at]
  simp only [blk_3, dhn_blk]
  rfl

/-- What a point leaves in the gain's block: the steps up to it. -/
theorem dg_upto (c : Dev nD) (d : Fin 1024) : ∀ (n : Nat) (hn : n < cfg0.N), (outsAt0 m c n hn).2 (ix2 0 d)
    = ∑ k : Fin (n + 1), ∑ r : Fin 512, gainFrom (hA m c) (dhnArr (wA m c) (dkA m c) (dvA m c)) d (tok k.val (by have := tlt ⟨n, hn⟩; have := k.isLt; dsimp only at *; omega) r) := by
  refine accum (fun n hn => (outsAt0 m c n hn).2 (ix2 0 d)) (fun n hn => ∑ r : Fin 512, gainFrom (hA m c) (dhnArr (wA m c) (dkA m c) (dvA m c)) d (tok n (tlt ⟨n, hn⟩) r)) (fun hn => ?_) (fun n hn => ?_)
  · have e := outsAt0_A m c ⟨0, hn⟩ (Nat.zero_mod 8)
    dsimp only at e ⊢
    rw [e]
    dsimp only
    rw [out_A7, dg_step, zero_at, zero_add]
  · have hl := tlt ⟨n + 1, hn⟩
    dsimp only at hl
    have e := outsAt0_B m c ⟨n + 1, hn⟩ (by dsimp only; omega)
    dsimp only at e ⊢
    rw [e]
    dsimp only
    rw [out_B7, dg_step]
    rfl

theorem dg_block (c : Dev nD) (d : Fin 1024) (t : Fin cfg0.N) (ht : t.val % 8 = 7) : (outsAt0 m c t.val t.isLt).2 (ix2 0 d)
    = ∑ r : Fin 4096, gainFrom (hA m c) (dhnArr (wA m c) (dkA m c) (dvA m c)) d r := by
  have hl := tlt t
  obtain ⟨n, hn⟩ := t
  obtain rfl : n = 7 := by dsimp only at ht hl; omega
  exact (dg_upto m c d 7 hn).trans (Fin.sum_mul_add_fin 8 512 (gainFrom (hA m c) (dhnArr (wA m c) (dkA m c) (dvA m c)) d))

theorem dg_eq (c : Dev nD) : (dats m 0 c).arrAt 7 cfg0.N = dgFrom (hA m c) (dhnArr (wA m c) (dkA m c) (dvA m c)) := by
  refine (dats m 0 c).arrAt_eq_of_covers 7 _ (by decide +kernel) fun t hf y => ?_
  have ht : t.val % 8 = 7 := (flush0_7 t).mp hf
  blk_simp
  rw [after0_7]
  have hy1 : (y 1).val < 1024 := (y 1).isLt
  have ey : y = ix2 (0 : Fin 1) (⟨(y 1).val, hy1⟩ : Fin 1024) := by
    funext a
    match a with
    | ⟨0, _⟩ => exact Fin.ext (by have : (y 0).val < 1 := (y 0).isLt; show (y 0).val = 0; omega)
    | ⟨1, _⟩ => rfl
  rw [ey]
  refine (dg_block m c _ t ht).trans ?_
  refine Eq.trans (b := dgFrom (hA m c) (dhnArr (wA m c) (dkA m c) (dvA m c)) (ix2 (0 : Fin 1) (⟨(y 1).val, hy1⟩ : Fin 1024))) rfl (congrArg (dgFrom (hA m c) (dhnArr (wA m c) (dkA m c) (dvA m c))) ?_)
  blk_ext [ix_7]
end Blocks

end Cert.Kernel8Ideal.KeyValue
-- ==== Proof.KeyValue.Ref.lean ====
/- The reference's gradients through the keys' and values' product and its normalisation: its gradient of the normalised input is the same
   sum, and the rest is differentiation's form of the normalisation's gradient (Norm/Back). -/
module

public import proofs.«01_k».proof.Proof.KeyValue.Array
public import proofs.«01_k».proof.Proof.Norm.Back
public import proofs.«01_k».proof.Proof.Gen.Reference8Ideal.Read

@[expose] public section

set_option maxRecDepth 16384

noncomputable section

namespace Cert.Reference8Ideal.KeyValue

open Cert.Reference8Ideal Cert.Reference8Ideal.Gen Cert.Reference8Ideal.Read
open Idealize.ShloMosaic Idealize.ShloMosaic.TcCoe
open Cert.Norm (both dhFrom dgFrom backH backG backH_eq backG_eq)
open Cert.Kernel8Ideal.KeyValue (dhnArr)

variable (h : FVec Ideal S4096x1024 .f32) (g : FVec Ideal S1024 .f32) (w : FVec Ideal S1024x6144 .f32) (a b : FVec Ideal S4096x3072 .bf16) (e : FVec Ideal S4096x1024 .f32)

theorem v2_at (r : Fin 4096) (j : Fin 6144) : val_main_v2 (F := Ideal) a b (ix2 r j) = both rfl (fun k : Fin 3072 => a (ix2 r k)) (fun k => b (ix2 r k)) j := by
  unfold val_main_v2 val_main_v0 val_main_v1 both
  pointwise
theorem dhn_eq : val_main_v20 (F := Ideal) w a b = dhnArr w a b := by
  funext i
  idx_vars i
  rw [val_main_v20_apply]
  have eL : ∀ j, lidx_main_v20 (ix2 i0 i1) j = ix2 i0 j := fun j => by funext b; fin_cases b <;> rfl
  have eR : ∀ j, ridx_main_v20 (ix2 i0 i1) j = ix2 i1 j := fun j => by funext b; fin_cases b <;> rfl
  simp only [eL, eR, v2_at]
  rfl

theorem dh_eq : val_main_v41 (F := Ideal) h g w a b e = dhFrom h g (dhnArr w a b) e :=
  (show val_main_v41 (F := Ideal) h g w a b e = backH h g (val_main_v20 (F := Ideal) w a b) e from rfl).trans ((backH_eq h g _ e).trans (by rw [dhn_eq]))
theorem dg_eq : val_main_v42 (F := Ideal) h w a b = dgFrom h (dhnArr w a b) :=
  (show val_main_v42 (F := Ideal) h w a b = backG h (val_main_v20 (F := Ideal) w a b) from rfl).trans ((backG_eq h _).trans (by rw [dhn_eq]))

end Cert.Reference8Ideal.KeyValue
-- ==== Proof.Gate.Array.lean ====
/- The gradient of the gate projection's weight, written into the first two of four blocks: what each grid step leaves in the
   accumulator and in the result's block, and the two blocks at the end. -/
module

public import proofs.«01_k».proof.Proof.Gen.Kernel9Ideal.Frame
public import proofs.«01_k».proof.Proof.Up.Array

@[expose] public section

set_option maxRecDepth 16384

noncomputable section

namespace Cert.Kernel9Ideal.Gate

open Cert.Kernel9Ideal Cert.Kernel9Ideal.Gen
open Idealize.ShloMosaic Idealize.ShloMosaic.TcCoe Idealize.ShloMosaic.Tactic
open Idealize.SL.Sem
open Idealize.ShloMosaic.Pipeline (Dat)
open Cert.Kernel5Ideal.Up (zero2 zero3 tok feat halves dwOf)

/-! ## One step -/

section Step
variable {F : FTy → Type} [FloatOps F]
variable (c : Dev nD) (i : grid0.Coords) (a0 : Memref sig .tc .vmem S2048x1024 .bf16) (h0 : a0.IsWhole) (a1 : Memref sig .tc .vmem S2048x1408 .bf16) (h1 : a1.IsWhole)
  (a2 : Memref sig .tc .vmem S1x1024x1408 .bf16) (h2 : a2.IsWhole) (s : Memref sig .tc .vmem S1024x1408 .f32) (hs : s.IsWhole)
  (x : Vec F S2048x1024 .bf16) (y : Vec F S2048x1408 .bf16) (acc : Vec F S1024x1408 .f32)

/-- The first half of the tokens sets the accumulator. -/
theorem acc_A (p0 : cond0_0 i) (p1 : ¬cond0_1 i) (p2 : ¬cond0_2 i) :
    sout0_A_0 c i a0 h0 a1 h1 a2 h2 s hs p0 p1 p2 x y = k0_pay1 x y := by
  unfold sout0_A_0
  rw [View.read_writes_eq_canon _ _ _ (scover0_A_0 c i a0 h0 a1 h1 a2 h2 s hs p0 p1 p2 x y)]
  unfold kernelRun0_A
  dsimp only
  sl_unfold_words
  rw [View.canon_unit_zero zero2]
  unfold k0_pay2
  simp only [View.readAt_eq_ld, h0.read_unread, h1.read_unread, View.ld_unit_zero (S := S2048x1024) zero2, View.ld_unit_zero (S := S2048x1408) zero2, shapeCast_self]

/-- The second half is added to it, and the sum rounded into the result's block. -/
theorem out_B (p0 : ¬cond0_0 i) (p1 : cond0_1 i) (p2 : cond0_2 i) :
    out0_B_2 c i a0 h0 a1 h1 a2 h2 s hs p0 p1 p2 x y acc = k0_pay4 (addf acc (k0_pay1 x y)) := by
  unfold out0_B_2
  rw [View.read_writes_eq_canon _ _ _ (cover0_B_2 c i a0 h0 a1 h1 a2 h2 s hs p0 p1 p2 x y acc)]
  unfold kernelRun0_B
  dsimp only
  sl_unfold_words
  rw [View.canon_unit_zero zero3]
  rw [View.readCov_unit_zero (S := S1024x1408) _ zero2]
  unfold k0_pay3
  simp only [View.readAt_eq_ld, h0.read_unread, h1.read_unread, hs.read_unread, View.ld_unit_zero (S := S2048x1024) zero2, View.ld_unit_zero (S := S2048x1408) zero2,
    View.ld_unit_zero (S := S1024x1408) zero2, shapeCast_self]
end Step

/-! ## The blocks at coordinates -/

section Blocks
variable (m : (ℓ : Loc nD τ sig) → Buf (Elt Ideal) ℓ)

abbrev xA (c : Dev nD) : FVec Ideal S4096x1024 .bf16 := m ((c : Thread nD τ).loc main_arg0)
abbrev yA (c : Dev nD) : FVec Ideal S4096x2816 .bf16 := m ((c : Thread nD τ).loc main_arg1)

theorem tlt (t : Fin cfg0.N) : t.val < 4 := lt_of_lt_of_eq t.isLt (show cfg0.N = 4 from N_0)

theorem ix_0 : ∀ t : Fin cfg0.N, win0_0.index t = ![t.val % 2, 0] := (by decide +kernel : ∀ t : Fin grid0.N, _)
theorem ix_1 : ∀ t : Fin cfg0.N, win0_1.index t = ![t.val % 2, t.val / 2] := (by decide +kernel : ∀ t : Fin grid0.N, _)
theorem ix_2 : ∀ t : Fin cfg0.N, win0_2.index t = ![t.val / 2, 0, 0] := (by decide +kernel : ∀ t : Fin grid0.N, _)

theorem blk_0 (c : Dev nD) (t : Fin cfg0.N) (r : Fin 2048) (d : Fin 1024) :
    iblk m c 0 t (ix2 r d) = xA m c (ix2 (tok (t.val % 2) (by omega) r) d) := by
  blk_simp [iblk, ix_0]
  rw [V_main_arg0]
  refine congrArg (xA m c) ?_
  unfold tok
  blk_ext [ix_0]
theorem blk_1 (c : Dev nD) (t : Fin cfg0.N) (r : Fin 2048) (f : Fin 1408) :
    iblk m c 1 t (ix2 r f) = yA m c (ix2 (tok (t.val % 2) (by omega) r) (feat (t.val / 2) (by have := tlt t; omega) f)) := by
  blk_simp [iblk, ix_1]
  rw [V_main_arg1]
  refine congrArg (yA m c) ?_
  unfold tok feat
  blk_ext [ix_1]

theorem part_at (x : Vec Ideal S2048x1024 .bf16) (y : Vec Ideal S2048x1408 .bf16) (d : Fin 1024) (f : Fin 1408) :
    k0_pay1 (F := Ideal) x y (ix2 d f) = ∑ r : Fin 2048, x (ix2 r d) * y (ix2 r f) := Cert.Kernel5Ideal.Up.part_at x y d f
theorem round_at (v : Vec Ideal S1024x1408 .f32) (d : Fin 1024) (f : Fin 1408) : k0_pay4 (F := Ideal) v (ix3 0 d f) = v (ix2 d f) :=
  Cert.Kernel5Ideal.Up.round_at v d f

/-- What an odd step leaves in the result's block. -/
theorem block_at (c : Dev nD) (t : Fin cfg0.N) (ht : t.val % 2 = 1) (d : Fin 1024) (f : Fin 1408) :
    (outsAt0 m c t.val t.isLt).1 (ix3 0 d f) = dwOf (xA m c) (yA m c) d (feat (t.val / 2) (by have := tlt t; omega) f) := by
  have hl := tlt t
  rw [outsAt0_B m c t (by omega) ht ht]
  dsimp only
  rw [out_B, round_at]
  have hp : t.val - 1 < cfg0.N := by have := t.isLt; omega
  have e := outsAt0_A m c ⟨t.val - 1, hp⟩ (by dsimp only; omega) (by dsimp only; omega) (by dsimp only; omega)
  dsimp only at e
  rw [e]
  dsimp only
  rw [acc_A]
  show k0_pay1 (F := Ideal) _ _ (ix2 d f) + k0_pay1 (F := Ideal) _ _ (ix2 d f) = _
  rw [part_at, part_at]
  unfold dwOf
  rw [← halves]
  congr 1
  · refine Finset.sum_congr rfl fun r _ => ?_
    rw [blk_0, blk_1]
    simp only [show (t.val - 1) % 2 = 0 by omega, show (t.val - 1) / 2 = t.val / 2 by omega]
  · refine Finset.sum_congr rfl fun r _ => ?_
    rw [blk_0, blk_1]
    simp only [ht]

/-- The two blocks: the gradient's columns in two halves. -/
def dwArr (x : FVec Ideal S4096x1024 .bf16) (y : FVec Ideal S4096x2816 .bf16) : FVec Ideal S2x1024x1408 .bf16 := fun i =>
  dwOf x y ⟨(i 1).val, (i 1).isLt⟩ (feat (i 0).val (i 0).isLt ⟨(i 2).val, (i 2).isLt⟩)
/-- The four blocks as the call leaves them, the last two of no concern. -/
def dwAll (x : FVec Ideal S4096x1024 .bf16) (y : FVec Ideal S4096x2816 .bf16) : FVec Ideal S4x1024x1408 .bf16 := fun i =>
  if h : (i 0).val < 2 then dwOf x y ⟨(i 1).val, (i 1).isLt⟩ (feat (i 0).val h ⟨(i 2).val, (i 2).isLt⟩) else 0
theorem dwAll_at (x : FVec Ideal S4096x1024 .bf16) (y : FVec Ideal S4096x2816 .bf16) (b : Nat) (hb : b < 2) (d : Fin 1024) (f : Fin 1408) :
    dwAll x y (ix3 (⟨b, by omega⟩ : Fin 4) d f) = dwOf x y d (feat b hb f) := dif_pos hb

/-- The array at the end, where the call writes it. -/
theorem arr_at (c : Dev nD) (b : Nat) (hb : b < 2) (d : Fin 1024) (f : Fin 1408) :
    (dats m 0 c).arrAt 2 cfg0.N (ix3 (⟨b, by omega⟩ : Fin 4) d f) = dwOf (xA m c) (yA m c) d (feat b hb f) := by
  rw [(dats m 0 c).arrAt_eq_of_coversWhere 2 (dwAll (xA m c) (yA m c)) (P := fun i : S4x1024x1408.Idx => (i 0).val / 1 < 2)
    (fun β => β (0 : Fin _) < 2) (by decide +kernel) (fun t hf y => ?_) (fun j => Iff.rfl)]
  · exact (if_pos (show b / 1 < 2 by omega)).trans (dwAll_at _ _ b hb d f)
  · have ht : t.val % 2 = 1 := (flush0_2 t).mp hf
    blk_simp
    rw [after0_2]
    have hy1 : (y 1).val < 1024 := (y 1).isLt
    have hy2 : (y 2).val < 1408 := (y 2).isLt
    have ey : y = ix3 (0 : Fin 1) (⟨(y 1).val, hy1⟩ : Fin 1024) (⟨(y 2).val, hy2⟩ : Fin 1408) := by
      funext a
      match a with
      | ⟨0, _⟩ => exact Fin.ext (by have : (y 0).val < 1 := (y 0).isLt; show (y 0).val = 0; omega)
      | ⟨1, _⟩ => rfl
      | ⟨2, _⟩ => rfl
    rw [ey]
    refine (block_at m c t ht _ _).trans ?_
    refine Eq.trans (b := dwAll (xA m c) (yA m c) (ix3 (⟨t.val / 2, by have := tlt t; omega⟩ : Fin 4) (⟨(y 1).val, hy1⟩ : Fin 1024) (⟨(y 2).val, hy2⟩ : Fin 1408))) ?_
      (congrArg (dwAll (xA m c) (yA m c)) ?_)
    · exact (dwAll_at _ _ (t.val / 2) (by have := tlt t; omega) _ _).symm
    · blk_ext [ix_2]

/-- What the line after the call leaves in the result, from any contents before it. -/
theorem after_slice (W : Valuation τ sig (Elt Ideal)) : StableHlo.after [hostOps1].flatten W (Proc.devRef .tc main_v1)
    = extractStridedSlice S2x1024x1408 ![0, 0, 0] (W (Proc.devRef .tc main_v0) : FVec Ideal S4x1024x1408 .bf16) slices_S4x1024x1408_S2x1024x1408_0_0_0 := by
  show StableHlo.after hostOps1 W (Proc.devRef .tc main_v1) = _
  after_results
/-- The result: the first two blocks. -/
theorem slice_eq (c : Dev nD) : Pipeline.afterTail₀ cfgs (dats m) 0 (V0 m) [hostOps1] c main_v1 = dwArr (xA m c) (yA m c) := by
  have e : Pipeline.afterTail₀ cfgs (dats m) 0 (V0 m) [hostOps1] c main_v1
      = extractStridedSlice S2x1024x1408 ![0, 0, 0] ((dats m 0 c).arrAt 2 cfg0.N : FVec Ideal S4x1024x1408 .bf16) slices_S4x1024x1408_S2x1024x1408_0_0_0 := by
    refine Eq.trans (after_slice _) (congrArg (fun v : FVec Ideal S4x1024x1408 .bf16 => extractStridedSlice S2x1024x1408 ![0, 0, 0] v slices_S4x1024x1408_S2x1024x1408_0_0_0) ?_)
    exact Pipeline.withArrays_arr spec0 (by decide) c _ _ 2
  rw [e]
  funext i
  idx_vars i
  pointwise
  exact arr_at m c i0.val i0.isLt i1 i2

theorem run_values (ρ : Dev nD → PrngReg) : θ_run defs (onTc (τ := τ) (main (F := Ideal))) ⟨m, fun _ => 0, ρ⟩ fun r => ∀ c : Dev nD,
      r.2.mem ((c : Thread nD τ).loc main_v1) = dwArr (xA m c) (yA m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v1 (by decide)).trans (slice_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)
end Blocks

end Cert.Kernel9Ideal.Gate
-- ==== Proof.Gate.Ref.lean ====
/- The reference's gradient of the gate projection's weight, element by element: the same sum over the tokens. -/
module

public import proofs.«01_k».proof.Proof.Gate.Array
public import proofs.«01_k».proof.Proof.Gen.Reference9Ideal.Read

@[expose] public section

set_option maxRecDepth 16384

noncomputable section

namespace Cert.Reference9Ideal.Gate

open Cert.Reference9Ideal Cert.Reference9Ideal.Gen Cert.Reference9Ideal.Read
open Idealize.ShloMosaic Idealize.ShloMosaic.TcCoe
open Cert.Kernel5Ideal.Up (dwOf feat)
open Cert.Kernel9Ideal.Gate (dwArr)

variable (x : FVec Ideal S4096x1024 .bf16) (y : FVec Ideal S4096x2816 .bf16)

theorem v4_at (j : Fin 2816) (d : Fin 1024) : val_main_v4 (F := Ideal) x y (ix2 j d) = dwOf x y d j := by
  rw [val_main_v4_apply]
  unfold val_main_v3 val_main_v1 dwOf
  refine Finset.sum_congr rfl fun r _ => ?_
  have eL : lidx_main_v4 (ix2 j d) r = ix2 r j := by funext b; fin_cases b <;> rfl
  have eR : ridx_main_v4 (ix2 j d) r = ix2 r d := by funext b; fin_cases b <;> rfl
  rw [mul_comm, eL, eR]
  rfl

theorem dw_eq : val_main_v8 (F := Ideal) x y = dwArr x y := by
  funext i
  idx_vars i
  unfold val_main_v8 val_main_v7 val_main_v6 val_main_v5 dwArr
  pointwise
  rw [v4_at]
  unfold feat
  congr 1
  exact Fin.ext (by show i0.val * 1408 + i2.val = 1408 * i0.val + i2.val; omega)

end Cert.Reference9Ideal.Gate
-- ==== Proof.Key.Array.lean ====
/- The gradient of the keys' weight, written into the first two of four blocks: what each grid step leaves in the
   accumulator and in the result's block, and the two blocks at the end. -/
module

public import proofs.«01_k».proof.Proof.Gen.Kernel10Ideal.Frame
public import proofs.«01_k».proof.Proof.Up.Array

@[expose] public section

set_option maxRecDepth 16384

noncomputable section

namespace Cert.Kernel10Ideal.Key

open Cert.Kernel10Ideal Cert.Kernel10Ideal.Gen
open Idealize.ShloMosaic Idealize.ShloMosaic.TcCoe Idealize.ShloMosaic.Tactic
open Idealize.SL.Sem
open Idealize.ShloMosaic.Pipeline (Dat)
open Cert.Kernel5Ideal.Up (zero2 zero3 tok halves)

/-! ## One step -/

section Step
variable {F : FTy → Type} [FloatOps F]
variable (c : Dev nD) (i : grid0.Coords) (a0 : Memref sig .tc .vmem S2048x1024 .bf16) (h0 : a0.IsWhole) (a1 : Memref sig .tc .vmem S2048x1536 .bf16) (h1 : a1.IsWhole)
  (a2 : Memref sig .tc .vmem S1x1024x1536 .bf16) (h2 : a2.IsWhole) (s : Memref sig .tc .vmem S1024x1536 .f32) (hs : s.IsWhole)
  (x : Vec F S2048x1024 .bf16) (y : Vec F S2048x1536 .bf16) (acc : Vec F S1024x1536 .f32)

/-- The first half of the tokens sets the accumulator. -/
theorem acc_A (p0 : cond0_0 i) (p1 : ¬cond0_1 i) (p2 : ¬cond0_2 i) :
    sout0_A_0 c i a0 h0 a1 h1 a2 h2 s hs p0 p1 p2 x y = k0_pay1 x y := by
  unfold sout0_A_0
  rw [View.read_writes_eq_canon _ _ _ (scover0_A_0 c i a0 h0 a1 h1 a2 h2 s hs p0 p1 p2 x y)]
  unfold kernelRun0_A
  dsimp only
  sl_unfold_words
  rw [View.canon_unit_zero zero2]
  unfold k0_pay2
  simp only [View.readAt_eq_ld, h0.read_unread, h1.read_unread, View.ld_unit_zero (S := S2048x1024) zero2, View.ld_unit_zero (S := S2048x1536) zero2, shapeCast_self]

/-- The second half is added to it, and the sum rounded into the result's block. -/
theorem out_B (p0 : ¬cond0_0 i) (p1 : cond0_1 i) (p2 : cond0_2 i) :
    out0_B_2 c i a0 h0 a1 h1 a2 h2 s hs p0 p1 p2 x y acc = k0_pay4 (addf acc (k0_pay1 x y)) := by
  unfold out0_B_2
  rw [View.read_writes_eq_canon _ _ _ (cover0_B_2 c i a0 h0 a1 h1 a2 h2 s hs p0 p1 p2 x y acc)]
  unfold kernelRun0_B
  dsimp only
  sl_unfold_words
  rw [View.canon_unit_zero zero3]
  rw [View.readCov_unit_zero (S := S1024x1536) _ zero2]
  unfold k0_pay3
  simp only [View.readAt_eq_ld, h0.read_unread, h1.read_unread, hs.read_unread, View.ld_unit_zero (S := S2048x1024) zero2, View.ld_unit_zero (S := S2048x1536) zero2,
    View.ld_unit_zero (S := S1024x1536) zero2, shapeCast_self]
end Step

/-! ## The blocks at coordinates -/

section Blocks
variable (m : (ℓ : Loc nD τ sig) → Buf (Elt Ideal) ℓ)

abbrev xA (c : Dev nD) : FVec Ideal S4096x1024 .bf16 := m ((c : Thread nD τ).loc main_arg0)
abbrev yA (c : Dev nD) : FVec Ideal S4096x3072 .bf16 := m ((c : Thread nD τ).loc main_arg1)

theorem tlt (t : Fin cfg0.N) : t.val < 4 := lt_of_lt_of_eq t.isLt (show cfg0.N = 4 from N_0)

theorem ix_0 : ∀ t : Fin cfg0.N, win0_0.index t = ![t.val % 2, 0] := (by decide +kernel : ∀ t : Fin grid0.N, _)
theorem ix_1 : ∀ t : Fin cfg0.N, win0_1.index t = ![t.val % 2, t.val / 2] := (by decide +kernel : ∀ t : Fin grid0.N, _)
theorem ix_2 : ∀ t : Fin cfg0.N, win0_2.index t = ![t.val / 2, 0, 0] := (by decide +kernel : ∀ t : Fin grid0.N, _)

/-- Column f of block b. -/
def feat (b : Nat) (hb : b < 2) (f : Fin 1536) : Fin 3072 := ⟨1536 * b + f.val, by omega⟩

theorem blk_0 (c : Dev nD) (t : Fin cfg0.N) (r : Fin 2048) (d : Fin 1024) :
    iblk m c 0 t (ix2 r d) = xA m c (ix2 (tok (t.val % 2) (by omega) r) d) := by
  blk_simp [iblk, ix_0]
  rw [V_main_arg0]
  refine congrArg (xA m c) ?_
  unfold tok
  blk_ext [ix_0]
theorem blk_1 (c : Dev nD) (t : Fin cfg0.N) (r : Fin 2048) (f : Fin 1536) :
    iblk m c 1 t (ix2 r f) = yA m c (ix2 (tok (t.val % 2) (by omega) r) (feat (t.val / 2) (by have := tlt t; omega) f)) := by
  blk_simp [iblk, ix_1]
  rw [V_main_arg1]
  refine congrArg (yA m c) ?_
  unfold tok feat
  blk_ext [ix_1]

theorem part_at (x : Vec Ideal S2048x1024 .bf16) (y : Vec Ideal S2048x1536 .bf16) (d : Fin 1024) (f : Fin 1536) :
    k0_pay1 (F := Ideal) x y (ix2 d f) = ∑ r : Fin 2048, x (ix2 r d) * y (ix2 r f) := by
  unfold k0_pay1
  pointwise
theorem round_at (v : Vec Ideal S1024x1536 .f32) (d : Fin 1024) (f : Fin 1536) : k0_pay4 (F := Ideal) v (ix3 0 d f) = v (ix2 d f) := by
  unfold k0_pay4
  pointwise

/-- The whole gradient: row d against column j, over all tokens. -/
def dwOf (x : FVec Ideal S4096x1024 .bf16) (y : FVec Ideal S4096x3072 .bf16) (d : Fin 1024) (j : Fin 3072) : EReal := ∑ r : Fin 4096, x (ix2 r d) * y (ix2 r j)

/-- What an odd step leaves in the result's block. -/
theorem block_at (c : Dev nD) (t : Fin cfg0.N) (ht : t.val % 2 = 1) (d : Fin 1024) (f : Fin 1536) :
    (outsAt0 m c t.val t.isLt).1 (ix3 0 d f) = dwOf (xA m c) (yA m c) d (feat (t.val / 2) (by have := tlt t; omega) f) := by
  have hl := tlt t
  rw [outsAt0_B m c t (by omega) ht ht]
  dsimp only
  rw [out_B, round_at]
  have hp : t.val - 1 < cfg0.N := by have := t.isLt; omega
  have e := outsAt0_A m c ⟨t.val - 1, hp⟩ (by dsimp only; omega) (by dsimp only; omega) (by dsimp only; omega)
  dsimp only at e
  rw [e]
  dsimp only
  rw [acc_A]
  show k0_pay1 (F := Ideal) _ _ (ix2 d f) + k0_pay1 (F := Ideal) _ _ (ix2 d f) = _
  rw [part_at, part_at]
  unfold dwOf
  rw [← halves]
  congr 1
  · refine Finset.sum_congr rfl fun r _ => ?_
    rw [blk_0, blk_1]
    simp only [show (t.val - 1) % 2 = 0 by omega, show (t.val - 1) / 2 = t.val / 2 by omega]
  · refine Finset.sum_congr rfl fun r _ => ?_
    rw [blk_0, blk_1]
    simp only [ht]

/-- The two blocks: the gradient's columns in two halves. -/
def dwArr (x : FVec Ideal S4096x1024 .bf16) (y : FVec Ideal S4096x3072 .bf16) : FVec Ideal S2x1024x1536 .bf16 := fun i =>
  dwOf x y ⟨(i 1).val, (i 1).isLt⟩ (feat (i 0).val (i 0).isLt ⟨(i 2).val, (i 2).isLt⟩)
/-- The four blocks as the call leaves them, the last two of no concern. -/
def dwAll (x : FVec Ideal S4096x1024 .bf16) (y : FVec Ideal S4096x3072 .bf16) : FVec Ideal S4x1024x1536 .bf16 := fun i =>
  if h : (i 0).val < 2 then dwOf x y ⟨(i 1).val, (i 1).isLt⟩ (feat (i 0).val h ⟨(i 2).val, (i 2).isLt⟩) else 0
theorem dwAll_at (x : FVec Ideal S4096x1024 .bf16) (y : FVec Ideal S4096x3072 .bf16) (b : Nat) (hb : b < 2) (d : Fin 1024) (f : Fin 1536) :
    dwAll x y (ix3 (⟨b, by omega⟩ : Fin 4) d f) = dwOf x y d (feat b hb f) := dif_pos hb

/-- The array at the end, where the call writes it. -/
theorem arr_at (c : Dev nD) (b : Nat) (hb : b < 2) (d : Fin 1024) (f : Fin 1536) :
    (dats m 0 c).arrAt 2 cfg0.N (ix3 (⟨b, by omega⟩ : Fin 4) d f) = dwOf (xA m c) (yA m c) d (feat b hb f) := by
  rw [(dats m 0 c).arrAt_eq_of_coversWhere 2 (dwAll (xA m c) (yA m c)) (P := fun i : S4x1024x1536.Idx => (i 0).val / 1 < 2)
    (fun β => β (0 : Fin _) < 2) (by decide +kernel) (fun t hf y => ?_) (fun j => Iff.rfl)]
  · exact (if_pos (show b / 1 < 2 by omega)).trans (dwAll_at _ _ b hb d f)
  · have ht : t.val % 2 = 1 := (flush0_2 t).mp hf
    blk_simp
    rw [after0_2]
    have hy1 : (y 1).val < 1024 := (y 1).isLt
    have hy2 : (y 2).val < 1536 := (y 2).isLt
    have ey : y = ix3 (0 : Fin 1) (⟨(y 1).val, hy1⟩ : Fin 1024) (⟨(y 2).val, hy2⟩ : Fin 1536) := by
      funext a
      match a with
      | ⟨0, _⟩ => exact Fin.ext (by have : (y 0).val < 1 := (y 0).isLt; show (y 0).val = 0; omega)
      | ⟨1, _⟩ => rfl
      | ⟨2, _⟩ => rfl
    rw [ey]
    refine (block_at m c t ht _ _).trans ?_
    refine Eq.trans (b := dwAll (xA m c) (yA m c) (ix3 (⟨t.val / 2, by have := tlt t; omega⟩ : Fin 4) (⟨(y 1).val, hy1⟩ : Fin 1024) (⟨(y 2).val, hy2⟩ : Fin 1536))) ?_
      (congrArg (dwAll (xA m c) (yA m c)) ?_)
    · exact (dwAll_at _ _ (t.val / 2) (by have := tlt t; omega) _ _).symm
    · blk_ext [ix_2]

/-- What the line after the call leaves in the result, from any contents before it. -/
theorem after_slice (W : Valuation τ sig (Elt Ideal)) : StableHlo.after [hostOps1].flatten W (Proc.devRef .tc main_v1)
    = extractStridedSlice S2x1024x1536 ![0, 0, 0] (W (Proc.devRef .tc main_v0) : FVec Ideal S4x1024x1536 .bf16) slices_S4x1024x1536_S2x1024x1536_0_0_0 := by
  show StableHlo.after hostOps1 W (Proc.devRef .tc main_v1) = _
  after_results
/-- The result: the first two blocks. -/
theorem slice_eq (c : Dev nD) : Pipeline.afterTail₀ cfgs (dats m) 0 (V0 m) [hostOps1] c main_v1 = dwArr (xA m c) (yA m c) := by
  have e : Pipeline.afterTail₀ cfgs (dats m) 0 (V0 m) [hostOps1] c main_v1
      = extractStridedSlice S2x1024x1536 ![0, 0, 0] ((dats m 0 c).arrAt 2 cfg0.N : FVec Ideal S4x1024x1536 .bf16) slices_S4x1024x1536_S2x1024x1536_0_0_0 := by
    refine Eq.trans (after_slice _) (congrArg (fun v : FVec Ideal S4x1024x1536 .bf16 => extractStridedSlice S2x1024x1536 ![0, 0, 0] v slices_S4x1024x1536_S2x1024x1536_0_0_0) ?_)
    exact Pipeline.withArrays_arr spec0 (by decide) c _ _ 2
  rw [e]
  funext i
  idx_vars i
  pointwise
  exact arr_at m c i0.val i0.isLt i1 i2

theorem run_values (ρ : Dev nD → PrngReg) : θ_run defs (onTc (τ := τ) (main (F := Ideal))) ⟨m, fun _ => 0, ρ⟩ fun r => ∀ c : Dev nD,
      r.2.mem ((c : Thread nD τ).loc main_v1) = dwArr (xA m c) (yA m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v1 (by decide)).trans (slice_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)
end Blocks

end Cert.Kernel10Ideal.Key
-- ==== Proof.Key.Ref.lean ====
/- The reference's gradient of the keys' weight, element by element: the same sum over the tokens. -/
module

public import proofs.«01_k».proof.Proof.Key.Array
public import proofs.«01_k».proof.Proof.Gen.Reference10Ideal.Read

@[expose] public section

set_option maxRecDepth 16384

noncomputable section

namespace Cert.Reference10Ideal.Key

open Cert.Reference10Ideal Cert.Reference10Ideal.Gen Cert.Reference10Ideal.Read
open Idealize.ShloMosaic Idealize.ShloMosaic.TcCoe
open Cert.Kernel10Ideal.Key (dwOf feat dwArr)

variable (x : FVec Ideal S4096x1024 .bf16) (y : FVec Ideal S4096x3072 .bf16)

theorem v4_at (j : Fin 3072) (d : Fin 1024) : val_main_v4 (F := Ideal) x y (ix2 j d) = dwOf x y d j := by
  rw [val_main_v4_apply]
  unfold val_main_v3 val_main_v1 dwOf
  refine Finset.sum_congr rfl fun r _ => ?_
  have eL : lidx_main_v4 (ix2 j d) r = ix2 r j := by funext b; fin_cases b <;> rfl
  have eR : ridx_main_v4 (ix2 j d) r = ix2 r d := by funext b; fin_cases b <;> rfl
  rw [mul_comm, eL, eR]
  rfl

theorem dw_eq : val_main_v8 (F := Ideal) x y = dwArr x y := by
  funext i
  idx_vars i
  unfold val_main_v8 val_main_v7 val_main_v6 val_main_v5 dwArr
  pointwise
  rw [v4_at]
  unfold feat
  congr 1
  exact Fin.ext (by show i0.val * 1536 + i2.val = 1536 * i0.val + i2.val; omega)

end Cert.Reference10Ideal.Key
-- ==== Proof.Value.Array.lean ====
/- The gradient of the values' weight, written into the last two of four blocks: what each grid step leaves in the
   accumulator and in the result's block, and the result array at the end. -/
module

public import proofs.«01_k».proof.Proof.Gen.Kernel11Ideal.Value
public import proofs.«01_k».proof.Proof.Key.Array

@[expose] public section

set_option maxRecDepth 16384

noncomputable section

namespace Cert.Kernel11Ideal.Value

open Cert.Kernel11Ideal Cert.Kernel11Ideal.Gen
open Idealize.ShloMosaic Idealize.ShloMosaic.TcCoe Idealize.ShloMosaic.Tactic
open Idealize.SL.Sem
open Idealize.ShloMosaic.Pipeline (Dat)
open Cert.Kernel5Ideal.Up (zero2 zero3 tok halves)
open Cert.Kernel10Ideal.Key (feat dwOf)

/-! ## One step -/

section Step
variable {F : FTy → Type} [FloatOps F]
variable (c : Dev nD) (i : grid0.Coords) (a0 : Memref sig .tc .vmem S2048x1024 .bf16) (h0 : a0.IsWhole) (a1 : Memref sig .tc .vmem S2048x1536 .bf16) (h1 : a1.IsWhole)
  (a2 : Memref sig .tc .vmem S1x1024x1536 .bf16) (h2 : a2.IsWhole) (s : Memref sig .tc .vmem S1024x1536 .f32) (hs : s.IsWhole)
  (x : Vec F S2048x1024 .bf16) (y : Vec F S2048x1536 .bf16) (acc : Vec F S1024x1536 .f32)

/-- The first half of the tokens sets the accumulator. -/
theorem acc_A (p0 : cond0_0 i) (p1 : ¬cond0_1 i) (p2 : ¬cond0_2 i) :
    sout0_A_0 c i a0 h0 a1 h1 a2 h2 s hs p0 p1 p2 x y = k0_pay1 x y := by
  unfold sout0_A_0
  rw [View.read_writes_eq_canon _ _ _ (scover0_A_0 c i a0 h0 a1 h1 a2 h2 s hs p0 p1 p2 x y)]
  unfold kernelRun0_A
  dsimp only
  sl_unfold_words
  rw [View.canon_unit_zero zero2]
  unfold k0_pay2
  simp only [View.readAt_eq_ld, h0.read_unread, h1.read_unread, View.ld_unit_zero (S := S2048x1024) zero2, View.ld_unit_zero (S := S2048x1536) zero2, shapeCast_self]

/-- The second half is added to it, and the sum rounded into the result's block. -/
theorem out_B (p0 : ¬cond0_0 i) (p1 : cond0_1 i) (p2 : cond0_2 i) :
    out0_B_2 c i a0 h0 a1 h1 a2 h2 s hs p0 p1 p2 x y acc = k0_pay4 (addf acc (k0_pay1 x y)) := by
  unfold out0_B_2
  rw [View.read_writes_eq_canon _ _ _ (cover0_B_2 c i a0 h0 a1 h1 a2 h2 s hs p0 p1 p2 x y acc)]
  unfold kernelRun0_B
  dsimp only
  sl_unfold_words
  rw [View.canon_unit_zero zero3]
  rw [View.readCov_unit_zero (S := S1024x1536) _ zero2]
  unfold k0_pay3
  simp only [View.readAt_eq_ld, h0.read_unread, h1.read_unread, hs.read_unread, View.ld_unit_zero (S := S2048x1024) zero2, View.ld_unit_zero (S := S2048x1536) zero2,
    View.ld_unit_zero (S := S1024x1536) zero2, shapeCast_self]
end Step

/-! ## The blocks at coordinates -/

section Blocks
variable (m : (ℓ : Loc nD τ sig) → Buf (Elt Ideal) ℓ)

abbrev hA (c : Dev nD) : FVec Ideal S4096x1024 .bf16 := m ((c : Thread nD τ).loc main_arg0)
abbrev uA (c : Dev nD) : FVec Ideal S4096x3072 .bf16 := m ((c : Thread nD τ).loc main_arg1)
abbrev pA (c : Dev nD) : FVec Ideal S4x1024x1536 .bf16 := m ((c : Thread nD τ).loc main_arg2)

theorem tlt (t : Fin cfg0.N) : t.val < 4 := lt_of_lt_of_eq t.isLt (show cfg0.N = 4 from N_0)

theorem ix_0 : ∀ t : Fin cfg0.N, win0_0.index t = ![t.val % 2, 0] := (by decide +kernel : ∀ t : Fin grid0.N, _)
theorem ix_1 : ∀ t : Fin cfg0.N, win0_1.index t = ![t.val % 2, t.val / 2] := (by decide +kernel : ∀ t : Fin grid0.N, _)
theorem ix_2 : ∀ t : Fin cfg0.N, win0_2.index t = ![2 + t.val / 2, 0, 0] := (by decide +kernel : ∀ t : Fin grid0.N, _)

theorem blk_0 (c : Dev nD) (t : Fin cfg0.N) (r : Fin 2048) (d : Fin 1024) :
    iblk m c 0 t (ix2 r d) = hA m c (ix2 (tok (t.val % 2) (by omega) r) d) := by
  blk_simp [iblk, ix_0]
  rw [V_main_arg0]
  refine congrArg (hA m c) ?_
  unfold tok
  blk_ext [ix_0]
theorem blk_1 (c : Dev nD) (t : Fin cfg0.N) (r : Fin 2048) (f : Fin 1536) :
    iblk m c 1 t (ix2 r f) = uA m c (ix2 (tok (t.val % 2) (by omega) r) (feat (t.val / 2) (by have := tlt t; omega) f)) := by
  blk_simp [iblk, ix_1]
  rw [V_main_arg1]
  refine congrArg (uA m c) ?_
  unfold tok feat
  blk_ext [ix_1]
/-- The result starts as the array of the two earlier blocks. -/
theorem V_prev (c : Dev nD) : (V m c main_v0 : FVec Ideal S4x1024x1536 .bf16) = pA m c := by
  unfold V
  after_results
  rfl

theorem part_at (x : Vec Ideal S2048x1024 .bf16) (y : Vec Ideal S2048x1536 .bf16) (d : Fin 1024) (f : Fin 1536) :
    k0_pay1 (F := Ideal) x y (ix2 d f) = ∑ r : Fin 2048, x (ix2 r d) * y (ix2 r f) := Cert.Kernel10Ideal.Key.part_at x y d f
theorem round_at (v : Vec Ideal S1024x1536 .f32) (d : Fin 1024) (f : Fin 1536) : k0_pay4 (F := Ideal) v (ix3 0 d f) = v (ix2 d f) :=
  Cert.Kernel10Ideal.Key.round_at v d f

/-- The four blocks: the two earlier ones, then the gradient's two. -/
def dwArr (h : FVec Ideal S4096x1024 .bf16) (u : FVec Ideal S4096x3072 .bf16) (p : FVec Ideal S4x1024x1536 .bf16) : FVec Ideal S4x1024x1536 .bf16 := fun i =>
  if 2 ≤ (i 0).val then dwOf h u ⟨(i 1).val, (i 1).isLt⟩ (feat ((i 0).val - 2) (by have : (i 0).val < 4 := (i 0).isLt; omega) ⟨(i 2).val, (i 2).isLt⟩) else p i

theorem dwArr_new (h : FVec Ideal S4096x1024 .bf16) (u : FVec Ideal S4096x3072 .bf16) (p : FVec Ideal S4x1024x1536 .bf16) (b : Nat) (hb : b < 2) (d : Fin 1024) (f : Fin 1536) :
    dwArr h u p (ix3 (⟨2 + b, by omega⟩ : Fin 4) d f) = dwOf h u d (feat b hb f) :=
  (if_pos (show 2 ≤ 2 + b by omega)).trans (congrArg (dwOf h u d) (Fin.ext (by show 1536 * (2 + b - 2) + f.val = 1536 * b + f.val; omega)))
theorem dwArr_old (h : FVec Ideal S4096x1024 .bf16) (u : FVec Ideal S4096x3072 .bf16) (p : FVec Ideal S4x1024x1536 .bf16) (b : Nat) (hb : b < 2) (d : Fin 1024) (f : Fin 1536) :
    dwArr h u p (ix3 (⟨b, by omega⟩ : Fin 4) d f) = p (ix3 (⟨b, by omega⟩ : Fin 4) d f) :=
  if_neg (show ¬2 ≤ b by omega)

/-- What an odd step leaves in the result's block. -/
theorem block_at (c : Dev nD) (t : Fin cfg0.N) (ht : t.val % 2 = 1) (d : Fin 1024) (f : Fin 1536) :
    (outsAt0 m c t.val t.isLt).1 (ix3 0 d f) = dwOf (hA m c) (uA m c) d (feat (t.val / 2) (by have := tlt t; omega) f) := by
  have hl := tlt t
  rw [outsAt0_B m c t (by omega) ht ht]
  dsimp only
  rw [out_B, round_at]
  have hp : t.val - 1 < cfg0.N := by have := t.isLt; omega
  have e := outsAt0_A m c ⟨t.val - 1, hp⟩ (by dsimp only; omega) (by dsimp only; omega) (by dsimp only; omega)
  dsimp only at e
  rw [e]
  dsimp only
  rw [acc_A]
  show k0_pay1 (F := Ideal) _ _ (ix2 d f) + k0_pay1 (F := Ideal) _ _ (ix2 d f) = _
  rw [part_at, part_at]
  unfold dwOf
  rw [← halves]
  congr 1
  · refine Finset.sum_congr rfl fun r _ => ?_
    rw [blk_0, blk_1]
    simp only [show (t.val - 1) % 2 = 0 by omega, show (t.val - 1) / 2 = t.val / 2 by omega]
  · refine Finset.sum_congr rfl fun r _ => ?_
    rw [blk_0, blk_1]
    simp only [ht]

/-- The array at the end. -/
theorem dw_eq (c : Dev nD) : (dats m 0 c).arrAt 2 cfg0.N = dwArr (hA m c) (uA m c) (pA m c) := by
  refine ((dats m 0 c).arrAt_eq_of_coversWhere 2 (dwArr (hA m c) (uA m c) (pA m c)) (P := fun i : S4x1024x1536.Idx => 2 ≤ (i 0).val / 1)
    (fun β => 2 ≤ β (0 : Fin _)) (by decide +kernel) (fun t hf y => ?_) (fun j => Iff.rfl)).trans ?_
  · have ht : t.val % 2 = 1 := (flush0_2 t).mp hf
    blk_simp
    rw [after0_2]
    have hy1 : (y 1).val < 1024 := (y 1).isLt
    have hy2 : (y 2).val < 1536 := (y 2).isLt
    have ey : y = ix3 (0 : Fin 1) (⟨(y 1).val, hy1⟩ : Fin 1024) (⟨(y 2).val, hy2⟩ : Fin 1536) := by
      funext a
      match a with
      | ⟨0, _⟩ => exact Fin.ext (by have : (y 0).val < 1 := (y 0).isLt; show (y 0).val = 0; omega)
      | ⟨1, _⟩ => rfl
      | ⟨2, _⟩ => rfl
    rw [ey]
    refine (block_at m c t ht _ _).trans ?_
    refine Eq.trans (b := dwArr (hA m c) (uA m c) (pA m c) (ix3 (⟨2 + t.val / 2, by have := tlt t; omega⟩ : Fin 4) (⟨(y 1).val, hy1⟩ : Fin 1024) (⟨(y 2).val, hy2⟩ : Fin 1536))) ?_
      (congrArg (dwArr (hA m c) (uA m c) (pA m c)) ?_)
    · exact (dwArr_new _ _ _ (t.val / 2) (by have := tlt t; omega) _ _).symm
    · blk_ext [ix_2]
  · funext i
    by_cases h : 2 ≤ (i 0).val
    · exact if_pos (by rw [Nat.div_one]; exact h)
    · refine (if_neg (by rw [Nat.div_one]; exact h)).trans ?_
      unfold dwArr
      rw [if_neg h, A_eq]
      exact congrFun (V_prev m c) i
end Blocks

end Cert.Kernel11Ideal.Value
-- ==== Proof.Value.Ref.lean ====
/- The reference's gradient of the values' weight, below the two earlier blocks: the same array, element by element. -/
module

public import proofs.«01_k».proof.Proof.Value.Array
public import proofs.«01_k».proof.Proof.Gen.Reference11Ideal.Read

@[expose] public section

set_option maxRecDepth 16384

noncomputable section

namespace Cert.Reference11Ideal.Value

open Cert.Reference11Ideal Cert.Reference11Ideal.Gen Cert.Reference11Ideal.Read
open Idealize.ShloMosaic Idealize.ShloMosaic.TcCoe
open Cert.Kernel10Ideal.Key (dwOf feat)
open Cert.Kernel11Ideal.Value (dwArr dwArr_new dwArr_old)

variable (h : FVec Ideal S4096x1024 .bf16) (u : FVec Ideal S4096x3072 .bf16) (p : FVec Ideal S4x1024x1536 .bf16)

theorem v4_at (f : Fin 3072) (d : Fin 1024) : val_main_v4 (F := Ideal) h u (ix2 f d) = dwOf h u d f := by
  rw [val_main_v4_apply]
  unfold val_main_v3 val_main_v1 dwOf
  refine Finset.sum_congr rfl fun r _ => ?_
  have eL : lidx_main_v4 (ix2 f d) r = ix2 r f := by funext b; fin_cases b <;> rfl
  have eR : ridx_main_v4 (ix2 f d) r = ix2 r d := by funext b; fin_cases b <;> rfl
  rw [mul_comm, eL, eR]
  rfl

theorem dw_eq : val_main_v10 (F := Ideal) h u p = dwArr h u p := by
  funext i
  idx_vars i
  unfold val_main_v10 val_main_v9 val_main_v8 val_main_v7 val_main_v6 val_main_v5
  pointwise
  by_cases hi : i0.val < 2
  · rw [dif_pos hi]
    exact (dwArr_old h u p i0.val hi i1 i2).symm
  · rw [dif_neg hi, v4_at]
    have h0 := i0.isLt
    have e : i0 = ⟨2 + (i0.val - 2), by omega⟩ := Fin.ext (by show i0.val = 2 + (i0.val - 2); omega)
    refine Eq.trans ?_ ((dwArr_new h u p (i0.val - 2) (by omega) i1 i2).symm.trans (by rw [← e]))
    unfold feat
    congr 1
    exact Fin.ext (by show (i0.val - 2) * 1536 + i2.val = 1536 * (i0.val - 2) + i2.val; omega)

end Cert.Reference11Ideal.Value
-- ==== Proof.Out.Array.lean ====
/- The gradient of the attention's output weight: what each grid step leaves in the accumulator and in the result's block, and
   the result array at the end as one sum over the 4096 tokens. -/
module

public import proofs.«01_k».proof.Proof.Gen.Kernel12Ideal.Value
public import proofs.«01_k».proof.Proof.Down.Array

@[expose] public section

set_option maxRecDepth 16384

noncomputable section

namespace Cert.Kernel12Ideal.Out

open Cert.Kernel12Ideal Cert.Kernel12Ideal.Gen
open Idealize.ShloMosaic Idealize.ShloMosaic.TcCoe Idealize.ShloMosaic.Tactic
open Idealize.SL.Sem
open Idealize.ShloMosaic.Pipeline (Dat)
open Cert.Kernel4Ideal.Down (zero2 zero3 tok halves)

/-! ## One step -/

section Step
variable {F : FTy → Type} [FloatOps F]
variable (c : Dev nD) (i : grid0.Coords) (a0 : Memref sig .tc .vmem S2048x1024 .f32) (h0 : a0.IsWhole) (a1 : Memref sig .tc .vmem S2048x1024 .bf16) (h1 : a1.IsWhole)
  (a2 : Memref sig .tc .vmem S1x1024x1024 .bf16) (h2 : a2.IsWhole) (s : Memref sig .tc .vmem S1024x1024 .f32) (hs : s.IsWhole)
  (x : Vec F S2048x1024 .f32) (y : Vec F S2048x1024 .bf16) (acc : Vec F S1024x1024 .f32)

/-- The first half of the tokens sets the accumulator. -/
theorem acc_A (p0 : cond0_0 i) (p1 : ¬cond0_1 i) (p2 : ¬cond0_2 i) :
    sout0_A_0 c i a0 h0 a1 h1 a2 h2 s hs p0 p1 p2 x y = k0_pay1 x y := by
  unfold sout0_A_0
  rw [View.read_writes_eq_canon _ _ _ (scover0_A_0 c i a0 h0 a1 h1 a2 h2 s hs p0 p1 p2 x y)]
  unfold kernelRun0_A
  dsimp only
  sl_unfold_words
  rw [View.canon_unit_zero zero2]
  unfold k0_pay2
  simp only [View.readAt_eq_ld, h0.read_unread, h1.read_unread, View.ld_unit_zero (S := S2048x1024) zero2, shapeCast_self]

/-- The second half is added to it, and the sum rounded into the result's block. -/
theorem out_B (p0 : ¬cond0_0 i) (p1 : cond0_1 i) (p2 : cond0_2 i) :
    out0_B_2 c i a0 h0 a1 h1 a2 h2 s hs p0 p1 p2 x y acc = k0_pay4 (addf acc (k0_pay1 x y)) := by
  unfold out0_B_2
  rw [View.read_writes_eq_canon _ _ _ (cover0_B_2 c i a0 h0 a1 h1 a2 h2 s hs p0 p1 p2 x y acc)]
  unfold kernelRun0_B
  dsimp only
  sl_unfold_words
  rw [View.canon_unit_zero zero3]
  rw [View.readCov_unit_zero (S := S1024x1024) _ zero2]
  unfold k0_pay3
  simp only [View.readAt_eq_ld, h0.read_unread, h1.read_unread, hs.read_unread, View.ld_unit_zero (S := S2048x1024) zero2,
    View.ld_unit_zero (S := S1024x1024) zero2, shapeCast_self]
end Step

/-! ## The blocks at coordinates -/

section Blocks
variable (m : (ℓ : Loc nD τ sig) → Buf (Elt Ideal) ℓ)

abbrev aA (c : Dev nD) : FVec Ideal S4096x1024 .f32 := m ((c : Thread nD τ).loc main_arg0)
abbrev dA (c : Dev nD) : FVec Ideal S4096x1024 .bf16 := m ((c : Thread nD τ).loc main_arg1)

theorem tlt (t : Fin cfg0.N) : t.val < 2 := lt_of_lt_of_eq t.isLt (show cfg0.N = 2 from N_0)

theorem ix_0 : ∀ t : Fin cfg0.N, win0_0.index t = ![t.val % 2, 0] := (by decide +kernel : ∀ t : Fin grid0.N, _)
theorem ix_1 : ∀ t : Fin cfg0.N, win0_1.index t = ![t.val % 2, 0] := (by decide +kernel : ∀ t : Fin grid0.N, _)
theorem ix_2 : ∀ t : Fin cfg0.N, win0_2.index t = ![0, 0, 0] := (by decide +kernel : ∀ t : Fin grid0.N, _)

theorem blk_0 (c : Dev nD) (t : Fin cfg0.N) (r : Fin 2048) (d : Fin 1024) :
    iblk m c 0 t (ix2 r d) = aA m c (ix2 (tok (t.val % 2) (by omega) r) d) := by
  blk_simp [iblk, ix_0]
  rw [V_main_arg0]
  refine congrArg (aA m c) ?_
  unfold tok
  blk_ext [ix_0]
theorem blk_1 (c : Dev nD) (t : Fin cfg0.N) (r : Fin 2048) (f : Fin 1024) :
    iblk m c 1 t (ix2 r f) = dA m c (ix2 (tok (t.val % 2) (by omega) r) f) := by
  blk_simp [iblk, ix_1]
  rw [V_main_arg1]
  refine congrArg (dA m c) ?_
  unfold tok
  blk_ext [ix_1]

theorem part_at (x : Vec Ideal S2048x1024 .f32) (y : Vec Ideal S2048x1024 .bf16) (d : Fin 1024) (f : Fin 1024) :
    k0_pay1 (F := Ideal) x y (ix2 d f) = ∑ r : Fin 2048, x (ix2 r d) * y (ix2 r f) := by
  unfold k0_pay1
  pointwise
theorem round_at (v : Vec Ideal S1024x1024 .f32) (d : Fin 1024) (f : Fin 1024) : k0_pay4 (F := Ideal) v (ix3 0 d f) = v (ix2 d f) := by
  unfold k0_pay4
  pointwise

/-- The whole gradient: row d against column j, over all tokens. -/
def dwOf (x : FVec Ideal S4096x1024 .f32) (y : FVec Ideal S4096x1024 .bf16) (d : Fin 1024) (j : Fin 1024) : EReal := ∑ r : Fin 4096, x (ix2 r d) * y (ix2 r j)
def dwArr (x : FVec Ideal S4096x1024 .f32) (y : FVec Ideal S4096x1024 .bf16) : FVec Ideal S1x1024x1024 .bf16 := fun i =>
  dwOf x y ⟨(i 1).val, (i 1).isLt⟩ ⟨(i 2).val, (i 2).isLt⟩

/-- What an odd step leaves in the result's block. -/
theorem block_at (c : Dev nD) (t : Fin cfg0.N) (ht : t.val % 2 = 1) (d : Fin 1024) (f : Fin 1024) :
    (outsAt0 m c t.val t.isLt).1 (ix3 0 d f) = dwOf (aA m c) (dA m c) d f := by
  have hl := tlt t
  rw [outsAt0_B m c t (by omega) ht ht]
  dsimp only
  rw [out_B, round_at]
  have hp : t.val - 1 < cfg0.N := by have := t.isLt; omega
  have e := outsAt0_A m c ⟨t.val - 1, hp⟩ (by dsimp only; omega) (by dsimp only; omega) (by dsimp only; omega)
  dsimp only at e
  rw [e]
  dsimp only
  rw [acc_A]
  show k0_pay1 (F := Ideal) _ _ (ix2 d f) + k0_pay1 (F := Ideal) _ _ (ix2 d f) = _
  rw [part_at, part_at]
  unfold dwOf
  rw [← halves]
  congr 1
  · refine Finset.sum_congr rfl fun r _ => ?_
    rw [blk_0, blk_1]
    simp only [show (t.val - 1) % 2 = 0 by omega]
  · refine Finset.sum_congr rfl fun r _ => ?_
    rw [blk_0, blk_1]
    simp only [ht]

/-- The array at the end. -/
theorem dw_eq (c : Dev nD) : (dats m 0 c).arrAt 2 cfg0.N = dwArr (aA m c) (dA m c) := by
  refine (dats m 0 c).arrAt_eq_of_covers 2 _ (by decide +kernel) fun t hf y => ?_
  have ht : t.val % 2 = 1 := (flush0_2 t).mp hf
  blk_simp
  rw [after0_2]
  have hy1 : (y 1).val < 1024 := (y 1).isLt
  have hy2 : (y 2).val < 1024 := (y 2).isLt
  have ey : y = ix3 (0 : Fin 1) (⟨(y 1).val, hy1⟩ : Fin 1024) (⟨(y 2).val, hy2⟩ : Fin 1024) := by
    funext a
    match a with
    | ⟨0, _⟩ => exact Fin.ext (by have : (y 0).val < 1 := (y 0).isLt; show (y 0).val = 0; omega)
    | ⟨1, _⟩ => rfl
    | ⟨2, _⟩ => rfl
  rw [ey]
  refine (block_at m c t ht _ _).trans ?_
  refine Eq.trans (b := dwArr (aA m c) (dA m c) (ix3 (0 : Fin 1) (⟨(y 1).val, hy1⟩ : Fin 1024) (⟨(y 2).val, hy2⟩ : Fin 1024))) rfl
    (congrArg (dwArr (aA m c) (dA m c)) ?_)
  blk_ext [ix_2]
end Blocks

end Cert.Kernel12Ideal.Out
-- ==== Proof.Out.Ref.lean ====
/- The reference's gradient of the attention's output weight, element by element: the same sum over the tokens. -/
module

public import proofs.«01_k».proof.Proof.Out.Array
public import proofs.«01_k».proof.Proof.Gen.Reference12Ideal.Read

@[expose] public section

set_option maxRecDepth 16384

noncomputable section

namespace Cert.Reference12Ideal.Out

open Cert.Reference12Ideal Cert.Reference12Ideal.Gen Cert.Reference12Ideal.Read
open Idealize.ShloMosaic Idealize.ShloMosaic.TcCoe
open Cert.Kernel12Ideal.Out (dwOf dwArr)

variable (x : FVec Ideal S4096x1024 .f32) (y : FVec Ideal S4096x1024 .bf16)

theorem v3_at (j : Fin 1024) (d : Fin 1024) : val_main_v3 (F := Ideal) x y (ix2 j d) = dwOf x y d j := by
  rw [val_main_v3_apply]
  unfold val_main_v2 dwOf
  refine Finset.sum_congr rfl fun r _ => ?_
  have eL : lidx_main_v3 (ix2 j d) r = ix2 r j := by funext b; fin_cases b <;> rfl
  have eR : ridx_main_v3 (ix2 j d) r = ix2 r d := by funext b; fin_cases b <;> rfl
  rw [mul_comm, eL, eR]
  rfl

theorem dw_eq : val_main_v6 (F := Ideal) x y = dwArr x y := by
  funext i
  idx_vars i
  unfold val_main_v6 val_main_v5 val_main_v4 dwArr
  pointwise
  exact v3_at x y i2 i1

end Cert.Reference12Ideal.Out
-- ==== Proof.AttnOut.Step.lean ====
/- One grid step of the gradient through the normalisation after the attention's output projection and through the
   projection: the three blocks it leaves, for any values and element by element. -/
module

public import proofs.«01_k».proof.Proof.Gen.Kernel13Ideal.Value
public import Idealize.ShloMosaic.Lib.Pipeline.ValueKit
public import Idealize.ShloMosaic.Lib.Pointwise.Tactic
public import Idealize.ShloMosaic.Lib.Pointwise.Contract
public import Idealize.ShloMosaic.Lib.Pointwise.Reshape
public import Idealize.ShloMosaic.Lib.Pointwise.Reduce
public import proofs.«01_k».proof.Proof.Norm.Row

@[expose] public section

set_option maxRecDepth 16384

noncomputable section

namespace Cert.Kernel13Ideal.AttnOut

open Cert.Kernel13Ideal Cert.Kernel13Ideal.Gen
open Idealize.ShloMosaic Idealize.ShloMosaic.TcCoe Idealize.ShloMosaic.Tactic
open Idealize.SL.Sem
open Idealize.ShloMosaic.Pipeline (Dat)

theorem zero2 : (![0, 0] : Fin 2 → Nat) = fun _ => 0 := funext fun a => by fin_cases a <;> rfl
theorem zero3 : (![0, 0, 0] : Fin 3 → Nat) = fun _ => 0 := funext fun a => by fin_cases a <;> rfl

section Step
variable {F : FTy → Type} [FloatOps F]
variable (c : Dev nD) (i : grid0.Coords) (a1 : Memref sig .tc .vmem S1024x1024 .f32) (h1 : a1.IsWhole) (a2 : Memref sig .tc .vmem S1024x1024 .bf16) (h2 : a2.IsWhole)
  (a3 : Memref sig .tc .vmem S1x1024 .f32) (h3 : a3.IsWhole) (a4 : Memref sig .tc .vmem S1x1024x1024 .bf16) (h4 : a4.IsWhole)
  (a5 : Memref sig .tc .vmem S1024x1024 .bf16) (h5 : a5.IsWhole) (a6 : Memref sig .tc .vmem S1024x1024 .f32) (h6 : a6.IsWhole)
  (a7 : Memref sig .tc .vmem S1x1024 .f32) (h7 : a7.IsWhole)
  (x0 : Vec F S1024x1024 .f32) (x1 : Vec F S1024x1024 .bf16) (x2 : Vec F S1x1024 .f32) (x3 : Vec F S1x1024x1024 .bf16) (acc : Vec F S1x1024 .f32)

/-- The gradient of the projection's output, in either case. -/
theorem out_A4 (p0 : cond0_0 i) : out0_A_4 c i a1 h1 a2 h2 a3 h3 a4 h4 a5 h5 a6 h6 a7 h7 p0 x0 x1 x2 x3 = k0_pay7 x0 x1 x2 := by
  unfold out0_A_4
  rw [View.read_writes_eq_canon _ _ _ (cover0_A_4 c i a1 h1 a2 h2 a3 h3 a4 h4 a5 h5 a6 h6 a7 h7 p0 x0 x1 x2 x3)]
  unfold kernelRun0_A
  dsimp only
  sl_unfold_words
  rw [View.canon_unit_zero zero2]
  simp only [View.readAt_eq_ld, h1.read_unread, h2.read_unread, h3.read_unread, h4.read_unread, h7.read_unread,
    View.ld_unit_zero (S := S1024x1024) zero2, View.ld_unit_zero (S := S1x1024) zero2, View.ld_unit_zero (S := S1x1024x1024) zero3, shapeCast_self]
theorem out_B4 (p0 : ¬cond0_0 i) : out0_B_4 c i a1 h1 a2 h2 a3 h3 a4 h4 a5 h5 a6 h6 a7 h7 p0 x0 x1 x2 x3 acc = k0_pay7 x0 x1 x2 := by
  unfold out0_B_4
  rw [View.read_writes_eq_canon _ _ _ (cover0_B_4 c i a1 h1 a2 h2 a3 h3 a4 h4 a5 h5 a6 h6 a7 h7 p0 x0 x1 x2 x3 acc)]
  unfold kernelRun0_B
  dsimp only
  sl_unfold_words
  rw [View.canon_unit_zero zero2]
  simp only [View.readAt_eq_ld, h1.read_unread, h2.read_unread, h3.read_unread, h4.read_unread, h7.read_unread,
    View.ld_unit_zero (S := S1024x1024) zero2, View.ld_unit_zero (S := S1x1024) zero2, View.ld_unit_zero (S := S1x1024x1024) zero3, shapeCast_self]
/-- The gradient of the projection's input. -/
theorem out_A5 (p0 : cond0_0 i) : out0_A_5 c i a1 h1 a2 h2 a3 h3 a4 h4 a5 h5 a6 h6 a7 h7 p0 x0 x1 x2 x3 = k0_pay1 (k0_pay7 x0 x1 x2) x3 := by
  unfold out0_A_5
  rw [View.read_writes_eq_canon _ _ _ (cover0_A_5 c i a1 h1 a2 h2 a3 h3 a4 h4 a5 h5 a6 h6 a7 h7 p0 x0 x1 x2 x3)]
  unfold kernelRun0_A
  dsimp only
  sl_unfold_words
  rw [View.canon_unit_zero zero2]
  simp only [View.readAt_eq_ld, h1.read_unread, h2.read_unread, h3.read_unread, h4.read_unread, h7.read_unread,
    View.ld_unit_zero (S := S1024x1024) zero2, View.ld_unit_zero (S := S1x1024) zero2, View.ld_unit_zero (S := S1x1024x1024) zero3, shapeCast_self]
theorem out_B5 (p0 : ¬cond0_0 i) : out0_B_5 c i a1 h1 a2 h2 a3 h3 a4 h4 a5 h5 a6 h6 a7 h7 p0 x0 x1 x2 x3 acc = k0_pay1 (k0_pay7 x0 x1 x2) x3 := by
  unfold out0_B_5
  rw [View.read_writes_eq_canon _ _ _ (cover0_B_5 c i a1 h1 a2 h2 a3 h3 a4 h4 a5 h5 a6 h6 a7 h7 p0 x0 x1 x2 x3 acc)]
  unfold kernelRun0_B
  dsimp only
  sl_unfold_words
  rw [View.canon_unit_zero zero2]
  simp only [View.readAt_eq_ld, h1.read_unread, h2.read_unread, h3.read_unread, h4.read_unread, h7.read_unread,
    View.ld_unit_zero (S := S1024x1024) zero2, View.ld_unit_zero (S := S1x1024) zero2, View.ld_unit_zero (S := S1x1024x1024) zero3, shapeCast_self]
/-- The gain's gradient: set at the first point, added to afterwards. -/
theorem out_A6 (p0 : cond0_0 i) : out0_A_6 c i a1 h1 a2 h2 a3 h3 a4 h4 a5 h5 a6 h6 a7 h7 p0 x0 x1 x2 x3 = k0_pay6 x0 x1 k0_pay2 := by
  unfold out0_A_6
  rw [View.read_writes_eq_canon _ _ _ (cover0_A_6 c i a1 h1 a2 h2 a3 h3 a4 h4 a5 h5 a6 h6 a7 h7 p0 x0 x1 x2 x3)]
  unfold kernelRun0_A
  dsimp only
  sl_unfold_words
  rw [View.canon_cons_unit_zero (S := S1x1024) zero2, View.readCov_unit_zero (S := S1x1024) _ zero2]
  simp only [View.readAt_eq_ld, h1.read_unread, h2.read_unread, h3.read_unread, h4.read_unread, h7.read_unread,
    View.ld_unit_zero (S := S1024x1024) zero2, View.ld_unit_zero (S := S1x1024) zero2, View.ld_unit_zero (S := S1x1024x1024) zero3, shapeCast_self]
theorem out_B6 (p0 : ¬cond0_0 i) : out0_B_6 c i a1 h1 a2 h2 a3 h3 a4 h4 a5 h5 a6 h6 a7 h7 p0 x0 x1 x2 x3 acc = k0_pay6 x0 x1 acc := by
  unfold out0_B_6
  rw [View.read_writes_eq_canon _ _ _ (cover0_B_6 c i a1 h1 a2 h2 a3 h3 a4 h4 a5 h5 a6 h6 a7 h7 p0 x0 x1 x2 x3 acc)]
  unfold kernelRun0_B
  dsimp only
  sl_unfold_words
  rw [View.canon_unit_zero zero2]
  simp only [View.readAt_eq_ld, h1.read_unread, h2.read_unread, h3.read_unread, h4.read_unread, h7.read_unread,
    View.ld_unit_zero (S := S1024x1024) zero2, View.ld_unit_zero (S := S1x1024) zero2, View.ld_unit_zero (S := S1x1024x1024) zero3, shapeCast_self]
end Step

/-! ## The step's values element by element -/

section At
variable (x0 : Vec Ideal S1024x1024 .f32) (x1 : Vec Ideal S1024x1024 .bf16) (x2 : Vec Ideal S1x1024 .f32) (x3 : Vec Ideal S1x1024x1024 .bf16)
  (D : Vec Ideal S1024x1024 .bf16) (acc : Vec Ideal S1x1024 .f32)

theorem rinv_at (r : Fin 1024) : k0_pay4 (F := Ideal) x1 (ix2 r 0) = Cert.Norm.rinv (fun e : Fin 1024 => x1 (ix2 r e)) := by
  unfold k0_pay4 k0_pay3
  pointwise
  rfl
theorem norm_at (r : Fin 1024) (d : Fin 1024) : k0_pay5 (F := Ideal) x1 (ix2 r d) = x1 (ix2 r d) * Cert.Norm.rinv (fun e : Fin 1024 => x1 (ix2 r e)) := by
  rw [← rinv_at]
  unfold k0_pay5 k0_pay3
  pointwise
theorem dy_at (r : Fin 1024) (d : Fin 1024) : k0_pay7 (F := Ideal) x0 x1 x2 (ix2 r d)
    = Cert.Norm.grad (fun e : Fin 1024 => x1 (ix2 r e)) (fun e => x0 (ix2 r e) * x2 (ix2 0 e)) d := by
  unfold k0_pay7
  pointwise
  simp only [norm_at, rinv_at]
  rfl
theorem dg_at (d : Fin 1024) : k0_pay6 (F := Ideal) x0 x1 acc (ix2 0 d)
    = acc (ix2 0 d) + ∑ r : Fin 1024, x0 (ix2 r d) * (x1 (ix2 r d) * Cert.Norm.rinv (fun e : Fin 1024 => x1 (ix2 r e))) := by
  unfold k0_pay6
  pointwise
  simp only [norm_at]
theorem zero_at (d : Fin 1024) : k0_pay2 (F := Ideal) (ix2 0 d) = 0 := by
  unfold k0_pay2
  pointwise
theorem da_at (r : Fin 1024) (j : Fin 1024) : k0_pay1 (F := Ideal) D x3 (ix2 r j) = ∑ d : Fin 1024, D (ix2 r d) * x3 (ix3 0 j d) := by
  unfold k0_pay1
  pointwise
end At
end Cert.Kernel13Ideal.AttnOut
-- ==== Proof.Norm.After.lean ====
/- The normalisation of a product's output, forward and backward, as arrays: h + f * r * g, and the gradient of f from the
   gradient D of the sum. The host's operations for both have these values. -/
module

public import proofs.«01_k».proof.Proof.Norm.Back

@[expose] public section

set_option maxRecDepth 16384

noncomputable section

namespace Cert.Norm

open Cert.Reference6Ideal Cert.Reference6Ideal.Gen Cert.Reference6Ideal.Read
open Idealize.ShloMosaic Idealize.ShloMosaic.TcCoe

/-- Token r of block k, for blocks of 1024 tokens. -/
def tok4 (k : Nat) (hk : k < 4) (r : Fin 1024) : Fin 4096 := ⟨k * 1024 + r.val, by omega⟩

variable (f : FVec Ideal S4096x1024 .f32) (g : FVec Ideal S1024 .f32) (h D : FVec Ideal S4096x1024 .f32)

/-- One value of the normalised output added to h. -/
def afterOf (r : Fin 4096) (d : Fin 1024) : EReal := h (ix2 r d) + f (ix2 r d) * rinv (row f r) * g (ix1 d)
def afterArr : FVec Ideal S4096x1024 .f32 := fun i => afterOf f g h ⟨(i 0).val, (i 0).isLt⟩ ⟨(i 1).val, (i 1).isLt⟩
/-- One value of the gradient of f. -/
def backOf (r : Fin 4096) (d : Fin 1024) : EReal := grad (row f r) (fun e => D (ix2 r e) * g (ix1 e)) d
def backArr : FVec Ideal S4096x1024 .f32 := fun i => backOf f g D ⟨(i 0).val, (i 0).isLt⟩ ⟨(i 1).val, (i 1).isLt⟩

/-- The host's forward operations. -/
def afterHost : FVec Ideal S4096x1024 .f32 := addf h (mulf (val_main_v12 (F := Ideal) f) (val_main_v22 (F := Ideal) g))
/-- Its backward ones. -/
def backHost : FVec Ideal S4096x1024 .f32 :=
  addf (addf (mulf (scaled g D) (val_main_v28 (F := Ideal) f)) (mulf f (meanGrad f g D))) (mulf (meanGrad f g D) f)

theorem after_eq : afterHost f g h = afterArr f g h := by
  funext i
  idx_vars i
  refine Eq.trans (b := afterOf f g h i0 i1) ?_ rfl
  unfold afterOf
  rw [← rinv_at]
  unfold afterHost val_main_v12 val_main_v11 val_main_v22 val_main_v13
  pointwise
theorem back_eq : backHost f g D = backArr f g D := by
  funext i
  idx_vars i
  have e1 : backHost f g D (ix2 i0 i1)
      = (scaled g D (ix2 i0 i1) * val_main_v7 (F := Ideal) f (ix2 i0 (0 : Fin 1)) + f (ix2 i0 i1) * meanGrad f g D (ix2 i0 i1))
        + meanGrad f g D (ix2 i0 i1) * f (ix2 i0 i1) := by
    unfold backHost val_main_v28
    pointwise
  rw [e1, scaled_at, rinv_at]
  exact grad_eq (row f i0) (fun d => D (ix2 i0 d) * g (ix1 d)) i1 _ ((meanGrad_at f g D i0 i1).trans (meanGrad1_at f g D i0))

end Cert.Norm
-- ==== Proof.AttnOut.Array.lean ====
/- The gradient through the normalisation after the attention's output projection and through the projection: the three
   result arrays at the end. -/
module

public import proofs.«01_k».proof.Proof.AttnOut.Step
public import proofs.«01_k».proof.Proof.Norm.After

@[expose] public section

set_option maxRecDepth 16384

noncomputable section

namespace Cert.Kernel13Ideal.AttnOut

open Cert.Kernel13Ideal Cert.Kernel13Ideal.Gen
open Idealize.ShloMosaic Idealize.ShloMosaic.TcCoe Idealize.ShloMosaic.Tactic
open Idealize.SL.Sem
open Idealize.ShloMosaic.Pipeline (Dat)
open Cert.Norm (tok4 backOf backArr gainFrom dgFrom)

section Whole
variable (f : FVec Ideal S4096x1024 .f32) (g : FVec Ideal S1024 .f32) (w : FVec Ideal S1024x1024 .f32) (dh : FVec Ideal S4096x1024 .f32)

/-- A token's gradient of the projection's input. -/
def doOf (r : Fin 4096) (j : Fin 1024) : EReal := ∑ d : Fin 1024, backOf f g dh r d * w (ix2 j d)
def doArr : FVec Ideal S4096x1024 .f32 := fun i => doOf f g w dh ⟨(i 0).val, (i 0).isLt⟩ ⟨(i 1).val, (i 1).isLt⟩
end Whole

section Blocks
variable (m : (ℓ : Loc nD τ sig) → Buf (Elt Ideal) ℓ)

abbrev oA (c : Dev nD) : FVec Ideal S4096x1024 .f32 := m ((c : Thread nD τ).loc main_arg0)
abbrev gA (c : Dev nD) : FVec Ideal S1024 .f32 := m ((c : Thread nD τ).loc main_arg1)
abbrev wA (c : Dev nD) : FVec Ideal S1024x1024 .f32 := m ((c : Thread nD τ).loc main_arg2)
abbrev dhA (c : Dev nD) : FVec Ideal S4096x1024 .f32 := m ((c : Thread nD τ).loc main_arg3)
/-- The saved value of the forward pass: the projection's output. -/
abbrev fA (c : Dev nD) : FVec Ideal S4096x1024 .f32 := (V m c main_v3 : FVec Ideal S4096x1024 .bf16)

theorem tlt (t : Fin cfg0.N) : t.val < 4 := lt_of_lt_of_eq t.isLt (show cfg0.N = 4 from N_0)

theorem ix_0 : ∀ t : Fin cfg0.N, win0_0.index t = ![t.val, 0] := (by decide +kernel : ∀ t : Fin grid0.N, _)
theorem ix_1 : ∀ t : Fin cfg0.N, win0_1.index t = ![t.val, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![0, 0, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0] := (by decide +kernel : ∀ t : Fin grid0.N, _)
theorem ix_6 : ∀ t : Fin cfg0.N, win0_6.index t = ![0, 0] := (by decide +kernel : ∀ t : Fin grid0.N, _)

theorem blk_0 (c : Dev nD) (t : Fin cfg0.N) (r : Fin 1024) (d : Fin 1024) : iblk m c 0 t (ix2 r d) = dhA m c (ix2 (tok4 t.val (tlt t) r) d) := by
  blk_simp [iblk, ix_0]
  rw [V_main_arg3]
  refine congrArg (dhA m c) ?_
  unfold tok4
  blk_ext [ix_0]
theorem blk_1 (c : Dev nD) (t : Fin cfg0.N) (r : Fin 1024) (d : Fin 1024) : iblk m c 1 t (ix2 r d) = fA m c (ix2 (tok4 t.val (tlt t) r) d) := by
  blk_simp [iblk, ix_1]
  refine congrArg (fA m c) ?_
  unfold tok4
  blk_ext [ix_1]

/-- The weight as the kernel takes it: rounded, with a leading axis of one. -/
def wArr (w : FVec Ideal S1024x1024 .f32) : FVec Ideal S1x1024x1024 .bf16 := shapeCast S1x1024x1024 (truncf .bf16 w bitsLt_bf16_f32) shapeCasts_S1024x1024_S1x1024x1024
theorem V_w (c : Dev nD) : (V m c main_v2 : FVec Ideal S1x1024x1024 .bf16) = wArr (wA m c) := by
  unfold V
  after_results
  rfl
theorem V_gain (c : Dev nD) : (V m c main_v4 : FVec Ideal S1x1024 .f32) = shapeCast S1x1024 (gA m c) shapeCasts_S1024_S1x1024 := by
  unfold V
  after_results
  rfl
theorem wArr_at (w : FVec Ideal S1024x1024 .f32) (j d : Fin 1024) : wArr w (ix3 0 j d) = w (ix2 j d) := by
  unfold wArr
  pointwise
theorem blk_3 (c : Dev nD) (t : Fin cfg0.N) (j d : Fin 1024) : iblk m c 3 t (ix3 0 j d) = wA m c (ix2 j d) := by
  rw [← wArr_at (wA m c)]
  blk_simp [iblk, ix_3]
  rw [V_w]
  refine congrArg (wArr (wA m c)) ?_
  blk_ext [ix_3]
theorem blk_2 (c : Dev nD) (t : Fin cfg0.N) (d : Fin 1024) : iblk m c 2 t (ix2 0 d) = gA m c (ix1 d) := by
  have e : shapeCast S1x1024 (gA m c) shapeCasts_S1024_S1x1024 (ix2 0 d) = gA m c (ix1 d) := by pointwise
  rw [← e]
  blk_simp [iblk, ix_2]
  rw [V_gain]
  refine congrArg (shapeCast S1x1024 (gA m c) shapeCasts_S1024_S1x1024) ?_
  blk_ext [ix_2]

/-! ## What a step leaves -/

/-- A step's first two blocks, the same in either case. -/
theorem outs (c : Dev nD) (t : Fin cfg0.N) : (outsAt0 m c t.val t.isLt).1 = k0_pay7 (iblk m c 0 t) (iblk m c 1 t) (iblk m c 2 t)
    ∧ (outsAt0 m c t.val t.isLt).2.1 = k0_pay1 (k0_pay7 (iblk m c 0 t) (iblk m c 1 t) (iblk m c 2 t)) (iblk m c 3 t) := by
  by_cases h0 : t.val % 4 = 0
  · rw [outsAt0_A m c t h0]
    dsimp only
    rw [out_A4, out_A5]
    exact ⟨rfl, rfl⟩
  · rw [outsAt0_B m c t h0]
    dsimp only
    rw [out_B4, out_B5]
    exact ⟨rfl, rfl⟩

theorem dy_block (c : Dev nD) (t : Fin cfg0.N) (r d : Fin 1024) :
    k0_pay7 (F := Ideal) (iblk m c 0 t) (iblk m c 1 t) (iblk m c 2 t) (ix2 r d) = backOf (fA m c) (gA m c) (dhA m c) (tok4 t.val (tlt t) r) d := by
  rw [dy_at]
  simp only [blk_0, blk_1, blk_2]
  rfl
theorem do_block (c : Dev nD) (t : Fin cfg0.N) (r j : Fin 1024) :
    k0_pay1 (F := Ideal) (k0_pay7 (iblk m c 0 t) (iblk m c 1 t) (iblk m c 2 t)) (iblk m c 3 t) (ix2 r j)
      = doOf (fA m c) (gA m c) (wA m c) (dhA m c) (tok4 t.val (tlt t) r) j := by
  rw [da_at]
  simp only [dy_block, blk_3]
  rfl

theorem dy_eq (c : Dev nD) : (dats m 0 c).arrAt 4 cfg0.N = backArr (fA m c) (gA m c) (dhA m c) := by
  refine (dats m 0 c).arrAt_eq_of_covers 4 _ (by decide +kernel) fun t hf y => ?_
  blk_simp
  rw [after0_4, (outs m c t).1]
  have hy0 : (y 0).val < 1024 := (y 0).isLt
  have hy1 : (y 1).val < 1024 := (y 1).isLt
  have ey : y = ix2 (⟨(y 0).val, hy0⟩ : Fin 1024) (⟨(y 1).val, hy1⟩ : Fin 1024) := by
    funext a
    match a with
    | ⟨0, _⟩ => rfl
    | ⟨1, _⟩ => rfl
  rw [ey]
  refine (dy_block m c t _ _).trans ?_
  refine Eq.trans (b := (backArr (fA m c) (gA m c) (dhA m c)) (ix2 (tok4 t.val (tlt t) ⟨(y 0).val, hy0⟩) (⟨(y 1).val, hy1⟩ : Fin 1024))) rfl (congrArg (backArr (fA m c) (gA m c) (dhA m c)) ?_)
  unfold tok4
  blk_ext [ix_4]
theorem do_eq (c : Dev nD) : (dats m 0 c).arrAt 5 cfg0.N = doArr (fA m c) (gA m c) (wA m c) (dhA m c) := by
  refine (dats m 0 c).arrAt_eq_of_covers 5 _ (by decide +kernel) fun t hf y => ?_
  blk_simp
  rw [after0_5, (outs m c t).2]
  have hy0 : (y 0).val < 1024 := (y 0).isLt
  have hy1 : (y 1).val < 1024 := (y 1).isLt
  have ey : y = ix2 (⟨(y 0).val, hy0⟩ : Fin 1024) (⟨(y 1).val, hy1⟩ : Fin 1024) := by
    funext a
    match a with
    | ⟨0, _⟩ => rfl
    | ⟨1, _⟩ => rfl
  rw [ey]
  refine (do_block m c t _ _).trans ?_
  refine Eq.trans (b := (doArr (fA m c) (gA m c) (wA m c) (dhA m c)) (ix2 (tok4 t.val (tlt t) ⟨(y 0).val, hy0⟩) (⟨(y 1).val, hy1⟩ : Fin 1024))) rfl (congrArg (doArr (fA m c) (gA m c) (wA m c) (dhA m c)) ?_)
  unfold tok4
  blk_ext [ix_5]

/-! ## The gain's gradient -/

/-- What one step adds. -/
theorem dg_step (c : Dev nD) (t : Fin cfg0.N) (acc : Vec Ideal S1x1024 .f32) (d : Fin 1024) :
    k0_pay6 (F := Ideal) (iblk m c 0 t) (iblk m c 1 t) acc (ix2 0 d) = acc (ix2 0 d) + ∑ r : Fin 1024, gainFrom (fA m c) (dhA m c) d (tok4 t.val (tlt t) r) := by
  rw [dg_at]
  simp only [blk_0, blk_1]
  rfl

/-- What a point leaves in the gain's block: the steps up to it. -/
theorem dg_upto (c : Dev nD) (d : Fin 1024) : ∀ (n : Nat) (hn : n < cfg0.N), (outsAt0 m c n hn).2.2 (ix2 0 d)
    = ∑ k : Fin (n + 1), ∑ r : Fin 1024, gainFrom (fA m c) (dhA m c) d (tok4 k.val (by have := tlt ⟨n, hn⟩; have := k.isLt; dsimp only at *; omega) r)
  | 0, hn => by
    have e := outsAt0_A m c ⟨0, hn⟩ (Nat.zero_mod 4)
    dsimp only at e
    rw [e]
    dsimp only
    rw [out_A6, dg_step, zero_at, zero_add]
    simp
  | n + 1, hn => by
    have hl := tlt ⟨n + 1, hn⟩
    dsimp only at hl
    have e := outsAt0_B m c ⟨n + 1, hn⟩ (by dsimp only; omega)
    dsimp only at e
    rw [e]
    dsimp only
    rw [out_B6, dg_step]
    refine Eq.trans ?_ (Fin.sum_univ_castSucc _).symm
    exact congrArg₂ (· + ·) (dg_upto c d n (by omega)) rfl

theorem dg_block (c : Dev nD) (d : Fin 1024) (t : Fin cfg0.N) (ht : t.val % 4 = 3) : (outsAt0 m c t.val t.isLt).2.2 (ix2 0 d)
    = ∑ r : Fin 4096, gainFrom (fA m c) (dhA m c) d r := by
  have hl := tlt t
  obtain ⟨n, hn⟩ := t
  obtain rfl : n = 3 := by dsimp only at ht hl; omega
  exact (dg_upto m c d 3 hn).trans (Fin.sum_mul_add_fin 4 1024 (gainFrom (fA m c) (dhA m c) d))

theorem dgain_eq (c : Dev nD) : (dats m 0 c).arrAt 6 cfg0.N = dgFrom (fA m c) (dhA m c) := by
  refine (dats m 0 c).arrAt_eq_of_covers 6 _ (by decide +kernel) fun t hf y => ?_
  have ht : t.val % 4 = 3 := (flush0_6 t).mp hf
  blk_simp
  rw [after0_6]
  have hy1 : (y 1).val < 1024 := (y 1).isLt
  have ey : y = ix2 (0 : Fin 1) (⟨(y 1).val, hy1⟩ : Fin 1024) := by
    funext a
    match a with
    | ⟨0, _⟩ => exact Fin.ext (by have : (y 0).val < 1 := (y 0).isLt; show (y 0).val = 0; omega)
    | ⟨1, _⟩ => rfl
  rw [ey]
  refine (dg_block m c _ t ht).trans ?_
  refine Eq.trans (b := dgFrom (fA m c) (dhA m c) (ix2 (0 : Fin 1) (⟨(y 1).val, hy1⟩ : Fin 1024))) rfl (congrArg (dgFrom (fA m c) (dhA m c)) ?_)
  blk_ext [ix_6]
end Blocks

end Cert.Kernel13Ideal.AttnOut
-- ==== Proof.AttnOut.Ref.lean ====
/- The reference's gradients through the attention's output projection and the normalisation after it: the kernel's three
   results. -/
module

public import proofs.«01_k».proof.Proof.AttnOut.Array
public import proofs.«01_k».proof.Proof.Gen.Reference13Ideal.Read

@[expose] public section

set_option maxRecDepth 16384

noncomputable section

namespace Cert.Reference13Ideal.AttnOut

open Cert.Reference13Ideal Cert.Reference13Ideal.Gen Cert.Reference13Ideal.Read
open Idealize.ShloMosaic Idealize.ShloMosaic.TcCoe
open Cert.Norm (backOf backArr backHost back_eq dgFrom backG backG_eq)
open Cert.Kernel13Ideal.AttnOut (doArr)

variable (o : FVec Ideal S4096x1024 .f32) (g : FVec Ideal S1024 .f32) (w : FVec Ideal S1024x1024 .f32) (dh : FVec Ideal S4096x1024 .f32)

/-- The projection's output. -/
abbrev fArr : FVec Ideal S4096x1024 .f32 := val_main_v0 (F := Ideal) o w

theorem v36_eq : val_main_v36 (F := Ideal) o g w dh = backArr (fArr o w) g dh :=
  (show val_main_v36 (F := Ideal) o g w dh = backHost (fArr o w) g dh from rfl).trans (back_eq (fArr o w) g dh)
theorem dy_eq : val_main_v38 (F := Ideal) o g w dh = backArr (fArr o w) g dh :=
  (show val_main_v38 (F := Ideal) o g w dh = val_main_v36 (F := Ideal) o g w dh from rfl).trans (v36_eq o g w dh)
theorem do_eq : val_main_v37 (F := Ideal) o g w dh = doArr (fArr o w) g w dh := by
  funext i
  idx_vars i
  rw [val_main_v37_apply]
  have eL : ∀ d, lidx_main_v37 (ix2 i0 i1) d = ix2 i0 d := fun d => by funext b; fin_cases b <;> rfl
  have eR : ∀ d, ridx_main_v37 (ix2 i0 i1) d = ix2 i1 d := fun d => by funext b; fin_cases b <;> rfl
  simp only [eL, eR, v36_eq]
  rfl
theorem dgain_eq : val_main_v39 (F := Ideal) o w dh = dgFrom (fArr o w) dh :=
  (show val_main_v39 (F := Ideal) o w dh = backG (fArr o w) dh from rfl).trans (backG_eq (fArr o w) dh)

/-! ## What the kernel is given -/

section Given
open Cert.Kernel13Ideal.AttnOut (oA wA fA)
variable (m : (ℓ : Loc Cert.Kernel13Ideal.nD Cert.Kernel13Ideal.τ Cert.Kernel13Ideal.sig) → Buf (Elt Ideal) ℓ) (c : Dev Cert.Kernel13Ideal.nD)

theorem f_given : fA m c = fArr (oA m c) (wA m c) := by
  unfold fA Cert.Kernel13Ideal.Gen.V
  after_results
  rfl
end Given

end Cert.Reference13Ideal.AttnOut
-- ==== Proof.DownOut.Array.lean ====
/- Down projection of the gated activation, normalised and added to its input: one grid step's two blocks, and the two result arrays. -/
module

public import proofs.«01_k».proof.Proof.Gen.Kernel14Ideal.Value
public import Idealize.ShloMosaic.Lib.Pipeline.ValueKit
public import Idealize.ShloMosaic.Lib.Pointwise.Contract
public import proofs.«01_k».proof.Proof.Norm.After

@[expose] public section

set_option maxRecDepth 16384

noncomputable section

namespace Cert.Kernel14Ideal.DownOut

open Cert.Kernel14Ideal Cert.Kernel14Ideal.Gen
open Idealize.ShloMosaic Idealize.ShloMosaic.TcCoe Idealize.ShloMosaic.Tactic
open Idealize.SL.Sem
open Idealize.ShloMosaic.Pipeline (Dat)
open Cert.Norm (tok4 afterOf afterArr)

theorem zero2 : (![0, 0] : Fin 2 → Nat) = fun _ => 0 := funext fun a => by fin_cases a <;> rfl
theorem zero3 : (![0, 0, 0] : Fin 3 → Nat) = fun _ => 0 := funext fun a => by fin_cases a <;> rfl

/-! ## One step -/

section Step
variable {F : FTy → Type} [FloatOps F]
variable (x0 : Vec F S1024x2816 .bf16) (x1 : Vec F S1x2816x1024 .bf16) (x2 : Vec F S1x1024 .f32) (x3 : Vec F S1024x1024 .f32)

theorem out_4 : out0_4 x0 x1 x2 x3 = k0_pay2 x0 x1 := by
  unfold out0_4
  rw [View.canon_unit_zero zero2]
  simp only [View.ld_unit_zero (S := S1024x2816) zero2, View.ld_unit_zero (S := S1x2816x1024) zero3]
theorem out_5 : out0_5 x0 x1 x2 x3 = k0_pay3 x0 x1 x3 x2 := by
  unfold out0_5
  rw [View.canon_unit_zero zero2]
  simp only [View.ld_unit_zero (S := S1024x2816) zero2, View.ld_unit_zero (S := S1x2816x1024) zero3, View.ld_unit_zero (S := S1x1024) zero2, View.ld_unit_zero (S := S1024x1024) zero2]
end Step

section At
variable (x0 : Vec Ideal S1024x2816 .bf16) (x1 : Vec Ideal S1x2816x1024 .bf16) (x2 : Vec Ideal S1x1024 .f32) (x3 : Vec Ideal S1024x1024 .f32)

theorem prod_at (r d : Fin 1024) : k0_pay1 (F := Ideal) x0 x1 (ix2 r d) = ∑ j : Fin 2816, x0 (ix2 r j) * x1 (ix3 0 j d) := by
  unfold k0_pay1
  pointwise
theorem f_at (r d : Fin 1024) : k0_pay2 (F := Ideal) x0 x1 (ix2 r d) = ∑ j : Fin 2816, x0 (ix2 r j) * x1 (ix3 0 j d) := by
  rw [← prod_at]
  unfold k0_pay2
  pointwise
theorem h_at (r d : Fin 1024) : k0_pay3 (F := Ideal) x0 x1 x3 x2 (ix2 r d)
    = x3 (ix2 r d) + k0_pay1 (F := Ideal) x0 x1 (ix2 r d) * Cert.Norm.rinv (fun e : Fin 1024 => k0_pay1 (F := Ideal) x0 x1 (ix2 r e)) * x2 (ix2 0 d) := by
  unfold k0_pay3
  generalize k0_pay1 (F := Ideal) x0 x1 = p
  pointwise
  rfl
end At

/-! ## The arrays of the whole call -/

section Whole
variable (a : FVec Ideal S4096x2816 .bf16) (w : FVec Ideal S2816x1024 .f32)

/-- The product, rounded or not. -/
def fOf (r : Fin 4096) (d : Fin 1024) : EReal := ∑ j : Fin 2816, a (ix2 r j) * w (ix2 j d)
def fArr : FVec Ideal S4096x1024 .f32 := fun i => fOf a w ⟨(i 0).val, (i 0).isLt⟩ ⟨(i 1).val, (i 1).isLt⟩
end Whole

section Blocks
variable (m : (ℓ : Loc nD τ sig) → Buf (Elt Ideal) ℓ)

abbrev aA (c : Dev nD) : FVec Ideal S4096x2816 .bf16 := m ((c : Thread nD τ).loc main_arg0)
abbrev wA (c : Dev nD) : FVec Ideal S2816x1024 .f32 := m ((c : Thread nD τ).loc main_arg1)
abbrev gA (c : Dev nD) : FVec Ideal S1024 .f32 := m ((c : Thread nD τ).loc main_arg2)
abbrev hA (c : Dev nD) : FVec Ideal S4096x1024 .f32 := m ((c : Thread nD τ).loc main_arg3)

theorem tlt (t : Fin cfg0.N) : t.val < 4 := lt_of_lt_of_eq t.isLt (show cfg0.N = 4 from N_0)

theorem ix_0 : ∀ t : Fin cfg0.N, win0_0.index t = ![t.val, 0] := (by decide +kernel : ∀ t : Fin grid0.N, _)
theorem ix_1 : ∀ t : Fin cfg0.N, win0_1.index t = ![0, 0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0] := (by decide +kernel : ∀ t : Fin grid0.N, _)

theorem blk_0 (c : Dev nD) (t : Fin cfg0.N) (r : Fin 1024) (j : Fin 2816) : iblk m c 0 t (ix2 r j) = aA m c (ix2 (tok4 t.val (tlt t) r) j) := by
  blk_simp [iblk, ix_0]
  rw [V_main_arg0]
  refine congrArg (aA m c) ?_
  unfold tok4
  blk_ext [ix_0]
theorem blk_3 (c : Dev nD) (t : Fin cfg0.N) (r d : Fin 1024) : iblk m c 3 t (ix2 r d) = hA m c (ix2 (tok4 t.val (tlt t) r) d) := by
  blk_simp [iblk, ix_3]
  rw [V_main_arg3]
  refine congrArg (hA m c) ?_
  unfold tok4
  blk_ext [ix_3]

/-- The weight as the kernel takes it: rounded, with a leading axis of one. -/
def wArr (w : FVec Ideal S2816x1024 .f32) : FVec Ideal S1x2816x1024 .bf16 := shapeCast S1x2816x1024 (truncf .bf16 w bitsLt_bf16_f32) shapeCasts_S2816x1024_S1x2816x1024
theorem V_w (c : Dev nD) : (V m c main_v1 : FVec Ideal S1x2816x1024 .bf16) = wArr (wA m c) := by
  unfold V
  after_results
  rfl
theorem V_gain (c : Dev nD) : (V m c main_v2 : FVec Ideal S1x1024 .f32) = shapeCast S1x1024 (gA m c) shapeCasts_S1024_S1x1024 := by
  unfold V
  after_results
  rfl
theorem wArr_at (w : FVec Ideal S2816x1024 .f32) (j : Fin 2816) (d : Fin 1024) : wArr w (ix3 0 j d) = w (ix2 j d) := by
  unfold wArr
  pointwise
theorem blk_1 (c : Dev nD) (t : Fin cfg0.N) (j : Fin 2816) (d : Fin 1024) : iblk m c 1 t (ix3 0 j d) = wA m c (ix2 j d) := by
  rw [← wArr_at (wA m c)]
  blk_simp [iblk, ix_1]
  rw [V_w]
  refine congrArg (wArr (wA m c)) ?_
  blk_ext [ix_1]
theorem blk_2 (c : Dev nD) (t : Fin cfg0.N) (d : Fin 1024) : iblk m c 2 t (ix2 0 d) = gA m c (ix1 d) := by
  have e : shapeCast S1x1024 (gA m c) shapeCasts_S1024_S1x1024 (ix2 0 d) = gA m c (ix1 d) := by pointwise
  rw [← e]
  blk_simp [iblk, ix_2]
  rw [V_gain]
  refine congrArg (shapeCast S1x1024 (gA m c) shapeCasts_S1024_S1x1024) ?_
  blk_ext [ix_2]

theorem prod_block (c : Dev nD) (t : Fin cfg0.N) (r d : Fin 1024) :
    k0_pay1 (F := Ideal) (iblk m c 0 t) (iblk m c 1 t) (ix2 r d) = fOf (aA m c) (wA m c) (tok4 t.val (tlt t) r) d := by
  rw [prod_at]
  simp only [blk_0, blk_1]
  rfl
theorem f_block (c : Dev nD) (t : Fin cfg0.N) (r d : Fin 1024) :
    k0_pay2 (F := Ideal) (iblk m c 0 t) (iblk m c 1 t) (ix2 r d) = fOf (aA m c) (wA m c) (tok4 t.val (tlt t) r) d :=
  (f_at _ _ r d).trans ((prod_at _ _ r d).symm.trans (prod_block m c t r d))
theorem h_block (c : Dev nD) (t : Fin cfg0.N) (r d : Fin 1024) :
    k0_pay3 (F := Ideal) (iblk m c 0 t) (iblk m c 1 t) (iblk m c 3 t) (iblk m c 2 t) (ix2 r d)
      = afterOf (fArr (aA m c) (wA m c)) (gA m c) (hA m c) (tok4 t.val (tlt t) r) d := by
  rw [h_at]
  simp only [prod_block, blk_2, blk_3]
  rfl

theorem f_eq (c : Dev nD) : (dats m 0 c).arrAt 4 cfg0.N = fArr (aA m c) (wA m c) := by
  refine (dats m 0 c).arrAt_eq_of_covers 4 _ (by decide +kernel) fun t hf y => ?_
  blk_simp
  rw [after0_4, out_4]
  have hy0 : (y 0).val < 1024 := (y 0).isLt
  have hy1 : (y 1).val < 1024 := (y 1).isLt
  have ey : y = ix2 (⟨(y 0).val, hy0⟩ : Fin 1024) (⟨(y 1).val, hy1⟩ : Fin 1024) := by
    funext a
    match a with
    | ⟨0, _⟩ => rfl
    | ⟨1, _⟩ => rfl
  rw [ey]
  refine (f_block m c t _ _).trans ?_
  refine Eq.trans (b := (fArr (aA m c) (wA m c)) (ix2 (tok4 t.val (tlt t) ⟨(y 0).val, hy0⟩) (⟨(y 1).val, hy1⟩ : Fin 1024))) rfl (congrArg (fArr (aA m c) (wA m c)) ?_)
  unfold tok4
  blk_ext [ix_4]
theorem h_eq (c : Dev nD) : (dats m 0 c).arrAt 5 cfg0.N = afterArr (fArr (aA m c) (wA m c)) (gA m c) (hA m c) := by
  refine (dats m 0 c).arrAt_eq_of_covers 5 _ (by decide +kernel) fun t hf y => ?_
  blk_simp
  rw [after0_5, out_5]
  have hy0 : (y 0).val < 1024 := (y 0).isLt
  have hy1 : (y 1).val < 1024 := (y 1).isLt
  have ey : y = ix2 (⟨(y 0).val, hy0⟩ : Fin 1024) (⟨(y 1).val, hy1⟩ : Fin 1024) := by
    funext a
    match a with
    | ⟨0, _⟩ => rfl
    | ⟨1, _⟩ => rfl
  rw [ey]
  refine (h_block m c t _ _).trans ?_
  refine Eq.trans (b := (afterArr (fArr (aA m c) (wA m c)) (gA m c) (hA m c)) (ix2 (tok4 t.val (tlt t) ⟨(y 0).val, hy0⟩) (⟨(y 1).val, hy1⟩ : Fin 1024))) rfl (congrArg (afterArr (fArr (aA m c) (wA m c)) (gA m c) (hA m c)) ?_)
  unfold tok4
  blk_ext [ix_5]
end Blocks

end Cert.Kernel14Ideal.DownOut
-- ==== Proof.DownOut.Ref.lean ====
/- The reference's down projection of the gated activation and the normalisation after it: the kernel's two results. -/
module

public import proofs.«01_k».proof.Proof.DownOut.Array
public import proofs.«01_k».proof.Proof.Gen.Reference14Ideal.Read

@[expose] public section

set_option maxRecDepth 16384

noncomputable section

namespace Cert.Reference14Ideal.DownOut

open Cert.Reference14Ideal Cert.Reference14Ideal.Gen Cert.Reference14Ideal.Read
open Idealize.ShloMosaic Idealize.ShloMosaic.TcCoe
open Cert.Norm (afterArr afterHost after_eq)
open Cert.Kernel14Ideal.DownOut (fArr)

variable (a : FVec Ideal S4096x2816 .bf16) (w : FVec Ideal S2816x1024 .f32) (g : FVec Ideal S1024 .f32) (h : FVec Ideal S4096x1024 .f32)

theorem prod_eq : val_main_v1 (F := Ideal) a w = fArr a w := by
  funext i
  idx_vars i
  rw [val_main_v1_apply]
  have eL : ∀ j, lidx_main_v1 (ix2 i0 i1) j = ix2 i0 j := fun j => by funext b; fin_cases b <;> rfl
  have eR : ∀ j, ridx_main_v1 (ix2 i0 i1) j = ix2 j i1 := fun j => by funext b; fin_cases b <;> rfl
  simp only [eL, eR]
  rfl
theorem f_eq : val_main_v2 (F := Ideal) a w = fArr a w :=
  (show val_main_v2 (F := Ideal) a w = val_main_v1 (F := Ideal) a w from rfl).trans (prod_eq a w)
theorem h_eq : val_main_v16 (F := Ideal) a w g h = afterArr (fArr a w) g h :=
  (show val_main_v16 (F := Ideal) a w g h = afterHost (val_main_v1 (F := Ideal) a w) g h from rfl).trans ((after_eq _ g h).trans (by rw [prod_eq]))

end Cert.Reference14Ideal.DownOut
-- ==== Proof.MixOut.Array.lean ====
/- Output projection of the attention, normalised and added to its input: one grid step's two blocks, and the two result arrays. -/
module

public import proofs.«01_k».proof.Proof.Gen.Kernel15Ideal.Value
public import Idealize.ShloMosaic.Lib.Pipeline.ValueKit
public import Idealize.ShloMosaic.Lib.Pointwise.Contract
public import proofs.«01_k».proof.Proof.Norm.After

@[expose] public section

set_option maxRecDepth 16384

noncomputable section

namespace Cert.Kernel15Ideal.MixOut

open Cert.Kernel15Ideal Cert.Kernel15Ideal.Gen
open Idealize.ShloMosaic Idealize.ShloMosaic.TcCoe Idealize.ShloMosaic.Tactic
open Idealize.SL.Sem
open Idealize.ShloMosaic.Pipeline (Dat)
open Cert.Norm (tok4 afterOf afterArr)

theorem zero2 : (![0, 0] : Fin 2 → Nat) = fun _ => 0 := funext fun a => by fin_cases a <;> rfl
theorem zero3 : (![0, 0, 0] : Fin 3 → Nat) = fun _ => 0 := funext fun a => by fin_cases a <;> rfl

/-! ## One step -/

section Step
variable {F : FTy → Type} [FloatOps F]
variable (x0 : Vec F S1024x1024 .f32) (x1 : Vec F S1x1024x1024 .bf16) (x2 : Vec F S1x1024 .f32) (x3 : Vec F S1024x1024 .f32)

theorem out_4 : out0_4 x0 x1 x2 x3 = k0_pay2 x0 x1 := by
  unfold out0_4
  rw [View.canon_unit_zero zero2]
  simp only [View.ld_unit_zero (S := S1024x1024) zero2, View.ld_unit_zero (S := S1x1024x1024) zero3]
theorem out_5 : out0_5 x0 x1 x2 x3 = k0_pay3 x0 x1 x3 x2 := by
  unfold out0_5
  rw [View.canon_unit_zero zero2]
  simp only [View.ld_unit_zero (S := S1024x1024) zero2, View.ld_unit_zero (S := S1x1024x1024) zero3, View.ld_unit_zero (S := S1x1024) zero2, View.ld_unit_zero (S := S1024x1024) zero2]
end Step

section At
variable (x0 : Vec Ideal S1024x1024 .f32) (x1 : Vec Ideal S1x1024x1024 .bf16) (x2 : Vec Ideal S1x1024 .f32) (x3 : Vec Ideal S1024x1024 .f32)

theorem prod_at (r d : Fin 1024) : k0_pay1 (F := Ideal) x0 x1 (ix2 r d) = ∑ j : Fin 1024, x0 (ix2 r j) * x1 (ix3 0 j d) := by
  unfold k0_pay1
  pointwise
theorem f_at (r d : Fin 1024) : k0_pay2 (F := Ideal) x0 x1 (ix2 r d) = ∑ j : Fin 1024, x0 (ix2 r j) * x1 (ix3 0 j d) := by
  rw [← prod_at]
  unfold k0_pay2
  pointwise
theorem h_at (r d : Fin 1024) : k0_pay3 (F := Ideal) x0 x1 x3 x2 (ix2 r d)
    = x3 (ix2 r d) + k0_pay1 (F := Ideal) x0 x1 (ix2 r d) * Cert.Norm.rinv (fun e : Fin 1024 => k0_pay1 (F := Ideal) x0 x1 (ix2 r e)) * x2 (ix2 0 d) := by
  unfold k0_pay3
  generalize k0_pay1 (F := Ideal) x0 x1 = p
  pointwise
  rfl
end At

/-! ## The arrays of the whole call -/

section Whole
variable (a : FVec Ideal S4096x1024 .f32) (w : FVec Ideal S1024x1024 .f32)

/-- The product, rounded or not. -/
def fOf (r : Fin 4096) (d : Fin 1024) : EReal := ∑ j : Fin 1024, a (ix2 r j) * w (ix2 j d)
def fArr : FVec Ideal S4096x1024 .f32 := fun i => fOf a w ⟨(i 0).val, (i 0).isLt⟩ ⟨(i 1).val, (i 1).isLt⟩
end Whole

section Blocks
variable (m : (ℓ : Loc nD τ sig) → Buf (Elt Ideal) ℓ)

abbrev aA (c : Dev nD) : FVec Ideal S4096x1024 .f32 := m ((c : Thread nD τ).loc main_arg0)
abbrev wA (c : Dev nD) : FVec Ideal S1024x1024 .f32 := m ((c : Thread nD τ).loc main_arg1)
abbrev gA (c : Dev nD) : FVec Ideal S1024 .f32 := m ((c : Thread nD τ).loc main_arg2)
abbrev hA (c : Dev nD) : FVec Ideal S4096x1024 .f32 := m ((c : Thread nD τ).loc main_arg3)

theorem tlt (t : Fin cfg0.N) : t.val < 4 := lt_of_lt_of_eq t.isLt (show cfg0.N = 4 from N_0)

theorem ix_0 : ∀ t : Fin cfg0.N, win0_0.index t = ![t.val, 0] := (by decide +kernel : ∀ t : Fin grid0.N, _)
theorem ix_1 : ∀ t : Fin cfg0.N, win0_1.index t = ![0, 0, 0] := (by decide +kernel : ∀ t : Fin grid0.N, _)
theorem ix_2 : ∀ t : Fin cfg0.N, win0_2.index t = ![0, 0] := (by decide +kernel : ∀ t : Fin grid0.N, _)
theorem ix_3 : ∀ t : Fin cfg0.N, win0_3.index t = ![t.val, 0] := (by decide +kernel : ∀ t : Fin grid0.N, _)
theorem ix_4 : ∀ t : Fin cfg0.N, win0_4.index t = ![t.val, 0] := (by decide +kernel : ∀ t : Fin grid0.N, _)
theorem ix_5 : ∀ t : Fin cfg0.N, win0_5.index t = ![t.val, 0] := (by decide +kernel : ∀ t : Fin grid0.N, _)

theorem blk_0 (c : Dev nD) (t : Fin cfg0.N) (r : Fin 1024) (j : Fin 1024) : iblk m c 0 t (ix2 r j) = aA m c (ix2 (tok4 t.val (tlt t) r) j) := by
  blk_simp [iblk, ix_0]
  rw [V_main_arg0]
  refine congrArg (aA m c) ?_
  unfold tok4
  blk_ext [ix_0]
theorem blk_3 (c : Dev nD) (t : Fin cfg0.N) (r d : Fin 1024) : iblk m c 3 t (ix2 r d) = hA m c (ix2 (tok4 t.val (tlt t) r) d) := by
  blk_simp [iblk, ix_3]
  rw [V_main_arg3]
  refine congrArg (hA m c) ?_
  unfold tok4
  blk_ext [ix_3]

/-- The weight as the kernel takes it: rounded, with a leading axis of one. -/
def wArr (w : FVec Ideal S1024x1024 .f32) : FVec Ideal S1x1024x1024 .bf16 := shapeCast S1x1024x1024 (truncf .bf16 w bitsLt_bf16_f32) shapeCasts_S1024x1024_S1x1024x1024
theorem V_w (c : Dev nD) : (V m c main_v1 : FVec Ideal S1x1024x1024 .bf16) = wArr (wA m c) := by
  unfold V
  after_results
  rfl
theorem V_gain (c : Dev nD) : (V m c main_v2 : FVec Ideal S1x1024 .f32) = shapeCast S1x1024 (gA m c) shapeCasts_S1024_S1x1024 := by
  unfold V
  after_results
  rfl
theorem wArr_at (w : FVec Ideal S1024x1024 .f32) (j : Fin 1024) (d : Fin 1024) : wArr w (ix3 0 j d) = w (ix2 j d) := by
  unfold wArr
  pointwise
theorem blk_1 (c : Dev nD) (t : Fin cfg0.N) (j : Fin 1024) (d : Fin 1024) : iblk m c 1 t (ix3 0 j d) = wA m c (ix2 j d) := by
  rw [← wArr_at (wA m c)]
  blk_simp [iblk, ix_1]
  rw [V_w]
  refine congrArg (wArr (wA m c)) ?_
  blk_ext [ix_1]
theorem blk_2 (c : Dev nD) (t : Fin cfg0.N) (d : Fin 1024) : iblk m c 2 t (ix2 0 d) = gA m c (ix1 d) := by
  have e : shapeCast S1x1024 (gA m c) shapeCasts_S1024_S1x1024 (ix2 0 d) = gA m c (ix1 d) := by pointwise
  rw [← e]
  blk_simp [iblk, ix_2]
  rw [V_gain]
  refine congrArg (shapeCast S1x1024 (gA m c) shapeCasts_S1024_S1x1024) ?_
  blk_ext [ix_2]

theorem prod_block (c : Dev nD) (t : Fin cfg0.N) (r d : Fin 1024) :
    k0_pay1 (F := Ideal) (iblk m c 0 t) (iblk m c 1 t) (ix2 r d) = fOf (aA m c) (wA m c) (tok4 t.val (tlt t) r) d := by
  rw [prod_at]
  simp only [blk_0, blk_1]
  rfl
theorem f_block (c : Dev nD) (t : Fin cfg0.N) (r d : Fin 1024) :
    k0_pay2 (F := Ideal) (iblk m c 0 t) (iblk m c 1 t) (ix2 r d) = fOf (aA m c) (wA m c) (tok4 t.val (tlt t) r) d :=
  (f_at _ _ r d).trans ((prod_at _ _ r d).symm.trans (prod_block m c t r d))
theorem h_block (c : Dev nD) (t : Fin cfg0.N) (r d : Fin 1024) :
    k0_pay3 (F := Ideal) (iblk m c 0 t) (iblk m c 1 t) (iblk m c 3 t) (iblk m c 2 t) (ix2 r d)
      = afterOf (fArr (aA m c) (wA m c)) (gA m c) (hA m c) (tok4 t.val (tlt t) r) d := by
  rw [h_at]
  simp only [prod_block, blk_2, blk_3]
  rfl

theorem f_eq (c : Dev nD) : (dats m 0 c).arrAt 4 cfg0.N = fArr (aA m c) (wA m c) := by
  refine (dats m 0 c).arrAt_eq_of_covers 4 _ (by decide +kernel) fun t hf y => ?_
  blk_simp
  rw [after0_4, out_4]
  have hy0 : (y 0).val < 1024 := (y 0).isLt
  have hy1 : (y 1).val < 1024 := (y 1).isLt
  have ey : y = ix2 (⟨(y 0).val, hy0⟩ : Fin 1024) (⟨(y 1).val, hy1⟩ : Fin 1024) := by
    funext a
    match a with
    | ⟨0, _⟩ => rfl
    | ⟨1, _⟩ => rfl
  rw [ey]
  refine (f_block m c t _ _).trans ?_
  refine Eq.trans (b := (fArr (aA m c) (wA m c)) (ix2 (tok4 t.val (tlt t) ⟨(y 0).val, hy0⟩) (⟨(y 1).val, hy1⟩ : Fin 1024))) rfl (congrArg (fArr (aA m c) (wA m c)) ?_)
  unfold tok4
  blk_ext [ix_4]
theorem h_eq (c : Dev nD) : (dats m 0 c).arrAt 5 cfg0.N = afterArr (fArr (aA m c) (wA m c)) (gA m c) (hA m c) := by
  refine (dats m 0 c).arrAt_eq_of_covers 5 _ (by decide +kernel) fun t hf y => ?_
  blk_simp
  rw [after0_5, out_5]
  have hy0 : (y 0).val < 1024 := (y 0).isLt
  have hy1 : (y 1).val < 1024 := (y 1).isLt
  have ey : y = ix2 (⟨(y 0).val, hy0⟩ : Fin 1024) (⟨(y 1).val, hy1⟩ : Fin 1024) := by
    funext a
    match a with
    | ⟨0, _⟩ => rfl
    | ⟨1, _⟩ => rfl
  rw [ey]
  refine (h_block m c t _ _).trans ?_
  refine Eq.trans (b := (afterArr (fArr (aA m c) (wA m c)) (gA m c) (hA m c)) (ix2 (tok4 t.val (tlt t) ⟨(y 0).val, hy0⟩) (⟨(y 1).val, hy1⟩ : Fin 1024))) rfl (congrArg (afterArr (fArr (aA m c) (wA m c)) (gA m c) (hA m c)) ?_)
  unfold tok4
  blk_ext [ix_5]
end Blocks

end Cert.Kernel15Ideal.MixOut
-- ==== Proof.MixOut.Ref.lean ====
/- The reference's output projection of the attention and the normalisation after it: the kernel's two results. -/
module

public import proofs.«01_k».proof.Proof.MixOut.Array
public import proofs.«01_k».proof.Proof.Gen.Reference15Ideal.Read

@[expose] public section

set_option maxRecDepth 16384

noncomputable section

namespace Cert.Reference15Ideal.MixOut

open Cert.Reference15Ideal Cert.Reference15Ideal.Gen Cert.Reference15Ideal.Read
open Idealize.ShloMosaic Idealize.ShloMosaic.TcCoe
open Cert.Norm (afterArr afterHost after_eq)
open Cert.Kernel15Ideal.MixOut (fArr)

variable (a : FVec Ideal S4096x1024 .f32) (w : FVec Ideal S1024x1024 .f32) (g : FVec Ideal S1024 .f32) (h : FVec Ideal S4096x1024 .f32)

theorem prod_eq : val_main_v0 (F := Ideal) a w = fArr a w := by
  funext i
  idx_vars i
  rw [val_main_v0_apply]
  have eL : ∀ j, lidx_main_v0 (ix2 i0 i1) j = ix2 i0 j := fun j => by funext b; fin_cases b <;> rfl
  have eR : ∀ j, ridx_main_v0 (ix2 i0 i1) j = ix2 j i1 := fun j => by funext b; fin_cases b <;> rfl
  simp only [eL, eR]
  rfl
theorem f_eq : val_main_v1 (F := Ideal) a w = fArr a w :=
  (show val_main_v1 (F := Ideal) a w = val_main_v0 (F := Ideal) a w from rfl).trans (prod_eq a w)
theorem h_eq : val_main_v15 (F := Ideal) a w g h = afterArr (fArr a w) g h :=
  (show val_main_v15 (F := Ideal) a w g h = afterHost (val_main_v0 (F := Ideal) a w) g h from rfl).trans ((after_eq _ g h).trans (by rw [prod_eq]))

end Cert.Reference15Ideal.MixOut
-- ==== Proof.Norm.Kept.lean ====
/- What the calls with the norm before their product share: the array of normed rows kept between grid steps, in four blocks of
   1024 rows, the loads and stores of whole blocks, and the store of a block as column tiles of 128. -/
module

public import Idealize.ShloMosaic.Lib.Pipeline.Value
public import Idealize.ShloMosaic.Lib.VecWindow
public import Idealize.ShloMosaic.Lib.ValueIdx

@[expose] public section

noncomputable section

namespace Cert.Kept

open Idealize.ShloMosaic Idealize.ShloMosaic.TcCoe

variable {F : FTy → Type} {sig : RefSig}

/-- The kept array, one of its blocks, and a column tile of a block. -/
abbrev SKept : Shape := ⟨2, ![4096, 1024]⟩
abbrev SRows : Shape := ⟨2, ![1024, 1024]⟩
abbrev STile : Shape := ⟨2, ![1024, 128]⟩

theorem zero2 : (![0, 0] : Fin 2 → Nat) = fun _ => 0 := by funext a; fin_cases a <;> rfl
theorem zero3 : (![0, 0, 0] : Fin 3 → Nat) = fun _ => 0 := by funext a; fin_cases a <;> rfl

/-- An index of a matrix, from its coordinates. -/
theorem pair {A B : Nat} (y : (⟨2, ![A, B]⟩ : Shape).Idx) : y = ValueIdx.ix2 (⟨(y 0).val, (y 0).isLt⟩ : Fin A) (⟨(y 1).val, (y 1).isLt⟩ : Fin B) := by
  funext a
  match a with
  | ⟨0, _⟩ => rfl
  | ⟨1, _⟩ => rfl

/-- Row r of block b, of four blocks of 1024 rows. -/
def at4 (b : Nat) (hb : b < 4) (r : Fin 1024) : Fin 4096 := ⟨b * 1024 + r.val, by omega⟩
/-- Block b's rows. -/
def rows (X : Vec F SKept .bf16) (b : Nat) (hb : b < 4) : Vec F SRows .bf16 := fun y =>
  X (ValueIdx.ix2 (at4 b hb ⟨(y 0).val, (y 0).isLt⟩) (⟨(y 1).val, (y 1).isLt⟩ : Fin 1024))

/-- A load of a block of rows. -/
theorem load_rows (v : View sig .tc .vmem SKept .bf16) (f : v.ty.Contents (Elt F)) (X : Vec F SKept .bf16) (h : v.read (Elt F) f = X)
    (b : Nat) (hb : b < 4) (off : Fin 2 → Nat) (hoff : off = ![b * 1024, 0]) (inb : ∀ a, off a + SRows.size a ≤ SKept.size a) :
    v.readAt (Elt F) (Rect.unit (s := SKept) off SRows.size inb).toLoadRect f = rows X b hb := by
  subst hoff
  subst h
  funext y
  refine congrArg (v.read (Elt F) f) (funext fun a => Fin.ext ?_)
  match a with
  | ⟨0, _⟩ => show b * 1024 + 1 * (y 0).val = b * 1024 + (y 0).val; omega
  | ⟨1, _⟩ => show 0 + 1 * (y 1).val = (y 1).val; omega

/-- A store of a block of rows leaves its payload there, -/
theorem store_rows (v : View sig .tc .vmem SKept .bf16) (f : v.ty.Contents (Elt F)) (w : Vec F SRows .bf16)
    (b : Nat) (hb : b < 4) (off : Fin 2 → Nat) (hoff : off = ![b * 1024, 0]) (inb : ∀ a, off a + SRows.size a ≤ SKept.size a) :
    rows (v.read (Elt F) (v.writes (Elt F) f [⟨Rect.unit (s := SKept) off SRows.size inb, w⟩])) b hb = w := by
  funext y
  exact View.read_writes_cons_rows_of_mem v f inb w [] _ y hoff rfl rfl
/-- and nothing else changed. -/
theorem store_other (v : View sig .tc .vmem SKept .bf16) (f : v.ty.Contents (Elt F)) (w : Vec F SRows .bf16)
    (b : Nat) (hb : b < 4) (off : Fin 2 → Nat) (hoff : off = ![b * 1024, 0]) (inb : ∀ a, off a + SRows.size a ≤ SKept.size a)
    (b' : Nat) (hb' : b' < 4) (hne : b' ≠ b) :
    rows (v.read (Elt F) (v.writes (Elt F) f [⟨Rect.unit (s := SKept) off SRows.size inb, w⟩])) b' hb' = rows (v.read (Elt F) f) b' hb' := by
  funext y
  refine View.read_writes_cons_rows_of_not_mem (W := 1024) v f inb w [] _ hoff rfl ?_
  have hy : (y 0).val < 1024 := (y 0).isLt
  show b' * 1024 + (y 0).val < b * 1024 ∨ b * 1024 + 1024 ≤ b' * 1024 + (y 0).val
  omega

/-- A block of rows, loaded after it was stored, is what was stored. -/
theorem load_stored (b : Nat) (hb : b < 4) {off off' : Fin 2 → Nat} (hoff : off = ![b * 1024, 0]) (hoff' : off' = ![b * 1024, 0])
    (v : View sig .tc .vmem SKept .bf16) (w : Vec F SRows .bf16) [∀ e, Nonempty (Elt F e)]
    (inb : ∀ a, off a + SRows.size a ≤ SKept.size a) (inb' : ∀ a, off' a + SRows.size a ≤ SKept.size a) :
    v.readCov [⟨Rect.unit (s := SKept) off SRows.size inb, w⟩] (Rect.unit (s := SKept) off' SRows.size inb').toLoadRect = w :=
  (load_rows v _ _ rfl b hb _ hoff' inb').trans (store_rows v _ w b hb _ hoff inb)

/-- A load of a whole block. -/
theorem load_whole {S : Shape} {e : EltTy} (v : View sig .tc .vmem S e) (f : v.ty.Contents (Elt F)) (x : Vec F S e) (h : v.read (Elt F) f = x)
    {off : Fin S.rank → Nat} (hoff : off = fun _ => 0) (inb : ∀ a, off a + S.size a ≤ S.size a) :
    v.readAt (Elt F) (Rect.unit off S.size inb).toLoadRect f = x := by
  rw [← h]; exact View.ld_unit_zero (e := e) hoff inb (v.read (Elt F) f)
/-- A store of a whole block leaves its payload. -/
theorem store_whole {S : Shape} (v : View sig .tc .vmem S .bf16) (f : v.ty.Contents (Elt F)) (off : Fin S.rank → Nat)
    (inb : ∀ a, off a + S.size a ≤ S.size a) (w : Vec F S .bf16) :
    v.read (Elt F) (v.writes (Elt F) f [⟨Rect.unit off S.size inb, w⟩]) = w :=
  View.read_writes_full v f inb w []

/-! ## Column tiles of 128 -/

section Tiles
variable {N W : Nat} (hW : W = N * 128)

/-- Tiles side by side. -/
def tiles (p : Fin N → Vec F STile .bf16) : Vec F (⟨2, ![1024, W]⟩ : Shape) .bf16 := fun y =>
  p ⟨(y 1).val / 128, by have h : (y 1).val < W := (y 1).isLt; omega⟩
    (ValueIdx.ix2 (⟨(y 0).val, (y 0).isLt⟩ : Fin 1024) (⟨(y 1).val % 128, Nat.mod_lt _ (by decide)⟩ : Fin 128))

include hW in
theorem tile_fits (k : Nat) (hk : k < N) : ∀ a : Fin 2, (![0, k * 128] : Fin 2 → Nat) a + STile.size a ≤ (⟨2, ![1024, W]⟩ : Shape).size a :=
  Fin.forall_fin_two.mpr ⟨show 0 + 1024 ≤ 1024 by omega, show k * 128 + 128 ≤ W by omega⟩

/-- The stores of the first n tiles, the last first. -/
def pieces (p : Fin N → Vec F STile .bf16) : (n : Nat) → n ≤ N → List (View.Piece (Elt F) (⟨2, ![1024, W]⟩ : Shape) .bf16)
  | 0, _ => []
  | n + 1, h => ⟨Rect.unit (s := (⟨2, ![1024, W]⟩ : Shape)) ![0, n * 128] STile.size (tile_fits hW n h), p ⟨n, h⟩⟩ :: pieces p n (Nat.le_of_succ_le h)

variable (v : View sig .tc .vmem (⟨2, ![1024, W]⟩ : Shape) .bf16) (f : v.ty.Contents (Elt F)) (p : Fin N → Vec F STile .bf16)

theorem pieces_read : ∀ (n : Nat) (hn : n ≤ N) (y : (⟨2, ![1024, W]⟩ : Shape).Idx), (y 1).val < n * 128 →
    v.read (Elt F) (v.writes (Elt F) f (pieces hW p n hn)) y = tiles hW p y
  | 0, _, y, h => by omega
  | n + 1, hn, y, h => by
    by_cases hy : (y 1).val < n * 128
    · exact (View.read_writes_cons_unit_of_not_mem v f (tile_fits hW n hn) _ _ y rfl (1 : Fin 2) (Or.inl hy)).trans (pieces_read n (Nat.le_of_succ_le hn) y hy)
    · have hw : (y 1).val < W := (y 1).isLt
      have hk : (y 1).val / 128 = n := by omega
      refine (View.read_writes_cons_unit_of_mem v f (tile_fits hW n hn) _ _ y
        (ValueIdx.ix2 (⟨(y 0).val, (y 0).isLt⟩ : Fin 1024) (⟨(y 1).val % 128, Nat.mod_lt _ (by decide)⟩ : Fin 128)) rfl
        (Fin.forall_fin_two.mpr ⟨(Nat.zero_add _).symm, show (y 1).val = n * 128 + (y 1).val % 128 by omega⟩)).trans ?_
      subst hk
      rfl

/-- All the stores leave the tiles side by side. -/
theorem store_tiles : v.read (Elt F) (v.writes (Elt F) f (pieces hW p N le_rfl)) = tiles hW p := by
  funext y
  exact pieces_read hW v f p N le_rfl y (lt_of_lt_of_eq (y 1).isLt hW)
end Tiles

end Cert.Kept

end
-- ==== Proof.GateAct.Body.lean ====
/- One grid step of the normalisation with the gate and up projections: the block of rows it normalises and keeps, or finds
   kept, and what it leaves in its four result blocks, in the two cases of its conditionals. -/
module

public import proofs.«01_k».proof.Proof.Gen.Kernel16Ideal.Frame
public import proofs.«01_k».proof.Proof.Norm.Kept
public import proofs.«01_k».proof.Proof.Gen.Kernel16Ideal.Skeleton

@[expose] public section

set_option maxRecDepth 16384

noncomputable section

namespace Cert.Kernel16Ideal.GateAct

open Cert.Kernel16Ideal Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kept (zero2 zero3 load_whole store_whole)
open Idealize.ShloMosaic.Pipeline (Dat Cfg Window BodyObligation cellOf)

variable {F : FTy → Type} [FloatOps F]

local notation "𝕄" => MT nD τ sig Unit (Elt F) ℕ (UR sig nD τ) ℕ

/-! ## Rows of the kept array -/

/-- Row r of block b, of eight blocks of 512 rows. -/
def at8 (b : Nat) (hb : b < 8) (r : Fin 512) : Fin 4096 := ⟨b * 512 + r.val, by omega⟩
/-- Block b's rows. -/
def rows (X : Vec F S4096x1024 .bf16) (b : Nat) (hb : b < 8) : Vec F S512x1024 .bf16 := fun y =>
  X (ValueIdx.ix2 (at8 b hb ⟨(y 0).val, (y 0).isLt⟩) (⟨(y 1).val, (y 1).isLt⟩ : Fin 1024))

theorem off_1 : ∀ i : grid0.Coords, k0_off1 i = ![(i 1).val * 512, 0] := by decide +kernel
theorem off_2 : ∀ i : grid0.Coords, k0_off2 i = ![(i 1).val * 512, 0] := by decide +kernel
theorem lt8 (i : grid0.Coords) : (i 1).val < 8 := (i 1).isLt

omit [FloatOps F] in
/-- A load of a block of rows. -/
theorem load_rows (v : View sig .tc .vmem S4096x1024 .bf16) (f : v.ty.Contents (Elt F)) (X : Vec F S4096x1024 .bf16) (h : v.read (Elt F) f = X)
    (b : Nat) (hb : b < 8) (off : Fin 2 → Nat) (hoff : off = ![b * 512, 0]) (inb : ∀ a, off a + S512x1024.size a ≤ S4096x1024.size a) :
    v.readAt (Elt F) (Rect.unit (s := S4096x1024) off S512x1024.size inb).toLoadRect f = rows X b hb := by
  subst hoff
  subst h
  funext y
  refine congrArg (v.read (Elt F) f) (funext fun a => Fin.ext ?_)
  match a with
  | ⟨0, _⟩ => show b * 512 + 1 * (y 0).val = b * 512 + (y 0).val; omega
  | ⟨1, _⟩ => show 0 + 1 * (y 1).val = (y 1).val; omega

omit [FloatOps F] in
/-- A store of a block of rows leaves its payload there, -/
theorem store_rows (v : View sig .tc .vmem S4096x1024 .bf16) (f : v.ty.Contents (Elt F)) (w : Vec F S512x1024 .bf16)
    (b : Nat) (hb : b < 8) (off : Fin 2 → Nat) (hoff : off = ![b * 512, 0]) (inb : ∀ a, off a + S512x1024.size a ≤ S4096x1024.size a) :
    rows (v.read (Elt F) (v.writes (Elt F) f [⟨Rect.unit (s := S4096x1024) off S512x1024.size inb, w⟩])) b hb = w := by
  funext y
  exact View.read_writes_cons_rows_of_mem v f inb w [] _ y hoff rfl rfl
omit [FloatOps F] in
/-- and nothing else changed. -/
theorem store_other (v : View sig .tc .vmem S4096x1024 .bf16) (f : v.ty.Contents (Elt F)) (w : Vec F S512x1024 .bf16)
    (b : Nat) (hb : b < 8) (off : Fin 2 → Nat) (hoff : off = ![b * 512, 0]) (inb : ∀ a, off a + S512x1024.size a ≤ S4096x1024.size a)
    (b' : Nat) (hb' : b' < 8) (hne : b' ≠ b) :
    rows (v.read (Elt F) (v.writes (Elt F) f [⟨Rect.unit (s := S4096x1024) off S512x1024.size inb, w⟩])) b' hb' = rows (v.read (Elt F) f) b' hb' := by
  funext y
  refine View.read_writes_cons_rows_of_not_mem (W := 512) v f inb w [] _ hoff rfl ?_
  have hy : (y 0).val < 512 := (y 0).isLt
  show b' * 512 + (y 0).val < b * 512 ∨ b * 512 + 512 ≤ b' * 512 + (y 0).val
  omega

/-- A block of rows, loaded after it was stored, is what was stored. -/
theorem load_stored (i : grid0.Coords) (v : View sig .tc .vmem S4096x1024 .bf16) (w : Vec F S512x1024 .bf16)
    (inb : ∀ a, k0_off1 i a + S512x1024.size a ≤ S4096x1024.size a) (inb' : ∀ a, k0_off2 i a + S512x1024.size a ≤ S4096x1024.size a) :
    v.readCov [⟨Rect.unit (s := S4096x1024) (k0_off1 i) S512x1024.size inb, w⟩] (Rect.unit (s := S4096x1024) (k0_off2 i) S512x1024.size inb').toLoadRect = w :=
  (load_rows v _ _ rfl (i 1).val (lt8 i) _ (off_2 i) inb').trans (store_rows v _ w (i 1).val (lt8 i) _ (off_1 i) inb)

/-! ## The step, from its blocks `x0` (tokens), `x1` (gain), `x2` and `x3` (the weights' columns) -/

/-- The kept block is the normalised one. -/
theorem kept_eq (x0 : Vec F S512x1024 .f32) (x1 : Vec F S1x1024 .f32) : k0_pay3 x0 x1 = k0_pay2 x0 x1 := shapeCast_self _ _

set_option maxHeartbeats 2000000 in
/-- The first eight steps normalise a block of rows and keep it. -/
theorem run_A (c : Dev nD) (i : grid0.Coords) (arg2 : Memref sig .tc .vmem S512x1024 .f32) (harg2 : arg2.IsWhole) (arg3 : Memref sig .tc .vmem S1x1024 .f32) (harg3 : arg3.IsWhole)
    (arg4 : Memref sig .tc .vmem S1x1024x1408 .bf16) (harg4 : arg4.IsWhole) (arg5 : Memref sig .tc .vmem S1x1024x1408 .bf16) (harg5 : arg5.IsWhole)
    (arg6 : Memref sig .tc .vmem S512x1408 .bf16) (harg6 : arg6.IsWhole) (arg7 : Memref sig .tc .vmem S512x1408 .bf16) (harg7 : arg7.IsWhole)
    (arg8 : Memref sig .tc .vmem S512x1408 .bf16) (harg8 : arg8.IsWhole) (arg9 : Memref sig .tc .vmem S512x1024 .bf16) (harg9 : arg9.IsWhole)
    (arg10 : Memref sig .tc .vmem S4096x1024 .bf16) (harg10 : arg10.IsWhole) (hc0 : k0_cond1 i = 1#1) (hc1 : ¬k0_cond2 i = 1#1)
    (x0 : Vec F S512x1024 .f32) (x1 : Vec F S1x1024 .f32) (x2 x3 : Vec F S1x1024x1408 .bf16) (X : Vec F S4096x1024 .bf16) (K : PUnit → sProp 𝕄) :
    iprop(owns c.tc arg2 fullShare x0 ∗ owns c.tc arg3 fullShare x1 ∗ owns c.tc arg4 fullShare x2 ∗ owns c.tc arg5 fullShare x3
        ∗ (∃ d, owns c.tc arg6 fullShare d) ∗ (∃ d, owns c.tc arg7 fullShare d) ∗ (∃ d, owns c.tc arg8 fullShare d)
        ∗ (∃ d, owns c.tc arg9 fullShare d) ∗ owns c.tc arg10 fullShare X
        ∗ (iprop(owns c.tc arg2 fullShare x0 ∗ owns c.tc arg3 fullShare x1 ∗ owns c.tc arg4 fullShare x2 ∗ owns c.tc arg5 fullShare x3
            ∗ owns c.tc arg6 fullShare (k0_pay8 (k0_pay2 x0 x1) x2) ∗ owns c.tc arg7 fullShare (k0_pay9 (k0_pay2 x0 x1) x2 (k0_pay2 x0 x1) x3)
            ∗ owns c.tc arg8 fullShare (k0_pay1 (k0_pay5 (k0_pay2 x0 x1) x3) (k0_pay7 (k0_pay2 x0 x1) x2)) ∗ owns c.tc arg9 fullShare (k0_pay2 x0 x1)
            ∗ (∃ Y : Vec F S4096x1024 .bf16, ⌜rows Y (i 1).val (lt8 i) = k0_pay2 x0 x1 ∧ ∀ b (hb : b < 8), b ≠ (i 1).val → rows Y b hb = rows X b hb⌝ ∗ owns c.tc arg10 fullShare Y)) -∗ K ⟨⟩))
      ⊢ wp frame (wpE (defs₀ (F := F)) Variants.none c none) Set.univ (cc0_f0_gate_up i arg2 harg2 arg3 harg3 arg4 harg4 arg5 harg5 arg6 harg6 arg7 harg7 arg8 harg8 arg9 harg9 arg10 harg10) K := by
  haveI : Fact (k0_cond1 i = 1#1) := ⟨hc0⟩
  haveI : Fact (¬k0_cond2 i = 1#1) := ⟨hc1⟩
  simp only [cc0_f0_gate_up_eq_skeleton]; unfold cc0_f0_gate_up_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs, %hfs, HS⟩, Hk⟩
  sl_exec (disch := first | sl_exact hc0 | sl_exact hc1)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr
    swap; · iexact H4
    ipureintro
    sl_unfold_run_names
    rw [load_stored i]
    simp only [load_whole _ _ _ hf0 zero2, load_whole _ _ _ hf1 zero2, load_whole _ _ _ hf2 zero3, load_whole _ _ _ hf3 zero3, kept_eq]
    exact store_whole _ _ _ _ _
  isplitl [H5]
  · iexists _; isplitr
    swap; · iexact H5
    ipureintro
    sl_unfold_run_names
    rw [load_stored i]
    simp only [load_whole _ _ _ hf0 zero2, load_whole _ _ _ hf1 zero2, load_whole _ _ _ hf2 zero3, load_whole _ _ _ hf3 zero3, kept_eq]
    exact store_whole _ _ _ _ _
  isplitl [H6]
  · iexists _; isplitr
    swap; · iexact H6
    ipureintro
    sl_unfold_run_names
    rw [load_stored i]
    simp only [load_whole _ _ _ hf0 zero2, load_whole _ _ _ hf1 zero2, load_whole _ _ _ hf2 zero3, load_whole _ _ _ hf3 zero3, kept_eq]
    exact store_whole _ _ _ _ _
  isplitl [H7]
  · iexists _; isplitr
    swap; · iexact H7
    ipureintro
    sl_unfold_run_names
    simp only [load_whole _ _ _ hf0 zero2, load_whole _ _ _ hf1 zero2, load_whole _ _ _ hf2 zero3, load_whole _ _ _ hf3 zero3, kept_eq]
    exact store_whole _ _ _ _ _
  iexists _; isplitr
  swap
  · iexists _; isplitr
    swap; · iexact HS
    ipureintro; rfl
  ipureintro
  sl_unfold_run_names
  simp only [load_whole _ _ _ hf0 zero2, load_whole _ _ _ hf1 zero2, kept_eq]
  refine ⟨store_rows _ _ _ _ _ _ (off_1 i) _, fun b hb hne => ?_⟩
  rw [← hfs]
  exact store_other _ _ _ _ (lt8 i) _ (off_1 i) _ b hb hne

set_option maxHeartbeats 2000000 in
/-- The others find it kept, and leave the last block in the fourth result. -/
theorem run_B (c : Dev nD) (i : grid0.Coords) (arg2 : Memref sig .tc .vmem S512x1024 .f32) (harg2 : arg2.IsWhole) (arg3 : Memref sig .tc .vmem S1x1024 .f32) (harg3 : arg3.IsWhole)
    (arg4 : Memref sig .tc .vmem S1x1024x1408 .bf16) (harg4 : arg4.IsWhole) (arg5 : Memref sig .tc .vmem S1x1024x1408 .bf16) (harg5 : arg5.IsWhole)
    (arg6 : Memref sig .tc .vmem S512x1408 .bf16) (harg6 : arg6.IsWhole) (arg7 : Memref sig .tc .vmem S512x1408 .bf16) (harg7 : arg7.IsWhole)
    (arg8 : Memref sig .tc .vmem S512x1408 .bf16) (harg8 : arg8.IsWhole) (arg9 : Memref sig .tc .vmem S512x1024 .bf16) (harg9 : arg9.IsWhole)
    (arg10 : Memref sig .tc .vmem S4096x1024 .bf16) (harg10 : arg10.IsWhole) (hc0 : ¬k0_cond1 i = 1#1) (hc1 : k0_cond2 i = 1#1)
    (x0 : Vec F S512x1024 .f32) (x1 : Vec F S1x1024 .f32) (x2 x3 : Vec F S1x1024x1408 .bf16) (X : Vec F S4096x1024 .bf16) (K : PUnit → sProp 𝕄) :
    iprop(owns c.tc arg2 fullShare x0 ∗ owns c.tc arg3 fullShare x1 ∗ owns c.tc arg4 fullShare x2 ∗ owns c.tc arg5 fullShare x3
        ∗ (∃ d, owns c.tc arg6 fullShare d) ∗ (∃ d, owns c.tc arg7 fullShare d) ∗ (∃ d, owns c.tc arg8 fullShare d)
        ∗ (∃ d, owns c.tc arg9 fullShare d) ∗ owns c.tc arg10 fullShare X
        ∗ (iprop(owns c.tc arg2 fullShare x0 ∗ owns c.tc arg3 fullShare x1 ∗ owns c.tc arg4 fullShare x2 ∗ owns c.tc arg5 fullShare x3
            ∗ owns c.tc arg6 fullShare (k0_pay8 (rows X (i 1).val (lt8 i)) x2) ∗ owns c.tc arg7 fullShare (k0_pay9 (rows X (i 1).val (lt8 i)) x2 (rows X (i 1).val (lt8 i)) x3)
            ∗ owns c.tc arg8 fullShare (k0_pay1 (k0_pay5 (rows X (i 1).val (lt8 i)) x3) (k0_pay7 (rows X (i 1).val (lt8 i)) x2)) ∗ owns c.tc arg9 fullShare (rows X 7 (by decide))
            ∗ owns c.tc arg10 fullShare X) -∗ K ⟨⟩))
      ⊢ wp frame (wpE (defs₀ (F := F)) Variants.none c none) Set.univ (cc0_f0_gate_up i arg2 harg2 arg3 harg3 arg4 harg4 arg5 harg5 arg6 harg6 arg7 harg7 arg8 harg8 arg9 harg9 arg10 harg10) K := by
  haveI : Fact (¬k0_cond1 i = 1#1) := ⟨hc0⟩
  haveI : Fact (k0_cond2 i = 1#1) := ⟨hc1⟩
  simp only [cc0_f0_gate_up_eq_skeleton]; unfold cc0_f0_gate_up_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%fs, %hfs, HS⟩, Hk⟩
  sl_exec (disch := first | sl_exact hc0 | sl_exact hc1)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr
    swap; · iexact H4
    ipureintro
    sl_unfold_run_names
    simp only [load_rows _ _ _ hfs _ (lt8 i) _ (off_2 i), load_whole _ _ _ hf2 zero3, load_whole _ _ _ hf3 zero3]
    exact store_whole _ _ _ _ _
  isplitl [H5]
  · iexists _; isplitr
    swap; · iexact H5
    ipureintro
    sl_unfold_run_names
    simp only [load_rows _ _ _ hfs _ (lt8 i) _ (off_2 i), load_whole _ _ _ hf2 zero3, load_whole _ _ _ hf3 zero3]
    exact store_whole _ _ _ _ _
  isplitl [H6]
  · iexists _; isplitr
    swap; · iexact H6
    ipureintro
    sl_unfold_run_names
    simp only [load_rows _ _ _ hfs _ (lt8 i) _ (off_2 i), load_whole _ _ _ hf2 zero3, load_whole _ _ _ hf3 zero3]
    exact store_whole _ _ _ _ _
  isplitl [H7]
  · iexists _; isplitr
    swap; · iexact H7
    ipureintro
    sl_unfold_run_names
    simp only [load_rows _ _ _ hfs 7 (by decide) _ rfl]
    exact store_whole _ _ _ _ _
  iexists _; isplitr
  swap; · iexact HS
  ipureintro; exact hfs

end Cert.Kernel16Ideal.GateAct

end
-- ==== Proof.GateAct.Launch.lean ====
/- The normed gate and up projections with the gated activation, launched: the proof data of the one pipeline (each result's
   block at a point, the normed rows kept between points), each point's obligation from the runs of Body.lean, and the run. -/
module

public import proofs.«01_k».proof.Proof.GateAct.Body
public import Idealize.ShloMosaic.Lib.Pipeline.FrameValue
public import Idealize.ShloMosaic.Lib.Pipeline.ValueKit

@[expose] public section

set_option maxRecDepth 16384

noncomputable section

namespace Cert.Kernel16Ideal.GateAct

open Cert.Kernel16Ideal Cert.Kernel16Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points take which branch -/

theorem norms : ∀ t : Fin cfg0.N, k0_cond1 (grid0.coords t) = 1#1 ↔ t.val < 8 := by decide +kernel
theorem reads : ∀ t : Fin cfg0.N, k0_cond2 (grid0.coords t) = 1#1 ↔ 8 ≤ t.val := by decide +kernel
theorem row_of : ∀ t : Fin cfg0.N, ((grid0.coords t) 1).val = t.val % 8 := by decide +kernel
/-- The normed rows' result is stored at every point. -/
theorem stored_7 : ∀ t : Fin cfg0.N, cfg0.idle 7 (grid0.coords t) = false := by decide +kernel

/-! ## The proof data -/

/-- Block b of the normed rows: what point b computes. -/
def hnAt (c : Dev nD) (b : Nat) (hb : b < 8) : Vec F S512x1024 .bf16 :=
  k0_pay2 (iblk m c 0 ⟨b, lt_of_lt_of_eq (show b < 16 by omega) N_0.symm⟩) (iblk m c 1 ⟨b, lt_of_lt_of_eq (show b < 16 by omega) N_0.symm⟩)
/-- The normed rows the point t reads. -/
def hnOf (c : Dev nD) (t : Fin cfg0.N) : Vec F S512x1024 .bf16 := hnAt m c (t.val % 8) (Nat.mod_lt _ (by decide))
/-- The normed rows it writes back: its own in the first eight points, the last block's in the others. -/
def hnOut (c : Dev nD) (t : Fin cfg0.N) : Vec F S512x1024 .bf16 := hnAt m c (min t.val 7) (by omega)

theorem hnAt_eq (c : Dev nD) (b : Nat) (hb : b < 8) (b' : Nat) (hb' : b' < 8) (e : b = b') : hnAt m c b hb = hnAt m c b' hb' := by
  subst e; rfl
theorem hnAt_point (c : Dev nD) (t : Fin cfg0.N) (h : t.val < 8) : hnAt m c t.val h = k0_pay2 (iblk m c 0 t) (iblk m c 1 t) := rfl
theorem hnOf_first (c : Dev nD) (t : Fin cfg0.N) (h : t.val < 8) : hnOf m c t = k0_pay2 (iblk m c 0 t) (iblk m c 1 t) :=
  (hnAt_eq m c _ _ t.val h (Nat.mod_eq_of_lt h)).trans (hnAt_point m c t h)
theorem hnOut_first (c : Dev nD) (t : Fin cfg0.N) (h : t.val < 8) : hnOut m c t = k0_pay2 (iblk m c 0 t) (iblk m c 1 t) :=
  (hnAt_eq m c _ _ t.val h (by omega)).trans (hnAt_point m c t h)
theorem hnOut_later (c : Dev nD) (t : Fin cfg0.N) (h : 8 ≤ t.val) : hnOut m c t = hnAt m c 7 (by decide) :=
  hnAt_eq m c _ _ 7 (by decide) (by omega)

/-- The scratch buffer of the normed rows. -/
abbrev scM : Memref sig .tc .vmem S4096x1024 .bf16 := Memref.whole cc0_scratch0

/-- Before point k: the scratch holds the normed rows of the first k blocks. -/
def inv (c : Dev nD) (k : ℕ) : sProp 𝕄 :=
  iprop((∃ X : Vec F S4096x1024 .bf16, ⌜∀ b (hb : b < 8), b < k → rows X b hb = hnAt m c b hb⌝ ∗ owns c.tc scM fullShare X)
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay8 (hnOf m c t) (iblk m c 2 t)
    | ⟨5, _⟩ => k0_pay9 (hnOf m c t) (iblk m c 2 t) (hnOf m c t) (iblk m c 3 t)
    | ⟨6, _⟩ => k0_pay1 (k0_pay5 (hnOf m c t) (iblk m c 3 t)) (k0_pay7 (hnOf m c t) (iblk m c 2 t))
    | ⟨7, _⟩ => hnOut m c t
  Φ t := inv m c t.val
  q w := Pipeline.shareOf spec0 w
  owed _ := 0

theorem A_eq (c : Dev nD) (w : Fin cfg0.W) : (dats m 0 c).A w = V m c (Pipeline.arrRef spec0 w) := by
  dsimp only [dats]
theorem inv_castSucc (c : Dev nD) (t : Fin cfg0.N) : (dats m 0 c).Φ t.castSucc = inv m c t.val := by
  dsimp only [dats]; simp only [Fin.coe_castSucc]
theorem inv_succ (c : Dev nD) (t : Fin cfg0.N) : (dats m 0 c).Φ t.succ = inv m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = k0_pay8 (hnOf m c t) (iblk m c 2 t) := by dsimp only [dats]
theorem after_5 (c : Dev nD) (t : Fin cfg0.N) : (dats m 0 c).after 5 t = k0_pay9 (hnOf m c t) (iblk m c 2 t) (hnOf m c t) (iblk m c 3 t) := by dsimp only [dats]
theorem after_6 (c : Dev nD) (t : Fin cfg0.N) :
    (dats m 0 c).after 6 t = k0_pay1 (k0_pay5 (hnOf m c t) (iblk m c 3 t)) (k0_pay7 (hnOf m c t) (iblk m c 2 t)) := by dsimp only [dats]
theorem after_7 (c : Dev nD) (t : Fin cfg0.N) : (dats m 0 c).after 7 t = hnOut m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d

/-- The scratch after a point of the first column of blocks, -/
theorem kept_first (c : Dev nD) (t : Fin cfg0.N) (h : t.val < 8) (X Y : Vec F S4096x1024 .bf16)
    (hX : ∀ b (hb : b < 8), b < t.val → rows X b hb = hnAt m c b hb)
    (hY : rows Y ((grid0.coords t) 1).val (lt8 (grid0.coords t)) = k0_pay2 (iblk m c 0 t) (iblk m c 1 t)
      ∧ ∀ b (hb : b < 8), b ≠ ((grid0.coords t) 1).val → rows Y b hb = rows X b hb) :
    ∀ b (hb : b < 8), b < t.val + 1 → rows Y b hb = hnAt m c b hb := by
  intro b hb hlt
  have e : ((grid0.coords t) 1).val = t.val := (row_of t).trans (Nat.mod_eq_of_lt h)
  by_cases hbt : b = t.val
  · have hb' : b = ((grid0.coords t) 1).val := hbt.trans e.symm
    have h1 := hY.1
    have h2 : rows Y b hb = rows Y ((grid0.coords t) 1).val (lt8 (grid0.coords t)) := by
      congr 1
    rw [h2, h1, ← hnAt_point m c t h]
    exact hnAt_eq m c _ _ _ _ hbt.symm
  · rw [hY.2 b hb (fun h' => hbt (h'.trans e))]
    exact hX b hb (by omega)
/-- and what a later point reads there. -/
theorem kept_later (c : Dev nD) (t : Fin cfg0.N) (h : 8 ≤ t.val) (X : Vec F S4096x1024 .bf16)
    (hX : ∀ b (hb : b < 8), b < t.val → rows X b hb = hnAt m c b hb) :
    rows X ((grid0.coords t) 1).val (lt8 (grid0.coords t)) = hnOf m c t ∧ rows X 7 (by decide) = hnOut m c t := by
  refine ⟨(hX _ _ (lt_of_lt_of_le (lt8 _) h)).trans (hnAt_eq m c _ _ _ _ (row_of t)), ?_⟩
  rw [hnOut_later m c t h]
  exact hX 7 (by decide) (by omega)

/-! ## One point -/

/-- What a point is called with, -/
def stepPre (c : Dev nD) (t : Fin cfg0.N) : sProp 𝕄 :=
  iprop((dats m 0 c).Φ t.castSucc ∗ (dats m 0 c).owesAt () t.castSucc
    ∗ (∃ d, owns c.tc (st0_0 t) fullShare ((dats m 0 c).before 0 t d))
    ∗ (∃ d, owns c.tc (st0_1 t) fullShare ((dats m 0 c).before 1 t d))
    ∗ (∃ d, owns c.tc (st0_2 t) fullShare ((dats m 0 c).before 2 t d))
    ∗ (∃ d, owns c.tc (st0_3 t) fullShare ((dats m 0 c).before 3 t d))
    ∗ (∃ d, owns c.tc (st0_4 t) fullShare ((dats m 0 c).before 4 t d))
    ∗ (∃ d, owns c.tc (st0_5 t) fullShare ((dats m 0 c).before 5 t d))
    ∗ (∃ d, owns c.tc (st0_6 t) fullShare ((dats m 0 c).before 6 t d))
    ∗ (∃ d, owns c.tc (st0_7 t) fullShare ((dats m 0 c).before 7 t d)))

/-- and what it returns. -/
def stepPost (c : Dev nD) (t : Fin cfg0.N) : sProp 𝕄 :=
  iprop((dats m 0 c).Φ t.succ ∗ (dats m 0 c).owesAt () t.succ
    ∗ owns c.tc (st0_0 t) fullShare ((dats m 0 c).after 0 t)
    ∗ owns c.tc (st0_1 t) fullShare ((dats m 0 c).after 1 t)
    ∗ owns c.tc (st0_2 t) fullShare ((dats m 0 c).after 2 t)
    ∗ owns c.tc (st0_3 t) fullShare ((dats m 0 c).after 3 t)
    ∗ owns c.tc (st0_4 t) fullShare ((dats m 0 c).after 4 t)
    ∗ owns c.tc (st0_5 t) fullShare ((dats m 0 c).after 5 t)
    ∗ owns c.tc (st0_6 t) fullShare ((dats m 0 c).after 6 t)
    ∗ (dats m 0 c).leavesExact 7 t)

theorem leaves_7 (c : Dev nD) (t : Fin cfg0.N) :
    (dats m 0 c).leavesExact 7 t = owns c.tc (st0_7 t) fullShare ((dats m 0 c).after 7 t) := by
  unfold Dat.leavesExact; rw [stored_7 t]

set_option maxHeartbeats 1200000 in
theorem step_sound (c : Dev nD) (t : Fin cfg0.N) :
    stepPre m c t ⊢ wp frame (wpE (defs₀ (F := F)) Variants.none c none) Set.univ (bodyAt0 t) (fun _ => stepPost m c t) := by
  unfold stepPre stepPost bodyAt0
  simp only [before_0, before_1, before_2, before_3]
  rw [leaves_7, after_0, after_1, after_2, after_3, after_4, after_5, after_6, after_7, inv_castSucc m c t, inv_succ m c t]
  rw [show (dats m 0 c).owesAt () t.succ = (dats m 0 c).owesAt () t.castSucc from rfl]
  unfold inv
  by_cases h : t.val < 8
  · rw [hnOf_first m c t h, hnOut_first m c t h]
    iintro ⟨⟨⟨%X, %hX, HS⟩, Hg⟩, HW, ⟨%d0, H0⟩, ⟨%d1, H1⟩, ⟨%d2, H2⟩, ⟨%d3, H3⟩, ⟨%d4, H4⟩, ⟨%d5, H5⟩, ⟨%d6, H6⟩, ⟨%d7, H7⟩⟩
    iapply (run_A c (grid0.coords t) _ _ _ _ _ _ _ _ _ _ _ _ _ _ _ _ _ _ ((norms t).mpr h) (fun h' => absurd ((reads t).mp h') (by omega))
      (iblk m c 0 t) (iblk m c 1 t) (iblk m c 2 t) (iblk m c 3 t) X _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS]; · iexact HS
    iintro ⟨H0, H1, H2, H3, H4, H5, H6, H7, ⟨%Y, %hY, HS⟩⟩
    isplitl [HS Hg]
    · isplitl [HS]
      · iexists Y; isplitr; · ipureintro; exact kept_first m c t h X Y hX hY
        iexact HS
      iexact Hg
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have h8 : 8 ≤ t.val := Nat.le_of_not_lt h
    iintro ⟨⟨⟨%X, %hX, HS⟩, Hg⟩, HW, ⟨%d0, H0⟩, ⟨%d1, H1⟩, ⟨%d2, H2⟩, ⟨%d3, H3⟩, ⟨%d4, H4⟩, ⟨%d5, H5⟩, ⟨%d6, H6⟩, ⟨%d7, H7⟩⟩
    rw [← (kept_later m c t h8 X hX).1, ← (kept_later m c t h8 X hX).2]
    iapply (run_B c (grid0.coords t) _ _ _ _ _ _ _ _ _ _ _ _ _ _ _ _ _ _ (fun h' => absurd ((norms t).mp h') h) ((reads t).mpr h8)
      (iblk m c 0 t) (iblk m c 1 t) (iblk m c 2 t) (iblk m c 3 t) X _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]
      · iexists X; isplitr; · ipureintro; exact fun b hb _ => hX b hb (lt_of_lt_of_le hb h8)
        iexact HS
      iexact Hg
    isplitl [HW]; · iexact HW
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem step_row (t : Fin cfg0.N) :
    defs₀ (F := F) .tc cfg0.body (cfg0.bodyArgs t (cfg0.slots t)) = bodyAt0 t := by
  unfold defs₀; rw [Defs.onTc_tc]

theorem step_obligation (c : Dev nD) : BodyObligation (dats (F := F) m 0 c) (defs₀ (F := F)) Variants.none () Set.univ := fun t => by
  rw [bigSep_W0, bigSep_W0, step_row]
  exact triple_restated (step_sound m c t) rfl .rfl fun _ => .rfl

theorem scratch_eq (c : Dev nD) :
    (Pipeline.ΦA spec0 c : sProp 𝕄) = iprop((∃ d, owns c.tc scM fullShare d) ∗ (∃ r, prngReg c r)) := by
  unfold Pipeline.ΦA; rw [scopedRest0_eq]; simp only [scM, owns_whole]; try rfl

/-- The launch hands the invariant what it needs, -/
theorem hin (c : Dev nD) : Pipeline.ΦA spec0 c ⊢ (dats m 0 c).Φ 0 := by
  rw [scratch_eq, show (dats m 0 c).Φ 0 = inv m c 0 from rfl]
  unfold inv
  iintro ⟨⟨%X, HS⟩, Hg⟩
  isplitl [HS]
  · iexists X; isplitr; · ipureintro; exact fun b hb hlt => absurd hlt (Nat.not_lt_zero _)
    iexact HS
  iexact Hg
/-- and takes it back. -/
theorem hout (c : Dev nD) : (dats m 0 c).Φ (Fin.last cfg0.N) ⊢ Pipeline.ΦA spec0 c := by
  rw [scratch_eq, show (dats m 0 c).Φ (Fin.last cfg0.N) = inv m c grid0.N from rfl]
  unfold inv
  iintro ⟨⟨%X, %hX, HS⟩, Hg⟩
  isplitl [HS]
  · iexists X; iexact HS
  iexact Hg

/-! ## The run -/

set_option backward.isDefEq.respectTransparency.types false in
/-- Every execution ends with every counter at zero, each result at its blocks, every other array as the launch found it. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (step_obligation m c).loose) (hq := fun _ _ _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- Every execution ends, counters at zero, the arguments as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Kernel16Ideal.GateAct

end
-- ==== Proof.GateAct.Array.lean ====
/- The normed gate and up projections with the gated activation: the four result arrays at the end, from the arguments. -/
module

public import proofs.«01_k».proof.Proof.GateAct.Launch
public import proofs.«01_k».proof.Proof.Norm.Whole
public import Idealize.ShloMosaic.Lib.Pointwise.Tactic
public import Idealize.ShloMosaic.Lib.Pointwise.Contract
public import Idealize.ShloMosaic.Lib.Pointwise.Reshape
public import Idealize.ShloMosaic.Lib.Pointwise.Reduce

@[expose] public section

set_option maxRecDepth 16384

noncomputable section

namespace Cert.Kernel16Ideal.GateAct

open Cert.Kernel16Ideal Cert.Kernel16Ideal.Gen
open Idealize.ShloMosaic Idealize.ShloMosaic.TcCoe Idealize.ShloMosaic.Tactic
open Idealize.SL.Sem
open Cert.Kept (pair)
open Idealize.ShloMosaic.Pipeline (Dat)
open Cert.Norm (rinv)

/-! ## The step's values element by element -/

theorem normed_at (x : Vec Ideal S512x1024 .f32) (g : Vec Ideal S1x1024 .f32) (r : Fin 512) (d : Fin 1024) :
    k0_pay2 (F := Ideal) x g (ix2 r d) = x (ix2 r d) * rinv (fun e : Fin 1024 => x (ix2 r e)) * g (ix2 0 d) := by
  unfold k0_pay2
  pointwise
  rfl

section Step
variable (n : Vec Ideal S512x1024 .bf16) (wg wu : Vec Ideal S1x1024x1408 .bf16)

/-- A row of the normed input against a column of a block of weights. -/
def dotAt (w : Vec Ideal S1x1024x1408 .bf16) (r : Fin 512) (f : Fin 1408) : EReal := ∑ d : Fin 1024, n (ix2 r d) * w (ix3 0 d f)
/-- The activation of a number, and its slope as the kernel forms it. -/
def act (g : EReal) : EReal := g * Ideal.logistic g
def slope (g : EReal) : EReal := Ideal.logistic g + g * Ideal.logistic g * (1 - Ideal.logistic g)

theorem gate_at (r : Fin 512) (f : Fin 1408) : k0_pay4 (F := Ideal) n wg (ix2 r f) = dotAt n wg r f := by
  unfold k0_pay4
  pointwise
  rfl
theorem up_at (r : Fin 512) (f : Fin 1408) : k0_pay5 (F := Ideal) n wu (ix2 r f) = dotAt n wu r f := by
  unfold k0_pay5
  pointwise
  rfl
theorem logistic_at (r : Fin 512) (f : Fin 1408) : k0_pay6 (F := Ideal) n wg (ix2 r f) = Ideal.logistic (dotAt n wg r f) := by
  rw [← gate_at]
  unfold k0_pay6 Ideal.logistic
  pointwise
  rw [sub_eq_add_neg, zero_add]
theorem act_at (r : Fin 512) (f : Fin 1408) : k0_pay7 (F := Ideal) n wg (ix2 r f) = act (dotAt n wg r f) := by
  unfold act
  rw [← logistic_at, ← gate_at]
  rfl
theorem s_at (r : Fin 512) (f : Fin 1408) : k0_pay8 (F := Ideal) n wg (ix2 r f) = act (dotAt n wg r f) := by
  rw [← act_at]
  rfl
theorem ut_at (r : Fin 512) (f : Fin 1408) : k0_pay9 (F := Ideal) n wg n wu (ix2 r f) = dotAt n wu r f * slope (dotAt n wg r f) := by
  have e : slope (dotAt n wg r f) = k0_pay6 (F := Ideal) n wg (ix2 r f) + k0_pay7 (F := Ideal) n wg (ix2 r f) * (1 - k0_pay6 (F := Ideal) n wg (ix2 r f)) := by
    rw [logistic_at, act_at]
    rfl
  rw [e, ← up_at]
  unfold k0_pay9
  pointwise
theorem a_at (r : Fin 512) (f : Fin 1408) : k0_pay1 (F := Ideal) (k0_pay5 n wu) (k0_pay7 n wg) (ix2 r f) = act (dotAt n wg r f) * dotAt n wu r f := by
  rw [← act_at, ← up_at]
  rfl
end Step

/-! ## The arrays of the whole call -/

section Whole
variable (h : FVec Ideal S4096x1024 .f32) (g : FVec Ideal S1024 .f32) (w : FVec Ideal S1024x5632 .f32)

/-- The normed input. -/
def hnOfArr (r : Fin 4096) (d : Fin 1024) : EReal := h (ix2 r d) * rinv (fun e : Fin 1024 => h (ix2 r e)) * g (ix1 d)
/-- Its product with the weight: the gate's 2816 columns, then the up projection's. -/
def projOf (r : Fin 4096) (j : Fin 5632) : EReal := ∑ d : Fin 1024, hnOfArr h g r d * w (ix2 d j)
def gateOf (r : Fin 4096) (k : Fin 2816) : EReal := projOf h g w r ⟨k.val, by omega⟩
def upOf (r : Fin 4096) (k : Fin 2816) : EReal := projOf h g w r ⟨2816 + k.val, by omega⟩

def hnArr : FVec Ideal S4096x1024 .bf16 := fun i => hnOfArr h g ⟨(i 0).val, (i 0).isLt⟩ ⟨(i 1).val, (i 1).isLt⟩
/-- The activation, the up projection times the activation's slope, and the gated activation. -/
def sArr : FVec Ideal S4096x2816 .bf16 := fun i => act (gateOf h g w ⟨(i 0).val, (i 0).isLt⟩ ⟨(i 1).val, (i 1).isLt⟩)
def utArr : FVec Ideal S4096x2816 .bf16 := fun i =>
  upOf h g w ⟨(i 0).val, (i 0).isLt⟩ ⟨(i 1).val, (i 1).isLt⟩ * slope (gateOf h g w ⟨(i 0).val, (i 0).isLt⟩ ⟨(i 1).val, (i 1).isLt⟩)
def aArr : FVec Ideal S4096x2816 .bf16 := fun i =>
  act (gateOf h g w ⟨(i 0).val, (i 0).isLt⟩ ⟨(i 1).val, (i 1).isLt⟩) * upOf h g w ⟨(i 0).val, (i 0).isLt⟩ ⟨(i 1).val, (i 1).isLt⟩
end Whole

/-! ## The blocks -/

section Blocks
variable (m : (ℓ : Loc nD τ sig) → Buf (Elt Ideal) ℓ)

abbrev hA (c : Dev nD) : FVec Ideal S4096x1024 .f32 := m (c.tc.loc main_arg0)
abbrev gA (c : Dev nD) : FVec Ideal S1024 .f32 := m (c.tc.loc main_arg1)
abbrev wA (c : Dev nD) : FVec Ideal S1024x5632 .f32 := m (c.tc.loc main_arg2)

theorem tlt (t : Fin cfg0.N) : t.val < 16 := lt_of_lt_of_eq t.isLt (show cfg0.N = 16 from N_0)

theorem ix_0 : ∀ t : Fin cfg0.N, win0_0.index t = ![min t.val 7, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val / 8, 0, 0] := (by decide +kernel : ∀ t : Fin grid0.N, _)
theorem ix_3 : ∀ t : Fin cfg0.N, win0_3.index t = ![2 + t.val / 8, 0, 0] := (by decide +kernel : ∀ t : Fin grid0.N, _)
theorem ix_4 : ∀ t : Fin cfg0.N, win0_4.index t = ![t.val % 8, t.val / 8] := (by decide +kernel : ∀ t : Fin grid0.N, _)
theorem ix_5 : ∀ t : Fin cfg0.N, win0_5.index t = ![t.val % 8, t.val / 8] := (by decide +kernel : ∀ t : Fin grid0.N, _)
theorem ix_6 : ∀ t : Fin cfg0.N, win0_6.index t = ![t.val % 8, t.val / 8] := (by decide +kernel : ∀ t : Fin grid0.N, _)
theorem ix_7 : ∀ t : Fin cfg0.N, win0_7.index t = ![min t.val 7, 0] := (by decide +kernel : ∀ t : Fin grid0.N, _)

theorem blk_0 (c : Dev nD) (t : Fin cfg0.N) (r : Fin 512) (d : Fin 1024) : iblk m c 0 t (ix2 r d) = hA m c (ix2 (at8 (min t.val 7) (by omega) r) d) := by
  blk_simp [iblk, ix_0]
  rw [V_main_arg0]
  refine congrArg (hA m c) ?_
  unfold at8
  blk_ext [ix_0]
theorem V_gain (c : Dev nD) : (V m c main_v0 : FVec Ideal S1x1024 .f32) = shapeCast S1x1024 (gA m c) shapeCasts_S1024_S1x1024 := by
  unfold V
  after_results
  rfl
theorem blk_1 (c : Dev nD) (t : Fin cfg0.N) (d : Fin 1024) : iblk m c 1 t (ix2 0 d) = gA m c (ix1 d) := by
  have e : shapeCast S1x1024 (gA m c) shapeCasts_S1024_S1x1024 (ix2 0 d) = gA m c (ix1 d) := by pointwise
  rw [← e]
  blk_simp [iblk, ix_1]
  rw [V_gain]
  refine congrArg (shapeCast S1x1024 (gA m c) shapeCasts_S1024_S1x1024) ?_
  blk_ext [ix_1]

/-- The weight as the kernel takes it: its columns in four blocks, rounded. -/
def wArr (w : FVec Ideal S1024x5632 .f32) : FVec Ideal S4x1024x1408 .bf16 :=
  transpose S4x1024x1408 [1, 0, 2] (shapeCast S1024x4x1408 (truncf .bf16 w bitsLt_bf16_f32) shapeCasts_S1024x5632_S1024x4x1408) transposes_S1024x4x1408_S4x1024x1408_1_0_2
theorem V_w (c : Dev nD) : (V m c main_v3 : FVec Ideal S4x1024x1408 .bf16) = wArr (wA m c) := by
  unfold V
  after_results
  rfl
theorem wArr_at (w : FVec Ideal S1024x5632 .f32) (q : Fin 4) (d : Fin 1024) (f : Fin 1408) :
    wArr w (ix3 q d f) = w (ix2 d (⟨q.val * 1408 + f.val, by omega⟩ : Fin 5632)) := by
  unfold wArr
  pointwise

/-- Column f of block q of the 2816. -/
def feat (q : Nat) (hq : q < 2) (f : Fin 1408) : Fin 2816 := ⟨q * 1408 + f.val, by omega⟩
theorem half_lt (t : Fin cfg0.N) : t.val / 8 < 2 := by have := tlt t; omega

theorem blk_2 (c : Dev nD) (t : Fin cfg0.N) (d : Fin 1024) (f : Fin 1408) :
    iblk m c 2 t (ix3 0 d f) = wA m c (ix2 d (⟨(feat (t.val / 8) (half_lt t) f).val, by omega⟩ : Fin 5632)) := by
  have hq := half_lt t
  refine Eq.trans ?_ (wArr_at (wA m c) (⟨t.val / 8, by omega⟩ : Fin 4) d f)
  blk_simp [iblk, ix_2]
  rw [V_w]
  refine congrArg (wArr (wA m c)) ?_
  blk_ext [ix_2]
theorem blk_3 (c : Dev nD) (t : Fin cfg0.N) (d : Fin 1024) (f : Fin 1408) :
    iblk m c 3 t (ix3 0 d f) = wA m c (ix2 d (⟨2816 + (feat (t.val / 8) (half_lt t) f).val, by omega⟩ : Fin 5632)) := by
  have hq := half_lt t
  have e : (⟨2816 + (feat (t.val / 8) (half_lt t) f).val, by omega⟩ : Fin 5632) = ⟨(2 + t.val / 8) * 1408 + f.val, by omega⟩ :=
    Fin.ext (by show 2816 + (t.val / 8 * 1408 + f.val) = (2 + t.val / 8) * 1408 + f.val; omega)
  rw [e]
  refine Eq.trans ?_ (wArr_at (wA m c) (⟨2 + t.val / 8, by omega⟩ : Fin 4) d f)
  blk_simp [iblk, ix_3]
  rw [V_w]
  refine congrArg (wArr (wA m c)) ?_
  blk_ext [ix_3]

/-! ## What a point leaves -/

theorem hnAt_at (c : Dev nD) (b : Nat) (hb : b < 8) (r : Fin 512) (d : Fin 1024) : hnAt m c b hb (ix2 r d) = hnOfArr (hA m c) (gA m c) (at8 b hb r) d := by
  unfold hnAt
  rw [normed_at]
  simp only [blk_0, blk_1, show min b 7 = b by omega]
  rfl
theorem gate_block (c : Dev nD) (t : Fin cfg0.N) (r : Fin 512) (f : Fin 1408) : dotAt (hnOf m c t) (iblk m c 2 t) r f
    = gateOf (hA m c) (gA m c) (wA m c) (at8 (t.val % 8) (Nat.mod_lt _ (by decide)) r) (feat (t.val / 8) (half_lt t) f) := by
  unfold dotAt hnOf
  simp only [hnAt_at, blk_2]
  rfl
theorem up_block (c : Dev nD) (t : Fin cfg0.N) (r : Fin 512) (f : Fin 1408) : dotAt (hnOf m c t) (iblk m c 3 t) r f
    = upOf (hA m c) (gA m c) (wA m c) (at8 (t.val % 8) (Nat.mod_lt _ (by decide)) r) (feat (t.val / 8) (half_lt t) f) := by
  unfold dotAt hnOf
  simp only [hnAt_at, blk_3]
  rfl

/-! ## The arrays at the end -/

theorem s_eq (c : Dev nD) : (dats m 0 c).arrAt 4 cfg0.N = sArr (hA m c) (gA m c) (wA m c) := by
  refine (dats m 0 c).arrAt_eq_of_covers 4 _ (by decide +kernel) fun t hf y => ?_
  blk_simp
  rw [after_4]
  have hy0 : (y 0).val < 512 := (y 0).isLt
  have hy1 : (y 1).val < 1408 := (y 1).isLt
  rw [pair (A := 512) (B := 1408) y]
  refine (s_at _ _ _ _).trans ?_
  rw [gate_block]
  refine Eq.trans (b := (sArr (hA m c) (gA m c) (wA m c)) (ix2 (at8 (t.val % 8) (Nat.mod_lt _ (by decide)) ⟨(y 0).val, hy0⟩) (feat (t.val / 8) (half_lt t) ⟨(y 1).val, hy1⟩))) rfl
    (congrArg (sArr (hA m c) (gA m c) (wA m c)) ?_)
  unfold at8 feat
  blk_ext [ix_4]
theorem ut_eq (c : Dev nD) : (dats m 0 c).arrAt 5 cfg0.N = utArr (hA m c) (gA m c) (wA m c) := by
  refine (dats m 0 c).arrAt_eq_of_covers 5 _ (by decide +kernel) fun t hf y => ?_
  blk_simp
  rw [after_5]
  have hy0 : (y 0).val < 512 := (y 0).isLt
  have hy1 : (y 1).val < 1408 := (y 1).isLt
  rw [pair (A := 512) (B := 1408) y]
  refine (ut_at _ _ _ _ _).trans ?_
  rw [gate_block, up_block]
  refine Eq.trans (b := (utArr (hA m c) (gA m c) (wA m c)) (ix2 (at8 (t.val % 8) (Nat.mod_lt _ (by decide)) ⟨(y 0).val, hy0⟩) (feat (t.val / 8) (half_lt t) ⟨(y 1).val, hy1⟩))) rfl
    (congrArg (utArr (hA m c) (gA m c) (wA m c)) ?_)
  unfold at8 feat
  blk_ext [ix_5]
theorem a_eq (c : Dev nD) : (dats m 0 c).arrAt 6 cfg0.N = aArr (hA m c) (gA m c) (wA m c) := by
  refine (dats m 0 c).arrAt_eq_of_covers 6 _ (by decide +kernel) fun t hf y => ?_
  blk_simp
  rw [after_6]
  have hy0 : (y 0).val < 512 := (y 0).isLt
  have hy1 : (y 1).val < 1408 := (y 1).isLt
  rw [pair (A := 512) (B := 1408) y]
  refine (a_at _ _ _ _ _).trans ?_
  rw [gate_block, up_block]
  refine Eq.trans (b := (aArr (hA m c) (gA m c) (wA m c)) (ix2 (at8 (t.val % 8) (Nat.mod_lt _ (by decide)) ⟨(y 0).val, hy0⟩) (feat (t.val / 8) (half_lt t) ⟨(y 1).val, hy1⟩))) rfl
    (congrArg (aArr (hA m c) (gA m c) (wA m c)) ?_)
  unfold at8 feat
  blk_ext [ix_6]
theorem hn_eq (c : Dev nD) : (dats m 0 c).arrAt 7 cfg0.N = hnArr (hA m c) (gA m c) := by
  refine (dats m 0 c).arrAt_eq_of_covers 7 _ (by decide +kernel) fun t hf y => ?_
  blk_simp
  rw [after_7]
  have hy0 : (y 0).val < 512 := (y 0).isLt
  have hy1 : (y 1).val < 1024 := (y 1).isLt
  rw [pair (A := 512) (B := 1024) y]
  refine (hnAt_at m c _ _ _ _).trans ?_
  refine Eq.trans (b := (hnArr (hA m c) (gA m c)) (ix2 (at8 (min t.val 7) (by omega) ⟨(y 0).val, hy0⟩) (⟨(y 1).val, hy1⟩ : Fin 1024))) rfl
    (congrArg (hnArr (hA m c) (gA m c)) ?_)
  unfold at8
  blk_ext [ix_7]

theorem run_values (ρ : Dev nD → PrngReg) : θ_run defs (onTc (τ := τ) (main (F := Ideal))) ⟨m, fun _ => 0, ρ⟩ fun r => ∀ c : Dev nD,
      r.2.mem (c.tc.loc main_v4_0) = sArr (hA m c) (gA m c) (wA m c)
      ∧ r.2.mem (c.tc.loc main_v4_1) = utArr (hA m c) (gA m c) (wA m c)
      ∧ r.2.mem (c.tc.loc main_v4_2) = aArr (hA m c) (gA m c) (wA m c)
      ∧ r.2.mem (c.tc.loc main_v4_3) = hnArr (hA m c) (gA m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2) :=
  (θ_run defs _ _).mono (fun r h c => ⟨((h c).1 4).trans (s_eq m c), ((h c).1 5).trans (ut_eq m c), ((h c).1 6).trans (a_eq m c), ((h c).1 7).trans (hn_eq m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)
end Blocks

end Cert.Kernel16Ideal.GateAct
-- ==== Proof.GateAct.Ref.lean ====
/- The reference's normed input, its product with the gate's and the up projection's weights, the activation and its slope,
   element by element: the kernel's four results. -/
module

public import proofs.«01_k».proof.Proof.GateAct.Array
public import proofs.«01_k».proof.Proof.Norm.Back
public import proofs.«01_k».proof.Proof.Gen.Reference16Ideal.Read

@[expose] public section

set_option maxRecDepth 16384

noncomputable section

namespace Cert.Reference16Ideal.GateAct

open Cert.Reference16Ideal Cert.Reference16Ideal.Gen Cert.Reference16Ideal.Read
open Idealize.ShloMosaic Idealize.ShloMosaic.TcCoe
open Cert.Norm (rinv row)
open Cert.Kernel16Ideal.GateAct (hnOfArr projOf gateOf upOf hnArr sArr utArr aArr act slope)

variable (h : FVec Ideal S4096x1024 .f32) (g : FVec Ideal S1024 .f32) (w : FVec Ideal S1024x5632 .f32)

/-! ## The normed input and its product with the weight -/

theorem v7_at (r : Fin 4096) : val_main_v7 (F := Ideal) h (ix2 r (0 : Fin 1)) = rinv (row h r) :=
  Eq.trans (b := Cert.Reference6Ideal.Read.val_main_v7 (F := Ideal) h (ix2 r (0 : Fin 1))) rfl (Cert.Norm.rinv_at h r)
theorem v12_at (r : Fin 4096) (d : Fin 1024) : val_main_v12 (F := Ideal) h g (ix2 r d) = hnOfArr h g r d := by
  unfold hnOfArr
  rw [show rinv (fun e : Fin 1024 => h (ix2 r e)) = rinv (row h r) from rfl, ← v7_at]
  unfold val_main_v12 val_main_v9 val_main_v8 val_main_v11 val_main_v10
  pointwise
theorem v13_at (r : Fin 4096) (j : Fin 5632) : val_main_v13 (F := Ideal) h g w (ix2 r j) = projOf h g w r j := by
  rw [val_main_v13_apply]
  have eL : ∀ d, lidx_main_v13 (ix2 r j) d = ix2 r d := fun d => by funext b; fin_cases b <;> rfl
  have eR : ∀ d, ridx_main_v13 (ix2 r j) d = ix2 d j := fun d => by funext b; fin_cases b <;> rfl
  simp only [eL, eR, v12_at]
  rfl
theorem v14_at (r : Fin 4096) (k : Fin 2816) : val_main_v14 (F := Ideal) h g w (ix2 r k) = gateOf h g w r k := by
  rw [val_main_v14_apply]
  unfold gateOf
  rw [← v13_at]
  refine congrArg _ ?_
  funext b
  fin_cases b <;> rfl
theorem v15_at (r : Fin 4096) (k : Fin 2816) : val_main_v15 (F := Ideal) h g w (ix2 r k) = upOf h g w r k := by
  rw [val_main_v15_apply]
  unfold upOf
  rw [← v13_at]
  refine congrArg _ ?_
  funext b
  fin_cases b <;> rfl

/-! ## The activation and its slope -/

theorem v21_at (r : Fin 4096) (k : Fin 2816) : val_main_v21 (F := Ideal) h g w (ix2 r k) = Ideal.logistic (gateOf h g w r k) := by
  rw [← v14_at]
  unfold val_main_v21 val_main_v20 val_main_v19 val_main_v18 val_main_v17 val_main_v16 val_main_cst_2 val_main_cst_3 Ideal.logistic
  pointwise
theorem v25_at (r : Fin 4096) (k : Fin 2816) : val_main_v25 (F := Ideal) h g w (ix2 r k) = act (gateOf h g w r k) := by
  unfold act
  rw [← v21_at, ← v14_at]
  rfl
theorem v30_at (r : Fin 4096) (k : Fin 2816) : val_main_v30 (F := Ideal) h g w (ix2 r k) = slope (gateOf h g w r k) := by
  have e : val_main_v30 (F := Ideal) h g w (ix2 r k) = 1 * val_main_v21 (F := Ideal) h g w (ix2 r k)
      + val_main_v14 (F := Ideal) h g w (ix2 r k) * 1 * (val_main_v21 (F := Ideal) h g w (ix2 r k) * (1 - val_main_v21 (F := Ideal) h g w (ix2 r k))) := by
    unfold val_main_v30 val_main_v29 val_main_v28 val_main_v27 val_main_v26 val_main_v24 val_main_v23 val_main_v22 val_main_cst_4 val_main_cst_5
    pointwise
  rw [e, v21_at, v14_at, one_mul, mul_one, ← mul_assoc]
  rfl

/-! ## The results -/

theorem s_eq : val_main_v31 (F := Ideal) h g w = sArr h g w := by
  funext i
  idx_vars i
  exact Eq.trans (b := val_main_v25 (F := Ideal) h g w (ix2 i0 i1)) rfl (v25_at h g w i0 i1)
theorem ut_eq : val_main_v33 (F := Ideal) h g w = utArr h g w := by
  funext i
  idx_vars i
  exact Eq.trans (b := val_main_v15 (F := Ideal) h g w (ix2 i0 i1) * val_main_v30 (F := Ideal) h g w (ix2 i0 i1)) rfl
    (congrArg₂ (· * ·) (v15_at h g w i0 i1) (v30_at h g w i0 i1))
theorem a_eq : val_main_v35 (F := Ideal) h g w = aArr h g w := by
  funext i
  idx_vars i
  exact Eq.trans (b := val_main_v25 (F := Ideal) h g w (ix2 i0 i1) * val_main_v15 (F := Ideal) h g w (ix2 i0 i1)) rfl
    (congrArg₂ (· * ·) (v25_at h g w i0 i1) (v15_at h g w i0 i1))
theorem hn_eq : val_main_v36 (F := Ideal) h g = hnArr h g := by
  funext i
  idx_vars i
  exact Eq.trans (b := val_main_v12 (F := Ideal) h g (ix2 i0 i1)) rfl (v12_at h g i0 i1)

end Cert.Reference16Ideal.GateAct
-- ==== Proof.ConvIn.Body.lean ====
/- One grid step of the normalisation with the convolution's input product: the block of rows it normalises and keeps, or finds
   kept, and what it leaves in its two result blocks, in the two cases of its conditionals. -/
module

public import proofs.«01_k».proof.Proof.Gen.Kernel17Ideal.Frame
public import proofs.«01_k».proof.Proof.Norm.Kept
public import proofs.«01_k».proof.Proof.Gen.Kernel17Ideal.Skeleton

@[expose] public section

set_option maxRecDepth 16384

noncomputable section

namespace Cert.Kernel17Ideal.ConvIn

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kept
open Idealize.ShloMosaic.Pipeline (Dat Cfg Window BodyObligation cellOf)

variable {F : FTy → Type} [FloatOps F]

local notation "𝕄" => MT nD τ sig Unit (Elt F) ℕ (UR sig nD τ) ℕ

theorem off_1 : ∀ i : grid0.Coords, k0_off1 i = ![(i 1).val * 1024, 0] := by decide +kernel
theorem off_2 : ∀ i : grid0.Coords, k0_off2 i = ![(i 1).val * 1024, 0] := by decide +kernel
theorem lt4 (i : grid0.Coords) : (i 1).val < 4 := (i 1).isLt

/-! ## The step, from its blocks `x0` (tokens), `x1` (gain) and `x2` (the weights' columns); it doesn't read `x3` and `x4` -/

/-- The kept block is the normalised one. -/
theorem kept_eq (x0 : Vec F S1024x1024 .f32) (x1 : Vec F S1x1024 .f32) : k0_pay2 x0 x1 = k0_pay1 x0 x1 := shapeCast_self _ _

set_option maxHeartbeats 2000000 in
/-- The first four steps normalise a block of rows and keep it. -/
theorem run_A (c : Dev nD) (i : grid0.Coords) (arg2 : Memref sig .tc .vmem S1024x1024 .f32) (harg2 : arg2.IsWhole) (arg3 : Memref sig .tc .vmem S1x1024 .f32) (harg3 : arg3.IsWhole)
    (arg4 : Memref sig .tc .vmem S1x1024x768 .bf16) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x768 .bf16) (harg7 : arg7.IsWhole)
    (arg8 : Memref sig .tc .vmem S1024x1024 .bf16) (harg8 : arg8.IsWhole) (arg9 : Memref sig .tc .vmem S4096x1024 .bf16) (harg9 : arg9.IsWhole) (hc0 : k0_cond1 i = 1#1) (hc1 : ¬k0_cond2 i = 1#1)
    (x0 : Vec F S1024x1024 .f32) (x1 : Vec F S1x1024 .f32) (x2 : Vec F S1x1024x768 .bf16) (x3 x4 : Vec F S1024x128 .f32) (X : Vec F S4096x1024 .bf16) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4
        ∗ (∃ d, owns c.tc arg7 fullShare d) ∗ (∃ d, owns c.tc arg8 fullShare d) ∗ owns c.tc arg9 fullShare X
        ∗ (iprop(owns c.tc arg2 fullShare x0 ∗ owns c.tc arg3 fullShare x1 ∗ owns c.tc arg4 fullShare x2 ∗ owns c.tc arg5 fullShare x3 ∗ owns c.tc arg6 fullShare x4
            ∗ owns c.tc arg7 fullShare (k0_pay3 (k0_pay1 x0 x1) x2) ∗ owns c.tc arg8 fullShare (k0_pay1 x0 x1)
            ∗ (∃ Y : Vec F S4096x1024 .bf16, ⌜rows Y (i 1).val (lt4 i) = k0_pay1 x0 x1 ∧ ∀ b (hb : b < 4), b ≠ (i 1).val → rows Y b hb = rows X b hb⌝ ∗ owns c.tc arg9 fullShare Y)) -∗ K ⟨⟩))
      ⊢ wp frame (wpE (defs₀ (F := F)) Variants.none c none) Set.univ (cc0_f0_conv_in i arg2 harg2 arg3 harg3 arg4 harg4 arg5 harg5 arg6 harg6 arg7 harg7 arg8 harg8 arg9 harg9) K := by
  haveI : Fact (k0_cond1 i = 1#1) := ⟨hc0⟩
  haveI : Fact (¬k0_cond2 i = 1#1) := ⟨hc1⟩
  simp only [cc0_f0_conv_in_eq_skeleton]; unfold cc0_f0_conv_in_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  sl_exec (disch := first | sl_exact hc0 | sl_exact hc1)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr
    swap; · iexact H5
    ipureintro
    sl_unfold_run_names
    rw [load_stored _ (lt4 i) (off_1 i) (off_2 i)]
    simp only [load_whole _ _ _ hf0 zero2, load_whole _ _ _ hf1 zero2, load_whole _ _ _ hf2 zero3, kept_eq]
    exact store_whole _ _ _ _ _
  isplitl [H6]
  · iexists _; isplitr
    swap; · iexact H6
    ipureintro
    sl_unfold_run_names
    simp only [load_whole _ _ _ hf0 zero2, load_whole _ _ _ hf1 zero2, kept_eq]
    exact store_whole _ _ _ _ _
  iexists _; isplitr
  swap
  · iexists _; isplitr
    swap; · iexact HS
    ipureintro; rfl
  ipureintro
  sl_unfold_run_names
  simp only [load_whole _ _ _ hf0 zero2, load_whole _ _ _ hf1 zero2, kept_eq]
  refine ⟨store_rows _ _ _ _ _ _ (off_1 i) _, fun b hb hne => ?_⟩
  rw [← hfs]
  exact store_other _ _ _ _ (lt4 i) _ (off_1 i) _ b hb hne

set_option maxHeartbeats 2000000 in
/-- The others find it kept, and leave the last block in the second result. -/
theorem run_B (c : Dev nD) (i : grid0.Coords) (arg2 : Memref sig .tc .vmem S1024x1024 .f32) (harg2 : arg2.IsWhole) (arg3 : Memref sig .tc .vmem S1x1024 .f32) (harg3 : arg3.IsWhole)
    (arg4 : Memref sig .tc .vmem S1x1024x768 .bf16) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x768 .bf16) (harg7 : arg7.IsWhole)
    (arg8 : Memref sig .tc .vmem S1024x1024 .bf16) (harg8 : arg8.IsWhole) (arg9 : Memref sig .tc .vmem S4096x1024 .bf16) (harg9 : arg9.IsWhole) (hc0 : ¬k0_cond1 i = 1#1) (hc1 : k0_cond2 i = 1#1)
    (x0 : Vec F S1024x1024 .f32) (x1 : Vec F S1x1024 .f32) (x2 : Vec F S1x1024x768 .bf16) (x3 x4 : Vec F S1024x128 .f32) (X : Vec F S4096x1024 .bf16) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4
        ∗ (∃ d, owns c.tc arg7 fullShare d) ∗ (∃ d, owns c.tc arg8 fullShare d) ∗ owns c.tc arg9 fullShare X
        ∗ (iprop(owns c.tc arg2 fullShare x0 ∗ owns c.tc arg3 fullShare x1 ∗ owns c.tc arg4 fullShare x2 ∗ owns c.tc arg5 fullShare x3 ∗ owns c.tc arg6 fullShare x4
            ∗ owns c.tc arg7 fullShare (k0_pay3 (rows X (i 1).val (lt4 i)) x2) ∗ owns c.tc arg8 fullShare (rows X 3 (by decide))
            ∗ owns c.tc arg9 fullShare X) -∗ K ⟨⟩))
      ⊢ wp frame (wpE (defs₀ (F := F)) Variants.none c none) Set.univ (cc0_f0_conv_in i arg2 harg2 arg3 harg3 arg4 harg4 arg5 harg5 arg6 harg6 arg7 harg7 arg8 harg8 arg9 harg9) K := by
  haveI : Fact (¬k0_cond1 i = 1#1) := ⟨hc0⟩
  haveI : Fact (k0_cond2 i = 1#1) := ⟨hc1⟩
  simp only [cc0_f0_conv_in_eq_skeleton]; unfold cc0_f0_conv_in_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  sl_exec (disch := first | sl_exact hc0 | sl_exact hc1)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr
    swap; · iexact H5
    ipureintro
    sl_unfold_run_names
    simp only [load_rows _ _ _ hfs _ (lt4 i) _ (off_2 i), load_whole _ _ _ hf2 zero3]
    exact store_whole _ _ _ _ _
  isplitl [H6]
  · iexists _; isplitr
    swap; · iexact H6
    ipureintro
    sl_unfold_run_names
    simp only [load_rows _ _ _ hfs 3 (by decide) _ rfl]
    exact store_whole _ _ _ _ _
  iexists _; isplitr
  swap; · iexact HS
  ipureintro; exact hfs

end Cert.Kernel17Ideal.ConvIn

end
-- ==== Proof.ConvIn.Launch.lean ====
/- The convolution's input product with the norm before it, launched: the proof data of the one pipeline (each result's
   block at a point, the normed rows kept between points), each point's obligation from the runs of Body.lean, and the run. -/
module

public import proofs.«01_k».proof.Proof.ConvIn.Body
public import Idealize.ShloMosaic.Lib.Pipeline.FrameValue
public import Idealize.ShloMosaic.Lib.Pipeline.ValueKit

@[expose] public section

set_option maxRecDepth 16384

noncomputable section

namespace Cert.Kernel17Ideal.ConvIn

open Cert.Kernel17Ideal Cert.Kernel17Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kept
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points take which branch -/

theorem norms : ∀ t : Fin cfg0.N, k0_cond1 (grid0.coords t) = 1#1 ↔ t.val < 4 := by decide +kernel
theorem reads : ∀ t : Fin cfg0.N, k0_cond2 (grid0.coords t) = 1#1 ↔ 4 ≤ t.val := by decide +kernel
theorem row_of : ∀ t : Fin cfg0.N, ((grid0.coords t) 1).val = t.val % 4 := by decide +kernel
/-- The normed rows' result is stored at every point. -/
theorem stored_6 : ∀ t : Fin cfg0.N, cfg0.idle 6 (grid0.coords t) = false := by decide +kernel

/-! ## The proof data -/

/-- Block b of the normed rows: what point b computes. -/
def hnAt (c : Dev nD) (b : Nat) (hb : b < 4) : Vec F S1024x1024 .bf16 :=
  k0_pay1 (iblk m c 0 ⟨b, lt_of_lt_of_eq (show b < 16 by omega) N_0.symm⟩) (iblk m c 1 ⟨b, lt_of_lt_of_eq (show b < 16 by omega) N_0.symm⟩)
/-- The normed rows the point t reads. -/
def hnOf (c : Dev nD) (t : Fin cfg0.N) : Vec F S1024x1024 .bf16 := hnAt m c (t.val % 4) (Nat.mod_lt _ (by decide))
/-- The normed rows it writes back: its own in the first four points, the last block's in the others. -/
def hnOut (c : Dev nD) (t : Fin cfg0.N) : Vec F S1024x1024 .bf16 := hnAt m c (min t.val 3) (by omega)

theorem hnAt_eq (c : Dev nD) (b : Nat) (hb : b < 4) (b' : Nat) (hb' : b' < 4) (e : b = b') : hnAt m c b hb = hnAt m c b' hb' := by
  subst e; rfl
theorem hnAt_point (c : Dev nD) (t : Fin cfg0.N) (h : t.val < 4) : hnAt m c t.val h = k0_pay1 (iblk m c 0 t) (iblk m c 1 t) := rfl
theorem hnOf_first (c : Dev nD) (t : Fin cfg0.N) (h : t.val < 4) : hnOf m c t = k0_pay1 (iblk m c 0 t) (iblk m c 1 t) :=
  (hnAt_eq m c _ _ t.val h (Nat.mod_eq_of_lt h)).trans (hnAt_point m c t h)
theorem hnOut_first (c : Dev nD) (t : Fin cfg0.N) (h : t.val < 4) : hnOut m c t = k0_pay1 (iblk m c 0 t) (iblk m c 1 t) :=
  (hnAt_eq m c _ _ t.val h (by omega)).trans (hnAt_point m c t h)
theorem hnOut_later (c : Dev nD) (t : Fin cfg0.N) (h : 4 ≤ t.val) : hnOut m c t = hnAt m c 3 (by decide) :=
  hnAt_eq m c _ _ 3 (by decide) (by omega)

/-- The scratch buffer of the normed rows. -/
abbrev scM : Memref sig .tc .vmem S4096x1024 .bf16 := Memref.whole cc0_scratch0

/-- Before point k: the scratch holds the normed rows of the first k blocks. -/
def inv (c : Dev nD) (k : ℕ) : sProp 𝕄 :=
  iprop((∃ X : Vec F S4096x1024 .bf16, ⌜∀ b (hb : b < 4), b < k → rows X b hb = hnAt m c b hb⌝ ∗ owns c.tc scM fullShare X)
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay3 (hnOf m c t) (iblk m c 2 t)
    | ⟨6, _⟩ => hnOut m c t
  Φ t := inv m c t.val
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) : (dats m 0 c).Φ t.castSucc = inv m c t.val := by
  dsimp only [dats]; simp only [Fin.coe_castSucc]
theorem inv_succ (c : Dev nD) (t : Fin cfg0.N) : (dats m 0 c).Φ t.succ = inv m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = k0_pay3 (hnOf m c t) (iblk m c 2 t) := by dsimp only [dats]
theorem after_6 (c : Dev nD) (t : Fin cfg0.N) : (dats m 0 c).after 6 t = hnOut m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- The scratch after a point of the first column of blocks, -/
theorem kept_first (c : Dev nD) (t : Fin cfg0.N) (h : t.val < 4) (X Y : Vec F S4096x1024 .bf16)
    (hX : ∀ b (hb : b < 4), b < t.val → rows X b hb = hnAt m c b hb)
    (hY : rows Y ((grid0.coords t) 1).val (lt4 (grid0.coords t)) = k0_pay1 (iblk m c 0 t) (iblk m c 1 t)
      ∧ ∀ b (hb : b < 4), b ≠ ((grid0.coords t) 1).val → rows Y b hb = rows X b hb) :
    ∀ b (hb : b < 4), b < t.val + 1 → rows Y b hb = hnAt m c b hb := by
  intro b hb hlt
  have e : ((grid0.coords t) 1).val = t.val := (row_of t).trans (Nat.mod_eq_of_lt h)
  by_cases hbt : b = t.val
  · have hb' : b = ((grid0.coords t) 1).val := hbt.trans e.symm
    have h1 := hY.1
    have h2 : rows Y b hb = rows Y ((grid0.coords t) 1).val (lt4 (grid0.coords t)) := by
      congr 1
    rw [h2, h1, ← hnAt_point m c t h]
    exact hnAt_eq m c _ _ _ _ hbt.symm
  · rw [hY.2 b hb (fun h' => hbt (h'.trans e))]
    exact hX b hb (by omega)
/-- and what a later point reads there. -/
theorem kept_later (c : Dev nD) (t : Fin cfg0.N) (h : 4 ≤ t.val) (X : Vec F S4096x1024 .bf16)
    (hX : ∀ b (hb : b < 4), b < t.val → rows X b hb = hnAt m c b hb) :
    rows X ((grid0.coords t) 1).val (lt4 (grid0.coords t)) = hnOf m c t ∧ rows X 3 (by decide) = hnOut m c t := by
  refine ⟨(hX _ _ (lt_of_lt_of_le (lt4 _) h)).trans (hnAt_eq m c _ _ _ _ (row_of t)), ?_⟩
  rw [hnOut_later m c t h]
  exact hX 3 (by decide) (by omega)

/-! ## One point -/

/-- What a point is called with, -/
def stepPre (c : Dev nD) (t : Fin cfg0.N) : sProp 𝕄 :=
  iprop((dats m 0 c).Φ t.castSucc ∗ (dats m 0 c).owesAt () t.castSucc
    ∗ (∃ d, owns c.tc (st0_0 t) fullShare ((dats m 0 c).before 0 t d))
    ∗ (∃ d, owns c.tc (st0_1 t) fullShare ((dats m 0 c).before 1 t d))
    ∗ (∃ d, owns c.tc (st0_2 t) fullShare ((dats m 0 c).before 2 t d))
    ∗ (∃ d, owns c.tc (st0_3 t) fullShare ((dats m 0 c).before 3 t d))
    ∗ (∃ d, owns c.tc (st0_4 t) fullShare ((dats m 0 c).before 4 t d))
    ∗ (∃ d, owns c.tc (st0_5 t) fullShare ((dats m 0 c).before 5 t d))
    ∗ (∃ d, owns c.tc (st0_6 t) fullShare ((dats m 0 c).before 6 t d)))

/-- and what it returns. -/
def stepPost (c : Dev nD) (t : Fin cfg0.N) : sProp 𝕄 :=
  iprop((dats m 0 c).Φ t.succ ∗ (dats m 0 c).owesAt () t.succ
    ∗ owns c.tc (st0_0 t) fullShare ((dats m 0 c).after 0 t)
    ∗ owns c.tc (st0_1 t) fullShare ((dats m 0 c).after 1 t)
    ∗ owns c.tc (st0_2 t) fullShare ((dats m 0 c).after 2 t)
    ∗ owns c.tc (st0_3 t) fullShare ((dats m 0 c).after 3 t)
    ∗ owns c.tc (st0_4 t) fullShare ((dats m 0 c).after 4 t)
    ∗ owns c.tc (st0_5 t) fullShare ((dats m 0 c).after 5 t)
    ∗ (dats m 0 c).leavesExact 6 t)

theorem leaves_6 (c : Dev nD) (t : Fin cfg0.N) :
    (dats m 0 c).leavesExact 6 t = owns c.tc (st0_6 t) fullShare ((dats m 0 c).after 6 t) := by
  unfold Dat.leavesExact; rw [stored_6 t]

set_option maxHeartbeats 1200000 in
theorem step_sound (c : Dev nD) (t : Fin cfg0.N) :
    stepPre m c t ⊢ wp frame (wpE (defs₀ (F := F)) Variants.none c none) Set.univ (bodyAt0 t) (fun _ => stepPost m c t) := by
  unfold stepPre stepPost bodyAt0
  simp only [before_0, before_1, before_2, before_3, before_4]
  rw [leaves_6, after_0, after_1, after_2, after_3, after_4, after_5, after_6, inv_castSucc m c t, inv_succ m c t]
  rw [show (dats m 0 c).owesAt () t.succ = (dats m 0 c).owesAt () t.castSucc from rfl]
  unfold inv
  by_cases h : t.val < 4
  · rw [hnOf_first m c t h, hnOut_first m c t h]
    iintro ⟨⟨⟨%X, %hX, HS⟩, Hg⟩, HW, ⟨%d0, H0⟩, ⟨%d1, H1⟩, ⟨%d2, H2⟩, ⟨%d3, H3⟩, ⟨%d4, H4⟩, ⟨%d5, H5⟩, ⟨%d6, H6⟩⟩
    iapply (run_A c (grid0.coords t) _ _ _ _ _ _ _ _ _ _ _ _ _ _ _ _ ((norms t).mpr h) (fun h' => absurd ((reads t).mp h') (by omega))
      (iblk m c 0 t) (iblk m c 1 t) (iblk m c 2 t) (iblk m c 3 t) (iblk m c 4 t) X _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, ⟨%Y, %hY, HS⟩⟩
    isplitl [HS Hg]
    · isplitl [HS]
      · iexists Y; isplitr; · ipureintro; exact kept_first m c t h X Y hX hY
        iexact HS
      iexact Hg
    isplitl [HW]; · iexact HW
    isplitl [H0]; · iexact H0
    isplitl [H1]; · iexact H1
    isplitl [H2]; · iexact H2
    isplitl [H3]; · iexact H3
    isplitl [H4]; · iexact H4
    isplitl [H5]; · iexact H5
    iexact H6
  · have h4 : 4 ≤ t.val := Nat.le_of_not_lt h
    iintro ⟨⟨⟨%X, %hX, HS⟩, Hg⟩, HW, ⟨%d0, H0⟩, ⟨%d1, H1⟩, ⟨%d2, H2⟩, ⟨%d3, H3⟩, ⟨%d4, H4⟩, ⟨%d5, H5⟩, ⟨%d6, H6⟩⟩
    rw [← (kept_later m c t h4 X hX).1, ← (kept_later m c t h4 X hX).2]
    iapply (run_B c (grid0.coords t) _ _ _ _ _ _ _ _ _ _ _ _ _ _ _ _ (fun h' => absurd ((norms t).mp h') h) ((reads t).mpr h4)
      (iblk m c 0 t) (iblk m c 1 t) (iblk m c 2 t) (iblk m c 3 t) (iblk m c 4 t) X _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]
      · iexists X; isplitr; · ipureintro; exact fun b hb _ => hX b hb (lt_of_lt_of_le hb h4)
        iexact HS
      iexact Hg
    isplitl [HW]; · iexact HW
    isplitl [H0]; · iexact H0
    isplitl [H1]; · iexact H1
    isplitl [H2]; · iexact H2
    isplitl [H3]; · iexact H3
    isplitl [H4]; · iexact H4
    isplitl [H5]; · iexact H5
    iexact H6

theorem step_row (t : Fin cfg0.N) :
    defs₀ (F := F) .tc cfg0.body (cfg0.bodyArgs t (cfg0.slots t)) = bodyAt0 t := by
  unfold defs₀; rw [Defs.onTc_tc]

theorem step_obligation (c : Dev nD) : BodyObligation (dats (F := F) m 0 c) (defs₀ (F := F)) Variants.none () Set.univ := fun t => by
  rw [bigSep_W0, bigSep_W0, step_row]
  exact triple_restated (step_sound m c t) rfl .rfl fun _ => .rfl

theorem scratch_eq (c : Dev nD) :
    (Pipeline.ΦA spec0 c : sProp 𝕄) = iprop((∃ d, owns c.tc scM fullShare d) ∗ (∃ r, prngReg c r)) := by
  unfold Pipeline.ΦA; rw [scopedRest0_eq]; simp only [scM, owns_whole]; try rfl

/-- The launch hands the invariant what it needs, -/
theorem hin (c : Dev nD) : Pipeline.ΦA spec0 c ⊢ (dats m 0 c).Φ 0 := by
  rw [scratch_eq, show (dats m 0 c).Φ 0 = inv m c 0 from rfl]
  unfold inv
  iintro ⟨⟨%X, HS⟩, Hg⟩
  isplitl [HS]
  · iexists X; isplitr; · ipureintro; exact fun b hb hlt => absurd hlt (Nat.not_lt_zero _)
    iexact HS
  iexact Hg
/-- and takes it back. -/
theorem hout (c : Dev nD) : (dats m 0 c).Φ (Fin.last cfg0.N) ⊢ Pipeline.ΦA spec0 c := by
  rw [scratch_eq, show (dats m 0 c).Φ (Fin.last cfg0.N) = inv m c grid0.N from rfl]
  unfold inv
  iintro ⟨⟨%X, %hX, HS⟩, Hg⟩
  isplitl [HS]
  · iexists X; iexact HS
  iexact Hg

/-! ## The run -/

set_option backward.isDefEq.respectTransparency.types false in
/-- Every execution ends with every counter at zero, each result at its blocks, every other array as the launch found it. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (step_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- Every execution ends, counters at zero, the arguments as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Kernel17Ideal.ConvIn

end
-- ==== Proof.ConvIn.Array.lean ====
/- The convolution's input product with the norm before it: the two result arrays at the end, from the arguments. -/
module

public import proofs.«01_k».proof.Proof.ConvIn.Launch
public import proofs.«01_k».proof.Proof.Norm.Whole
public import Idealize.ShloMosaic.Lib.Pointwise.Tactic
public import Idealize.ShloMosaic.Lib.Pointwise.Contract
public import Idealize.ShloMosaic.Lib.Pointwise.Reshape
public import Idealize.ShloMosaic.Lib.Pointwise.Reduce

@[expose] public section

set_option maxRecDepth 16384

noncomputable section

namespace Cert.Kernel17Ideal.ConvIn

open Cert.Kernel17Ideal Cert.Kernel17Ideal.Gen
open Idealize.ShloMosaic Idealize.ShloMosaic.TcCoe Idealize.ShloMosaic.Tactic
open Idealize.SL.Sem
open Cert.Kept
open Idealize.ShloMosaic.Pipeline (Dat)
open Cert.Norm (rinv)

/-! ## The step's values element by element -/

theorem normed_at (x : Vec Ideal S1024x1024 .f32) (g : Vec Ideal S1x1024 .f32) (r : Fin 1024) (d : Fin 1024) :
    k0_pay1 (F := Ideal) x g (ix2 r d) = x (ix2 r d) * rinv (fun e : Fin 1024 => x (ix2 r e)) * g (ix2 0 d) := by
  unfold k0_pay1
  pointwise
  rfl

/-- A row of the normed input against a column of a block of weights. -/
def dotAt (n : Vec Ideal S1024x1024 .bf16) (w : Vec Ideal S1x1024x768 .bf16) (r : Fin 1024) (f : Fin 768) : EReal := ∑ d : Fin 1024, n (ix2 r d) * w (ix3 0 d f)
theorem z_at (n : Vec Ideal S1024x1024 .bf16) (w : Vec Ideal S1x1024x768 .bf16) (r : Fin 1024) (f : Fin 768) : k0_pay3 (F := Ideal) n w (ix2 r f) = dotAt n w r f := by
  unfold k0_pay3
  pointwise
  rfl

/-! ## The arrays of the whole call -/

section Whole
variable (h : FVec Ideal S4096x1024 .f32) (g : FVec Ideal S1024 .f32) (w : FVec Ideal S1024x3072 .f32)

/-- The normed input. -/
def hnOfArr (r : Fin 4096) (d : Fin 1024) : EReal := h (ix2 r d) * rinv (fun e : Fin 1024 => h (ix2 r e)) * g (ix1 d)
/-- Its product with the weight. -/
def projOf (r : Fin 4096) (j : Fin 3072) : EReal := ∑ d : Fin 1024, hnOfArr h g r d * w (ix2 d j)

def hnArr : FVec Ideal S4096x1024 .bf16 := fun i => hnOfArr h g ⟨(i 0).val, (i 0).isLt⟩ ⟨(i 1).val, (i 1).isLt⟩
def zArr : FVec Ideal S4096x3072 .bf16 := fun i => projOf h g w ⟨(i 0).val, (i 0).isLt⟩ ⟨(i 1).val, (i 1).isLt⟩
end Whole

/-! ## The blocks -/

section Blocks
variable (m : (ℓ : Loc nD τ sig) → Buf (Elt Ideal) ℓ)

abbrev hA (c : Dev nD) : FVec Ideal S4096x1024 .f32 := m (c.tc.loc main_arg0)
abbrev gA (c : Dev nD) : FVec Ideal S1024 .f32 := m (c.tc.loc main_arg1)
abbrev wA (c : Dev nD) : FVec Ideal S1024x3072 .f32 := m (c.tc.loc main_arg2)

theorem tlt (t : Fin cfg0.N) : t.val < 16 := lt_of_lt_of_eq t.isLt (show cfg0.N = 16 from N_0)

theorem ix_0 : ∀ t : Fin cfg0.N, win0_0.index t = ![min t.val 3, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val / 4, 0, 0] := (by decide +kernel : ∀ t : Fin grid0.N, _)
theorem ix_5 : ∀ t : Fin cfg0.N, win0_5.index t = ![t.val % 4, t.val / 4] := (by decide +kernel : ∀ t : Fin grid0.N, _)
theorem ix_6 : ∀ t : Fin cfg0.N, win0_6.index t = ![min t.val 3, 0] := (by decide +kernel : ∀ t : Fin grid0.N, _)

theorem blk_0 (c : Dev nD) (t : Fin cfg0.N) (r : Fin 1024) (d : Fin 1024) : iblk m c 0 t (ix2 r d) = hA m c (ix2 (at4 (min t.val 3) (by omega) r) d) := by
  blk_simp [iblk, ix_0]
  rw [V_main_arg0]
  refine congrArg (hA m c) ?_
  unfold at4
  blk_ext [ix_0]
theorem V_gain (c : Dev nD) : (V m c main_v0 : FVec Ideal S1x1024 .f32) = shapeCast S1x1024 (gA m c) shapeCasts_S1024_S1x1024 := by
  unfold V
  after_results
  rfl
theorem blk_1 (c : Dev nD) (t : Fin cfg0.N) (d : Fin 1024) : iblk m c 1 t (ix2 0 d) = gA m c (ix1 d) := by
  have e : shapeCast S1x1024 (gA m c) shapeCasts_S1024_S1x1024 (ix2 0 d) = gA m c (ix1 d) := by pointwise
  rw [← e]
  blk_simp [iblk, ix_1]
  rw [V_gain]
  refine congrArg (shapeCast S1x1024 (gA m c) shapeCasts_S1024_S1x1024) ?_
  blk_ext [ix_1]

/-- The weight as the kernel takes it: its columns in four blocks, rounded. -/
def wArr (w : FVec Ideal S1024x3072 .f32) : FVec Ideal S4x1024x768 .bf16 :=
  transpose S4x1024x768 [1, 0, 2] (shapeCast S1024x4x768 (truncf .bf16 w bitsLt_bf16_f32) shapeCasts_S1024x3072_S1024x4x768) transposes_S1024x4x768_S4x1024x768_1_0_2
theorem V_w (c : Dev nD) : (V m c main_v3 : FVec Ideal S4x1024x768 .bf16) = wArr (wA m c) := by
  unfold V
  after_results
  rfl
theorem wArr_at (w : FVec Ideal S1024x3072 .f32) (q : Fin 4) (d : Fin 1024) (f : Fin 768) :
    wArr w (ix3 q d f) = w (ix2 d (⟨q.val * 768 + f.val, by omega⟩ : Fin 3072)) := by
  unfold wArr
  pointwise

/-- Column f of block q of the 3072. -/
def feat (q : Nat) (hq : q < 4) (f : Fin 768) : Fin 3072 := ⟨q * 768 + f.val, by omega⟩
theorem col_lt (t : Fin cfg0.N) : t.val / 4 < 4 := by have := tlt t; omega

theorem blk_2 (c : Dev nD) (t : Fin cfg0.N) (d : Fin 1024) (f : Fin 768) :
    iblk m c 2 t (ix3 0 d f) = wA m c (ix2 d (feat (t.val / 4) (col_lt t) f)) := by
  refine Eq.trans ?_ (wArr_at (wA m c) (⟨t.val / 4, col_lt t⟩ : Fin 4) d f)
  blk_simp [iblk, ix_2]
  rw [V_w]
  refine congrArg (wArr (wA m c)) ?_
  blk_ext [ix_2]

/-! ## What a point leaves -/

theorem hnAt_at (c : Dev nD) (b : Nat) (hb : b < 4) (r : Fin 1024) (d : Fin 1024) : hnAt m c b hb (ix2 r d) = hnOfArr (hA m c) (gA m c) (at4 b hb r) d := by
  unfold hnAt
  rw [normed_at]
  simp only [blk_0, blk_1, show min b 3 = b by omega]
  rfl
theorem z_block (c : Dev nD) (t : Fin cfg0.N) (r : Fin 1024) (f : Fin 768) : dotAt (hnOf m c t) (iblk m c 2 t) r f
    = projOf (hA m c) (gA m c) (wA m c) (at4 (t.val % 4) (Nat.mod_lt _ (by decide)) r) (feat (t.val / 4) (col_lt t) f) := by
  unfold dotAt hnOf
  simp only [hnAt_at, blk_2]
  rfl

/-! ## The arrays at the end -/

theorem z_eq (c : Dev nD) : (dats m 0 c).arrAt 5 cfg0.N = zArr (hA m c) (gA m c) (wA m c) := by
  refine (dats m 0 c).arrAt_eq_of_covers 5 _ (by decide +kernel) fun t hf y => ?_
  blk_simp
  rw [after_5]
  have hy0 : (y 0).val < 1024 := (y 0).isLt
  have hy1 : (y 1).val < 768 := (y 1).isLt
  rw [pair (A := 1024) (B := 768) y]
  refine (z_at _ _ _ _).trans ?_
  rw [z_block]
  refine Eq.trans (b := (zArr (hA m c) (gA m c) (wA m c)) (ix2 (at4 (t.val % 4) (Nat.mod_lt _ (by decide)) ⟨(y 0).val, hy0⟩) (feat (t.val / 4) (col_lt t) ⟨(y 1).val, hy1⟩))) rfl
    (congrArg (zArr (hA m c) (gA m c) (wA m c)) ?_)
  unfold at4 feat
  blk_ext [ix_5]
theorem hn_eq (c : Dev nD) : (dats m 0 c).arrAt 6 cfg0.N = hnArr (hA m c) (gA m c) := by
  refine (dats m 0 c).arrAt_eq_of_covers 6 _ (by decide +kernel) fun t hf y => ?_
  blk_simp
  rw [after_6]
  have hy0 : (y 0).val < 1024 := (y 0).isLt
  have hy1 : (y 1).val < 1024 := (y 1).isLt
  rw [pair (A := 1024) (B := 1024) y]
  refine (hnAt_at m c _ _ _ _).trans ?_
  refine Eq.trans (b := (hnArr (hA m c) (gA m c)) (ix2 (at4 (min t.val 3) (by omega) ⟨(y 0).val, hy0⟩) (⟨(y 1).val, hy1⟩ : Fin 1024))) rfl
    (congrArg (hnArr (hA m c) (gA m c)) ?_)
  unfold at4
  blk_ext [ix_6]

theorem run_values (ρ : Dev nD → PrngReg) : θ_run defs (onTc (τ := τ) (main (F := Ideal))) ⟨m, fun _ => 0, ρ⟩ fun r => ∀ c : Dev nD,
      r.2.mem (c.tc.loc main_v26_0) = zArr (hA m c) (gA m c) (wA m c)
      ∧ r.2.mem (c.tc.loc main_v26_1) = hnArr (hA m c) (gA m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨((h c).1 5).trans (z_eq m c), ((h c).1 6).trans (hn_eq m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)
end Blocks

end Cert.Kernel17Ideal.ConvIn
-- ==== Proof.ConvIn.Ref.lean ====
/- The reference's normed input and its product with the convolution's input weight, element by element: the kernel's two results. -/
module

public import proofs.«01_k».proof.Proof.ConvIn.Array
public import proofs.«01_k».proof.Proof.Norm.Back
public import proofs.«01_k».proof.Proof.Gen.Reference17Ideal.Read

@[expose] public section

set_option maxRecDepth 16384

noncomputable section

namespace Cert.Reference17Ideal.ConvIn

open Cert.Reference17Ideal Cert.Reference17Ideal.Gen Cert.Reference17Ideal.Read
open Idealize.ShloMosaic Idealize.ShloMosaic.TcCoe
open Cert.Norm (rinv row)
open Cert.Kernel17Ideal.ConvIn (hnOfArr projOf hnArr zArr)

variable (h : FVec Ideal S4096x1024 .f32) (g : FVec Ideal S1024 .f32) (w : FVec Ideal S1024x3072 .f32)

theorem v7_at (r : Fin 4096) : val_main_v7 (F := Ideal) h (ix2 r (0 : Fin 1)) = rinv (row h r) :=
  Eq.trans (b := Cert.Reference6Ideal.Read.val_main_v7 (F := Ideal) h (ix2 r (0 : Fin 1))) rfl (Cert.Norm.rinv_at h r)
theorem v12_at (r : Fin 4096) (d : Fin 1024) : val_main_v12 (F := Ideal) h g (ix2 r d) = hnOfArr h g r d := by
  unfold hnOfArr
  rw [show rinv (fun e : Fin 1024 => h (ix2 r e)) = rinv (row h r) from rfl, ← v7_at]
  unfold val_main_v12 val_main_v9 val_main_v8 val_main_v11 val_main_v10
  pointwise
theorem v13_at (r : Fin 4096) (j : Fin 3072) : val_main_v13 (F := Ideal) h g w (ix2 r j) = projOf h g w r j := by
  rw [val_main_v13_apply]
  have eL : ∀ d, lidx_main_v13 (ix2 r j) d = ix2 r d := fun d => by funext b; fin_cases b <;> rfl
  have eR : ∀ d, ridx_main_v13 (ix2 r j) d = ix2 d j := fun d => by funext b; fin_cases b <;> rfl
  simp only [eL, eR, v12_at]
  rfl

theorem z_eq : val_main_v14 (F := Ideal) h g w = zArr h g w := by
  funext i
  idx_vars i
  exact Eq.trans (b := val_main_v13 (F := Ideal) h g w (ix2 i0 i1)) rfl (v13_at h g w i0 i1)
theorem hn_eq : val_main_v15 (F := Ideal) h g = hnArr h g := by
  funext i
  idx_vars i
  exact Eq.trans (b := val_main_v12 (F := Ideal) h g (ix2 i0 i1)) rfl (v12_at h g i0 i1)

end Cert.Reference17Ideal.ConvIn
-- ==== Proof.Rotary.Body.lean ====
/- One grid step of the normalisation with the queries' product and their rotary embedding: the block of rows it normalises and keeps, or finds
   kept, and what it leaves in its two result blocks, in the two cases of its conditionals. -/
module

public import proofs.«01_k».proof.Proof.Gen.Kernel18Ideal.Frame
public import proofs.«01_k».proof.Proof.Norm.Kept
public import proofs.«01_k».proof.Proof.Gen.Kernel18Ideal.Skeleton

@[expose] public section

set_option maxRecDepth 16384

noncomputable section

namespace Cert.Kernel18Ideal.Rotary

open Cert.Kernel18Ideal Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kept
open Idealize.ShloMosaic.Pipeline (Dat Cfg Window BodyObligation cellOf)

variable {F : FTy → Type} [FloatOps F]

local notation "𝕄" => MT nD τ sig Unit (Elt F) ℕ (UR sig nD τ) ℕ

theorem off_1 : ∀ i : grid0.Coords, k0_off1 i = ![(i 1).val * 1024, 0] := by decide +kernel
theorem off_2 : ∀ i : grid0.Coords, k0_off2 i = ![(i 1).val * 1024, 0] := by decide +kernel
theorem lt4 (i : grid0.Coords) : (i 1).val < 4 := (i 1).isLt

/-- One tile of the queries: 128 columns of the product, rotated by the tables, scaled and rounded. -/
def tile (acc : FVec F S1024x768 .f32) (cs ss : Vec F S1024x128 .f32) : Fin 6 → Vec F S1024x128 .bf16 :=
  ![k0_pay12 acc (k0_pay7 cs) (k0_pay8 ss) k0_pay9 k0_pay10, k0_pay13 acc (k0_pay7 cs) (k0_pay8 ss) k0_pay9 k0_pay10, k0_pay14 acc (k0_pay7 cs) (k0_pay8 ss) k0_pay9 k0_pay10,
    k0_pay1 (k0_pay16 acc (k0_pay7 cs)) (k0_pay17 acc (k0_pay8 ss) k0_pay9 k0_pay10),
    k0_pay2 acc (k0_pay7 cs) (k0_pay8 ss) (k0_pay11 k0_pay9 k0_pay10), k0_pay3 acc (k0_pay7 cs) (k0_pay8 ss) (k0_pay11 k0_pay9 k0_pay10)]
/-- What a step leaves in its block of the queries. -/
def rotated (n : Vec F S1024x1024 .bf16) (w : Vec F S1x1024x768 .bf16) (cs ss : Vec F S1024x128 .f32) : Vec F S1024x768 .bf16 :=
  tiles (N := 6) rfl (tile (k0_pay6 n w) cs ss)

/-! ## The step, from its blocks `x0` (tokens), `x1` (gain) and `x2` (the weights' columns),
   `x3` and `x4` (the rotary tables) -/

/-- The kept block is the normalised one. -/
theorem kept_eq (x0 : Vec F S1024x1024 .f32) (x1 : Vec F S1x1024 .f32) : k0_pay5 x0 x1 = k0_pay4 x0 x1 := shapeCast_self _ _

set_option maxHeartbeats 2000000 in
/-- The first four steps normalise a block of rows and keep it. -/
theorem run_A (c : Dev nD) (i : grid0.Coords) (arg2 : Memref sig .tc .vmem S1024x1024 .f32) (harg2 : arg2.IsWhole) (arg3 : Memref sig .tc .vmem S1x1024 .f32) (harg3 : arg3.IsWhole)
    (arg4 : Memref sig .tc .vmem S1x1024x768 .bf16) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x768 .bf16) (harg7 : arg7.IsWhole)
    (arg8 : Memref sig .tc .vmem S1024x1024 .bf16) (harg8 : arg8.IsWhole) (arg9 : Memref sig .tc .vmem S4096x1024 .bf16) (harg9 : arg9.IsWhole) (hc0 : k0_cond1 i = 1#1) (hc1 : ¬k0_cond2 i = 1#1)
    (x0 : Vec F S1024x1024 .f32) (x1 : Vec F S1x1024 .f32) (x2 : Vec F S1x1024x768 .bf16) (x3 x4 : Vec F S1024x128 .f32) (X : Vec F S4096x1024 .bf16) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4
        ∗ (∃ d, owns c.tc arg7 fullShare d) ∗ (∃ d, owns c.tc arg8 fullShare d) ∗ owns c.tc arg9 fullShare X
        ∗ (iprop(owns c.tc arg2 fullShare x0 ∗ owns c.tc arg3 fullShare x1 ∗ owns c.tc arg4 fullShare x2 ∗ owns c.tc arg5 fullShare x3 ∗ owns c.tc arg6 fullShare x4
            ∗ owns c.tc arg7 fullShare (rotated (k0_pay4 x0 x1) x2 x3 x4) ∗ owns c.tc arg8 fullShare (k0_pay4 x0 x1)
            ∗ (∃ Y : Vec F S4096x1024 .bf16, ⌜rows Y (i 1).val (lt4 i) = k0_pay4 x0 x1 ∧ ∀ b (hb : b < 4), b ≠ (i 1).val → rows Y b hb = rows X b hb⌝ ∗ owns c.tc arg9 fullShare Y)) -∗ K ⟨⟩))
      ⊢ wp frame (wpE (defs₀ (F := F)) Variants.none c none) Set.univ (cc0_f1_q i arg2 harg2 arg3 harg3 arg4 harg4 arg5 harg5 arg6 harg6 arg7 harg7 arg8 harg8 arg9 harg9) K := by
  haveI : Fact (k0_cond1 i = 1#1) := ⟨hc0⟩
  haveI : Fact (¬k0_cond2 i = 1#1) := ⟨hc1⟩
  simp only [cc0_f1_q_eq_skeleton]; unfold cc0_f1_q_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  sl_exec (disch := first | sl_exact hc0 | sl_exact hc1)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr
    swap; · iexact H5
    ipureintro
    sl_unfold_run_names
    rw [load_stored _ (lt4 i) (off_1 i) (off_2 i)]
    simp only [load_whole _ _ _ hf0 zero2, load_whole _ _ _ hf1 zero2, load_whole _ _ _ hf2 zero3, load_whole _ _ _ hf3 zero2, load_whole _ _ _ hf4 zero2, kept_eq]
    exact store_tiles (N := 6) rfl _ _ (tile _ _ _)
  isplitl [H6]
  · iexists _; isplitr
    swap; · iexact H6
    ipureintro
    sl_unfold_run_names
    simp only [load_whole _ _ _ hf0 zero2, load_whole _ _ _ hf1 zero2, kept_eq]
    exact store_whole _ _ _ _ _
  iexists _; isplitr
  swap
  · iexists _; isplitr
    swap; · iexact HS
    ipureintro; rfl
  ipureintro
  sl_unfold_run_names
  simp only [load_whole _ _ _ hf0 zero2, load_whole _ _ _ hf1 zero2, kept_eq]
  refine ⟨store_rows _ _ _ _ _ _ (off_1 i) _, fun b hb hne => ?_⟩
  rw [← hfs]
  exact store_other _ _ _ _ (lt4 i) _ (off_1 i) _ b hb hne

set_option maxHeartbeats 2000000 in
/-- The others find it kept, and leave the last block in the second result. -/
theorem run_B (c : Dev nD) (i : grid0.Coords) (arg2 : Memref sig .tc .vmem S1024x1024 .f32) (harg2 : arg2.IsWhole) (arg3 : Memref sig .tc .vmem S1x1024 .f32) (harg3 : arg3.IsWhole)
    (arg4 : Memref sig .tc .vmem S1x1024x768 .bf16) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x768 .bf16) (harg7 : arg7.IsWhole)
    (arg8 : Memref sig .tc .vmem S1024x1024 .bf16) (harg8 : arg8.IsWhole) (arg9 : Memref sig .tc .vmem S4096x1024 .bf16) (harg9 : arg9.IsWhole) (hc0 : ¬k0_cond1 i = 1#1) (hc1 : k0_cond2 i = 1#1)
    (x0 : Vec F S1024x1024 .f32) (x1 : Vec F S1x1024 .f32) (x2 : Vec F S1x1024x768 .bf16) (x3 x4 : Vec F S1024x128 .f32) (X : Vec F S4096x1024 .bf16) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4
        ∗ (∃ d, owns c.tc arg7 fullShare d) ∗ (∃ d, owns c.tc arg8 fullShare d) ∗ owns c.tc arg9 fullShare X
        ∗ (iprop(owns c.tc arg2 fullShare x0 ∗ owns c.tc arg3 fullShare x1 ∗ owns c.tc arg4 fullShare x2 ∗ owns c.tc arg5 fullShare x3 ∗ owns c.tc arg6 fullShare x4
            ∗ owns c.tc arg7 fullShare (rotated (rows X (i 1).val (lt4 i)) x2 x3 x4) ∗ owns c.tc arg8 fullShare (rows X 3 (by decide))
            ∗ owns c.tc arg9 fullShare X) -∗ K ⟨⟩))
      ⊢ wp frame (wpE (defs₀ (F := F)) Variants.none c none) Set.univ (cc0_f1_q i arg2 harg2 arg3 harg3 arg4 harg4 arg5 harg5 arg6 harg6 arg7 harg7 arg8 harg8 arg9 harg9) K := by
  haveI : Fact (¬k0_cond1 i = 1#1) := ⟨hc0⟩
  haveI : Fact (k0_cond2 i = 1#1) := ⟨hc1⟩
  simp only [cc0_f1_q_eq_skeleton]; unfold cc0_f1_q_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  sl_exec (disch := first | sl_exact hc0 | sl_exact hc1)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr
    swap; · iexact H5
    ipureintro
    sl_unfold_run_names
    simp only [load_rows _ _ _ hfs _ (lt4 i) _ (off_2 i), load_whole _ _ _ hf2 zero3, load_whole _ _ _ hf3 zero2, load_whole _ _ _ hf4 zero2]
    exact store_tiles (N := 6) rfl _ _ (tile _ _ _)
  isplitl [H6]
  · iexists _; isplitr
    swap; · iexact H6
    ipureintro
    sl_unfold_run_names
    simp only [load_rows _ _ _ hfs 3 (by decide) _ rfl]
    exact store_whole _ _ _ _ _
  iexists _; isplitr
  swap; · iexact HS
  ipureintro; exact hfs

end Cert.Kernel18Ideal.Rotary

end
-- ==== Proof.Rotary.Launch.lean ====
/- The queries with the norm before them, launched: the proof data of the one pipeline (each result's
   block at a point, the normed rows kept between points), each point's obligation from the runs of Body.lean, and the run. -/
module

public import proofs.«01_k».proof.Proof.Rotary.Body
public import Idealize.ShloMosaic.Lib.Pipeline.FrameValue
public import Idealize.ShloMosaic.Lib.Pipeline.ValueKit

@[expose] public section

set_option maxRecDepth 16384

noncomputable section

namespace Cert.Kernel18Ideal.Rotary

open Cert.Kernel18Ideal Cert.Kernel18Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kept
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points take which branch -/

theorem norms : ∀ t : Fin cfg0.N, k0_cond1 (grid0.coords t) = 1#1 ↔ t.val < 4 := by decide +kernel
theorem reads : ∀ t : Fin cfg0.N, k0_cond2 (grid0.coords t) = 1#1 ↔ 4 ≤ t.val := by decide +kernel
theorem row_of : ∀ t : Fin cfg0.N, ((grid0.coords t) 1).val = t.val % 4 := by decide +kernel
/-- The normed rows' result is stored at every point. -/
theorem stored_6 : ∀ t : Fin cfg0.N, cfg0.idle 6 (grid0.coords t) = false := by decide +kernel

/-! ## The proof data -/

/-- Block b of the normed rows: what point b computes. -/
def hnAt (c : Dev nD) (b : Nat) (hb : b < 4) : Vec F S1024x1024 .bf16 :=
  k0_pay4 (iblk m c 0 ⟨b, lt_of_lt_of_eq (show b < 16 by omega) N_0.symm⟩) (iblk m c 1 ⟨b, lt_of_lt_of_eq (show b < 16 by omega) N_0.symm⟩)
/-- The normed rows the point t reads. -/
def hnOf (c : Dev nD) (t : Fin cfg0.N) : Vec F S1024x1024 .bf16 := hnAt m c (t.val % 4) (Nat.mod_lt _ (by decide))
/-- The normed rows it writes back: its own in the first four points, the last block's in the others. -/
def hnOut (c : Dev nD) (t : Fin cfg0.N) : Vec F S1024x1024 .bf16 := hnAt m c (min t.val 3) (by omega)

theorem hnAt_eq (c : Dev nD) (b : Nat) (hb : b < 4) (b' : Nat) (hb' : b' < 4) (e : b = b') : hnAt m c b hb = hnAt m c b' hb' := by
  subst e; rfl
theorem hnAt_point (c : Dev nD) (t : Fin cfg0.N) (h : t.val < 4) : hnAt m c t.val h = k0_pay4 (iblk m c 0 t) (iblk m c 1 t) := rfl
theorem hnOf_first (c : Dev nD) (t : Fin cfg0.N) (h : t.val < 4) : hnOf m c t = k0_pay4 (iblk m c 0 t) (iblk m c 1 t) :=
  (hnAt_eq m c _ _ t.val h (Nat.mod_eq_of_lt h)).trans (hnAt_point m c t h)
theorem hnOut_first (c : Dev nD) (t : Fin cfg0.N) (h : t.val < 4) : hnOut m c t = k0_pay4 (iblk m c 0 t) (iblk m c 1 t) :=
  (hnAt_eq m c _ _ t.val h (by omega)).trans (hnAt_point m c t h)
theorem hnOut_later (c : Dev nD) (t : Fin cfg0.N) (h : 4 ≤ t.val) : hnOut m c t = hnAt m c 3 (by decide) :=
  hnAt_eq m c _ _ 3 (by decide) (by omega)

/-- The scratch buffer of the normed rows. -/
abbrev scM : Memref sig .tc .vmem S4096x1024 .bf16 := Memref.whole cc0_scratch0

/-- Before point k: the scratch holds the normed rows of the first k blocks. -/
def inv (c : Dev nD) (k : ℕ) : sProp 𝕄 :=
  iprop((∃ X : Vec F S4096x1024 .bf16, ⌜∀ b (hb : b < 4), b < k → rows X b hb = hnAt m c b hb⌝ ∗ owns c.tc scM fullShare X)
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rotated (hnOf m c t) (iblk m c 2 t) (iblk m c 3 t) (iblk m c 4 t)
    | ⟨6, _⟩ => hnOut m c t
  Φ t := inv m c t.val
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) : (dats m 0 c).Φ t.castSucc = inv m c t.val := by
  dsimp only [dats]; simp only [Fin.coe_castSucc]
theorem inv_succ (c : Dev nD) (t : Fin cfg0.N) : (dats m 0 c).Φ t.succ = inv m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = rotated (hnOf m c t) (iblk m c 2 t) (iblk m c 3 t) (iblk m c 4 t) := by dsimp only [dats]
theorem after_6 (c : Dev nD) (t : Fin cfg0.N) : (dats m 0 c).after 6 t = hnOut m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- The scratch after a point of the first column of blocks, -/
theorem kept_first (c : Dev nD) (t : Fin cfg0.N) (h : t.val < 4) (X Y : Vec F S4096x1024 .bf16)
    (hX : ∀ b (hb : b < 4), b < t.val → rows X b hb = hnAt m c b hb)
    (hY : rows Y ((grid0.coords t) 1).val (lt4 (grid0.coords t)) = k0_pay4 (iblk m c 0 t) (iblk m c 1 t)
      ∧ ∀ b (hb : b < 4), b ≠ ((grid0.coords t) 1).val → rows Y b hb = rows X b hb) :
    ∀ b (hb : b < 4), b < t.val + 1 → rows Y b hb = hnAt m c b hb := by
  intro b hb hlt
  have e : ((grid0.coords t) 1).val = t.val := (row_of t).trans (Nat.mod_eq_of_lt h)
  by_cases hbt : b = t.val
  · have hb' : b = ((grid0.coords t) 1).val := hbt.trans e.symm
    have h1 := hY.1
    have h2 : rows Y b hb = rows Y ((grid0.coords t) 1).val (lt4 (grid0.coords t)) := by
      congr 1
    rw [h2, h1, ← hnAt_point m c t h]
    exact hnAt_eq m c _ _ _ _ hbt.symm
  · rw [hY.2 b hb (fun h' => hbt (h'.trans e))]
    exact hX b hb (by omega)
/-- and what a later point reads there. -/
theorem kept_later (c : Dev nD) (t : Fin cfg0.N) (h : 4 ≤ t.val) (X : Vec F S4096x1024 .bf16)
    (hX : ∀ b (hb : b < 4), b < t.val → rows X b hb = hnAt m c b hb) :
    rows X ((grid0.coords t) 1).val (lt4 (grid0.coords t)) = hnOf m c t ∧ rows X 3 (by decide) = hnOut m c t := by
  refine ⟨(hX _ _ (lt_of_lt_of_le (lt4 _) h)).trans (hnAt_eq m c _ _ _ _ (row_of t)), ?_⟩
  rw [hnOut_later m c t h]
  exact hX 3 (by decide) (by omega)

/-! ## One point -/

/-- What a point is called with, -/
def stepPre (c : Dev nD) (t : Fin cfg0.N) : sProp 𝕄 :=
  iprop((dats m 0 c).Φ t.castSucc ∗ (dats m 0 c).owesAt () t.castSucc
    ∗ (∃ d, owns c.tc (st0_0 t) fullShare ((dats m 0 c).before 0 t d))
    ∗ (∃ d, owns c.tc (st0_1 t) fullShare ((dats m 0 c).before 1 t d))
    ∗ (∃ d, owns c.tc (st0_2 t) fullShare ((dats m 0 c).before 2 t d))
    ∗ (∃ d, owns c.tc (st0_3 t) fullShare ((dats m 0 c).before 3 t d))
    ∗ (∃ d, owns c.tc (st0_4 t) fullShare ((dats m 0 c).before 4 t d))
    ∗ (∃ d, owns c.tc (st0_5 t) fullShare ((dats m 0 c).before 5 t d))
    ∗ (∃ d, owns c.tc (st0_6 t) fullShare ((dats m 0 c).before 6 t d)))

/-- and what it returns. -/
def stepPost (c : Dev nD) (t : Fin cfg0.N) : sProp 𝕄 :=
  iprop((dats m 0 c).Φ t.succ ∗ (dats m 0 c).owesAt () t.succ
    ∗ owns c.tc (st0_0 t) fullShare ((dats m 0 c).after 0 t)
    ∗ owns c.tc (st0_1 t) fullShare ((dats m 0 c).after 1 t)
    ∗ owns c.tc (st0_2 t) fullShare ((dats m 0 c).after 2 t)
    ∗ owns c.tc (st0_3 t) fullShare ((dats m 0 c).after 3 t)
    ∗ owns c.tc (st0_4 t) fullShare ((dats m 0 c).after 4 t)
    ∗ owns c.tc (st0_5 t) fullShare ((dats m 0 c).after 5 t)
    ∗ (dats m 0 c).leavesExact 6 t)

theorem leaves_6 (c : Dev nD) (t : Fin cfg0.N) :
    (dats m 0 c).leavesExact 6 t = owns c.tc (st0_6 t) fullShare ((dats m 0 c).after 6 t) := by
  unfold Dat.leavesExact; rw [stored_6 t]

set_option maxHeartbeats 1200000 in
theorem step_sound (c : Dev nD) (t : Fin cfg0.N) :
    stepPre m c t ⊢ wp frame (wpE (defs₀ (F := F)) Variants.none c none) Set.univ (bodyAt0 t) (fun _ => stepPost m c t) := by
  unfold stepPre stepPost bodyAt0
  simp only [before_0, before_1, before_2, before_3, before_4]
  rw [leaves_6, after_0, after_1, after_2, after_3, after_4, after_5, after_6, inv_castSucc m c t, inv_succ m c t]
  rw [show (dats m 0 c).owesAt () t.succ = (dats m 0 c).owesAt () t.castSucc from rfl]
  unfold inv
  by_cases h : t.val < 4
  · rw [hnOf_first m c t h, hnOut_first m c t h]
    iintro ⟨⟨⟨%X, %hX, HS⟩, Hg⟩, HW, ⟨%d0, H0⟩, ⟨%d1, H1⟩, ⟨%d2, H2⟩, ⟨%d3, H3⟩, ⟨%d4, H4⟩, ⟨%d5, H5⟩, ⟨%d6, H6⟩⟩
    iapply (run_A c (grid0.coords t) _ _ _ _ _ _ _ _ _ _ _ _ _ _ _ _ ((norms t).mpr h) (fun h' => absurd ((reads t).mp h') (by omega))
      (iblk m c 0 t) (iblk m c 1 t) (iblk m c 2 t) (iblk m c 3 t) (iblk m c 4 t) X _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, ⟨%Y, %hY, HS⟩⟩
    isplitl [HS Hg]
    · isplitl [HS]
      · iexists Y; isplitr; · ipureintro; exact kept_first m c t h X Y hX hY
        iexact HS
      iexact Hg
    isplitl [HW]; · iexact HW
    isplitl [H0]; · iexact H0
    isplitl [H1]; · iexact H1
    isplitl [H2]; · iexact H2
    isplitl [H3]; · iexact H3
    isplitl [H4]; · iexact H4
    isplitl [H5]; · iexact H5
    iexact H6
  · have h4 : 4 ≤ t.val := Nat.le_of_not_lt h
    iintro ⟨⟨⟨%X, %hX, HS⟩, Hg⟩, HW, ⟨%d0, H0⟩, ⟨%d1, H1⟩, ⟨%d2, H2⟩, ⟨%d3, H3⟩, ⟨%d4, H4⟩, ⟨%d5, H5⟩, ⟨%d6, H6⟩⟩
    rw [← (kept_later m c t h4 X hX).1, ← (kept_later m c t h4 X hX).2]
    iapply (run_B c (grid0.coords t) _ _ _ _ _ _ _ _ _ _ _ _ _ _ _ _ (fun h' => absurd ((norms t).mp h') h) ((reads t).mpr h4)
      (iblk m c 0 t) (iblk m c 1 t) (iblk m c 2 t) (iblk m c 3 t) (iblk m c 4 t) X _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]
      · iexists X; isplitr; · ipureintro; exact fun b hb _ => hX b hb (lt_of_lt_of_le hb h4)
        iexact HS
      iexact Hg
    isplitl [HW]; · iexact HW
    isplitl [H0]; · iexact H0
    isplitl [H1]; · iexact H1
    isplitl [H2]; · iexact H2
    isplitl [H3]; · iexact H3
    isplitl [H4]; · iexact H4
    isplitl [H5]; · iexact H5
    iexact H6

theorem step_row (t : Fin cfg0.N) :
    defs₀ (F := F) .tc cfg0.body (cfg0.bodyArgs t (cfg0.slots t)) = bodyAt0 t := by
  unfold defs₀; rw [Defs.onTc_tc]

theorem step_obligation (c : Dev nD) : BodyObligation (dats (F := F) m 0 c) (defs₀ (F := F)) Variants.none () Set.univ := fun t => by
  rw [bigSep_W0, bigSep_W0, step_row]
  exact triple_restated (step_sound m c t) rfl .rfl fun _ => .rfl

theorem scratch_eq (c : Dev nD) :
    (Pipeline.ΦA spec0 c : sProp 𝕄) = iprop((∃ d, owns c.tc scM fullShare d) ∗ (∃ r, prngReg c r)) := by
  unfold Pipeline.ΦA; rw [scopedRest0_eq]; simp only [scM, owns_whole]; try rfl

/-- The launch hands the invariant what it needs, -/
theorem hin (c : Dev nD) : Pipeline.ΦA spec0 c ⊢ (dats m 0 c).Φ 0 := by
  rw [scratch_eq, show (dats m 0 c).Φ 0 = inv m c 0 from rfl]
  unfold inv
  iintro ⟨⟨%X, HS⟩, Hg⟩
  isplitl [HS]
  · iexists X; isplitr; · ipureintro; exact fun b hb hlt => absurd hlt (Nat.not_lt_zero _)
    iexact HS
  iexact Hg
/-- and takes it back. -/
theorem hout (c : Dev nD) : (dats m 0 c).Φ (Fin.last cfg0.N) ⊢ Pipeline.ΦA spec0 c := by
  rw [scratch_eq, show (dats m 0 c).Φ (Fin.last cfg0.N) = inv m c grid0.N from rfl]
  unfold inv
  iintro ⟨⟨%X, %hX, HS⟩, Hg⟩
  isplitl [HS]
  · iexists X; iexact HS
  iexact Hg

/-! ## The run -/

set_option backward.isDefEq.respectTransparency.types false in
/-- Every execution ends with every counter at zero, each result at its blocks, every other array as the launch found it. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (step_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- Every execution ends, counters at zero, the arguments as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Kernel18Ideal.Rotary

end
-- ==== Proof.Rotary.Array.lean ====
/- The queries with the norm before them and their rotary embedding: the two result arrays at the end, from the arguments. -/
module

public import proofs.«01_k».proof.Proof.Rotary.Launch
public import proofs.«01_k».proof.Proof.ConvIn.Array
public import Idealize.ShloMosaic.Lib.Pointwise.Tactic
public import Idealize.ShloMosaic.Lib.Pointwise.Contract
public import Idealize.ShloMosaic.Lib.Pointwise.Reshape
public import Idealize.ShloMosaic.Lib.Pointwise.Reduce

@[expose] public section

set_option maxRecDepth 16384

noncomputable section

namespace Cert.Kernel18Ideal.Rotary

open Cert.Kernel18Ideal Cert.Kernel18Ideal.Gen
open Idealize.ShloMosaic Idealize.ShloMosaic.TcCoe Idealize.ShloMosaic.Tactic
open Idealize.SL.Sem
open Cert.Kept
open Idealize.ShloMosaic.Pipeline (Dat)
open Cert.Norm (rinv)
open Cert.Kernel17Ideal.ConvIn (hnOfArr projOf hnArr)

/-! ## The step's values element by element -/

theorem normed_at (x : Vec Ideal S1024x1024 .f32) (g : Vec Ideal S1x1024 .f32) (r : Fin 1024) (d : Fin 1024) :
    k0_pay4 (F := Ideal) x g (ix2 r d) = x (ix2 r d) * rinv (fun e : Fin 1024 => x (ix2 r e)) * g (ix2 0 d) := by
  unfold k0_pay4
  pointwise
  rfl

/-- A row of the normed input against a column of a block of weights. -/
def dotAt (n : Vec Ideal S1024x1024 .bf16) (w : Vec Ideal S1x1024x768 .bf16) (r : Fin 1024) (f : Fin 768) : EReal := ∑ d : Fin 1024, n (ix2 r d) * w (ix3 0 d f)
theorem acc_at (n : Vec Ideal S1024x1024 .bf16) (w : Vec Ideal S1x1024x768 .bf16) (r : Fin 1024) (f : Fin 768) : k0_pay6 (F := Ideal) n w (ix2 r f) = dotAt n w r f := by
  unfold k0_pay6
  pointwise
  rfl

/-- The queries' scale. -/
def eighth : EReal := Scalar.ofBits (F := Ideal) .f32 0x3E000000#32

/-- The lanes a head's first half takes. -/
theorem mask_at (r : Fin 1024) (l : Fin 128) : k0_pay11 k0_pay9 k0_pay10 (ix2 r l) = BitVec.ofBool (decide (l.val % 64 < 32)) := by
  unfold k0_pay11 k0_pay9 k0_pay10
  pointwise
  revert l
  decide +kernel

/-! A tile of 128 columns out of N, its columns turned against each other within heads of 64. -/

/-- Column l of tile k, of N tiles of 128 columns. -/
def tcol {N W : Nat} (hW : W = N * 128) (k : Fin N) (l : Nat) : Fin W := ⟨k.val * 128 + l % 128, by omega⟩

/-- A tile, its first column, the lanes of the first halves and the scale given. -/
def tileOf {W : Nat} (o : Nat) (hs : (⟨2, ![1024, W]⟩ : Shape).Slices ![0, o] S1024x128) (mask : IVec S1024x128 1) (sc : EReal) (acc : FVec Ideal ⟨2, ![1024, W]⟩ .f32)
    (c s : FVec Ideal S1024x128 .f32) : FVec Ideal S1024x128 .bf16 :=
  truncf .bf16 (mulf (addf (mulf (extractStridedSlice S1024x128 ![0, o] acc hs) c)
    (mulf (select mask (dynamicRotate 1 96#32 none (extractStridedSlice S1024x128 ![0, o] acc hs) rotates_S1024x128_d1)
      (dynamicRotate 1 32#32 none (extractStridedSlice S1024x128 ![0, o] acc hs) rotates_S1024x128_d1)) s))
    (broadcast S1024x128 (show Ideal .f32 from sc))) bitsLt_bf16_f32

/-- Column l of a tile, rotated: its product times its cosine, and the product of the head's other half times its sine. -/
def turn (sc : EReal) (u : Nat → EReal) (l : Nat) (c s : EReal) : EReal := (u l * c + (if l % 64 < 32 then u (l + 32) else u (l + 96)) * s) * sc

theorem rot_at (n : Nat) (hn : n < 128) (x : FVec Ideal S1024x128 .f32) (r : Fin 1024) (l : Fin 128) :
    dynamicRotate 1 (BitVec.ofNat 32 n) none x rotates_S1024x128_d1 (ix2 r l) = x (ix2 r (⟨(l.val + (128 - n)) % 128, Nat.mod_lt _ (by decide)⟩ : Fin 128)) := by
  have hl := l.isLt
  have hnt : (BitVec.ofNat 32 n).toNat = n := by simp; omega
  pointwise
  refine congrArg x ?_
  funext a
  apply Fin.ext
  have e : (l.val + 128 - n % 128) % 128 = (l.val + (128 - n)) % 128 := by omega
  match a with
  | ⟨0, _⟩ => simp
  | ⟨1, _⟩ => simp [hnt, e]

theorem tileOf_at {N W : Nat} (hW : W = N * 128) (k : Fin N) (o : Nat) (ho : o = k.val * 128) (hs : (⟨2, ![1024, W]⟩ : Shape).Slices ![0, o] S1024x128) (mask : IVec S1024x128 1)
    (hm : ∀ (r : Fin 1024) (l : Fin 128), mask (ix2 r l) = BitVec.ofBool (decide (l.val % 64 < 32))) (sc : EReal)
    (acc : FVec Ideal ⟨2, ![1024, W]⟩ .f32) (c s : FVec Ideal S1024x128 .f32) (r : Fin 1024) (l : Fin 128) :
    tileOf o hs mask sc acc c s (ix2 r l) = turn sc (fun l => acc (ix2 r (tcol hW k l))) l.val (c (ix2 r l)) (s (ix2 r l)) := by
  have hl := l.isLt
  have ex : ∀ l' : Fin 128, extractStridedSlice S1024x128 ![0, o] acc hs (ix2 r l') = acc (ix2 r (tcol hW k l'.val)) := fun l' => by
    have hl' := l'.isLt
    refine extractStridedSlice_apply ![0, o] acc hs (ix2 r l') (ix2 r (tcol hW k l'.val)) (fun a => ?_)
    match a with
    | ⟨0, _⟩ => show r.val = 0 + r.val; omega
    | ⟨1, _⟩ => show k.val * 128 + l'.val % 128 = o + l'.val; omega
  have e1 : tileOf o hs mask sc acc c s (ix2 r l) = (extractStridedSlice S1024x128 ![0, o] acc hs (ix2 r l) * c (ix2 r l)
      + Scalar.select (mask (ix2 r l)) (dynamicRotate 1 (BitVec.ofNat 32 96) none (extractStridedSlice S1024x128 ![0, o] acc hs) rotates_S1024x128_d1 (ix2 r l))
          (dynamicRotate 1 (BitVec.ofNat 32 32) none (extractStridedSlice S1024x128 ![0, o] acc hs) rotates_S1024x128_d1 (ix2 r l)) * s (ix2 r l)) * sc := rfl
  rw [e1, hm, rot_at 96 (by decide), rot_at 32 (by decide)]
  simp only [ex]
  unfold turn
  have m1 : tcol hW k ((l.val + (128 - 96)) % 128) = tcol hW k (l.val + 32) := by unfold tcol; ext; simp
  have m2 : tcol hW k ((l.val + (128 - 32)) % 128) = tcol hW k (l.val + 96) := by unfold tcol; ext; simp
  rw [m1, m2]
  by_cases h : l.val % 64 < 32
  · simp [h, Scalar.select]
  · simp [h, Scalar.select]

/-- A tile's column as a column of the whole. -/
theorem turn_col {N W : Nat} (hW : W = N * 128) (sc : EReal) (u : Fin W → EReal) (f : Fin W) (hk : f.val / 128 < N) (c s : EReal) :
    turn sc (fun l => u (tcol hW ⟨f.val / 128, hk⟩ l)) (f.val % 128) c s
      = (u f * c + (if h : f.val % 64 < 32 then u ⟨f.val + 32, by omega⟩ else u ⟨f.val - 32, by omega⟩) * s) * sc := by
  have hf := f.isLt
  unfold turn
  have e0 : tcol hW ⟨f.val / 128, hk⟩ (f.val % 128) = f := by unfold tcol; ext; show f.val / 128 * 128 + f.val % 128 % 128 = f.val; omega
  by_cases h : f.val % 64 < 32
  · have e1 : tcol hW ⟨f.val / 128, hk⟩ (f.val % 128 + 32) = ⟨f.val + 32, by omega⟩ := by
      unfold tcol; ext; show f.val / 128 * 128 + (f.val % 128 + 32) % 128 = f.val + 32; omega
    have h' : f.val % 128 % 64 < 32 := by omega
    simp only [e0, e1, dif_pos h, if_pos h']
  · have e1 : tcol hW ⟨f.val / 128, hk⟩ (f.val % 128 + 96) = ⟨f.val - 32, by omega⟩ := by
      unfold tcol; ext; show f.val / 128 * 128 + (f.val % 128 + 96) % 128 = f.val - 32; omega
    have h' : ¬ f.val % 128 % 64 < 32 := by omega
    simp only [e0, e1, dif_neg h, if_neg h']

theorem tile_at (acc : FVec Ideal S1024x768 .f32) (cs ss : FVec Ideal S1024x128 .f32) (k : Fin 6) (r : Fin 1024) (l : Fin 128) :
    tile (F := Ideal) acc cs ss k (ix2 r l) = turn eighth (fun l => acc (ix2 r (tcol (N := 6) rfl k l))) l.val (cs (ix2 r l)) (ss (ix2 r l)) := by
  have ec : k0_pay7 (F := Ideal) cs = cs := shapeCast_self _ _
  have es : k0_pay8 (F := Ideal) ss = ss := shapeCast_self _ _
  unfold tile
  rw [ec, es]
  match k with
  | ⟨0, _⟩ => exact Eq.trans rfl (tileOf_at (N := 6) rfl 0 0 rfl slices_S1024x768_o0_0_S1024x128 (k0_pay11 k0_pay9 k0_pay10) mask_at eighth acc cs ss r l)
  | ⟨1, _⟩ => exact Eq.trans rfl (tileOf_at (N := 6) rfl 1 128 rfl slices_S1024x768_o0_128_S1024x128 (k0_pay11 k0_pay9 k0_pay10) mask_at eighth acc cs ss r l)
  | ⟨2, _⟩ => exact Eq.trans rfl (tileOf_at (N := 6) rfl 2 256 rfl slices_S1024x768_o0_256_S1024x128 (k0_pay11 k0_pay9 k0_pay10) mask_at eighth acc cs ss r l)
  | ⟨3, _⟩ => exact Eq.trans rfl (tileOf_at (N := 6) rfl 3 384 rfl slices_S1024x768_o0_384_S1024x128 (k0_pay11 k0_pay9 k0_pay10) mask_at eighth acc cs ss r l)
  | ⟨4, _⟩ => exact Eq.trans rfl (tileOf_at (N := 6) rfl 4 512 rfl slices_S1024x768_o0_512_S1024x128 (k0_pay11 k0_pay9 k0_pay10) mask_at eighth acc cs ss r l)
  | ⟨5, _⟩ => exact Eq.trans rfl (tileOf_at (N := 6) rfl 5 640 rfl slices_S1024x768_o0_640_S1024x128 (k0_pay11 k0_pay9 k0_pay10) mask_at eighth acc cs ss r l)

/-- A column of the step's queries. -/
theorem rotated_at (n : Vec Ideal S1024x1024 .bf16) (w : Vec Ideal S1x1024x768 .bf16) (cs ss : Vec Ideal S1024x128 .f32) (r : Fin 1024) (f : Fin 768) :
    rotated (F := Ideal) n w cs ss (ix2 r f)
      = (dotAt n w r f * cs (ix2 r (⟨f.val % 128, Nat.mod_lt _ (by decide)⟩ : Fin 128))
        + (if h : f.val % 64 < 32 then dotAt n w r ⟨f.val + 32, by omega⟩ else dotAt n w r ⟨f.val - 32, by omega⟩)
          * ss (ix2 r (⟨f.val % 128, Nat.mod_lt _ (by decide)⟩ : Fin 128))) * eighth := by
  refine (tile_at (k0_pay6 n w) cs ss (⟨f.val / 128, by omega⟩ : Fin 6) r (⟨f.val % 128, Nat.mod_lt _ (by decide)⟩ : Fin 128)).trans
    ((turn_col (N := 6) rfl eighth (fun j => k0_pay6 (F := Ideal) n w (ix2 r j)) f (by omega) _ _).trans ?_)
  simp only [acc_at]

/-! ## The rotary tables -/

section Tables
variable (p : IVec S4096 32)

/-- The 32 frequencies. -/
def freq : FVec Ideal S32 .f32 :=
  Host.powf (broadcastInDim S32 ![] bcast_S_S32 (constant (F := Ideal) S_ .f32 0x461C4000#32))
    (Host.divf (Host.negf (sitofp .f32 (iotaInDim S32 32 0))) (broadcastInDim S32 ![] bcast_S_S32 (constant (F := Ideal) S_ .f32 0x42000000#32)))
/-- Position times frequency. -/
def angle (r : Fin 4096) (e : Fin 32) : EReal := (FloatOps.sitofp .f32 (p (ix1 r)) : Ideal .f32) * freq (ix1 e)
def angles : FVec Ideal S4096x32 .f32 :=
  mulf (broadcastInDim S4096x32 ![0, 1] bcast_S4096x1_S4096x32_0_1 (broadcastInDim S4096x1 ![0] bcast_S4096_S4096x1_0 (sitofp .f32 p)))
    (broadcastInDim S4096x32 ![0, 1] bcast_S1x32_S4096x32_0_1 (broadcastInDim S1x32 ![1] bcast_S32_S1x32_1 freq))
theorem angles_at (r : Fin 4096) (e : Fin 32) : angles p (ix2 r e) = angle p r e := by
  unfold angles
  pointwise
  rfl
def cosOf (r : Fin 4096) (e : Fin 32) : EReal := FloatOps.hostUnary (F := Ideal) (φ := .f32) .cos (angle p r e)
def sinOf (r : Fin 4096) (e : Fin 32) : EReal := FloatOps.hostUnary (F := Ideal) (φ := .f32) .sin (angle p r e)

/-- The cosines, once for each 32 lanes. -/
def cosTab : FVec Ideal S4096x128 .f32 :=
  shapeCast S4096x128 (broadcastInDim S1x4096x4x32 ![0, 1, 2, 3] bcast_S1x4096x1x32_S1x4096x4x32_0_1_2_3
    (shapeCast S1x4096x1x32 (Host.cos (angles p)) shapeCasts_S4096x32_S1x4096x1x32)) shapeCasts_S1x4096x4x32_S4096x128
/-- The sines, negated for a head's first half. -/
def sinPair : FVec Ideal S4096x64 .f32 :=
  concatenate S4096x64 1 [⟨S4096x32, Host.negf (Host.sin (angles p))⟩, ⟨S4096x32, Host.sin (angles p)⟩] concatenates_S4096x32_S4096x32_S4096x64_d1
def sinTab : FVec Ideal S4096x128 .f32 :=
  shapeCast S4096x128 (broadcastInDim S1x4096x2x64 ![0, 1, 2, 3] bcast_S1x4096x1x64_S1x4096x2x64_0_1_2_3
    (shapeCast S1x4096x1x64 (sinPair p) shapeCasts_S4096x64_S1x4096x1x64)) shapeCasts_S1x4096x2x64_S4096x128

theorem cosTab_at (r : Fin 4096) (l : Fin 128) : cosTab p (ix2 r l) = cosOf p r ⟨l.val % 32, Nat.mod_lt _ (by decide)⟩ := by
  have hl := l.isLt
  unfold cosTab
  rw [shapeCast_apply _ shapeCasts_S1x4096x4x32_S4096x128 (ix2 r l) (ix4 (0 : Fin 1) r (⟨l.val / 32, by omega⟩ : Fin 4) (⟨l.val % 32, Nat.mod_lt _ (by decide)⟩ : Fin 32))
    (by rewrite [Shape.rowMajor_val_four, Shape.rowMajor_val_two]; show ((0 * 4096 + r.val) * 4 + l.val / 32) * 32 + l.val % 32 = r.val * 128 + l.val; omega)]
  rw [broadcastInDim_apply _ bcast_S1x4096x1x32_S1x4096x4x32_0_1_2_3 _ _ (ix4 (0 : Fin 1) r (0 : Fin 1) (⟨l.val % 32, Nat.mod_lt _ (by decide)⟩ : Fin 32)) (fun a => match a with
    | ⟨0, _⟩ => by show 0 = if (1 : Nat) = 1 then 0 else 0; rw [if_pos rfl]
    | ⟨1, _⟩ => by show r.val = if (4096 : Nat) = 1 then 0 else r.val; rw [if_neg (by decide)]
    | ⟨2, _⟩ => by show 0 = if (1 : Nat) = 1 then 0 else l.val / 32; rw [if_pos rfl]
    | ⟨3, _⟩ => by show l.val % 32 = if (32 : Nat) = 1 then 0 else l.val % 32; rw [if_neg (by decide)])]
  rw [shapeCast_apply _ shapeCasts_S4096x32_S1x4096x1x32 _ (ix2 r (⟨l.val % 32, Nat.mod_lt _ (by decide)⟩ : Fin 32))
    (by rewrite [Shape.rowMajor_val_two, Shape.rowMajor_val_four]; show r.val * 32 + l.val % 32 = ((0 * 4096 + r.val) * 1 + 0) * 32 + l.val % 32; omega)]
  unfold cosOf
  rw [← angles_at]
  rfl

theorem sinPair_at (r : Fin 4096) (f : Fin 64) : sinPair p (ix2 r f)
    = if f.val < 32 then -(sinOf p r ⟨f.val % 32, Nat.mod_lt _ (by decide)⟩) else sinOf p r ⟨f.val % 32, Nat.mod_lt _ (by decide)⟩ := by
  have hf := f.isLt
  unfold sinPair sinOf
  rw [← angles_at]
  by_cases h : f.val < 32
  · rw [if_pos h]
    rw [concatenate_pair_apply_left (t := S4096x64) (s₁ := S4096x32) (s₂ := S4096x32) 1 _ _ _ (ix2 r f) rfl (ix2 r (⟨f.val % 32, Nat.mod_lt _ (by decide)⟩ : Fin 32)) (fun a => match a with
      | ⟨0, _⟩ => rfl
      | ⟨1, _⟩ => Nat.mod_eq_of_lt h)]
    rfl
  · rw [if_neg h]
    rw [concatenate_pair_apply_right (t := S4096x64) (s₁ := S4096x32) (s₂ := S4096x32) 1 _ _ _ (ix2 r f) rfl rfl (ix2 r (⟨f.val % 32, Nat.mod_lt _ (by decide)⟩ : Fin 32)) (fun a ha => match a with
      | ⟨0, _⟩ => rfl
      | ⟨1, _⟩ => absurd rfl ha) (by show f.val % 32 + 32 = f.val; omega)]
    rfl

theorem sinTab_at (r : Fin 4096) (l : Fin 128) : sinTab p (ix2 r l)
    = if l.val % 64 < 32 then -(sinOf p r ⟨l.val % 32, Nat.mod_lt _ (by decide)⟩) else sinOf p r ⟨l.val % 32, Nat.mod_lt _ (by decide)⟩ := by
  have hl := l.isLt
  unfold sinTab
  rw [shapeCast_apply _ shapeCasts_S1x4096x2x64_S4096x128 (ix2 r l) (ix4 (0 : Fin 1) r (⟨l.val / 64, by omega⟩ : Fin 2) (⟨l.val % 64, Nat.mod_lt _ (by decide)⟩ : Fin 64))
    (by rewrite [Shape.rowMajor_val_four, Shape.rowMajor_val_two]; show ((0 * 4096 + r.val) * 2 + l.val / 64) * 64 + l.val % 64 = r.val * 128 + l.val; omega)]
  rw [broadcastInDim_apply _ bcast_S1x4096x1x64_S1x4096x2x64_0_1_2_3 _ _ (ix4 (0 : Fin 1) r (0 : Fin 1) (⟨l.val % 64, Nat.mod_lt _ (by decide)⟩ : Fin 64)) (fun a => match a with
    | ⟨0, _⟩ => by show 0 = if (1 : Nat) = 1 then 0 else 0; rw [if_pos rfl]
    | ⟨1, _⟩ => by show r.val = if (4096 : Nat) = 1 then 0 else r.val; rw [if_neg (by decide)]
    | ⟨2, _⟩ => by show 0 = if (1 : Nat) = 1 then 0 else l.val / 64; rw [if_pos rfl]
    | ⟨3, _⟩ => by show l.val % 64 = if (64 : Nat) = 1 then 0 else l.val % 64; rw [if_neg (by decide)])]
  rw [shapeCast_apply _ shapeCasts_S4096x64_S1x4096x1x64 _ (ix2 r (⟨l.val % 64, Nat.mod_lt _ (by decide)⟩ : Fin 64))
    (by rewrite [Shape.rowMajor_val_two, Shape.rowMajor_val_four]; show r.val * 64 + l.val % 64 = ((0 * 4096 + r.val) * 1 + 0) * 64 + l.val % 64; omega)]
  rw [sinPair_at]
  have e : (⟨l.val % 64 % 32, Nat.mod_lt _ (by decide)⟩ : Fin 32) = ⟨l.val % 32, Nat.mod_lt _ (by decide)⟩ := Fin.ext (by show l.val % 64 % 32 = l.val % 32; omega)
  simp only [e]
end Tables

/-! ## The arrays of the whole call -/

section Whole
variable (h : FVec Ideal S4096x1024 .f32) (g : FVec Ideal S1024 .f32) (w : FVec Ideal S1024x3072 .f32) (p : IVec S4096 32)

/-- A query's coordinate: in a head of 64, the first 32 coordinates turn against the last 32. -/
def queryOf (r : Fin 4096) (j : Fin 3072) : EReal :=
  if hj : j.val % 64 < 32 then
    (projOf h g w r j * cosOf p r ⟨j.val % 32, Nat.mod_lt _ (by decide)⟩ - projOf h g w r ⟨j.val + 32, by omega⟩ * sinOf p r ⟨j.val % 32, Nat.mod_lt _ (by decide)⟩) * eighth
  else
    (projOf h g w r j * cosOf p r ⟨j.val % 32, Nat.mod_lt _ (by decide)⟩ + projOf h g w r ⟨j.val - 32, by omega⟩ * sinOf p r ⟨j.val % 32, Nat.mod_lt _ (by decide)⟩) * eighth

def queryArr : FVec Ideal S4096x3072 .bf16 := fun i => queryOf h g w p ⟨(i 0).val, (i 0).isLt⟩ ⟨(i 1).val, (i 1).isLt⟩
end Whole

/-! ## The blocks -/

section Blocks
variable (m : (ℓ : Loc nD τ sig) → Buf (Elt Ideal) ℓ)

abbrev hA (c : Dev nD) : FVec Ideal S4096x1024 .f32 := m (c.tc.loc main_arg0)
abbrev gA (c : Dev nD) : FVec Ideal S1024 .f32 := m (c.tc.loc main_arg1)
abbrev wA (c : Dev nD) : FVec Ideal S1024x3072 .f32 := m (c.tc.loc main_arg2)
abbrev pA (c : Dev nD) : IVec S4096 32 := m (c.tc.loc main_arg3)

theorem tlt (t : Fin cfg0.N) : t.val < 16 := lt_of_lt_of_eq t.isLt (show cfg0.N = 16 from N_0)

theorem ix_0 : ∀ t : Fin cfg0.N, win0_0.index t = ![min t.val 3, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val / 4, 0, 0] := (by decide +kernel : ∀ t : Fin grid0.N, _)
theorem ix_3 : ∀ t : Fin cfg0.N, win0_3.index t = ![t.val % 4, 0] := (by decide +kernel : ∀ t : Fin grid0.N, _)
theorem ix_4 : ∀ t : Fin cfg0.N, win0_4.index t = ![t.val % 4, 0] := (by decide +kernel : ∀ t : Fin grid0.N, _)
theorem ix_5 : ∀ t : Fin cfg0.N, win0_5.index t = ![t.val % 4, t.val / 4] := (by decide +kernel : ∀ t : Fin grid0.N, _)
theorem ix_6 : ∀ t : Fin cfg0.N, win0_6.index t = ![min t.val 3, 0] := (by decide +kernel : ∀ t : Fin grid0.N, _)

theorem blk_0 (c : Dev nD) (t : Fin cfg0.N) (r : Fin 1024) (d : Fin 1024) : iblk m c 0 t (ix2 r d) = hA m c (ix2 (at4 (min t.val 3) (by omega) r) d) := by
  blk_simp [iblk, ix_0]
  rw [V_main_arg0]
  refine congrArg (hA m c) ?_
  unfold at4
  blk_ext [ix_0]
theorem V_gain (c : Dev nD) : (V m c main_v0 : FVec Ideal S1x1024 .f32) = shapeCast S1x1024 (gA m c) shapeCasts_S1024_S1x1024 := by
  unfold V
  after_results
  rfl
theorem blk_1 (c : Dev nD) (t : Fin cfg0.N) (d : Fin 1024) : iblk m c 1 t (ix2 0 d) = gA m c (ix1 d) := by
  have e : shapeCast S1x1024 (gA m c) shapeCasts_S1024_S1x1024 (ix2 0 d) = gA m c (ix1 d) := by pointwise
  rw [← e]
  blk_simp [iblk, ix_1]
  rw [V_gain]
  refine congrArg (shapeCast S1x1024 (gA m c) shapeCasts_S1024_S1x1024) ?_
  blk_ext [ix_1]

/-- The weight as the kernel takes it: its columns in four blocks, rounded. -/
def wArr (w : FVec Ideal S1024x3072 .f32) : FVec Ideal S4x1024x768 .bf16 :=
  transpose S4x1024x768 [1, 0, 2] (shapeCast S1024x4x768 (truncf .bf16 w bitsLt_bf16_f32) shapeCasts_S1024x3072_S1024x4x768) transposes_S1024x4x768_S4x1024x768_1_0_2
theorem V_w (c : Dev nD) : (V m c main_v3 : FVec Ideal S4x1024x768 .bf16) = wArr (wA m c) := by
  unfold V
  after_results
  rfl
theorem wArr_at (w : FVec Ideal S1024x3072 .f32) (q : Fin 4) (d : Fin 1024) (f : Fin 768) :
    wArr w (ix3 q d f) = w (ix2 d (⟨q.val * 768 + f.val, by omega⟩ : Fin 3072)) := by
  unfold wArr
  pointwise

/-- Column f of block q of the 3072. -/
def feat (q : Nat) (hq : q < 4) (f : Fin 768) : Fin 3072 := ⟨q * 768 + f.val, by omega⟩
theorem col_lt (t : Fin cfg0.N) : t.val / 4 < 4 := by have := tlt t; omega

theorem blk_2 (c : Dev nD) (t : Fin cfg0.N) (d : Fin 1024) (f : Fin 768) :
    iblk m c 2 t (ix3 0 d f) = wA m c (ix2 d (feat (t.val / 4) (col_lt t) f)) := by
  refine Eq.trans ?_ (wArr_at (wA m c) (⟨t.val / 4, col_lt t⟩ : Fin 4) d f)
  blk_simp [iblk, ix_2]
  rw [V_w]
  refine congrArg (wArr (wA m c)) ?_
  blk_ext [ix_2]

theorem V_cos (c : Dev nD) : (V m c main_v20 : FVec Ideal S4096x128 .f32) = cosTab (pA m c) := by
  unfold V
  after_results
  rfl
theorem V_sin (c : Dev nD) : (V m c main_v25 : FVec Ideal S4096x128 .f32) = sinTab (pA m c) := by
  unfold V
  after_results
  rfl
theorem blk_3 (c : Dev nD) (t : Fin cfg0.N) (r : Fin 1024) (l : Fin 128) : iblk m c 3 t (ix2 r l) = cosTab (pA m c) (ix2 (at4 (t.val % 4) (Nat.mod_lt _ (by decide)) r) l) := by
  blk_simp [iblk, ix_3]
  rw [V_cos]
  refine congrArg (cosTab (pA m c)) ?_
  unfold at4
  blk_ext [ix_3]
theorem blk_4 (c : Dev nD) (t : Fin cfg0.N) (r : Fin 1024) (l : Fin 128) : iblk m c 4 t (ix2 r l) = sinTab (pA m c) (ix2 (at4 (t.val % 4) (Nat.mod_lt _ (by decide)) r) l) := by
  blk_simp [iblk, ix_4]
  rw [V_sin]
  refine congrArg (sinTab (pA m c)) ?_
  unfold at4
  blk_ext [ix_4]

/-! ## What a point leaves -/

theorem hnAt_at (c : Dev nD) (b : Nat) (hb : b < 4) (r : Fin 1024) (d : Fin 1024) : hnAt m c b hb (ix2 r d) = hnOfArr (hA m c) (gA m c) (at4 b hb r) d := by
  unfold hnAt
  rw [normed_at]
  simp only [blk_0, blk_1, show min b 3 = b by omega]
  rfl
theorem z_block (c : Dev nD) (t : Fin cfg0.N) (r : Fin 1024) (f : Fin 768) : dotAt (hnOf m c t) (iblk m c 2 t) r f
    = projOf (hA m c) (gA m c) (wA m c) (at4 (t.val % 4) (Nat.mod_lt _ (by decide)) r) (feat (t.val / 4) (col_lt t) f) := by
  unfold dotAt hnOf
  simp only [hnAt_at, blk_2]
  rfl

theorem q_block (c : Dev nD) (t : Fin cfg0.N) (r : Fin 1024) (f : Fin 768) : rotated (F := Ideal) (hnOf m c t) (iblk m c 2 t) (iblk m c 3 t) (iblk m c 4 t) (ix2 r f)
    = queryOf (hA m c) (gA m c) (wA m c) (pA m c) (at4 (t.val % 4) (Nat.mod_lt _ (by decide)) r) (feat (t.val / 4) (col_lt t) f) := by
  have hf := f.isLt
  have hq := col_lt t
  rw [rotated_at, blk_3, blk_4, cosTab_at, sinTab_at, z_block]
  have ej : (feat (t.val / 4) (col_lt t) f).val = t.val / 4 * 768 + f.val := rfl
  have el : (⟨f.val % 128 % 32, Nat.mod_lt _ (by decide)⟩ : Fin 32) = ⟨(feat (t.val / 4) (col_lt t) f).val % 32, Nat.mod_lt _ (by decide)⟩ :=
    Fin.ext (by show f.val % 128 % 32 = (t.val / 4 * 768 + f.val) % 32; omega)
  unfold queryOf
  by_cases h : f.val % 64 < 32
  · have h1 : f.val % 128 % 64 < 32 := by omega
    have h2 : (feat (t.val / 4) (col_lt t) f).val % 64 < 32 := by rw [ej]; omega
    rw [dif_pos h, if_pos h1, dif_pos h2, z_block, mul_neg, ← sub_eq_add_neg]
    have e2 : feat (t.val / 4) (col_lt t) (⟨f.val + 32, by omega⟩ : Fin 768) = ⟨(feat (t.val / 4) (col_lt t) f).val + 32, by rw [ej]; omega⟩ :=
      Fin.ext (by show t.val / 4 * 768 + (f.val + 32) = t.val / 4 * 768 + f.val + 32; omega)
    simp only [el, e2]
  · have h1 : ¬ f.val % 128 % 64 < 32 := by omega
    have h2 : ¬ (feat (t.val / 4) (col_lt t) f).val % 64 < 32 := by rw [ej]; omega
    rw [dif_neg h, if_neg h1, dif_neg h2, z_block]
    have e2 : feat (t.val / 4) (col_lt t) (⟨f.val - 32, by omega⟩ : Fin 768) = ⟨(feat (t.val / 4) (col_lt t) f).val - 32, by rw [ej]; omega⟩ :=
      Fin.ext (by show t.val / 4 * 768 + (f.val - 32) = t.val / 4 * 768 + f.val - 32; omega)
    simp only [el, e2]

/-! ## The arrays at the end -/

theorem q_eq (c : Dev nD) : (dats m 0 c).arrAt 5 cfg0.N = queryArr (hA m c) (gA m c) (wA m c) (pA m c) := by
  refine (dats m 0 c).arrAt_eq_of_covers 5 _ (by decide +kernel) fun t hf y => ?_
  blk_simp
  rw [after_5]
  have hy0 : (y 0).val < 1024 := (y 0).isLt
  have hy1 : (y 1).val < 768 := (y 1).isLt
  rw [pair (A := 1024) (B := 768) y]
  refine (q_block m c t _ _).trans ?_
  refine Eq.trans (b := (queryArr (hA m c) (gA m c) (wA m c) (pA m c)) (ix2 (at4 (t.val % 4) (Nat.mod_lt _ (by decide)) ⟨(y 0).val, hy0⟩) (feat (t.val / 4) (col_lt t) ⟨(y 1).val, hy1⟩))) rfl
    (congrArg (queryArr (hA m c) (gA m c) (wA m c) (pA m c)) ?_)
  unfold at4 feat
  blk_ext [ix_5]
theorem hn_eq (c : Dev nD) : (dats m 0 c).arrAt 6 cfg0.N = hnArr (hA m c) (gA m c) := by
  refine (dats m 0 c).arrAt_eq_of_covers 6 _ (by decide +kernel) fun t hf y => ?_
  blk_simp
  rw [after_6]
  have hy0 : (y 0).val < 1024 := (y 0).isLt
  have hy1 : (y 1).val < 1024 := (y 1).isLt
  rw [pair (A := 1024) (B := 1024) y]
  refine (hnAt_at m c _ _ _ _).trans ?_
  refine Eq.trans (b := (hnArr (hA m c) (gA m c)) (ix2 (at4 (min t.val 3) (by omega) ⟨(y 0).val, hy0⟩) (⟨(y 1).val, hy1⟩ : Fin 1024))) rfl
    (congrArg (hnArr (hA m c) (gA m c)) ?_)
  unfold at4
  blk_ext [ix_6]

theorem run_values (ρ : Dev nD → PrngReg) : θ_run defs (onTc (τ := τ) (main (F := Ideal))) ⟨m, fun _ => 0, ρ⟩ fun r => ∀ c : Dev nD,
      r.2.mem (c.tc.loc main_v26_0) = queryArr (hA m c) (gA m c) (wA m c) (pA m c)
      ∧ r.2.mem (c.tc.loc main_v26_1) = hnArr (hA m c) (gA m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨((h c).1 5).trans (q_eq m c), ((h c).1 6).trans (hn_eq m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)
end Blocks

end Cert.Kernel18Ideal.Rotary
-- ==== Proof.Rotary.Ref.lean ====
/- The reference's normed input and queries, element by element: the kernel's two results. -/
module

public import proofs.«01_k».proof.Proof.Rotary.Array
public import proofs.«01_k».proof.Proof.Norm.Back
public import proofs.«01_k».proof.Proof.Gen.Reference18Ideal.Read

@[expose] public section

set_option maxRecDepth 16384

noncomputable section

namespace Cert.Reference18Ideal.Rotary

open Cert.Reference18Ideal Cert.Reference18Ideal.Gen Cert.Reference18Ideal.Read
open Idealize.ShloMosaic Idealize.ShloMosaic.TcCoe
open Cert.Norm (rinv row)
open Cert.Kernel17Ideal.ConvIn (hnOfArr projOf hnArr)
open Cert.Kernel18Ideal.Rotary (eighth freq angle cosOf sinOf queryOf queryArr)

variable (h : FVec Ideal S4096x1024 .f32) (g : FVec Ideal S1024 .f32) (w : FVec Ideal S1024x3072 .f32) (p : IVec S4096 32)

theorem v7_at (r : Fin 4096) : val_main_v7 (F := Ideal) h (ix2 r (0 : Fin 1)) = rinv (row h r) :=
  Eq.trans (b := Cert.Reference6Ideal.Read.val_main_v7 (F := Ideal) h (ix2 r (0 : Fin 1))) rfl (Cert.Norm.rinv_at h r)
theorem v12_at (r : Fin 4096) (d : Fin 1024) : val_main_v12 (F := Ideal) h g (ix2 r d) = hnOfArr h g r d := by
  unfold hnOfArr
  rw [show rinv (fun e : Fin 1024 => h (ix2 r e)) = rinv (row h r) from rfl, ← v7_at]
  unfold val_main_v12 val_main_v9 val_main_v8 val_main_v11 val_main_v10
  pointwise
theorem v13_at (r : Fin 4096) (j : Fin 3072) : val_main_v13 (F := Ideal) h g w (ix2 r j) = projOf h g w r j := by
  rw [val_main_v13_apply]
  have eL : ∀ d, lidx_main_v13 (ix2 r j) d = ix2 r d := fun d => by funext b; fin_cases b <;> rfl
  have eR : ∀ d, ridx_main_v13 (ix2 r j) d = ix2 d j := fun d => by funext b; fin_cases b <;> rfl
  simp only [eL, eR, v12_at]
  rfl

/-! ## The angles -/

theorem v27_at (r : Fin 4096) (e : Fin 32) : val_main_v27 (F := Ideal) p (ix3 (0 : Fin 1) r e) = angle p r e := by
  rw [val_main_v27_apply, val_main_v25_apply, val_main_v23_apply, val_main_v22_apply, val_main_v15_apply, val_main_v26_apply, val_main_v24_apply]
  have e1 : idx_main_v15 (idx_main_v23 (idx_main_v25 (ix3 (0 : Fin 1) r e))) = ix1 r := by funext b; fin_cases b; rfl
  have e2 : idx_main_v24 (idx_main_v26 (ix3 (0 : Fin 1) r e)) = ix1 e := by funext b; fin_cases b; rfl
  rw [e1, e2]
  have e3 : val_main_v21 (F := Ideal) = freq := by
    unfold val_main_v21 val_main_v20 val_main_cst_3 val_main_v19 val_main_v18 val_main_cst_2 val_main_v17 val_main_v16 freq
    rfl
  rw [e3]
  rfl
theorem cos_at (r : Fin 4096) (e : Fin 32) : val_main_v29 (F := Ideal) p (ix4 (0 : Fin 1) r (0 : Fin 1) e) = cosOf p r e := by
  rw [val_main_v29_apply, val_main_v28_apply]
  have e1 : idx_main_v29 (ix4 (0 : Fin 1) r (0 : Fin 1) e) = ix3 (0 : Fin 1) r e := by funext b; fin_cases b <;> rfl
  rw [e1, v27_at]
  rfl
theorem sin_at (r : Fin 4096) (e : Fin 32) : val_main_v31 (F := Ideal) p (ix4 (0 : Fin 1) r (0 : Fin 1) e) = sinOf p r e := by
  rw [val_main_v31_apply, val_main_v30_apply]
  have e1 : idx_main_v31 (ix4 (0 : Fin 1) r (0 : Fin 1) e) = ix3 (0 : Fin 1) r e := by funext b; fin_cases b <;> rfl
  rw [e1, v27_at]
  rfl

/-! ## The heads -/

/-- A head's first half, -/
theorem v32_at (r : Fin 4096) (a : Fin 48) (e : Fin 32) :
    val_main_v32 (F := Ideal) h g w (ix4 (0 : Fin 1) r a e) = projOf h g w r ⟨a.val * 64 + e.val, by omega⟩ := by
  rw [val_main_v32_apply, val_main_v14_apply, ← v13_at]
  refine congrArg (val_main_v13 (F := Ideal) h g w) (funext fun b => Fin.ext ?_)
  have hr := r.isLt
  have ha := a.isLt
  have he := e.isLt
  match b with
  | ⟨0, _⟩ => show (((0 * 4096 + r.val) * 48 + a.val) * 64 + e.val) / 3072 = r.val; omega
  | ⟨1, _⟩ => show (((0 * 4096 + r.val) * 48 + a.val) * 64 + e.val) % 3072 = a.val * 64 + e.val; omega
/-- and its second. -/
theorem v33_at (r : Fin 4096) (a : Fin 48) (e : Fin 32) :
    val_main_v33 (F := Ideal) h g w (ix4 (0 : Fin 1) r a e) = projOf h g w r ⟨a.val * 64 + (32 + e.val), by omega⟩ := by
  rw [val_main_v33_apply, val_main_v14_apply, ← v13_at]
  refine congrArg (val_main_v13 (F := Ideal) h g w) (funext fun b => Fin.ext ?_)
  have hr := r.isLt
  have ha := a.isLt
  have he := e.isLt
  match b with
  | ⟨0, _⟩ => show (((0 * 4096 + r.val) * 48 + a.val) * 64 + (32 + e.val)) / 3072 = r.val; omega
  | ⟨1, _⟩ => show (((0 * 4096 + r.val) * 48 + a.val) * 64 + (32 + e.val)) % 3072 = a.val * 64 + (32 + e.val); omega

theorem v38_at (r : Fin 4096) (a : Fin 48) (e : Fin 32) : val_main_v38 (F := Ideal) h g w p (ix4 (0 : Fin 1) r a e)
    = projOf h g w r ⟨a.val * 64 + e.val, by omega⟩ * cosOf p r e - projOf h g w r ⟨a.val * 64 + (32 + e.val), by omega⟩ * sinOf p r e := by
  rw [val_main_v38_apply, val_main_v35_apply, val_main_v37_apply, val_main_v34_apply, val_main_v36_apply, v32_at, v33_at]
  have e1 : idx_main_v34 (ix4 (0 : Fin 1) r a e) = ix4 (0 : Fin 1) r (0 : Fin 1) e := by funext b; fin_cases b <;> rfl
  have e2 : idx_main_v36 (ix4 (0 : Fin 1) r a e) = ix4 (0 : Fin 1) r (0 : Fin 1) e := by funext b; fin_cases b <;> rfl
  rw [e1, e2, cos_at, sin_at]
  rfl
theorem v43_at (r : Fin 4096) (a : Fin 48) (e : Fin 32) : val_main_v43 (F := Ideal) h g w p (ix4 (0 : Fin 1) r a e)
    = projOf h g w r ⟨a.val * 64 + (32 + e.val), by omega⟩ * cosOf p r e + projOf h g w r ⟨a.val * 64 + e.val, by omega⟩ * sinOf p r e := by
  rw [val_main_v43_apply, val_main_v40_apply, val_main_v42_apply, val_main_v39_apply, val_main_v41_apply, v32_at, v33_at]
  have e1 : idx_main_v39 (ix4 (0 : Fin 1) r a e) = ix4 (0 : Fin 1) r (0 : Fin 1) e := by funext b; fin_cases b <;> rfl
  have e2 : idx_main_v41 (ix4 (0 : Fin 1) r a e) = ix4 (0 : Fin 1) r (0 : Fin 1) e := by funext b; fin_cases b <;> rfl
  rw [e1, e2, cos_at, sin_at]
  rfl

/-- Two halves side by side: a coordinate of the first, -/
theorem first_half (x y : FVec Ideal S1x4096x48x32 .f32) (r : Fin 4096) (a : Fin 48) (e : Fin 64) (he : e.val < 32) :
    concatenate S1x4096x48x64 3 [⟨S1x4096x48x32, x⟩, ⟨S1x4096x48x32, y⟩] concatenates_S1x4096x48x32_S1x4096x48x32_S1x4096x48x64_d3 (ix4 (0 : Fin 1) r a e)
      = x (ix4 (0 : Fin 1) r a (⟨e.val, he⟩ : Fin 32)) :=
  concatenate_pair_apply_left (t := S1x4096x48x64) (s₁ := S1x4096x48x32) (s₂ := S1x4096x48x32) 3 _ _ _ _ rfl _ (fun b => match b with
    | ⟨0, _⟩ => rfl
    | ⟨1, _⟩ => rfl
    | ⟨2, _⟩ => rfl
    | ⟨3, _⟩ => rfl)
/-- and one of the second. -/
theorem second_half (x y : FVec Ideal S1x4096x48x32 .f32) (r : Fin 4096) (a : Fin 48) (e : Fin 64) (he : ¬ e.val < 32) :
    concatenate S1x4096x48x64 3 [⟨S1x4096x48x32, x⟩, ⟨S1x4096x48x32, y⟩] concatenates_S1x4096x48x32_S1x4096x48x32_S1x4096x48x64_d3 (ix4 (0 : Fin 1) r a e)
      = y (ix4 (0 : Fin 1) r a (⟨e.val - 32, by omega⟩ : Fin 32)) :=
  concatenate_pair_apply_right (t := S1x4096x48x64) (s₁ := S1x4096x48x32) (s₂ := S1x4096x48x32) 3 _ _ _ _ rfl rfl _ (fun b hb => match b with
    | ⟨0, _⟩ => rfl
    | ⟨1, _⟩ => rfl
    | ⟨2, _⟩ => rfl
    | ⟨3, _⟩ => absurd rfl hb) (by show e.val - 32 + 32 = e.val; omega)
/-- A query, scaled. -/
theorem v46_at (r : Fin 4096) (a : Fin 48) (e : Fin 64) : val_main_v46 (F := Ideal) h g w p (ix4 (0 : Fin 1) r a e)
    = val_main_v44 (F := Ideal) h g w p (ix4 (0 : Fin 1) r a e) * eighth := by
  rw [val_main_v46_apply]
  rfl

/-- A column's head and coordinate. -/
theorem head_idx (r : Fin 4096) (j : Fin 3072) : idx_main_v47 (ix2 r j) = ix4 (0 : Fin 1) r (⟨j.val / 64, by omega⟩ : Fin 48) (⟨j.val % 64, Nat.mod_lt _ (by decide)⟩ : Fin 64) := by
  have hr := r.isLt
  have hj := j.isLt
  exact funext fun b => Fin.ext (by
    match b with
    | ⟨0, _⟩ => rfl
    | ⟨1, _⟩ => show (r.val * 3072 + j.val) / 3072 % 4096 = r.val; omega
    | ⟨2, _⟩ => show (r.val * 3072 + j.val) / 64 % 48 = j.val / 64; omega
    | ⟨3, _⟩ => show (r.val * 3072 + j.val) % 64 = j.val % 64; omega)
theorem v47_at (r : Fin 4096) (j : Fin 3072) : val_main_v47 (F := Ideal) h g w p (ix2 r j) = queryOf h g w p r j := by
  have hr := r.isLt
  have hj := j.isLt
  rw [val_main_v47_apply, head_idx]
  unfold queryOf
  by_cases hh : j.val % 64 < 32
  · rw [v46_at, show val_main_v44 (F := Ideal) h g w p _ = _ from first_half _ _ r _ _ hh, v38_at, dif_pos hh]
    have a1 : (⟨j.val / 64 * 64 + j.val % 64, by omega⟩ : Fin 3072) = j := Fin.ext (by show j.val / 64 * 64 + j.val % 64 = j.val; omega)
    have a2 : (⟨j.val / 64 * 64 + (32 + j.val % 64), by omega⟩ : Fin 3072) = ⟨j.val + 32, by omega⟩ := Fin.ext (by show j.val / 64 * 64 + (32 + j.val % 64) = j.val + 32; omega)
    have a3 : (⟨j.val % 64, hh⟩ : Fin 32) = ⟨j.val % 32, Nat.mod_lt _ (by decide)⟩ := Fin.ext (by show j.val % 64 = j.val % 32; omega)
    simp only [a1, a2, a3]
  · rw [v46_at, show val_main_v44 (F := Ideal) h g w p _ = _ from second_half _ _ r _ _ hh, v43_at, dif_neg hh]
    have a1 : (⟨j.val / 64 * 64 + (32 + (j.val % 64 - 32)), by omega⟩ : Fin 3072) = j := Fin.ext (by show j.val / 64 * 64 + (32 + (j.val % 64 - 32)) = j.val; omega)
    have a2 : (⟨j.val / 64 * 64 + (j.val % 64 - 32), by omega⟩ : Fin 3072) = ⟨j.val - 32, by omega⟩ := Fin.ext (by show j.val / 64 * 64 + (j.val % 64 - 32) = j.val - 32; omega)
    have a3 : (⟨j.val % 64 - 32, by omega⟩ : Fin 32) = ⟨j.val % 32, Nat.mod_lt _ (by decide)⟩ := Fin.ext (by show j.val % 64 - 32 = j.val % 32; omega)
    simp only [a1, a2, a3]

theorem q_eq : val_main_v48 (F := Ideal) h g w p = queryArr h g w p := by
  funext i
  idx_vars i
  exact Eq.trans (b := val_main_v47 (F := Ideal) h g w p (ix2 i0 i1)) rfl (v47_at h g w p i0 i1)
theorem hn_eq : val_main_v49 (F := Ideal) h g = hnArr h g := by
  funext i
  idx_vars i
  exact Eq.trans (b := val_main_v12 (F := Ideal) h g (ix2 i0 i1)) rfl (v12_at h g i0 i1)

end Cert.Reference18Ideal.Rotary
-- ==== Proof.KeysValues.Body.lean ====
/- One grid step of the normalisation with the keys' and values' product and the keys' rotary embedding: the block of rows it normalises and keeps, or finds
   kept, and what it leaves in its two result blocks, in the three cases of its conditionals. -/
module

public import proofs.«01_k».proof.Proof.Gen.Kernel19Ideal.Frame
public import proofs.«01_k».proof.Proof.Norm.Kept
public import proofs.«01_k».proof.Proof.Gen.Kernel19Ideal.Skeleton

@[expose] public section

set_option maxRecDepth 16384

noncomputable section

namespace Cert.Kernel19Ideal.KeysValues

open Cert.Kernel19Ideal Cert.Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kept
open Idealize.ShloMosaic.Pipeline (Dat Cfg Window BodyObligation cellOf)

variable {F : FTy → Type} [FloatOps F]

local notation "𝕄" => MT nD τ sig Unit (Elt F) ℕ (UR sig nD τ) ℕ

theorem off_1 : ∀ i : grid0.Coords, k0_off1 i = ![(i 1).val * 1024, 0] := by decide +kernel
theorem off_2 : ∀ i : grid0.Coords, k0_off2 i = ![(i 1).val * 1024, 0] := by decide +kernel
theorem lt4 (i : grid0.Coords) : (i 1).val < 4 := (i 1).isLt

/-- One tile of the keys: 128 columns of the product, rotated by the tables and rounded. -/
def tile (acc : FVec F S1024x1536 .f32) (cs ss : Vec F S1024x128 .f32) : Fin 12 → Vec F S1024x128 .bf16 :=
  ![k0_pay8 acc cs ss,
    k0_pay10 (k0_pay9 acc cs ss),
    k0_pay11 acc (k0_pay5 cs) (k0_pay6 ss) k0_pay7,
    k0_pay12 acc (k0_pay5 cs) (k0_pay6 ss) k0_pay7,
    k0_pay13 acc (k0_pay5 cs) (k0_pay6 ss) k0_pay7,
    k0_pay15 (k0_pay5 cs) (k0_pay6 ss) k0_pay7 (k0_pay14 acc),
    k0_pay16 acc (k0_pay5 cs) (k0_pay6 ss) k0_pay7,
    k0_pay17 acc (k0_pay5 cs) (k0_pay6 ss) k0_pay7,
    k0_pay19 (k0_pay18 acc (k0_pay5 cs) (k0_pay6 ss) k0_pay7) (Scalar.ofBits .f32 0x3F800000#32),
    k0_pay20 acc (k0_pay5 cs) (k0_pay6 ss) k0_pay7,
    k0_pay21 acc (k0_pay5 cs) (k0_pay6 ss) k0_pay7,
    k0_pay22 acc (k0_pay5 cs) (k0_pay6 ss) k0_pay7]
/-- What a step leaves in its block of keys. -/
def rotated (n : Vec F S1024x1024 .bf16) (w : Vec F S1x1024x1536 .bf16) (cs ss : Vec F S1024x128 .f32) : Vec F S1024x1536 .bf16 :=
  tiles (N := 12) rfl (tile (k0_pay3 n w) cs ss)

/-! ## The step, from its blocks `x0` (tokens), `x1` (gain) and `x2` (the weights' columns),
   `x3` and `x4` (the rotary tables) -/

/-- The kept block is the normalised one. -/
theorem kept_eq (x0 : Vec F S1024x1024 .f32) (x1 : Vec F S1x1024 .f32) : k0_pay2 x0 x1 = k0_pay1 x0 x1 := shapeCast_self _ _

set_option maxHeartbeats 2000000 in
/-- The first four steps normalise a block of rows and keep it. -/
theorem run_A (c : Dev nD) (i : grid0.Coords) (arg2 : Memref sig .tc .vmem S1024x1024 .f32) (harg2 : arg2.IsWhole) (arg3 : Memref sig .tc .vmem S1x1024 .f32) (harg3 : arg3.IsWhole)
    (arg4 : Memref sig .tc .vmem S1x1024x1536 .bf16) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x1536 .bf16) (harg7 : arg7.IsWhole)
    (arg8 : Memref sig .tc .vmem S1024x1024 .bf16) (harg8 : arg8.IsWhole) (arg9 : Memref sig .tc .vmem S4096x1024 .bf16) (harg9 : arg9.IsWhole) (hc0 : k0_cond1 i = 1#1) (hc1 : ¬k0_cond2 i = 1#1)
    (hc2 : k0_cond3 i = 1#1) (hc3 : ¬k0_cond4 i = 1#1)
    (x0 : Vec F S1024x1024 .f32) (x1 : Vec F S1x1024 .f32) (x2 : Vec F S1x1024x1536 .bf16) (x3 x4 : Vec F S1024x128 .f32) (X : Vec F S4096x1024 .bf16) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4
        ∗ (∃ d, owns c.tc arg7 fullShare d) ∗ (∃ d, owns c.tc arg8 fullShare d) ∗ owns c.tc arg9 fullShare X
        ∗ (iprop(owns c.tc arg2 fullShare x0 ∗ owns c.tc arg3 fullShare x1 ∗ owns c.tc arg4 fullShare x2 ∗ owns c.tc arg5 fullShare x3 ∗ owns c.tc arg6 fullShare x4
            ∗ owns c.tc arg7 fullShare (rotated (k0_pay1 x0 x1) x2 x3 x4) ∗ owns c.tc arg8 fullShare (k0_pay1 x0 x1)
            ∗ (∃ Y : Vec F S4096x1024 .bf16, ⌜rows Y (i 1).val (lt4 i) = k0_pay1 x0 x1 ∧ ∀ b (hb : b < 4), b ≠ (i 1).val → rows Y b hb = rows X b hb⌝ ∗ owns c.tc arg9 fullShare Y)) -∗ K ⟨⟩))
      ⊢ wp frame (wpE (defs₀ (F := F)) Variants.none c none) Set.univ (cc0_f1_kv i arg2 harg2 arg3 harg3 arg4 harg4 arg5 harg5 arg6 harg6 arg7 harg7 arg8 harg8 arg9 harg9) K := by
  haveI : Fact (k0_cond1 i = 1#1) := ⟨hc0⟩
  haveI : Fact (¬k0_cond2 i = 1#1) := ⟨hc1⟩
  haveI : Fact (k0_cond3 i = 1#1) := ⟨hc2⟩
  haveI : Fact (¬k0_cond4 i = 1#1) := ⟨hc3⟩
  simp only [cc0_f1_kv_eq_skeleton]; unfold cc0_f1_kv_skel
  simp only [k0_part4_eq_skeleton]; unfold k0_part4_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  sl_exec (disch := first | sl_exact hc0 | sl_exact hc1 | sl_exact hc2 | sl_exact hc3)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr
    swap; · iexact H5
    ipureintro
    sl_unfold_run_names
    rw [load_stored _ (lt4 i) (off_1 i) (off_2 i)]
    simp only [load_whole _ _ _ hf0 zero2, load_whole _ _ _ hf1 zero2, load_whole _ _ _ hf2 zero3, load_whole _ _ _ hf3 zero2, load_whole _ _ _ hf4 zero2, kept_eq]
    exact store_tiles (N := 12) rfl _ _ (tile _ _ _)
  isplitl [H6]
  · iexists _; isplitr
    swap; · iexact H6
    ipureintro
    sl_unfold_run_names
    simp only [load_whole _ _ _ hf0 zero2, load_whole _ _ _ hf1 zero2, kept_eq]
    exact store_whole _ _ _ _ _
  iexists _; isplitr
  swap
  · iexists _; isplitr
    swap; · iexact HS
    ipureintro; rfl
  ipureintro
  sl_unfold_run_names
  simp only [load_whole _ _ _ hf0 zero2, load_whole _ _ _ hf1 zero2, kept_eq]
  refine ⟨store_rows _ _ _ _ _ _ (off_1 i) _, fun b hb hne => ?_⟩
  rw [← hfs]
  exact store_other _ _ _ _ (lt4 i) _ (off_1 i) _ b hb hne

set_option maxHeartbeats 2000000 in
/-- The next four find it kept, and leave the last block in the second result. -/
theorem run_B (c : Dev nD) (i : grid0.Coords) (arg2 : Memref sig .tc .vmem S1024x1024 .f32) (harg2 : arg2.IsWhole) (arg3 : Memref sig .tc .vmem S1x1024 .f32) (harg3 : arg3.IsWhole)
    (arg4 : Memref sig .tc .vmem S1x1024x1536 .bf16) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x1536 .bf16) (harg7 : arg7.IsWhole)
    (arg8 : Memref sig .tc .vmem S1024x1024 .bf16) (harg8 : arg8.IsWhole) (arg9 : Memref sig .tc .vmem S4096x1024 .bf16) (harg9 : arg9.IsWhole) (hc0 : ¬k0_cond1 i = 1#1) (hc1 : k0_cond2 i = 1#1)
    (hc2 : k0_cond3 i = 1#1) (hc3 : ¬k0_cond4 i = 1#1)
    (x0 : Vec F S1024x1024 .f32) (x1 : Vec F S1x1024 .f32) (x2 : Vec F S1x1024x1536 .bf16) (x3 x4 : Vec F S1024x128 .f32) (X : Vec F S4096x1024 .bf16) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4
        ∗ (∃ d, owns c.tc arg7 fullShare d) ∗ (∃ d, owns c.tc arg8 fullShare d) ∗ owns c.tc arg9 fullShare X
        ∗ (iprop(owns c.tc arg2 fullShare x0 ∗ owns c.tc arg3 fullShare x1 ∗ owns c.tc arg4 fullShare x2 ∗ owns c.tc arg5 fullShare x3 ∗ owns c.tc arg6 fullShare x4
            ∗ owns c.tc arg7 fullShare (rotated (rows X (i 1).val (lt4 i)) x2 x3 x4) ∗ owns c.tc arg8 fullShare (rows X 3 (by decide))
            ∗ owns c.tc arg9 fullShare X) -∗ K ⟨⟩))
      ⊢ wp frame (wpE (defs₀ (F := F)) Variants.none c none) Set.univ (cc0_f1_kv i arg2 harg2 arg3 harg3 arg4 harg4 arg5 harg5 arg6 harg6 arg7 harg7 arg8 harg8 arg9 harg9) K := by
  haveI : Fact (¬k0_cond1 i = 1#1) := ⟨hc0⟩
  haveI : Fact (k0_cond2 i = 1#1) := ⟨hc1⟩
  haveI : Fact (k0_cond3 i = 1#1) := ⟨hc2⟩
  haveI : Fact (¬k0_cond4 i = 1#1) := ⟨hc3⟩
  simp only [cc0_f1_kv_eq_skeleton]; unfold cc0_f1_kv_skel
  simp only [k0_part4_eq_skeleton]; unfold k0_part4_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  sl_exec (disch := first | sl_exact hc0 | sl_exact hc1 | sl_exact hc2 | sl_exact hc3)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr
    swap; · iexact H5
    ipureintro
    sl_unfold_run_names
    simp only [load_rows _ _ _ hfs _ (lt4 i) _ (off_2 i), load_whole _ _ _ hf2 zero3, load_whole _ _ _ hf3 zero2, load_whole _ _ _ hf4 zero2]
    exact store_tiles (N := 12) rfl _ _ (tile _ _ _)
  isplitl [H6]
  · iexists _; isplitr
    swap; · iexact H6
    ipureintro
    sl_unfold_run_names
    simp only [load_rows _ _ _ hfs 3 (by decide) _ rfl]
    exact store_whole _ _ _ _ _
  iexists _; isplitr
  swap; · iexact HS
  ipureintro; exact hfs

set_option maxHeartbeats 2000000 in
/-- The last eight find it kept too, and leave the values as the product has them. -/
theorem run_C (c : Dev nD) (i : grid0.Coords) (arg2 : Memref sig .tc .vmem S1024x1024 .f32) (harg2 : arg2.IsWhole) (arg3 : Memref sig .tc .vmem S1x1024 .f32) (harg3 : arg3.IsWhole)
    (arg4 : Memref sig .tc .vmem S1x1024x1536 .bf16) (harg4 : arg4.IsWhole) (arg5 : Memref sig .tc .vmem S1024x128 .f32) (harg5 : arg5.IsWhole)
    (arg6 : Memref sig .tc .vmem S1024x128 .f32) (harg6 : arg6.IsWhole) (arg7 : Memref sig .tc .vmem S1024x1536 .bf16) (harg7 : arg7.IsWhole)
    (arg8 : Memref sig .tc .vmem S1024x1024 .bf16) (harg8 : arg8.IsWhole) (arg9 : Memref sig .tc .vmem S4096x1024 .bf16) (harg9 : arg9.IsWhole) (hc0 : ¬k0_cond1 i = 1#1) (hc1 : k0_cond2 i = 1#1)
    (hc2 : ¬k0_cond3 i = 1#1) (hc3 : k0_cond4 i = 1#1)
    (x0 : Vec F S1024x1024 .f32) (x1 : Vec F S1x1024 .f32) (x2 : Vec F S1x1024x1536 .bf16) (x3 x4 : Vec F S1024x128 .f32) (X : Vec F S4096x1024 .bf16) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4
        ∗ (∃ d, owns c.tc arg7 fullShare d) ∗ (∃ d, owns c.tc arg8 fullShare d) ∗ owns c.tc arg9 fullShare X
        ∗ (iprop(owns c.tc arg2 fullShare x0 ∗ owns c.tc arg3 fullShare x1 ∗ owns c.tc arg4 fullShare x2 ∗ owns c.tc arg5 fullShare x3 ∗ owns c.tc arg6 fullShare x4
            ∗ owns c.tc arg7 fullShare (k0_pay4 (rows X (i 1).val (lt4 i)) x2) ∗ owns c.tc arg8 fullShare (rows X 3 (by decide))
            ∗ owns c.tc arg9 fullShare X) -∗ K ⟨⟩))
      ⊢ wp frame (wpE (defs₀ (F := F)) Variants.none c none) Set.univ (cc0_f1_kv i arg2 harg2 arg3 harg3 arg4 harg4 arg5 harg5 arg6 harg6 arg7 harg7 arg8 harg8 arg9 harg9) K := by
  haveI : Fact (¬k0_cond1 i = 1#1) := ⟨hc0⟩
  haveI : Fact (k0_cond2 i = 1#1) := ⟨hc1⟩
  haveI : Fact (¬k0_cond3 i = 1#1) := ⟨hc2⟩
  haveI : Fact (k0_cond4 i = 1#1) := ⟨hc3⟩
  simp only [cc0_f1_kv_eq_skeleton]; unfold cc0_f1_kv_skel
  simp only [k0_part4_eq_skeleton]; unfold k0_part4_skel
  simp only [k0_part1_eq_skeleton, k0_part2_eq_skeleton, k0_part3_eq_skeleton]; unfold k0_part1_skel k0_part2_skel k0_part3_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  sl_exec (disch := first | sl_exact hc0 | sl_exact hc1 | sl_exact hc2 | sl_exact hc3)
  sl_step
  iapply Hk
  isplitl [H0]
  · iexists _; isplitr; swap; · iexact H0
    ipureintro; exact hf0
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H5]
  · iexists _; isplitr
    swap; · iexact H5
    ipureintro
    sl_unfold_run_names
    simp only [load_rows _ _ _ hfs _ (lt4 i) _ (off_2 i), load_whole _ _ _ hf2 zero3]
    exact store_whole _ _ _ _ _
  isplitl [H6]
  · iexists _; isplitr
    swap; · iexact H6
    ipureintro
    sl_unfold_run_names
    simp only [load_rows _ _ _ hfs 3 (by decide) _ rfl]
    exact store_whole _ _ _ _ _
  iexists _; isplitr
  swap; · iexact HS
  ipureintro; exact hfs

end Cert.Kernel19Ideal.KeysValues

end
-- ==== Proof.KeysValues.Launch.lean ====
/- The keys and values with the norm before them, launched: the proof data of the one pipeline (each result's
   block at a point, the normed rows kept between points), each point's obligation from the runs of Body.lean, and the run. -/
module

public import proofs.«01_k».proof.Proof.KeysValues.Body
public import Idealize.ShloMosaic.Lib.Pipeline.FrameValue
public import Idealize.ShloMosaic.Lib.Pipeline.ValueKit

@[expose] public section

set_option maxRecDepth 16384

noncomputable section

namespace Cert.Kernel19Ideal.KeysValues

open Cert.Kernel19Ideal Cert.Kernel19Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kept
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points take which branch -/

theorem norms : ∀ t : Fin cfg0.N, k0_cond1 (grid0.coords t) = 1#1 ↔ t.val < 4 := by decide +kernel
theorem reads : ∀ t : Fin cfg0.N, k0_cond2 (grid0.coords t) = 1#1 ↔ 4 ≤ t.val := by decide +kernel
theorem rotates : ∀ t : Fin cfg0.N, k0_cond3 (grid0.coords t) = 1#1 ↔ t.val < 8 := by decide +kernel
theorem plain : ∀ t : Fin cfg0.N, k0_cond4 (grid0.coords t) = 1#1 ↔ ¬t.val < 8 := by decide +kernel
theorem row_of : ∀ t : Fin cfg0.N, ((grid0.coords t) 1).val = t.val % 4 := by decide +kernel
/-- Both results are stored at every point. -/
theorem stored_5 : ∀ t : Fin cfg0.N, cfg0.idle 5 (grid0.coords t) = false := by decide +kernel
theorem stored_6 : ∀ t : Fin cfg0.N, cfg0.idle 6 (grid0.coords t) = false := by decide +kernel

/-! ## The proof data -/

/-- Block b of the normed rows: what point b computes. -/
def hnAt (c : Dev nD) (b : Nat) (hb : b < 4) : Vec F S1024x1024 .bf16 :=
  k0_pay1 (iblk m c 0 ⟨b, lt_of_lt_of_eq (show b < 16 by omega) N_0.symm⟩) (iblk m c 1 ⟨b, lt_of_lt_of_eq (show b < 16 by omega) N_0.symm⟩)
/-- The normed rows the point t reads. -/
def hnOf (c : Dev nD) (t : Fin cfg0.N) : Vec F S1024x1024 .bf16 := hnAt m c (t.val % 4) (Nat.mod_lt _ (by decide))
/-- The normed rows it writes back: its own in the first four points, the last block's in the others. -/
def hnOut (c : Dev nD) (t : Fin cfg0.N) : Vec F S1024x1024 .bf16 := hnAt m c (min t.val 3) (by omega)

/-- Its block of the first result: keys in the first eight points, values in the others. -/
def kvOut (c : Dev nD) (t : Fin cfg0.N) : Vec F S1024x1536 .bf16 :=
  if t.val < 8 then rotated (hnOf m c t) (iblk m c 2 t) (iblk m c 3 t) (iblk m c 4 t) else k0_pay4 (hnOf m c t) (iblk m c 2 t)
theorem kvOut_keys (c : Dev nD) (t : Fin cfg0.N) (h : t.val < 8) :
    kvOut m c t = rotated (hnOf m c t) (iblk m c 2 t) (iblk m c 3 t) (iblk m c 4 t) := if_pos h
theorem kvOut_values (c : Dev nD) (t : Fin cfg0.N) (h : ¬t.val < 8) : kvOut m c t = k0_pay4 (hnOf m c t) (iblk m c 2 t) := if_neg h

theorem hnAt_eq (c : Dev nD) (b : Nat) (hb : b < 4) (b' : Nat) (hb' : b' < 4) (e : b = b') : hnAt m c b hb = hnAt m c b' hb' := by
  subst e; rfl
theorem hnAt_point (c : Dev nD) (t : Fin cfg0.N) (h : t.val < 4) : hnAt m c t.val h = k0_pay1 (iblk m c 0 t) (iblk m c 1 t) := rfl
theorem hnOf_first (c : Dev nD) (t : Fin cfg0.N) (h : t.val < 4) : hnOf m c t = k0_pay1 (iblk m c 0 t) (iblk m c 1 t) :=
  (hnAt_eq m c _ _ t.val h (Nat.mod_eq_of_lt h)).trans (hnAt_point m c t h)
theorem hnOut_first (c : Dev nD) (t : Fin cfg0.N) (h : t.val < 4) : hnOut m c t = k0_pay1 (iblk m c 0 t) (iblk m c 1 t) :=
  (hnAt_eq m c _ _ t.val h (by omega)).trans (hnAt_point m c t h)
theorem hnOut_later (c : Dev nD) (t : Fin cfg0.N) (h : 4 ≤ t.val) : hnOut m c t = hnAt m c 3 (by decide) :=
  hnAt_eq m c _ _ 3 (by decide) (by omega)

/-- The scratch buffer of the normed rows. -/
abbrev scM : Memref sig .tc .vmem S4096x1024 .bf16 := Memref.whole cc0_scratch0

/-- Before point k: the scratch holds the normed rows of the first k blocks. -/
def inv (c : Dev nD) (k : ℕ) : sProp 𝕄 :=
  iprop((∃ X : Vec F S4096x1024 .bf16, ⌜∀ b (hb : b < 4), b < k → rows X b hb = hnAt m c b hb⌝ ∗ owns c.tc scM fullShare X)
    ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => kvOut m c t
    | ⟨6, _⟩ => hnOut m c t
  Φ t := inv m c t.val
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) : (dats m 0 c).Φ t.castSucc = inv m c t.val := by
  dsimp only [dats]; simp only [Fin.coe_castSucc]
theorem inv_succ (c : Dev nD) (t : Fin cfg0.N) : (dats m 0 c).Φ t.succ = inv m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = kvOut m c t := by dsimp only [dats]
theorem after_6 (c : Dev nD) (t : Fin cfg0.N) : (dats m 0 c).after 6 t = hnOut m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- The scratch after a point of the first column of blocks, -/
theorem kept_first (c : Dev nD) (t : Fin cfg0.N) (h : t.val < 4) (X Y : Vec F S4096x1024 .bf16)
    (hX : ∀ b (hb : b < 4), b < t.val → rows X b hb = hnAt m c b hb)
    (hY : rows Y ((grid0.coords t) 1).val (lt4 (grid0.coords t)) = k0_pay1 (iblk m c 0 t) (iblk m c 1 t)
      ∧ ∀ b (hb : b < 4), b ≠ ((grid0.coords t) 1).val → rows Y b hb = rows X b hb) :
    ∀ b (hb : b < 4), b < t.val + 1 → rows Y b hb = hnAt m c b hb := by
  intro b hb hlt
  have e : ((grid0.coords t) 1).val = t.val := (row_of t).trans (Nat.mod_eq_of_lt h)
  by_cases hbt : b = t.val
  · have hb' : b = ((grid0.coords t) 1).val := hbt.trans e.symm
    have h1 := hY.1
    have h2 : rows Y b hb = rows Y ((grid0.coords t) 1).val (lt4 (grid0.coords t)) := by
      congr 1
    rw [h2, h1, ← hnAt_point m c t h]
    exact hnAt_eq m c _ _ _ _ hbt.symm
  · rw [hY.2 b hb (fun h' => hbt (h'.trans e))]
    exact hX b hb (by omega)
/-- and what a later point reads there. -/
theorem kept_later (c : Dev nD) (t : Fin cfg0.N) (h : 4 ≤ t.val) (X : Vec F S4096x1024 .bf16)
    (hX : ∀ b (hb : b < 4), b < t.val → rows X b hb = hnAt m c b hb) :
    rows X ((grid0.coords t) 1).val (lt4 (grid0.coords t)) = hnOf m c t ∧ rows X 3 (by decide) = hnOut m c t := by
  refine ⟨(hX _ _ (lt_of_lt_of_le (lt4 _) h)).trans (hnAt_eq m c _ _ _ _ (row_of t)), ?_⟩
  rw [hnOut_later m c t h]
  exact hX 3 (by decide) (by omega)

/-! ## One point -/

/-- What a point is called with, -/
def stepPre (c : Dev nD) (t : Fin cfg0.N) : sProp 𝕄 :=
  iprop((dats m 0 c).Φ t.castSucc ∗ (dats m 0 c).owesAt () t.castSucc
    ∗ (∃ d, owns c.tc (st0_0 t) fullShare ((dats m 0 c).before 0 t d))
    ∗ (∃ d, owns c.tc (st0_1 t) fullShare ((dats m 0 c).before 1 t d))
    ∗ (∃ d, owns c.tc (st0_2 t) fullShare ((dats m 0 c).before 2 t d))
    ∗ (∃ d, owns c.tc (st0_3 t) fullShare ((dats m 0 c).before 3 t d))
    ∗ (∃ d, owns c.tc (st0_4 t) fullShare ((dats m 0 c).before 4 t d))
    ∗ (∃ d, owns c.tc (st0_5 t) fullShare ((dats m 0 c).before 5 t d))
    ∗ (∃ d, owns c.tc (st0_6 t) fullShare ((dats m 0 c).before 6 t d)))

/-- and what it returns. -/
def stepPost (c : Dev nD) (t : Fin cfg0.N) : sProp 𝕄 :=
  iprop((dats m 0 c).Φ t.succ ∗ (dats m 0 c).owesAt () t.succ
    ∗ owns c.tc (st0_0 t) fullShare ((dats m 0 c).after 0 t)
    ∗ owns c.tc (st0_1 t) fullShare ((dats m 0 c).after 1 t)
    ∗ owns c.tc (st0_2 t) fullShare ((dats m 0 c).after 2 t)
    ∗ owns c.tc (st0_3 t) fullShare ((dats m 0 c).after 3 t)
    ∗ owns c.tc (st0_4 t) fullShare ((dats m 0 c).after 4 t)
    ∗ (dats m 0 c).leavesExact 5 t
    ∗ (dats m 0 c).leavesExact 6 t)

theorem leaves_5 (c : Dev nD) (t : Fin cfg0.N) :
    (dats m 0 c).leavesExact 5 t = owns c.tc (st0_5 t) fullShare ((dats m 0 c).after 5 t) := by
  unfold Dat.leavesExact; rw [stored_5 t]
theorem leaves_6 (c : Dev nD) (t : Fin cfg0.N) :
    (dats m 0 c).leavesExact 6 t = owns c.tc (st0_6 t) fullShare ((dats m 0 c).after 6 t) := by
  unfold Dat.leavesExact; rw [stored_6 t]

set_option maxHeartbeats 1200000 in
theorem step_sound (c : Dev nD) (t : Fin cfg0.N) :
    stepPre m c t ⊢ wp frame (wpE (defs₀ (F := F)) Variants.none c none) Set.univ (bodyAt0 t) (fun _ => stepPost m c t) := by
  unfold stepPre stepPost bodyAt0
  simp only [before_0, before_1, before_2, before_3, before_4]
  rw [leaves_5, leaves_6, after_0, after_1, after_2, after_3, after_4, after_5, after_6, inv_castSucc m c t, inv_succ m c t]
  rw [show (dats m 0 c).owesAt () t.succ = (dats m 0 c).owesAt () t.castSucc from rfl]
  unfold inv
  by_cases h : t.val < 4
  · rw [kvOut_keys m c t (by omega), hnOf_first m c t h, hnOut_first m c t h]
    iintro ⟨⟨⟨%X, %hX, HS⟩, Hg⟩, HW, ⟨%d0, H0⟩, ⟨%d1, H1⟩, ⟨%d2, H2⟩, ⟨%d3, H3⟩, ⟨%d4, H4⟩, ⟨%d5, H5⟩, ⟨%d6, H6⟩⟩
    iapply (run_A c (grid0.coords t) _ _ _ _ _ _ _ _ _ _ _ _ _ _ _ _ ((norms t).mpr h) (fun h' => absurd ((reads t).mp h') (by omega))
      ((rotates t).mpr (by omega)) (fun h' => (plain t).mp h' (by omega))
      (iblk m c 0 t) (iblk m c 1 t) (iblk m c 2 t) (iblk m c 3 t) (iblk m c 4 t) X _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, ⟨%Y, %hY, HS⟩⟩
    isplitl [HS Hg]
    · isplitl [HS]
      · iexists Y; isplitr; · ipureintro; exact kept_first m c t h X Y hX hY
        iexact HS
      iexact Hg
    isplitl [HW]; · iexact HW
    isplitl [H0]; · iexact H0
    isplitl [H1]; · iexact H1
    isplitl [H2]; · iexact H2
    isplitl [H3]; · iexact H3
    isplitl [H4]; · iexact H4
    isplitl [H5]; · iexact H5
    iexact H6
  · have h4 : 4 ≤ t.val := Nat.le_of_not_lt h
    by_cases h8 : t.val < 8
    · iintro ⟨⟨⟨%X, %hX, HS⟩, Hg⟩, HW, ⟨%d0, H0⟩, ⟨%d1, H1⟩, ⟨%d2, H2⟩, ⟨%d3, H3⟩, ⟨%d4, H4⟩, ⟨%d5, H5⟩, ⟨%d6, H6⟩⟩
      rw [kvOut_keys m c t h8, ← (kept_later m c t h4 X hX).1, ← (kept_later m c t h4 X hX).2]
      iapply (run_B c (grid0.coords t) _ _ _ _ _ _ _ _ _ _ _ _ _ _ _ _ (fun h' => absurd ((norms t).mp h') h) ((reads t).mpr h4)
        ((rotates t).mpr h8) (fun h' => (plain t).mp h' h8)
        (iblk m c 0 t) (iblk m c 1 t) (iblk m c 2 t) (iblk m c 3 t) (iblk m c 4 t) X _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      iintro ⟨H0, H1, H2, H3, H4, H5, H6, HS⟩
      isplitl [HS Hg]
      · isplitl [HS]
        · iexists X; isplitr; · ipureintro; exact fun b hb _ => hX b hb (lt_of_lt_of_le hb h4)
          iexact HS
        iexact Hg
      isplitl [HW]; · iexact HW
      isplitl [H0]; · iexact H0
      isplitl [H1]; · iexact H1
      isplitl [H2]; · iexact H2
      isplitl [H3]; · iexact H3
      isplitl [H4]; · iexact H4
      isplitl [H5]; · iexact H5
      iexact H6
    · iintro ⟨⟨⟨%X, %hX, HS⟩, Hg⟩, HW, ⟨%d0, H0⟩, ⟨%d1, H1⟩, ⟨%d2, H2⟩, ⟨%d3, H3⟩, ⟨%d4, H4⟩, ⟨%d5, H5⟩, ⟨%d6, H6⟩⟩
      rw [kvOut_values m c t h8, ← (kept_later m c t h4 X hX).1, ← (kept_later m c t h4 X hX).2]
      iapply (run_C c (grid0.coords t) _ _ _ _ _ _ _ _ _ _ _ _ _ _ _ _ (fun h' => absurd ((norms t).mp h') h) ((reads t).mpr h4)
        (fun h' => h8 ((rotates t).mp h')) ((plain t).mpr h8)
        (iblk m c 0 t) (iblk m c 1 t) (iblk m c 2 t) (iblk m c 3 t) (iblk m c 4 t) X _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]; · iexact HS
      iintro ⟨H0, H1, H2, H3, H4, H5, H6, HS⟩
      isplitl [HS Hg]
      · isplitl [HS]
        · iexists X; isplitr; · ipureintro; exact fun b hb _ => hX b hb (lt_of_lt_of_le hb h4)
          iexact HS
        iexact Hg
      isplitl [HW]; · iexact HW
      isplitl [H0]; · iexact H0
      isplitl [H1]; · iexact H1
      isplitl [H2]; · iexact H2
      isplitl [H3]; · iexact H3
      isplitl [H4]; · iexact H4
      isplitl [H5]; · iexact H5
      iexact H6

theorem step_row (t : Fin cfg0.N) :
    defs₀ (F := F) .tc cfg0.body (cfg0.bodyArgs t (cfg0.slots t)) = bodyAt0 t := by
  unfold defs₀; rw [Defs.onTc_tc]

theorem step_obligation (c : Dev nD) : BodyObligation (dats (F := F) m 0 c) (defs₀ (F := F)) Variants.none () Set.univ := fun t => by
  rw [bigSep_W0, bigSep_W0, step_row]
  exact triple_restated (step_sound m c t) rfl .rfl fun _ => .rfl

theorem scratch_eq (c : Dev nD) :
    (Pipeline.ΦA spec0 c : sProp 𝕄) = iprop((∃ d, owns c.tc scM fullShare d) ∗ (∃ r, prngReg c r)) := by
  unfold Pipeline.ΦA; rw [scopedRest0_eq]; simp only [scM, owns_whole]; try rfl

/-- The launch hands the invariant what it needs, -/
theorem hin (c : Dev nD) : Pipeline.ΦA spec0 c ⊢ (dats m 0 c).Φ 0 := by
  rw [scratch_eq, show (dats m 0 c).Φ 0 = inv m c 0 from rfl]
  unfold inv
  iintro ⟨⟨%X, HS⟩, Hg⟩
  isplitl [HS]
  · iexists X; isplitr; · ipureintro; exact fun b hb hlt => absurd hlt (Nat.not_lt_zero _)
    iexact HS
  iexact Hg
/-- and takes it back. -/
theorem hout (c : Dev nD) : (dats m 0 c).Φ (Fin.last cfg0.N) ⊢ Pipeline.ΦA spec0 c := by
  rw [scratch_eq, show (dats m 0 c).Φ (Fin.last cfg0.N) = inv m c grid0.N from rfl]
  unfold inv
  iintro ⟨⟨%X, %hX, HS⟩, Hg⟩
  isplitl [HS]
  · iexists X; iexact HS
  iexact Hg

/-! ## The run -/

set_option backward.isDefEq.respectTransparency.types false in
/-- Every execution ends with every counter at zero, each result at its blocks, every other array as the launch found it. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (step_obligation m c).loose) (hshare := fun c => (dats m 0 c).share_full fun _ => rfl)
    (howed := fun _ _ => rfl) (V := V m) (hmain := hmain m Variants.none) (hA := A_eq m)
    (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- Every execution ends, counters at zero, the arguments as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_quiescent m ρ))

end Cert.Kernel19Ideal.KeysValues

end
-- ==== Proof.KeysValues.Array.lean ====
/- The keys and values with the norm before them and the keys' rotary embedding: the two result arrays at the end, from the arguments. -/
module

public import proofs.«01_k».proof.Proof.KeysValues.Launch
public import proofs.«01_k».proof.Proof.Rotary.Array
public import Idealize.ShloMosaic.Lib.IdealHost
public import Idealize.ShloMosaic.Lib.Pointwise.Tactic
public import Idealize.ShloMosaic.Lib.Pointwise.Contract
public import Idealize.ShloMosaic.Lib.Pointwise.Reshape
public import Idealize.ShloMosaic.Lib.Pointwise.Reduce

@[expose] public section

set_option maxRecDepth 16384

noncomputable section

namespace Cert.Kernel19Ideal.KeysValues

open Cert.Kernel19Ideal Cert.Kernel19Ideal.Gen
open Idealize.ShloMosaic Idealize.ShloMosaic.TcCoe Idealize.ShloMosaic.Tactic
open Idealize.SL.Sem
open Cert.Kept
open Idealize.ShloMosaic.Pipeline (Dat)
open Cert.Norm (rinv)
open Cert.Kernel17Ideal.ConvIn (hnOfArr hnArr)
open Cert.Kernel18Ideal.Rotary (cosOf sinOf cosTab sinTab cosTab_at sinTab_at tcol tileOf turn tileOf_at turn_col)

/-! ## The step's values element by element -/

theorem normed_at (x : Vec Ideal S1024x1024 .f32) (g : Vec Ideal S1x1024 .f32) (r : Fin 1024) (d : Fin 1024) :
    k0_pay1 (F := Ideal) x g (ix2 r d) = x (ix2 r d) * rinv (fun e : Fin 1024 => x (ix2 r e)) * g (ix2 0 d) := by
  unfold k0_pay1
  pointwise
  rfl

/-- A row of the normed input against a column of a block of weights. -/
def dotAt (n : Vec Ideal S1024x1024 .bf16) (w : Vec Ideal S1x1024x1536 .bf16) (r : Fin 1024) (f : Fin 1536) : EReal := ∑ d : Fin 1024, n (ix2 r d) * w (ix3 0 d f)
theorem acc_at (n : Vec Ideal S1024x1024 .bf16) (w : Vec Ideal S1x1024x1536 .bf16) (r : Fin 1024) (f : Fin 1536) : k0_pay3 (F := Ideal) n w (ix2 r f) = dotAt n w r f := by
  unfold k0_pay3
  pointwise
  rfl

/-- The values' product, as it's stored. -/
theorem plain_at (n : Vec Ideal S1024x1024 .bf16) (w : Vec Ideal S1x1024x1536 .bf16) (r : Fin 1024) (f : Fin 1536) : k0_pay4 (F := Ideal) n w (ix2 r f) = dotAt n w r f :=
  Eq.trans (b := k0_pay3 (F := Ideal) n w (ix2 r f)) rfl (acc_at n w r f)

/-- The keys' scale is one. -/
def scale : EReal := Scalar.ofBits (F := Ideal) .f32 0x3F800000#32
theorem scale_one : scale = 1 :=
  show Ideal.ofBits .f32 0x3F800000#32 = 1 from Ideal.ofBits_one_f32

/-- The lanes a head's first half takes. -/
theorem mask_at (r : Fin 1024) (l : Fin 128) : k0_pay7 (ix2 r l) = BitVec.ofBool (decide (l.val % 64 < 32)) := by
  unfold k0_pay7
  pointwise
  revert l
  decide +kernel

theorem tile_at (acc : FVec Ideal S1024x1536 .f32) (cs ss : FVec Ideal S1024x128 .f32) (k : Fin 12) (r : Fin 1024) (l : Fin 128) :
    tile (F := Ideal) acc cs ss k (ix2 r l) = turn scale (fun l => acc (ix2 r (tcol (N := 12) rfl k l))) l.val (cs (ix2 r l)) (ss (ix2 r l)) := by
  have ec : k0_pay5 (F := Ideal) cs = cs := shapeCast_self _ _
  have es : k0_pay6 (F := Ideal) ss = ss := shapeCast_self _ _
  have e0 : k0_pay8 (F := Ideal) acc cs ss = tileOf 0 slices_S1024x1536_o0_0_S1024x128 k0_pay7 scale acc (k0_pay5 cs) (k0_pay6 ss) := rfl
  have e1 : k0_pay10 (F := Ideal) (k0_pay9 acc cs ss) = tileOf 128 slices_S1024x1536_o0_128_S1024x128 k0_pay7 scale acc (k0_pay5 cs) (k0_pay6 ss) := rfl
  unfold tile
  rw [e0, e1, ec, es]
  match k with
  | ⟨0, _⟩ => exact Eq.trans rfl (tileOf_at (N := 12) rfl 0 0 rfl slices_S1024x1536_o0_0_S1024x128 k0_pay7 mask_at scale acc cs ss r l)
  | ⟨1, _⟩ => exact Eq.trans rfl (tileOf_at (N := 12) rfl 1 128 rfl slices_S1024x1536_o0_128_S1024x128 k0_pay7 mask_at scale acc cs ss r l)
  | ⟨2, _⟩ => exact Eq.trans rfl (tileOf_at (N := 12) rfl 2 256 rfl slices_S1024x1536_o0_256_S1024x128 k0_pay7 mask_at scale acc cs ss r l)
  | ⟨3, _⟩ => exact Eq.trans rfl (tileOf_at (N := 12) rfl 3 384 rfl slices_S1024x1536_o0_384_S1024x128 k0_pay7 mask_at scale acc cs ss r l)
  | ⟨4, _⟩ => exact Eq.trans rfl (tileOf_at (N := 12) rfl 4 512 rfl slices_S1024x1536_o0_512_S1024x128 k0_pay7 mask_at scale acc cs ss r l)
  | ⟨5, _⟩ => exact Eq.trans rfl (tileOf_at (N := 12) rfl 5 640 rfl slices_S1024x1536_o0_640_S1024x128 k0_pay7 mask_at scale acc cs ss r l)
  | ⟨6, _⟩ => exact Eq.trans rfl (tileOf_at (N := 12) rfl 6 768 rfl slices_S1024x1536_o0_768_S1024x128 k0_pay7 mask_at scale acc cs ss r l)
  | ⟨7, _⟩ => exact Eq.trans rfl (tileOf_at (N := 12) rfl 7 896 rfl slices_S1024x1536_o0_896_S1024x128 k0_pay7 mask_at scale acc cs ss r l)
  | ⟨8, _⟩ => exact Eq.trans rfl (tileOf_at (N := 12) rfl 8 1024 rfl slices_S1024x1536_o0_1024_S1024x128 k0_pay7 mask_at scale acc cs ss r l)
  | ⟨9, _⟩ => exact Eq.trans rfl (tileOf_at (N := 12) rfl 9 1152 rfl slices_S1024x1536_o0_1152_S1024x128 k0_pay7 mask_at scale acc cs ss r l)
  | ⟨10, _⟩ => exact Eq.trans rfl (tileOf_at (N := 12) rfl 10 1280 rfl slices_S1024x1536_o0_1280_S1024x128 k0_pay7 mask_at scale acc cs ss r l)
  | ⟨11, _⟩ => exact Eq.trans rfl (tileOf_at (N := 12) rfl 11 1408 rfl slices_S1024x1536_o0_1408_S1024x128 k0_pay7 mask_at scale acc cs ss r l)

/-- A column of the step's keys. -/
theorem rotated_at (n : Vec Ideal S1024x1024 .bf16) (w : Vec Ideal S1x1024x1536 .bf16) (cs ss : Vec Ideal S1024x128 .f32) (r : Fin 1024) (f : Fin 1536) :
    rotated (F := Ideal) n w cs ss (ix2 r f)
      = dotAt n w r f * cs (ix2 r (⟨f.val % 128, Nat.mod_lt _ (by decide)⟩ : Fin 128))
        + (if h : f.val % 64 < 32 then dotAt n w r ⟨f.val + 32, by omega⟩ else dotAt n w r ⟨f.val - 32, by omega⟩)
          * ss (ix2 r (⟨f.val % 128, Nat.mod_lt _ (by decide)⟩ : Fin 128)) := by
  refine (tile_at (k0_pay3 n w) cs ss (⟨f.val / 128, by omega⟩ : Fin 12) r (⟨f.val % 128, Nat.mod_lt _ (by decide)⟩ : Fin 128)).trans
    ((turn_col (N := 12) rfl scale (fun j => k0_pay3 (F := Ideal) n w (ix2 r j)) f (by omega) _ _).trans ?_)
  simp only [acc_at, scale_one, mul_one]

/-! ## The arrays of the whole call -/

section Whole
variable (h : FVec Ideal S4096x1024 .f32) (g : FVec Ideal S1024 .f32) (w : FVec Ideal S1024x6144 .f32) (p : IVec S4096 32)

/-- The product of the normed rows and the weight. -/
def projOf (r : Fin 4096) (j : Fin 6144) : EReal := ∑ d : Fin 1024, hnOfArr h g r d * w (ix2 d j)

/-- A key's coordinate: in a head of 64, the first 32 coordinates turn against the last 32. -/
def keyOf (r : Fin 4096) (j : Fin 6144) : EReal :=
  if hj : j.val % 64 < 32 then
    projOf h g w r j * cosOf p r ⟨j.val % 32, Nat.mod_lt _ (by decide)⟩ - projOf h g w r ⟨j.val + 32, by omega⟩ * sinOf p r ⟨j.val % 32, Nat.mod_lt _ (by decide)⟩
  else
    projOf h g w r j * cosOf p r ⟨j.val % 32, Nat.mod_lt _ (by decide)⟩ + projOf h g w r ⟨j.val - 32, by omega⟩ * sinOf p r ⟨j.val % 32, Nat.mod_lt _ (by decide)⟩

/-- The first 3072 columns are the keys, the last 3072 the values. -/
def kvOf (r : Fin 4096) (j : Fin 6144) : EReal := if j.val < 3072 then keyOf h g w p r j else projOf h g w r j
def kvArr : FVec Ideal S4096x6144 .bf16 := fun i => kvOf h g w p ⟨(i 0).val, (i 0).isLt⟩ ⟨(i 1).val, (i 1).isLt⟩
end Whole

/-! ## The blocks -/

section Blocks
variable (m : (ℓ : Loc nD τ sig) → Buf (Elt Ideal) ℓ)

abbrev hA (c : Dev nD) : FVec Ideal S4096x1024 .f32 := m (c.tc.loc main_arg0)
abbrev gA (c : Dev nD) : FVec Ideal S1024 .f32 := m (c.tc.loc main_arg1)
abbrev wA (c : Dev nD) : FVec Ideal S1024x6144 .f32 := m (c.tc.loc main_arg2)
abbrev pA (c : Dev nD) : IVec S4096 32 := m (c.tc.loc main_arg3)

theorem tlt (t : Fin cfg0.N) : t.val < 16 := lt_of_lt_of_eq t.isLt (show cfg0.N = 16 from N_0)

theorem ix_0 : ∀ t : Fin cfg0.N, win0_0.index t = ![min t.val 3, 0] := (by decide +kernel : ∀ t : Fin grid0.N, _)
theorem ix_1 : ∀ t : Fin cfg0.N, win0_1.index t = ![0, 0] := (by decide +kernel : ∀ t : Fin grid0.N, _)
theorem ix_2 : ∀ t : Fin cfg0.N, win0_2.index t = ![t.val / 4, 0, 0] := (by decide +kernel : ∀ t : Fin grid0.N, _)
theorem ix_3 : ∀ t : Fin cfg0.N, win0_3.index t = ![t.val % 4, 0] := (by decide +kernel : ∀ t : Fin grid0.N, _)
theorem ix_4 : ∀ t : Fin cfg0.N, win0_4.index t = ![t.val % 4, 0] := (by decide +kernel : ∀ t : Fin grid0.N, _)
theorem ix_5 : ∀ t : Fin cfg0.N, win0_5.index t = ![t.val % 4, t.val / 4] := (by decide +kernel : ∀ t : Fin grid0.N, _)
theorem ix_6 : ∀ t : Fin cfg0.N, win0_6.index t = ![min t.val 3, 0] := (by decide +kernel : ∀ t : Fin grid0.N, _)

theorem blk_0 (c : Dev nD) (t : Fin cfg0.N) (r : Fin 1024) (d : Fin 1024) : iblk m c 0 t (ix2 r d) = hA m c (ix2 (at4 (min t.val 3) (by omega) r) d) := by
  blk_simp [iblk, ix_0]
  rw [V_main_arg0]
  refine congrArg (hA m c) ?_
  unfold at4
  blk_ext [ix_0]
theorem V_gain (c : Dev nD) : (V m c main_v0 : FVec Ideal S1x1024 .f32) = shapeCast S1x1024 (gA m c) shapeCasts_S1024_S1x1024 := by
  unfold V
  after_results
  rfl
theorem blk_1 (c : Dev nD) (t : Fin cfg0.N) (d : Fin 1024) : iblk m c 1 t (ix2 0 d) = gA m c (ix1 d) := by
  have e : shapeCast S1x1024 (gA m c) shapeCasts_S1024_S1x1024 (ix2 0 d) = gA m c (ix1 d) := by pointwise
  rw [← e]
  blk_simp [iblk, ix_1]
  rw [V_gain]
  refine congrArg (shapeCast S1x1024 (gA m c) shapeCasts_S1024_S1x1024) ?_
  blk_ext [ix_1]

/-- The weight as the kernel takes it: its columns in four blocks, rounded. -/
def wArr (w : FVec Ideal S1024x6144 .f32) : FVec Ideal S4x1024x1536 .bf16 :=
  transpose S4x1024x1536 [1, 0, 2] (shapeCast S1024x4x1536 (truncf .bf16 w bitsLt_bf16_f32) shapeCasts_S1024x6144_S1024x4x1536) transposes_S1024x4x1536_S4x1024x1536_1_0_2
theorem V_w (c : Dev nD) : (V m c main_v3 : FVec Ideal S4x1024x1536 .bf16) = wArr (wA m c) := by
  unfold V
  after_results
  rfl
theorem wArr_at (w : FVec Ideal S1024x6144 .f32) (q : Fin 4) (d : Fin 1024) (f : Fin 1536) :
    wArr w (ix3 q d f) = w (ix2 d (⟨q.val * 1536 + f.val, by omega⟩ : Fin 6144)) := by
  unfold wArr
  pointwise

/-- Column f of block q of the 6144. -/
def feat (q : Nat) (hq : q < 4) (f : Fin 1536) : Fin 6144 := ⟨q * 1536 + f.val, by omega⟩
theorem col_lt (t : Fin cfg0.N) : t.val / 4 < 4 := by have := tlt t; omega

theorem blk_2 (c : Dev nD) (t : Fin cfg0.N) (d : Fin 1024) (f : Fin 1536) :
    iblk m c 2 t (ix3 0 d f) = wA m c (ix2 d (feat (t.val / 4) (col_lt t) f)) := by
  refine Eq.trans ?_ (wArr_at (wA m c) (⟨t.val / 4, col_lt t⟩ : Fin 4) d f)
  blk_simp [iblk, ix_2]
  rw [V_w]
  refine congrArg (wArr (wA m c)) ?_
  blk_ext [ix_2]

theorem V_cos (c : Dev nD) : (V m c main_v20 : FVec Ideal S4096x128 .f32) = cosTab (pA m c) := by
  unfold V
  after_results
  rfl
theorem V_sin (c : Dev nD) : (V m c main_v25 : FVec Ideal S4096x128 .f32) = sinTab (pA m c) := by
  unfold V
  after_results
  rfl
theorem blk_3 (c : Dev nD) (t : Fin cfg0.N) (r : Fin 1024) (l : Fin 128) : iblk m c 3 t (ix2 r l) = cosTab (pA m c) (ix2 (at4 (t.val % 4) (Nat.mod_lt _ (by decide)) r) l) := by
  blk_simp [iblk, ix_3]
  rw [V_cos]
  refine congrArg (cosTab (pA m c)) ?_
  unfold at4
  blk_ext [ix_3]
theorem blk_4 (c : Dev nD) (t : Fin cfg0.N) (r : Fin 1024) (l : Fin 128) : iblk m c 4 t (ix2 r l) = sinTab (pA m c) (ix2 (at4 (t.val % 4) (Nat.mod_lt _ (by decide)) r) l) := by
  blk_simp [iblk, ix_4]
  rw [V_sin]
  refine congrArg (sinTab (pA m c)) ?_
  unfold at4
  blk_ext [ix_4]

/-! ## What a point leaves -/

theorem hnAt_at (c : Dev nD) (b : Nat) (hb : b < 4) (r : Fin 1024) (d : Fin 1024) : hnAt m c b hb (ix2 r d) = hnOfArr (hA m c) (gA m c) (at4 b hb r) d := by
  unfold hnAt
  rw [normed_at]
  simp only [blk_0, blk_1, show min b 3 = b by omega]
  rfl
theorem z_block (c : Dev nD) (t : Fin cfg0.N) (r : Fin 1024) (f : Fin 1536) : dotAt (hnOf m c t) (iblk m c 2 t) r f
    = projOf (hA m c) (gA m c) (wA m c) (at4 (t.val % 4) (Nat.mod_lt _ (by decide)) r) (feat (t.val / 4) (col_lt t) f) := by
  unfold dotAt hnOf
  simp only [hnAt_at, blk_2]
  rfl

theorem k_block (c : Dev nD) (t : Fin cfg0.N) (r : Fin 1024) (f : Fin 1536) : rotated (F := Ideal) (hnOf m c t) (iblk m c 2 t) (iblk m c 3 t) (iblk m c 4 t) (ix2 r f)
    = keyOf (hA m c) (gA m c) (wA m c) (pA m c) (at4 (t.val % 4) (Nat.mod_lt _ (by decide)) r) (feat (t.val / 4) (col_lt t) f) := by
  have hf := f.isLt
  have hq := col_lt t
  rw [rotated_at, blk_3, blk_4, cosTab_at, sinTab_at, z_block]
  have ej : (feat (t.val / 4) (col_lt t) f).val = t.val / 4 * 1536 + f.val := rfl
  have el : (⟨f.val % 128 % 32, Nat.mod_lt _ (by decide)⟩ : Fin 32) = ⟨(feat (t.val / 4) (col_lt t) f).val % 32, Nat.mod_lt _ (by decide)⟩ :=
    Fin.ext (by show f.val % 128 % 32 = (t.val / 4 * 1536 + f.val) % 32; omega)
  unfold keyOf
  by_cases h : f.val % 64 < 32
  · have h1 : f.val % 128 % 64 < 32 := by omega
    have h2 : (feat (t.val / 4) (col_lt t) f).val % 64 < 32 := by rw [ej]; omega
    rw [dif_pos h, if_pos h1, dif_pos h2, z_block, mul_neg, ← sub_eq_add_neg]
    have e2 : feat (t.val / 4) (col_lt t) (⟨f.val + 32, by omega⟩ : Fin 1536) = ⟨(feat (t.val / 4) (col_lt t) f).val + 32, by rw [ej]; omega⟩ :=
      Fin.ext (by show t.val / 4 * 1536 + (f.val + 32) = t.val / 4 * 1536 + f.val + 32; omega)
    simp only [el, e2]
  · have h1 : ¬ f.val % 128 % 64 < 32 := by omega
    have h2 : ¬ (feat (t.val / 4) (col_lt t) f).val % 64 < 32 := by rw [ej]; omega
    rw [dif_neg h, if_neg h1, dif_neg h2, z_block]
    have e2 : feat (t.val / 4) (col_lt t) (⟨f.val - 32, by omega⟩ : Fin 1536) = ⟨(feat (t.val / 4) (col_lt t) f).val - 32, by rw [ej]; omega⟩ :=
      Fin.ext (by show t.val / 4 * 1536 + (f.val - 32) = t.val / 4 * 1536 + f.val - 32; omega)
    simp only [el, e2]

theorem kv_block (c : Dev nD) (t : Fin cfg0.N) (r : Fin 1024) (f : Fin 1536) : kvOut (F := Ideal) m c t (ix2 r f)
    = kvOf (hA m c) (gA m c) (wA m c) (pA m c) (at4 (t.val % 4) (Nat.mod_lt _ (by decide)) r) (feat (t.val / 4) (col_lt t) f) := by
  have hf := f.isLt
  have ej : (feat (t.val / 4) (col_lt t) f).val = t.val / 4 * 1536 + f.val := rfl
  unfold kvOf
  by_cases h : t.val < 8
  · rw [kvOut_keys m c t h, if_pos (by rw [ej]; omega)]
    exact k_block m c t r f
  · rw [kvOut_values m c t h, if_neg (by rw [ej]; omega), plain_at]
    exact z_block m c t r f

/-! ## The arrays at the end -/

theorem kv_eq (c : Dev nD) : (dats m 0 c).arrAt 5 cfg0.N = kvArr (hA m c) (gA m c) (wA m c) (pA m c) := by
  refine (dats m 0 c).arrAt_eq_of_covers 5 _ (by decide +kernel) fun t hf y => ?_
  blk_simp
  rw [after_5]
  have hy0 : (y 0).val < 1024 := (y 0).isLt
  have hy1 : (y 1).val < 1536 := (y 1).isLt
  rw [pair (A := 1024) (B := 1536) y]
  refine (kv_block m c t _ _).trans ?_
  refine Eq.trans (b := (kvArr (hA m c) (gA m c) (wA m c) (pA m c)) (ix2 (at4 (t.val % 4) (Nat.mod_lt _ (by decide)) ⟨(y 0).val, hy0⟩) (feat (t.val / 4) (col_lt t) ⟨(y 1).val, hy1⟩))) rfl
    (congrArg (kvArr (hA m c) (gA m c) (wA m c) (pA m c)) ?_)
  unfold at4 feat
  blk_ext [ix_5]
theorem hn_eq (c : Dev nD) : (dats m 0 c).arrAt 6 cfg0.N = hnArr (hA m c) (gA m c) := by
  refine (dats m 0 c).arrAt_eq_of_covers 6 _ (by decide +kernel) fun t hf y => ?_
  blk_simp
  rw [after_6]
  have hy0 : (y 0).val < 1024 := (y 0).isLt
  have hy1 : (y 1).val < 1024 := (y 1).isLt
  rw [pair (A := 1024) (B := 1024) y]
  refine (hnAt_at m c _ _ _ _).trans ?_
  refine Eq.trans (b := (hnArr (hA m c) (gA m c)) (ix2 (at4 (min t.val 3) (by omega) ⟨(y 0).val, hy0⟩) (⟨(y 1).val, hy1⟩ : Fin 1024))) rfl
    (congrArg (hnArr (hA m c) (gA m c)) ?_)
  unfold at4
  blk_ext [ix_6]

theorem run_values (ρ : Dev nD → PrngReg) : θ_run defs (onTc (τ := τ) (main (F := Ideal))) ⟨m, fun _ => 0, ρ⟩ fun r => ∀ c : Dev nD,
      r.2.mem (c.tc.loc main_v26_0) = kvArr (hA m c) (gA m c) (wA m c) (pA m c)
      ∧ r.2.mem (c.tc.loc main_v26_1) = hnArr (hA m c) (gA m c)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3) :=
  (θ_run defs _ _).mono (fun r h c => ⟨((h c).1 5).trans (kv_eq m c), ((h c).1 6).trans (hn_eq m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)
end Blocks

end Cert.Kernel19Ideal.KeysValues
-- ==== Proof.KeysValues.Ref.lean ====
/- The reference's normed input, keys and values, element by element: the kernel's two results. -/
module

public import proofs.«01_k».proof.Proof.KeysValues.Array
public import proofs.«01_k».proof.Proof.Rotary.Ref
public import proofs.«01_k».proof.Proof.Gen.Reference19Ideal.Read

@[expose] public section

set_option maxRecDepth 16384

noncomputable section

namespace Cert.Reference19Ideal.KeysValues

open Cert.Reference19Ideal Cert.Reference19Ideal.Gen Cert.Reference19Ideal.Read
open Idealize.ShloMosaic Idealize.ShloMosaic.TcCoe
open Cert.Kernel17Ideal.ConvIn (hnOfArr hnArr)
open Cert.Kernel18Ideal.Rotary (cosOf sinOf)
open Cert.Reference18Ideal.Rotary (first_half second_half head_idx)
open Cert.Kernel19Ideal.KeysValues (projOf keyOf kvOf kvArr)

variable (h : FVec Ideal S4096x1024 .f32) (g : FVec Ideal S1024 .f32) (w : FVec Ideal S1024x6144 .f32) (p : IVec S4096 32)

theorem v12_at (r : Fin 4096) (d : Fin 1024) : val_main_v12 (F := Ideal) h g (ix2 r d) = hnOfArr h g r d :=
  Eq.trans (b := Cert.Reference18Ideal.Read.val_main_v12 (F := Ideal) h g (ix2 r d)) rfl (Cert.Reference18Ideal.Rotary.v12_at h g r d)
theorem v13_at (r : Fin 4096) (j : Fin 6144) : val_main_v13 (F := Ideal) h g w (ix2 r j) = projOf h g w r j := by
  rw [val_main_v13_apply]
  have eL : ∀ d, lidx_main_v13 (ix2 r j) d = ix2 r d := fun d => by funext b; fin_cases b <;> rfl
  have eR : ∀ d, ridx_main_v13 (ix2 r j) d = ix2 d j := fun d => by funext b; fin_cases b <;> rfl
  simp only [eL, eR, v12_at]
  rfl

/-! ## The angles, as the queries have them -/

theorem cos_at (r : Fin 4096) (e : Fin 32) : val_main_v31 (F := Ideal) p (ix4 (0 : Fin 1) r (0 : Fin 1) e) = cosOf p r e :=
  Eq.trans (b := Cert.Reference18Ideal.Read.val_main_v29 (F := Ideal) p (ix4 (0 : Fin 1) r (0 : Fin 1) e)) rfl (Cert.Reference18Ideal.Rotary.cos_at p r e)
theorem sin_at (r : Fin 4096) (e : Fin 32) : val_main_v33 (F := Ideal) p (ix4 (0 : Fin 1) r (0 : Fin 1) e) = sinOf p r e :=
  Eq.trans (b := Cert.Reference18Ideal.Read.val_main_v31 (F := Ideal) p (ix4 (0 : Fin 1) r (0 : Fin 1) e)) rfl (Cert.Reference18Ideal.Rotary.sin_at p r e)

/-! ## The heads -/

/-- A product's column, by half of the columns, head and coordinate. -/
theorem v14_at (r : Fin 4096) (q : Fin 2) (a : Fin 48) (e : Fin 64) :
    val_main_v14 (F := Ideal) h g w (ix5 (0 : Fin 1) r q a e) = projOf h g w r ⟨q.val * 3072 + a.val * 64 + e.val, by omega⟩ := by
  rw [val_main_v14_apply, ← v13_at]
  refine congrArg (val_main_v13 (F := Ideal) h g w) (funext fun b => Fin.ext ?_)
  have hr := r.isLt
  have hq := q.isLt
  have ha := a.isLt
  have he := e.isLt
  match b with
  | ⟨0, _⟩ => show ((((0 * 4096 + r.val) * 2 + q.val) * 48 + a.val) * 64 + e.val) / 6144 = r.val; omega
  | ⟨1, _⟩ => show ((((0 * 4096 + r.val) * 2 + q.val) * 48 + a.val) * 64 + e.val) % 6144 = q.val * 3072 + a.val * 64 + e.val; omega
theorem v16_at (r : Fin 4096) (a : Fin 48) (e : Fin 64) :
    val_main_v16 (F := Ideal) h g w (ix4 (0 : Fin 1) r a e) = projOf h g w r ⟨a.val * 64 + e.val, by omega⟩ := by
  have hr := r.isLt
  have ha := a.isLt
  have he := e.isLt
  rw [val_main_v16_apply, val_main_v15_apply]
  have e1 : idx_main_v15 (idx_main_v16 (ix4 (0 : Fin 1) r a e)) = ix5 (0 : Fin 1) r (0 : Fin 2) a e := funext fun b => Fin.ext (by
    match b with
    | ⟨0, _⟩ => rfl
    | ⟨1, _⟩ => show (((0 * 4096 + r.val) * 48 + a.val) * 64 + e.val) / 3072 % 4096 = r.val; omega
    | ⟨2, _⟩ => rfl
    | ⟨3, _⟩ => show (((0 * 4096 + r.val) * 48 + a.val) * 64 + e.val) / 64 % 48 = a.val; omega
    | ⟨4, _⟩ => show (((0 * 4096 + r.val) * 48 + a.val) * 64 + e.val) % 64 = e.val; omega)
  rw [e1, v14_at]
  exact congrArg (projOf h g w r) (Fin.ext (by show 0 * 3072 + a.val * 64 + e.val = a.val * 64 + e.val; omega))
/-- A value, in its head. -/
theorem v49_at (r : Fin 4096) (a : Fin 48) (e : Fin 64) :
    val_main_v49 (F := Ideal) h g w (ix4 (0 : Fin 1) r a e) = projOf h g w r ⟨3072 + (a.val * 64 + e.val), by omega⟩ := by
  have hr := r.isLt
  have ha := a.isLt
  have he := e.isLt
  rw [val_main_v49_apply, val_main_v48_apply]
  have e1 : idx_main_v48 (idx_main_v49 (ix4 (0 : Fin 1) r a e)) = ix5 (0 : Fin 1) r (1 : Fin 2) a e := funext fun b => Fin.ext (by
    match b with
    | ⟨0, _⟩ => rfl
    | ⟨1, _⟩ => show (((0 * 4096 + r.val) * 48 + a.val) * 64 + e.val) / 3072 % 4096 = r.val; omega
    | ⟨2, _⟩ => rfl
    | ⟨3, _⟩ => show (((0 * 4096 + r.val) * 48 + a.val) * 64 + e.val) / 64 % 48 = a.val; omega
    | ⟨4, _⟩ => show (((0 * 4096 + r.val) * 48 + a.val) * 64 + e.val) % 64 = e.val; omega)
  rw [e1, v14_at]
  exact congrArg (projOf h g w r) (Fin.ext (by show 1 * 3072 + a.val * 64 + e.val = 3072 + (a.val * 64 + e.val); omega))

/-- A key's first half, -/
theorem v34_at (r : Fin 4096) (a : Fin 48) (e : Fin 32) :
    val_main_v34 (F := Ideal) h g w (ix4 (0 : Fin 1) r a e) = projOf h g w r ⟨a.val * 64 + e.val, by omega⟩ := by
  rw [val_main_v34_apply]
  have e1 : idx_main_v34 (ix4 (0 : Fin 1) r a e) = ix4 (0 : Fin 1) r a (⟨e.val, by omega⟩ : Fin 64) := by funext b; fin_cases b <;> rfl
  rw [e1, v16_at]
/-- and its second. -/
theorem v35_at (r : Fin 4096) (a : Fin 48) (e : Fin 32) :
    val_main_v35 (F := Ideal) h g w (ix4 (0 : Fin 1) r a e) = projOf h g w r ⟨a.val * 64 + (32 + e.val), by omega⟩ := by
  rw [val_main_v35_apply]
  have e1 : idx_main_v35 (ix4 (0 : Fin 1) r a e) = ix4 (0 : Fin 1) r a (⟨32 + e.val, by omega⟩ : Fin 64) := by funext b; fin_cases b <;> rfl
  rw [e1, v16_at]

theorem v40_at (r : Fin 4096) (a : Fin 48) (e : Fin 32) : val_main_v40 (F := Ideal) h g w p (ix4 (0 : Fin 1) r a e)
    = projOf h g w r ⟨a.val * 64 + e.val, by omega⟩ * cosOf p r e - projOf h g w r ⟨a.val * 64 + (32 + e.val), by omega⟩ * sinOf p r e := by
  rw [val_main_v40_apply, val_main_v37_apply, val_main_v39_apply, val_main_v36_apply, val_main_v38_apply, v34_at, v35_at]
  have e1 : idx_main_v36 (ix4 (0 : Fin 1) r a e) = ix4 (0 : Fin 1) r (0 : Fin 1) e := by funext b; fin_cases b <;> rfl
  have e2 : idx_main_v38 (ix4 (0 : Fin 1) r a e) = ix4 (0 : Fin 1) r (0 : Fin 1) e := by funext b; fin_cases b <;> rfl
  rw [e1, e2, cos_at, sin_at]
  rfl
theorem v45_at (r : Fin 4096) (a : Fin 48) (e : Fin 32) : val_main_v45 (F := Ideal) h g w p (ix4 (0 : Fin 1) r a e)
    = projOf h g w r ⟨a.val * 64 + (32 + e.val), by omega⟩ * cosOf p r e + projOf h g w r ⟨a.val * 64 + e.val, by omega⟩ * sinOf p r e := by
  rw [val_main_v45_apply, val_main_v42_apply, val_main_v44_apply, val_main_v41_apply, val_main_v43_apply, v34_at, v35_at]
  have e1 : idx_main_v41 (ix4 (0 : Fin 1) r a e) = ix4 (0 : Fin 1) r (0 : Fin 1) e := by funext b; fin_cases b <;> rfl
  have e2 : idx_main_v43 (ix4 (0 : Fin 1) r a e) = ix4 (0 : Fin 1) r (0 : Fin 1) e := by funext b; fin_cases b <;> rfl
  rw [e1, e2, cos_at, sin_at]
  rfl

/-- The keys, -/
theorem v47_at (r : Fin 4096) (j : Fin 3072) : val_main_v47 (F := Ideal) h g w p (ix2 r j) = keyOf h g w p r ⟨j.val, by omega⟩ := by
  have hr := r.isLt
  have hj := j.isLt
  rw [val_main_v47_apply]
  have e1 : idx_main_v47 (ix2 r j) = _ := head_idx r j
  rw [e1]
  unfold keyOf
  by_cases hh : j.val % 64 < 32
  · rw [show val_main_v46 (F := Ideal) h g w p _ = _ from first_half _ _ r _ _ hh, v40_at, dif_pos hh]
    have a1 : (⟨j.val / 64 * 64 + j.val % 64, by omega⟩ : Fin 6144) = ⟨j.val, by omega⟩ := Fin.ext (by show j.val / 64 * 64 + j.val % 64 = j.val; omega)
    have a2 : (⟨j.val / 64 * 64 + (32 + j.val % 64), by omega⟩ : Fin 6144) = ⟨j.val + 32, by omega⟩ := Fin.ext (by show j.val / 64 * 64 + (32 + j.val % 64) = j.val + 32; omega)
    have a3 : (⟨j.val % 64, hh⟩ : Fin 32) = ⟨j.val % 32, Nat.mod_lt _ (by decide)⟩ := Fin.ext (by show j.val % 64 = j.val % 32; omega)
    simp only [a1, a2, a3]
  · rw [show val_main_v46 (F := Ideal) h g w p _ = _ from second_half _ _ r _ _ hh, v45_at, dif_neg hh]
    have a1 : (⟨j.val / 64 * 64 + (32 + (j.val % 64 - 32)), by omega⟩ : Fin 6144) = ⟨j.val, by omega⟩ := Fin.ext (by show j.val / 64 * 64 + (32 + (j.val % 64 - 32)) = j.val; omega)
    have a2 : (⟨j.val / 64 * 64 + (j.val % 64 - 32), by omega⟩ : Fin 6144) = ⟨j.val - 32, by omega⟩ := Fin.ext (by show j.val / 64 * 64 + (j.val % 64 - 32) = j.val - 32; omega)
    have a3 : (⟨j.val % 64 - 32, by omega⟩ : Fin 32) = ⟨j.val % 32, Nat.mod_lt _ (by decide)⟩ := Fin.ext (by show j.val % 64 - 32 = j.val % 32; omega)
    simp only [a1, a2, a3]
/-- the values, -/
theorem v50_at (r : Fin 4096) (j : Fin 3072) : val_main_v50 (F := Ideal) h g w (ix2 r j) = projOf h g w r ⟨3072 + j.val, by omega⟩ := by
  have hr := r.isLt
  have hj := j.isLt
  rw [val_main_v50_apply]
  have e1 : idx_main_v50 (ix2 r j) = _ := head_idx r j
  rw [e1, v49_at]
  exact congrArg (projOf h g w r) (Fin.ext (by show 3072 + (j.val / 64 * 64 + j.val % 64) = 3072 + j.val; omega))
/-- and the two side by side. -/
theorem v51_at (r : Fin 4096) (j : Fin 6144) : val_main_v51 (F := Ideal) h g w p (ix2 r j) = kvOf h g w p r j := by
  have hj := j.isLt
  unfold val_main_v51 kvOf
  by_cases hh : j.val < 3072
  · rw [if_pos hh]
    refine (concatenate_pair_apply_left (t := S4096x6144) (s₁ := S4096x3072) (s₂ := S4096x3072) 1 _ _ _ (ix2 r j) rfl (ix2 r (⟨j.val, hh⟩ : Fin 3072)) (fun b => match b with
      | ⟨0, _⟩ => rfl
      | ⟨1, _⟩ => rfl)).trans (v47_at h g w p r _)
  · rw [if_neg hh]
    refine (concatenate_pair_apply_right (t := S4096x6144) (s₁ := S4096x3072) (s₂ := S4096x3072) 1 _ _ _ (ix2 r j) rfl rfl (ix2 r (⟨j.val - 3072, by omega⟩ : Fin 3072)) (fun b hb => match b with
      | ⟨0, _⟩ => rfl
      | ⟨1, _⟩ => absurd rfl hb) (by show j.val - 3072 + 3072 = j.val; omega)).trans ((v50_at h g w r _).trans ?_)
    exact congrArg (projOf h g w r) (Fin.ext (by show 3072 + (j.val - 3072) = j.val; omega))

theorem kv_eq : val_main_v52 (F := Ideal) h g w p = kvArr h g w p := by
  funext i
  idx_vars i
  exact Eq.trans (b := val_main_v51 (F := Ideal) h g w p (ix2 i0 i1)) rfl (v51_at h g w p i0 i1)
theorem hn_eq : val_main_v53 (F := Ideal) h g = hnArr h g := by
  funext i
  idx_vars i
  exact Eq.trans (b := val_main_v12 (F := Ideal) h g (ix2 i0 i1)) rfl (v12_at h g i0 i1)

end Cert.Reference19Ideal.KeysValues
-- ==== Proof.lean ====
/- Thirteen calls of the backward pass: the gated short convolution's gradient, the gradient through the gate and up projections
   and the norm before them, the gradient through the norm after the down projection, the projection and the gated
   activation, the gradients of the down, the up and the gate projection's weights, the gradients through the queries' product
   and through the keys' and values', each with the norm before it, the gradients of their three weights and of the
   attention's output projection's, and the gradient through that projection and the norm after it. And six calls of the
   forward pass: the down projection and the attention's output projection, each with the norm after it, the gate and up
   projections with the norm before them and the gated activation, the convolution's input product with the norm before
   it, the queries with the norm before them and the rotary embedding after them, and the shared keys and values with the
   norm before them and the rotary embedding of the keys. Of each call: the three frames, the idealization, and the equality of its results with the reference's at the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Conv.Array
public import proofs.«01_k».proof.Proof.Conv.Ref
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.GateUp.Ref
public import proofs.«01_k».proof.Proof.Swiglu.Ref
public import proofs.«01_k».proof.Proof.Swiglu.Finite
public import proofs.«01_k».proof.Proof.Down.Ref
public import proofs.«01_k».proof.Proof.Up.Ref
public import proofs.«01_k».proof.Proof.Query.Ref
public import proofs.«01_k».proof.Proof.QueryW.Ref
public import proofs.«01_k».proof.Proof.KeyValue.Ref
public import proofs.«01_k».proof.Proof.Gate.Ref
public import proofs.«01_k».proof.Proof.Key.Ref
public import proofs.«01_k».proof.Proof.Value.Ref
public import proofs.«01_k».proof.Proof.Out.Ref
public import proofs.«01_k».proof.Proof.AttnOut.Ref
public import proofs.«01_k».proof.Proof.DownOut.Ref
public import proofs.«01_k».proof.Proof.MixOut.Ref
public import proofs.«01_k».proof.Proof.Gen.Kernel16
public import proofs.«01_k».proof.Proof.Gen.Kernel16Ideal
public import proofs.«01_k».proof.Proof.Gen.Kernel16Ideal.Launch
public import proofs.«01_k».proof.Proof.Gen.Kernel16Ideal.Points
public import proofs.«01_k».proof.Proof.Gen.Kernel16Ideal.Skeleton
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17Ideal
public import proofs.«01_k».proof.Proof.Gen.Kernel17Ideal.Launch
public import proofs.«01_k».proof.Proof.Gen.Kernel17Ideal.Points
public import proofs.«01_k».proof.Proof.Gen.Kernel17Ideal.Skeleton
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Reference17Ideal.Read
public import proofs.«01_k».proof.Proof.GateAct.Ref
public import proofs.«01_k».proof.Proof.Gen.Kernel18
public import proofs.«01_k».proof.Proof.Gen.Kernel18Ideal
public import proofs.«01_k».proof.Proof.Gen.Kernel18Ideal.Launch
public import proofs.«01_k».proof.Proof.Gen.Kernel18Ideal.Points
public import proofs.«01_k».proof.Proof.Gen.Kernel18Ideal.Skeleton
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19Ideal
public import proofs.«01_k».proof.Proof.Gen.Kernel19Ideal.Launch
public import proofs.«01_k».proof.Proof.Gen.Kernel19Ideal.Points
public import proofs.«01_k».proof.Proof.Gen.Kernel19Ideal.Skeleton
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.ConvIn.Ref
public import proofs.«01_k».proof.Proof.Rotary.Ref
public import proofs.«01_k».proof.Proof.KeysValues.Ref
public import Idealize.ShloMosaic.Adequacy
public import Idealize.ShloMosaic.Init

@[expose] public section

set_option maxRecDepth 16384

noncomputable section

namespace Cert.Proof

open Idealize.ShloMosaic Idealize.SL.Sem

/-- The two programs have one text, so their kernels' body tables are equal: label by label. -/
theorem defs₀_eq : Cert.Kernel.defs₀ (F := Bits) = Cert.KernelIdeal.defs₀ (F := Bits) := by
  unfold Cert.Kernel.defs₀ Cert.KernelIdeal.defs₀
  refine congrArg Defs.onTc ?_
  funext x y
  exact match x, y with
    | 0, (_, _) => rfl
    | ⟨_ + 1, h⟩, _ => absurd h (Nat.not_lt.2 (Nat.le_add_left _ _))

/-- … and so are the whole tables. -/
theorem defs_eq : Cert.Kernel.defs (F := Bits) = Cert.KernelIdeal.defs (F := Bits) := by
  unfold Cert.Kernel.defs Cert.KernelIdeal.defs
  exact congrArg (Pipeline.defs _) defs₀_eq

theorem main_eq : Cert.Kernel.main (F := Bits) = Cert.KernelIdeal.main (F := Bits) := rfl

theorem frame_kernel : Cert.quiescent_Kernel := by
  intro m ρ _
  rw [defs_eq, main_eq]
  exact Cert.KernelIdeal.Conv.frame (F := Bits) m ρ
theorem frame_ideal : Cert.quiescent_KernelIdeal := fun m ρ _ => Cert.KernelIdeal.Conv.frame m ρ
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- Both programs end with the gradients `dzArr` and `dwArr` of the arguments they share. -/
theorem algebraic : Cert.algebraic_KernelIdeal_ReferenceIdeal := by
  intro m ρ m' ρ' _ hagree
  refine ⟨_, _, Cert.KernelIdeal.Conv.run_values m ρ, (θ_run Cert.ReferenceIdeal.defs _ _).mono (fun r h c => ?_) (Cert.ReferenceIdeal.Value.run m' ρ')⟩
  obtain ⟨e0, e1, e2⟩ := hagree c
  refine ⟨(h c).1.trans ?_, (h c).2.1.trans ?_, (h c).2.2⟩
  · rw [Cert.ReferenceIdeal.Read.val_main_v70_eq, e0, e1, e2]
    exact Cert.ReferenceIdeal.Conv.dz_eq _ _ _
  · rw [Cert.ReferenceIdeal.Read.val_main_v72_eq, e0, e2]
    exact Cert.ReferenceIdeal.Conv.dw_eq _ _

/-! ## The gate and up projections and the norm before them -/

theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run m ρ)

theorem algebraic2 : Cert.algebraic_Kernel2Ideal_Reference2Ideal := by
  intro m ρ m' ρ' _ hagree
  refine ⟨_, _, Cert.Kernel2Ideal.Value.run_blocks m ρ, (θ_run Cert.Reference2Ideal.defs _ _).mono (fun r h c => ?_) (Cert.Reference2Ideal.Value.run m' ρ')⟩
  obtain ⟨e0, e1, e2, e3, e4, e5⟩ := hagree c
  refine ⟨(h c).1.trans ?_, (h c).2.1.trans ?_, (h c).2.2⟩
  · rw [Cert.Reference2Ideal.Read.val_main_v41_eq, e0, e1, e2, e3, e4, e5]
    exact (Cert.Reference2Ideal.GateUp.dh_eq _ _ _ _ _ _).trans (Cert.Kernel2Ideal.GateUp.dh_eq m c).symm
  · rw [Cert.Reference2Ideal.Read.val_main_v42_eq, e0, e2, e3, e4]
    exact (Cert.Reference2Ideal.GateUp.dg_eq _ _ _ _).trans (Cert.Kernel2Ideal.GateUp.dg_eq m c).symm

/-! ## The norm after the down projection, the projection and the gated activation -/

theorem frame_reference3 : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run m ρ)

theorem algebraic3 : Cert.algebraic_Kernel3Ideal_Reference3Ideal_pre_finite (hPre_finite := Cert.Pre_finite.facts) := by
  intro m ρ m' ρ' hpre hagree
  refine ⟨_, _, _, _, Cert.Kernel3Ideal.Value.run_blocks m ρ, (θ_run Cert.Reference3Ideal.defs _ _).mono (fun r h c => ?_) (Cert.Reference3Ideal.Value.run m' ρ')⟩
  obtain ⟨e0, e1, e2, e3, e4⟩ := hagree c
  obtain ⟨p1, p2, p3, p4⟩ := hpre c
  have hu := Cert.Pre_finite.real_of_bits _ _ p1
  have hk := Cert.Pre_finite.real_of_bits _ _ p2
  have hw := Cert.Pre_finite.real_of_bits _ _ p3
  have hd := Cert.Pre_finite.real_of_bits _ _ p4
  refine ⟨(h c).1.trans ?_, (h c).2.1.trans ?_, (h c).2.2.1.trans ?_, (h c).2.2.2.1.trans ?_, (h c).2.2.2.2⟩
  · rw [Cert.Reference3Ideal.Read.val_main_v55_eq, e0, e1, e2, e3, e4, Cert.Kernel3Ideal.Swiglu.dy_eq, Cert.Reference3Ideal.Swiglu.f_given]
    exact Cert.Reference3Ideal.Swiglu.dy_eq _ _ _ _ _
  · rw [Cert.Reference3Ideal.Read.val_main_v56_eq, e0, e1, e2, e3, e4, Cert.Kernel3Ideal.Swiglu.dgo_eq, Cert.Reference3Ideal.Swiglu.f_given, Cert.Reference3Ideal.Swiglu.ut_given]
    exact Cert.Reference3Ideal.Swiglu.dgate_eq _ _ _ _ _ hu hk hw hd
  · rw [Cert.Reference3Ideal.Read.val_main_v57_eq, e0, e1, e2, e3, e4, Cert.Kernel3Ideal.Swiglu.duo_eq, Cert.Reference3Ideal.Swiglu.f_given, Cert.Reference3Ideal.Swiglu.s_given]
    exact Cert.Reference3Ideal.Swiglu.dup_eq _ _ _ _ _
  · rw [Cert.Reference3Ideal.Read.val_main_v58_eq, e0, e1, e3, e4, Cert.Kernel3Ideal.Swiglu.dgain_eq, Cert.Reference3Ideal.Swiglu.f_given]
    exact Cert.Reference3Ideal.Swiglu.dgain_eq _ _ _ _

/-! ## The down and the up projection's weights -/

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run m ρ)

theorem algebraic4 : Cert.algebraic_Kernel4Ideal_Reference4Ideal := by
  intro m ρ m' ρ' _ hagree
  refine ⟨_, Cert.Kernel4Ideal.Value.run_blocks m ρ, (θ_run Cert.Reference4Ideal.defs _ _).mono (fun r h c => ?_) (Cert.Reference4Ideal.Value.run m' ρ')⟩
  obtain ⟨e0, e1⟩ := hagree c
  refine ⟨(h c).1.trans ?_, (h c).2⟩
  rw [Cert.Reference4Ideal.Read.val_main_v7_eq, e0, e1]
  exact (Cert.Reference4Ideal.Down.dw_eq _ _).trans (Cert.Kernel4Ideal.Down.dw_eq m c).symm

theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run m ρ)

theorem algebraic5 : Cert.algebraic_Kernel5Ideal_Reference5Ideal := by
  intro m ρ m' ρ' _ hagree
  refine ⟨_, Cert.Kernel5Ideal.Value.run_blocks m ρ, (θ_run Cert.Reference5Ideal.defs _ _).mono (fun r h c => ?_) (Cert.Reference5Ideal.Value.run m' ρ')⟩
  obtain ⟨e0, e1, e2⟩ := hagree c
  refine ⟨(h c).1.trans ?_, (h c).2⟩
  rw [Cert.Reference5Ideal.Read.val_main_v10_eq, e0, e1, e2]
  exact (Cert.Reference5Ideal.Up.dw_eq _ _ _).trans (Cert.Kernel5Ideal.Up.dw_eq m c).symm

/-! ## The queries' product and the norm before it, and its weight -/

theorem frame_reference6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run m ρ)

theorem algebraic6 : Cert.algebraic_Kernel6Ideal_Reference6Ideal := by
  intro m ρ m' ρ' _ hagree
  refine ⟨_, _, Cert.Kernel6Ideal.Value.run_blocks m ρ, (θ_run Cert.Reference6Ideal.defs _ _).mono (fun r h c => ?_) (Cert.Reference6Ideal.Value.run m' ρ')⟩
  obtain ⟨e0, e1, e2, e3, e4⟩ := hagree c
  refine ⟨(h c).1.trans ?_, (h c).2.1.trans ?_, (h c).2.2⟩
  · rw [Cert.Reference6Ideal.Read.val_main_v39_eq, e0, e1, e2, e3, e4]
    exact (Cert.Reference6Ideal.Query.dh_eq _ _ _ _ _).trans (Cert.Kernel6Ideal.Query.dh_eq m c).symm
  · rw [Cert.Reference6Ideal.Read.val_main_v40_eq, e0, e2, e3]
    exact (Cert.Reference6Ideal.Query.dg_eq _ _ _).trans (Cert.Kernel6Ideal.Query.dg_eq m c).symm

theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run m ρ)

theorem algebraic7 : Cert.algebraic_Kernel7Ideal_Reference7Ideal := by
  intro m ρ m' ρ' _ hagree
  refine ⟨_, Cert.Kernel7Ideal.Value.run_blocks m ρ, (θ_run Cert.Reference7Ideal.defs _ _).mono (fun r h c => ?_) (Cert.Reference7Ideal.Value.run m' ρ')⟩
  obtain ⟨e0, e1⟩ := hagree c
  refine ⟨(h c).1.trans ?_, (h c).2⟩
  rw [Cert.Reference7Ideal.Read.val_main_v8_eq, e0, e1]
  exact (Cert.Reference7Ideal.QueryW.dw_eq _ _).trans (Cert.Kernel7Ideal.QueryW.dw_eq m c).symm

/-! ## The keys' and values' product and the norm before it -/

theorem frame_reference8 : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run m ρ)

theorem algebraic8 : Cert.algebraic_Kernel8Ideal_Reference8Ideal := by
  intro m ρ m' ρ' _ hagree
  refine ⟨_, _, Cert.Kernel8Ideal.Value.run_blocks m ρ, (θ_run Cert.Reference8Ideal.defs _ _).mono (fun r h c => ?_) (Cert.Reference8Ideal.Value.run m' ρ')⟩
  obtain ⟨e0, e1, e2, e3, e4, e5⟩ := hagree c
  refine ⟨(h c).1.trans ?_, (h c).2.1.trans ?_, (h c).2.2⟩
  · rw [Cert.Reference8Ideal.Read.val_main_v41_eq, e0, e1, e2, e3, e4, e5]
    exact (Cert.Reference8Ideal.KeyValue.dh_eq _ _ _ _ _ _).trans (Cert.Kernel8Ideal.KeyValue.dh_eq m c).symm
  · rw [Cert.Reference8Ideal.Read.val_main_v42_eq, e0, e2, e3, e4]
    exact (Cert.Reference8Ideal.KeyValue.dg_eq _ _ _ _).trans (Cert.Kernel8Ideal.KeyValue.dg_eq m c).symm

/-! ## The gate's, the keys', the values' and the output projection's weights -/

theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run m ρ)

theorem algebraic9 : Cert.algebraic_Kernel9Ideal_Reference9Ideal := by
  intro m ρ m' ρ' _ hagree
  refine ⟨_, Cert.Kernel9Ideal.Gate.run_values m ρ, (θ_run Cert.Reference9Ideal.defs _ _).mono (fun r h c => ?_) (Cert.Reference9Ideal.Value.run m' ρ')⟩
  obtain ⟨e0, e1⟩ := hagree c
  refine ⟨(h c).1.trans ?_, (h c).2⟩
  rw [Cert.Reference9Ideal.Read.val_main_v8_eq, e0, e1]
  exact Cert.Reference9Ideal.Gate.dw_eq _ _

theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run m ρ)

theorem algebraic10 : Cert.algebraic_Kernel10Ideal_Reference10Ideal := by
  intro m ρ m' ρ' _ hagree
  refine ⟨_, Cert.Kernel10Ideal.Key.run_values m ρ, (θ_run Cert.Reference10Ideal.defs _ _).mono (fun r h c => ?_) (Cert.Reference10Ideal.Value.run m' ρ')⟩
  obtain ⟨e0, e1⟩ := hagree c
  refine ⟨(h c).1.trans ?_, (h c).2⟩
  rw [Cert.Reference10Ideal.Read.val_main_v8_eq, e0, e1]
  exact Cert.Reference10Ideal.Key.dw_eq _ _

theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run m ρ)

theorem algebraic11 : Cert.algebraic_Kernel11Ideal_Reference11Ideal := by
  intro m ρ m' ρ' _ hagree
  refine ⟨_, Cert.Kernel11Ideal.Value.run_blocks m ρ, (θ_run Cert.Reference11Ideal.defs _ _).mono (fun r h c => ?_) (Cert.Reference11Ideal.Value.run m' ρ')⟩
  obtain ⟨e0, e1, e2⟩ := hagree c
  refine ⟨(h c).1.trans ?_, (h c).2⟩
  rw [Cert.Reference11Ideal.Read.val_main_v10_eq, e0, e1, e2]
  exact (Cert.Reference11Ideal.Value.dw_eq _ _ _).trans (Cert.Kernel11Ideal.Value.dw_eq m c).symm

theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run m ρ)

theorem algebraic12 : Cert.algebraic_Kernel12Ideal_Reference12Ideal := by
  intro m ρ m' ρ' _ hagree
  refine ⟨_, Cert.Kernel12Ideal.Value.run_blocks m ρ, (θ_run Cert.Reference12Ideal.defs _ _).mono (fun r h c => ?_) (Cert.Reference12Ideal.Value.run m' ρ')⟩
  obtain ⟨e0, e1⟩ := hagree c
  refine ⟨(h c).1.trans ?_, (h c).2⟩
  rw [Cert.Reference12Ideal.Read.val_main_v6_eq, e0, e1]
  exact (Cert.Reference12Ideal.Out.dw_eq _ _).trans (Cert.Kernel12Ideal.Out.dw_eq m c).symm

/-! ## The attention's output projection and the norm after it -/

theorem frame_reference13 : Cert.quiescent_Reference13Ideal := fun m ρ _ =>
  (θ_run Cert.Reference13Ideal.defs _ _).mono (fun r h => ⟨fun c => (h c).2.2.2, sem_eq_zero_of_no_sems (by decide) r.2⟩)
    (Cert.Reference13Ideal.Value.run m ρ)

theorem algebraic13 : Cert.algebraic_Kernel13Ideal_Reference13Ideal := by
  intro m ρ m' ρ' _ hagree
  refine ⟨_, _, _, Cert.Kernel13Ideal.Value.run_blocks m ρ, (θ_run Cert.Reference13Ideal.defs _ _).mono (fun r h c => ?_) (Cert.Reference13Ideal.Value.run m' ρ')⟩
  obtain ⟨e0, e1, e2, e3⟩ := hagree c
  refine ⟨(h c).1.trans ?_, (h c).2.1.trans ?_, (h c).2.2.1.trans ?_, (h c).2.2.2⟩
  · rw [Cert.Reference13Ideal.Read.val_main_v38_eq, e0, e1, e2, e3, Cert.Kernel13Ideal.AttnOut.dy_eq, Cert.Reference13Ideal.AttnOut.f_given]
    exact Cert.Reference13Ideal.AttnOut.dy_eq _ _ _ _
  · rw [Cert.Reference13Ideal.Read.val_main_v37_eq, e0, e1, e2, e3, Cert.Kernel13Ideal.AttnOut.do_eq, Cert.Reference13Ideal.AttnOut.f_given]
    exact Cert.Reference13Ideal.AttnOut.do_eq _ _ _ _
  · rw [Cert.Reference13Ideal.Read.val_main_v39_eq, e0, e2, e3, Cert.Kernel13Ideal.AttnOut.dgain_eq, Cert.Reference13Ideal.AttnOut.f_given]
    exact Cert.Reference13Ideal.AttnOut.dgain_eq _ _ _

/-! ## The forward pass: two products and the norm after them -/

theorem frame_reference14 : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run m ρ)

theorem algebraic14 : Cert.algebraic_Kernel14Ideal_Reference14Ideal := by
  intro m ρ m' ρ' _ hagree
  refine ⟨_, _, Cert.Kernel14Ideal.Value.run_blocks m ρ, (θ_run Cert.Reference14Ideal.defs _ _).mono (fun r h c => ?_) (Cert.Reference14Ideal.Value.run m' ρ')⟩
  obtain ⟨e0, e1, e2, e3⟩ := hagree c
  refine ⟨(h c).1.trans ?_, (h c).2.1.trans ?_, (h c).2.2⟩
  · rw [Cert.Reference14Ideal.Read.val_main_v2_eq, e0, e1]
    exact (Cert.Reference14Ideal.DownOut.f_eq _ _).trans (Cert.Kernel14Ideal.DownOut.f_eq m c).symm
  · rw [Cert.Reference14Ideal.Read.val_main_v16_eq, e0, e1, e2, e3]
    exact (Cert.Reference14Ideal.DownOut.h_eq _ _ _ _).trans (Cert.Kernel14Ideal.DownOut.h_eq m c).symm

theorem frame_reference15 : Cert.quiescent_Reference15Ideal := fun m ρ _ =>
  (θ_run Cert.Reference15Ideal.defs _ _).mono (fun r h => ⟨fun c => (h c).2.2, sem_eq_zero_of_no_sems (by decide) r.2⟩)
    (Cert.Reference15Ideal.Value.run m ρ)

theorem algebraic15 : Cert.algebraic_Kernel15Ideal_Reference15Ideal := by
  intro m ρ m' ρ' _ hagree
  refine ⟨_, _, Cert.Kernel15Ideal.Value.run_blocks m ρ, (θ_run Cert.Reference15Ideal.defs _ _).mono (fun r h c => ?_) (Cert.Reference15Ideal.Value.run m' ρ')⟩
  obtain ⟨e0, e1, e2, e3⟩ := hagree c
  refine ⟨(h c).1.trans ?_, (h c).2.1.trans ?_, (h c).2.2⟩
  · rw [Cert.Reference15Ideal.Read.val_main_v1_eq, e0, e1]
    exact (Cert.Reference15Ideal.MixOut.f_eq _ _).trans (Cert.Kernel15Ideal.MixOut.f_eq m c).symm
  · rw [Cert.Reference15Ideal.Read.val_main_v15_eq, e0, e1, e2, e3]
    exact (Cert.Reference15Ideal.MixOut.h_eq _ _ _ _).trans (Cert.Kernel15Ideal.MixOut.h_eq m c).symm

/-! ## The norm, the gate and up projections and the gated activation -/

/-- The two programs have one text, so their kernels' body tables are equal: label by label. -/
theorem defs₀_eq16 : Cert.Kernel16.defs₀ (F := Bits) = Cert.Kernel16Ideal.defs₀ (F := Bits) := by
  unfold Cert.Kernel16.defs₀ Cert.Kernel16Ideal.defs₀
  refine congrArg Defs.onTc ?_
  funext x y
  exact match x, y with
    | 0, (_, _) => rfl
    | ⟨_ + 1, h⟩, _ => absurd h (Nat.not_lt.2 (Nat.le_add_left _ _))
theorem defs_eq16 : Cert.Kernel16.defs (F := Bits) = Cert.Kernel16Ideal.defs (F := Bits) := by
  unfold Cert.Kernel16.defs Cert.Kernel16Ideal.defs
  exact congrArg (Pipeline.defs _) defs₀_eq16
theorem main_eq16 : Cert.Kernel16.main (F := Bits) = Cert.Kernel16Ideal.main (F := Bits) := rfl

theorem frame_kernel16 : Cert.quiescent_Kernel16 := by
  intro m ρ _
  rw [defs_eq16, main_eq16]
  exact Cert.Kernel16Ideal.GateAct.frame (F := Bits) m ρ
theorem frame_ideal16 : Cert.quiescent_Kernel16Ideal := fun m ρ _ => Cert.Kernel16Ideal.GateAct.frame m ρ
theorem frame_reference16 : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run m ρ)

theorem algebraic16 : Cert.algebraic_Kernel16Ideal_Reference16Ideal := by
  intro m ρ m' ρ' _ hagree
  refine ⟨_, _, _, _, Cert.Kernel16Ideal.GateAct.run_values m ρ, (θ_run Cert.Reference16Ideal.defs _ _).mono (fun r h c => ?_) (Cert.Reference16Ideal.Value.run m' ρ')⟩
  obtain ⟨e0, e1, e2⟩ := hagree c
  refine ⟨(h c).1.trans ?_, (h c).2.1.trans ?_, (h c).2.2.1.trans ?_, (h c).2.2.2.1.trans ?_, (h c).2.2.2.2⟩
  · rw [Cert.Reference16Ideal.Read.val_main_v31_eq, e0, e1, e2]
    exact Cert.Reference16Ideal.GateAct.s_eq _ _ _
  · rw [Cert.Reference16Ideal.Read.val_main_v33_eq, e0, e1, e2]
    exact Cert.Reference16Ideal.GateAct.ut_eq _ _ _
  · rw [Cert.Reference16Ideal.Read.val_main_v35_eq, e0, e1, e2]
    exact Cert.Reference16Ideal.GateAct.a_eq _ _ _
  · rw [Cert.Reference16Ideal.Read.val_main_v36_eq, e0, e1]
    exact Cert.Reference16Ideal.GateAct.hn_eq _ _

/-! ## The norm and the convolution's input product -/

/-- The two programs have one text, so their kernels' body tables are equal: label by label. -/
theorem defs₀_eq17 : Cert.Kernel17.defs₀ (F := Bits) = Cert.Kernel17Ideal.defs₀ (F := Bits) := by
  unfold Cert.Kernel17.defs₀ Cert.Kernel17Ideal.defs₀
  refine congrArg Defs.onTc ?_
  funext x y
  exact match x, y with
    | 0, (_, _) => rfl
    | ⟨_ + 1, h⟩, _ => absurd h (Nat.not_lt.2 (Nat.le_add_left _ _))
theorem defs_eq17 : Cert.Kernel17.defs (F := Bits) = Cert.Kernel17Ideal.defs (F := Bits) := by
  unfold Cert.Kernel17.defs Cert.Kernel17Ideal.defs
  exact congrArg (Pipeline.defs _) defs₀_eq17
theorem main_eq17 : Cert.Kernel17.main (F := Bits) = Cert.Kernel17Ideal.main (F := Bits) := rfl

theorem frame_kernel17 : Cert.quiescent_Kernel17 := by
  intro m ρ _
  rw [defs_eq17, main_eq17]
  exact Cert.Kernel17Ideal.ConvIn.frame (F := Bits) m ρ
theorem frame_ideal17 : Cert.quiescent_Kernel17Ideal := fun m ρ _ => Cert.Kernel17Ideal.ConvIn.frame m ρ
theorem frame_reference17 : Cert.quiescent_Reference17Ideal := fun m ρ _ =>
  (θ_run Cert.Reference17Ideal.defs _ _).mono (fun r h => ⟨fun c => (h c).2.2, sem_eq_zero_of_no_sems (by decide) r.2⟩)
    (Cert.Reference17Ideal.Value.run m ρ)

theorem algebraic17 : Cert.algebraic_Kernel17Ideal_Reference17Ideal := by
  intro m ρ m' ρ' _ hagree
  refine ⟨_, _, Cert.Kernel17Ideal.ConvIn.run_values m ρ, (θ_run Cert.Reference17Ideal.defs _ _).mono (fun r h c => ?_) (Cert.Reference17Ideal.Value.run m' ρ')⟩
  obtain ⟨e0, e1, e2, e3⟩ := hagree c
  refine ⟨(h c).1.trans ?_, (h c).2.1.trans ?_, (h c).2.2⟩
  · rw [Cert.Reference17Ideal.Read.val_main_v14_eq, e0, e1, e2]
    exact Cert.Reference17Ideal.ConvIn.z_eq _ _ _
  · rw [Cert.Reference17Ideal.Read.val_main_v15_eq, e0, e1]
    exact Cert.Reference17Ideal.ConvIn.hn_eq _ _

/-! ## The norm and the queries -/

/-- The two programs have one text, so their kernels' body tables are equal: label by label. -/
theorem defs₀_eq18 : Cert.Kernel18.defs₀ (F := Bits) = Cert.Kernel18Ideal.defs₀ (F := Bits) := by
  unfold Cert.Kernel18.defs₀ Cert.Kernel18Ideal.defs₀
  refine congrArg Defs.onTc ?_
  funext x y
  exact match x, y with
    | 0, (_, _) => rfl
    | ⟨_ + 1, h⟩, _ => absurd h (Nat.not_lt.2 (Nat.le_add_left _ _))
theorem defs_eq18 : Cert.Kernel18.defs (F := Bits) = Cert.Kernel18Ideal.defs (F := Bits) := by
  unfold Cert.Kernel18.defs Cert.Kernel18Ideal.defs
  exact congrArg (Pipeline.defs _) defs₀_eq18
theorem main_eq18 : Cert.Kernel18.main (F := Bits) = Cert.Kernel18Ideal.main (F := Bits) := rfl

theorem frame_kernel18 : Cert.quiescent_Kernel18 := by
  intro m ρ _
  rw [defs_eq18, main_eq18]
  exact Cert.Kernel18Ideal.Rotary.frame (F := Bits) m ρ
theorem frame_ideal18 : Cert.quiescent_Kernel18Ideal := fun m ρ _ => Cert.Kernel18Ideal.Rotary.frame m ρ
theorem frame_reference18 : Cert.quiescent_Reference18Ideal := fun m ρ _ =>
  (θ_run Cert.Reference18Ideal.defs _ _).mono (fun r h => ⟨fun c => (h c).2.2, sem_eq_zero_of_no_sems (by decide) r.2⟩)
    (Cert.Reference18Ideal.Value.run m ρ)

theorem algebraic18 : Cert.algebraic_Kernel18Ideal_Reference18Ideal := by
  intro m ρ m' ρ' _ hagree
  refine ⟨_, _, Cert.Kernel18Ideal.Rotary.run_values m ρ, (θ_run Cert.Reference18Ideal.defs _ _).mono (fun r h c => ?_) (Cert.Reference18Ideal.Value.run m' ρ')⟩
  obtain ⟨e0, e1, e2, e3⟩ := hagree c
  refine ⟨(h c).1.trans ?_, (h c).2.1.trans ?_, (h c).2.2⟩
  · rw [Cert.Reference18Ideal.Read.val_main_v48_eq, e0, e1, e2, e3]
    exact Cert.Reference18Ideal.Rotary.q_eq _ _ _ _
  · rw [Cert.Reference18Ideal.Read.val_main_v49_eq, e0, e1]
    exact Cert.Reference18Ideal.Rotary.hn_eq _ _

/-! ## The norm and the keys and values -/

/-- The two programs have one text, so their kernels' body tables are equal: label by label. -/
theorem defs₀_eq19 : Cert.Kernel19.defs₀ (F := Bits) = Cert.Kernel19Ideal.defs₀ (F := Bits) := by
  unfold Cert.Kernel19.defs₀ Cert.Kernel19Ideal.defs₀
  refine congrArg Defs.onTc ?_
  funext x y
  exact match x, y with
    | 0, (_, _) => rfl
    | ⟨_ + 1, h⟩, _ => absurd h (Nat.not_lt.2 (Nat.le_add_left _ _))
theorem defs_eq19 : Cert.Kernel19.defs (F := Bits) = Cert.Kernel19Ideal.defs (F := Bits) := by
  unfold Cert.Kernel19.defs Cert.Kernel19Ideal.defs
  exact congrArg (Pipeline.defs _) defs₀_eq19
theorem main_eq19 : Cert.Kernel19.main (F := Bits) = Cert.Kernel19Ideal.main (F := Bits) := rfl

theorem frame_kernel19 : Cert.quiescent_Kernel19 := by
  intro m ρ _
  rw [defs_eq19, main_eq19]
  exact Cert.Kernel19Ideal.KeysValues.frame (F := Bits) m ρ
theorem frame_ideal19 : Cert.quiescent_Kernel19Ideal := fun m ρ _ => Cert.Kernel19Ideal.KeysValues.frame m ρ
theorem frame_reference19 : Cert.quiescent_Reference19Ideal := fun m ρ _ =>
  (θ_run Cert.Reference19Ideal.defs _ _).mono (fun r h => ⟨fun c => (h c).2.2, sem_eq_zero_of_no_sems (by decide) r.2⟩)
    (Cert.Reference19Ideal.Value.run m ρ)

theorem algebraic19 : Cert.algebraic_Kernel19Ideal_Reference19Ideal := by
  intro m ρ m' ρ' _ hagree
  refine ⟨_, _, Cert.Kernel19Ideal.KeysValues.run_values m ρ, (θ_run Cert.Reference19Ideal.defs _ _).mono (fun r h c => ?_) (Cert.Reference19Ideal.Value.run m' ρ')⟩
  obtain ⟨e0, e1, e2, e3⟩ := hagree c
  refine ⟨(h c).1.trans ?_, (h c).2.1.trans ?_, (h c).2.2⟩
  · rw [Cert.Reference19Ideal.Read.val_main_v52_eq, e0, e1, e2, e3]
    exact Cert.Reference19Ideal.KeysValues.kv_eq _ _ _ _
  · rw [Cert.Reference19Ideal.Read.val_main_v53_eq, e0, e1]
    exact Cert.Reference19Ideal.KeysValues.hn_eq _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Pre_finite.facts,
  frame_kernel, frame_ideal, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, fun m ρ _ => Cert.Kernel3Ideal.Gen.frame m ρ,
  frame_reference3, fun m ρ _ => frame_reference3 m ρ trivial,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  frame_kernel16, frame_ideal16, frame_reference16,
  frame_kernel17, frame_ideal17, frame_reference17,
  frame_kernel18, frame_ideal18, frame_reference18,
  frame_kernel19, frame_ideal19, frame_reference19,
  trivial, algebraic, trivial, algebraic2, trivial, algebraic3, trivial, algebraic4, trivial, algebraic5,
  trivial, algebraic6, trivial, algebraic7, trivial, algebraic8, trivial, algebraic9,
  trivial, algebraic10, trivial, algebraic11, trivial, algebraic12, trivial, algebraic13, trivial, algebraic14, trivial, algebraic15, trivial, algebraic16, trivial, algebraic17, trivial, algebraic18, trivial, algebraic19⟩

end Cert.Proof

end
